-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_conv [hPre_finite_conv : Cert.Pre_finite_conv.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_conv.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).1 = (fun _ => 1#1)
    ∧ (Cert.Pre_finite_conv.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_conv [hPre_finite_conv : Cert.Pre_finite_conv.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_conv.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).1 = (fun _ => 1#1)
    ∧ (Cert.Pre_finite_conv.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Kernel23Ideal_pre_finite_conv [hKernel23Ideal : Cert.Kernel23Ideal.Facts] [hPre_finite_conv : Cert.Pre_finite_conv.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_conv m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Reference23Ideal_pre_finite_conv [hReference23Ideal : Cert.Reference23Ideal.Facts] [hPre_finite_conv : Cert.Pre_finite_conv.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_conv m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v9) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v27) = v0 c
          ∧ r.2.mem ((c.tc : Thread Cert.Reference17Ideal.nD Cert.Reference17Ideal.τ).loc Cert.Reference17Ideal.main_v33) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_3) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v47) = v0 c
          ∧ r.2.mem ((c.tc : Thread Cert.Reference18Ideal.nD Cert.Reference18Ideal.τ).loc Cert.Reference18Ideal.main_v48) = v1 c
          ∧ r.2.mem ((c.tc : Thread Cert.Reference18Ideal.nD Cert.Reference18Ideal.τ).loc Cert.Reference18Ideal.main_v46) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_v6) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v36) = v0 c
          ∧ r.2.mem ((c.tc : Thread Cert.Reference21Ideal.nD Cert.Reference21Ideal.τ).loc Cert.Reference21Ideal.main_v37) = v1 c
          ∧ r.2.mem ((c.tc : Thread Cert.Reference21Ideal.nD Cert.Reference21Ideal.τ).loc Cert.Reference21Ideal.main_v17) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v55) = v0 c
          ∧ r.2.mem ((c.tc : Thread Cert.Reference22Ideal.nD Cert.Reference22Ideal.τ).loc Cert.Reference22Ideal.main_v56) = v1 c
          ∧ r.2.mem ((c.tc : Thread Cert.Reference22Ideal.nD Cert.Reference22Ideal.τ).loc Cert.Reference22Ideal.main_v59) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal_pre_finite_conv [hKernel23Ideal : Cert.Kernel23Ideal.Facts] [hReference23Ideal : Cert.Reference23Ideal.Facts] [hPre_finite_conv : Cert.Pre_finite_conv.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_conv m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v137) = v0 c
          ∧ r.2.mem ((c.tc : Thread Cert.Reference23Ideal.nD Cert.Reference23Ideal.τ).loc Cert.Reference23Ideal.main_v67) = v1 c
          ∧ r.2.mem ((c.tc : Thread Cert.Reference23Ideal.nD Cert.Reference23Ideal.τ).loc Cert.Reference23Ideal.main_v129) = v2 c
          ∧ r.2.mem ((c.tc : Thread Cert.Reference23Ideal.nD Cert.Reference23Ideal.τ).loc Cert.Reference23Ideal.main_v38) = v3 c
          ∧ r.2.mem ((c.tc : Thread Cert.Reference23Ideal.nD Cert.Reference23Ideal.τ).loc Cert.Reference23Ideal.main_v100) = v4 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_conv (hKernel23Ideal := hKernel23Ideal) (hPre_finite_conv := hPre_finite_conv)
    ∧ quiescent_Reference23Ideal (hReference23Ideal := hReference23Ideal)
    ∧ quiescent_Reference23Ideal_pre_finite_conv (hReference23Ideal := hReference23Ideal) (hPre_finite_conv := hPre_finite_conv)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_conv (hKernel23Ideal := hKernel23Ideal) (hReference23Ideal := hReference23Ideal) (hPre_finite_conv := hPre_finite_conv)
-- ==== Pre_finite.lean ====
abbrev S8208x512 : Shape := ⟨2, ![8208, 512]⟩
abbrev S8208x1024 : Shape := ⟨2, ![8208, 1024]⟩
abbrev S8208x16 : Shape := ⟨2, ![8208, 16]⟩
abbrev S16x512 : Shape := ⟨2, ![16, 512]⟩
abbrev S512 : Shape := ⟨1, ![512]⟩
abbrev S_ : Shape := ⟨0, ![]⟩

class Facts : Prop where
  bcast_S_S8208x512 : S_.BroadcastsInDim S8208x512 (![] : Fin 0 → Fin S8208x512.rank)
  bcast_S_S8208x1024 : S_.BroadcastsInDim S8208x1024 (![] : Fin 0 → Fin S8208x1024.rank)
  bcast_S_S8208x16 : S_.BroadcastsInDim S8208x16 (![] : Fin 0 → Fin S8208x16.rank)
  bcast_S_S16x512 : S_.BroadcastsInDim S16x512 (![] : Fin 0 → Fin S16x512.rank)
  bcast_S_S512 : S_.BroadcastsInDim S512 (![] : Fin 0 → Fin S512.rank)

variable [Facts]

def fn_part1 {F : FTy → Type} [FloatOps F] (main_arg6 : FVec F S8208x1024 .f32) (main_v2 : IVec S8208x512 1) (main_v5 : IVec S8208x512 1) (main_v8 : IVec S8208x1024 1) (main_v11 : IVec S8208x16 1) (main_v14 : IVec S16x512 1) (main_v17 : IVec S512 1) : IVec S8208x512 1 × IVec S8208x512 1 × IVec S8208x1024 1 × IVec S8208x16 1 × IVec S16x512 1 × IVec S512 1 × IVec S8208x1024 1 :=
  let main_v18 : FVec F S8208x1024 .f32 := Host.absf main_arg6
  let main_cst_5 : FVec F S_ .f32 := constant S_ .f32 0x7F800000#32
  let main_v19 : FVec F S8208x1024 .f32 := broadcastInDim S8208x1024 ![] bcast_S_S8208x1024 main_cst_5
  let main_v20 : IVec S8208x1024 1 := cmpf .olt main_v18 main_v19
  (main_v2, main_v5, main_v8, main_v11, main_v14, main_v17, main_v20)

def fn {F : FTy → Type} [FloatOps F] (main_arg0 : FVec F S8208x512 .f32) (main_arg1 : FVec F S8208x512 .f32) (main_arg2 : FVec F S8208x1024 .f32) (main_arg3 : FVec F S8208x16 .f32) (main_arg4 : FVec F S16x512 .f32) (main_arg5 : FVec F S512 .f32) (main_arg6 : FVec F S8208x1024 .f32) : IVec S8208x512 1 × IVec S8208x512 1 × IVec S8208x1024 1 × IVec S8208x16 1 × IVec S16x512 1 × IVec S512 1 × IVec S8208x1024 1 :=
  let main_v0 : FVec F S8208x512 .f32 := Host.absf main_arg0
  let main_cst : FVec F S_ .f32 := constant S_ .f32 0x7F800000#32
  let main_v1 : FVec F S8208x512 .f32 := broadcastInDim S8208x512 ![] bcast_S_S8208x512 main_cst
  let main_v2 : IVec S8208x512 1 := cmpf .olt main_v0 main_v1
  let main_v3 : FVec F S8208x512 .f32 := Host.absf main_arg1
  let main_cst_0 : FVec F S_ .f32 := constant S_ .f32 0x7F800000#32
  let main_v4 : FVec F S8208x512 .f32 := broadcastInDim S8208x512 ![] bcast_S_S8208x512 main_cst_0
  let main_v5 : IVec S8208x512 1 := cmpf .olt main_v3 main_v4
  let main_v6 : FVec F S8208x1024 .f32 := Host.absf main_arg2
  let main_cst_1 : FVec F S_ .f32 := constant S_ .f32 0x7F800000#32
  let main_v7 : FVec F S8208x1024 .f32 := broadcastInDim S8208x1024 ![] bcast_S_S8208x1024 main_cst_1
  let main_v8 : IVec S8208x1024 1 := cmpf .olt main_v6 main_v7
  let main_v9 : FVec F S8208x16 .f32 := Host.absf main_arg3
  let main_cst_2 : FVec F S_ .f32 := constant S_ .f32 0x7F800000#32
  let main_v10 : FVec F S8208x16 .f32 := broadcastInDim S8208x16 ![] bcast_S_S8208x16 main_cst_2
  let main_v11 : IVec S8208x16 1 := cmpf .olt main_v9 main_v10
  let main_v12 : FVec F S16x512 .f32 := Host.absf main_arg4
  let main_cst_3 : FVec F S_ .f32 := constant S_ .f32 0x7F800000#32
  let main_v13 : FVec F S16x512 .f32 := broadcastInDim S16x512 ![] bcast_S_S16x512 main_cst_3
  let main_v14 : IVec S16x512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_v2 main_v5 main_v8 main_v11 main_v14 main_v17
-- ==== Pre_finite_conv.lean ====
abbrev S8256x2816 : Shape := ⟨2, ![8256, 2816]⟩
abbrev S8256x5632 : Shape := ⟨2, ![8256, 5632]⟩
abbrev S3x5632 : Shape := ⟨2, ![3, 5632]⟩
abbrev S_ : Shape := ⟨0, ![]⟩

class Facts : Prop where
  bitsLt_bf16_f32 : FTy.bits .bf16 < FTy.bits .f32
  bcast_S_S8256x2816 : S_.BroadcastsInDim S8256x2816 (![] : Fin 0 → Fin S8256x2816.rank)

variable [Facts]

def fn {F : FTy → Type} [FloatOps F] (main_arg0 : FVec F S8256x2816 .bf16) (main_arg1 : FVec F S8256x2816 .bf16) (main_arg2 : FVec F S8256x2816 .bf16) (main_arg3 : FVec F S8256x5632 .bf16) (main_arg4 : FVec F S3x5632 .f32) : IVec S8256x2816 1 × IVec S8256x2816 1 :=
  let main_v0 : FVec F S8256x2816 .f32 := (extf .f32 · bitsLt_bf16_f32) main_arg0
  let main_v1 : FVec F S8256x2816 .f32 := Host.absf main_v0
  let main_cst : FVec F S_ .f32 := constant S_ .f32 0x7F800000#32
  let main_v2 : FVec F S8256x2816 .f32 := broadcastInDim S8256x2816 ![] bcast_S_S8256x2816 main_cst
  let main_v3 : IVec S8256x2816 1 := cmpf .olt main_v1 main_v2
  let main_v4 : FVec F S8256x2816 .f32 := (extf .f32 · bitsLt_bf16_f32) main_arg2
  let main_v5 : FVec F S8256x2816 .f32 := Host.absf main_v4
  let main_cst_0 : FVec F S_ .f32 := constant S_ .f32 0x7F800000#32
  let main_v6 : FVec F S8256x2816 .f32 := broadcastInDim S8256x2816 ![] bcast_S_S8256x2816 main_cst_0
  let main_v7 : IVec S8256x2816 1 := cmpf .olt main_v5 main_v6
  (main_v3, main_v7)
-- ==== Kernel.lean ====
abbrev S8208x512 : Shape := ⟨2, ![8208, 512]⟩
abbrev S8208x1024 : Shape := ⟨2, ![8208, 1024]⟩
abbrev S8208x16 : Shape := ⟨2, ![8208, 16]⟩
abbrev S16x512 : Shape := ⟨2, ![16, 512]⟩
abbrev S512 : Shape := ⟨1, ![512]⟩
abbrev S_ : Shape := ⟨0, ![]⟩
abbrev S8208x4096 : Shape := ⟨2, ![8208, 4096]⟩
abbrev S8208x112 : Shape := ⟨2, ![8208, 112]⟩
abbrev S8208x6272 : Shape := ⟨2, ![8208, 6272]⟩
abbrev S8256x6272 : Shape := ⟨2, ![8256, 6272]⟩
abbrev S128x512 : Shape := ⟨2, ![128, 512]⟩
abbrev S48x4x128 : Shape := ⟨3, ![48, 4, 128]⟩
abbrev S1x512 : Shape := ⟨2, ![1, 512]⟩
abbrev S8208x4x128 : Shape := ⟨3, ![8208, 4, 128]⟩
abbrev S8256x4x128 : Shape := ⟨3, ![8256, 4, 128]⟩
abbrev S1x4x128 : Shape := ⟨3, ![1, 4, 128]⟩
abbrev S128x4x128 : Shape := ⟨3, ![128, 4, 128]⟩
abbrev S129x4x128 : Shape := ⟨3, ![129, 4, 128]⟩
abbrev S129x8256x1x1 : Shape := ⟨4, ![129, 8256, 1, 1]⟩
abbrev S129x1x4x128 : Shape := ⟨4, ![129, 1, 4, 128]⟩
abbrev S1x8256x4x128 : Shape := ⟨4, ![1, 8256, 4, 128]⟩
abbrev S129x8256x4x128 : Shape := ⟨4, ![129, 8256, 4, 128]⟩
abbrev S48x4x256 : Shape := ⟨3, ![48, 4, 256]⟩
abbrev S8208x4x256 : Shape := ⟨3, ![8208, 4, 256]⟩
abbrev S8256x4x256 : Shape := ⟨3, ![8256, 4, 256]⟩
abbrev S4x129x128x256 : Shape := ⟨4, ![4, 129, 128, 256]⟩
abbrev S129x4x256x128 : Shape := ⟨4, ![129, 4, 256, 128]⟩
abbrev S8256x1024 : Shape := ⟨2, ![8256, 1024]⟩
abbrev S8256x128 : Shape := ⟨2, ![8256, 128]⟩
abbrev S192x512 : Shape := ⟨2, ![192, 512]⟩
abbrev S192x1024 : Shape := ⟨2, ![192, 1024]⟩
abbrev S192x128 : Shape := ⟨2, ![192, 128]⟩
abbrev S3x4x256x128 : Shape := ⟨4, ![3, 4, 256, 128]⟩
abbrev S192x2048 : Shape := ⟨2, ![192, 2048]⟩
abbrev S4x256x128 : Shape := ⟨3, ![4, 256, 128]⟩
abbrev S192x1 : Shape := ⟨2, ![192, 1]⟩
abbrev S64x64 : Shape := ⟨2, ![64, 64]⟩
abbrev S1x256x128 : Shape := ⟨3, ![1, 256, 128]⟩
abbrev S256x128 : Shape := ⟨2, ![256, 128]⟩
abbrev S64x512 : Shape := ⟨2, ![64, 512]⟩
abbrev S64x256 : Shape := ⟨2, ![64, 256]⟩
abbrev S1x1x256x128 : Shape := ⟨4, ![1, 1, 256, 128]⟩
abbrev S64x128 : Shape := ⟨2, ![64, 128]⟩
abbrev S128 : Shape := ⟨1, ![128]⟩
abbrev S1x128 : Shape := ⟨2, ![1, 128]⟩
abbrev S64x1 : Shape := ⟨2, ![64, 1]⟩

abbrev nBuf : Space → Nat
  | .hbm => 92
  | .vmem => 21
  | .smem => 0
  | _ => 0

abbrev bufTy : (tb : Table) → Fin (tcTables nBuf tb) → BufTy
  | .hbm, ⟨0, _⟩ => ⟨S8208x512, .f32⟩
  | .hbm, ⟨1, _⟩ => ⟨S8208x512, .f32⟩
  | .hbm, ⟨2, _⟩ => ⟨S8208x1024, .f32⟩
  | .hbm, ⟨3, _⟩ => ⟨S8208x16, .f32⟩
  | .hbm, ⟨4, _⟩ => ⟨S16x512, .f32⟩
  | .hbm, ⟨5, _⟩ => ⟨S512, .f32⟩
  | .hbm, ⟨6, _⟩ => ⟨S8208x1024, .f32⟩
  | .hbm, ⟨7, _⟩ => ⟨S_, .f32⟩
  | .hbm, ⟨8, _⟩ => ⟨S8208x4096, .f32⟩
  | .hbm, ⟨9, _⟩ => ⟨S_, .f32⟩
  | .hbm, ⟨10, _⟩ => ⟨S8208x112, .f32⟩
  | .hbm, ⟨11, _⟩ => ⟨S8208x6272, .f32⟩
  | .hbm, ⟨12, _⟩ => ⟨S_, .i32⟩
  | .hbm, ⟨13, _⟩ => ⟨S_, .f32⟩
  | .hbm, ⟨14, _⟩ => ⟨S8256x6272, .f32⟩
  | .hbm, ⟨15, _⟩ => ⟨S8256x6272, .bf16⟩
  | .hbm, ⟨16, _⟩ => ⟨S_, .i32⟩
  | .hbm, ⟨17, _⟩ => ⟨S_, .f32⟩
  | .hbm, ⟨18, _⟩ => ⟨S128x512, .f32⟩
  | .hbm, ⟨19, _⟩ => ⟨S128x512, .bf16⟩
  | .hbm, ⟨20, _⟩ => ⟨S_, .f32⟩
  | .hbm, ⟨21, _⟩ => ⟨S48x4x128, .f32⟩
  | .hbm, ⟨22, _⟩ => ⟨S8208x512, .f32⟩
  | .hbm, ⟨23, _⟩ => ⟨S1x512, .f32⟩
  | .hbm, ⟨24, _⟩ => ⟨S8208x512, .f32⟩
  | .hbm, ⟨25, _⟩ => ⟨S8208x512, .f32⟩
  | .hbm, ⟨26, _⟩ => ⟨S8208x512, .f32⟩
  | .hbm, ⟨27, _⟩ => ⟨S_, .f32⟩
  | .hbm, ⟨28, _⟩ => ⟨S8208x512, .f32⟩
  | .hbm, ⟨29, _⟩ => ⟨S8208x512, .f32⟩
  | .hbm, ⟨30, _⟩ => ⟨S8208x512, .f32⟩
  | .hbm, ⟨31, _⟩ => ⟨S8208x512, .f32⟩
  | .hbm, ⟨32, _⟩ => ⟨S8208x512, .i1⟩
  | .hbm, ⟨33, _⟩ => ⟨S8208x512, .f32⟩
  | .hbm, ⟨34, _⟩ => ⟨S8208x512, .f32⟩
  | .hbm, ⟨35, _⟩ => ⟨S8208x512, .f32⟩
  | .hbm, ⟨36, _⟩ => ⟨S8208x512, .f32⟩
  | .hbm, ⟨37, _⟩ => ⟨S8208x512, .f32⟩
  | .hbm, ⟨38, _⟩ => ⟨S8208x512, .f32⟩
  | .hbm, ⟨39, _⟩ => ⟨S8208x512, .f32⟩
  | .hbm, ⟨40, _⟩ => ⟨S8208x512, .f32⟩
  | .hbm, ⟨41, _⟩ => ⟨S8208x512, .f32⟩
  | .hbm, ⟨42, _⟩ => ⟨S_, .f32⟩
  | .hbm, ⟨43, _⟩ => ⟨S8208x512, .f32⟩
  | .hbm, ⟨44, _⟩ => ⟨S8208x512, .f32⟩
  | .hbm, ⟨45, _⟩ => ⟨S8208x4x128, .f32⟩
  | .hbm, ⟨46, _⟩ => ⟨S8256x4x128, .f32⟩
  | .hbm, ⟨47, _⟩ => ⟨S_, .f32⟩
  | .hbm, ⟨48, _⟩ => ⟨S_, .f32⟩
  | .hbm, ⟨49, _⟩ => ⟨S8256x4x128, .f32⟩
  | .hbm, ⟨50, _⟩ => ⟨S_, .f32⟩
  | .hbm, ⟨51, _⟩ => ⟨S1x4x128, .f32⟩
  | .hbm, ⟨52, _⟩ => ⟨S128x4x128, .f32⟩
  | .hbm, ⟨53, _⟩ => ⟨S129x4x128, .f32⟩
  | .hbm, ⟨54, _⟩ => ⟨S129x8256x1x1, .i32⟩
  | .hbm, ⟨55, _⟩ => ⟨S129x8256x1x1, .i32⟩
  | .hbm, ⟨56, _⟩ => ⟨S_, .i32⟩
  | .hbm, ⟨57, _⟩ => ⟨S129x8256x1x1, .i32⟩
  | .hbm, ⟨58, _⟩ => ⟨S129x8256x1x1, .i32⟩
  | .hbm, ⟨59, _⟩ => ⟨S129x8256x1x1, .i1⟩
  | .hbm, ⟨60, _⟩ => ⟨S129x1x4x128, .f32⟩
  | .hbm, ⟨61, _⟩ => ⟨S1x8256x4x128, .f32⟩
  | .hbm, ⟨62, _⟩ => ⟨S129x8256x4x128, .f32⟩
  | .hbm, ⟨63, _⟩ => ⟨S129x8256x4x128, .f32⟩
  | .hbm, ⟨64, _⟩ => ⟨S129x8256x4x128, .f32⟩
  | .hbm, ⟨65, _⟩ => ⟨S_, .f32⟩
  | .hbm, ⟨66, _⟩ => ⟨S_, .f32⟩
  | .hbm, ⟨67, _⟩ => ⟨S129x8256x4x128, .i1⟩
  | .hbm, ⟨68, _⟩ => ⟨S129x8256x4x128, .f32⟩
  | .hbm, ⟨69, _⟩ => ⟨S129x8256x4x128, .f32⟩
  | .hbm, ⟨70, _⟩ => ⟨S129x8256x4x128, .f32⟩
  | .hbm, ⟨71, _⟩ => ⟨S8208x4x128, .f32⟩
  | .hbm, ⟨72, _⟩ => ⟨S8256x4x128, .f32⟩
  | .hbm, ⟨73, _⟩ => ⟨S_, .f32⟩
  | .hbm, ⟨74, _⟩ => ⟨S48x4x256, .f32⟩
  | .hbm, ⟨75, _⟩ => ⟨S8208x4x256, .f32⟩
  | .hbm, ⟨76, _⟩ => ⟨S8256x4x256, .f32⟩
  | .hbm, ⟨77, _⟩ => ⟨S1x8256x4x128, .f32⟩
  | .hbm, ⟨78, _⟩ => ⟨S129x8256x4x128, .f32⟩
  | .hbm, ⟨79, _⟩ => ⟨S129x8256x4x128, .f32⟩
  | .hbm, ⟨80, _⟩ => ⟨S4x129x128x256, .f32⟩
  | .hbm, ⟨81, _⟩ => ⟨S129x4x256x128, .f32⟩
  | .hbm, ⟨82, _⟩ => ⟨S_, .bf16⟩
  | .hbm, ⟨83, _⟩ => ⟨S8256x6272, .bf16⟩
  | .hbm, ⟨84, _⟩ => ⟨S1x512, .f32⟩
  | .hbm, ⟨85, _⟩ => ⟨S_, .i32⟩
  | .hbm, ⟨86, _⟩ => ⟨S_, .f32⟩
  | .hbm, ⟨87, _⟩ => ⟨S8256x1024, .f32⟩
  | .hbm, ⟨88, _⟩ => ⟨S8256x6272, .bf16⟩
  | .hbm, ⟨89, _⟩ => ⟨S8256x128, .bf16⟩
  | .hbm, ⟨90, _⟩ => ⟨S128x512, .f32⟩
  | .hbm, ⟨91, _⟩ => ⟨S1x512, .f32⟩
  | .local _ .vmem, ⟨0, _⟩ => ⟨S192x512, .bf16⟩
  | .local _ .vmem, ⟨1, _⟩ => ⟨S192x512, .bf16⟩
  | .local _ .vmem, ⟨2, _⟩ => ⟨S192x512, .bf16⟩
  | .local _ .vmem, ⟨3, _⟩ => ⟨S192x512, .bf16⟩
  | .local _ .vmem, ⟨4, _⟩ => ⟨S192x1024, .bf16⟩
  | .local _ .vmem, ⟨5, _⟩ => ⟨S192x1024, .bf16⟩
  | .local _ .vmem, ⟨6, _⟩ => ⟨S192x128, .bf16⟩
  | .local _ .vmem, ⟨7, _⟩ => ⟨S192x128, .bf16⟩
  | .local _ .vmem, ⟨8, _⟩ => ⟨S128x512, .bf16⟩
  | .local _ .vmem, ⟨9, _⟩ => ⟨S1x512, .f32⟩
  | .local _ .vmem, ⟨10, _⟩ => ⟨S3x4x256x128, .f32⟩
  | .local _ .vmem, ⟨11, _⟩ => ⟨S3x4x256x128, .f32⟩
  | .local _ .vmem, ⟨12, _⟩ => ⟨S192x1024, .f32⟩
  | .local _ .vmem, ⟨13, _⟩ => ⟨S192x1024, .f32⟩
  | .local _ .vmem, ⟨14, _⟩ => ⟨S192x2048, .bf16⟩
  | .local _ .vmem, ⟨15, _⟩ => ⟨S192x2048, .bf16⟩
  | .local _ .vmem, ⟨16, _⟩ => ⟨S192x128, .bf16⟩
  | .local _ .vmem, ⟨17, _⟩ => ⟨S192x128, .bf16⟩
  | .local _ .vmem, ⟨18, _⟩ => ⟨S128x512, .f32⟩
  | .local _ .vmem, ⟨19, _⟩ => ⟨S1x512, .f32⟩
  | .local _ .vmem, ⟨20, _⟩ => ⟨S4x256x128, .f32⟩
  | _, _ => ⟨S8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call2_v0 : Ref sig .tc := ⟨.hbm, 26, rfl⟩
abbrev main_call2_call0_cst : Ref sig .tc := ⟨.hbm, 27, rfl⟩
abbrev main_call2_call0_v0 : Ref sig .tc := ⟨.hbm, 28, rfl⟩
abbrev main_call2_call0_v1 : Ref sig .tc := ⟨.hbm, 29, rfl⟩
abbrev main_call2_call0_v2 : Ref sig .tc := ⟨.hbm, 30, rfl⟩
abbrev main_call2_call0_v3 : Ref sig .tc := ⟨.hbm, 31, rfl⟩
abbrev main_call2_call0_v4 : Ref sig .tc := ⟨.hbm, 32, rfl⟩
abbrev main_call2_call0_v5 : Ref sig .tc := ⟨.hbm, 33, rfl⟩
abbrev main_call2_call0_v6 : Ref sig .tc := ⟨.hbm, 34, rfl⟩
abbrev main_call2_call0_v7 : Ref sig .tc := ⟨.hbm, 35, rfl⟩
abbrev main_call2_call0_v8 : Ref sig .tc := ⟨.hbm, 36, rfl⟩
abbrev main_call2_call0_v9 : Ref sig .tc := ⟨.hbm, 37, rfl⟩
abbrev main_call2_call0_v10 : Ref sig .tc := ⟨.hbm, 38, rfl⟩
abbrev main_call2_call0_v11 : Ref sig .tc := ⟨.hbm, 39, rfl⟩
abbrev main_call2_v1 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call3_call0_cst : Ref sig .tc := ⟨.hbm, 47, rfl⟩
abbrev main_call3_call0_v0 : Ref sig .tc := ⟨.hbm, 48, rfl⟩
abbrev main_v17 : Ref sig .tc := ⟨.hbm, 49, rfl⟩
abbrev main_cst_4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_7 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_8 : Ref sig .tc := ⟨.hbm, 82, rfl⟩
abbrev main_v43 : Ref sig .tc := ⟨.hbm, 83, rfl⟩
abbrev main_v44 : Ref sig .tc := ⟨.hbm, 84, rfl⟩
abbrev main_c_9 : Ref sig .tc := ⟨.hbm, 85, rfl⟩
abbrev main_call5_v0 : Ref sig .tc := ⟨.hbm, 86, rfl⟩
abbrev main_v45 : Ref sig .tc := ⟨.hbm, 87, rfl⟩
abbrev main_v46_0 : Ref sig .tc := ⟨.hbm, 88, rfl⟩
abbrev main_v46_1 : Ref sig .tc := ⟨.hbm, 89, rfl⟩
abbrev main_v46_2 : Ref sig .tc := ⟨.hbm, 90, rfl⟩
abbrev main_v46_3 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c42_i32 : BitVec 32 := 42#32
  let v0 : BitVec 32 := Scalar.subi c42_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c42_i32 : BitVec 32 := 42#32
  let v0 : BitVec 32 := Scalar.subi c42_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c42_i32 : BitVec 32 := 42#32
  let v0 : BitVec 32 := Scalar.subi c42_i32 arg0
  let c48_i32 : BitVec 32 := 48#32
  let c0_i32 : BitVec 32 := 0#32
  ![v0.toNat, c48_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8208x512 : Shape := ⟨2, ![8208, 512]⟩
abbrev S8208x1024 : Shape := ⟨2, ![8208, 1024]⟩
abbrev S8208x16 : Shape := ⟨2, ![8208, 16]⟩
abbrev S16x512 : Shape := ⟨2, ![16, 512]⟩
abbrev S512 : Shape := ⟨1, ![512]⟩
abbrev S1x512 : Shape := ⟨2, ![1, 512]⟩
abbrev S_ : Shape := ⟨0, ![]⟩
abbrev S8208x4x128 : Shape := ⟨3, ![8208, 4, 128]⟩
abbrev S8208x4x256 : Shape := ⟨3, ![8208, 4, 256]⟩
abbrev S8208x8208x1x1 : Shape := ⟨4, ![8208, 8208, 1, 1]⟩
abbrev S8208x1x4x128 : Shape := ⟨4, ![8208, 1, 4, 128]⟩
abbrev S1x8208x4x128 : Shape := ⟨4, ![1, 8208, 4, 128]⟩
abbrev S8208x8208x4x128 : Shape := ⟨4, ![8208, 8208, 4, 128]⟩
abbrev S8208x8208x4 : Shape := ⟨3, ![8208, 8208, 4]⟩
abbrev S4x256x8208 : Shape := ⟨3, ![4, 256, 8208]⟩
abbrev S4x8208x8208 : Shape := ⟨3, ![4, 8208, 8208]⟩
abbrev S512x16 : Shape := ⟨2, ![512, 16]⟩
abbrev S8208x4224 : Shape := ⟨2, ![8208, 4224]⟩
abbrev S8208x6272 : Shape := ⟨2, ![8208, 6272]⟩
abbrev S8256x6272 : Shape := ⟨2, ![8256, 6272]⟩
abbrev S8256x128 : Shape := ⟨2, ![8256, 128]⟩
abbrev S128x512 : Shape := ⟨2, ![128, 512]⟩

abbrev nBuf : Space → Nat
  | .hbm => 177
  | .vmem => 0
  | .smem => 0
  | _ => 0

abbrev hbmTy0_0 (i : Nat) : BufTy := match i % 128 with
  | 0 => ⟨S8208x512, .f32⟩
  | 1 => ⟨S8208x512, .f32⟩
  | 2 => ⟨S8208x1024, .f32⟩
  | 3 => ⟨S8208x16, .f32⟩
  | 4 => ⟨S16x512, .f32⟩
  | 5 => ⟨S512, .f32⟩
  | 6 => ⟨S8208x1024, .f32⟩
  | 7 => ⟨S8208x512, .f32⟩
  | 8 => ⟨S1x512, .f32⟩
  | 9 => ⟨S8208x512, .f32⟩
  | 10 => ⟨S8208x512, .f32⟩
  | 11 => ⟨S8208x512, .f32⟩
  | 12 => ⟨S_, .f32⟩
  | 13 => ⟨S8208x512, .f32⟩
  | 14 => ⟨S8208x512, .f32⟩
  | 15 => ⟨S8208x512, .f32⟩
  | 16 => ⟨S8208x512, .f32⟩
  | 17 => ⟨S8208x512, .i1⟩
  | 18 => ⟨S8208x512, .f32⟩
  | 19 => ⟨S8208x512, .f32⟩
  | 20 => ⟨S8208x512, .f32⟩
  | 21 => ⟨S8208x512, .f32⟩
  | 22 => ⟨S8208x512, .f32⟩
  | 23 => ⟨S8208x512, .f32⟩
  | 24 => ⟨S8208x512, .f32⟩
  | 25 => ⟨S8208x512, .f32⟩
  | 26 => ⟨S_, .f32⟩
  | 27 => ⟨S8208x512, .f32⟩
  | 28 => ⟨S8208x512, .i1⟩
  | 29 => ⟨S_, .f32⟩
  | 30 => ⟨S8208x512, .f32⟩
  | 31 => ⟨S8208x512, .f32⟩
  | 32 => ⟨S_, .f32⟩
  | 33 => ⟨S8208x512, .f32⟩
  | 34 => ⟨S8208x512, .i1⟩
  | 35 => ⟨S_, .f32⟩
  | 36 => ⟨S8208x512, .f32⟩
  | 37 => ⟨S8208x512, .f32⟩
  | 38 => ⟨S8208x512, .f32⟩
  | 39 => ⟨S8208x512, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S8208x512, .f32⟩
  | 48 => ⟨S8208x512, .i1⟩
  | 49 => ⟨S_, .f32⟩
  | 50 => ⟨S8208x512, .f32⟩
  | 51 => ⟨S8208x512, .f32⟩
  | 52 => ⟨S8208x512, .f32⟩
  | 53 => ⟨S8208x512, .f32⟩
  | 54 => ⟨S8208x512, .f32⟩
  | 55 => ⟨S_, .f32⟩
  | 56 => ⟨S8208x512, .f32⟩
  | 57 => ⟨S8208x512, .f32⟩
  | 58 => ⟨S8208x512, .f32⟩
  | 59 => ⟨S_, .f32⟩
  | 60 => ⟨S8208x512, .f32⟩
  | 61 => ⟨S8208x512, .f32⟩
  | 62 => ⟨S8208x4x128, .f32⟩
  | 63 => ⟨S_, .f32⟩
  | 64 => ⟨S_, .f32⟩
  | 65 => ⟨S8208x4x128, .f32⟩
  | 66 => ⟨S8208x4x128, .f32⟩
  | 67 => ⟨S_, .f32⟩
  | 68 => ⟨S8208x4x128, .f32⟩
  | 69 => ⟨S8208x4x128, .f32⟩
  | 70 => ⟨S8208x4x128, .f32⟩
  | 71 => ⟨S8208x4x256, .f32⟩
  | 72 => ⟨S8208x8208x1x1, .i32⟩
  | 73 => ⟨S8208x8208x1x1, .i32⟩
  | 74 => ⟨S8208x8208x1x1, .i1⟩
  | 75 => ⟨S8208x1x4x128, .f32⟩
  | 76 => ⟨S1x8208x4x128, .f32⟩
  | 77 => ⟨S8208x8208x4x128, .f32⟩
  | 78 => ⟨S8208x8208x4x128, .f32⟩
  | 79 => ⟨S8208x8208x4x128, .f32⟩
  | 80 => ⟨S_, .f32⟩
  | 81 => ⟨S_, .f32⟩
  | 82 => ⟨S8208x8208x4x128, .i1⟩
  | 83 => ⟨S8208x8208x4x128, .f32⟩
  | 84 => ⟨S8208x8208x4x128, .f32⟩
  | 85 => ⟨S_, .f32⟩
  | 86 => ⟨S8208x8208x4x128, .f32⟩
  | 87 => ⟨S8208x8208x4x128, .f32⟩
  | 88 => ⟨S8208x1x4x128, .f32⟩
  | 89 => ⟨S1x8208x4x128, .f32⟩
  | 90 => ⟨S8208x8208x4x128, .f32⟩
  | 91 => ⟨S8208x8208x4x128, .f32⟩
  | 92 => ⟨S8208x8208x4x128, .f32⟩
  | 93 => ⟨S8208x8208x4x128, .f32⟩
  | 94 => ⟨S_, .f32⟩
  | 95 => ⟨S8208x8208x4, .f32⟩
  | 96 => ⟨S4x256x8208, .f32⟩
  | 97 => ⟨S8208x4x256, .f32⟩
  | 98 => ⟨S8208x1024, .f32⟩
  | 99 => ⟨S8208x4x256, .f32⟩
  | 100 => ⟨S4x256x8208, .f32⟩
  | 101 => ⟨S4x8208x8208, .f32⟩
  | 102 => ⟨S8208x8208x4, .f32⟩
  | 103 => ⟨S4x256x8208, .f32⟩
  | 104 => ⟨S8208x4x256, .f32⟩
  | 105 => ⟨S8208x8208x4x128, .f32⟩
  | 106 => ⟨S8208x8208x4x128, .f32⟩
  | 107 => ⟨S8208x8208x4x128, .f32⟩
  | 108 => ⟨S8208x8208x4x128, .f32⟩
  | 109 => ⟨S8208x8208x4x128, .f32⟩
  | 110 => ⟨S_, .f32⟩
  | 111 => ⟨S8208x4x128, .f32⟩
  | 112 => ⟨S1x8208x4x128, .f32⟩
  | 113 => ⟨S8208x8208x4x128, .f32⟩
  | 114 => ⟨S8208x8208x4x128, .f32⟩
  | 115 => ⟨S_, .f32⟩
  | 116 => ⟨S8208x4x128, .f32⟩
  | 117 => ⟨S8208x1x4x128, .f32⟩
  | 118 => ⟨S_, .f32⟩
  | 119 => ⟨S8208x4x128, .f32⟩
  | 120 => ⟨S_, .f32⟩
  | 121 => ⟨S8208x4x128, .f32⟩
  | 122 => ⟨S8208x8208x4x128, .f32⟩
  | 123 => ⟨S_, .f32⟩
  | 124 => ⟨S8208x8208x4x128, .f32⟩
  | 125 => ⟨S8208x8208x4x128, .f32⟩
  | 126 => ⟨S_, .f32⟩
  | 127 => ⟨S8208x4x128, .f32⟩
  | _ => ⟨S8208x512, .f32⟩

abbrev hbmTy0_1 (i : Nat) : BufTy := match i % 128 with
  | 0 => ⟨S8208x1x4x128, .f32⟩
  | 1 => ⟨S8208x8208x4x128, .f32⟩
  | 2 => ⟨S_, .f32⟩
  | 3 => ⟨S8208x4x128, .f32⟩
  | 4 => ⟨S1x8208x4x128, .f32⟩
  | 5 => ⟨S_, .f32⟩
  | 6 => ⟨S8208x4x128, .f32⟩
  | 7 => ⟨S_, .f32⟩
  | 8 => ⟨S8208x4x128, .f32⟩
  | 9 => ⟨S8208x4x128, .f32⟩
  | 10 => ⟨S8208x1024, .f32⟩
  | 11 => ⟨S8208x512, .f32⟩
  | 12 => ⟨S_, .f32⟩
  | 13 => ⟨S8208x4x128, .f32⟩
  | 14 => ⟨S8208x4x128, .f32⟩
  | 15 => ⟨S8208x512, .f32⟩
  | 16 => ⟨S_, .f32⟩
  | 17 => ⟨S_, .f32⟩
  | 18 => ⟨S8208x4x128, .f32⟩
  | 19 => ⟨S8208x512, .f32⟩
  | 20 => ⟨S_, .f32⟩
  | 21 => ⟨S8208x512, .f32⟩
  | 22 => ⟨S8208x512, .f32⟩
  | 23 => ⟨S8208x512, .f32⟩
  | 24 => ⟨S8208x512, .f32⟩
  | 25 => ⟨S8208x512, .f32⟩
  | 26 => ⟨S_, .f32⟩
  | 27 => ⟨S512, .f32⟩
  | 28 => ⟨S1x512, .f32⟩
  | 29 => ⟨S_, .f32⟩
  | 30 => ⟨S512, .f32⟩
  | 31 => ⟨S512x16, .f32⟩
  | 32 => ⟨S16x512, .f32⟩
  | 33 => ⟨S8208x16, .f32⟩
  | 34 => ⟨S_, .f32⟩
  | 35 => ⟨S8208x4224, .f32⟩
  | 36 => ⟨S8208x6272, .f32⟩
  | 37 => ⟨S_, .i32⟩
  | 38 => ⟨S_, .f32⟩
  | 39 => ⟨S8256x6272, .f32⟩
  | 40 => ⟨S8256x6272, .bf16⟩
  | 41 => ⟨S_, .i32⟩
  | 42 => ⟨S_, .f32⟩
  | 43 => ⟨S8256x128, .f32⟩
  | 44 => ⟨S8256x128, .bf16⟩
  | 45 => ⟨S_, .i32⟩
  | 46 => ⟨S_, .f32⟩
  | 47 => ⟨S128x512, .f32⟩
  | 48 => ⟨S1x512, .f32⟩
  | _ => ⟨S8208x512, .f32⟩

abbrev hbmTy (i : Nat) : BufTy := match i / 128 with
  | 0 => hbmTy0_0 i
  | 1 => hbmTy0_1 i
  | _ => ⟨S8208x512, .f32⟩

abbrev bufTy : (tb : Table) → Fin (tcTables nBuf tb) → BufTy
  | .hbm, ⟨i, _⟩ => hbmTy i
  | _, _ => ⟨S8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1_0 : Ref sig .tc := ⟨.hbm, 25, rfl⟩
abbrev main_call0_call0_cst_0 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_call0_cst_1 : Ref sig .tc := ⟨.hbm, 29, rfl⟩
abbrev main_call0_call0_v15 : Ref sig .tc := ⟨.hbm, 30, rfl⟩
abbrev main_call0_call0_v16 : Ref sig .tc := ⟨.hbm, 31, rfl⟩
abbrev main_call0_call0_cst_2 : Ref sig .tc := ⟨.hbm, 32, rfl⟩
abbrev main_call0_call0_v17 : Ref sig .tc := ⟨.hbm, 33, rfl⟩
abbrev main_call0_call0_v18 : Ref sig .tc := ⟨.hbm, 34, rfl⟩
abbrev main_call0_call0_cst_3 : Ref sig .tc := ⟨.hbm, 35, rfl⟩
abbrev main_call0_call0_v19 : Ref sig .tc := ⟨.hbm, 36, rfl⟩
abbrev main_call0_call0_v20 : Ref sig .tc := ⟨.hbm, 37, rfl⟩
abbrev main_call0_call0_v21 : Ref sig .tc := ⟨.hbm, 38, rfl⟩
abbrev main_v4_1 : Ref sig .tc := ⟨.hbm, 39, rfl⟩
abbrev main_call0_call0_cst_4 : Ref sig .tc := ⟨.hbm, 40, rfl⟩
abbrev main_call0_call0_cst_5 : Ref sig .tc := ⟨.hbm, 41, rfl⟩
abbrev main_call0_call0_v23 : Ref sig .tc := ⟨.hbm, 42, rfl⟩
abbrev main_call0_call0_cst_6 : Ref sig .tc := ⟨.hbm, 43, rfl⟩
abbrev main_call0_call0_cst_7 : Ref sig .tc := ⟨.hbm, 44, rfl⟩
abbrev main_call0_call0_v24 : Ref sig .tc := ⟨.hbm, 45, rfl⟩
abbrev main_call0_call0_cst_8 : Ref sig .tc := ⟨.hbm, 46, rfl⟩
abbrev main_call0_call0_v25 : Ref sig .tc := ⟨.hbm, 47, rfl⟩
abbrev main_call0_call0_v26 : Ref sig .tc := ⟨.hbm, 48, rfl⟩
abbrev main_call0_call0_cst_9 : Ref sig .tc := ⟨.hbm, 49, rfl⟩
abbrev main_call0_call0_v27 : Ref sig .tc := ⟨.hbm, 50, rfl⟩
abbrev main_call0_call0_v28 : Ref sig .tc := ⟨.hbm, 51, rfl⟩
abbrev main_call0_call0_v29 : Ref sig .tc := ⟨.hbm, 52, rfl⟩
abbrev main_call0_call0_v30 : Ref sig .tc := ⟨.hbm, 53, rfl⟩
abbrev main_call0_call0_v31 : Ref sig .tc := ⟨.hbm, 54, rfl⟩
abbrev main_call0_call0_cst_10 : Ref sig .tc := ⟨.hbm, 55, rfl⟩
abbrev main_call0_call0_v32 : Ref sig .tc := ⟨.hbm, 56, rfl⟩
abbrev main_v4_2 : Ref sig .tc := ⟨.hbm, 57, rfl⟩
abbrev main_v4_0 : Ref sig .tc := ⟨.hbm, 58, rfl⟩
abbrev main_cst : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_call1_call0_cst : Ref sig .tc := ⟨.hbm, 63, rfl⟩
abbrev main_call1_call0_v0 : Ref sig .tc := ⟨.hbm, 64, rfl⟩
abbrev main_v8 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_cst_1 : Ref sig .tc := ⟨.hbm, 80, rfl⟩
abbrev main_call2_v0 : Ref sig .tc := ⟨.hbm, 81, rfl⟩
abbrev main_v22_1 : Ref sig .tc := ⟨.hbm, 82, rfl⟩
abbrev main_call2_v2 : Ref sig .tc := ⟨.hbm, 83, rfl⟩
abbrev main_v22_0 : Ref sig .tc := ⟨.hbm, 84, rfl⟩
abbrev main_call2_cst : Ref sig .tc := ⟨.hbm, 85, rfl⟩
abbrev main_v22_2 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_cst_2 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_cst_3 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_4 : Ref sig .tc := ⟨.hbm, 115, rfl⟩
abbrev main_v49 : Ref sig .tc := ⟨.hbm, 116, rfl⟩
abbrev main_v50 : Ref sig .tc := ⟨.hbm, 117, rfl⟩
abbrev main_cst_5 : Ref sig .tc := ⟨.hbm, 118, rfl⟩
abbrev main_v51 : Ref sig .tc := ⟨.hbm, 119, rfl⟩
abbrev main_cst_6 : Ref sig .tc := ⟨.hbm, 120, rfl⟩
abbrev main_v52 : Ref sig .tc := ⟨.hbm, 121, rfl⟩
abbrev main_v53 : Ref sig .tc := ⟨.hbm, 122, rfl⟩
abbrev main_call3_cst : Ref sig .tc := ⟨.hbm, 123, rfl⟩
abbrev main_call3_v0 : Ref sig .tc := ⟨.hbm, 124, rfl⟩
abbrev main_v54 : Ref sig .tc := ⟨.hbm, 125, rfl⟩
abbrev main_cst_7 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_cst_8 : Ref sig .tc := ⟨.hbm, 130, rfl⟩
abbrev main_v58 : Ref sig .tc := ⟨.hbm, 131, rfl⟩
abbrev main_v59 : Ref sig .tc := ⟨.hbm, 132, rfl⟩
abbrev main_cst_9 : Ref sig .tc := ⟨.hbm, 133, rfl⟩
abbrev main_v60 : Ref sig .tc := ⟨.hbm, 134, rfl⟩
abbrev main_cst_10 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_11 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_call4_call0_cst : Ref sig .tc := ⟨.hbm, 144, rfl⟩
abbrev main_call4_call0_v0 : Ref sig .tc := ⟨.hbm, 145, rfl⟩
abbrev main_v68 : Ref sig .tc := ⟨.hbm, 146, rfl⟩
abbrev main_v69 : Ref sig .tc := ⟨.hbm, 147, rfl⟩
abbrev main_cst_12 : Ref sig .tc := ⟨.hbm, 148, rfl⟩
abbrev main_v70 : Ref sig .tc := ⟨.hbm, 149, rfl⟩
abbrev main_v71 : Ref sig .tc := ⟨.hbm, 150, rfl⟩
abbrev main_call5_v0 : Ref sig .tc := ⟨.hbm, 151, rfl⟩
abbrev main_call5_v1 : Ref sig .tc := ⟨.hbm, 152, rfl⟩
abbrev main_v72 : Ref sig .tc := ⟨.hbm, 153, rfl⟩
abbrev main_cst_13 : Ref sig .tc := ⟨.hbm, 154, rfl⟩
abbrev main_v73 : Ref sig .tc := ⟨.hbm, 155, rfl⟩
abbrev main_v74 : Ref sig .tc := ⟨.hbm, 156, rfl⟩
abbrev main_cst_14 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_cst_15 : Ref sig .tc := ⟨.hbm, 162, rfl⟩
abbrev main_v79 : Ref sig .tc := ⟨.hbm, 163, rfl⟩
abbrev main_v80 : Ref sig .tc := ⟨.hbm, 164, rfl⟩
abbrev main_c : Ref sig .tc := ⟨.hbm, 165, rfl⟩
abbrev main_call6_v0 : Ref sig .tc := ⟨.hbm, 166, rfl⟩
abbrev main_v81 : Ref sig .tc := ⟨.hbm, 167, rfl⟩
abbrev main_v82 : Ref sig .tc := ⟨.hbm, 168, rfl⟩
abbrev main_c_16 : Ref sig .tc := ⟨.hbm, 169, rfl⟩
abbrev main_call7_v0 : Ref sig .tc := ⟨.hbm, 170, rfl⟩
abbrev main_v83 : Ref sig .tc := ⟨.hbm, 171, rfl⟩
abbrev main_v84 : Ref sig .tc := ⟨.hbm, 172, rfl⟩
abbrev main_c_17 : Ref sig .tc := ⟨.hbm, 173, rfl⟩
abbrev main_call8_v0 : Ref sig .tc := ⟨.hbm, 174, rfl⟩
abbrev main_v85 : Ref sig .tc := ⟨.hbm, 175, rfl⟩
abbrev main_v86 : Ref sig .tc := ⟨.hbm, 176, rfl⟩

abbrev nD : Nat := 1
abbrev τ : Topo := Topo.v7x

variable {F : FTy → Type} [FloatOps F]
-- ==== Kernel2.lean ====
abbrev S8256x6272 : Shape := ⟨2, ![8256, 6272]⟩
abbrev S6272x1024 : Shape := ⟨2, ![6272, 1024]⟩
abbrev S8256x1024 : Shape := ⟨2, ![8256, 1024]⟩
abbrev S688x6272 : Shape := ⟨2, ![688, 6272]⟩
abbrev S6272x512 : Shape := ⟨2, ![6272, 512]⟩
abbrev S688x512 : Shape := ⟨2, ![688, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x6272, .bf16⟩
  | .hbm, ⟨1, _⟩ => ⟨S6272x1024, .bf16⟩
  | .hbm, ⟨2, _⟩ => ⟨S8256x1024, .f32⟩
  | .local _ .vmem, ⟨0, _⟩ => ⟨S688x6272, .bf16⟩
  | .local _ .vmem, ⟨1, _⟩ => ⟨S688x6272, .bf16⟩
  | .local _ .vmem, ⟨2, _⟩ => ⟨S6272x512, .bf16⟩
  | .local _ .vmem, ⟨3, _⟩ => ⟨S6272x512, .bf16⟩
  | .local _ .vmem, ⟨4, _⟩ => ⟨S688x512, .f32⟩
  | .local _ .vmem, ⟨5, _⟩ => ⟨S688x512, .f32⟩
  | _, _ => ⟨S8256x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6272x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8256x6272 : Shape := ⟨2, ![8256, 6272]⟩
abbrev S6272x1024 : Shape := ⟨2, ![6272, 1024]⟩
abbrev S_ : Shape := ⟨0, ![]⟩
abbrev S8256x1024 : Shape := ⟨2, ![8256, 1024]⟩
abbrev S1024x6272 : Shape := ⟨2, ![1024, 6272]⟩

abbrev nBuf : Space → Nat
  | .hbm => 9
  | .vmem => 0
  | .smem => 0
  | _ => 0

abbrev bufTy : (tb : Table) → Fin (tcTables nBuf tb) → BufTy
  | .hbm, ⟨0, _⟩ => ⟨S8256x6272, .bf16⟩
  | .hbm, ⟨1, _⟩ => ⟨S6272x1024, .bf16⟩
  | .hbm, ⟨2, _⟩ => ⟨S_, .f32⟩
  | .hbm, ⟨3, _⟩ => ⟨S8256x1024, .f32⟩
  | .hbm, ⟨4, _⟩ => ⟨S6272x1024, .f32⟩
  | .hbm, ⟨5, _⟩ => ⟨S1024x6272, .f32⟩
  | .hbm, ⟨6, _⟩ => ⟨S8256x6272, .f32⟩
  | .hbm, ⟨7, _⟩ => ⟨S8256x6272, .f32⟩
  | .hbm, ⟨8, _⟩ => ⟨S8256x1024, .f32⟩
  | _, _ => ⟨S8256x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8256x6272 : Shape := ⟨2, ![8256, 6272]⟩
abbrev S8256x1024 : Shape := ⟨2, ![8256, 1024]⟩
abbrev S6272x1024 : Shape := ⟨2, ![6272, 1024]⟩
abbrev S2752x896 : Shape := ⟨2, ![2752, 896]⟩
abbrev S2752x1024 : Shape := ⟨2, ![2752, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x6272, .bf16⟩
  | .hbm, ⟨1, _⟩ => ⟨S8256x1024, .bf16⟩
  | .hbm, ⟨2, _⟩ => ⟨S6272x1024, .bf16⟩
  | .local _ .vmem, ⟨0, _⟩ => ⟨S2752x896, .bf16⟩
  | .local _ .vmem, ⟨1, _⟩ => ⟨S2752x896, .bf16⟩
  | .local _ .vmem, ⟨2, _⟩ => ⟨S2752x1024, .bf16⟩
  | .local _ .vmem, ⟨3, _⟩ => ⟨S2752x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S8256x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8256x6272 : Shape := ⟨2, ![8256, 6272]⟩
abbrev S8256x1024 : Shape := ⟨2, ![8256, 1024]⟩
abbrev S_ : Shape := ⟨0, ![]⟩
abbrev S6272x1024 : Shape := ⟨2, ![6272, 1024]⟩
abbrev S1024x6272 : Shape := ⟨2, ![1024, 6272]⟩

abbrev nBuf : Space → Nat
  | .hbm => 12
  | .vmem => 0
  | .smem => 0
  | _ => 0

abbrev bufTy : (tb : Table) → Fin (tcTables nBuf tb) → BufTy
  | .hbm, ⟨0, _⟩ => ⟨S8256x6272, .bf16⟩
  | .hbm, ⟨1, _⟩ => ⟨S8256x1024, .bf16⟩
  | .hbm, ⟨2, _⟩ => ⟨S_, .f32⟩
  | .hbm, ⟨3, _⟩ => ⟨S6272x1024, .f32⟩
  | .hbm, ⟨4, _⟩ => ⟨S8256x1024, .f32⟩
  | .hbm, ⟨5, _⟩ => ⟨S1024x6272, .f32⟩
  | .hbm, ⟨6, _⟩ => ⟨S8256x6272, .f32⟩
  | .hbm, ⟨7, _⟩ => ⟨S8256x6272, .f32⟩
  | .hbm, ⟨8, _⟩ => ⟨S6272x1024, .f32⟩
  | .hbm, ⟨9, _⟩ => ⟨S1024x6272, .f32⟩
  | .hbm, ⟨10, _⟩ => ⟨S6272x1024, .f32⟩
  | .hbm, ⟨11, _⟩ => ⟨S6272x1024, .bf16⟩
  | _, _ => ⟨S8256x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2x8256x2816 : Shape := ⟨3, ![2, 8256, 2816]⟩
abbrev S5632x1024 : Shape := ⟨2, ![5632, 1024]⟩
abbrev S8256x1024 : Shape := ⟨2, ![8256, 1024]⟩
abbrev S2x688x2816 : Shape := ⟨3, ![2, 688, 2816]⟩
abbrev S5632x512 : Shape := ⟨2, ![5632, 512]⟩
abbrev S688x512 : Shape := ⟨2, ![688, 512]⟩
abbrev S1x688x2816 : Shape := ⟨3, ![1, 688, 2816]⟩
abbrev S688x2816 : Shape := ⟨2, ![688, 2816]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x8256x2816, .bf16⟩
  | .hbm, ⟨1, _⟩ => ⟨S5632x1024, .bf16⟩
  | .hbm, ⟨2, _⟩ => ⟨S8256x1024, .f32⟩
  | .local _ .vmem, ⟨0, _⟩ => ⟨S2x688x2816, .bf16⟩
  | .local _ .vmem, ⟨1, _⟩ => ⟨S2x688x2816, .bf16⟩
  | .local _ .vmem, ⟨2, _⟩ => ⟨S5632x512, .bf16⟩
  | .local _ .vmem, ⟨3, _⟩ => ⟨S5632x512, .bf16⟩
  | .local _ .vmem, ⟨4, _⟩ => ⟨S688x512, .f32⟩
  | .local _ .vmem, ⟨5, _⟩ => ⟨S688x512, .f32⟩
  | _, _ => ⟨S2x8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x8256x2816 : Shape := ⟨3, ![2, 8256, 2816]⟩
abbrev S5632x1024 : Shape := ⟨2, ![5632, 1024]⟩
abbrev S_ : Shape := ⟨0, ![]⟩
abbrev S8256x1024 : Shape := ⟨2, ![8256, 1024]⟩
abbrev S1024x5632 : Shape := ⟨2, ![1024, 5632]⟩
abbrev S8256x5632 : Shape := ⟨2, ![8256, 5632]⟩
abbrev S1x8256x2816 : Shape := ⟨3, ![1, 8256, 2816]⟩
abbrev S8256x2816 : Shape := ⟨2, ![8256, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2x8256x2816, .bf16⟩
  | .hbm, ⟨1, _⟩ => ⟨S5632x1024, .bf16⟩
  | .hbm, ⟨2, _⟩ => ⟨S_, .f32⟩
  | .hbm, ⟨3, _⟩ => ⟨S8256x1024, .f32⟩
  | .hbm, ⟨4, _⟩ => ⟨S5632x1024, .f32⟩
  | .hbm, ⟨5, _⟩ => ⟨S1024x5632, .f32⟩
  | .hbm, ⟨6, _⟩ => ⟨S8256x5632, .f32⟩
  | .hbm, ⟨7, _⟩ => ⟨S1x8256x2816, .bf16⟩
  | .hbm, ⟨8, _⟩ => ⟨S8256x2816, .bf16⟩
  | .hbm, ⟨9, _⟩ => ⟨S1x8256x2816, .bf16⟩
  | .hbm, ⟨10, _⟩ => ⟨S8256x2816, .bf16⟩
  | .hbm, ⟨11, _⟩ => ⟨S8256x5632, .bf16⟩
  | .hbm, ⟨12, _⟩ => ⟨S8256x5632, .f32⟩
  | .hbm, ⟨13, _⟩ => ⟨S8256x1024, .f32⟩
  | _, _ => ⟨S2x8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2x8256x2816 : Shape := ⟨3, ![2, 8256, 2816]⟩
abbrev S8256x1024 : Shape := ⟨2, ![8256, 1024]⟩
abbrev S5632x1024 : Shape := ⟨2, ![5632, 1024]⟩
abbrev S1x2752x1408 : Shape := ⟨3, ![1, 2752, 1408]⟩
abbrev S2752x1024 : Shape := ⟨2, ![2752, 1024]⟩
abbrev S1408x1024 : Shape := ⟨2, ![1408, 1024]⟩
abbrev S2752x1408 : Shape := ⟨2, ![2752, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8256x2816, .bf16⟩
  | .hbm, ⟨1, _⟩ => ⟨S8256x1024, .bf16⟩
  | .hbm, ⟨2, _⟩ => ⟨S5632x1024, .bf16⟩
  | .local _ .vmem, ⟨0, _⟩ => ⟨S1x2752x1408, .bf16⟩
  | .local _ .vmem, ⟨1, _⟩ => ⟨S1x2752x1408, .bf16⟩
  | .local _ .vmem, ⟨2, _⟩ => ⟨S2752x1024, .bf16⟩
  | .local _ .vmem, ⟨3, _⟩ => ⟨S2752x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2752x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x8256x2816 : Shape := ⟨3, ![2, 8256, 2816]⟩
abbrev S8256x1024 : Shape := ⟨2, ![8256, 1024]⟩
abbrev S_ : Shape := ⟨0, ![]⟩
abbrev S5632x1024 : Shape := ⟨2, ![5632, 1024]⟩
abbrev S1024x5632 : Shape := ⟨2, ![1024, 5632]⟩
abbrev S8256x5632 : Shape := ⟨2, ![8256, 5632]⟩
abbrev S1x8256x2816 : Shape := ⟨3, ![1, 8256, 2816]⟩
abbrev S8256x2816 : Shape := ⟨2, ![8256, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2x8256x2816, .bf16⟩
  | .hbm, ⟨1, _⟩ => ⟨S8256x1024, .bf16⟩
  | .hbm, ⟨2, _⟩ => ⟨S_, .f32⟩
  | .hbm, ⟨3, _⟩ => ⟨S5632x1024, .f32⟩
  | .hbm, ⟨4, _⟩ => ⟨S8256x1024, .f32⟩
  | .hbm, ⟨5, _⟩ => ⟨S1024x5632, .f32⟩
  | .hbm, ⟨6, _⟩ => ⟨S8256x5632, .f32⟩
  | .hbm, ⟨7, _⟩ => ⟨S1x8256x2816, .bf16⟩
  | .hbm, ⟨8, _⟩ => ⟨S8256x2816, .bf16⟩
  | .hbm, ⟨9, _⟩ => ⟨S1x8256x2816, .bf16⟩
  | .hbm, ⟨10, _⟩ => ⟨S8256x2816, .bf16⟩
  | .hbm, ⟨11, _⟩ => ⟨S8256x5632, .bf16⟩
  | .hbm, ⟨12, _⟩ => ⟨S8256x5632, .f32⟩
  | .hbm, ⟨13, _⟩ => ⟨S5632x1024, .f32⟩
  | .hbm, ⟨14, _⟩ => ⟨S1024x5632, .f32⟩
  | .hbm, ⟨15, _⟩ => ⟨S5632x1024, .f32⟩
  | .hbm, ⟨16, _⟩ => ⟨S5632x1024, .bf16⟩
  | _, _ => ⟨S2x8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S8256x1024 : Shape := ⟨2, ![8256, 1024]⟩
abbrev S2816x1024 : Shape := ⟨2, ![2816, 1024]⟩
abbrev S8256x2816 : Shape := ⟨2, ![8256, 2816]⟩
abbrev S1376x1024 : Shape := ⟨2, ![1376, 1024]⟩
abbrev S1376x2816 : Shape := ⟨2, ![1376, 2816]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S2816x1024, .bf16⟩
  | .hbm, ⟨2, _⟩ => ⟨S8256x2816, .bf16⟩
  | .local _ .vmem, ⟨0, _⟩ => ⟨S1376x1024, .bf16⟩
  | .local _ .vmem, ⟨1, _⟩ => ⟨S1376x1024, .bf16⟩
  | .local _ .vmem, ⟨2, _⟩ => ⟨S2816x1024, .bf16⟩
  | .local _ .vmem, ⟨3, _⟩ => ⟨S1376x2816, .bf16⟩
  | .local _ .vmem, ⟨4, _⟩ => ⟨S1376x2816, .bf16⟩
  | .local _ .vmem, ⟨5, _⟩ => ⟨S8x128, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1376x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8256x1024 : Shape := ⟨2, ![8256, 1024]⟩
abbrev S2816x1024 : Shape := ⟨2, ![2816, 1024]⟩
abbrev S_ : Shape := ⟨0, ![]⟩
abbrev S8256x2816 : Shape := ⟨2, ![8256, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S2816x1024, .bf16⟩
  | .hbm, ⟨2, _⟩ => ⟨S_, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x1024, .f32⟩
  | .hbm, ⟨7, _⟩ => ⟨S8256x2816, .f32⟩
  | .hbm, ⟨8, _⟩ => ⟨S8256x2816, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8256x2816 : Shape := ⟨2, ![8256, 2816]⟩
abbrev S8256x1024 : Shape := ⟨2, ![8256, 1024]⟩
abbrev S2816x1024 : Shape := ⟨2, ![2816, 1024]⟩
abbrev S2752x1408 : Shape := ⟨2, ![2752, 1408]⟩
abbrev S2752x1024 : Shape := ⟨2, ![2752, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S2816x1024, .bf16⟩
  | .local _ .vmem, ⟨0, _⟩ => ⟨S2752x1408, .bf16⟩
  | .local _ .vmem, ⟨1, _⟩ => ⟨S2752x1408, .bf16⟩
  | .local _ .vmem, ⟨2, _⟩ => ⟨S2752x1024, .bf16⟩
  | .local _ .vmem, ⟨3, _⟩ => ⟨S2752x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8256x2816 : Shape := ⟨2, ![8256, 2816]⟩
abbrev S8256x1024 : Shape := ⟨2, ![8256, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S_, .f32⟩
  | .hbm, ⟨3, _⟩ => ⟨S2816x1024, .f32⟩
  | .hbm, ⟨4, _⟩ => ⟨S8256x2816, .f32⟩
  | .hbm, ⟨5, _⟩ => ⟨S8256x1024, .f32⟩
  | .hbm, ⟨6, _⟩ => ⟨S8256x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8256x1024 : Shape := ⟨2, ![8256, 1024]⟩
abbrev S1024x1024 : Shape := ⟨2, ![1024, 1024]⟩
abbrev S2752x1024 : Shape := ⟨2, ![2752, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .bf16⟩
  | .local _ .vmem, ⟨0, _⟩ => ⟨S2752x1024, .bf16⟩
  | .local _ .vmem, ⟨1, _⟩ => ⟨S2752x1024, .bf16⟩
  | .local _ .vmem, ⟨2, _⟩ => ⟨S1024x1024, .bf16⟩
  | .local _ .vmem, ⟨3, _⟩ => ⟨S2752x1024, .bf16⟩
  | .local _ .vmem, ⟨4, _⟩ => ⟨S2752x1024, .bf16⟩
  | .local _ .vmem, ⟨5, _⟩ => ⟨S8x128, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2752x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S_, .f32⟩
  | .hbm, ⟨3, _⟩ => ⟨S8256x1024, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S8256x1024, .f32⟩
  | .hbm, ⟨8, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8256x1024 : Shape := ⟨2, ![8256, 1024]⟩
abbrev S1024x1024 : Shape := ⟨2, ![1024, 1024]⟩
abbrev S2752x1024 : Shape := ⟨2, ![2752, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .bf16⟩
  | .local _ .vmem, ⟨0, _⟩ => ⟨S2752x1024, .bf16⟩
  | .local _ .vmem, ⟨1, _⟩ => ⟨S2752x1024, .bf16⟩
  | .local _ .vmem, ⟨2, _⟩ => ⟨S2752x1024, .bf16⟩
  | .local _ .vmem, ⟨3, _⟩ => ⟨S2752x1024, .bf16⟩
  | .local _ .vmem, ⟨4, _⟩ => ⟨S1024x1024, .bf16⟩
  | .local _ .vmem, ⟨5, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S_, .f32⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8256x1024 : Shape := ⟨2, ![8256, 1024]⟩
abbrev S6272x1024 : Shape := ⟨2, ![6272, 1024]⟩
abbrev S8256x6272 : Shape := ⟨2, ![8256, 6272]⟩
abbrev S688x1024 : Shape := ⟨2, ![688, 1024]⟩
abbrev S688x6272 : Shape := ⟨2, ![688, 6272]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S6272x1024, .bf16⟩
  | .hbm, ⟨2, _⟩ => ⟨S8256x6272, .bf16⟩
  | .local _ .vmem, ⟨0, _⟩ => ⟨S688x1024, .bf16⟩
  | .local _ .vmem, ⟨1, _⟩ => ⟨S688x1024, .bf16⟩
  | .local _ .vmem, ⟨2, _⟩ => ⟨S6272x1024, .bf16⟩
  | .local _ .vmem, ⟨3, _⟩ => ⟨S688x6272, .bf16⟩
  | .local _ .vmem, ⟨4, _⟩ => ⟨S688x6272, .bf16⟩
  | .local _ .vmem, ⟨5, _⟩ => ⟨S8x128, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S6272x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S688x6272 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8256x1024 : Shape := ⟨2, ![8256, 1024]⟩
abbrev S6272x1024 : Shape := ⟨2, ![6272, 1024]⟩
abbrev S1024x6272 : Shape := ⟨2, ![1024, 6272]⟩
abbrev S8256x6272 : Shape := ⟨2, ![8256, 6272]⟩

abbrev nBuf : Space → Nat
  | .hbm => 7
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S6272x1024, .bf16⟩
  | .hbm, ⟨2, _⟩ => ⟨S8256x1024, .f32⟩
  | .hbm, ⟨3, _⟩ => ⟨S6272x1024, .f32⟩
  | .hbm, ⟨4, _⟩ => ⟨S1024x6272, .f32⟩
  | .hbm, ⟨5, _⟩ => ⟨S8256x6272, .f32⟩
  | .hbm, ⟨6, _⟩ => ⟨S8256x6272, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S8256x1024 : Shape := ⟨2, ![8256, 1024]⟩
abbrev S5632x1024 : Shape := ⟨2, ![5632, 1024]⟩
abbrev S8256x5632 : Shape := ⟨2, ![8256, 5632]⟩
abbrev S1376x1024 : Shape := ⟨2, ![1376, 1024]⟩
abbrev S2816x1024 : Shape := ⟨2, ![2816, 1024]⟩
abbrev S1376x2816 : Shape := ⟨2, ![1376, 2816]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S5632x1024, .bf16⟩
  | .hbm, ⟨2, _⟩ => ⟨S8256x5632, .bf16⟩
  | .local _ .vmem, ⟨0, _⟩ => ⟨S1376x1024, .bf16⟩
  | .local _ .vmem, ⟨1, _⟩ => ⟨S1376x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1376x2816, .bf16⟩
  | .local _ .vmem, ⟨5, _⟩ => ⟨S1376x2816, .bf16⟩
  | .local _ .vmem, ⟨6, _⟩ => ⟨S8x128, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1376x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8256x1024 : Shape := ⟨2, ![8256, 1024]⟩
abbrev S5632x1024 : Shape := ⟨2, ![5632, 1024]⟩
abbrev S1024x5632 : Shape := ⟨2, ![1024, 5632]⟩
abbrev S8256x5632 : Shape := ⟨2, ![8256, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S5632x1024, .bf16⟩
  | .hbm, ⟨2, _⟩ => ⟨S8256x1024, .f32⟩
  | .hbm, ⟨3, _⟩ => ⟨S5632x1024, .f32⟩
  | .hbm, ⟨4, _⟩ => ⟨S1024x5632, .f32⟩
  | .hbm, ⟨5, _⟩ => ⟨S8256x5632, .f32⟩
  | .hbm, ⟨6, _⟩ => ⟨S8256x5632, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8256x2816 : Shape := ⟨2, ![8256, 2816]⟩
abbrev S2816x1024 : Shape := ⟨2, ![2816, 1024]⟩
abbrev S8256x1024 : Shape := ⟨2, ![8256, 1024]⟩
abbrev S688x2816 : Shape := ⟨2, ![688, 2816]⟩
abbrev S688x1024 : Shape := ⟨2, ![688, 1024]⟩
abbrev S688x1 : Shape := ⟨2, ![688, 1]⟩

abbrev nBuf : Space → Nat
  | .hbm => 4
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x1024, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8256x2816 : Shape := ⟨2, ![8256, 2816]⟩
abbrev S2816x1024 : Shape := ⟨2, ![2816, 1024]⟩
abbrev S8256x1024 : Shape := ⟨2, ![8256, 1024]⟩
abbrev S8208x1024 : Shape := ⟨2, ![8208, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x1024, .f32⟩
  | .hbm, ⟨7, _⟩ => ⟨S8208x1024, .f32⟩
  | .hbm, ⟨8, _⟩ => ⟨S_, .i32⟩
  | .hbm, ⟨9, _⟩ => ⟨S_, .f32⟩
  | .hbm, ⟨10, _⟩ => ⟨S8256x1024, .f32⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel13.lean ====
abbrev S8256x1024 : Shape := ⟨2, ![8256, 1024]⟩
abbrev S1024x1024 : Shape := ⟨2, ![1024, 1024]⟩
abbrev S2752x1024 : Shape := ⟨2, ![2752, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .bf16⟩
  | .local _ .vmem, ⟨0, _⟩ => ⟨S2752x1024, .bf16⟩
  | .local _ .vmem, ⟨1, _⟩ => ⟨S2752x1024, .bf16⟩
  | .local _ .vmem, ⟨2, _⟩ => ⟨S1024x1024, .bf16⟩
  | .local _ .vmem, ⟨3, _⟩ => ⟨S2752x1024, .bf16⟩
  | .local _ .vmem, ⟨4, _⟩ => ⟨S2752x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2752x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8256x1024 : Shape := ⟨2, ![8256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S1024x1024, .f32⟩
  | .hbm, ⟨4, _⟩ => ⟨S8256x1024, .f32⟩
  | .hbm, ⟨5, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8256x1024 : Shape := ⟨2, ![8256, 1024]⟩
abbrev S4x256x256 : Shape := ⟨3, ![4, 256, 256]⟩
abbrev S1x1024 : Shape := ⟨2, ![1, 1024]⟩
abbrev S2752x256 : Shape := ⟨2, ![2752, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S8256x1024, .bf16⟩
  | .hbm, ⟨1, _⟩ => ⟨S4x256x256, .bf16⟩
  | .hbm, ⟨2, _⟩ => ⟨S1x1024, .f32⟩
  | .hbm, ⟨3, _⟩ => ⟨S8256x1024, .bf16⟩
  | .hbm, ⟨4, _⟩ => ⟨S8256x1024, .bf16⟩
  | .local _ .vmem, ⟨0, _⟩ => ⟨S2752x256, .bf16⟩
  | .local _ .vmem, ⟨1, _⟩ => ⟨S2752x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S2752x256, .bf16⟩
  | .local _ .vmem, ⟨7, _⟩ => ⟨S2752x256, .bf16⟩
  | .local _ .vmem, ⟨8, _⟩ => ⟨S2752x256, .bf16⟩
  | .local _ .vmem, ⟨9, _⟩ => ⟨S2752x256, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2752x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2752x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2752x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8256x1024 : Shape := ⟨2, ![8256, 1024]⟩
abbrev S4x256x256 : Shape := ⟨3, ![4, 256, 256]⟩
abbrev S1x1024 : Shape := ⟨2, ![1, 1024]⟩
abbrev S8256x4x256 : Shape := ⟨3, ![8256, 4, 256]⟩
abbrev S4x256x8256 : Shape := ⟨3, ![4, 256, 8256]⟩

abbrev nBuf : Space → Nat
  | .hbm => 13
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S4x256x256, .bf16⟩
  | .hbm, ⟨2, _⟩ => ⟨S1x1024, .f32⟩
  | .hbm, ⟨3, _⟩ => ⟨S8256x1024, .f32⟩
  | .hbm, ⟨4, _⟩ => ⟨S8256x4x256, .f32⟩
  | .hbm, ⟨5, _⟩ => ⟨S4x256x256, .f32⟩
  | .hbm, ⟨6, _⟩ => ⟨S4x256x8256, .f32⟩
  | .hbm, ⟨7, _⟩ => ⟨S8256x4x256, .f32⟩
  | .hbm, ⟨8, _⟩ => ⟨S8256x1024, .f32⟩
  | .hbm, ⟨9, _⟩ => ⟨S8256x1024, .bf16⟩
  | .hbm, ⟨10, _⟩ => ⟨S8256x1024, .f32⟩
  | .hbm, ⟨11, _⟩ => ⟨S8256x1024, .f32⟩
  | .hbm, ⟨12, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S8256x1024 : Shape := ⟨2, ![8256, 1024]⟩
abbrev S4x256x256 : Shape := ⟨3, ![4, 256, 256]⟩
abbrev S2752x256 : Shape := ⟨2, ![2752, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S4x256x256, .bf16⟩
  | .hbm, ⟨2, _⟩ => ⟨S8256x1024, .bf16⟩
  | .local _ .vmem, ⟨0, _⟩ => ⟨S2752x256, .bf16⟩
  | .local _ .vmem, ⟨1, _⟩ => ⟨S2752x256, .bf16⟩
  | .local _ .vmem, ⟨2, _⟩ => ⟨S1x256x256, .bf16⟩
  | .local _ .vmem, ⟨3, _⟩ => ⟨S1x256x256, .bf16⟩
  | .local _ .vmem, ⟨4, _⟩ => ⟨S2752x256, .bf16⟩
  | .local _ .vmem, ⟨5, _⟩ => ⟨S2752x256, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2752x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2752x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8256x1024 : Shape := ⟨2, ![8256, 1024]⟩
abbrev S4x256x256 : Shape := ⟨3, ![4, 256, 256]⟩
abbrev S_ : Shape := ⟨0, ![]⟩
abbrev S8256x4x256 : Shape := ⟨3, ![8256, 4, 256]⟩
abbrev S4x256x8256 : Shape := ⟨3, ![4, 256, 8256]⟩
abbrev S4x8256x256 : Shape := ⟨3, ![4, 8256, 256]⟩

abbrev nBuf : Space → Nat
  | .hbm => 16
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S4x256x256, .bf16⟩
  | .hbm, ⟨2, _⟩ => ⟨S_, .f32⟩
  | .hbm, ⟨3, _⟩ => ⟨S8256x1024, .f32⟩
  | .hbm, ⟨4, _⟩ => ⟨S8256x4x256, .f32⟩
  | .hbm, ⟨5, _⟩ => ⟨S4x256x256, .f32⟩
  | .hbm, ⟨6, _⟩ => ⟨S4x256x8256, .f32⟩
  | .hbm, ⟨7, _⟩ => ⟨S8256x4x256, .f32⟩
  | .hbm, ⟨8, _⟩ => ⟨S8256x1024, .f32⟩
  | .hbm, ⟨9, _⟩ => ⟨S8256x1024, .f32⟩
  | .hbm, ⟨10, _⟩ => ⟨S8256x4x256, .f32⟩
  | .hbm, ⟨11, _⟩ => ⟨S4x256x8256, .f32⟩
  | .hbm, ⟨12, _⟩ => ⟨S4x8256x256, .f32⟩
  | .hbm, ⟨13, _⟩ => ⟨S8256x4x256, .f32⟩
  | .hbm, ⟨14, _⟩ => ⟨S8256x1024, .f32⟩
  | .hbm, ⟨15, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel16.lean ====
abbrev S8256x1024 : Shape := ⟨2, ![8256, 1024]⟩
abbrev S4x256x256 : Shape := ⟨3, ![4, 256, 256]⟩
abbrev S2752x256 : Shape := ⟨2, ![2752, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S4x256x256, .f32⟩
  | .local _ .vmem, ⟨0, _⟩ => ⟨S2752x256, .bf16⟩
  | .local _ .vmem, ⟨1, _⟩ => ⟨S2752x256, .bf16⟩
  | .local _ .vmem, ⟨2, _⟩ => ⟨S2752x256, .bf16⟩
  | .local _ .vmem, ⟨3, _⟩ => ⟨S2752x256, .bf16⟩
  | .local _ .vmem, ⟨4, _⟩ => ⟨S1x256x256, .f32⟩
  | .local _ .vmem, ⟨5, _⟩ => ⟨S1x256x256, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2752x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2752x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference16Ideal.lean ====
abbrev S8256x1024 : Shape := ⟨2, ![8256, 1024]⟩
abbrev S_ : Shape := ⟨0, ![]⟩
abbrev S4x256x256 : Shape := ⟨3, ![4, 256, 256]⟩
abbrev S8256x4x256 : Shape := ⟨3, ![8256, 4, 256]⟩
abbrev S4x256x8256 : Shape := ⟨3, ![4, 256, 8256]⟩

abbrev nBuf : Space → Nat
  | .hbm => 14
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S_, .f32⟩
  | .hbm, ⟨3, _⟩ => ⟨S4x256x256, .f32⟩
  | .hbm, ⟨4, _⟩ => ⟨S8256x1024, .f32⟩
  | .hbm, ⟨5, _⟩ => ⟨S8256x4x256, .f32⟩
  | .hbm, ⟨6, _⟩ => ⟨S4x256x8256, .f32⟩
  | .hbm, ⟨7, _⟩ => ⟨S8256x4x256, .f32⟩
  | .hbm, ⟨8, _⟩ => ⟨S8256x1024, .f32⟩
  | .hbm, ⟨9, _⟩ => ⟨S8256x1024, .f32⟩
  | .hbm, ⟨10, _⟩ => ⟨S8256x4x256, .f32⟩
  | .hbm, ⟨11, _⟩ => ⟨S4x256x8256, .f32⟩
  | .hbm, ⟨12, _⟩ => ⟨S4x256x256, .f32⟩
  | .hbm, ⟨13, _⟩ => ⟨S4x256x256, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel17.lean ====
abbrev S8256x6272 : Shape := ⟨2, ![8256, 6272]⟩
abbrev S8256x1024 : Shape := ⟨2, ![8256, 1024]⟩
abbrev S1x2048 : Shape := ⟨2, ![1, 2048]⟩
abbrev S1024x1024 : Shape := ⟨2, ![1024, 1024]⟩
abbrev S688x1024 : Shape := ⟨2, ![688, 1024]⟩
abbrev S1x1024 : Shape := ⟨2, ![1, 1024]⟩
abbrev S688x1 : Shape := ⟨2, ![688, 1]⟩

abbrev nBuf : Space → Nat
  | .hbm => 8
  | .vmem => 17
  | .smem => 0
  | _ => 0

abbrev bufTy : (tb : Table) → Fin (tcTables nBuf tb) → BufTy
  | .hbm, ⟨0, _⟩ => ⟨S8256x6272, .bf16⟩
  | .hbm, ⟨1, _⟩ => ⟨S8256x1024, .bf16⟩
  | .hbm, ⟨2, _⟩ => ⟨S8256x1024, .bf16⟩
  | .hbm, ⟨3, _⟩ => ⟨S1x2048, .f32⟩
  | .hbm, ⟨4, _⟩ => ⟨S1024x1024, .bf16⟩
  | .hbm, ⟨5, _⟩ => ⟨S8256x1024, .f32⟩
  | .hbm, ⟨6, _⟩ => ⟨S8256x1024, .bf16⟩
  | .hbm, ⟨7, _⟩ => ⟨S8256x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S688x1024, .f32⟩
  | .local _ .vmem, ⟨12, _⟩ => ⟨S688x1024, .f32⟩
  | .local _ .vmem, ⟨13, _⟩ => ⟨S688x1024, .bf16⟩
  | .local _ .vmem, ⟨14, _⟩ => ⟨S688x1024, .bf16⟩
  | .local _ .vmem, ⟨15, _⟩ => ⟨S688x1024, .f32⟩
  | .local _ .vmem, ⟨16, _⟩ => ⟨S688x1024, .f32⟩
  | _, _ => ⟨S8256x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference17Ideal.lean ====
abbrev S8256x6272 : Shape := ⟨2, ![8256, 6272]⟩
abbrev S8256x1024 : Shape := ⟨2, ![8256, 1024]⟩
abbrev S1x2048 : Shape := ⟨2, ![1, 2048]⟩
abbrev S1024x1024 : Shape := ⟨2, ![1024, 1024]⟩
abbrev S8256x2048 : Shape := ⟨2, ![8256, 2048]⟩
abbrev S1x1024 : Shape := ⟨2, ![1, 1024]⟩
abbrev S_ : Shape := ⟨0, ![]⟩
abbrev S8208x1024 : Shape := ⟨2, ![8208, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8256x6272, .bf16⟩
  | .hbm, ⟨1, _⟩ => ⟨S8256x1024, .bf16⟩
  | .hbm, ⟨2, _⟩ => ⟨S8256x1024, .bf16⟩
  | .hbm, ⟨3, _⟩ => ⟨S1x2048, .f32⟩
  | .hbm, ⟨4, _⟩ => ⟨S1024x1024, .bf16⟩
  | .hbm, ⟨5, _⟩ => ⟨S8256x1024, .f32⟩
  | .hbm, ⟨6, _⟩ => ⟨S8256x2048, .bf16⟩
  | .hbm, ⟨7, _⟩ => ⟨S8256x2048, .f32⟩
  | .hbm, ⟨8, _⟩ => ⟨S8256x1024, .f32⟩
  | .hbm, ⟨9, _⟩ => ⟨S8256x1024, .f32⟩
  | .hbm, ⟨10, _⟩ => ⟨S8256x1024, .f32⟩
  | .hbm, ⟨11, _⟩ => ⟨S8256x1024, .f32⟩
  | .hbm, ⟨12, _⟩ => ⟨S1x1024, .f32⟩
  | .hbm, ⟨13, _⟩ => ⟨S8256x1024, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S_, .f32⟩
  | .hbm, ⟨18, _⟩ => ⟨S8256x1024, .f32⟩
  | .hbm, ⟨19, _⟩ => ⟨S8256x1024, .f32⟩
  | .hbm, ⟨20, _⟩ => ⟨S_, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S1x1024, .f32⟩
  | .hbm, ⟨25, _⟩ => ⟨S8256x1024, .f32⟩
  | .hbm, ⟨26, _⟩ => ⟨S8256x1024, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S8256x1024, .f32⟩
  | .hbm, ⟨31, _⟩ => ⟨S8256x1024, .f32⟩
  | .hbm, ⟨32, _⟩ => ⟨S_, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S8256x1024, .bf16⟩
  | .hbm, ⟨38, _⟩ => ⟨S8256x1024, .f32⟩
  | .hbm, ⟨39, _⟩ => ⟨S1024x1024, .f32⟩
  | .hbm, ⟨40, _⟩ => ⟨S8256x1024, .f32⟩
  | .hbm, ⟨41, _⟩ => ⟨S8256x1024, .f32⟩
  | .hbm, ⟨42, _⟩ => ⟨S8208x1024, .f32⟩
  | .hbm, ⟨43, _⟩ => ⟨S_, .i32⟩
  | .hbm, ⟨44, _⟩ => ⟨S_, .f32⟩
  | .hbm, ⟨45, _⟩ => ⟨S8256x1024, .f32⟩
  | _, _ => ⟨S8256x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel18.lean ====
abbrev S8256x1024 : Shape := ⟨2, ![8256, 1024]⟩
abbrev S8256x6272 : Shape := ⟨2, ![8256, 6272]⟩
abbrev S1x2048 : Shape := ⟨2, ![1, 2048]⟩
abbrev S688x1024 : Shape := ⟨2, ![688, 1024]⟩
abbrev S1x1024 : Shape := ⟨2, ![1, 1024]⟩
abbrev S688x2048 : Shape := ⟨2, ![688, 2048]⟩
abbrev S1024 : Shape := ⟨1, ![1024]⟩

abbrev nBuf : Space → Nat
  | .hbm => 9
  | .vmem => 19
  | .smem => 0
  | _ => 0

abbrev bufTy : (tb : Table) → Fin (tcTables nBuf tb) → BufTy
  | .hbm, ⟨0, _⟩ => ⟨S8256x1024, .bf16⟩
  | .hbm, ⟨1, _⟩ => ⟨S8256x6272, .bf16⟩
  | .hbm, ⟨2, _⟩ => ⟨S8256x1024, .bf16⟩
  | .hbm, ⟨3, _⟩ => ⟨S8256x1024, .bf16⟩
  | .hbm, ⟨4, _⟩ => ⟨S1x2048, .f32⟩
  | .hbm, ⟨5, _⟩ => ⟨S8256x1024, .bf16⟩
  | .hbm, ⟨6, _⟩ => ⟨S8256x1024, .bf16⟩
  | .hbm, ⟨7, _⟩ => ⟨S8256x6272, .bf16⟩
  | .hbm, ⟨8, _⟩ => ⟨S1x2048, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .bf16⟩
  | .local _ .vmem, ⟨9, _⟩ => ⟨S688x1024, .bf16⟩
  | .local _ .vmem, ⟨10, _⟩ => ⟨S1x1024, .f32⟩
  | .local _ .vmem, ⟨11, _⟩ => ⟨S1x1024, .f32⟩
  | .local _ .vmem, ⟨12, _⟩ => ⟨S688x1024, .bf16⟩
  | .local _ .vmem, ⟨13, _⟩ => ⟨S688x1024, .bf16⟩
  | .local _ .vmem, ⟨14, _⟩ => ⟨S688x1024, .bf16⟩
  | .local _ .vmem, ⟨15, _⟩ => ⟨S688x1024, .bf16⟩
  | .local _ .vmem, ⟨16, _⟩ => ⟨S688x2048, .bf16⟩
  | .local _ .vmem, ⟨17, _⟩ => ⟨S688x2048, .bf16⟩
  | .local _ .vmem, ⟨18, _⟩ => ⟨S1x2048, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference18Ideal.lean ====
abbrev S8256x1024 : Shape := ⟨2, ![8256, 1024]⟩
abbrev S8256x6272 : Shape := ⟨2, ![8256, 6272]⟩
abbrev S1x2048 : Shape := ⟨2, ![1, 2048]⟩
abbrev S8256x2048 : Shape := ⟨2, ![8256, 2048]⟩
abbrev S1x1024 : Shape := ⟨2, ![1, 1024]⟩
abbrev S_ : Shape := ⟨0, ![]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x6272, .bf16⟩
  | .hbm, ⟨2, _⟩ => ⟨S8256x1024, .bf16⟩
  | .hbm, ⟨3, _⟩ => ⟨S8256x1024, .bf16⟩
  | .hbm, ⟨4, _⟩ => ⟨S1x2048, .f32⟩
  | .hbm, ⟨5, _⟩ => ⟨S8256x2048, .bf16⟩
  | .hbm, ⟨6, _⟩ => ⟨S8256x2048, .f32⟩
  | .hbm, ⟨7, _⟩ => ⟨S8256x1024, .f32⟩
  | .hbm, ⟨8, _⟩ => ⟨S8256x1024, .f32⟩
  | .hbm, ⟨9, _⟩ => ⟨S8256x1024, .f32⟩
  | .hbm, ⟨10, _⟩ => ⟨S8256x1024, .f32⟩
  | .hbm, ⟨11, _⟩ => ⟨S1x1024, .f32⟩
  | .hbm, ⟨12, _⟩ => ⟨S8256x1024, .f32⟩
  | .hbm, ⟨13, _⟩ => ⟨S8256x1024, .f32⟩
  | .hbm, ⟨14, _⟩ => ⟨S8256x1024, .f32⟩
  | .hbm, ⟨15, _⟩ => ⟨S8256x1024, .f32⟩
  | .hbm, ⟨16, _⟩ => ⟨S_, .f32⟩
  | .hbm, ⟨17, _⟩ => ⟨S8256x1024, .f32⟩
  | .hbm, ⟨18, _⟩ => ⟨S8256x1024, .f32⟩
  | .hbm, ⟨19, _⟩ => ⟨S_, .f32⟩
  | .hbm, ⟨20, _⟩ => ⟨S8256x1024, .f32⟩
  | .hbm, ⟨21, _⟩ => ⟨S8256x1024, .f32⟩
  | .hbm, ⟨22, _⟩ => ⟨S_, .f32⟩
  | .hbm, ⟨23, _⟩ => ⟨S8256x1024, .f32⟩
  | .hbm, ⟨24, _⟩ => ⟨S8256x1024, .f32⟩
  | .hbm, ⟨25, _⟩ => ⟨S8256x1024, .f32⟩
  | .hbm, ⟨26, _⟩ => ⟨S8256x1024, .f32⟩
  | .hbm, ⟨27, _⟩ => ⟨S1x1024, .f32⟩
  | .hbm, ⟨28, _⟩ => ⟨S8256x1024, .f32⟩
  | .hbm, ⟨29, _⟩ => ⟨S8256x1024, .f32⟩
  | .hbm, ⟨30, _⟩ => ⟨S8256x1024, .f32⟩
  | .hbm, ⟨31, _⟩ => ⟨S8256x1024, .f32⟩
  | .hbm, ⟨32, _⟩ => ⟨S_, .f32⟩
  | .hbm, ⟨33, _⟩ => ⟨S8256x1024, .f32⟩
  | .hbm, ⟨34, _⟩ => ⟨S8256x1024, .f32⟩
  | .hbm, ⟨35, _⟩ => ⟨S_, .f32⟩
  | .hbm, ⟨36, _⟩ => ⟨S8256x1024, .f32⟩
  | .hbm, ⟨37, _⟩ => ⟨S8256x1024, .f32⟩
  | .hbm, ⟨38, _⟩ => ⟨S_, .f32⟩
  | .hbm, ⟨39, _⟩ => ⟨S8256x1024, .f32⟩
  | .hbm, ⟨40, _⟩ => ⟨S8256x1024, .f32⟩
  | .hbm, ⟨41, _⟩ => ⟨S8256x1024, .f32⟩
  | .hbm, ⟨42, _⟩ => ⟨S8256x1024, .f32⟩
  | .hbm, ⟨43, _⟩ => ⟨S8256x1024, .f32⟩
  | .hbm, ⟨44, _⟩ => ⟨S8256x1024, .f32⟩
  | .hbm, ⟨45, _⟩ => ⟨S8256x1024, .f32⟩
  | .hbm, ⟨46, _⟩ => ⟨S8256x1024, .f32⟩
  | .hbm, ⟨47, _⟩ => ⟨S8256x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1x2048, .f32⟩
  | .hbm, ⟨53, _⟩ => ⟨S8256x1024, .f32⟩
  | .hbm, ⟨54, _⟩ => ⟨S8256x1024, .f32⟩
  | .hbm, ⟨55, _⟩ => ⟨S8256x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S8256x1024, .bf16⟩
  | .hbm, ⟨63, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel19.lean ====
abbrev S8256x1024 : Shape := ⟨2, ![8256, 1024]⟩
abbrev S1x1024 : Shape := ⟨2, ![1, 1024]⟩
abbrev S688x1024 : Shape := ⟨2, ![688, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1x1024, .f32⟩
  | .hbm, ⟨3, _⟩ => ⟨S8256x1024, .bf16⟩
  | .hbm, ⟨4, _⟩ => ⟨S1x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1x1024, .f32⟩
  | .local _ .vmem, ⟨5, _⟩ => ⟨S688x1024, .bf16⟩
  | .local _ .vmem, ⟨6, _⟩ => ⟨S688x1024, .bf16⟩
  | .local _ .vmem, ⟨7, _⟩ => ⟨S1x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference19Ideal.lean ====
abbrev S8256x1024 : Shape := ⟨2, ![8256, 1024]⟩
abbrev S1x1024 : Shape := ⟨2, ![1, 1024]⟩
abbrev S_ : Shape := ⟨0, ![]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S8256x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S8256x1024, .f32⟩
  | .hbm, ⟨12, _⟩ => ⟨S8256x1024, .f32⟩
  | .hbm, ⟨13, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel20.lean ====
abbrev S8256x1024 : Shape := ⟨2, ![8256, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 3
  | .vmem => 5
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S688x1024, .bf16⟩
  | .local _ .vmem, ⟨4, _⟩ => ⟨S688x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 18
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8256x1024, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x1024, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S8256x1024 : Shape := ⟨2, ![8256, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x1024, .f32⟩
  | .hbm, ⟨4, _⟩ => ⟨S8256x1024, .f32⟩
  | .hbm, ⟨5, _⟩ => ⟨S8256x1024, .bf16⟩
  | .hbm, ⟨6, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .bf16⟩
  | .local _ .vmem, ⟨10, _⟩ => ⟨S688x1024, .bf16⟩
  | .local _ .vmem, ⟨11, _⟩ => ⟨S1x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩
abbrev S8208x1024 : Shape := ⟨2, ![8208, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x1024, .f32⟩
  | .hbm, ⟨4, _⟩ => ⟨S8256x1024, .f32⟩
  | .hbm, ⟨5, _⟩ => ⟨S_, .f32⟩
  | .hbm, ⟨6, _⟩ => ⟨S8256, .f32⟩
  | .hbm, ⟨7, _⟩ => ⟨S8256x1, .f32⟩
  | .hbm, ⟨8, _⟩ => ⟨S_, .f32⟩
  | .hbm, ⟨9, _⟩ => ⟨S8256x1, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S_, .f32⟩
  | .hbm, ⟨17, _⟩ => ⟨S8256x1, .f32⟩
  | .hbm, ⟨18, _⟩ => ⟨S8256x1, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8256x1024, .f32⟩
  | .hbm, ⟨28, _⟩ => ⟨S8256x1024, .f32⟩
  | .hbm, ⟨29, _⟩ => ⟨S8256x1024, .f32⟩
  | .hbm, ⟨30, _⟩ => ⟨S_, .f32⟩
  | .hbm, ⟨31, _⟩ => ⟨S8256, .f32⟩
  | .hbm, ⟨32, _⟩ => ⟨S8256x1, .f32⟩
  | .hbm, ⟨33, _⟩ => ⟨S8256x1024, .f32⟩
  | .hbm, ⟨34, _⟩ => ⟨S8256x1024, .f32⟩
  | .hbm, ⟨35, _⟩ => ⟨S8256x1, .f32⟩
  | .hbm, ⟨36, _⟩ => ⟨S_, .f32⟩
  | .hbm, ⟨37, _⟩ => ⟨S8256x1, .f32⟩
  | .hbm, ⟨38, _⟩ => ⟨S8256x1, .f32⟩
  | .hbm, ⟨39, _⟩ => ⟨S_, .f32⟩
  | .hbm, ⟨40, _⟩ => ⟨S8256, .f32⟩
  | .hbm, ⟨41, _⟩ => ⟨S8256x1024, .f32⟩
  | .hbm, ⟨42, _⟩ => ⟨S8256x1024, .f32⟩
  | .hbm, ⟨43, _⟩ => ⟨S8256x1024, .f32⟩
  | .hbm, ⟨44, _⟩ => ⟨S8256x1024, .f32⟩
  | .hbm, ⟨45, _⟩ => ⟨S8256x1024, .f32⟩
  | .hbm, ⟨46, _⟩ => ⟨S8256x1024, .f32⟩
  | .hbm, ⟨47, _⟩ => ⟨S8208x1024, .f32⟩
  | .hbm, ⟨48, _⟩ => ⟨S_, .i32⟩
  | .hbm, ⟨49, _⟩ => ⟨S_, .f32⟩
  | .hbm, ⟨50, _⟩ => ⟨S8256x1024, .f32⟩
  | .hbm, ⟨51, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel22.lean ====
abbrev S8256x5632 : Shape := ⟨2, ![8256, 5632]⟩
abbrev S3x5632 : Shape := ⟨2, ![3, 5632]⟩
abbrev S1x5632 : Shape := ⟨2, ![1, 5632]⟩
abbrev S8256x2816 : Shape := ⟨2, ![8256, 2816]⟩
abbrev S688x1408 : Shape := ⟨2, ![688, 1408]⟩
abbrev S3x1408 : Shape := ⟨2, ![3, 1408]⟩
abbrev S1x1408 : Shape := ⟨2, ![1, 1408]⟩
abbrev S16x1408 : Shape := ⟨2, ![16, 1408]⟩
abbrev S704x1408 : Shape := ⟨2, ![704, 1408]⟩

abbrev nBuf : Space → Nat
  | .hbm => 6
  | .vmem => 20
  | .smem => 0
  | _ => 0

abbrev bufTy : (tb : Table) → Fin (tcTables nBuf tb) → BufTy
  | .hbm, ⟨0, _⟩ => ⟨S8256x5632, .bf16⟩
  | .hbm, ⟨1, _⟩ => ⟨S3x5632, .f32⟩
  | .hbm, ⟨2, _⟩ => ⟨S1x5632, .f32⟩
  | .hbm, ⟨3, _⟩ => ⟨S8256x2816, .bf16⟩
  | .hbm, ⟨4, _⟩ => ⟨S8256x2816, .bf16⟩
  | .hbm, ⟨5, _⟩ => ⟨S8256x2816, .bf16⟩
  | .local _ .vmem, ⟨0, _⟩ => ⟨S688x1408, .bf16⟩
  | .local _ .vmem, ⟨1, _⟩ => ⟨S688x1408, .bf16⟩
  | .local _ .vmem, ⟨2, _⟩ => ⟨S688x1408, .bf16⟩
  | .local _ .vmem, ⟨3, _⟩ => ⟨S688x1408, .bf16⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S688x1408, .bf16⟩
  | .local _ .vmem, ⟨13, _⟩ => ⟨S688x1408, .bf16⟩
  | .local _ .vmem, ⟨14, _⟩ => ⟨S688x1408, .bf16⟩
  | .local _ .vmem, ⟨15, _⟩ => ⟨S688x1408, .bf16⟩
  | .local _ .vmem, ⟨16, _⟩ => ⟨S688x1408, .bf16⟩
  | .local _ .vmem, ⟨17, _⟩ => ⟨S688x1408, .bf16⟩
  | .local _ .vmem, ⟨18, _⟩ => ⟨S16x1408, .f32⟩
  | .local _ .vmem, ⟨19, _⟩ => ⟨S16x1408, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S688x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S8256x5632 : Shape := ⟨2, ![8256, 5632]⟩
abbrev S3x5632 : Shape := ⟨2, ![3, 5632]⟩
abbrev S1x5632 : Shape := ⟨2, ![1, 5632]⟩
abbrev S8256x2816 : Shape := ⟨2, ![8256, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S8258x2816 : Shape := ⟨2, ![8258, 2816]⟩
abbrev S2816 : Shape := ⟨1, ![2816]⟩

abbrev nBuf : Space → Nat
  | .hbm => 73
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S3x5632, .f32⟩
  | .hbm, ⟨2, _⟩ => ⟨S1x5632, .f32⟩
  | .hbm, ⟨3, _⟩ => ⟨S8256x5632, .f32⟩
  | .hbm, ⟨4, _⟩ => ⟨S8256x2816, .f32⟩
  | .hbm, ⟨5, _⟩ => ⟨S3x2816, .f32⟩
  | .hbm, ⟨6, _⟩ => ⟨S1x2816, .f32⟩
  | .hbm, ⟨7, _⟩ => ⟨S_, .f32⟩
  | .hbm, ⟨8, _⟩ => ⟨S2x2816, .f32⟩
  | .hbm, ⟨9, _⟩ => ⟨S8258x2816, .f32⟩
  | .hbm, ⟨10, _⟩ => ⟨S8256x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S8256x2816, .f32⟩
  | .hbm, ⟨15, _⟩ => ⟨S8256x2816, .f32⟩
  | .hbm, ⟨16, _⟩ => ⟨S8256x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S8256x2816, .f32⟩
  | .hbm, ⟨21, _⟩ => ⟨S8256x2816, .f32⟩
  | .hbm, ⟨22, _⟩ => ⟨S8256x2816, .f32⟩
  | .hbm, ⟨23, _⟩ => ⟨S8256x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S8256x2816, .f32⟩
  | .hbm, ⟨28, _⟩ => ⟨S8256x2816, .f32⟩
  | .hbm, ⟨29, _⟩ => ⟨S8256x2816, .f32⟩
  | .hbm, ⟨30, _⟩ => ⟨S8256x2816, .f32⟩
  | .hbm, ⟨31, _⟩ => ⟨S8256x2816, .f32⟩
  | .hbm, ⟨32, _⟩ => ⟨S8256x2816, .f32⟩
  | .hbm, ⟨33, _⟩ => ⟨S3x2816, .f32⟩
  | .hbm, ⟨34, _⟩ => ⟨S1x2816, .f32⟩
  | .hbm, ⟨35, _⟩ => ⟨S_, .f32⟩
  | .hbm, ⟨36, _⟩ => ⟨S2x2816, .f32⟩
  | .hbm, ⟨37, _⟩ => ⟨S8258x2816, .f32⟩
  | .hbm, ⟨38, _⟩ => ⟨S8256x2816, .f32⟩
  | .hbm, ⟨39, _⟩ => ⟨S1x2816, .f32⟩
  | .hbm, ⟨40, _⟩ => ⟨S2816, .f32⟩
  | .hbm, ⟨41, _⟩ => ⟨S1x2816, .f32⟩
  | .hbm, ⟨42, _⟩ => ⟨S8256x2816, .f32⟩
  | .hbm, ⟨43, _⟩ => ⟨S8256x2816, .f32⟩
  | .hbm, ⟨44, _⟩ => ⟨S8256x2816, .f32⟩
  | .hbm, ⟨45, _⟩ => ⟨S1x2816, .f32⟩
  | .hbm, ⟨46, _⟩ => ⟨S2816, .f32⟩
  | .hbm, ⟨47, _⟩ => ⟨S1x2816, .f32⟩
  | .hbm, ⟨48, _⟩ => ⟨S8256x2816, .f32⟩
  | .hbm, ⟨49, _⟩ => ⟨S8256x2816, .f32⟩
  | .hbm, ⟨50, _⟩ => ⟨S8256x2816, .f32⟩
  | .hbm, ⟨51, _⟩ => ⟨S8256x2816, .f32⟩
  | .hbm, ⟨52, _⟩ => ⟨S1x2816, .f32⟩
  | .hbm, ⟨53, _⟩ => ⟨S2816, .f32⟩
  | .hbm, ⟨54, _⟩ => ⟨S1x2816, .f32⟩
  | .hbm, ⟨55, _⟩ => ⟨S8256x2816, .f32⟩
  | .hbm, ⟨56, _⟩ => ⟨S8256x2816, .f32⟩
  | .hbm, ⟨57, _⟩ => ⟨S8256x2816, .f32⟩
  | .hbm, ⟨58, _⟩ => ⟨S8256x2816, .f32⟩
  | .hbm, ⟨59, _⟩ => ⟨S8256x2816, .f32⟩
  | .hbm, ⟨60, _⟩ => ⟨S8256x2816, .bf16⟩
  | .hbm, ⟨61, _⟩ => ⟨S8256x2816, .bf16⟩
  | .hbm, ⟨62, _⟩ => ⟨S8256x2816, .f32⟩
  | .hbm, ⟨63, _⟩ => ⟨S8256x2816, .f32⟩
  | .hbm, ⟨64, _⟩ => ⟨S_, .f32⟩
  | .hbm, ⟨65, _⟩ => ⟨S8256x2816, .f32⟩
  | .hbm, ⟨66, _⟩ => ⟨S8256x2816, .f32⟩
  | .hbm, ⟨67, _⟩ => ⟨S_, .f32⟩
  | .hbm, ⟨68, _⟩ => ⟨S8256x2816, .f32⟩
  | .hbm, ⟨69, _⟩ => ⟨S8256x2816, .f32⟩
  | .hbm, ⟨70, _⟩ => ⟨S8256x2816, .f32⟩
  | .hbm, ⟨71, _⟩ => ⟨S8256x2816, .f32⟩
  | .hbm, ⟨72, _⟩ => ⟨S8256x2816, .bf16⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Kernel23.lean ====
abbrev S8256x2816 : Shape := ⟨2, ![8256, 2816]⟩
abbrev S8256x5632 : Shape := ⟨2, ![8256, 5632]⟩
abbrev S3x5632 : Shape := ⟨2, ![3, 5632]⟩
abbrev S2x8256x2816 : Shape := ⟨3, ![2, 8256, 2816]⟩
abbrev S3x2816 : Shape := ⟨2, ![3, 2816]⟩
abbrev S1x2816 : Shape := ⟨2, ![1, 2816]⟩
abbrev S688x1408 : Shape := ⟨2, ![688, 1408]⟩
abbrev S3x1408 : Shape := ⟨2, ![3, 1408]⟩
abbrev S2x688x1408 : Shape := ⟨3, ![2, 688, 1408]⟩
abbrev S1x1408 : Shape := ⟨2, ![1, 1408]⟩
abbrev S16x1408 : Shape := ⟨2, ![16, 1408]⟩
abbrev S704x1408 : Shape := ⟨2, ![704, 1408]⟩
abbrev S1x688x1408 : Shape := ⟨3, ![1, 688, 1408]⟩
abbrev S1408 : Shape := ⟨1, ![1408]⟩

abbrev nBuf : Space → Nat
  | .hbm => 10
  | .vmem => 26
  | .smem => 0
  | _ => 0

abbrev bufTy : (tb : Table) → Fin (tcTables nBuf tb) → BufTy
  | .hbm, ⟨0, _⟩ => ⟨S8256x2816, .bf16⟩
  | .hbm, ⟨1, _⟩ => ⟨S8256x2816, .bf16⟩
  | .hbm, ⟨2, _⟩ => ⟨S8256x2816, .bf16⟩
  | .hbm, ⟨3, _⟩ => ⟨S8256x5632, .bf16⟩
  | .hbm, ⟨4, _⟩ => ⟨S3x5632, .f32⟩
  | .hbm, ⟨5, _⟩ => ⟨S2x8256x2816, .bf16⟩
  | .hbm, ⟨6, _⟩ => ⟨S3x2816, .f32⟩
  | .hbm, ⟨7, _⟩ => ⟨S3x2816, .f32⟩
  | .hbm, ⟨8, _⟩ => ⟨S1x2816, .f32⟩
  | .hbm, ⟨9, _⟩ => ⟨S1x2816, .f32⟩
  | .local _ .vmem, ⟨0, _⟩ => ⟨S688x1408, .bf16⟩
  | .local _ .vmem, ⟨1, _⟩ => ⟨S688x1408, .bf16⟩
  | .local _ .vmem, ⟨2, _⟩ => ⟨S688x1408, .bf16⟩
  | .local _ .vmem, ⟨3, _⟩ => ⟨S688x1408, .bf16⟩
  | .local _ .vmem, ⟨4, _⟩ => ⟨S688x1408, .bf16⟩
  | .local _ .vmem, ⟨5, _⟩ => ⟨S688x1408, .bf16⟩
  | .local _ .vmem, ⟨6, _⟩ => ⟨S688x1408, .bf16⟩
  | .local _ .vmem, ⟨7, _⟩ => ⟨S688x1408, .bf16⟩
  | .local _ .vmem, ⟨8, _⟩ => ⟨S688x1408, .bf16⟩
  | .local _ .vmem, ⟨9, _⟩ => ⟨S688x1408, .bf16⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S2x688x1408, .bf16⟩
  | .local _ .vmem, ⟨15, _⟩ => ⟨S2x688x1408, .bf16⟩
  | .local _ .vmem, ⟨16, _⟩ => ⟨S3x1408, .f32⟩
  | .local _ .vmem, ⟨17, _⟩ => ⟨S3x1408, .f32⟩
  | .local _ .vmem, ⟨18, _⟩ => ⟨S3x1408, .f32⟩
  | .local _ .vmem, ⟨19, _⟩ => ⟨S3x1408, .f32⟩
  | .local _ .vmem, ⟨20, _⟩ => ⟨S1x1408, .f32⟩
  | .local _ .vmem, ⟨21, _⟩ => ⟨S1x1408, .f32⟩
  | .local _ .vmem, ⟨22, _⟩ => ⟨S1x1408, .f32⟩
  | .local _ .vmem, ⟨23, _⟩ => ⟨S1x1408, .f32⟩
  | .local _ .vmem, ⟨24, _⟩ => ⟨S16x1408, .f32⟩
  | .local _ .vmem, ⟨25, _⟩ => ⟨S16x1408, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c2_i32 : BitVec 32 := 2#32
  let v1 : BitVec 32 := Scalar.addi arg0 c2_i32
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  let c0_i32_0 : BitVec 32 := 0#32
  ![c0_i32.toNat, v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x688x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference23Ideal.lean ====
abbrev S8256x2816 : Shape := ⟨2, ![8256, 2816]⟩
abbrev S8256x5632 : Shape := ⟨2, ![8256, 5632]⟩
abbrev S3x5632 : Shape := ⟨2, ![3, 5632]⟩
abbrev S_ : Shape := ⟨0, ![]⟩
abbrev S1x2816 : Shape := ⟨2, ![1, 2816]⟩
abbrev S3x2816 : Shape := ⟨2, ![3, 2816]⟩
abbrev S2x2816 : Shape := ⟨2, ![2, 2816]⟩
abbrev S8258x2816 : Shape := ⟨2, ![8258, 2816]⟩
abbrev S2816 : Shape := ⟨1, ![2816]⟩
abbrev S1x8256x2816 : Shape := ⟨3, ![1, 8256, 2816]⟩
abbrev S2x8256x2816 : Shape := ⟨3, ![2, 8256, 2816]⟩

abbrev nBuf : Space → Nat
  | .hbm => 189
  | .vmem => 0
  | .smem => 0
  | _ => 0

abbrev hbmTy0_0 (i : Nat) : BufTy := match i % 128 with
  | 0 => ⟨S8256x2816, .bf16⟩
  | 1 => ⟨S8256x2816, .bf16⟩
  | 2 => ⟨S8256x2816, .bf16⟩
  | 3 => ⟨S8256x5632, .bf16⟩
  | 4 => ⟨S3x5632, .f32⟩
  | 5 => ⟨S8256x5632, .f32⟩
  | 6 => ⟨S8256x2816, .f32⟩
  | 7 => ⟨S8256x2816, .f32⟩
  | 8 => ⟨S8256x2816, .f32⟩
  | 9 => ⟨S8256x2816, .f32⟩
  | 10 => ⟨S_, .f32⟩
  | 11 => ⟨S8256x2816, .f32⟩
  | 12 => ⟨S8256x2816, .f32⟩
  | 13 => ⟨S_, .f32⟩
  | 14 => ⟨S8256x2816, .f32⟩
  | 15 => ⟨S8256x2816, .f32⟩
  | 16 => ⟨S_, .f32⟩
  | 17 => ⟨S8256x2816, .f32⟩
  | 18 => ⟨S8256x2816, .f32⟩
  | 19 => ⟨S8256x2816, .f32⟩
  | 20 => ⟨S8256x2816, .f32⟩
  | 21 => ⟨S8256x2816, .f32⟩
  | 22 => ⟨S8256x2816, .f32⟩
  | 23 => ⟨S8256x2816, .f32⟩
  | 24 => ⟨S8256x2816, .f32⟩
  | 25 => ⟨S8256x2816, .f32⟩
  | 26 => ⟨S8256x2816, .f32⟩
  | 27 => ⟨S8256x2816, .f32⟩
  | 28 => ⟨S8256x2816, .f32⟩
  | 29 => ⟨S_, .f32⟩
  | 30 => ⟨S1x2816, .f32⟩
  | 31 => ⟨S8256x2816, .f32⟩
  | 32 => ⟨S3x2816, .f32⟩
  | 33 => ⟨S_, .f32⟩
  | 34 => ⟨S2x2816, .f32⟩
  | 35 => ⟨S8258x2816, .f32⟩
  | 36 => ⟨S_, .f32⟩
  | 37 => ⟨S2x2816, .f32⟩
  | 38 => ⟨S8256x2816, .f32⟩
  | 39 => ⟨S1x2816, .f32⟩
  | 40 => ⟨S2816, .f32⟩
  | 41 => ⟨S1x2816, .f32⟩
  | 42 => ⟨S8256x2816, .f32⟩
  | 43 => ⟨S8256x2816, .f32⟩
  | 44 => ⟨S8256x2816, .f32⟩
  | 45 => ⟨S1x2816, .f32⟩
  | 46 => ⟨S2816, .f32⟩
  | 47 => ⟨S1x2816, .f32⟩
  | 48 => ⟨S8256x2816, .f32⟩
  | 49 => ⟨S8256x2816, .f32⟩
  | 50 => ⟨S8256x2816, .f32⟩
  | 51 => ⟨S8256x2816, .f32⟩
  | 52 => ⟨S1x2816, .f32⟩
  | 53 => ⟨S2816, .f32⟩
  | 54 => ⟨S1x2816, .f32⟩
  | 55 => ⟨S8256x2816, .f32⟩
  | 56 => ⟨S8256x2816, .f32⟩
  | 57 => ⟨S8256x2816, .f32⟩
  | 58 => ⟨S8256x2816, .f32⟩
  | 59 => ⟨S8256x2816, .f32⟩
  | 60 => ⟨S_, .f32⟩
  | 61 => ⟨S2816, .f32⟩
  | 62 => ⟨S1x2816, .f32⟩
  | 63 => ⟨S8256x2816, .f32⟩
  | 64 => ⟨S_, .f32⟩
  | 65 => ⟨S2816, .f32⟩
  | 66 => ⟨S1x2816, .f32⟩
  | 67 => ⟨S8256x2816, .f32⟩
  | 68 => ⟨S8256x2816, .f32⟩
  | 69 => ⟨S_, .f32⟩
  | 70 => ⟨S2816, .f32⟩
  | 71 => ⟨S1x2816, .f32⟩
  | 72 => ⟨S_, .f32⟩
  | 73 => ⟨S3x2816, .f32⟩
  | 74 => ⟨S_, .f32⟩
  | 75 => ⟨S8258x2816, .f32⟩
  | 76 => ⟨S8256x2816, .f32⟩
  | 77 => ⟨S_, .f32⟩
  | 78 => ⟨S2816, .f32⟩
  | 79 => ⟨S1x2816, .f32⟩
  | 80 => ⟨S8256x2816, .f32⟩
  | 81 => ⟨S8256x2816, .f32⟩
  | 82 => ⟨S_, .f32⟩
  | 83 => ⟨S2816, .f32⟩
  | 84 => ⟨S1x2816, .f32⟩
  | 85 => ⟨S_, .f32⟩
  | 86 => ⟨S3x2816, .f32⟩
  | 87 => ⟨S3x2816, .f32⟩
  | 88 => ⟨S_, .f32⟩
  | 89 => ⟨S8258x2816, .f32⟩
  | 90 => ⟨S8258x2816, .f32⟩
  | 91 => ⟨S8256x2816, .f32⟩
  | 92 => ⟨S_, .f32⟩
  | 93 => ⟨S2816, .f32⟩
  | 94 => ⟨S1x2816, .f32⟩
  | 95 => ⟨S8256x2816, .f32⟩
  | 96 => ⟨S8256x2816, .f32⟩
  | 97 => ⟨S_, .f32⟩
  | 98 => ⟨S2816, .f32⟩
  | 99 => ⟨S1x2816, .f32⟩
  | 100 => ⟨S_, .f32⟩
  | 101 => ⟨S3x2816, .f32⟩
  | 102 => ⟨S3x2816, .f32⟩
  | 103 => ⟨S_, .f32⟩
  | 104 => ⟨S8258x2816, .f32⟩
  | 105 => ⟨S8258x2816, .f32⟩
  | 106 => ⟨S2x2816, .f32⟩
  | 107 => ⟨S8256x2816, .f32⟩
  | 108 => ⟨S8256x2816, .f32⟩
  | 109 => ⟨S3x2816, .f32⟩
  | 110 => ⟨S_, .f32⟩
  | 111 => ⟨S2x2816, .f32⟩
  | 112 => ⟨S8258x2816, .f32⟩
  | 113 => ⟨S_, .f32⟩
  | 114 => ⟨S2x2816, .f32⟩
  | 115 => ⟨S8256x2816, .f32⟩
  | 116 => ⟨S1x2816, .f32⟩
  | 117 => ⟨S2816, .f32⟩
  | 118 => ⟨S1x2816, .f32⟩
  | 119 => ⟨S8256x2816, .f32⟩
  | 120 => ⟨S8256x2816, .f32⟩
  | 121 => ⟨S8256x2816, .f32⟩
  | 122 => ⟨S1x2816, .f32⟩
  | 123 => ⟨S2816, .f32⟩
  | 124 => ⟨S1x2816, .f32⟩
  | 125 => ⟨S8256x2816, .f32⟩
  | 126 => ⟨S8256x2816, .f32⟩
  | 127 => ⟨S8256x2816, .f32⟩
  | _ => ⟨S8256x2816, .bf16⟩

abbrev hbmTy0_1 (i : Nat) : BufTy := match i % 128 with
  | 0 => ⟨S8256x2816, .f32⟩
  | 1 => ⟨S1x2816, .f32⟩
  | 2 => ⟨S2816, .f32⟩
  | 3 => ⟨S1x2816, .f32⟩
  | 4 => ⟨S8256x2816, .f32⟩
  | 5 => ⟨S8256x2816, .f32⟩
  | 6 => ⟨S8256x2816, .f32⟩
  | 7 => ⟨S8256x2816, .f32⟩
  | 8 => ⟨S8256x2816, .f32⟩
  | 9 => ⟨S_, .f32⟩
  | 10 => ⟨S2816, .f32⟩
  | 11 => ⟨S1x2816, .f32⟩
  | 12 => ⟨S8256x2816, .f32⟩
  | 13 => ⟨S_, .f32⟩
  | 14 => ⟨S2816, .f32⟩
  | 15 => ⟨S1x2816, .f32⟩
  | 16 => ⟨S8256x2816, .f32⟩
  | 17 => ⟨S8256x2816, .f32⟩
  | 18 => ⟨S_, .f32⟩
  | 19 => ⟨S2816, .f32⟩
  | 20 => ⟨S1x2816, .f32⟩
  | 21 => ⟨S_, .f32⟩
  | 22 => ⟨S3x2816, .f32⟩
  | 23 => ⟨S_, .f32⟩
  | 24 => ⟨S8258x2816, .f32⟩
  | 25 => ⟨S8256x2816, .f32⟩
  | 26 => ⟨S_, .f32⟩
  | 27 => ⟨S2816, .f32⟩
  | 28 => ⟨S1x2816, .f32⟩
  | 29 => ⟨S8256x2816, .f32⟩
  | 30 => ⟨S8256x2816, .f32⟩
  | 31 => ⟨S_, .f32⟩
  | 32 => ⟨S2816, .f32⟩
  | 33 => ⟨S1x2816, .f32⟩
  | 34 => ⟨S_, .f32⟩
  | 35 => ⟨S3x2816, .f32⟩
  | 36 => ⟨S3x2816, .f32⟩
  | 37 => ⟨S_, .f32⟩
  | 38 => ⟨S8258x2816, .f32⟩
  | 39 => ⟨S8258x2816, .f32⟩
  | 40 => ⟨S8256x2816, .f32⟩
  | 41 => ⟨S_, .f32⟩
  | 42 => ⟨S2816, .f32⟩
  | 43 => ⟨S1x2816, .f32⟩
  | 44 => ⟨S8256x2816, .f32⟩
  | 45 => ⟨S8256x2816, .f32⟩
  | 46 => ⟨S_, .f32⟩
  | 47 => ⟨S2816, .f32⟩
  | 48 => ⟨S1x2816, .f32⟩
  | 49 => ⟨S_, .f32⟩
  | 50 => ⟨S3x2816, .f32⟩
  | 51 => ⟨S3x2816, .f32⟩
  | 52 => ⟨S_, .f32⟩
  | 53 => ⟨S8258x2816, .f32⟩
  | 54 => ⟨S8258x2816, .f32⟩
  | 55 => ⟨S2x2816, .f32⟩
  | 56 => ⟨S8256x2816, .f32⟩
  | 57 => ⟨S1x8256x2816, .f32⟩
  | 58 => ⟨S1x8256x2816, .f32⟩
  | 59 => ⟨S2x8256x2816, .f32⟩
  | 60 => ⟨S2x8256x2816, .bf16⟩
  | _ => ⟨S8256x2816, .bf16⟩

abbrev hbmTy (i : Nat) : BufTy := match i / 128 with
  | 0 => hbmTy0_0 i
  | 1 => hbmTy0_1 i
  | _ => ⟨S8256x2816, .bf16⟩

abbrev bufTy : (tb : Table) → Fin (tcTables nBuf tb) → BufTy
  | .hbm, ⟨i, _⟩ => hbmTy i
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_cst_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_17 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_18 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_19 : Ref sig .tc := ⟨.hbm, 146, rfl⟩
abbrev main_v106 : Ref sig .tc := ⟨.hbm, 147, rfl⟩
abbrev main_v107 : Ref sig .tc := ⟨.hbm, 148, rfl⟩
abbrev main_cst_20 : Ref sig .tc := ⟨.hbm, 149, rfl⟩
abbrev main_v108 : Ref sig .tc := ⟨.hbm, 150, rfl⟩
abbrev main_cst_21 : Ref sig .tc := ⟨.hbm, 151, rfl⟩
abbrev main_v109 : Ref sig .tc := ⟨.hbm, 152, rfl⟩
abbrev main_v110 : Ref sig .tc := ⟨.hbm, 153, rfl⟩
abbrev main_cst_22 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_23 : Ref sig .tc := ⟨.hbm, 159, rfl⟩
abbrev main_v115 : Ref sig .tc := ⟨.hbm, 160, rfl⟩
abbrev main_v116 : Ref sig .tc := ⟨.hbm, 161, rfl⟩
abbrev main_cst_24 : Ref sig .tc := ⟨.hbm, 162, rfl⟩
abbrev main_v117 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_26 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_27 : Ref sig .tc := ⟨.hbm, 174, rfl⟩
abbrev main_v126 : Ref sig .tc := ⟨.hbm, 175, rfl⟩
abbrev main_v127 : Ref sig .tc := ⟨.hbm, 176, rfl⟩
abbrev main_cst_28 : Ref sig .tc := ⟨.hbm, 177, rfl⟩
abbrev main_v128 : Ref sig .tc := ⟨.hbm, 178, rfl⟩
abbrev main_v129 : Ref sig .tc := ⟨.hbm, 179, rfl⟩
abbrev main_cst_29 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩

abbrev nD : Nat := 1
abbrev τ : Topo := Topo.v7x

variable {F : FTy → Type} [FloatOps F]
-- ==== Proof.Vocab.lean ====
module

public import proofs.«01_k».proof.Proof.Gen.KernelIdeal.Skeleton
public import Idealize.ShloMosaic.Lib.Pointwise
public import Idealize.ShloMosaic.Lib.Pipeline.ValueKit

@[expose] public section

/-! One chunk of the kernel's body as functions of the chunk's operands: a name for each value that a chunk (and each of
its four heads) computes, in the order of the body. -/

noncomputable section

namespace Cert.Gla

open Idealize.ShloMosaic Cert.KernelIdeal Cert.KernelIdeal.Gen

set_option maxRecDepth 16384

/-- The rows `64 c …` of a block of 192 rows of queries or keys. -/
theorem inb512 : ∀ c : Fin 3, ∀ a, (![64 * c.val, 0] : Fin 2 → Nat) a + S64x512.size a ≤ S192x512.size a := by decide
theorem slices512 : ∀ c : Fin 3, S192x512.Slices ![64 * c.val, 0] S64x512 := by decide
theorem inb1024 : ∀ (c : Fin 3) (h : Fin 4), ∀ a, (![64 * c.val, 256 * h.val] : Fin 2 → Nat) a + S64x256.size a ≤ S192x1024.size a := by decide
theorem inbSt : ∀ (c : Fin 3) (h : Fin 4), ∀ a, (![c.val, h.val, 0, 0] : Fin 4 → Nat) a + S1x1x256x128.size a ≤ S3x4x256x128.size a := by decide
theorem inbDs : ∀ (h : Fin 4), ∀ a, (![h.val, 0, 0] : Fin 3 → Nat) a + S1x256x128.size a ≤ S4x256x128.size a := by decide
theorem slicesHead : ∀ h : Fin 4, S64x512.Slices ![0, 128 * h.val] S64x128 := by decide
theorem slicesHead1 : ∀ h : Fin 4, S1x512.Slices ![0, 128 * h.val] S1x128 := by decide

/-- The triangle of ones on and below the diagonal. -/
def tri : FVec Ideal S64x64 .bf16 := k0_pay10
/-- The triangle of ones on and above the diagonal. -/
def triU : FVec Ideal S64x64 .bf16 := k0_pay11 (iota .tc S64x64 32 [0] iota_S64x64_d0_w32) (iota .tc S64x64 32 [1] iota_S64x64_d1_w32)
/-- Row `i` sees row `j` when `j ≤ i`. -/
def mask : IVec S64x64 1 := k0_pay9

def c0 (S : Shape) : FVec Ideal S .f32 := constant S .f32 0x00000000#32
def cst (S : Shape) (b : BitVec 32) : FVec Ideal S .f32 := broadcast S (Scalar.ofBits .f32 b : Ideal .f32)

/-- What the narrower format holds of a chunk, and what is left of the chunk. -/
def t1 (x : FVec Ideal S64x512 .f32) : FVec Ideal S64x512 .bf16 := truncf .bf16 x bitsLt_bf16_f32
def t2 (x : FVec Ideal S64x512 .f32) : FVec Ideal S64x512 .f32 := subf x (extf .f32 (t1 x) bitsLt_bf16_f32)
def t3 (x : FVec Ideal S64x512 .f32) : FVec Ideal S64x512 .bf16 := t1 (t2 (t2 x))

def mm (t : FVec Ideal S64x64 .bf16) (x : FVec Ideal S64x512 .bf16) : FVec Ideal S64x512 .f32 :=
  matmul dot_S64x64_S64x512_S64x512_1_0_0_1_n_n none t x (c0 S64x512)
def tm12 (t : FVec Ideal S64x64 .bf16) (x : FVec Ideal S64x512 .f32) : FVec Ideal S64x512 .f32 := addf (mm t (t1 x)) (mm t (t1 (t2 x)))
/-- A triangle times a chunk, the chunk cut into three parts. -/
def tmm (t : FVec Ideal S64x64 .bf16) (x : FVec Ideal S64x512 .f32) : FVec Ideal S64x512 .f32 := addf (tm12 t x) (mm t (t3 x))

/-- A chunk's operands. -/
structure In where
  /-- queries, as loaded -/
  q0 : FVec Ideal S64x512 .bf16
  /-- keys, as loaded -/
  k0 : FVec Ideal S64x512 .bf16
  /-- values of a head, as loaded -/
  v0 : Fin 4 → FVec Ideal S64x256 .bf16
  /-- the output's gradient of a head, as loaded -/
  g0 : Fin 4 → FVec Ideal S64x256 .f32
  /-- the state of a head before the chunk, as loaded -/
  st0 : Fin 4 → FVec Ideal S1x1x256x128 .f32
  /-- the log decays -/
  la : FVec Ideal S64x512 .f32
  /-- the gates before the sigmoid -/
  z : FVec Ideal S64x512 .f32
  /-- the gradient of the state of a head after the chunk -/
  ds : Fin 4 → FVec Ideal S256x128 .f32
  /-- the number of the chunk's first row -/
  row : BitVec 32

namespace In

variable (I : In)

def b : FVec Ideal S64x512 .f32 := tmm tri I.la
def bl : FVec Ideal S1x512 .f32 := extractStridedSlice S1x512 ![63, 0] I.b slices_S64x512_o63_0_S1x512
def eb : FVec Ideal S64x512 .f32 := exp I.b
def enb : FVec Ideal S64x512 .f32 := exp (subf (cst S64x512 0x00000000#32) I.b)
def ebl : FVec Ideal S64x512 .f32 := exp (subf (broadcastTo S64x512 I.bl broadcasts_S1x512_S64x512) I.b)
def dec : FVec Ideal S1x512 .f32 := exp I.bl
def q32 : FVec Ideal S64x512 .f32 :=
  mulf (extf .f32 (shapeCast S64x512 I.q0 shapeCasts_S64x512_S64x512) bitsLt_bf16_f32) (cst S64x512 0x3DB504F3#32)
def k32 : FVec Ideal S64x512 .f32 := extf .f32 (shapeCast S64x512 I.k0 shapeCasts_S64x512_S64x512) bitsLt_bf16_f32
def qd32 : FVec Ideal S64x512 .f32 := mulf I.q32 I.eb
def ki32 : FVec Ideal S64x512 .f32 := mulf I.k32 I.enb
def ke32 : FVec Ideal S64x512 .f32 := mulf I.k32 I.ebl
def qd : FVec Ideal S64x512 .bf16 := truncf .bf16 I.qd32 bitsLt_bf16_f32
def ki : FVec Ideal S64x512 .bf16 := truncf .bf16 I.ki32 bitsLt_bf16_f32
def ke : FVec Ideal S64x512 .bf16 := truncf .bf16 I.ke32 bitsLt_bf16_f32

/-- The columns of one head. -/
def hs (x : FVec Ideal S64x512 .bf16) (h : Fin 4) : FVec Ideal S64x128 .bf16 := extractStridedSlice S64x128 ![0, 128 * h.val] x (slicesHead h)

variable (h : Fin 4)

def v : FVec Ideal S64x256 .bf16 := shapeCast S64x256 (I.v0 h) shapeCasts_S64x256_S64x256
def g : FVec Ideal S64x256 .bf16 := truncf .bf16 (shapeCast S64x256 (I.g0 h) shapeCasts_S64x256_S64x256) bitsLt_bf16_f32
def st : FVec Ideal S256x128 .f32 := shapeCast S256x128 (I.st0 h) shapeCasts_S1x1x256x128_S256x128
def dsb : FVec Ideal S256x128 .bf16 := truncf .bf16 (I.ds h) bitsLt_bf16_f32
def att0 : FVec Ideal S64x64 .f32 := matmul dot_S64x128_S64x128_S64x64_1_1_0_0_n_n none (hs I.qd h) (hs I.ki h) (c0 S64x64)
def att : FVec Ideal S64x64 .bf16 := truncf .bf16 (select mask (I.att0 h) (cst S64x64 0x00000000#32)) bitsLt_bf16_f32
def datt1 : FVec Ideal S64x64 .f32 :=
  select mask (matmul dot_S64x256_S64x256_S64x64_1_1_0_0_n_n none (I.g h) (I.v h) (c0 S64x64)) (cst S64x64 0x00000000#32)
def datt : FVec Ideal S64x64 .bf16 := truncf .bf16 (I.datt1 h) bitsLt_bf16_f32
def dv : FVec Ideal S64x256 .bf16 :=
  truncf .bf16 (addf (matmul dot_S64x64_S64x256_S64x256_0_0_1_1_n_n none (I.att h) (I.g h) (c0 S64x256))
    (matmul dot_S64x128_S256x128_S64x256_1_1_0_0_n_n none (hs I.ke h) (I.dsb h) (c0 S64x256))) bitsLt_bf16_f32
def dqd1 : FVec Ideal S64x128 .f32 := matmul dot_S64x64_S64x128_S64x128_1_0_0_1_n_n none (I.datt h) (hs I.ki h) (c0 S64x128)
def dqd2 : FVec Ideal S64x128 .f32 :=
  matmul dot_S64x256_S256x128_S64x128_1_0_0_1_n_n none (I.g h) (truncf .bf16 (I.st h) bitsLt_bf16_f32) (c0 S64x128)
def dqdH : FVec Ideal S64x128 .f32 := addf (I.dqd1 h) (I.dqd2 h)
def dkiH : FVec Ideal S64x128 .f32 := matmul dot_S64x64_S64x128_S64x128_0_0_1_1_n_n none (I.datt h) (hs I.qd h) (c0 S64x128)
def dkeH : FVec Ideal S64x128 .f32 := matmul dot_S64x256_S256x128_S64x128_1_0_0_1_n_n none (I.v h) (I.dsb h) (c0 S64x128)
def ddecH : FVec Ideal S1x128 .f32 :=
  shapeCast S1x128 (multiReduction .add [0] S128 (mulf (I.st h) (I.ds h)) 0x00000000#32 reduces_S256x128_S128 (.inl rfl) rfl) shapeCasts_S128_S1x128
def dsA : FVec Ideal S256x128 .f32 := matmul dot_S64x256_S64x128_S256x128_0_0_1_1_n_n none (I.g h) (hs I.qd h) (c0 S256x128)
def dsB : FVec Ideal S256x128 .f32 :=
  mulf (I.ds h) (broadcastTo S256x128 (extractStridedSlice S1x128 ![0, 128 * h.val] I.dec (slicesHead1 h)) broadcasts_S1x128_S256x128)
/-- The gradient of the state of a head before the chunk. -/
def ds' : FVec Ideal S256x128 .f32 := addf (I.dsA h) (I.dsB h)

def cat (x : Fin 4 → FVec Ideal S64x128 .f32) : FVec Ideal S64x512 .f32 :=
  concatenate S64x512 1 [⟨S64x128, x 0⟩, ⟨S64x128, x 1⟩, ⟨S64x128, x 2⟩, ⟨S64x128, x 3⟩] concatenates_S64x128_S64x128_S64x128_S64x128_S64x512_d1
def dqd : FVec Ideal S64x512 .f32 := cat I.dqdH
def dki : FVec Ideal S64x512 .f32 := cat I.dkiH
def dke : FVec Ideal S64x512 .f32 := cat I.dkeH
def ddec : FVec Ideal S1x512 .f32 :=
  concatenate S1x512 1 [⟨S1x128, I.ddecH 0⟩, ⟨S1x128, I.ddecH 1⟩, ⟨S1x128, I.ddecH 2⟩, ⟨S1x128, I.ddecH 3⟩] concatenates_S1x128_S1x128_S1x128_S1x128_S1x512_d1
def dq : FVec Ideal S64x512 .bf16 := truncf .bf16 (mulf (mulf I.dqd I.eb) (cst S64x512 0x3DB504F3#32)) bitsLt_bf16_f32
def dk : FVec Ideal S64x512 .bf16 := truncf .bf16 (addf (mulf I.dki I.enb) (mulf I.dke I.ebl)) bitsLt_bf16_f32
def dkeke : FVec Ideal S64x512 .f32 := mulf I.dke I.ke32
def db : FVec Ideal S64x512 .f32 := subf (subf (mulf I.dqd I.qd32) (mulf I.dki I.ki32)) I.dkeke
def dbl : FVec Ideal S1x512 .f32 :=
  addf (shapeCast S1x512 (multiReduction .add [0] S512 I.dkeke 0x00000000#32 reduces_S64x512_S512 (.inl rfl) rfl) shapeCasts_S512_S1x512)
    (mulf I.ddec I.dec)
def dg : FVec Ideal S64x512 .f32 := addf (tmm triU I.db) (broadcastTo S64x512 I.dbl broadcasts_S1x512_S64x512)
/-- The chunk's rows from row 48 on. -/
def real : IVec S64x1 1 := cmpi .sge (addi (broadcast S64x1 I.row) (iota .tc S64x1 32 [0] iota_S64x1_d0_w32)) (broadcast S64x1 48#32)
def sigd : FVec Ideal S64x512 .f32 :=
  addf (cst S64x512 0x3F800000#32) (exp (subf (cst S64x512 0x00000000#32) (subf (cst S64x512 0x00000000#32) I.z)))
def sig : FVec Ideal S64x512 .f32 := divf (cst S64x512 0x3F800000#32) I.sigd
def dgs : FVec Ideal S64x512 .f32 := mulf I.dg (cst S64x512 0x3D800000#32)
def dz : FVec Ideal S64x512 .f32 :=
  select (broadcastTo S64x512 (shapeCast S64x1 I.real shapeCasts_S64x1_S64x1) broadcasts_S64x1_S64x512)
    (mulf I.dgs I.sig) (cst S64x512 0x00000000#32)

end In

/-! The three chunks of a block, last first. -/

section Block

variable (i : grid0.Coords) (x0 x1 : Vec Ideal S192x512 .bf16) (x2 : Vec Ideal S192x1024 .bf16) (x3 : Vec Ideal S192x128 .bf16)
  (x4 : Vec Ideal S128x512 .bf16) (x5 : Vec Ideal S1x512 .f32) (x6 : Vec Ideal S3x4x256x128 .f32) (x7 : Vec Ideal S192x1024 .f32)
  (s : Vec Ideal S4x256x128 .f32)

/-- The number of the block that the point works on. -/
def blkNo : BitVec 32 := Scalar.subi 42#32 (BitVec.ofNat 32 (i 0).val)

/-- A chunk's operands cut from the block's. -/
def mk (c : Fin 3) (ds : Fin 4 → FVec Ideal S256x128 .f32) : In where
  q0 := View.ld x0 (Rect.unit (s := S192x512) ![64 * c.val, 0] S64x512.size (inb512 c))
  k0 := View.ld x1 (Rect.unit (s := S192x512) ![64 * c.val, 0] S64x512.size (inb512 c))
  v0 h := View.ld x2 (Rect.unit (s := S192x1024) ![64 * c.val, 256 * h.val] S64x256.size (inb1024 c h))
  g0 h := View.ld x7 (Rect.unit (s := S192x1024) ![64 * c.val, 256 * h.val] S64x256.size (inb1024 c h))
  st0 h := View.ld x6 (Rect.unit (s := S3x4x256x128) ![c.val, h.val, 0, 0] S1x1x256x128.size (inbSt c h))
  la := extractStridedSlice S64x512 ![64 * c.val, 0] (k0_pay8 i x3 x4 x5) (slices512 c)
  z := extractStridedSlice S64x512 ![64 * c.val, 0] (k0_pay7 x3 x4 x5) (slices512 c)
  ds := ds
  row := Scalar.addi (Scalar.muli (blkNo i) 192#32) (BitVec.ofNat 32 (64 * c.val))

/-- The scratch's state gradient of a head. -/
def ds0 (h : Fin 4) : FVec Ideal S256x128 .f32 :=
  shapeCast S256x128 (View.ld s (Rect.unit (s := S4x256x128) ![h.val, 0, 0] S1x256x128.size (inbDs h))) shapeCasts_S1x256x128_S256x128

def in2 : In := mk i x0 x1 x2 x3 x4 x5 x6 x7 2 (ds0 s)
def in1 : In := mk i x0 x1 x2 x3 x4 x5 x6 x7 1 (in2 i x0 x1 x2 x3 x4 x5 x6 x7 s).ds'
def in0 : In := mk i x0 x1 x2 x3 x4 x5 x6 x7 0 (in1 i x0 x1 x2 x3 x4 x5 x6 x7 s).ds'

/-- The gates' gradient of the whole block. -/
def dzs : FVec Ideal S192x512 .f32 :=
  concatenate S192x512 0 [⟨S64x512, (in0 i x0 x1 x2 x3 x4 x5 x6 x7 s).dz⟩, ⟨S64x512, (in1 i x0 x1 x2 x3 x4 x5 x6 x7 s).dz⟩, ⟨S64x512, (in2 i x0 x1 x2 x3 x4 x5 x6 x7 s).dz⟩] concatenates_S64x512_S64x512_S64x512_S192x512_d0
def dzb : FVec Ideal S192x512 .bf16 := truncf .bf16 (dzs i x0 x1 x2 x3 x4 x5 x6 x7 s) bitsLt_bf16_f32

end Block

end Cert.Gla
-- ==== Proof.Math.lean ====
module

public import Mathlib.Analysis.SpecialFunctions.Exp
public import Mathlib.Analysis.SpecialFunctions.Log.Basic
public import Mathlib.Algebra.BigOperators.Intervals
public import Mathlib.Tactic.Ring
public import Mathlib.Tactic.Linarith

@[expose] public section

/-! The mathematics of the gradient of causal gated linear attention over the reals, for one head and one key column:
the chunked form with carried states equals the plain double sums over all rows. -/

namespace Cert.GlaMath

open Finset

/-- The running sum of the log decays of the rows before `n`. -/
def cum (la : ℕ → ℝ) (n : ℕ) : ℝ := ∑ r ∈ range n, la r

/-- The decay from row `s` to row `t`: zero when `s` lies after `t`. -/
noncomputable def E (la : ℕ → ℝ) (t s : ℕ) : ℝ := if s ≤ t then Real.exp (cum la (t + 1) - cum la (s + 1)) else 0

/-- What the rows before `lo` leave at `lo`. -/
noncomputable def St (la f : ℕ → ℝ) (lo : ℕ) : ℝ := ∑ s ∈ range lo, f s * Real.exp (cum la lo - cum la (s + 1))

/-- What the rows from `hi` on send back to `hi`. -/
noncomputable def Ds (M : ℕ) (la g : ℕ → ℝ) (hi : ℕ) : ℝ := ∑ t ∈ Ico hi M, g t * Real.exp (cum la (t + 1) - cum la hi)

theorem sum_fin (f : ℕ → ℝ) (lo : ℕ) : ∑ j : Fin 64, f (lo + j) = ∑ j ∈ Ico lo (lo + 64), f j := by
  rw [Fin.sum_univ_eq_sum_range (fun j => f (lo + j)) 64, sum_Ico_eq_sum_range]; simp

theorem sum_split {M lo : ℕ} (hM : lo + 64 ≤ M) (f : ℕ → ℝ) :
    ∑ s ∈ range M, f s = ∑ s ∈ range lo, f s + ∑ j : Fin 64, f (lo + j) + ∑ s ∈ Ico (lo + 64) M, f s := by
  rw [sum_fin, sum_range_add_sum_Ico f (by omega : lo ≤ lo + 64), sum_range_add_sum_Ico f hM]

/-- The sum of the log decays up to a row of the chunk, as the product with the triangle of ones. -/
theorem tri_sum (la : ℕ → ℝ) (lo : ℕ) (i : Fin 64) :
    ∑ j : Fin 64, (if j ≤ i then (1 : ℝ) else 0) * la (lo + j) = cum la (lo + i + 1) - cum la lo := by
  have h : ∀ j : Fin 64, (if j ≤ i then (1 : ℝ) else 0) * la (lo + j)
      = (fun r => if r ≤ lo + i then la r else 0) (lo + j) := fun j => by
    simp only [Fin.le_def, Nat.add_le_add_iff_left]; split <;> simp
  refine (sum_congr rfl fun j _ => h j).trans ((sum_fin (fun r => if r ≤ lo + i then la r else 0) lo).trans ?_)
  rw [cum, cum, ← sum_range_add_sum_Ico la (by omega : lo ≤ lo + i + 1),
    add_sub_cancel_left, ← sum_filter]
  refine sum_congr ?_ fun _ _ => rfl
  ext r; simp only [mem_filter, mem_Ico]; omega

/-- The sum from a row of the chunk to the chunk's end, as the product with the other triangle of ones. -/
theorem triu_sum (f : ℕ → ℝ) (lo : ℕ) (i : Fin 64) :
    ∑ j : Fin 64, (if i ≤ j then (1 : ℝ) else 0) * f (lo + j) = ∑ r ∈ Ico (lo + i) (lo + 64), f r := by
  have h : ∀ j : Fin 64, (if i ≤ j then (1 : ℝ) else 0) * f (lo + j)
      = (fun r => if lo + i ≤ r then f r else 0) (lo + j) := fun j => by
    simp only [Fin.le_def, Nat.add_le_add_iff_left]; split <;> simp
  refine (sum_congr rfl fun j _ => h j).trans ((sum_fin (fun r => if lo + i ≤ r then f r else 0) lo).trans ?_)
  rw [← sum_filter]
  refine sum_congr ?_ fun _ _ => rfl
  ext r; simp only [mem_filter, mem_Ico]; omega

/-- The state sent back across one chunk. -/
theorem ds_step {M lo : ℕ} (hM : lo + 64 ≤ M) (la g : ℕ → ℝ) :
    ∑ i : Fin 64, g (lo + i) * Real.exp (cum la (lo + i + 1) - cum la lo)
      + Ds M la g (lo + 64) * Real.exp (cum la (lo + 64) - cum la lo) = Ds M la g lo := by
  rw [sum_fin (fun t => g t * Real.exp (cum la (t + 1) - cum la lo)), Ds, Ds, sum_mul,
    ← sum_Ico_consecutive _ (by omega : lo ≤ lo + 64) hM]
  congr 1
  refine sum_congr rfl fun t _ => ?_
  rw [mul_assoc, ← Real.exp_add]; congr 2; ring

/-- The gradient of the query of a row: the chunk's own rows and the state before it. -/
theorem dq_sum {M lo : ℕ} (hM : lo + 64 ≤ M) (la y : ℕ → ℝ) (A : ℕ → ℝ) (i : Fin 64) :
    ((∑ j : Fin 64, (if j ≤ i then A (lo + j) else 0) * (y (lo + j) * Real.exp (-(cum la (lo + j + 1) - cum la lo))))
        + St la (fun s => A s * y s) lo) * Real.exp (cum la (lo + i + 1) - cum la lo)
      = ∑ s ∈ range M, A s * E la (lo + i) s * y s := by
  rw [sum_split hM, add_mul, sum_mul, St, sum_mul]
  have h3 : ∑ s ∈ Ico (lo + 64) M, A s * E la (lo + i) s * y s = 0 := sum_eq_zero fun s hs => by
    rw [mem_Ico] at hs; rw [E, if_neg (by omega)]; ring
  rw [h3, add_zero, add_comm]
  congr 1
  · refine sum_congr rfl fun s hs => ?_
    rw [mem_range] at hs
    rw [E, if_pos (by omega), mul_assoc, ← Real.exp_add, show cum la lo - cum la (s + 1) + (cum la (lo + i + 1) - cum la lo)
      = cum la (lo + i + 1) - cum la (s + 1) by ring]; ring
  · refine sum_congr rfl fun j _ => ?_
    by_cases hj : j ≤ i
    · rw [if_pos hj, E, if_pos (by simpa using hj), mul_assoc, mul_assoc, ← Real.exp_add,
        show -(cum la (lo + j + 1) - cum la lo) + (cum la (lo + i + 1) - cum la lo)
          = cum la (lo + i + 1) - cum la (lo + j + 1) by ring]; ring
    · rw [if_neg hj, E, if_neg (by simpa using hj)]; ring

/-- The gradient of the key of a row: the chunk's own rows and the state sent back to the chunk's end. -/
theorem dk_sum {M lo : ℕ} (hM : lo + 64 ≤ M) (la x : ℕ → ℝ) (A : ℕ → ℝ) (j : Fin 64) :
    (∑ i : Fin 64, (if j ≤ i then A (lo + i) else 0) * (x (lo + i) * Real.exp (cum la (lo + i + 1) - cum la lo)))
        * Real.exp (-(cum la (lo + j + 1) - cum la lo))
      + Ds M la (fun t => A t * x t) (lo + 64)
        * Real.exp (cum la (lo + 64) - cum la lo - (cum la (lo + j + 1) - cum la lo))
      = ∑ t ∈ range M, A t * E la t (lo + j) * x t := by
  rw [sum_split hM, sum_mul, Ds, sum_mul]
  have h3 : ∑ t ∈ range lo, A t * E la t (lo + j) * x t = 0 := sum_eq_zero fun t ht => by
    rw [mem_range] at ht; rw [E, if_neg (by omega)]; ring
  rw [h3, zero_add]
  congr 1
  · refine sum_congr rfl fun i _ => ?_
    by_cases hj : j ≤ i
    · rw [if_pos hj, E, if_pos (by simpa using hj), mul_assoc, mul_assoc, ← Real.exp_add,
        show cum la (lo + i + 1) - cum la lo + -(cum la (lo + j + 1) - cum la lo)
          = cum la (lo + i + 1) - cum la (lo + j + 1) by ring]; ring
    · rw [if_neg hj, E, if_neg (by simpa using hj)]; ring
  · refine sum_congr rfl fun t ht => ?_
    rw [mem_Ico] at ht
    rw [E, if_pos (by omega), mul_assoc, ← Real.exp_add,
      show cum la (t + 1) - cum la (lo + 64) + (cum la (lo + 64) - cum la lo - (cum la (lo + j + 1) - cum la lo))
        = cum la (t + 1) - cum la (lo + j + 1) by ring]; ring

/-- One term of the double sum whose row and column sums are the gradient of the running log decay. -/
noncomputable def P (la x y : ℕ → ℝ) (A : ℕ → ℕ → ℝ) (t s : ℕ) : ℝ := A t s * E la t s * y s * x t

/-- The gradient of the running log decay at row `p`. -/
noncomputable def dC (M : ℕ) (la x y : ℕ → ℝ) (A : ℕ → ℕ → ℝ) (p : ℕ) : ℝ :=
  ∑ s ∈ range M, P la x y A p s - ∑ t ∈ range M, P la x y A t p

/-- Summed over the rows from `hi` on, the gradient of the running log decay keeps the pairs that straddle `hi`. -/
theorem dC_tail {M hi : ℕ} (hM : hi ≤ M) (la x y : ℕ → ℝ) (A : ℕ → ℕ → ℝ) :
    ∑ p ∈ Ico hi M, dC M la x y A p = ∑ t ∈ Ico hi M, ∑ s ∈ range hi, P la x y A t s := by
  simp only [dC, sum_sub_distrib]
  have h1 : ∑ p ∈ Ico hi M, ∑ t ∈ range M, P la x y A t p = ∑ p ∈ Ico hi M, ∑ t ∈ Ico hi M, P la x y A t p := by
    refine sum_congr rfl fun p hp => ?_
    rw [mem_Ico] at hp
    rw [← sum_range_add_sum_Ico _ hM, add_eq_right]
    refine sum_eq_zero fun t ht => ?_
    rw [mem_range] at ht
    rw [P, E, if_neg (by omega)]; ring
  have h2 : ∑ p ∈ Ico hi M, ∑ s ∈ range M, P la x y A p s
      = ∑ p ∈ Ico hi M, ∑ s ∈ range hi, P la x y A p s + ∑ p ∈ Ico hi M, ∑ s ∈ Ico hi M, P la x y A p s := by
    rw [← sum_add_distrib]
    exact sum_congr rfl fun p _ => (sum_range_add_sum_Ico _ hM).symm
  rw [h1, h2, sum_comm (f := fun p t => P la x y A t p)]; ring

/-- The gradient that the chunk's last running log decay takes from the rows after the chunk: what the chunk's own keys
    send to them, and the decay of the state. -/
theorem dbl_sum {ι : Type*} [Fintype ι] {M lo : ℕ} (hM : lo + 64 ≤ M) (la x y : ℕ → ℝ) (g v : ι → ℕ → ℝ) (A : ℕ → ℕ → ℝ)
    (hA : ∀ t s, A t s = ∑ e, g e t * v e s) :
    ∑ j : Fin 64, (∑ e, v e (lo + j) * Ds M la (fun t => g e t * x t) (lo + 64))
          * (y (lo + j) * Real.exp (cum la (lo + 64) - cum la lo - (cum la (lo + j + 1) - cum la lo)))
      + (∑ e, St la (fun s => v e s * y s) lo * Ds M la (fun t => g e t * x t) (lo + 64)) * Real.exp (cum la (lo + 64) - cum la lo)
      = ∑ p ∈ Ico (lo + 64) M, dC M la x y A p := by
  rw [dC_tail hM, sum_comm, ← sum_range_add_sum_Ico _ (by omega : lo ≤ lo + 64), ← sum_fin, add_comm]
  have key : ∀ s < lo + 64, ∑ t ∈ Ico (lo + 64) M, P la x y A t s
      = (∑ e, v e s * Ds M la (fun t => g e t * x t) (lo + 64)) * (y s * Real.exp (cum la (lo + 64) - cum la (s + 1))) := by
    intro s hs
    simp only [Ds, mul_sum, sum_mul]
    rw [sum_comm]
    refine sum_congr rfl fun t ht => ?_
    rw [mem_Ico] at ht
    rw [P, E, if_pos (by omega), hA, sum_mul, sum_mul, sum_mul]
    refine sum_congr rfl fun e _ => ?_
    rw [show cum la (t + 1) - cum la (s + 1) = cum la (t + 1) - cum la (lo + 64) + (cum la (lo + 64) - cum la (s + 1)) by ring,
      Real.exp_add]; ring
  congr 1
  · rw [sum_congr rfl fun s hs => key s (by rw [mem_range] at hs; omega)]
    simp only [St, sum_mul]
    rw [sum_comm]
    refine sum_congr rfl fun s _ => ?_
    refine sum_congr rfl fun e _ => ?_
    rw [show cum la (lo + 64) - cum la (s + 1) = cum la lo - cum la (s + 1) + (cum la (lo + 64) - cum la lo) by ring,
      Real.exp_add]; ring
  · refine sum_congr rfl fun j _ => ?_
    rw [key (lo + j) (by omega)]; congr 3; ring_nf

/-- The gradient of the value of a row: the chunk's own rows and the state sent back to the chunk's end. -/
theorem dv_sum {ι : Type*} [Fintype ι] {M lo : ℕ} (hM : lo + 64 ≤ M) (la x y : ι → ℕ → ℝ) (g : ℕ → ℝ) (j : Fin 64) :
    ∑ i : Fin 64, (if j ≤ i then ∑ d, (x d (lo + i) * Real.exp (cum (la d) (lo + i + 1) - cum (la d) lo))
          * (y d (lo + j) * Real.exp (-(cum (la d) (lo + j + 1) - cum (la d) lo))) else 0) * g (lo + i)
      + ∑ d, (y d (lo + j) * Real.exp (cum (la d) (lo + 64) - cum (la d) lo - (cum (la d) (lo + j + 1) - cum (la d) lo)))
          * Ds M (la d) (fun t => g t * x d t) (lo + 64)
      = ∑ t ∈ range M, g t * ∑ d, x d t * y d (lo + j) * E (la d) t (lo + j) := by
  have h : ∀ d, (∑ i : Fin 64, (if j ≤ i then g (lo + i) else 0) * (x d (lo + i) * Real.exp (cum (la d) (lo + i + 1) - cum (la d) lo)))
        * Real.exp (-(cum (la d) (lo + j + 1) - cum (la d) lo))
      + Ds M (la d) (fun t => g t * x d t) (lo + 64)
        * Real.exp (cum (la d) (lo + 64) - cum (la d) lo - (cum (la d) (lo + j + 1) - cum (la d) lo))
      = ∑ t ∈ range M, g t * E (la d) t (lo + j) * x d t := fun d => dk_sum hM (la d) (x d) g j
  calc _ = ∑ d, y d (lo + j) * ∑ t ∈ range M, g t * E (la d) t (lo + j) * x d t := by
        simp only [← h, mul_add, sum_add_distrib]
        congr 1
        · simp only [mul_sum, sum_mul]
          rw [sum_comm]
          refine sum_congr rfl fun i _ => ?_
          by_cases hj : j ≤ i
          · simp only [if_pos hj, sum_mul]
            exact sum_congr rfl fun d _ => by ring
          · simp only [if_neg hj]; simp
        · exact sum_congr rfl fun d _ => by ring
    _ = _ := by
        simp only [mul_sum]
        rw [sum_comm]
        exact sum_congr rfl fun t _ => sum_congr rfl fun d _ => by ring

end Cert.GlaMath

end
-- ==== Proof.Lift1.lean ====
module

public import proofs.«01_k».proof.Proof.Vocab
public import proofs.«01_k».proof.Proof.Math

@[expose] public section

/-! One chunk of the kernel's body over the reals: the triangles, the running decay and the scaled operands. -/

noncomputable section

namespace Cert.Gla

open Idealize.ShloMosaic Cert.KernelIdeal Cert.KernelIdeal.Gen Cert.GlaMath Finset

set_option maxRecDepth 16384

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

theorem exp_coe (x : ℝ) : Ideal.exp (x : EReal) = ((Real.exp x : ℝ) : EReal) := rfl
theorem coe_ite (p : Prop) [Decidable p] (x y : ℝ) : (if p then (x : EReal) else (y : EReal)) = ((if p then x else y : ℝ) : EReal) := by
  split <;> rfl

theorem mask_at (i j : Fin 64) : mask (ix2 i j) = if j ≤ i then 1#1 else 0#1 := by
  revert i j; decide +kernel

theorem sitofp_eq (b : BitVec 32) : (FloatOps.sitofp (F := Ideal) FTy.f32 b : EReal) = ((b.toInt : ℝ) : EReal) := rfl

theorem tri_at (i j : Fin 64) : tri (ix2 i j) = ((if j ≤ i then 1 else 0 : ℝ) : EReal) := by
  pointwise [tri, k0_pay10]
  have e : k0_pay9 (ix2 i j) = _ := mask_at i j
  rw [e]
  rw [sitofp_eq]
  split <;> simp

theorem sle_at (i j : Fin 64) : IntOp.cmpi CmpIPredicate.sle (BitVec.ofNat 32 i) (BitVec.ofNat 32 j) = if i ≤ j then 1#1 else 0#1 := by
  revert i j; decide +kernel

theorem triU_at (i j : Fin 64) : triU (ix2 i j) = ((if i ≤ j then 1 else 0 : ℝ) : EReal) := by
  pointwise [triU, k0_pay11]
  rw [sle_at]
  rw [sitofp_eq]
  split <;> simp

theorem tmm_at (t : FVec Ideal S64x64 .bf16) (x : FVec Ideal S64x512 .f32) (w : Fin 64 → Fin 64 → ℝ) (c : Fin 512) (f : Fin 64 → ℝ)
    (ht : ∀ i j, t (ix2 i j) = (w i j : EReal)) (hx : ∀ i, x (ix2 i c) = (f i : EReal)) (i : Fin 64) :
    tmm t x (ix2 i c) = ((∑ j, w i j * f j : ℝ) : EReal) := by
  pointwise [tmm, tm12, mm, t1, t2, t3, c0]
  simp only [ht, hx, ← EReal.coe_sub, ← EReal.coe_mul, coe_sum, ← EReal.coe_add]
  simp

/-- The scale of the queries. -/
def sc : ℝ := (11863283 : ℝ) * (2 : ℝ) ^ (-27 : ℤ)

theorem sc_eq : Ideal.ofBits .f32 0x3DB504F3#32 = (sc : EReal) := by
  simp [Ideal.ofBits, Ideal.ieee, sc]

theorem sixteenth_eq : Ideal.ofBits .f32 0x3D800000#32 = ((1 / 16 : ℝ) : EReal) := by
  simp [Ideal.ofBits, Ideal.ieee, -EReal.coe_mul]; norm_num

/-- What a chunk's operands are, over the reals: the rows `lo …` of the arrays, the state that the rows before leave, and the
    state's gradient that the rows after send back. -/
structure Rep (I : In) (M lo : ℕ) (q k v g la z : ℕ → ℕ → ℝ) : Prop where
  hM : lo + 64 ≤ M
  q0 : ∀ (r : Fin 64) (c : Fin 512), I.q0 (ix2 r c) = (q (lo + r) c : EReal)
  k0 : ∀ (r : Fin 64) (c : Fin 512), I.k0 (ix2 r c) = (k (lo + r) c : EReal)
  v0 : ∀ (h : Fin 4) (r : Fin 64) (e : Fin 256), I.v0 h (ix2 r e) = (v (lo + r) (256 * h + e) : EReal)
  g0 : ∀ (h : Fin 4) (r : Fin 64) (e : Fin 256), I.g0 h (ix2 r e) = (g (lo + r) (256 * h + e) : EReal)
  st0 : ∀ (h : Fin 4) (e : Fin 256) (d : Fin 128), I.st0 h (ix4 (0 : Fin 1) (0 : Fin 1) e d)
    = (St (fun r => la r (128 * h + d)) (fun s => v s (256 * h + e) * k s (128 * h + d)) lo : EReal)
  ds : ∀ (h : Fin 4) (e : Fin 256) (d : Fin 128), I.ds h (ix2 e d)
    = (Ds M (fun r => la r (128 * h + d)) (fun t => g t (256 * h + e) * (q t (128 * h + d) * sc)) (lo + 64) : EReal)
  la : ∀ (r : Fin 64) (c : Fin 512), I.la (ix2 r c) = (la (lo + r) c : EReal)
  z : ∀ (r : Fin 64) (c : Fin 512), I.z (ix2 r c) = (z (lo + r) c : EReal)

/-- The column `d` of head `h`. -/
abbrev col (h : Fin 4) (d : Fin 128) : Fin 512 := ⟨128 * h + d, by omega⟩

theorem hs_at (x : FVec Ideal S64x512 .bf16) (h : Fin 4) (r : Fin 64) (d : Fin 128) : In.hs x h (ix2 r d) = x (ix2 r (col h d)) := by
  pointwise [In.hs]

namespace Rep

variable {I : In} {M lo : ℕ} {q k v g la z : ℕ → ℕ → ℝ} (R : Rep I M lo q k v g la z)
include R

theorem b (r : Fin 64) (c : Fin 512) :
    I.b (ix2 r c) = ((cum (fun s => la s c) (lo + r + 1) - cum (fun s => la s c) lo : ℝ) : EReal) := by
  rw [← tri_sum (fun s => la s c) lo r]
  exact tmm_at tri I.la _ c (fun i => la (lo + i) c) tri_at (fun i => R.la i c) r

theorem bl (c : Fin 512) : I.bl (ix2 (0 : Fin 1) c) = ((cum (fun s => la s c) (lo + 64) - cum (fun s => la s c) lo : ℝ) : EReal) := by
  pointwise [In.bl]
  exact R.b 63 c

theorem eb (r : Fin 64) (c : Fin 512) :
    I.eb (ix2 r c) = ((Real.exp (cum (fun s => la s c) (lo + r + 1) - cum (fun s => la s c) lo) : ℝ) : EReal) := by
  pointwise [In.eb]
  rw [R.b, exp_coe]

theorem enb (r : Fin 64) (c : Fin 512) :
    I.enb (ix2 r c) = ((Real.exp (-(cum (fun s => la s c) (lo + r + 1) - cum (fun s => la s c) lo)) : ℝ) : EReal) := by
  pointwise [In.enb, cst]
  rw [R.b, zero_sub, ← EReal.coe_neg, exp_coe]

theorem ebl (r : Fin 64) (c : Fin 512) :
    I.ebl (ix2 r c) = ((Real.exp (cum (fun s => la s c) (lo + 64) - cum (fun s => la s c) lo
      - (cum (fun s => la s c) (lo + r + 1) - cum (fun s => la s c) lo)) : ℝ) : EReal) := by
  pointwise [In.ebl]
  rw [R.b, R.bl, ← EReal.coe_sub, exp_coe]

theorem dec (c : Fin 512) : I.dec (ix2 (0 : Fin 1) c)
    = ((Real.exp (cum (fun s => la s c) (lo + 64) - cum (fun s => la s c) lo) : ℝ) : EReal) := by
  pointwise [In.dec]
  rw [R.bl, exp_coe]

theorem q32 (r : Fin 64) (c : Fin 512) : I.q32 (ix2 r c) = ((q (lo + r) c * sc : ℝ) : EReal) := by
  pointwise [In.q32, cst]
  rw [R.q0, sc_eq, ← EReal.coe_mul]

theorem k32 (r : Fin 64) (c : Fin 512) : I.k32 (ix2 r c) = ((k (lo + r) c : ℝ) : EReal) := by
  pointwise [In.k32]
  rw [R.k0]

theorem qd32 (r : Fin 64) (c : Fin 512) : I.qd32 (ix2 r c)
    = ((q (lo + r) c * sc * Real.exp (cum (fun s => la s c) (lo + r + 1) - cum (fun s => la s c) lo) : ℝ) : EReal) := by
  pointwise [In.qd32]
  rw [R.q32, R.eb, ← EReal.coe_mul]

theorem ki32 (r : Fin 64) (c : Fin 512) : I.ki32 (ix2 r c)
    = ((k (lo + r) c * Real.exp (-(cum (fun s => la s c) (lo + r + 1) - cum (fun s => la s c) lo)) : ℝ) : EReal) := by
  pointwise [In.ki32]
  rw [R.k32, R.enb, ← EReal.coe_mul]

theorem ke32 (r : Fin 64) (c : Fin 512) : I.ke32 (ix2 r c)
    = ((k (lo + r) c * Real.exp (cum (fun s => la s c) (lo + 64) - cum (fun s => la s c) lo
      - (cum (fun s => la s c) (lo + r + 1) - cum (fun s => la s c) lo)) : ℝ) : EReal) := by
  pointwise [In.ke32]
  rw [R.k32, R.ebl, ← EReal.coe_mul]

theorem qd (h : Fin 4) (r : Fin 64) (d : Fin 128) : In.hs I.qd h (ix2 r d)
    = ((q (lo + r) (128 * h + d) * sc * Real.exp (cum (fun s => la s (128 * h + d)) (lo + r + 1) - cum (fun s => la s (128 * h + d)) lo) : ℝ) : EReal) := by
  rw [hs_at]
  pointwise [In.qd]
  rw [R.qd32]

theorem ki (h : Fin 4) (r : Fin 64) (d : Fin 128) : In.hs I.ki h (ix2 r d)
    = ((k (lo + r) (128 * h + d) * Real.exp (-(cum (fun s => la s (128 * h + d)) (lo + r + 1) - cum (fun s => la s (128 * h + d)) lo)) : ℝ) : EReal) := by
  rw [hs_at]
  pointwise [In.ki]
  rw [R.ki32]

theorem ke (h : Fin 4) (r : Fin 64) (d : Fin 128) : In.hs I.ke h (ix2 r d)
    = ((k (lo + r) (128 * h + d) * Real.exp (cum (fun s => la s (128 * h + d)) (lo + 64) - cum (fun s => la s (128 * h + d)) lo
      - (cum (fun s => la s (128 * h + d)) (lo + r + 1) - cum (fun s => la s (128 * h + d)) lo)) : ℝ) : EReal) := by
  rw [hs_at]
  pointwise [In.ke]
  rw [R.ke32]

theorem vv (h : Fin 4) (r : Fin 64) (e : Fin 256) : I.v h (ix2 r e) = (v (lo + r) (256 * h + e) : EReal) := by
  pointwise [In.v]
  rw [R.v0]

theorem gg (h : Fin 4) (r : Fin 64) (e : Fin 256) : I.g h (ix2 r e) = (g (lo + r) (256 * h + e) : EReal) := by
  pointwise [In.g]
  rw [R.g0]

theorem st (h : Fin 4) (e : Fin 256) (d : Fin 128) : I.st h (ix2 e d)
    = (St (fun r => la r (128 * h + d)) (fun s => v s (256 * h + e) * k s (128 * h + d)) lo : EReal) := by
  pointwise [In.st]
  rw [R.st0]

theorem dsb (h : Fin 4) (e : Fin 256) (d : Fin 128) : I.dsb h (ix2 e d)
    = (Ds M (fun r => la r (128 * h + d)) (fun t => g t (256 * h + e) * (q t (128 * h + d) * sc)) (lo + 64) : EReal) := by
  pointwise [In.dsb]
  rw [R.ds]

end Rep

end Cert.Gla
-- ==== Proof.Lift2.lean ====
module

public import proofs.«01_k».proof.Proof.Lift1

@[expose] public section

/-! One chunk of the kernel's body over the reals: the heads. -/

noncomputable section

namespace Cert.Gla

open Idealize.ShloMosaic Cert.KernelIdeal Cert.KernelIdeal.Gen Cert.GlaMath Finset

set_option maxRecDepth 16384

/-- The gradient of the attention of row `t` on row `s`, in a head. -/
abbrev AA (g v : ℕ → ℕ → ℝ) (h : Fin 4) (t s : ℕ) : ℝ := ∑ e : Fin 256, g t (256 * h + e) * v s (256 * h + e)

theorem cat_at (x : Fin 4 → FVec Ideal S64x128 .f32) (h : Fin 4) (r : Fin 64) (d : Fin 128) :
    In.cat x (ix2 r (col h d)) = x h (ix2 r d) := by
  fin_cases h
  all_goals
    pointwise [In.cat]
  all_goals
    have hd := d.isLt
    repeat' split
    all_goals first | (exfalso; omega) | (congr 2; exact Fin.ext (by simp; omega)) | rfl

theorem ddec_at (I : In) (h : Fin 4) (d : Fin 128) : I.ddec (ix2 (0 : Fin 1) (col h d)) = I.ddecH h (ix2 (0 : Fin 1) d) := by
  fin_cases h
  all_goals
    pointwise [In.ddec]
  all_goals
    have hd := d.isLt
    repeat' split
    all_goals first | (exfalso; omega) | (congr 2; exact Fin.ext (by simp; omega)) | rfl

theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem sge_at : ∀ n : Fin 8256, IntOp.cmpi CmpIPredicate.sge (BitVec.ofNat 32 n) 48#32 = if 48 ≤ n.val then 1#1 else 0#1 := by
  decide +kernel

namespace Rep

variable {I : In} {M lo : ℕ} {q k v g la z : ℕ → ℕ → ℝ} (R : Rep I M lo q k v g la z)
include R

theorem att (h : Fin 4) (i j : Fin 64) : I.att h (ix2 i j) = ((if j ≤ i then ∑ d : Fin 128,
    (q (lo + i) (128 * h + d) * sc * Real.exp (cum (fun s => la s (128 * h + d)) (lo + i + 1) - cum (fun s => la s (128 * h + d)) lo))
      * (k (lo + j) (128 * h + d) * Real.exp (-(cum (fun s => la s (128 * h + d)) (lo + j + 1) - cum (fun s => la s (128 * h + d)) lo)))
    else 0 : ℝ) : EReal) := by
  pointwise [In.att, In.att0, cst, c0]
  simp only [mask_at, R.qd, R.ki, ← EReal.coe_mul, coe_sum]
  split <;> rfl

theorem datt (h : Fin 4) (i j : Fin 64) : I.datt h (ix2 i j) = ((if j ≤ i then AA g v h (lo + i) (lo + j) else 0 : ℝ) : EReal) := by
  pointwise [In.datt, In.datt1, cst, c0]
  simp only [mask_at, R.gg, R.vv, ← EReal.coe_mul, coe_sum]
  split <;> rfl

theorem dv (h : Fin 4) (j : Fin 64) (e : Fin 256) : I.dv h (ix2 j e) = ((∑ t ∈ range M, g t (256 * h + e) * ∑ d : Fin 128,
    q t (128 * h + d) * sc * k (lo + j) (128 * h + d) * E (fun s => la s (128 * h + d)) t (lo + j) : ℝ) : EReal) := by
  rw [← dv_sum R.hM (fun d : Fin 128 => fun s => la s (128 * h + d)) (fun d t => q t (128 * h + d) * sc) (fun d t => k t (128 * h + d))
    (fun t => g t (256 * h + e)) j]
  pointwise [In.dv, c0]
  simp only [R.att, R.gg, R.ke, R.dsb, ← EReal.coe_mul, coe_sum, ← EReal.coe_add]

theorem dqdH (h : Fin 4) (r : Fin 64) (d : Fin 128) : I.dqdH h (ix2 r d)
    = (((∑ j : Fin 64, (if j ≤ r then AA g v h (lo + r) (lo + j) else 0)
        * (k (lo + j) (128 * h + d) * Real.exp (-(cum (fun s => la s (128 * h + d)) (lo + j + 1) - cum (fun s => la s (128 * h + d)) lo))))
      + St (fun s => la s (128 * h + d)) (fun s => AA g v h (lo + r) s * k s (128 * h + d)) lo : ℝ) : EReal) := by
  pointwise [In.dqdH, In.dqd1, In.dqd2, c0]
  simp only [R.datt, R.gg, R.st, R.ki, ← EReal.coe_mul, coe_sum, ← EReal.coe_add]
  congr 2
  simp only [St, mul_sum, sum_mul]
  rw [sum_comm]
  exact sum_congr rfl fun s _ => sum_congr rfl fun e _ => by ring

theorem dkiH (h : Fin 4) (j : Fin 64) (d : Fin 128) : I.dkiH h (ix2 j d)
    = ((∑ i : Fin 64, (if j ≤ i then AA g v h (lo + i) (lo + j) else 0)
        * (q (lo + i) (128 * h + d) * sc * Real.exp (cum (fun s => la s (128 * h + d)) (lo + i + 1) - cum (fun s => la s (128 * h + d)) lo)) : ℝ) : EReal) := by
  pointwise [In.dkiH, c0]
  simp only [R.datt, R.qd, ← EReal.coe_mul, coe_sum, ← EReal.coe_add]

theorem dkeH (h : Fin 4) (j : Fin 64) (d : Fin 128) : I.dkeH h (ix2 j d)
    = ((∑ e : Fin 256, v (lo + j) (256 * h + e) * Ds M (fun r => la r (128 * h + d)) (fun t => g t (256 * h + e) * (q t (128 * h + d) * sc)) (lo + 64) : ℝ) : EReal) := by
  pointwise [In.dkeH, c0]
  simp only [R.vv, R.dsb, ← EReal.coe_mul, coe_sum, ← EReal.coe_add]

omit R in
theorem dke_eq (M lo : ℕ) (q v g la : ℕ → ℕ → ℝ) (h : Fin 4) (j : Fin 64) (d : Fin 128) :
    ∑ e : Fin 256, v (lo + j) (256 * h + e) * Ds M (fun r => la r (128 * h + d)) (fun t => g t (256 * h + e) * (q t (128 * h + d) * sc)) (lo + 64)
    = Ds M (fun r => la r (128 * h + d)) (fun t => AA g v h t (lo + j) * (q t (128 * h + d) * sc)) (lo + 64) := by
  simp only [Ds, mul_sum, sum_mul]
  rw [sum_comm]
  exact sum_congr rfl fun s _ => sum_congr rfl fun e _ => by ring

theorem ddecH (h : Fin 4) (d : Fin 128) : I.ddecH h (ix2 (0 : Fin 1) d)
    = ((∑ e : Fin 256, St (fun r => la r (128 * h + d)) (fun s => v s (256 * h + e) * k s (128 * h + d)) lo
      * Ds M (fun r => la r (128 * h + d)) (fun t => g t (256 * h + e) * (q t (128 * h + d) * sc)) (lo + 64) : ℝ) : EReal) := by
  pointwise [In.ddecH]
  simp only [R.st, R.ds, ← EReal.coe_mul, coe_sum, ← EReal.coe_add]

theorem ds' (h : Fin 4) (e : Fin 256) (d : Fin 128) : I.ds' h (ix2 e d)
    = (Ds M (fun r => la r (128 * h + d)) (fun t => g t (256 * h + e) * (q t (128 * h + d) * sc)) lo : EReal) := by
  rw [← ds_step R.hM]
  pointwise [In.ds', In.dsA, In.dsB, c0]
  simp only [R.gg, R.qd, R.ds, R.dec, ← EReal.coe_mul, coe_sum, ← EReal.coe_add, mul_assoc]

/-- The column of a query's gradient in a head, and the pieces that the other gradients take of it. -/
theorem dqd_eb (h : Fin 4) (r : Fin 64) (d : Fin 128) : I.dqd (ix2 r (col h d)) * I.eb (ix2 r (col h d))
    = ((∑ s ∈ range M, AA g v h (lo + r) s * E (fun s => la s (128 * h + d)) (lo + r) s * k s (128 * h + d) : ℝ) : EReal) := by
  rw [← dq_sum R.hM, In.dqd, cat_at, R.dqdH, R.eb, ← EReal.coe_mul]

theorem dq (h : Fin 4) (r : Fin 64) (d : Fin 128) : I.dq (ix2 r (col h d))
    = (((∑ s ∈ range M, AA g v h (lo + r) s * E (fun s => la s (128 * h + d)) (lo + r) s * k s (128 * h + d)) * sc : ℝ) : EReal) := by
  pointwise [In.dq, cst]
  rw [R.dqd_eb, sc_eq, ← EReal.coe_mul]

theorem dk_sum (h : Fin 4) (j : Fin 64) (d : Fin 128) :
    I.dki (ix2 j (col h d)) * I.enb (ix2 j (col h d)) + I.dke (ix2 j (col h d)) * I.ebl (ix2 j (col h d))
    = ((∑ t ∈ range M, AA g v h t (lo + j) * E (fun s => la s (128 * h + d)) t (lo + j) * (q t (128 * h + d) * sc) : ℝ) : EReal) := by
  rw [← GlaMath.dk_sum R.hM (fun s => la s (128 * h + d)) (fun t => q t (128 * h + d) * sc) (fun t => AA g v h t (lo + j)), ← dke_eq,
    In.dki, In.dke, cat_at, cat_at, R.dkiH, R.dkeH, R.enb, R.ebl, ← EReal.coe_mul, ← EReal.coe_mul, ← EReal.coe_add]

theorem dk (h : Fin 4) (j : Fin 64) (d : Fin 128) : I.dk (ix2 j (col h d))
    = ((∑ t ∈ range M, AA g v h t (lo + j) * E (fun s => la s (128 * h + d)) t (lo + j) * (q t (128 * h + d) * sc) : ℝ) : EReal) := by
  rw [← R.dk_sum]
  pointwise [In.dk]

/-- The gradient of the running log decay. -/
abbrev DC (M : ℕ) (q k v g la : ℕ → ℕ → ℝ) (h : Fin 4) (d : Fin 128) (p : ℕ) : ℝ :=
  dC M (fun s => la s (128 * h + d)) (fun t => q t (128 * h + d) * sc) (fun s => k s (128 * h + d)) (AA g v h) p

theorem db (h : Fin 4) (r : Fin 64) (d : Fin 128) : I.db (ix2 r (col h d)) = (DC M q k v g la h d (lo + r) : EReal) := by
  have hq := R.dqd_eb h r d
  have hk := R.dk_sum h r d
  have e1 := R.eb r (col h d)
  have e2 := R.enb r (col h d)
  have e3 := R.ebl r (col h d)
  have e4 : I.dqd (ix2 r (col h d)) = _ := (cat_at I.dqdH h r d).trans (R.dqdH h r d)
  have e5 : I.dki (ix2 r (col h d)) = _ := (cat_at I.dkiH h r d).trans (R.dkiH h r d)
  have e6 : I.dke (ix2 r (col h d)) = _ := (cat_at I.dkeH h r d).trans (R.dkeH h r d)
  rw [e1, e4, ← EReal.coe_mul, EReal.coe_eq_coe_iff] at hq
  rw [e2, e3, e5, e6, ← EReal.coe_mul, ← EReal.coe_mul, ← EReal.coe_add, EReal.coe_eq_coe_iff] at hk
  pointwise [In.db, In.dkeke]
  rw [R.qd32, R.ki32, R.ke32, e4, e5, e6]
  simp only [← EReal.coe_mul, ← EReal.coe_sub]
  rw [EReal.coe_eq_coe_iff, DC, dC]
  simp only [GlaMath.P, ← sum_mul]
  rw [← hq]
  have hk' : ∑ t ∈ range M, AA g v h t (lo + r) * E (fun s => la s (128 * h + d)) t (lo + r) * k (lo + r) (128 * h + d) * (q t (128 * h + d) * sc)
      = (∑ t ∈ range M, AA g v h t (lo + r) * E (fun s => la s (128 * h + d)) t (lo + r) * (q t (128 * h + d) * sc)) * k (lo + r) (128 * h + d) := by
    rw [sum_mul]; exact sum_congr rfl fun t _ => by ring
  rw [hk', ← hk]
  ring

theorem dbl (h : Fin 4) (d : Fin 128) : I.dbl (ix2 (0 : Fin 1) (col h d)) = ((∑ p ∈ Ico (lo + 64) M, DC M q k v g la h d p : ℝ) : EReal) := by
  rw [← dbl_sum R.hM _ _ _ (fun (e : Fin 256) t => g t (256 * h + e)) (fun e s => v s (256 * h + e)) (AA g v h) (fun _ _ => rfl)]
  have e6 : ∀ r, I.dke (ix2 r (col h d)) = _ := fun r => (cat_at I.dkeH h r d).trans (R.dkeH h r d)
  pointwise [In.dbl, In.dkeke]
  rw [ddec_at, R.ddecH, R.dec]
  simp only [R.ke32, e6, ← EReal.coe_mul, coe_sum, ← EReal.coe_add]

theorem dg (h : Fin 4) (r : Fin 64) (d : Fin 128) : I.dg (ix2 r (col h d)) = ((∑ p ∈ Ico (lo + r) M, DC M q k v g la h d p : ℝ) : EReal) := by
  have hr := r.isLt
  have hM := R.hM
  rw [← sum_Ico_consecutive _ (by omega : lo + r ≤ lo + 64) hM, ← triu_sum]
  pointwise [In.dg]
  rw [R.dbl, EReal.coe_add]
  congr 1
  exact tmm_at triU I.db _ (col h d) (fun i => DC M q k v g la h d (lo + i)) triU_at (fun i => R.db h i d) r

theorem sig (r : Fin 64) (c : Fin 512) : I.sig (ix2 r c) = ((1 / (1 + Real.exp (z (lo + r) c)) : ℝ) : EReal) := by
  pointwise [In.sig, In.sigd, cst]
  rw [R.z, zero_sub, zero_sub, neg_neg, exp_coe, ← EReal.coe_one, ← EReal.coe_add, div_coe _ _ (by positivity)]

theorem dz (h : Fin 4) (r : Fin 64) (d : Fin 128) (hrow : I.row = BitVec.ofNat 32 lo) (hlo : lo + 64 ≤ 8256) : I.dz (ix2 r (col h d))
    = ((if 48 ≤ lo + r then (∑ p ∈ Ico (lo + r) M, DC M q k v g la h d p) * (1 / 16) * (1 / (1 + Real.exp (z (lo + r) (128 * h + d)))) else 0 : ℝ) : EReal) := by
  have hr := r.isLt
  pointwise [In.dz, In.real, In.dgs, cst]
  have e : IntOp.cmpi CmpIPredicate.sge (IntOp.addi I.row (BitVec.ofNat 32 r)) 48#32 = if 48 ≤ lo + r then 1#1 else 0#1 := by
    rw [hrow]
    have := sge_at ⟨lo + r, by omega⟩
    rwa [BitVec.ofNat_add] at this
  rw [e, sixteenth_eq, R.dg, R.sig, ← EReal.coe_mul, ← EReal.coe_mul]
  split <;> rfl

end Rep

end Cert.Gla
-- ==== Proof.Pieces.lean ====
module

public import proofs.«01_k».proof.Proof.Vocab
public import proofs.«01_k».proof.Proof.Gen.KernelIdeal.Frame

@[expose] public section

/-! The stores of a point into the packed result and into the carried state gradient. -/

noncomputable section

namespace Cert.Gla

open Idealize.ShloMosaic Cert.KernelIdeal Cert.KernelIdeal.Gen

set_option maxRecDepth 16384

variable (i : grid0.Coords) (x0 x1 : Vec Ideal S192x512 .bf16) (x2 : Vec Ideal S192x1024 .bf16) (x3 : Vec Ideal S192x128 .bf16)
  (x4 : Vec Ideal S128x512 .bf16) (x5 : Vec Ideal S1x512 .f32) (x6 : Vec Ideal S3x4x256x128 .f32) (x7 : Vec Ideal S192x1024 .f32)
  (s : Vec Ideal S4x256x128 .f32)

/-- The packed result's stores, last first: `dq`, `dk` and the four heads of `dv`, for each chunk. -/
def P8 : List (View.Piece (Elt Ideal) S192x2048 .bf16) :=
  [⟨Rect.unit (s := S192x2048) ![0, 512] S64x512.size inb_S192x2048_S64x512_0_512, (in0 i x0 x1 x2 x3 x4 x5 x6 x7 s).dk⟩,
   ⟨Rect.unit (s := S192x2048) ![0, 0] S64x512.size inb_S192x2048_S64x512_0_0, (in0 i x0 x1 x2 x3 x4 x5 x6 x7 s).dq⟩,
   ⟨Rect.unit (s := S192x2048) ![0, 1792] S64x256.size inb_S192x2048_S64x256_0_1792, (in0 i x0 x1 x2 x3 x4 x5 x6 x7 s).dv 3⟩,
   ⟨Rect.unit (s := S192x2048) ![0, 1536] S64x256.size inb_S192x2048_S64x256_0_1536, (in0 i x0 x1 x2 x3 x4 x5 x6 x7 s).dv 2⟩,
   ⟨Rect.unit (s := S192x2048) ![0, 1280] S64x256.size inb_S192x2048_S64x256_0_1280, (in0 i x0 x1 x2 x3 x4 x5 x6 x7 s).dv 1⟩,
   ⟨Rect.unit (s := S192x2048) ![0, 1024] S64x256.size inb_S192x2048_S64x256_0_1024, (in0 i x0 x1 x2 x3 x4 x5 x6 x7 s).dv 0⟩,
   ⟨Rect.unit (s := S192x2048) ![64, 512] S64x512.size inb_S192x2048_S64x512_64_512, (in1 i x0 x1 x2 x3 x4 x5 x6 x7 s).dk⟩,
   ⟨Rect.unit (s := S192x2048) ![64, 0] S64x512.size inb_S192x2048_S64x512_64_0, (in1 i x0 x1 x2 x3 x4 x5 x6 x7 s).dq⟩,
   ⟨Rect.unit (s := S192x2048) ![64, 1792] S64x256.size inb_S192x2048_S64x256_64_1792, (in1 i x0 x1 x2 x3 x4 x5 x6 x7 s).dv 3⟩,
   ⟨Rect.unit (s := S192x2048) ![64, 1536] S64x256.size inb_S192x2048_S64x256_64_1536, (in1 i x0 x1 x2 x3 x4 x5 x6 x7 s).dv 2⟩,
   ⟨Rect.unit (s := S192x2048) ![64, 1280] S64x256.size inb_S192x2048_S64x256_64_1280, (in1 i x0 x1 x2 x3 x4 x5 x6 x7 s).dv 1⟩,
   ⟨Rect.unit (s := S192x2048) ![64, 1024] S64x256.size inb_S192x2048_S64x256_64_1024, (in1 i x0 x1 x2 x3 x4 x5 x6 x7 s).dv 0⟩,
   ⟨Rect.unit (s := S192x2048) ![128, 512] S64x512.size inb_S192x2048_S64x512_128_512, (in2 i x0 x1 x2 x3 x4 x5 x6 x7 s).dk⟩,
   ⟨Rect.unit (s := S192x2048) ![128, 0] S64x512.size inb_S192x2048_S64x512_128_0, (in2 i x0 x1 x2 x3 x4 x5 x6 x7 s).dq⟩,
   ⟨Rect.unit (s := S192x2048) ![128, 1792] S64x256.size inb_S192x2048_S64x256_128_1792, (in2 i x0 x1 x2 x3 x4 x5 x6 x7 s).dv 3⟩,
   ⟨Rect.unit (s := S192x2048) ![128, 1536] S64x256.size inb_S192x2048_S64x256_128_1536, (in2 i x0 x1 x2 x3 x4 x5 x6 x7 s).dv 2⟩,
   ⟨Rect.unit (s := S192x2048) ![128, 1280] S64x256.size inb_S192x2048_S64x256_128_1280, (in2 i x0 x1 x2 x3 x4 x5 x6 x7 s).dv 1⟩,
   ⟨Rect.unit (s := S192x2048) ![128, 1024] S64x256.size inb_S192x2048_S64x256_128_1024, (in2 i x0 x1 x2 x3 x4 x5 x6 x7 s).dv 0⟩]

/-- A head's state gradient as a slab of the scratch. -/
def slab (x : FVec Ideal S256x128 .f32) : FVec Ideal S1x256x128 .f32 := shapeCast S1x256x128 x shapeCasts_S256x128_S1x256x128

/-- The scratch's stores, last first. -/
def PS : List (View.Piece (Elt Ideal) S4x256x128 .f32) :=
  [⟨Rect.unit (s := S4x256x128) ![3, 0, 0] S1x256x128.size inb_S4x256x128_S1x256x128_3_0_0, slab ((in0 i x0 x1 x2 x3 x4 x5 x6 x7 s).ds' 3)⟩,
   ⟨Rect.unit (s := S4x256x128) ![2, 0, 0] S1x256x128.size inb_S4x256x128_S1x256x128_2_0_0, slab ((in0 i x0 x1 x2 x3 x4 x5 x6 x7 s).ds' 2)⟩,
   ⟨Rect.unit (s := S4x256x128) ![1, 0, 0] S1x256x128.size inb_S4x256x128_S1x256x128_1_0_0, slab ((in0 i x0 x1 x2 x3 x4 x5 x6 x7 s).ds' 1)⟩,
   ⟨Rect.unit (s := S4x256x128) ![0, 0, 0] S1x256x128.size inb_S4x256x128_S1x256x128_0_0_0, slab ((in0 i x0 x1 x2 x3 x4 x5 x6 x7 s).ds' 0)⟩]

/-- The zeroed scratch. -/
def z4 : Vec Ideal S4x256x128 .f32 := k0_pay4 (F := Ideal)

/-- The store that zeroes the scratch. -/
def HZ : List (View.Piece (Elt Ideal) S4x256x128 .f32) :=
  [⟨Rect.unit (s := S4x256x128) ![0, 0, 0] S4x256x128.size inb_S4x256x128_S4x256x128_0_0_0, z4⟩]

end Cert.Gla
-- ==== Proof.Block.lean ====
module

public import proofs.«01_k».proof.Proof.Lift2
public import proofs.«01_k».proof.Proof.Pieces

@[expose] public section

/-! A block of 192 rows over the reals: its three chunks, its stores and what it sends back. -/

noncomputable section

namespace Cert.Gla

open Idealize.ShloMosaic Cert.KernelIdeal Cert.KernelIdeal.Gen Cert.GlaMath Finset

set_option maxRecDepth 16384

theorem absf_coe (x : ℝ) : (FloatOps.absf (F := Ideal) (φ := .f32) (x : EReal) : EReal) = ((|x| : ℝ) : EReal) := by
  show max (x : EReal) (-(x : EReal)) = _
  rw [← EReal.coe_neg, abs]; exact (EReal.coe_strictMono.monotone.map_max (a := x) (b := -x)).symm

theorem min_coe (x y : ℝ) : min (x : EReal) (y : EReal) = ((min x y : ℝ) : EReal) :=
  (EReal.coe_strictMono.monotone.map_min (a := x) (b := y)).symm

theorem ds0_at (s : Vec Ideal S4x256x128 .f32) (h : Fin 4) (e : Fin 256) (d : Fin 128) : ds0 s h (ix2 e d) = s (ix3 h e d) := by
  fin_cases h <;> pointwise [ds0]

theorem log_coe (x : ℝ) (hx : 0 < x) : Ideal.log (x : EReal) = ((Real.log x : ℝ) : EReal) := by
  show (if x ≤ 0 then ⊥ else (Real.log x : EReal)) = _
  rw [if_neg (not_le.mpr hx)]

/-- The gates of a row before the sigmoid. -/
def zf (w : ℕ → ℕ → ℝ) (wg : ℕ → ℕ → ℝ) (bg : ℕ → ℝ) (t c : ℕ) : ℝ := ∑ j : Fin 128, w t j * wg j c + bg c

/-- The log decays of a row: the padding's are zero. -/
def laf (z : ℕ → ℕ → ℝ) (t c : ℕ) : ℝ := if 48 ≤ t then (min (z t c) 0 - Real.log (1 + Real.exp (-|z t c|))) * (1 / 16) else 0

/-- The arrays of the whole problem, over the reals, padded to whole chunks. -/
structure Data where
  q : ℕ → ℕ → ℝ
  k : ℕ → ℕ → ℝ
  v : ℕ → ℕ → ℝ
  g : ℕ → ℕ → ℝ
  w : ℕ → ℕ → ℝ
  wg : ℕ → ℕ → ℝ
  bg : ℕ → ℝ

namespace Data

variable (D : Data)

def z : ℕ → ℕ → ℝ := zf D.w D.wg D.bg
def la : ℕ → ℕ → ℝ := laf D.z
/-- The state before row `lo`. -/
def S (h : Fin 4) (e : Fin 256) (d : Fin 128) (lo : ℕ) : ℝ :=
  St (fun r => D.la r (128 * h + d)) (fun s => D.v s (256 * h + e) * D.k s (128 * h + d)) lo
/-- The gradient of the state that the rows from `hi` on send back. -/
def G (h : Fin 4) (e : Fin 256) (d : Fin 128) (hi : ℕ) : ℝ :=
  Ds 8256 (fun r => D.la r (128 * h + d)) (fun t => D.g t (256 * h + e) * (D.q t (128 * h + d) * sc)) hi
def Ed (h : Fin 4) (d : Fin 128) (t s : ℕ) : ℝ := E (fun r => D.la r (128 * h + d)) t s
def dq (h : Fin 4) (d : Fin 128) (t : ℕ) : ℝ := (∑ s ∈ range 8256, AA D.g D.v h t s * D.Ed h d t s * D.k s (128 * h + d)) * sc
def dk (h : Fin 4) (d : Fin 128) (s : ℕ) : ℝ := ∑ t ∈ range 8256, AA D.g D.v h t s * D.Ed h d t s * (D.q t (128 * h + d) * sc)
def dv (h : Fin 4) (e : Fin 256) (s : ℕ) : ℝ :=
  ∑ t ∈ range 8256, D.g t (256 * h + e) * ∑ d : Fin 128, D.q t (128 * h + d) * sc * D.k s (128 * h + d) * D.Ed h d t s
def dz (h : Fin 4) (d : Fin 128) (t : ℕ) : ℝ :=
  if 48 ≤ t then (∑ p ∈ Ico t 8256, Rep.DC 8256 D.q D.k D.v D.g D.la h d p) * (1 / 16) * (1 / (1 + Real.exp (D.z t (128 * h + d)))) else 0

end Data

/-- What a block's operands are, over the reals. -/
structure Blk (D : Data) (n : ℕ) (i : grid0.Coords) (x0 x1 : Vec Ideal S192x512 .bf16) (x2 : Vec Ideal S192x1024 .bf16) (x3 : Vec Ideal S192x128 .bf16)
    (x4 : Vec Ideal S128x512 .bf16) (x5 : Vec Ideal S1x512 .f32) (x6 : Vec Ideal S3x4x256x128 .f32) (x7 : Vec Ideal S192x1024 .f32)
    (s : Vec Ideal S4x256x128 .f32) : Prop where
  hn : n + (i 0).val = 42
  q : ∀ (r : Fin 192) (c : Fin 512), x0 (ix2 r c) = (D.q (192 * n + r) c : EReal)
  k : ∀ (r : Fin 192) (c : Fin 512), x1 (ix2 r c) = (D.k (192 * n + r) c : EReal)
  v : ∀ (r : Fin 192) (c : Fin 1024), x2 (ix2 r c) = (D.v (192 * n + r) c : EReal)
  w : ∀ (r : Fin 192) (c : Fin 128), x3 (ix2 r c) = (D.w (192 * n + r) c : EReal)
  wg : ∀ (r : Fin 128) (c : Fin 512), x4 (ix2 r c) = (D.wg r c : EReal)
  bg : ∀ (c : Fin 512), x5 (ix2 (0 : Fin 1) c) = (D.bg c : EReal)
  st : ∀ (c : Fin 3) (h : Fin 4) (e : Fin 256) (d : Fin 128), x6 (ix4 c h e d) = (D.S h e d (192 * n + 64 * c) : EReal)
  g : ∀ (r : Fin 192) (c : Fin 1024), x7 (ix2 r c) = (D.g (192 * n + r) c : EReal)
  s : ∀ (h : Fin 4) (e : Fin 256) (d : Fin 128), s (ix3 h e d) = (D.G h e d (192 * n + 192) : EReal)

namespace Blk

variable {D : Data} {n : ℕ} {i : grid0.Coords} {x0 x1 : Vec Ideal S192x512 .bf16} {x2 : Vec Ideal S192x1024 .bf16} {x3 : Vec Ideal S192x128 .bf16}
  {x4 : Vec Ideal S128x512 .bf16} {x5 : Vec Ideal S1x512 .f32} {x6 : Vec Ideal S3x4x256x128 .f32} {x7 : Vec Ideal S192x1024 .f32}
  {s : Vec Ideal S4x256x128 .f32} (B : Blk D n i x0 x1 x2 x3 x4 x5 x6 x7 s)
include B

theorem zz (r : Fin 192) (c : Fin 512) : k0_pay7 x3 x4 x5 (ix2 r c) = (D.z (192 * n + r) c : EReal) := by
  pointwise [k0_pay7]
  simp only [B.w, B.wg, B.bg, ← EReal.coe_mul, coe_sum, ← EReal.coe_add]
  rfl

omit B in
theorem row_at : ∀ (m : Fin 43) (r : Fin 192), IntOp.cmpi CmpIPredicate.sge (IntOp.addi (Scalar.muli (Scalar.subi 42#32 (BitVec.ofNat 32 m)) 192#32) (BitVec.ofNat 32 r)) 48#32
    = if 48 ≤ 192 * (42 - m.val) + r then 1#1 else 0#1 := by
  decide +kernel

theorem laa (r : Fin 192) (c : Fin 512) : k0_pay8 i x3 x4 x5 (ix2 r c) = (D.la (192 * n + r) c : EReal) := by
  have hi : (i 0).val < 43 := (i 0).isLt
  have hn := B.hn
  have e := row_at ⟨(i 0).val, hi⟩ r
  rw [show 42 - (i 0).val = n by omega] at e
  pointwise [k0_pay8]
  rw [e, B.zz, sixteenth_eq, absf_coe, zero_sub, ← EReal.coe_neg, exp_coe, ← EReal.coe_one, ← EReal.coe_add, log_coe _ (by positivity),
    ← EReal.coe_zero, min_coe, ← EReal.coe_sub, ← EReal.coe_mul, Data.la, laf]
  split <;> rfl

theorem rep (c : Fin 3) (ds : Fin 4 → FVec Ideal S256x128 .f32)
    (hds : ∀ (h : Fin 4) (e : Fin 256) (d : Fin 128), ds h (ix2 e d) = (D.G h e d (192 * n + 64 * c + 64) : EReal)) :
    Rep (Cert.Gla.mk i x0 x1 x2 x3 x4 x5 x6 x7 c ds) 8256 (192 * n + 64 * c) D.q D.k D.v D.g D.la D.z := by
  have hn := B.hn
  have hc := c.isLt
  refine ⟨by omega, fun r j => ?_, fun r j => ?_, fun h r e => ?_, fun h r e => ?_, fun h e d => ?_, hds, fun r j => ?_, fun r j => ?_⟩
  · pointwise [Cert.Gla.mk]
    rw [B.q]; simp only [Nat.add_assoc]
  · pointwise [Cert.Gla.mk]
    rw [B.k]; simp only [Nat.add_assoc]
  · pointwise [Cert.Gla.mk]
    rw [B.v]; simp only [Nat.add_assoc]
  · pointwise [Cert.Gla.mk]
    rw [B.g]; simp only [Nat.add_assoc]
  · pointwise [Cert.Gla.mk]
    rw [B.st]; rfl
  · pointwise [Cert.Gla.mk]
    rw [B.laa]; simp only [Nat.add_assoc]
  · pointwise [Cert.Gla.mk]
    rw [B.zz]; simp only [Nat.add_assoc]

theorem rep2 : Rep (in2 i x0 x1 x2 x3 x4 x5 x6 x7 s) 8256 (192 * n + 64 * (2 : Fin 3)) D.q D.k D.v D.g D.la D.z :=
  B.rep 2 (ds0 s) fun h e d => (ds0_at s h e d).trans (B.s h e d)

theorem rep1 : Rep (in1 i x0 x1 x2 x3 x4 x5 x6 x7 s) 8256 (192 * n + 64 * (1 : Fin 3)) D.q D.k D.v D.g D.la D.z :=
  B.rep 1 (in2 i x0 x1 x2 x3 x4 x5 x6 x7 s).ds' fun h e d => B.rep2.ds' h e d

theorem rep0 : Rep (in0 i x0 x1 x2 x3 x4 x5 x6 x7 s) 8256 (192 * n + 64 * (0 : Fin 3)) D.q D.k D.v D.g D.la D.z :=
  B.rep 0 (in1 i x0 x1 x2 x3 x4 x5 x6 x7 s).ds' fun h e d => B.rep1.ds' h e d

omit B in
/-- The chunk that a row of the block lies in. -/
theorem row3 (r : Fin 192) : (∃ r' : Fin 64, r = ⟨r', by omega⟩) ∨ (∃ r' : Fin 64, r = ⟨64 + r', by omega⟩) ∨ ∃ r' : Fin 64, r = ⟨128 + r', by omega⟩ := by
  have := r.isLt
  rcases Nat.lt_or_ge r.val 64 with h | h
  · exact .inl ⟨⟨r, h⟩, rfl⟩
  rcases Nat.lt_or_ge r.val 128 with h' | h'
  · exact .inr (.inl ⟨⟨r - 64, by omega⟩, Fin.ext (by simp; omega)⟩)
  · exact .inr (.inr ⟨⟨r - 128, by omega⟩, Fin.ext (by simp; omega)⟩)

omit B in
theorem row_eq : ∀ (m : Fin 43) (c : Fin 3), Scalar.addi (Scalar.muli (Scalar.subi 42#32 (BitVec.ofNat 32 m)) 192#32) (BitVec.ofNat 32 (64 * c.val))
    = BitVec.ofNat 32 (192 * (42 - m.val) + 64 * c.val) := by
  decide +kernel

theorem mk_row (c : Fin 3) (ds : Fin 4 → FVec Ideal S256x128 .f32) :
    (Cert.Gla.mk i x0 x1 x2 x3 x4 x5 x6 x7 c ds).row = BitVec.ofNat 32 (192 * n + 64 * c) := by
  have hi : (i 0).val < 43 := (i 0).isLt
  have hn := B.hn
  have e := row_eq ⟨(i 0).val, hi⟩ c
  rw [show 42 - (i 0).val = n by omega] at e
  exact e

theorem dzs (r : Fin 192) (h : Fin 4) (d : Fin 128) : dzs i x0 x1 x2 x3 x4 x5 x6 x7 s (ix2 r (col h d)) = (D.dz h d (192 * n + r) : EReal) := by
  have hn := B.hn
  have e0 := fun r => B.rep0.dz h r d (B.mk_row 0 _) (by simp; omega)
  have e1 := fun r => B.rep1.dz h r d (B.mk_row 1 _) (by simp; omega)
  have e2 := fun r => B.rep2.dz h r d (B.mk_row 2 _) (by simp; omega)
  have key : ∀ a b : ℕ, a = b → (D.dz h d a : EReal) = D.dz h d b := fun a b e => by rw [e]
  pointwise [Cert.Gla.dzs]
  split
  · exact (e0 _).trans (key _ _ (by simp))
  split
  · exact (e1 _).trans (key _ _ (by simp; omega))
  · exact (e2 _).trans (key _ _ (by simp; omega))

theorem slab (h : Fin 4) (e : Fin 256) (d : Fin 128) : slab ((in0 i x0 x1 x2 x3 x4 x5 x6 x7 s).ds' h) (ix3 (0 : Fin 1) e d) = (D.G h e d (192 * n) : EReal) := by
  pointwise [Cert.Gla.slab]
  exact B.rep0.ds' h e d

end Blk

/-- A column's head, of heads 128 wide, and its place there; and of heads 256 wide. -/
def hd (c : ℕ) : Fin 4 := ⟨c / 128 % 4, Nat.mod_lt _ (by decide)⟩
def ln (c : ℕ) : Fin 128 := ⟨c % 128, Nat.mod_lt _ (by decide)⟩
def hv (c : ℕ) : Fin 4 := ⟨c / 256 % 4, Nat.mod_lt _ (by decide)⟩
def lv (c : ℕ) : Fin 256 := ⟨c % 256, Nat.mod_lt _ (by decide)⟩

/-- The packed result: `dq`, `dk`, `dv` side by side. -/
def Data.out8 (D : Data) (t c : ℕ) : ℝ :=
  if c < 512 then D.dq (hd c) (ln c) t else if c < 1024 then D.dk (hd (c - 512)) (ln (c - 512)) t else D.dv (hv (c - 1024)) (lv (c - 1024)) t

/-- The gates' gradient by column. -/
def Data.dzc (D : Data) (t c : ℕ) : ℝ := D.dz (hd c) (ln c) t

theorem col_hd (c : Fin 512) : col (hd c) (ln c) = c := Fin.ext (by simp only [col, hd, ln]; omega)

section Pieces

variable {D : Data} {I : In} {lo : ℕ} (R : Rep I 8256 lo D.q D.k D.v D.g D.la D.z)
include R

theorem pq (x : S64x512.Idx) (t c : ℕ) (ht : t = lo + (x 0).val) (hc : c = (x 1).val) : I.dq x = (D.out8 t c : EReal) := by
  have h1 : (x 1).val < 512 := (x 1).isLt
  have ex : x = ix2 (⟨(x 0).val, (x 0).isLt⟩ : Fin 64) (col (hd (x 1).val) (ln (x 1).val)) := by
    refine (eq_ix2 x).trans ?_
    rw [show col (hd (x 1).val) (ln (x 1).val) = ⟨(x 1).val, h1⟩ from col_hd ⟨(x 1).val, h1⟩]
    rfl
  subst ht hc
  rw [Data.out8, if_pos h1]
  exact (congrArg I.dq ex).trans (R.dq _ _ _)

theorem pk (x : S64x512.Idx) (t c : ℕ) (ht : t = lo + (x 0).val) (hc : c = 512 + (x 1).val) : I.dk x = (D.out8 t c : EReal) := by
  have h1 : (x 1).val < 512 := (x 1).isLt
  have ex : x = ix2 (⟨(x 0).val, (x 0).isLt⟩ : Fin 64) (col (hd (x 1).val) (ln (x 1).val)) := by
    refine (eq_ix2 x).trans ?_
    rw [show col (hd (x 1).val) (ln (x 1).val) = ⟨(x 1).val, h1⟩ from col_hd ⟨(x 1).val, h1⟩]
    rfl
  subst ht hc
  rw [Data.out8, if_neg (by omega), if_pos (by omega), show 512 + (x 1).val - 512 = (x 1).val by omega]
  exact (congrArg I.dk ex).trans (R.dk _ _ _)

theorem pv (h : Fin 4) (x : S64x256.Idx) (t c : ℕ) (ht : t = lo + (x 0).val) (hc : c = 1024 + 256 * h + (x 1).val) : I.dv h x = (D.out8 t c : EReal) := by
  have h1 : (x 1).val < 256 := (x 1).isLt
  have hh := h.isLt
  have ex : x = ix2 (⟨(x 0).val, (x 0).isLt⟩ : Fin 64) (⟨(x 1).val, h1⟩ : Fin 256) := eq_ix2 x
  subst ht hc
  rw [Data.out8, if_neg (by omega), if_neg (by omega), show hv (1024 + 256 * h.val + (x 1).val - 1024) = h from Fin.ext (by simp only [hv]; omega),
    show lv (1024 + 256 * h.val + (x 1).val - 1024) = ⟨(x 1).val, h1⟩ from Fin.ext (by simp only [lv]; omega)]
  exact (congrArg (I.dv h) ex).trans (R.dv h _ _)

end Pieces

namespace Blk

variable {D : Data} {n : ℕ} {i : grid0.Coords} {x0 x1 : Vec Ideal S192x512 .bf16} {x2 : Vec Ideal S192x1024 .bf16} {x3 : Vec Ideal S192x128 .bf16}
  {x4 : Vec Ideal S128x512 .bf16} {x5 : Vec Ideal S1x512 .f32} {x6 : Vec Ideal S3x4x256x128 .f32} {x7 : Vec Ideal S192x1024 .f32}
  {s : Vec Ideal S4x256x128 .f32} (B : Blk D n i x0 x1 x2 x3 x4 x5 x6 x7 s)
include B

/-- The block of the packed result. -/
theorem out8 (y : S192x2048.Idx) : View.canon (P8 i x0 x1 x2 x3 x4 x5 x6 x7 s) y = (D.out8 (192 * n + (y 0).val) (y 1).val : EReal) := by
  have h0 : (y 0).val < 192 := (y 0).isLt
  have h1 : (y 1).val < 2048 := (y 1).isLt
  refine View.canon_apply_of_pieces (Val := Elt Ideal) (e := .bf16) (S := S192x2048) (fun y => (D.out8 (192 * n + (y 0).val) (y 1).val : EReal)) _ ?_ y ?_
  · simp only [P8, List.forall_mem_cons]
    refine ⟨fun x => pk B.rep0 x _ _ ?_ ?_, fun x => pq B.rep0 x _ _ ?_ ?_, fun x => pv B.rep0 3 x _ _ ?_ ?_, fun x => pv B.rep0 2 x _ _ ?_ ?_,
      fun x => pv B.rep0 1 x _ _ ?_ ?_, fun x => pv B.rep0 0 x _ _ ?_ ?_,
      fun x => pk B.rep1 x _ _ ?_ ?_, fun x => pq B.rep1 x _ _ ?_ ?_, fun x => pv B.rep1 3 x _ _ ?_ ?_, fun x => pv B.rep1 2 x _ _ ?_ ?_,
      fun x => pv B.rep1 1 x _ _ ?_ ?_, fun x => pv B.rep1 0 x _ _ ?_ ?_,
      fun x => pk B.rep2 x _ _ ?_ ?_, fun x => pq B.rep2 x _ _ ?_ ?_, fun x => pv B.rep2 3 x _ _ ?_ ?_, fun x => pv B.rep2 2 x _ _ ?_ ?_,
      fun x => pv B.rep2 1 x _ _ ?_ ?_, fun x => pv B.rep2 0 x _ _ ?_ ?_, by simp⟩
    all_goals
      simp only [ValueKit.rect_emb_unit_val]
      simp
    all_goals omega
  · simp only [P8, List.mem_cons, exists_eq_or_imp, Rect.mem_set_unit, Fin.forall_fin_two]
    have hr : (y 0).val < 64 ∨ (64 ≤ (y 0).val ∧ (y 0).val < 128) ∨ 128 ≤ (y 0).val := by omega
    have hc : (y 1).val < 512 ∨ (512 ≤ (y 1).val ∧ (y 1).val < 1024) ∨ (1024 ≤ (y 1).val ∧ (y 1).val < 1280) ∨ (1280 ≤ (y 1).val ∧ (y 1).val < 1536)
        ∨ (1536 ≤ (y 1).val ∧ (y 1).val < 1792) ∨ 1792 ≤ (y 1).val := by omega
    simp
    rcases hr with hr | hr | hr <;> rcases hc with hc | hc | hc | hc | hc | hc <;>
    repeat first | exact Or.inl (by omega) | apply Or.inr | omega

omit B in
theorem slab_hit {a : ℕ} (h : Fin 4) (ha : h.val = a) (inb) (v : FVec Ideal S1x256x128 .f32) (L : List (View.Piece (Elt Ideal) S4x256x128 .f32)) (e : Fin 256)
    (d : Fin 128) : View.canon (⟨Rect.unit (s := S4x256x128) ![a, 0, 0] S1x256x128.size inb, v⟩ :: L) (ix3 h e d) = v (ix3 (0 : Fin 1) e d) := by
  have : ix3 h e d = (Rect.unit (s := S4x256x128) ![a, 0, 0] S1x256x128.size inb).emb (ix3 (0 : Fin 1) e d) := by
    funext b
    apply Fin.ext
    rw [ValueKit.rect_emb_unit_val]
    fin_cases b <;> simp [ha]
  rw [this, View.canon_cons_emb]

omit B in
theorem slab_miss {a : ℕ} (h : Fin 4) (ha : h.val ≠ a) (inb) (v : FVec Ideal S1x256x128 .f32) (L : List (View.Piece (Elt Ideal) S4x256x128 .f32)) (e : Fin 256)
    (d : Fin 128) : View.canon (⟨Rect.unit (s := S4x256x128) ![a, 0, 0] S1x256x128.size inb, v⟩ :: L) (ix3 h e d) = View.canon L (ix3 h e d) := by
  refine View.canon_cons_of_not_mem _ _ ?_
  rw [Rect.mem_set_unit]
  intro hm
  have h1 : a ≤ h.val ∧ h.val < a + 1 := hm 0
  omega

/-- The scratch after the point. -/
theorem scr (L : List (View.Piece (Elt Ideal) S4x256x128 .f32)) (h : Fin 4) (e : Fin 256) (d : Fin 128) :
    View.canon (PS i x0 x1 x2 x3 x4 x5 x6 x7 s ++ L) (ix3 h e d) = (D.G h e d (192 * n) : EReal) := by
  have q := B.slab h e d
  simp only [PS, List.cons_append]
  match h, q with
  | 0, q =>
    rw [slab_miss _ (by decide), slab_miss _ (by decide), slab_miss _ (by decide), slab_hit _ (by decide)]; exact q
  | 1, q =>
    rw [slab_miss _ (by decide), slab_miss _ (by decide), slab_hit _ (by decide)]; exact q
  | 2, q =>
    rw [slab_miss _ (by decide), slab_hit _ (by decide)]; exact q
  | 3, q =>
    rw [slab_hit _ (by decide)]; exact q

theorem pay2 (r : Fin 192) (j : Fin 128) : k0_pay2 (dzb i x0 x1 x2 x3 x4 x5 x6 x7 s) x4 (ix2 r j)
    = ((∑ c : Fin 512, D.dzc (192 * n + r) c * D.wg j c : ℝ) : EReal) := by
  have e : ∀ c : Fin 512, Cert.Gla.dzs i x0 x1 x2 x3 x4 x5 x6 x7 s (ix2 r c) = (D.dzc (192 * n + r) c : EReal) := fun c => by
    have := B.dzs r (hd c) (ln c)
    rwa [col_hd] at this
  pointwise [k0_pay2, dzb]
  simp only [e, B.wg, ← EReal.coe_mul, coe_sum, ← EReal.coe_add]

theorem pay3 (acc : Vec Ideal S128x512 .f32) (a : ℝ) (j : Fin 128) (c : Fin 512) (ha : acc (ix2 j c) = (a : EReal)) :
    k0_pay3 (dzb i x0 x1 x2 x3 x4 x5 x6 x7 s) acc x3 (ix2 j c)
    = ((a + ∑ r : Fin 192, D.w (192 * n + r) j * D.dzc (192 * n + r) c : ℝ) : EReal) := by
  have e : ∀ r : Fin 192, Cert.Gla.dzs i x0 x1 x2 x3 x4 x5 x6 x7 s (ix2 r c) = (D.dzc (192 * n + r) c : EReal) := fun r => by
    have := B.dzs r (hd c) (ln c)
    rwa [col_hd] at this
  pointwise [k0_pay3, dzb]
  simp only [e, ha, B.w, ← EReal.coe_mul, coe_sum, ← EReal.coe_add]

theorem pay1 (acc : Vec Ideal S1x512 .f32) (a : ℝ) (c : Fin 512) (ha : acc (ix2 (0 : Fin 1) c) = (a : EReal)) :
    k0_pay1 (Cert.Gla.dzs i x0 x1 x2 x3 x4 x5 x6 x7 s) acc (ix2 (0 : Fin 1) c)
    = ((a + ∑ r : Fin 192, D.dzc (192 * n + r) c : ℝ) : EReal) := by
  have e : ∀ r : Fin 192, Cert.Gla.dzs i x0 x1 x2 x3 x4 x5 x6 x7 s (ix2 r c) = (D.dzc (192 * n + r) c : EReal) := fun r => by
    have := B.dzs r (hd c) (ln c)
    rwa [col_hd] at this
  pointwise [k0_pay1]
  simp only [e, ha, ← EReal.coe_mul, coe_sum, ← EReal.coe_add]

end Blk

end Cert.Gla
-- ==== Proof.BridgeA.lean ====
module

public import proofs.«01_k».proof.Proof.Gen.KernelIdeal.Frame
public import proofs.«01_k».proof.Proof.Pieces

@[expose] public section

/-! The values that the body computes at the first point, by the names of `Vocab`. -/

noncomputable section

namespace Cert.Gla

open Idealize.ShloMosaic Cert.KernelIdeal Cert.KernelIdeal.Gen

set_option maxRecDepth 16384

variable {c : Dev nD} {i : grid0.Coords} {arg1 : Memref sig .tc .vmem S192x512 .bf16} {harg1 : arg1.IsWhole} {arg2 : Memref sig .tc .vmem S192x512 .bf16} {harg2 : arg2.IsWhole} {arg3 : Memref sig .tc .vmem S192x1024 .bf16} {harg3 : arg3.IsWhole} {arg4 : Memref sig .tc .vmem S192x128 .bf16} {harg4 : arg4.IsWhole} {arg5 : Memref sig .tc .vmem S128x512 .bf16} {harg5 : arg5.IsWhole} {arg6 : Memref sig .tc .vmem S1x512 .f32} {harg6 : arg6.IsWhole} {arg7 : Memref sig .tc .vmem S3x4x256x128 .f32} {harg7 : arg7.IsWhole} {arg8 : Memref sig .tc .vmem S192x1024 .f32} {harg8 : arg8.IsWhole} {arg10 : Memref sig .tc .vmem S192x2048 .bf16} {harg10 : arg10.IsWhole} {arg11 : Memref sig .tc .vmem S192x128 .bf16} {harg11 : arg11.IsWhole} {arg12 : Memref sig .tc .vmem S128x512 .f32} {harg12 : arg12.IsWhole} {arg13 : Memref sig .tc .vmem S1x512 .f32} {harg13 : arg13.IsWhole} {arg14 : Memref sig .tc .vmem S4x256x128 .f32} {harg14 : arg14.IsWhole}
variable {x0 x1 : Vec Ideal S192x512 .bf16} {x2 : Vec Ideal S192x1024 .bf16} {x3 : Vec Ideal S192x128 .bf16}
  {x4 : Vec Ideal S128x512 .bf16} {x5 : Vec Ideal S1x512 .f32} {x6 : Vec Ideal S3x4x256x128 .f32} {x7 : Vec Ideal S192x1024 .f32}
  {s : Vec Ideal S4x256x128 .f32}

theorem v45A : kernelRun0_A.sl.v45 (F := Ideal) c arg14 = View.ld z4 (Rect.unit (s := S4x256x128) ![0, 0, 0] S1x256x128.size inb_S4x256x128_S1x256x128_0_0_0) := by
  simp (disch := decide) only [kernelRun0_A.sl.v45, kernelRun0_A.sl.HS0_1, View.readCov, View.readAt_eq_ld, View.read_writes_junk_eq_canon, View.canon_cons_unit_lit']
  rfl

theorem v47A : kernelRun0_A.sl.v47 (F := Ideal) c arg14 = View.ld z4 (Rect.unit (s := S4x256x128) ![1, 0, 0] S1x256x128.size inb_S4x256x128_S1x256x128_1_0_0) := by
  simp (disch := decide) only [kernelRun0_A.sl.v47, kernelRun0_A.sl.HS0_1, View.readCov, View.readAt_eq_ld, View.read_writes_junk_eq_canon, View.canon_cons_unit_lit']
  rfl

theorem v49A : kernelRun0_A.sl.v49 (F := Ideal) c arg14 = View.ld z4 (Rect.unit (s := S4x256x128) ![2, 0, 0] S1x256x128.size inb_S4x256x128_S1x256x128_2_0_0) := by
  simp (disch := decide) only [kernelRun0_A.sl.v49, kernelRun0_A.sl.HS0_1, View.readCov, View.readAt_eq_ld, View.read_writes_junk_eq_canon, View.canon_cons_unit_lit']
  rfl

theorem v51A : kernelRun0_A.sl.v51 (F := Ideal) c arg14 = View.ld z4 (Rect.unit (s := S4x256x128) ![3, 0, 0] S1x256x128.size inb_S4x256x128_S1x256x128_3_0_0) := by
  simp (disch := decide) only [kernelRun0_A.sl.v51, kernelRun0_A.sl.HS0_1, View.readCov, View.readAt_eq_ld, View.read_writes_junk_eq_canon, View.canon_cons_unit_lit']
  rfl

theorem rA :
    kernelRun0_A.sl.r (F := Ideal) c arg4 harg4 arg5 harg5 arg6 harg6 x3 x4 x5
      = k0_pay7 x3 x4 x5 := by
  simp (disch := decide) only [kernelRun0_A.sl.r, View.readAt_eq_ld, Memref.IsWhole.read_unread, View.ld_unit_lit']

theorem r_1A :
    kernelRun0_A.sl.r_1 (F := Ideal) c i arg4 harg4 arg5 harg5 arg6 harg6 x3 x4 x5
      = k0_pay8 i x3 x4 x5 := by
  simp (disch := decide) only [kernelRun0_A.sl.r_1, View.readAt_eq_ld, Memref.IsWhole.read_unread, View.ld_unit_lit']

theorem r_2A :
    kernelRun0_A.sl.r_2 (F := Ideal) c arg14
      = ds0 z4 0 := by
  simp (disch := decide) only [kernelRun0_A.sl.r_2, v45A, View.readAt_eq_ld, Memref.IsWhole.read_unread, View.ld_unit_lit']
  rfl

theorem r_3A :
    kernelRun0_A.sl.r_3 (F := Ideal) c arg14
      = ds0 z4 1 := by
  simp (disch := decide) only [kernelRun0_A.sl.r_3, v47A, View.readAt_eq_ld, Memref.IsWhole.read_unread, View.ld_unit_lit']
  rfl

theorem r_4A :
    kernelRun0_A.sl.r_4 (F := Ideal) c arg14
      = ds0 z4 2 := by
  simp (disch := decide) only [kernelRun0_A.sl.r_4, v49A, View.readAt_eq_ld, Memref.IsWhole.read_unread, View.ld_unit_lit']
  rfl

theorem r_5A :
    kernelRun0_A.sl.r_5 (F := Ideal) c arg14
      = ds0 z4 3 := by
  simp (disch := decide) only [kernelRun0_A.sl.r_5, v51A, View.readAt_eq_ld, Memref.IsWhole.read_unread, View.ld_unit_lit']
  rfl

theorem r_6A :
    kernelRun0_A.sl.r_6 (F := Ideal) c i arg4 harg4 arg5 harg5 arg6 harg6 x3 x4 x5
      = (in2 i x0 x1 x2 x3 x4 x5 x6 x7 z4).eb := by
  simp (disch := decide) only [kernelRun0_A.sl.r_6, r_1A, View.readAt_eq_ld, Memref.IsWhole.read_unread, View.ld_unit_lit']
  rfl

theorem r_7A :
    kernelRun0_A.sl.r_7 (F := Ideal) c i arg4 harg4 arg5 harg5 arg6 harg6 x3 x4 x5
      = (in2 i x0 x1 x2 x3 x4 x5 x6 x7 z4).enb := by
  simp (disch := decide) only [kernelRun0_A.sl.r_7, r_1A, View.readAt_eq_ld, Memref.IsWhole.read_unread, View.ld_unit_lit']
  rfl

theorem r_8A :
    kernelRun0_A.sl.r_8 (F := Ideal) c i arg4 harg4 arg5 harg5 arg6 harg6 x3 x4 x5
      = (in2 i x0 x1 x2 x3 x4 x5 x6 x7 z4).ebl := by
  simp (disch := decide) only [kernelRun0_A.sl.r_8, r_1A, View.readAt_eq_ld, Memref.IsWhole.read_unread, View.ld_unit_lit']
  rfl

theorem r_9A :
    kernelRun0_A.sl.r_9 (F := Ideal) c i arg4 harg4 arg5 harg5 arg6 harg6 x3 x4 x5
      = (in2 i x0 x1 x2 x3 x4 x5 x6 x7 z4).dec := by
  simp (disch := decide) only [kernelRun0_A.sl.r_9, r_1A, View.readAt_eq_ld, Memref.IsWhole.read_unread, View.ld_unit_lit']
  rfl

theorem r_10A :
    kernelRun0_A.sl.r_10 (F := Ideal) c arg1 harg1 x0
      = (in2 i x0 x1 x2 x3 x4 x5 x6 x7 z4).q32 := by
  simp (disch := decide) only [kernelRun0_A.sl.r_10, View.readAt_eq_ld, Memref.IsWhole.read_unread, View.ld_unit_lit']
  rfl

theorem r_11A :
    kernelRun0_A.sl.r_11 (F := Ideal) c i arg1 harg1 arg4 harg4 arg5 harg5 arg6 harg6 x0 x3 x4 x5
      = (in2 i x0 x1 x2 x3 x4 x5 x6 x7 z4).qd32 := by
  simp (disch := decide) only [kernelRun0_A.sl.r_11, (r_6A (x0 := x0) (x1 := x1) (x2 := x2) (x6 := x6) (x7 := x7)), (r_10A (i := i) (x1 := x1) (x2 := x2) (x3 := x3) (x4 := x4) (x5 := x5) (x6 := x6) (x7 := x7)), View.readAt_eq_ld, Memref.IsWhole.read_unread, View.ld_unit_lit']
  rfl

theorem r_12A :
    kernelRun0_A.sl.r_12 (F := Ideal) c i arg2 harg2 arg4 harg4 arg5 harg5 arg6 harg6 x1 x3 x4 x5
      = (in2 i x0 x1 x2 x3 x4 x5 x6 x7 z4).ki32 := by
  simp (disch := decide) only [kernelRun0_A.sl.r_12, (r_7A (x0 := x0) (x1 := x1) (x2 := x2) (x6 := x6) (x7 := x7)), View.readAt_eq_ld, Memref.IsWhole.read_unread, View.ld_unit_lit']
  rfl

theorem r_13A :
    kernelRun0_A.sl.r_13 (F := Ideal) c i arg2 harg2 arg4 harg4 arg5 harg5 arg6 harg6 x1 x3 x4 x5
      = (in2 i x0 x1 x2 x3 x4 x5 x6 x7 z4).ke32 := by
  simp (disch := decide) only [kernelRun0_A.sl.r_13, (r_8A (x0 := x0) (x1 := x1) (x2 := x2) (x6 := x6) (x7 := x7)), View.readAt_eq_ld, Memref.IsWhole.read_unread, View.ld_unit_lit']
  rfl

theorem r_14A :
    kernelRun0_A.sl.r_14 (F := Ideal) c i arg1 harg1 arg4 harg4 arg5 harg5 arg6 harg6 x0 x3 x4 x5
      = (in2 i x0 x1 x2 x3 x4 x5 x6 x7 z4).qd := by
  simp (disch := decide) only [kernelRun0_A.sl.r_14, (r_6A (x0 := x0) (x1 := x1) (x2 := x2) (x6 := x6) (x7 := x7)), (r_10A (i := i) (x1 := x1) (x2 := x2) (x3 := x3) (x4 := x4) (x5 := x5) (x6 := x6) (x7 := x7)), View.readAt_eq_ld, Memref.IsWhole.read_unread, View.ld_unit_lit']
  rfl

theorem r_15A :
    kernelRun0_A.sl.r_15 (F := Ideal) c i arg2 harg2 arg4 harg4 arg5 harg5 arg6 harg6 x1 x3 x4 x5
      = (in2 i x0 x1 x2 x3 x4 x5 x6 x7 z4).ki := by
  simp (disch := decide) only [kernelRun0_A.sl.r_15, (r_7A (x0 := x0) (x1 := x1) (x2 := x2) (x6 := x6) (x7 := x7)), View.readAt_eq_ld, Memref.IsWhole.read_unread, View.ld_unit_lit']
  rfl

theorem r_16A :
    kernelRun0_A.sl.r_16 (F := Ideal) c i arg2 harg2 arg4 harg4 arg5 harg5 arg6 harg6 x1 x3 x4 x5
      = (in2 i x0 x1 x2 x3 x4 x5 x6 x7 z4).ke := by
  simp (disch := decide) only [kernelRun0_A.sl.r_16, (r_8A (x0 := x0) (x1 := x1) (x2 := x2) (x6 := x6) (x7 := x7)), View.readAt_eq_ld, Memref.IsWhole.read_unread, View.ld_unit_lit']
  rfl

theorem r_17A :
    kernelRun0_A.sl.r_17 (F := Ideal) c arg3 harg3 x2
      = (in2 i x0 x1 x2 x3 x4 x5 x6 x7 z4).v 0 := by
  simp (disch := decide) only [kernelRun0_A.sl.r_17, View.readAt_eq_ld, Memref.IsWhole.read_unread, View.ld_unit_lit']
  rfl

theorem r_18A :
    kernelRun0_A.sl.r_18 (F := Ideal) c arg8 harg8 x7
      = (in2 i x0 x1 x2 x3 x4 x5 x6 x7 z4).g 0 := by
  simp (disch := decide) only [kernelRun0_A.sl.r_18, View.readAt_eq_ld, Memref.IsWhole.read_unread, View.ld_unit_lit']
  rfl

theorem r_19A :
    kernelRun0_A.sl.r_19 (F := Ideal) c arg7 harg7 x6
      = (in2 i x0 x1 x2 x3 x4 x5 x6 x7 z4).st 0 := by
  simp (disch := decide) only [kernelRun0_A.sl.r_19, View.readAt_eq_ld, Memref.IsWhole.read_unread, View.ld_unit_lit']
  rfl

theorem r_20A :
    kernelRun0_A.sl.r_20 (F := Ideal) c arg14
      = (in2 i x0 x1 x2 x3 x4 x5 x6 x7 z4).dsb 0 := by
  simp (disch := decide) only [kernelRun0_A.sl.r_20, r_2A, View.readAt_eq_ld, Memref.IsWhole.read_unread, View.ld_unit_lit']
  rfl

theorem r_21A :
    kernelRun0_A.sl.r_21 (F := Ideal) c i arg2 harg2 arg3 harg3 arg4 harg4 arg5 harg5 arg6 harg6 arg7 harg7 arg8 harg8 x1 x2 x3 x4 x5 x6 x7
      = (in2 i x0 x1 x2 x3 x4 x5 x6 x7 z4).dqdH 0 := by
  simp (disch := decide) only [kernelRun0_A.sl.r_21, (r_7A (x0 := x0) (x1 := x1) (x2 := x2) (x6 := x6) (x7 := x7)), View.readAt_eq_ld, Memref.IsWhole.read_unread, View.ld_unit_lit']
  rfl

theorem r_22A :
    kernelRun0_A.sl.r_22 (F := Ideal) c i arg1 harg1 arg3 harg3 arg4 harg4 arg5 harg5 arg6 harg6 arg8 harg8 x0 x2 x3 x4 x5 x7
      = (in2 i x0 x1 x2 x3 x4 x5 x6 x7 z4).dkiH 0 := by
  simp (disch := decide) only [kernelRun0_A.sl.r_22, (r_6A (x0 := x0) (x1 := x1) (x2 := x2) (x6 := x6) (x7 := x7)), (r_10A (i := i) (x1 := x1) (x2 := x2) (x3 := x3) (x4 := x4) (x5 := x5) (x6 := x6) (x7 := x7)), View.readAt_eq_ld, Memref.IsWhole.read_unread, View.ld_unit_lit']
  rfl

theorem r_23A :
    kernelRun0_A.sl.r_23 (F := Ideal) c arg3 harg3 arg14 x2
      = (in2 i x0 x1 x2 x3 x4 x5 x6 x7 z4).dkeH 0 := by
  simp (disch := decide) only [kernelRun0_A.sl.r_23, (r_17A (i := i) (x0 := x0) (x1 := x1) (x3 := x3) (x4 := x4) (x5 := x5) (x6 := x6) (x7 := x7)), (r_20A (i := i) (x0 := x0) (x1 := x1) (x2 := x2) (x3 := x3) (x4 := x4) (x5 := x5) (x6 := x6) (x7 := x7)), View.readAt_eq_ld, Memref.IsWhole.read_unread, View.ld_unit_lit']
  rfl

theorem r_24A :
    kernelRun0_A.sl.r_24 (F := Ideal) c arg7 harg7 arg14 x6
      = (in2 i x0 x1 x2 x3 x4 x5 x6 x7 z4).ddecH 0 := by
  simp (disch := decide) only [kernelRun0_A.sl.r_24, r_2A, (r_19A (i := i) (x0 := x0) (x1 := x1) (x2 := x2) (x3 := x3) (x4 := x4) (x5 := x5) (x7 := x7)), View.readAt_eq_ld, Memref.IsWhole.read_unread, View.ld_unit_lit']
  rfl

theorem r_25A :
    kernelRun0_A.sl.r_25 (F := Ideal) c i arg1 harg1 arg4 harg4 arg5 harg5 arg6 harg6 arg8 harg8 arg14 x0 x3 x4 x5 x7
      = (in2 i x0 x1 x2 x3 x4 x5 x6 x7 z4).ds' 0 := by
  simp (disch := decide) only [kernelRun0_A.sl.r_25, r_2A, (r_9A (x0 := x0) (x1 := x1) (x2 := x2) (x6 := x6) (x7 := x7)), (r_14A (x1 := x1) (x2 := x2) (x6 := x6) (x7 := x7)), (r_18A (i := i) (x0 := x0) (x1 := x1) (x2 := x2) (x3 := x3) (x4 := x4) (x5 := x5) (x6 := x6)), View.readAt_eq_ld, Memref.IsWhole.read_unread, View.ld_unit_lit']
  rfl

theorem r_26A :
    kernelRun0_A.sl.r_26 (F := Ideal) c arg3 harg3 x2
      = (in2 i x0 x1 x2 x3 x4 x5 x6 x7 z4).v 1 := by
  simp (disch := decide) only [kernelRun0_A.sl.r_26, View.readAt_eq_ld, Memref.IsWhole.read_unread, View.ld_unit_lit']
  rfl

theorem r_27A :
    kernelRun0_A.sl.r_27 (F := Ideal) c arg8 harg8 x7
      = (in2 i x0 x1 x2 x3 x4 x5 x6 x7 z4).g 1 := by
  simp (disch := decide) only [kernelRun0_A.sl.r_27, View.readAt_eq_ld, Memref.IsWhole.read_unread, View.ld_unit_lit']
  rfl

theorem r_28A :
    kernelRun0_A.sl.r_28 (F := Ideal) c arg7 harg7 x6
      = (in2 i x0 x1 x2 x3 x4 x5 x6 x7 z4).st 1 := by
  simp (disch := decide) only [kernelRun0_A.sl.r_28, View.readAt_eq_ld, Memref.IsWhole.read_unread, View.ld_unit_lit']
  rfl

theorem r_29A :
    kernelRun0_A.sl.r_29 (F := Ideal) c arg14
      = (in2 i x0 x1 x2 x3 x4 x5 x6 x7 z4).dsb 1 := by
  simp (disch := decide) only [kernelRun0_A.sl.r_29, r_3A, View.readAt_eq_ld, Memref.IsWhole.read_unread, View.ld_unit_lit']
  rfl

theorem r_30A :
    kernelRun0_A.sl.r_30 (F := Ideal) c arg3 harg3 arg8 harg8 x2 x7
      = (in2 i x0 x1 x2 x3 x4 x5 x6 x7 z4).datt 1 := by
  simp (disch := decide) only [kernelRun0_A.sl.r_30, View.readAt_eq_ld, Memref.IsWhole.read_unread, View.ld_unit_lit']
  rfl

theorem r_31A :
    kernelRun0_A.sl.r_31 (F := Ideal) c i arg2 harg2 arg3 harg3 arg4 harg4 arg5 harg5 arg6 harg6 arg8 harg8 x1 x2 x3 x4 x5 x7
      = (in2 i x0 x1 x2 x3 x4 x5 x6 x7 z4).dqd1 1 := by
  simp (disch := decide) only [kernelRun0_A.sl.r_31, (r_15A (x0 := x0) (x2 := x2) (x6 := x6) (x7 := x7)), View.readAt_eq_ld, Memref.IsWhole.read_unread, View.ld_unit_lit']
  rfl

theorem r_32A :
    kernelRun0_A.sl.r_32 (F := Ideal) c arg7 harg7 arg8 harg8 x6 x7
      = (in2 i x0 x1 x2 x3 x4 x5 x6 x7 z4).dqd2 1 := by
  simp (disch := decide) only [kernelRun0_A.sl.r_32, View.readAt_eq_ld, Memref.IsWhole.read_unread, View.ld_unit_lit']
  rfl

theorem r_33A :
    kernelRun0_A.sl.r_33 (F := Ideal) c i arg2 harg2 arg3 harg3 arg4 harg4 arg5 harg5 arg6 harg6 arg7 harg7 arg8 harg8 x1 x2 x3 x4 x5 x6 x7
      = (in2 i x0 x1 x2 x3 x4 x5 x6 x7 z4).dqdH 1 := by
  simp (disch := decide) only [kernelRun0_A.sl.r_33, (r_31A (x0 := x0) (x6 := x6)), (r_32A (i := i) (x0 := x0) (x1 := x1) (x2 := x2) (x3 := x3) (x4 := x4) (x5 := x5)), View.readAt_eq_ld, Memref.IsWhole.read_unread, View.ld_unit_lit']
  rfl

theorem r_34A :
    kernelRun0_A.sl.r_34 (F := Ideal) c i arg1 harg1 arg3 harg3 arg4 harg4 arg5 harg5 arg6 harg6 arg8 harg8 x0 x2 x3 x4 x5 x7
      = (in2 i x0 x1 x2 x3 x4 x5 x6 x7 z4).dkiH 1 := by
  simp (disch := decide) only [kernelRun0_A.sl.r_34, (r_14A (x1 := x1) (x2 := x2) (x6 := x6) (x7 := x7)), (r_30A (i := i) (x0 := x0) (x1 := x1) (x3 := x3) (x4 := x4) (x5 := x5) (x6 := x6)), View.readAt_eq_ld, Memref.IsWhole.read_unread, View.ld_unit_lit']
  rfl

theorem r_35A :
    kernelRun0_A.sl.r_35 (F := Ideal) c arg3 harg3 arg14 x2
      = (in2 i x0 x1 x2 x3 x4 x5 x6 x7 z4).dkeH 1 := by
  simp (disch := decide) only [kernelRun0_A.sl.r_35, (r_26A (i := i) (x0 := x0) (x1 := x1) (x3 := x3) (x4 := x4) (x5 := x5) (x6 := x6) (x7 := x7)), (r_29A (i := i) (x0 := x0) (x1 := x1) (x2 := x2) (x3 := x3) (x4 := x4) (x5 := x5) (x6 := x6) (x7 := x7)), View.readAt_eq_ld, Memref.IsWhole.read_unread, View.ld_unit_lit']
  rfl

theorem r_36A :
    kernelRun0_A.sl.r_36 (F := Ideal) c arg7 harg7 arg14 x6
      = (in2 i x0 x1 x2 x3 x4 x5 x6 x7 z4).ddecH 1 := by
  simp (disch := decide) only [kernelRun0_A.sl.r_36, r_3A, (r_28A (i := i) (x0 := x0) (x1 := x1) (x2 := x2) (x3 := x3) (x4 := x4) (x5 := x5) (x7 := x7)), View.readAt_eq_ld, Memref.IsWhole.read_unread, View.ld_unit_lit']
  rfl

theorem r_37A :
    kernelRun0_A.sl.r_37 (F := Ideal) c i arg1 harg1 arg4 harg4 arg5 harg5 arg6 harg6 arg8 harg8 arg14 x0 x3 x4 x5 x7
      = (in2 i x0 x1 x2 x3 x4 x5 x6 x7 z4).ds' 1 := by
  simp (disch := decide) only [kernelRun0_A.sl.r_37, r_3A, (r_9A (x0 := x0) (x1 := x1) (x2 := x2) (x6 := x6) (x7 := x7)), (r_14A (x1 := x1) (x2 := x2) (x6 := x6) (x7 := x7)), (r_27A (i := i) (x0 := x0) (x1 := x1) (x2 := x2) (x3 := x3) (x4 := x4) (x5 := x5) (x6 := x6)), View.readAt_eq_ld, Memref.IsWhole.read_unread, View.ld_unit_lit']
  rfl

theorem r_38A :
    kernelRun0_A.sl.r_38 (F := Ideal) c arg3 harg3 x2
      = (in2 i x0 x1 x2 x3 x4 x5 x6 x7 z4).v 2 := by
  simp (disch := decide) only [kernelRun0_A.sl.r_38, View.readAt_eq_ld, Memref.IsWhole.read_unread, View.ld_unit_lit']
  rfl

theorem r_39A :
    kernelRun0_A.sl.r_39 (F := Ideal) c arg8 harg8 x7
      = (in2 i x0 x1 x2 x3 x4 x5 x6 x7 z4).g 2 := by
  simp (disch := decide) only [kernelRun0_A.sl.r_39, View.readAt_eq_ld, Memref.IsWhole.read_unread, View.ld_unit_lit']
  rfl

theorem r_40A :
    kernelRun0_A.sl.r_40 (F := Ideal) c arg7 harg7 x6
      = (in2 i x0 x1 x2 x3 x4 x5 x6 x7 z4).st 2 := by
  simp (disch := decide) only [kernelRun0_A.sl.r_40, View.readAt_eq_ld, Memref.IsWhole.read_unread, View.ld_unit_lit']
  rfl

theorem r_41A :
    kernelRun0_A.sl.r_41 (F := Ideal) c arg14
      = (in2 i x0 x1 x2 x3 x4 x5 x6 x7 z4).dsb 2 := by
  simp (disch := decide) only [kernelRun0_A.sl.r_41, r_4A, View.readAt_eq_ld, Memref.IsWhole.read_unread, View.ld_unit_lit']
  rfl

theorem r_42A :
    kernelRun0_A.sl.r_42 (F := Ideal) c arg3 harg3 arg8 harg8 x2 x7
      = (in2 i x0 x1 x2 x3 x4 x5 x6 x7 z4).datt 2 := by
  simp (disch := decide) only [kernelRun0_A.sl.r_42, View.readAt_eq_ld, Memref.IsWhole.read_unread, View.ld_unit_lit']
  rfl

theorem r_43A :
    kernelRun0_A.sl.r_43 (F := Ideal) c i arg2 harg2 arg4 harg4 arg5 harg5 arg6 harg6 x1 x3 x4 x5
      = In.hs (in2 i x0 x1 x2 x3 x4 x5 x6 x7 z4).ki 2 := by
  simp (disch := decide) only [kernelRun0_A.sl.r_43, (r_15A (x0 := x0) (x2 := x2) (x6 := x6) (x7 := x7)), View.readAt_eq_ld, Memref.IsWhole.read_unread, View.ld_unit_lit']
  rfl

theorem r_44A :
    kernelRun0_A.sl.r_44 (F := Ideal) c i arg2 harg2 arg3 harg3 arg4 harg4 arg5 harg5 arg6 harg6 arg7 harg7 arg8 harg8 x1 x2 x3 x4 x5 x6 x7
      = (in2 i x0 x1 x2 x3 x4 x5 x6 x7 z4).dqdH 2 := by
  simp (disch := decide) only [kernelRun0_A.sl.r_44, kernelRun0_A.sl.cst_83, (r_39A (i := i) (x0 := x0) (x1 := x1) (x2 := x2) (x3 := x3) (x4 := x4) (x5 := x5) (x6 := x6)), (r_40A (i := i) (x0 := x0) (x1 := x1) (x2 := x2) (x3 := x3) (x4 := x4) (x5 := x5) (x7 := x7)), (r_42A (i := i) (x0 := x0) (x1 := x1) (x3 := x3) (x4 := x4) (x5 := x5) (x6 := x6)), (r_43A (x0 := x0) (x2 := x2) (x6 := x6) (x7 := x7)), View.readAt_eq_ld, Memref.IsWhole.read_unread, View.ld_unit_lit']
  rfl

theorem r_45A :
    kernelRun0_A.sl.r_45 (F := Ideal) c i arg1 harg1 arg3 harg3 arg4 harg4 arg5 harg5 arg6 harg6 arg8 harg8 x0 x2 x3 x4 x5 x7
      = (in2 i x0 x1 x2 x3 x4 x5 x6 x7 z4).dkiH 2 := by
  simp (disch := decide) only [kernelRun0_A.sl.r_45, (r_14A (x1 := x1) (x2 := x2) (x6 := x6) (x7 := x7)), (r_42A (i := i) (x0 := x0) (x1 := x1) (x3 := x3) (x4 := x4) (x5 := x5) (x6 := x6)), View.readAt_eq_ld, Memref.IsWhole.read_unread, View.ld_unit_lit']
  rfl

theorem r_46A :
    kernelRun0_A.sl.r_46 (F := Ideal) c arg3 harg3 arg14 x2
      = (in2 i x0 x1 x2 x3 x4 x5 x6 x7 z4).dkeH 2 := by
  simp (disch := decide) only [kernelRun0_A.sl.r_46, (r_38A (i := i) (x0 := x0) (x1 := x1) (x3 := x3) (x4 := x4) (x5 := x5) (x6 := x6) (x7 := x7)), (r_41A (i := i) (x0 := x0) (x1 := x1) (x2 := x2) (x3 := x3) (x4 := x4) (x5 := x5) (x6 := x6) (x7 := x7)), View.readAt_eq_ld, Memref.IsWhole.read_unread, View.ld_unit_lit']
  rfl

theorem r_47A :
    kernelRun0_A.sl.r_47 (F := Ideal) c arg7 harg7 arg14 x6
      = (in2 i x0 x1 x2 x3 x4 x5 x6 x7 z4).ddecH 2 := by
  simp (disch := decide) only [kernelRun0_A.sl.r_47, r_4A, (r_40A (i := i) (x0 := x0) (x1 := x1) (x2 := x2) (x3 := x3) (x4 := x4) (x5 := x5) (x7 := x7)), View.readAt_eq_ld, Memref.IsWhole.read_unread, View.ld_unit_lit']
  rfl

theorem r_48A :
    kernelRun0_A.sl.r_48 (F := Ideal) c i arg1 harg1 arg4 harg4 arg5 harg5 arg6 harg6 arg8 harg8 arg14 x0 x3 x4 x5 x7
      = (in2 i x0 x1 x2 x3 x4 x5 x6 x7 z4).ds' 2 := by
  simp (disch := decide) only [kernelRun0_A.sl.r_48, r_4A, (r_9A (x0 := x0) (x1 := x1) (x2 := x2) (x6 := x6) (x7 := x7)), (r_14A (x1 := x1) (x2 := x2) (x6 := x6) (x7 := x7)), (r_39A (i := i) (x0 := x0) (x1 := x1) (x2 := x2) (x3 := x3) (x4 := x4) (x5 := x5) (x6 := x6)), View.readAt_eq_ld, Memref.IsWhole.read_unread, View.ld_unit_lit']
  rfl

theorem r_49A :
    kernelRun0_A.sl.r_49 (F := Ideal) c arg3 harg3 x2
      = (in2 i x0 x1 x2 x3 x4 x5 x6 x7 z4).v 3 := by
  simp (disch := decide) only [kernelRun0_A.sl.r_49, View.readAt_eq_ld, Memref.IsWhole.read_unread, View.ld_unit_lit']
  rfl

theorem r_50A :
    kernelRun0_A.sl.r_50 (F := Ideal) c arg8 harg8 x7
      = (in2 i x0 x1 x2 x3 x4 x5 x6 x7 z4).g 3 := by
  simp (disch := decide) only [kernelRun0_A.sl.r_50, View.readAt_eq_ld, Memref.IsWhole.read_unread, View.ld_unit_lit']
  rfl

theorem r_51A :
    kernelRun0_A.sl.r_51 (F := Ideal) c arg7 harg7 x6
      = (in2 i x0 x1 x2 x3 x4 x5 x6 x7 z4).st 3 := by
  simp (disch := decide) only [kernelRun0_A.sl.r_51, View.readAt_eq_ld, Memref.IsWhole.read_unread, View.ld_unit_lit']
  rfl

theorem r_52A :
    kernelRun0_A.sl.r_52 (F := Ideal) c arg14
      = (in2 i x0 x1 x2 x3 x4 x5 x6 x7 z4).dsb 3 := by
  simp (disch := decide) only [kernelRun0_A.sl.r_52, r_5A, View.readAt_eq_ld, Memref.IsWhole.read_unread, View.ld_unit_lit']
  rfl

theorem r_53A :
    kernelRun0_A.sl.r_53 (F := Ideal) c arg3 harg3 arg8 harg8 x2 x7
      = (in2 i x0 x1 x2 x3 x4 x5 x6 x7 z4).datt 3 := by
  simp (disch := decide) only [kernelRun0_A.sl.r_53, View.readAt_eq_ld, Memref.IsWhole.read_unread, View.ld_unit_lit']
  rfl

theorem r_54A :
    kernelRun0_A.sl.r_54 (F := Ideal) c i arg1 harg1 arg2 harg2 arg4 harg4 arg5 harg5 arg6 harg6 arg8 harg8 arg14 x0 x1 x3 x4 x5 x7
      = (in2 i x0 x1 x2 x3 x4 x5 x6 x7 z4).dv 3 := by
  simp (disch := decide) only [kernelRun0_A.sl.r_54, r_5A, (r_14A (x1 := x1) (x2 := x2) (x6 := x6) (x7 := x7)), (r_15A (x0 := x0) (x2 := x2) (x6 := x6) (x7 := x7)), (r_16A (x0 := x0) (x2 := x2) (x6 := x6) (x7 := x7)), View.readAt_eq_ld, Memref.IsWhole.read_unread, View.ld_unit_lit']
  rfl

theorem r_55A :
    kernelRun0_A.sl.r_55 (F := Ideal) c i arg1 harg1 arg4 harg4 arg5 harg5 arg6 harg6 arg8 harg8 arg14 x0 x3 x4 x5 x7
      = (in2 i x0 x1 x2 x3 x4 x5 x6 x7 z4).ds' 3 := by
  simp (disch := decide) only [kernelRun0_A.sl.r_55, r_5A, (r_9A (x0 := x0) (x1 := x1) (x2 := x2) (x6 := x6) (x7 := x7)), (r_14A (x1 := x1) (x2 := x2) (x6 := x6) (x7 := x7)), (r_50A (i := i) (x0 := x0) (x1 := x1) (x2 := x2) (x3 := x3) (x4 := x4) (x5 := x5) (x6 := x6)), View.readAt_eq_ld, Memref.IsWhole.read_unread, View.ld_unit_lit']
  rfl

theorem r_56A :
    kernelRun0_A.sl.r_56 (F := Ideal) c i arg2 harg2 arg3 harg3 arg4 harg4 arg5 harg5 arg6 harg6 arg7 harg7 arg14 x1 x2 x3 x4 x5 x6
      = (in2 i x0 x1 x2 x3 x4 x5 x6 x7 z4).dbl := by
  simp (disch := decide) only [kernelRun0_A.sl.r_56, r_5A, (r_9A (x0 := x0) (x1 := x1) (x2 := x2) (x6 := x6) (x7 := x7)), (r_13A (x0 := x0) (x2 := x2) (x6 := x6) (x7 := x7)), (r_23A (i := i) (x0 := x0) (x1 := x1) (x3 := x3) (x4 := x4) (x5 := x5) (x6 := x6) (x7 := x7)), (r_24A (i := i) (x0 := x0) (x1 := x1) (x2 := x2) (x3 := x3) (x4 := x4) (x5 := x5) (x7 := x7)), (r_35A (i := i) (x0 := x0) (x1 := x1) (x3 := x3) (x4 := x4) (x5 := x5) (x6 := x6) (x7 := x7)), (r_36A (i := i) (x0 := x0) (x1 := x1) (x2 := x2) (x3 := x3) (x4 := x4) (x5 := x5) (x7 := x7)), (r_46A (i := i) (x0 := x0) (x1 := x1) (x3 := x3) (x4 := x4) (x5 := x5) (x6 := x6) (x7 := x7)), (r_47A (i := i) (x0 := x0) (x1 := x1) (x2 := x2) (x3 := x3) (x4 := x4) (x5 := x5) (x7 := x7)), (r_49A (i := i) (x0 := x0) (x1 := x1) (x3 := x3) (x4 := x4) (x5 := x5) (x6 := x6) (x7 := x7)), (r_51A (i := i) (x0 := x0) (x1 := x1) (x2 := x2) (x3 := x3) (x4 := x4) (x5 := x5) (x7 := x7)), (r_52A (i := i) (x0 := x0) (x1 := x1) (x2 := x2) (x3 := x3) (x4 := x4) (x5 := x5) (x6 := x6) (x7 := x7)), View.readAt_eq_ld, Memref.IsWhole.read_unread, View.ld_unit_lit']
  rfl

theorem r_57A :
    kernelRun0_A.sl.r_57 (F := Ideal) c i arg1 harg1 arg2 harg2 arg3 harg3 arg4 harg4 arg5 harg5 arg6 harg6 arg7 harg7 arg8 harg8 arg14 x0 x1 x2 x3 x4 x5 x6 x7
      = t1 (in2 i x0 x1 x2 x3 x4 x5 x6 x7 z4).db := by
  simp (disch := decide) only [kernelRun0_A.sl.r_57, (r_11A (x1 := x1) (x2 := x2) (x6 := x6) (x7 := x7)), (r_12A (x0 := x0) (x2 := x2) (x6 := x6) (x7 := x7)), (r_13A (x0 := x0) (x2 := x2) (x6 := x6) (x7 := x7)), (r_14A (x1 := x1) (x2 := x2) (x6 := x6) (x7 := x7)), (r_15A (x0 := x0) (x2 := x2) (x6 := x6) (x7 := x7)), (r_21A (x0 := x0)), (r_22A (x1 := x1) (x6 := x6)), (r_23A (i := i) (x0 := x0) (x1 := x1) (x3 := x3) (x4 := x4) (x5 := x5) (x6 := x6) (x7 := x7)), (r_33A (x0 := x0)), (r_34A (x1 := x1) (x6 := x6)), (r_35A (i := i) (x0 := x0) (x1 := x1) (x3 := x3) (x4 := x4) (x5 := x5) (x6 := x6) (x7 := x7)), (r_44A (x0 := x0)), (r_45A (x1 := x1) (x6 := x6)), (r_46A (i := i) (x0 := x0) (x1 := x1) (x3 := x3) (x4 := x4) (x5 := x5) (x6 := x6) (x7 := x7)), (r_49A (i := i) (x0 := x0) (x1 := x1) (x3 := x3) (x4 := x4) (x5 := x5) (x6 := x6) (x7 := x7)), (r_50A (i := i) (x0 := x0) (x1 := x1) (x2 := x2) (x3 := x3) (x4 := x4) (x5 := x5) (x6 := x6)), (r_51A (i := i) (x0 := x0) (x1 := x1) (x2 := x2) (x3 := x3) (x4 := x4) (x5 := x5) (x7 := x7)), (r_52A (i := i) (x0 := x0) (x1 := x1) (x2 := x2) (x3 := x3) (x4 := x4) (x5 := x5) (x6 := x6) (x7 := x7)), (r_53A (i := i) (x0 := x0) (x1 := x1) (x3 := x3) (x4 := x4) (x5 := x5) (x6 := x6)), View.readAt_eq_ld, Memref.IsWhole.read_unread, View.ld_unit_lit']
  rfl

theorem r_58A :
    kernelRun0_A.sl.r_58 (F := Ideal) c i arg1 harg1 arg2 harg2 arg3 harg3 arg4 harg4 arg5 harg5 arg6 harg6 arg7 harg7 arg8 harg8 arg14 x0 x1 x2 x3 x4 x5 x6 x7
      = t2 (in2 i x0 x1 x2 x3 x4 x5 x6 x7 z4).db := by
  simp (disch := decide) only [kernelRun0_A.sl.r_58, (r_11A (x1 := x1) (x2 := x2) (x6 := x6) (x7 := x7)), (r_12A (x0 := x0) (x2 := x2) (x6 := x6) (x7 := x7)), (r_13A (x0 := x0) (x2 := x2) (x6 := x6) (x7 := x7)), (r_14A (x1 := x1) (x2 := x2) (x6 := x6) (x7 := x7)), (r_15A (x0 := x0) (x2 := x2) (x6 := x6) (x7 := x7)), (r_21A (x0 := x0)), (r_22A (x1 := x1) (x6 := x6)), (r_23A (i := i) (x0 := x0) (x1 := x1) (x3 := x3) (x4 := x4) (x5 := x5) (x6 := x6) (x7 := x7)), (r_33A (x0 := x0)), (r_34A (x1 := x1) (x6 := x6)), (r_35A (i := i) (x0 := x0) (x1 := x1) (x3 := x3) (x4 := x4) (x5 := x5) (x6 := x6) (x7 := x7)), (r_44A (x0 := x0)), (r_45A (x1 := x1) (x6 := x6)), (r_46A (i := i) (x0 := x0) (x1 := x1) (x3 := x3) (x4 := x4) (x5 := x5) (x6 := x6) (x7 := x7)), (r_49A (i := i) (x0 := x0) (x1 := x1) (x3 := x3) (x4 := x4) (x5 := x5) (x6 := x6) (x7 := x7)), (r_50A (i := i) (x0 := x0) (x1 := x1) (x2 := x2) (x3 := x3) (x4 := x4) (x5 := x5) (x6 := x6)), (r_51A (i := i) (x0 := x0) (x1 := x1) (x2 := x2) (x3 := x3) (x4 := x4) (x5 := x5) (x7 := x7)), (r_52A (i := i) (x0 := x0) (x1 := x1) (x2 := x2) (x3 := x3) (x4 := x4) (x5 := x5) (x6 := x6) (x7 := x7)), (r_53A (i := i) (x0 := x0) (x1 := x1) (x3 := x3) (x4 := x4) (x5 := x5) (x6 := x6)), View.readAt_eq_ld, Memref.IsWhole.read_unread, View.ld_unit_lit']
  rfl

theorem r_59A :
    kernelRun0_A.sl.r_59 (F := Ideal) c i arg1 harg1 arg2 harg2 arg3 harg3 arg4 harg4 arg5 harg5 arg6 harg6 arg7 harg7 arg8 harg8 arg14 x0 x1 x2 x3 x4 x5 x6 x7
      = t1 (t2 (in2 i x0 x1 x2 x3 x4 x5 x6 x7 z4).db) := by
  simp (disch := decide) only [kernelRun0_A.sl.r_59, (r_11A (x1 := x1) (x2 := x2) (x6 := x6) (x7 := x7)), (r_12A (x0 := x0) (x2 := x2) (x6 := x6) (x7 := x7)), (r_13A (x0 := x0) (x2 := x2) (x6 := x6) (x7 := x7)), (r_14A (x1 := x1) (x2 := x2) (x6 := x6) (x7 := x7)), (r_15A (x0 := x0) (x2 := x2) (x6 := x6) (x7 := x7)), (r_21A (x0 := x0)), (r_22A (x1 := x1) (x6 := x6)), (r_23A (i := i) (x0 := x0) (x1 := x1) (x3 := x3) (x4 := x4) (x5 := x5) (x6 := x6) (x7 := x7)), (r_33A (x0 := x0)), (r_34A (x1 := x1) (x6 := x6)), (r_35A (i := i) (x0 := x0) (x1 := x1) (x3 := x3) (x4 := x4) (x5 := x5) (x6 := x6) (x7 := x7)), (r_44A (x0 := x0)), (r_45A (x1 := x1) (x6 := x6)), (r_46A (i := i) (x0 := x0) (x1 := x1) (x3 := x3) (x4 := x4) (x5 := x5) (x6 := x6) (x7 := x7)), (r_49A (i := i) (x0 := x0) (x1 := x1) (x3 := x3) (x4 := x4) (x5 := x5) (x6 := x6) (x7 := x7)), (r_50A (i := i) (x0 := x0) (x1 := x1) (x2 := x2) (x3 := x3) (x4 := x4) (x5 := x5) (x6 := x6)), (r_51A (i := i) (x0 := x0) (x1 := x1) (x2 := x2) (x3 := x3) (x4 := x4) (x5 := x5) (x7 := x7)), (r_52A (i := i) (x0 := x0) (x1 := x1) (x2 := x2) (x3 := x3) (x4 := x4) (x5 := x5) (x6 := x6) (x7 := x7)), (r_53A (i := i) (x0 := x0) (x1 := x1) (x3 := x3) (x4 := x4) (x5 := x5) (x6 := x6)), View.readAt_eq_ld, Memref.IsWhole.read_unread, View.ld_unit_lit']
  rfl

theorem r_60A :
    kernelRun0_A.sl.r_60 (F := Ideal) c i arg1 harg1 arg2 harg2 arg3 harg3 arg4 harg4 arg5 harg5 arg6 harg6 arg7 harg7 arg8 harg8 arg14 x0 x1 x2 x3 x4 x5 x6 x7
      = (in2 i x0 x1 x2 x3 x4 x5 x6 x7 z4).dz := by
  simp (disch := decide) only [kernelRun0_A.sl.r_60, kernelRun0_A.sl.v0, kernelRun0_A.sl.v35, kernelRun0_A.sl.v36, rA, (r_56A (x0 := x0) (x7 := x7)), r_57A, r_58A, r_59A, View.readAt_eq_ld, Memref.IsWhole.read_unread, View.ld_unit_lit']
  rfl

theorem r_61A :
    kernelRun0_A.sl.r_61 (F := Ideal) c i arg4 harg4 arg5 harg5 arg6 harg6 x3 x4 x5
      = t3 (in1 i x0 x1 x2 x3 x4 x5 x6 x7 z4).la := by
  simp (disch := decide) only [kernelRun0_A.sl.r_61, r_1A, View.readAt_eq_ld, Memref.IsWhole.read_unread, View.ld_unit_lit']
  rfl

theorem r_62A :
    kernelRun0_A.sl.r_62 (F := Ideal) c i arg4 harg4 arg5 harg5 arg6 harg6 x3 x4 x5
      = tm12 tri (in1 i x0 x1 x2 x3 x4 x5 x6 x7 z4).la := by
  simp (disch := decide) only [kernelRun0_A.sl.r_62, r_1A, View.readAt_eq_ld, Memref.IsWhole.read_unread, View.ld_unit_lit']
  rfl

theorem r_63A :
    kernelRun0_A.sl.r_63 (F := Ideal) c i arg4 harg4 arg5 harg5 arg6 harg6 x3 x4 x5
      = (in1 i x0 x1 x2 x3 x4 x5 x6 x7 z4).eb := by
  simp (disch := decide) only [kernelRun0_A.sl.r_63, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_64A :
    kernelRun0_A.sl.r_64 (F := Ideal) c i arg4 harg4 arg5 harg5 arg6 harg6 x3 x4 x5
      = (in1 i x0 x1 x2 x3 x4 x5 x6 x7 z4).enb := by
  simp (disch := decide) only [kernelRun0_A.sl.r_64, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_65A :
    kernelRun0_A.sl.r_65 (F := Ideal) c i arg4 harg4 arg5 harg5 arg6 harg6 x3 x4 x5
      = (in1 i x0 x1 x2 x3 x4 x5 x6 x7 z4).ebl := by
  simp (disch := decide) only [kernelRun0_A.sl.r_65, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_66A :
    kernelRun0_A.sl.r_66 (F := Ideal) c i arg4 harg4 arg5 harg5 arg6 harg6 x3 x4 x5
      = (in1 i x0 x1 x2 x3 x4 x5 x6 x7 z4).dec := by
  simp (disch := decide) only [kernelRun0_A.sl.r_66, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_67A :
    kernelRun0_A.sl.r_67 (F := Ideal) c i arg1 harg1 arg4 harg4 arg5 harg5 arg6 harg6 x0 x3 x4 x5
      = (in1 i x0 x1 x2 x3 x4 x5 x6 x7 z4).qd32 := by
  simp (disch := decide) only [kernelRun0_A.sl.r_67, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_68A :
    kernelRun0_A.sl.r_68 (F := Ideal) c i arg2 harg2 arg4 harg4 arg5 harg5 arg6 harg6 x1 x3 x4 x5
      = (in1 i x0 x1 x2 x3 x4 x5 x6 x7 z4).ki32 := by
  simp (disch := decide) only [kernelRun0_A.sl.r_68, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_69A :
    kernelRun0_A.sl.r_69 (F := Ideal) c i arg2 harg2 arg4 harg4 arg5 harg5 arg6 harg6 x1 x3 x4 x5
      = (in1 i x0 x1 x2 x3 x4 x5 x6 x7 z4).ke32 := by
  simp (disch := decide) only [kernelRun0_A.sl.r_69, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_70A :
    kernelRun0_A.sl.r_70 (F := Ideal) c i arg1 harg1 arg4 harg4 arg5 harg5 arg6 harg6 x0 x3 x4 x5
      = (in1 i x0 x1 x2 x3 x4 x5 x6 x7 z4).qd := by
  simp (disch := decide) only [kernelRun0_A.sl.r_70, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_71A :
    kernelRun0_A.sl.r_71 (F := Ideal) c i arg2 harg2 arg4 harg4 arg5 harg5 arg6 harg6 x1 x3 x4 x5
      = (in1 i x0 x1 x2 x3 x4 x5 x6 x7 z4).ki := by
  simp (disch := decide) only [kernelRun0_A.sl.r_71, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_72A :
    kernelRun0_A.sl.r_72 (F := Ideal) c i arg2 harg2 arg4 harg4 arg5 harg5 arg6 harg6 x1 x3 x4 x5
      = (in1 i x0 x1 x2 x3 x4 x5 x6 x7 z4).ke := by
  simp (disch := decide) only [kernelRun0_A.sl.r_72, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_73A :
    kernelRun0_A.sl.r_73 (F := Ideal) c arg3 harg3 x2
      = (in1 i x0 x1 x2 x3 x4 x5 x6 x7 z4).v 0 := by
  simp (disch := decide) only [kernelRun0_A.sl.r_73, View.readAt_eq_ld, Memref.IsWhole.read_unread, View.ld_unit_lit']
  rfl

theorem r_74A :
    kernelRun0_A.sl.r_74 (F := Ideal) c arg8 harg8 x7
      = (in1 i x0 x1 x2 x3 x4 x5 x6 x7 z4).g 0 := by
  simp (disch := decide) only [kernelRun0_A.sl.r_74, View.readAt_eq_ld, Memref.IsWhole.read_unread, View.ld_unit_lit']
  rfl

theorem r_75A :
    kernelRun0_A.sl.r_75 (F := Ideal) c arg7 harg7 x6
      = (in1 i x0 x1 x2 x3 x4 x5 x6 x7 z4).st 0 := by
  simp (disch := decide) only [kernelRun0_A.sl.r_75, View.readAt_eq_ld, Memref.IsWhole.read_unread, View.ld_unit_lit']
  rfl

theorem r_76A :
    kernelRun0_A.sl.r_76 (F := Ideal) c i arg1 harg1 arg4 harg4 arg5 harg5 arg6 harg6 arg8 harg8 arg14 x0 x3 x4 x5 x7
      = (in1 i x0 x1 x2 x3 x4 x5 x6 x7 z4).dsb 0 := by
  simp (disch := decide) only [kernelRun0_A.sl.r_76, (r_25A (x1 := x1) (x2 := x2) (x6 := x6)), View.readAt_eq_ld, Memref.IsWhole.read_unread, View.ld_unit_lit']
  rfl

theorem r_77A :
    kernelRun0_A.sl.r_77 (F := Ideal) c i arg1 harg1 arg2 harg2 arg4 harg4 arg5 harg5 arg6 harg6 x0 x1 x3 x4 x5
      = (in1 i x0 x1 x2 x3 x4 x5 x6 x7 z4).att 0 := by
  simp (disch := decide) only [kernelRun0_A.sl.r_77, kernelRun0_A.sl.cst_128, (r_61A (x0 := x0) (x1 := x1) (x2 := x2) (x6 := x6) (x7 := x7)), (r_62A (x0 := x0) (x1 := x1) (x2 := x2) (x6 := x6) (x7 := x7)), View.readAt_eq_ld, Memref.IsWhole.read_unread, View.ld_unit_lit']
  rfl

theorem r_78A :
    kernelRun0_A.sl.r_78 (F := Ideal) c arg3 harg3 arg8 harg8 x2 x7
      = (in1 i x0 x1 x2 x3 x4 x5 x6 x7 z4).datt1 0 := by
  simp (disch := decide) only [kernelRun0_A.sl.r_78, View.readAt_eq_ld, Memref.IsWhole.read_unread, View.ld_unit_lit']
  rfl

theorem r_79A :
    kernelRun0_A.sl.r_79 (F := Ideal) c i arg2 harg2 arg3 harg3 arg4 harg4 arg5 harg5 arg6 harg6 arg7 harg7 arg8 harg8 x1 x2 x3 x4 x5 x6 x7
      = (in1 i x0 x1 x2 x3 x4 x5 x6 x7 z4).dqdH 0 := by
  simp (disch := decide) only [kernelRun0_A.sl.r_79, (r_71A (x0 := x0) (x2 := x2) (x6 := x6) (x7 := x7)), (r_74A (i := i) (x0 := x0) (x1 := x1) (x2 := x2) (x3 := x3) (x4 := x4) (x5 := x5) (x6 := x6)), (r_75A (i := i) (x0 := x0) (x1 := x1) (x2 := x2) (x3 := x3) (x4 := x4) (x5 := x5) (x7 := x7)), (r_78A (i := i) (x0 := x0) (x1 := x1) (x3 := x3) (x4 := x4) (x5 := x5) (x6 := x6)), View.readAt_eq_ld, Memref.IsWhole.read_unread, View.ld_unit_lit']
  rfl

theorem r_80A :
    kernelRun0_A.sl.r_80 (F := Ideal) c i arg1 harg1 arg3 harg3 arg4 harg4 arg5 harg5 arg6 harg6 arg8 harg8 x0 x2 x3 x4 x5 x7
      = (in1 i x0 x1 x2 x3 x4 x5 x6 x7 z4).dkiH 0 := by
  simp (disch := decide) only [kernelRun0_A.sl.r_80, (r_70A (x1 := x1) (x2 := x2) (x6 := x6) (x7 := x7)), (r_78A (i := i) (x0 := x0) (x1 := x1) (x3 := x3) (x4 := x4) (x5 := x5) (x6 := x6)), View.readAt_eq_ld, Memref.IsWhole.read_unread, View.ld_unit_lit']
  rfl

theorem r_81A :
    kernelRun0_A.sl.r_81 (F := Ideal) c i arg1 harg1 arg3 harg3 arg4 harg4 arg5 harg5 arg6 harg6 arg8 harg8 arg14 x0 x2 x3 x4 x5 x7
      = (in1 i x0 x1 x2 x3 x4 x5 x6 x7 z4).dkeH 0 := by
  simp (disch := decide) only [kernelRun0_A.sl.r_81, (r_73A (i := i) (x0 := x0) (x1 := x1) (x3 := x3) (x4 := x4) (x5 := x5) (x6 := x6) (x7 := x7)), (r_76A (x1 := x1) (x2 := x2) (x6 := x6)), View.readAt_eq_ld, Memref.IsWhole.read_unread, View.ld_unit_lit']
  rfl

theorem r_82A :
    kernelRun0_A.sl.r_82 (F := Ideal) c i arg1 harg1 arg4 harg4 arg5 harg5 arg6 harg6 arg7 harg7 arg8 harg8 arg14 x0 x3 x4 x5 x6 x7
      = (in1 i x0 x1 x2 x3 x4 x5 x6 x7 z4).ddecH 0 := by
  simp (disch := decide) only [kernelRun0_A.sl.r_82, (r_25A (x1 := x1) (x2 := x2) (x6 := x6)), (r_75A (i := i) (x0 := x0) (x1 := x1) (x2 := x2) (x3 := x3) (x4 := x4) (x5 := x5) (x7 := x7)), View.readAt_eq_ld, Memref.IsWhole.read_unread, View.ld_unit_lit']
  rfl

theorem r_83A :
    kernelRun0_A.sl.r_83 (F := Ideal) c i arg1 harg1 arg4 harg4 arg5 harg5 arg6 harg6 arg8 harg8 arg14 x0 x3 x4 x5 x7
      = (in1 i x0 x1 x2 x3 x4 x5 x6 x7 z4).ds' 0 := by
  simp (disch := decide) only [kernelRun0_A.sl.r_83, (r_25A (x1 := x1) (x2 := x2) (x6 := x6)), (r_66A (x0 := x0) (x1 := x1) (x2 := x2) (x6 := x6) (x7 := x7)), (r_70A (x1 := x1) (x2 := x2) (x6 := x6) (x7 := x7)), (r_74A (i := i) (x0 := x0) (x1 := x1) (x2 := x2) (x3 := x3) (x4 := x4) (x5 := x5) (x6 := x6)), View.readAt_eq_ld, Memref.IsWhole.read_unread, View.ld_unit_lit']
  rfl

theorem r_84A :
    kernelRun0_A.sl.r_84 (F := Ideal) c arg3 harg3 x2
      = (in1 i x0 x1 x2 x3 x4 x5 x6 x7 z4).v 1 := by
  simp (disch := decide) only [kernelRun0_A.sl.r_84, View.readAt_eq_ld, Memref.IsWhole.read_unread, View.ld_unit_lit']
  rfl

theorem r_85A :
    kernelRun0_A.sl.r_85 (F := Ideal) c arg8 harg8 x7
      = (in1 i x0 x1 x2 x3 x4 x5 x6 x7 z4).g 1 := by
  simp (disch := decide) only [kernelRun0_A.sl.r_85, View.readAt_eq_ld, Memref.IsWhole.read_unread, View.ld_unit_lit']
  rfl

theorem r_86A :
    kernelRun0_A.sl.r_86 (F := Ideal) c arg7 harg7 x6
      = (in1 i x0 x1 x2 x3 x4 x5 x6 x7 z4).st 1 := by
  simp (disch := decide) only [kernelRun0_A.sl.r_86, View.readAt_eq_ld, Memref.IsWhole.read_unread, View.ld_unit_lit']
  rfl

theorem r_87A :
    kernelRun0_A.sl.r_87 (F := Ideal) c i arg1 harg1 arg4 harg4 arg5 harg5 arg6 harg6 arg8 harg8 arg14 x0 x3 x4 x5 x7
      = (in1 i x0 x1 x2 x3 x4 x5 x6 x7 z4).dsb 1 := by
  simp (disch := decide) only [kernelRun0_A.sl.r_87, (r_37A (x1 := x1) (x2 := x2) (x6 := x6)), View.readAt_eq_ld, Memref.IsWhole.read_unread, View.ld_unit_lit']
  rfl

theorem r_88A :
    kernelRun0_A.sl.r_88 (F := Ideal) c i arg1 harg1 arg2 harg2 arg4 harg4 arg5 harg5 arg6 harg6 x0 x1 x3 x4 x5
      = (in1 i x0 x1 x2 x3 x4 x5 x6 x7 z4).att 1 := by
  simp (disch := decide) only [kernelRun0_A.sl.r_88, (r_70A (x1 := x1) (x2 := x2) (x6 := x6) (x7 := x7)), (r_71A (x0 := x0) (x2 := x2) (x6 := x6) (x7 := x7)), View.readAt_eq_ld, Memref.IsWhole.read_unread, View.ld_unit_lit']
  rfl

theorem r_89A :
    kernelRun0_A.sl.r_89 (F := Ideal) c i arg2 harg2 arg3 harg3 arg4 harg4 arg5 harg5 arg6 harg6 arg7 harg7 arg8 harg8 x1 x2 x3 x4 x5 x6 x7
      = (in1 i x0 x1 x2 x3 x4 x5 x6 x7 z4).dqdH 1 := by
  simp (disch := decide) only [kernelRun0_A.sl.r_89, kernelRun0_A.sl.cst_166, (r_71A (x0 := x0) (x2 := x2) (x6 := x6) (x7 := x7)), (r_84A (i := i) (x0 := x0) (x1 := x1) (x3 := x3) (x4 := x4) (x5 := x5) (x6 := x6) (x7 := x7)), (r_85A (i := i) (x0 := x0) (x1 := x1) (x2 := x2) (x3 := x3) (x4 := x4) (x5 := x5) (x6 := x6)), (r_86A (i := i) (x0 := x0) (x1 := x1) (x2 := x2) (x3 := x3) (x4 := x4) (x5 := x5) (x7 := x7)), View.readAt_eq_ld, Memref.IsWhole.read_unread, View.ld_unit_lit']
  rfl

theorem r_90A :
    kernelRun0_A.sl.r_90 (F := Ideal) c i arg1 harg1 arg3 harg3 arg4 harg4 arg5 harg5 arg6 harg6 arg8 harg8 x0 x2 x3 x4 x5 x7
      = (in1 i x0 x1 x2 x3 x4 x5 x6 x7 z4).dkiH 1 := by
  simp (disch := decide) only [kernelRun0_A.sl.r_90, kernelRun0_A.sl.cst_166, (r_70A (x1 := x1) (x2 := x2) (x6 := x6) (x7 := x7)), (r_84A (i := i) (x0 := x0) (x1 := x1) (x3 := x3) (x4 := x4) (x5 := x5) (x6 := x6) (x7 := x7)), (r_85A (i := i) (x0 := x0) (x1 := x1) (x2 := x2) (x3 := x3) (x4 := x4) (x5 := x5) (x6 := x6)), View.readAt_eq_ld, Memref.IsWhole.read_unread, View.ld_unit_lit']
  rfl

theorem r_91A :
    kernelRun0_A.sl.r_91 (F := Ideal) c i arg1 harg1 arg3 harg3 arg4 harg4 arg5 harg5 arg6 harg6 arg8 harg8 arg14 x0 x2 x3 x4 x5 x7
      = (in1 i x0 x1 x2 x3 x4 x5 x6 x7 z4).dkeH 1 := by
  simp (disch := decide) only [kernelRun0_A.sl.r_91, (r_84A (i := i) (x0 := x0) (x1 := x1) (x3 := x3) (x4 := x4) (x5 := x5) (x6 := x6) (x7 := x7)), (r_87A (x1 := x1) (x2 := x2) (x6 := x6)), View.readAt_eq_ld, Memref.IsWhole.read_unread, View.ld_unit_lit']
  rfl

theorem r_92A :
    kernelRun0_A.sl.r_92 (F := Ideal) c i arg1 harg1 arg4 harg4 arg5 harg5 arg6 harg6 arg7 harg7 arg8 harg8 arg14 x0 x3 x4 x5 x6 x7
      = (in1 i x0 x1 x2 x3 x4 x5 x6 x7 z4).ddecH 1 := by
  simp (disch := decide) only [kernelRun0_A.sl.r_92, (r_37A (x1 := x1) (x2 := x2) (x6 := x6)), (r_86A (i := i) (x0 := x0) (x1 := x1) (x2 := x2) (x3 := x3) (x4 := x4) (x5 := x5) (x7 := x7)), View.readAt_eq_ld, Memref.IsWhole.read_unread, View.ld_unit_lit']
  rfl

theorem r_93A :
    kernelRun0_A.sl.r_93 (F := Ideal) c i arg1 harg1 arg4 harg4 arg5 harg5 arg6 harg6 arg8 harg8 arg14 x0 x3 x4 x5 x7
      = (in1 i x0 x1 x2 x3 x4 x5 x6 x7 z4).ds' 1 := by
  simp (disch := decide) only [kernelRun0_A.sl.r_93, (r_37A (x1 := x1) (x2 := x2) (x6 := x6)), (r_66A (x0 := x0) (x1 := x1) (x2 := x2) (x6 := x6) (x7 := x7)), (r_70A (x1 := x1) (x2 := x2) (x6 := x6) (x7 := x7)), (r_85A (i := i) (x0 := x0) (x1 := x1) (x2 := x2) (x3 := x3) (x4 := x4) (x5 := x5) (x6 := x6)), View.readAt_eq_ld, Memref.IsWhole.read_unread, View.ld_unit_lit']
  rfl

theorem r_94A :
    kernelRun0_A.sl.r_94 (F := Ideal) c arg3 harg3 x2
      = (in1 i x0 x1 x2 x3 x4 x5 x6 x7 z4).v 2 := by
  simp (disch := decide) only [kernelRun0_A.sl.r_94, View.readAt_eq_ld, Memref.IsWhole.read_unread, View.ld_unit_lit']
  rfl

theorem r_95A :
    kernelRun0_A.sl.r_95 (F := Ideal) c arg8 harg8 x7
      = (in1 i x0 x1 x2 x3 x4 x5 x6 x7 z4).g 2 := by
  simp (disch := decide) only [kernelRun0_A.sl.r_95, View.readAt_eq_ld, Memref.IsWhole.read_unread, View.ld_unit_lit']
  rfl

theorem r_96A :
    kernelRun0_A.sl.r_96 (F := Ideal) c arg7 harg7 x6
      = (in1 i x0 x1 x2 x3 x4 x5 x6 x7 z4).st 2 := by
  simp (disch := decide) only [kernelRun0_A.sl.r_96, View.readAt_eq_ld, Memref.IsWhole.read_unread, View.ld_unit_lit']
  rfl

theorem r_97A :
    kernelRun0_A.sl.r_97 (F := Ideal) c i arg1 harg1 arg4 harg4 arg5 harg5 arg6 harg6 arg8 harg8 arg14 x0 x3 x4 x5 x7
      = (in1 i x0 x1 x2 x3 x4 x5 x6 x7 z4).dsb 2 := by
  simp (disch := decide) only [kernelRun0_A.sl.r_97, (r_48A (x1 := x1) (x2 := x2) (x6 := x6)), View.readAt_eq_ld, Memref.IsWhole.read_unread, View.ld_unit_lit']
  rfl

theorem r_98A :
    kernelRun0_A.sl.r_98 (F := Ideal) c i arg1 harg1 arg2 harg2 arg4 harg4 arg5 harg5 arg6 harg6 x0 x1 x3 x4 x5
      = (in1 i x0 x1 x2 x3 x4 x5 x6 x7 z4).att0 2 := by
  simp (disch := decide) only [kernelRun0_A.sl.r_98, (r_70A (x1 := x1) (x2 := x2) (x6 := x6) (x7 := x7)), (r_71A (x0 := x0) (x2 := x2) (x6 := x6) (x7 := x7)), View.readAt_eq_ld, Memref.IsWhole.read_unread, View.ld_unit_lit']
  rfl

theorem r_99A :
    kernelRun0_A.sl.r_99 (F := Ideal) c i arg2 harg2 arg3 harg3 arg4 harg4 arg5 harg5 arg6 harg6 arg7 harg7 arg8 harg8 x1 x2 x3 x4 x5 x6 x7
      = (in1 i x0 x1 x2 x3 x4 x5 x6 x7 z4).dqdH 2 := by
  simp (disch := decide) only [kernelRun0_A.sl.r_99, (r_71A (x0 := x0) (x2 := x2) (x6 := x6) (x7 := x7)), (r_94A (i := i) (x0 := x0) (x1 := x1) (x3 := x3) (x4 := x4) (x5 := x5) (x6 := x6) (x7 := x7)), (r_95A (i := i) (x0 := x0) (x1 := x1) (x2 := x2) (x3 := x3) (x4 := x4) (x5 := x5) (x6 := x6)), (r_96A (i := i) (x0 := x0) (x1 := x1) (x2 := x2) (x3 := x3) (x4 := x4) (x5 := x5) (x7 := x7)), View.readAt_eq_ld, Memref.IsWhole.read_unread, View.ld_unit_lit']
  rfl

theorem r_100A :
    kernelRun0_A.sl.r_100 (F := Ideal) c i arg1 harg1 arg3 harg3 arg4 harg4 arg5 harg5 arg6 harg6 arg8 harg8 x0 x2 x3 x4 x5 x7
      = (in1 i x0 x1 x2 x3 x4 x5 x6 x7 z4).dkiH 2 := by
  simp (disch := decide) only [kernelRun0_A.sl.r_100, (r_70A (x1 := x1) (x2 := x2) (x6 := x6) (x7 := x7)), (r_94A (i := i) (x0 := x0) (x1 := x1) (x3 := x3) (x4 := x4) (x5 := x5) (x6 := x6) (x7 := x7)), (r_95A (i := i) (x0 := x0) (x1 := x1) (x2 := x2) (x3 := x3) (x4 := x4) (x5 := x5) (x6 := x6)), View.readAt_eq_ld, Memref.IsWhole.read_unread, View.ld_unit_lit']
  rfl

theorem r_101A :
    kernelRun0_A.sl.r_101 (F := Ideal) c i arg1 harg1 arg3 harg3 arg4 harg4 arg5 harg5 arg6 harg6 arg8 harg8 arg14 x0 x2 x3 x4 x5 x7
      = (in1 i x0 x1 x2 x3 x4 x5 x6 x7 z4).dkeH 2 := by
  simp (disch := decide) only [kernelRun0_A.sl.r_101, (r_94A (i := i) (x0 := x0) (x1 := x1) (x3 := x3) (x4 := x4) (x5 := x5) (x6 := x6) (x7 := x7)), (r_97A (x1 := x1) (x2 := x2) (x6 := x6)), View.readAt_eq_ld, Memref.IsWhole.read_unread, View.ld_unit_lit']
  rfl

theorem r_102A :
    kernelRun0_A.sl.r_102 (F := Ideal) c i arg1 harg1 arg4 harg4 arg5 harg5 arg6 harg6 arg7 harg7 arg8 harg8 arg14 x0 x3 x4 x5 x6 x7
      = (in1 i x0 x1 x2 x3 x4 x5 x6 x7 z4).ddecH 2 := by
  simp (disch := decide) only [kernelRun0_A.sl.r_102, (r_48A (x1 := x1) (x2 := x2) (x6 := x6)), (r_96A (i := i) (x0 := x0) (x1 := x1) (x2 := x2) (x3 := x3) (x4 := x4) (x5 := x5) (x7 := x7)), View.readAt_eq_ld, Memref.IsWhole.read_unread, View.ld_unit_lit']
  rfl

theorem r_103A :
    kernelRun0_A.sl.r_103 (F := Ideal) c i arg1 harg1 arg4 harg4 arg5 harg5 arg6 harg6 arg8 harg8 arg14 x0 x3 x4 x5 x7
      = (in1 i x0 x1 x2 x3 x4 x5 x6 x7 z4).ds' 2 := by
  simp (disch := decide) only [kernelRun0_A.sl.r_103, (r_48A (x1 := x1) (x2 := x2) (x6 := x6)), (r_66A (x0 := x0) (x1 := x1) (x2 := x2) (x6 := x6) (x7 := x7)), (r_70A (x1 := x1) (x2 := x2) (x6 := x6) (x7 := x7)), (r_95A (i := i) (x0 := x0) (x1 := x1) (x2 := x2) (x3 := x3) (x4 := x4) (x5 := x5) (x6 := x6)), View.readAt_eq_ld, Memref.IsWhole.read_unread, View.ld_unit_lit']
  rfl

theorem r_104A :
    kernelRun0_A.sl.r_104 (F := Ideal) c arg3 harg3 x2
      = (in1 i x0 x1 x2 x3 x4 x5 x6 x7 z4).v 3 := by
  simp (disch := decide) only [kernelRun0_A.sl.r_104, View.readAt_eq_ld, Memref.IsWhole.read_unread, View.ld_unit_lit']
  rfl

theorem r_105A :
    kernelRun0_A.sl.r_105 (F := Ideal) c arg8 harg8 x7
      = (in1 i x0 x1 x2 x3 x4 x5 x6 x7 z4).g 3 := by
  simp (disch := decide) only [kernelRun0_A.sl.r_105, View.readAt_eq_ld, Memref.IsWhole.read_unread, View.ld_unit_lit']
  rfl

theorem r_106A :
    kernelRun0_A.sl.r_106 (F := Ideal) c arg7 harg7 x6
      = (in1 i x0 x1 x2 x3 x4 x5 x6 x7 z4).st 3 := by
  simp (disch := decide) only [kernelRun0_A.sl.r_106, View.readAt_eq_ld, Memref.IsWhole.read_unread, View.ld_unit_lit']
  rfl

theorem r_107A :
    kernelRun0_A.sl.r_107 (F := Ideal) c i arg1 harg1 arg4 harg4 arg5 harg5 arg6 harg6 arg8 harg8 arg14 x0 x3 x4 x5 x7
      = (in1 i x0 x1 x2 x3 x4 x5 x6 x7 z4).dsb 3 := by
  simp (disch := decide) only [kernelRun0_A.sl.r_107, (r_55A (x1 := x1) (x2 := x2) (x6 := x6)), View.readAt_eq_ld, Memref.IsWhole.read_unread, View.ld_unit_lit']
  rfl

theorem r_108A :
    kernelRun0_A.sl.r_108 (F := Ideal) c i arg1 harg1 arg4 harg4 arg5 harg5 arg6 harg6 x0 x3 x4 x5
      = In.hs (in1 i x0 x1 x2 x3 x4 x5 x6 x7 z4).qd 3 := by
  simp (disch := decide) only [kernelRun0_A.sl.r_108, (r_70A (x1 := x1) (x2 := x2) (x6 := x6) (x7 := x7)), View.readAt_eq_ld, Memref.IsWhole.read_unread, View.ld_unit_lit']
  rfl

theorem r_109A :
    kernelRun0_A.sl.r_109 (F := Ideal) c i arg1 harg1 arg4 harg4 arg5 harg5 arg6 harg6 arg8 harg8 arg14 x0 x3 x4 x5 x7
      = (in1 i x0 x1 x2 x3 x4 x5 x6 x7 z4).ds' 3 := by
  simp (disch := decide) only [kernelRun0_A.sl.r_109, (r_55A (x1 := x1) (x2 := x2) (x6 := x6)), (r_66A (x0 := x0) (x1 := x1) (x2 := x2) (x6 := x6) (x7 := x7)), (r_70A (x1 := x1) (x2 := x2) (x6 := x6) (x7 := x7)), (r_105A (i := i) (x0 := x0) (x1 := x1) (x2 := x2) (x3 := x3) (x4 := x4) (x5 := x5) (x6 := x6)), View.readAt_eq_ld, Memref.IsWhole.read_unread, View.ld_unit_lit']
  rfl

theorem r_110A :
    kernelRun0_A.sl.r_110 (F := Ideal) c i arg2 harg2 arg3 harg3 arg4 harg4 arg5 harg5 arg6 harg6 arg7 harg7 arg8 harg8 x1 x2 x3 x4 x5 x6 x7
      = (in1 i x0 x1 x2 x3 x4 x5 x6 x7 z4).dqd := by
  simp (disch := decide) only [kernelRun0_A.sl.r_110, (r_71A (x0 := x0) (x2 := x2) (x6 := x6) (x7 := x7)), (r_79A (x0 := x0)), (r_89A (x0 := x0)), (r_99A (x0 := x0)), (r_104A (i := i) (x0 := x0) (x1 := x1) (x3 := x3) (x4 := x4) (x5 := x5) (x6 := x6) (x7 := x7)), (r_105A (i := i) (x0 := x0) (x1 := x1) (x2 := x2) (x3 := x3) (x4 := x4) (x5 := x5) (x6 := x6)), (r_106A (i := i) (x0 := x0) (x1 := x1) (x2 := x2) (x3 := x3) (x4 := x4) (x5 := x5) (x7 := x7)), View.readAt_eq_ld, Memref.IsWhole.read_unread, View.ld_unit_lit']
  rfl

theorem r_111A :
    kernelRun0_A.sl.r_111 (F := Ideal) c i arg1 harg1 arg3 harg3 arg4 harg4 arg5 harg5 arg6 harg6 arg8 harg8 x0 x2 x3 x4 x5 x7
      = (in1 i x0 x1 x2 x3 x4 x5 x6 x7 z4).dki := by
  simp (disch := decide) only [kernelRun0_A.sl.r_111, (r_70A (x1 := x1) (x2 := x2) (x6 := x6) (x7 := x7)), (r_80A (x1 := x1) (x6 := x6)), (r_90A (x1 := x1) (x6 := x6)), (r_100A (x1 := x1) (x6 := x6)), (r_104A (i := i) (x0 := x0) (x1 := x1) (x3 := x3) (x4 := x4) (x5 := x5) (x6 := x6) (x7 := x7)), (r_105A (i := i) (x0 := x0) (x1 := x1) (x2 := x2) (x3 := x3) (x4 := x4) (x5 := x5) (x6 := x6)), View.readAt_eq_ld, Memref.IsWhole.read_unread, View.ld_unit_lit']
  rfl

theorem r_112A :
    kernelRun0_A.sl.r_112 (F := Ideal) c i arg1 harg1 arg3 harg3 arg4 harg4 arg5 harg5 arg6 harg6 arg8 harg8 arg14 x0 x2 x3 x4 x5 x7
      = (in1 i x0 x1 x2 x3 x4 x5 x6 x7 z4).dke := by
  simp (disch := decide) only [kernelRun0_A.sl.r_112, (r_81A (x1 := x1) (x6 := x6)), (r_91A (x1 := x1) (x6 := x6)), (r_101A (x1 := x1) (x6 := x6)), (r_104A (i := i) (x0 := x0) (x1 := x1) (x3 := x3) (x4 := x4) (x5 := x5) (x6 := x6) (x7 := x7)), (r_107A (x1 := x1) (x2 := x2) (x6 := x6)), View.readAt_eq_ld, Memref.IsWhole.read_unread, View.ld_unit_lit']
  rfl

theorem r_113A :
    kernelRun0_A.sl.r_113 (F := Ideal) c i arg1 harg1 arg4 harg4 arg5 harg5 arg6 harg6 arg7 harg7 arg8 harg8 arg14 x0 x3 x4 x5 x6 x7
      = (in1 i x0 x1 x2 x3 x4 x5 x6 x7 z4).ddec := by
  simp (disch := decide) only [kernelRun0_A.sl.r_113, (r_55A (x1 := x1) (x2 := x2) (x6 := x6)), (r_82A (x1 := x1) (x2 := x2)), (r_92A (x1 := x1) (x2 := x2)), (r_102A (x1 := x1) (x2 := x2)), (r_106A (i := i) (x0 := x0) (x1 := x1) (x2 := x2) (x3 := x3) (x4 := x4) (x5 := x5) (x7 := x7)), View.readAt_eq_ld, Memref.IsWhole.read_unread, View.ld_unit_lit']
  rfl

theorem r_114A :
    kernelRun0_A.sl.r_114 i
      = (in1 i x0 x1 x2 x3 x4 x5 x6 x7 z4).real := by
  simp (disch := decide) only [kernelRun0_A.sl.r_114, kernelRun0_A.sl.v0, View.readAt_eq_ld, Memref.IsWhole.read_unread, View.ld_unit_lit']
  rfl

theorem r_115A :
    kernelRun0_A.sl.r_115 (F := Ideal) c i arg1 harg1 arg2 harg2 arg3 harg3 arg4 harg4 arg5 harg5 arg6 harg6 arg7 harg7 arg8 harg8 arg14 x0 x1 x2 x3 x4 x5 x6 x7
      = (in1 i x0 x1 x2 x3 x4 x5 x6 x7 z4).dgs := by
  simp (disch := decide) only [kernelRun0_A.sl.r_115, kernelRun0_A.sl.v35, kernelRun0_A.sl.v36, (r_66A (x0 := x0) (x1 := x1) (x2 := x2) (x6 := x6) (x7 := x7)), (r_67A (x1 := x1) (x2 := x2) (x6 := x6) (x7 := x7)), (r_68A (x0 := x0) (x2 := x2) (x6 := x6) (x7 := x7)), (r_69A (x0 := x0) (x2 := x2) (x6 := x6) (x7 := x7)), (r_110A (x0 := x0)), (r_111A (x1 := x1) (x6 := x6)), (r_112A (x1 := x1) (x6 := x6)), (r_113A (x1 := x1) (x2 := x2)), View.readAt_eq_ld, Memref.IsWhole.read_unread, View.ld_unit_lit']
  rfl

theorem r_116A :
    kernelRun0_A.sl.r_116 (F := Ideal) c arg4 harg4 arg5 harg5 arg6 harg6 x3 x4 x5
      = (in1 i x0 x1 x2 x3 x4 x5 x6 x7 z4).sigd := by
  simp (disch := decide) only [kernelRun0_A.sl.r_116, rA, View.readAt_eq_ld, Memref.IsWhole.read_unread, View.ld_unit_lit']
  rfl

theorem r_117A :
    kernelRun0_A.sl.r_117 (F := Ideal) c i arg1 harg1 arg2 harg2 arg3 harg3 arg4 harg4 arg5 harg5 arg6 harg6 arg7 harg7 arg8 harg8 arg14 x0 x1 x2 x3 x4 x5 x6 x7
      = (in1 i x0 x1 x2 x3 x4 x5 x6 x7 z4).dz := by
  simp (disch := decide) only [kernelRun0_A.sl.r_117, kernelRun0_A.sl.cst_237, (r_114A (x0 := x0) (x1 := x1) (x2 := x2) (x3 := x3) (x4 := x4) (x5 := x5) (x6 := x6) (x7 := x7)), r_115A, (r_116A (i := i) (x0 := x0) (x1 := x1) (x2 := x2) (x6 := x6) (x7 := x7)), View.readAt_eq_ld, Memref.IsWhole.read_unread, View.ld_unit_lit']
  rfl

theorem r_118A :
    kernelRun0_A.sl.r_118 (F := Ideal) c i arg4 harg4 arg5 harg5 arg6 harg6 x3 x4 x5
      = (in0 i x0 x1 x2 x3 x4 x5 x6 x7 z4).eb := by
  simp (disch := decide) only [kernelRun0_A.sl.r_118, r_1A, View.readAt_eq_ld, Memref.IsWhole.read_unread, View.ld_unit_lit']
  rfl

theorem r_119A :
    kernelRun0_A.sl.r_119 (F := Ideal) c i arg4 harg4 arg5 harg5 arg6 harg6 x3 x4 x5
      = (in0 i x0 x1 x2 x3 x4 x5 x6 x7 z4).enb := by
  simp (disch := decide) only [kernelRun0_A.sl.r_119, r_1A, View.readAt_eq_ld, Memref.IsWhole.read_unread, View.ld_unit_lit']
  rfl

theorem r_120A :
    kernelRun0_A.sl.r_120 (F := Ideal) c i arg4 harg4 arg5 harg5 arg6 harg6 x3 x4 x5
      = (in0 i x0 x1 x2 x3 x4 x5 x6 x7 z4).ebl := by
  simp (disch := decide) only [kernelRun0_A.sl.r_120, r_1A, View.readAt_eq_ld, Memref.IsWhole.read_unread, View.ld_unit_lit']
  rfl

theorem r_121A :
    kernelRun0_A.sl.r_121 (F := Ideal) c i arg4 harg4 arg5 harg5 arg6 harg6 x3 x4 x5
      = (in0 i x0 x1 x2 x3 x4 x5 x6 x7 z4).dec := by
  simp (disch := decide) only [kernelRun0_A.sl.r_121, r_1A, View.readAt_eq_ld, Memref.IsWhole.read_unread, View.ld_unit_lit']
  rfl

theorem r_122A :
    kernelRun0_A.sl.r_122 (F := Ideal) c i arg1 harg1 arg4 harg4 arg5 harg5 arg6 harg6 x0 x3 x4 x5
      = (in0 i x0 x1 x2 x3 x4 x5 x6 x7 z4).qd32 := by
  simp (disch := decide) only [kernelRun0_A.sl.r_122, r_1A, View.readAt_eq_ld, Memref.IsWhole.read_unread, View.ld_unit_lit']
  rfl

theorem r_123A :
    kernelRun0_A.sl.r_123 (F := Ideal) c i arg2 harg2 arg4 harg4 arg5 harg5 arg6 harg6 x1 x3 x4 x5
      = (in0 i x0 x1 x2 x3 x4 x5 x6 x7 z4).ki32 := by
  simp (disch := decide) only [kernelRun0_A.sl.r_123, r_1A, View.readAt_eq_ld, Memref.IsWhole.read_unread, View.ld_unit_lit']
  rfl

theorem r_124A :
    kernelRun0_A.sl.r_124 (F := Ideal) c i arg2 harg2 arg4 harg4 arg5 harg5 arg6 harg6 x1 x3 x4 x5
      = (in0 i x0 x1 x2 x3 x4 x5 x6 x7 z4).ke32 := by
  simp (disch := decide) only [kernelRun0_A.sl.r_124, r_1A, View.readAt_eq_ld, Memref.IsWhole.read_unread, View.ld_unit_lit']
  rfl

theorem r_125A :
    kernelRun0_A.sl.r_125 (F := Ideal) c i arg1 harg1 arg4 harg4 arg5 harg5 arg6 harg6 x0 x3 x4 x5
      = (in0 i x0 x1 x2 x3 x4 x5 x6 x7 z4).qd := by
  simp (disch := decide) only [kernelRun0_A.sl.r_125, r_1A, View.readAt_eq_ld, Memref.IsWhole.read_unread, View.ld_unit_lit']
  rfl

theorem r_126A :
    kernelRun0_A.sl.r_126 (F := Ideal) c i arg2 harg2 arg4 harg4 arg5 harg5 arg6 harg6 x1 x3 x4 x5
      = (in0 i x0 x1 x2 x3 x4 x5 x6 x7 z4).ki := by
  simp (disch := decide) only [kernelRun0_A.sl.r_126, r_1A, View.readAt_eq_ld, Memref.IsWhole.read_unread, View.ld_unit_lit']
  rfl

theorem r_127A :
    kernelRun0_A.sl.r_127 (F := Ideal) c i arg2 harg2 arg4 harg4 arg5 harg5 arg6 harg6 x1 x3 x4 x5
      = (in0 i x0 x1 x2 x3 x4 x5 x6 x7 z4).ke := by
  simp (disch := decide) only [kernelRun0_A.sl.r_127, r_1A, View.readAt_eq_ld, Memref.IsWhole.read_unread, View.ld_unit_lit']
  rfl

theorem r_128A :
    kernelRun0_A.sl.r_128 (F := Ideal) c arg3 harg3 x2
      = (in0 i x0 x1 x2 x3 x4 x5 x6 x7 z4).v 0 := by
  simp (disch := decide) only [kernelRun0_A.sl.r_128, View.readAt_eq_ld, Memref.IsWhole.read_unread, View.ld_unit_lit']
  rfl

theorem r_129A :
    kernelRun0_A.sl.r_129 (F := Ideal) c arg8 harg8 x7
      = (in0 i x0 x1 x2 x3 x4 x5 x6 x7 z4).g0 0 := by
  simp (disch := decide) only [kernelRun0_A.sl.r_129, View.readAt_eq_ld, Memref.IsWhole.read_unread, View.ld_unit_lit']
  rfl

theorem r_130A :
    kernelRun0_A.sl.r_130 (F := Ideal) c i arg2 harg2 arg3 harg3 arg4 harg4 arg5 harg5 arg6 harg6 arg7 harg7 arg8 harg8 x1 x2 x3 x4 x5 x6 x7
      = (in0 i x0 x1 x2 x3 x4 x5 x6 x7 z4).dqdH 0 := by
  simp (disch := decide) only [kernelRun0_A.sl.r_130, (r_126A (x0 := x0) (x2 := x2) (x6 := x6) (x7 := x7)), (r_128A (i := i) (x0 := x0) (x1 := x1) (x3 := x3) (x4 := x4) (x5 := x5) (x6 := x6) (x7 := x7)), (r_129A (i := i) (x0 := x0) (x1 := x1) (x2 := x2) (x3 := x3) (x4 := x4) (x5 := x5) (x6 := x6)), View.readAt_eq_ld, Memref.IsWhole.read_unread, View.ld_unit_lit']
  rfl

theorem r_131A :
    kernelRun0_A.sl.r_131 (F := Ideal) c i arg1 harg1 arg3 harg3 arg4 harg4 arg5 harg5 arg6 harg6 arg8 harg8 x0 x2 x3 x4 x5 x7
      = (in0 i x0 x1 x2 x3 x4 x5 x6 x7 z4).dkiH 0 := by
  simp (disch := decide) only [kernelRun0_A.sl.r_131, (r_125A (x1 := x1) (x2 := x2) (x6 := x6) (x7 := x7)), (r_128A (i := i) (x0 := x0) (x1 := x1) (x3 := x3) (x4 := x4) (x5 := x5) (x6 := x6) (x7 := x7)), (r_129A (i := i) (x0 := x0) (x1 := x1) (x2 := x2) (x3 := x3) (x4 := x4) (x5 := x5) (x6 := x6)), View.readAt_eq_ld, Memref.IsWhole.read_unread, View.ld_unit_lit']
  rfl

theorem r_132A :
    kernelRun0_A.sl.r_132 (F := Ideal) c i arg1 harg1 arg3 harg3 arg4 harg4 arg5 harg5 arg6 harg6 arg8 harg8 arg14 x0 x2 x3 x4 x5 x7
      = (in0 i x0 x1 x2 x3 x4 x5 x6 x7 z4).dkeH 0 := by
  simp (disch := decide) only [kernelRun0_A.sl.r_132, (r_83A (x1 := x1) (x2 := x2) (x6 := x6)), (r_128A (i := i) (x0 := x0) (x1 := x1) (x3 := x3) (x4 := x4) (x5 := x5) (x6 := x6) (x7 := x7)), View.readAt_eq_ld, Memref.IsWhole.read_unread, View.ld_unit_lit']
  rfl

theorem r_133A :
    kernelRun0_A.sl.r_133 (F := Ideal) c i arg1 harg1 arg4 harg4 arg5 harg5 arg6 harg6 arg7 harg7 arg8 harg8 arg14 x0 x3 x4 x5 x6 x7
      = (in0 i x0 x1 x2 x3 x4 x5 x6 x7 z4).ddecH 0 := by
  simp (disch := decide) only [kernelRun0_A.sl.r_133, (r_83A (x1 := x1) (x2 := x2) (x6 := x6)), View.readAt_eq_ld, Memref.IsWhole.read_unread, View.ld_unit_lit']
  rfl

theorem r_134A :
    kernelRun0_A.sl.r_134 (F := Ideal) c i arg1 harg1 arg4 harg4 arg5 harg5 arg6 harg6 arg8 harg8 arg14 x0 x3 x4 x5 x7
      = (in0 i x0 x1 x2 x3 x4 x5 x6 x7 z4).ds' 0 := by
  simp (disch := decide) only [kernelRun0_A.sl.r_134, (r_83A (x1 := x1) (x2 := x2) (x6 := x6)), (r_121A (x0 := x0) (x1 := x1) (x2 := x2) (x6 := x6) (x7 := x7)), (r_125A (x1 := x1) (x2 := x2) (x6 := x6) (x7 := x7)), (r_129A (i := i) (x0 := x0) (x1 := x1) (x2 := x2) (x3 := x3) (x4 := x4) (x5 := x5) (x6 := x6)), View.readAt_eq_ld, Memref.IsWhole.read_unread, View.ld_unit_lit']
  rfl

theorem r_135A :
    kernelRun0_A.sl.r_135 (F := Ideal) c arg3 harg3 x2
      = (in0 i x0 x1 x2 x3 x4 x5 x6 x7 z4).v0 1 := by
  simp (disch := decide) only [kernelRun0_A.sl.r_135, View.readAt_eq_ld, Memref.IsWhole.read_unread, View.ld_unit_lit']
  rfl

theorem r_136A :
    kernelRun0_A.sl.r_136 (F := Ideal) c i arg2 harg2 arg3 harg3 arg4 harg4 arg5 harg5 arg6 harg6 arg7 harg7 arg8 harg8 x1 x2 x3 x4 x5 x6 x7
      = (in0 i x0 x1 x2 x3 x4 x5 x6 x7 z4).dqdH 1 := by
  simp (disch := decide) only [kernelRun0_A.sl.r_136, (r_126A (x0 := x0) (x2 := x2) (x6 := x6) (x7 := x7)), (r_135A (i := i) (x0 := x0) (x1 := x1) (x3 := x3) (x4 := x4) (x5 := x5) (x6 := x6) (x7 := x7)), View.readAt_eq_ld, Memref.IsWhole.read_unread, View.ld_unit_lit']
  rfl

theorem r_137A :
    kernelRun0_A.sl.r_137 (F := Ideal) c i arg1 harg1 arg3 harg3 arg4 harg4 arg5 harg5 arg6 harg6 arg8 harg8 x0 x2 x3 x4 x5 x7
      = (in0 i x0 x1 x2 x3 x4 x5 x6 x7 z4).dkiH 1 := by
  simp (disch := decide) only [kernelRun0_A.sl.r_137, (r_125A (x1 := x1) (x2 := x2) (x6 := x6) (x7 := x7)), (r_135A (i := i) (x0 := x0) (x1 := x1) (x3 := x3) (x4 := x4) (x5 := x5) (x6 := x6) (x7 := x7)), View.readAt_eq_ld, Memref.IsWhole.read_unread, View.ld_unit_lit']
  rfl

theorem r_138A :
    kernelRun0_A.sl.r_138 (F := Ideal) c i arg1 harg1 arg3 harg3 arg4 harg4 arg5 harg5 arg6 harg6 arg8 harg8 arg14 x0 x2 x3 x4 x5 x7
      = (in0 i x0 x1 x2 x3 x4 x5 x6 x7 z4).dkeH 1 := by
  simp (disch := decide) only [kernelRun0_A.sl.r_138, (r_93A (x1 := x1) (x2 := x2) (x6 := x6)), (r_135A (i := i) (x0 := x0) (x1 := x1) (x3 := x3) (x4 := x4) (x5 := x5) (x6 := x6) (x7 := x7)), View.readAt_eq_ld, Memref.IsWhole.read_unread, View.ld_unit_lit']
  rfl

theorem r_139A :
    kernelRun0_A.sl.r_139 (F := Ideal) c i arg1 harg1 arg4 harg4 arg5 harg5 arg6 harg6 arg7 harg7 arg8 harg8 arg14 x0 x3 x4 x5 x6 x7
      = (in0 i x0 x1 x2 x3 x4 x5 x6 x7 z4).ddecH 1 := by
  simp (disch := decide) only [kernelRun0_A.sl.r_139, (r_93A (x1 := x1) (x2 := x2) (x6 := x6)), View.readAt_eq_ld, Memref.IsWhole.read_unread, View.ld_unit_lit']
  rfl

theorem r_140A :
    kernelRun0_A.sl.r_140 (F := Ideal) c i arg1 harg1 arg4 harg4 arg5 harg5 arg6 harg6 arg8 harg8 x0 x3 x4 x5 x7
      = (in0 i x0 x1 x2 x3 x4 x5 x6 x7 z4).dsA 1 := by
  simp (disch := decide) only [kernelRun0_A.sl.r_140, (r_125A (x1 := x1) (x2 := x2) (x6 := x6) (x7 := x7)), View.readAt_eq_ld, Memref.IsWhole.read_unread, View.ld_unit_lit']
  rfl

theorem r_141A :
    kernelRun0_A.sl.r_141 (F := Ideal) c i arg1 harg1 arg4 harg4 arg5 harg5 arg6 harg6 arg8 harg8 arg14 x0 x3 x4 x5 x7
      = (in0 i x0 x1 x2 x3 x4 x5 x6 x7 z4).dsB 1 := by
  simp (disch := decide) only [kernelRun0_A.sl.r_141, (r_93A (x1 := x1) (x2 := x2) (x6 := x6)), (r_121A (x0 := x0) (x1 := x1) (x2 := x2) (x6 := x6) (x7 := x7)), View.readAt_eq_ld, Memref.IsWhole.read_unread, View.ld_unit_lit']
  rfl

theorem r_142A :
    kernelRun0_A.sl.r_142 (F := Ideal) c i arg1 harg1 arg4 harg4 arg5 harg5 arg6 harg6 arg8 harg8 arg14 x0 x3 x4 x5 x7
      = (in0 i x0 x1 x2 x3 x4 x5 x6 x7 z4).ds' 1 := by
  simp (disch := decide) only [kernelRun0_A.sl.r_142, (r_140A (x1 := x1) (x2 := x2) (x6 := x6)), (r_141A (x1 := x1) (x2 := x2) (x6 := x6)), View.readAt_eq_ld, Memref.IsWhole.read_unread, View.ld_unit_lit']
  rfl

theorem r_143A :
    kernelRun0_A.sl.r_143 (F := Ideal) c arg8 harg8 x7
      = (in0 i x0 x1 x2 x3 x4 x5 x6 x7 z4).g 2 := by
  simp (disch := decide) only [kernelRun0_A.sl.r_143, View.readAt_eq_ld, Memref.IsWhole.read_unread, View.ld_unit_lit']
  rfl

theorem r_144A :
    kernelRun0_A.sl.r_144 (F := Ideal) c i arg2 harg2 arg3 harg3 arg4 harg4 arg5 harg5 arg6 harg6 arg7 harg7 arg8 harg8 x1 x2 x3 x4 x5 x6 x7
      = (in0 i x0 x1 x2 x3 x4 x5 x6 x7 z4).dqdH 2 := by
  simp (disch := decide) only [kernelRun0_A.sl.r_144, (r_126A (x0 := x0) (x2 := x2) (x6 := x6) (x7 := x7)), View.readAt_eq_ld, Memref.IsWhole.read_unread, View.ld_unit_lit']
  rfl

theorem r_145A :
    kernelRun0_A.sl.r_145 (F := Ideal) c i arg1 harg1 arg3 harg3 arg4 harg4 arg5 harg5 arg6 harg6 arg8 harg8 x0 x2 x3 x4 x5 x7
      = (in0 i x0 x1 x2 x3 x4 x5 x6 x7 z4).dkiH 2 := by
  simp (disch := decide) only [kernelRun0_A.sl.r_145, (r_125A (x1 := x1) (x2 := x2) (x6 := x6) (x7 := x7)), View.readAt_eq_ld, Memref.IsWhole.read_unread, View.ld_unit_lit']
  rfl

theorem r_146A :
    kernelRun0_A.sl.r_146 (F := Ideal) c i arg1 harg1 arg3 harg3 arg4 harg4 arg5 harg5 arg6 harg6 arg8 harg8 arg14 x0 x2 x3 x4 x5 x7
      = (in0 i x0 x1 x2 x3 x4 x5 x6 x7 z4).dkeH 2 := by
  simp (disch := decide) only [kernelRun0_A.sl.r_146, (r_103A (x1 := x1) (x2 := x2) (x6 := x6)), View.readAt_eq_ld, Memref.IsWhole.read_unread, View.ld_unit_lit']
  rfl

theorem r_147A :
    kernelRun0_A.sl.r_147 (F := Ideal) c i arg1 harg1 arg4 harg4 arg5 harg5 arg6 harg6 arg7 harg7 arg8 harg8 arg14 x0 x3 x4 x5 x6 x7
      = (in0 i x0 x1 x2 x3 x4 x5 x6 x7 z4).ddecH 2 := by
  simp (disch := decide) only [kernelRun0_A.sl.r_147, (r_103A (x1 := x1) (x2 := x2) (x6 := x6)), View.readAt_eq_ld, Memref.IsWhole.read_unread, View.ld_unit_lit']
  rfl

theorem r_148A :
    kernelRun0_A.sl.r_148 (F := Ideal) c i arg1 harg1 arg4 harg4 arg5 harg5 arg6 harg6 x0 x3 x4 x5
      = In.hs (in0 i x0 x1 x2 x3 x4 x5 x6 x7 z4).qd 2 := by
  simp (disch := decide) only [kernelRun0_A.sl.r_148, (r_125A (x1 := x1) (x2 := x2) (x6 := x6) (x7 := x7)), View.readAt_eq_ld, Memref.IsWhole.read_unread, View.ld_unit_lit']
  rfl

theorem r_149A :
    kernelRun0_A.sl.r_149 (F := Ideal) c i arg1 harg1 arg4 harg4 arg5 harg5 arg6 harg6 arg8 harg8 arg14 x0 x3 x4 x5 x7
      = (in0 i x0 x1 x2 x3 x4 x5 x6 x7 z4).ds' 2 := by
  simp (disch := decide) only [kernelRun0_A.sl.r_149, kernelRun0_A.sl.cst_313, (r_103A (x1 := x1) (x2 := x2) (x6 := x6)), (r_121A (x0 := x0) (x1 := x1) (x2 := x2) (x6 := x6) (x7 := x7)), (r_143A (i := i) (x0 := x0) (x1 := x1) (x2 := x2) (x3 := x3) (x4 := x4) (x5 := x5) (x6 := x6)), (r_148A (x1 := x1) (x2 := x2) (x6 := x6) (x7 := x7)), View.readAt_eq_ld, Memref.IsWhole.read_unread, View.ld_unit_lit']
  rfl

theorem r_150A :
    kernelRun0_A.sl.r_150 (F := Ideal) c arg8 harg8 x7
      = (in0 i x0 x1 x2 x3 x4 x5 x6 x7 z4).g 3 := by
  simp (disch := decide) only [kernelRun0_A.sl.r_150, View.readAt_eq_ld, Memref.IsWhole.read_unread, View.ld_unit_lit']
  rfl

theorem r_151A :
    kernelRun0_A.sl.r_151 (F := Ideal) c i arg2 harg2 arg3 harg3 arg4 harg4 arg5 harg5 arg6 harg6 arg7 harg7 arg8 harg8 x1 x2 x3 x4 x5 x6 x7
      = (in0 i x0 x1 x2 x3 x4 x5 x6 x7 z4).dqdH 3 := by
  simp (disch := decide) only [kernelRun0_A.sl.r_151, (r_126A (x0 := x0) (x2 := x2) (x6 := x6) (x7 := x7)), View.readAt_eq_ld, Memref.IsWhole.read_unread, View.ld_unit_lit']
  rfl

theorem r_152A :
    kernelRun0_A.sl.r_152 (F := Ideal) c i arg1 harg1 arg3 harg3 arg4 harg4 arg5 harg5 arg6 harg6 arg8 harg8 x0 x2 x3 x4 x5 x7
      = (in0 i x0 x1 x2 x3 x4 x5 x6 x7 z4).dkiH 3 := by
  simp (disch := decide) only [kernelRun0_A.sl.r_152, (r_125A (x1 := x1) (x2 := x2) (x6 := x6) (x7 := x7)), View.readAt_eq_ld, Memref.IsWhole.read_unread, View.ld_unit_lit']
  rfl

theorem r_153A :
    kernelRun0_A.sl.r_153 (F := Ideal) c i arg1 harg1 arg3 harg3 arg4 harg4 arg5 harg5 arg6 harg6 arg8 harg8 arg14 x0 x2 x3 x4 x5 x7
      = (in0 i x0 x1 x2 x3 x4 x5 x6 x7 z4).dkeH 3 := by
  simp (disch := decide) only [kernelRun0_A.sl.r_153, (r_109A (x1 := x1) (x2 := x2) (x6 := x6)), View.readAt_eq_ld, Memref.IsWhole.read_unread, View.ld_unit_lit']
  rfl

theorem r_154A :
    kernelRun0_A.sl.r_154 (F := Ideal) c i arg1 harg1 arg4 harg4 arg5 harg5 arg6 harg6 arg7 harg7 arg8 harg8 arg14 x0 x3 x4 x5 x6 x7
      = mulf ((in0 i x0 x1 x2 x3 x4 x5 x6 x7 z4).st 3) ((in0 i x0 x1 x2 x3 x4 x5 x6 x7 z4).ds 3) := by
  simp (disch := decide) only [kernelRun0_A.sl.r_154, (r_109A (x1 := x1) (x2 := x2) (x6 := x6)), View.readAt_eq_ld, Memref.IsWhole.read_unread, View.ld_unit_lit']
  rfl

theorem r_155A :
    kernelRun0_A.sl.r_155 (F := Ideal) c i arg1 harg1 arg4 harg4 arg5 harg5 arg6 harg6 arg8 harg8 arg14 x0 x3 x4 x5 x7
      = (in0 i x0 x1 x2 x3 x4 x5 x6 x7 z4).ds' 3 := by
  simp (disch := decide) only [kernelRun0_A.sl.r_155, (r_109A (x1 := x1) (x2 := x2) (x6 := x6)), (r_121A (x0 := x0) (x1 := x1) (x2 := x2) (x6 := x6) (x7 := x7)), (r_125A (x1 := x1) (x2 := x2) (x6 := x6) (x7 := x7)), (r_150A (i := i) (x0 := x0) (x1 := x1) (x2 := x2) (x3 := x3) (x4 := x4) (x5 := x5) (x6 := x6)), View.readAt_eq_ld, Memref.IsWhole.read_unread, View.ld_unit_lit']
  rfl

theorem r_156A :
    kernelRun0_A.sl.r_156 (F := Ideal) c i arg1 harg1 arg2 harg2 arg3 harg3 arg4 harg4 arg5 harg5 arg6 harg6 arg7 harg7 arg8 harg8 arg14 x0 x1 x2 x3 x4 x5 x6 x7
      = (in0 i x0 x1 x2 x3 x4 x5 x6 x7 z4).dg := by
  simp (disch := decide) only [kernelRun0_A.sl.r_156, kernelRun0_A.sl.v35, kernelRun0_A.sl.v36, (r_121A (x0 := x0) (x1 := x1) (x2 := x2) (x6 := x6) (x7 := x7)), (r_122A (x1 := x1) (x2 := x2) (x6 := x6) (x7 := x7)), (r_123A (x0 := x0) (x2 := x2) (x6 := x6) (x7 := x7)), (r_124A (x0 := x0) (x2 := x2) (x6 := x6) (x7 := x7)), (r_130A (x0 := x0)), (r_131A (x1 := x1) (x6 := x6)), (r_132A (x1 := x1) (x6 := x6)), (r_133A (x1 := x1) (x2 := x2)), (r_136A (x0 := x0)), (r_137A (x1 := x1) (x6 := x6)), (r_138A (x1 := x1) (x6 := x6)), (r_139A (x1 := x1) (x2 := x2)), (r_144A (x0 := x0)), (r_145A (x1 := x1) (x6 := x6)), (r_146A (x1 := x1) (x6 := x6)), (r_147A (x1 := x1) (x2 := x2)), (r_151A (x0 := x0)), (r_152A (x1 := x1) (x6 := x6)), (r_153A (x1 := x1) (x6 := x6)), (r_154A (x1 := x1) (x2 := x2)), View.readAt_eq_ld, Memref.IsWhole.read_unread, View.ld_unit_lit']
  rfl

theorem r_157A :
    kernelRun0_A.sl.r_157 (F := Ideal) c i arg1 harg1 arg2 harg2 arg3 harg3 arg4 harg4 arg5 harg5 arg6 harg6 arg7 harg7 arg8 harg8 arg14 x0 x1 x2 x3 x4 x5 x6 x7
      = dzs i x0 x1 x2 x3 x4 x5 x6 x7 z4 := by
  simp (disch := decide) only [kernelRun0_A.sl.r_157, kernelRun0_A.sl.v812, rA, r_60A, r_117A, r_156A, View.readAt_eq_ld, Memref.IsWhole.read_unread, View.ld_unit_lit']
  rfl

theorem r_158A :
    kernelRun0_A.sl.r_158 (F := Ideal) c i arg1 harg1 arg2 harg2 arg3 harg3 arg4 harg4 arg5 harg5 arg6 harg6 arg7 harg7 arg8 harg8 arg14 x0 x1 x2 x3 x4 x5 x6 x7
      = dzb i x0 x1 x2 x3 x4 x5 x6 x7 z4 := by
  simp (disch := decide) only [kernelRun0_A.sl.r_158, kernelRun0_A.sl.v812, rA, r_60A, r_117A, r_156A, View.readAt_eq_ld, Memref.IsWhole.read_unread, View.ld_unit_lit']
  rfl

end Cert.Gla
-- ==== Proof.OutA.lean ====
module

public import proofs.«01_k».proof.Proof.BridgeA
public import proofs.«01_k».proof.Proof.Pieces

@[expose] public section

/-! The values that the body computes at the first point, by the names of `Vocab`. -/

noncomputable section

namespace Cert.Gla

open Idealize.ShloMosaic Cert.KernelIdeal Cert.KernelIdeal.Gen

set_option maxRecDepth 16384

variable {c : Dev nD} {i : grid0.Coords} {arg1 : Memref sig .tc .vmem S192x512 .bf16} {harg1 : arg1.IsWhole} {arg2 : Memref sig .tc .vmem S192x512 .bf16} {harg2 : arg2.IsWhole} {arg3 : Memref sig .tc .vmem S192x1024 .bf16} {harg3 : arg3.IsWhole} {arg4 : Memref sig .tc .vmem S192x128 .bf16} {harg4 : arg4.IsWhole} {arg5 : Memref sig .tc .vmem S128x512 .bf16} {harg5 : arg5.IsWhole} {arg6 : Memref sig .tc .vmem S1x512 .f32} {harg6 : arg6.IsWhole} {arg7 : Memref sig .tc .vmem S3x4x256x128 .f32} {harg7 : arg7.IsWhole} {arg8 : Memref sig .tc .vmem S192x1024 .f32} {harg8 : arg8.IsWhole} {arg10 : Memref sig .tc .vmem S192x2048 .bf16} {harg10 : arg10.IsWhole} {arg11 : Memref sig .tc .vmem S192x128 .bf16} {harg11 : arg11.IsWhole} {arg12 : Memref sig .tc .vmem S128x512 .f32} {harg12 : arg12.IsWhole} {arg13 : Memref sig .tc .vmem S1x512 .f32} {harg13 : arg13.IsWhole} {arg14 : Memref sig .tc .vmem S4x256x128 .f32} {harg14 : arg14.IsWhole}
variable {x0 x1 : Vec Ideal S192x512 .bf16} {x2 : Vec Ideal S192x1024 .bf16} {x3 : Vec Ideal S192x128 .bf16}
  {x4 : Vec Ideal S128x512 .bf16} {x5 : Vec Ideal S1x512 .f32} {x6 : Vec Ideal S3x4x256x128 .f32} {x7 : Vec Ideal S192x1024 .f32}
  {s : Vec Ideal S4x256x128 .f32}

variable {hc0 : cond0_0 i} {xo10 : Vec Ideal S128x512 .f32} {xo11 : Vec Ideal S1x512 .f32}

set_option maxHeartbeats 600000 in
theorem out0_A_8_eq :
    out0_A_8 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7
      = View.canon (P8 i x0 x1 x2 x3 x4 x5 x6 x7 z4) := by
  have e : out0_A_8 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 = View.canon (Val := Elt Ideal) (
    [⟨Rect.unit (s := S192x2048) ![0, 512] S64x512.size inb_S192x2048_S64x512_0_512,
    k0_pay223 (F := Ideal) (kernelRun0_A.sl.r_119 (F := Ideal) c i arg4 harg4 arg5 harg5 arg6 harg6 x3 x4 x5)
      (kernelRun0_A.sl.r_120 (F := Ideal) c i arg4 harg4 arg5 harg5 arg6 harg6 x3 x4 x5)
      (kernelRun0_A.sl.r_131 (F := Ideal) c i arg1 harg1 arg3 harg3 arg4 harg4 arg5 harg5 arg6 harg6 arg8 harg8 x0 x2 x3 x4 x5 x7)
      (kernelRun0_A.sl.r_132 (F := Ideal) c i arg1 harg1 arg3 harg3 arg4 harg4 arg5 harg5 arg6 harg6 arg8 harg8 arg14 x0 x2 x3 x4 x5
        x7)
      (kernelRun0_A.sl.r_137 (F := Ideal) c i arg1 harg1 arg3 harg3 arg4 harg4 arg5 harg5 arg6 harg6 arg8 harg8 x0 x2 x3 x4 x5 x7)
      (kernelRun0_A.sl.r_138 (F := Ideal) c i arg1 harg1 arg3 harg3 arg4 harg4 arg5 harg5 arg6 harg6 arg8 harg8 arg14 x0 x2 x3 x4 x5
        x7)
      (kernelRun0_A.sl.r_145 (F := Ideal) c i arg1 harg1 arg3 harg3 arg4 harg4 arg5 harg5 arg6 harg6 arg8 harg8 x0 x2 x3 x4 x5 x7)
      (kernelRun0_A.sl.r_146 (F := Ideal) c i arg1 harg1 arg3 harg3 arg4 harg4 arg5 harg5 arg6 harg6 arg8 harg8 arg14 x0 x2 x3 x4 x5
        x7)
      (kernelRun0_A.sl.r_152 (F := Ideal) c i arg1 harg1 arg3 harg3 arg4 harg4 arg5 harg5 arg6 harg6 arg8 harg8 x0 x2 x3 x4 x5 x7)
      (kernelRun0_A.sl.r_153 (F := Ideal) c i arg1 harg1 arg3 harg3 arg4 harg4 arg5 harg5 arg6 harg6 arg8 harg8 arg14 x0 x2 x3 x4 x5
        x7)⟩,
  ⟨Rect.unit (s := S192x2048) ![0, 0] S64x512.size inb_S192x2048_S64x512_0_0,
    k0_pay222 (F := Ideal) (kernelRun0_A.sl.r_118 (F := Ideal) c i arg4 harg4 arg5 harg5 arg6 harg6 x3 x4 x5)
      (kernelRun0_A.sl.r_130 (F := Ideal) c i arg2 harg2 arg3 harg3 arg4 harg4 arg5 harg5 arg6 harg6 arg7 harg7 arg8 harg8 x1 x2 x3
        x4 x5 x6 x7)
      (kernelRun0_A.sl.r_136 (F := Ideal) c i arg2 harg2 arg3 harg3 arg4 harg4 arg5 harg5 arg6 harg6 arg7 harg7 arg8 harg8 x1 x2 x3
        x4 x5 x6 x7)
      (kernelRun0_A.sl.r_144 (F := Ideal) c i arg2 harg2 arg3 harg3 arg4 harg4 arg5 harg5 arg6 harg6 arg7 harg7 arg8 harg8 x1 x2 x3
        x4 x5 x6 x7)
      (kernelRun0_A.sl.r_151 (F := Ideal) c i arg2 harg2 arg3 harg3 arg4 harg4 arg5 harg5 arg6 harg6 arg7 harg7 arg8 harg8 x1 x2 x3
        x4 x5 x6 x7)⟩,
  ⟨Rect.unit (s := S192x2048) ![0, 1792] S64x256.size inb_S192x2048_S64x256_0_1792,
    k0_pay213 (F := Ideal) k0_pay9
      (kernelRun0_A.sl.r_109 (F := Ideal) c i arg1 harg1 arg4 harg4 arg5 harg5 arg6 harg6 arg8 harg8 arg14 x0 x3 x4 x5 x7)
      (kernelRun0_A.sl.r_125 (F := Ideal) c i arg1 harg1 arg4 harg4 arg5 harg5 arg6 harg6 x0 x3 x4 x5)
      (kernelRun0_A.sl.r_126 (F := Ideal) c i arg2 harg2 arg4 harg4 arg5 harg5 arg6 harg6 x1 x3 x4 x5)
      (kernelRun0_A.sl.r_127 (F := Ideal) c i arg2 harg2 arg4 harg4 arg5 harg5 arg6 harg6 x1 x3 x4 x5)
      (View.readAt (Elt Ideal) arg8.view (Rect.unit (s := S192x1024) ![0, 768] S64x256.size inb_S192x1024_S64x256_0_768).toLoadRect
        (harg8.unread x7))⟩,
  ⟨Rect.unit (s := S192x2048) ![0, 1536] S64x256.size inb_S192x2048_S64x256_0_1536,
    k0_pay201 (F := Ideal) k0_pay9
      (kernelRun0_A.sl.r_103 (F := Ideal) c i arg1 harg1 arg4 harg4 arg5 harg5 arg6 harg6 arg8 harg8 arg14 x0 x3 x4 x5 x7)
      (kernelRun0_A.sl.r_125 (F := Ideal) c i arg1 harg1 arg4 harg4 arg5 harg5 arg6 harg6 x0 x3 x4 x5)
      (kernelRun0_A.sl.r_126 (F := Ideal) c i arg2 harg2 arg4 harg4 arg5 harg5 arg6 harg6 x1 x3 x4 x5)
      (kernelRun0_A.sl.r_127 (F := Ideal) c i arg2 harg2 arg4 harg4 arg5 harg5 arg6 harg6 x1 x3 x4 x5)
      (View.readAt (Elt Ideal) arg8.view (Rect.unit (s := S192x1024) ![0, 512] S64x256.size inb_S192x1024_S64x256_0_512).toLoadRect
        (harg8.unread x7))⟩,
  ⟨Rect.unit (s := S192x2048) ![0, 1280] S64x256.size inb_S192x2048_S64x256_0_1280,
    k0_pay188 (F := Ideal) k0_pay9
      (kernelRun0_A.sl.r_93 (F := Ideal) c i arg1 harg1 arg4 harg4 arg5 harg5 arg6 harg6 arg8 harg8 arg14 x0 x3 x4 x5 x7)
      (kernelRun0_A.sl.r_125 (F := Ideal) c i arg1 harg1 arg4 harg4 arg5 harg5 arg6 harg6 x0 x3 x4 x5)
      (kernelRun0_A.sl.r_126 (F := Ideal) c i arg2 harg2 arg4 harg4 arg5 harg5 arg6 harg6 x1 x3 x4 x5)
      (kernelRun0_A.sl.r_127 (F := Ideal) c i arg2 harg2 arg4 harg4 arg5 harg5 arg6 harg6 x1 x3 x4 x5)
      (View.readAt (Elt Ideal) arg8.view (Rect.unit (s := S192x1024) ![0, 256] S64x256.size inb_S192x1024_S64x256_0_256).toLoadRect
        (harg8.unread x7))⟩,
  ⟨Rect.unit (s := S192x2048) ![0, 1024] S64x256.size inb_S192x2048_S64x256_0_1024,
    k0_pay177 (F := Ideal) k0_pay9
      (kernelRun0_A.sl.r_83 (F := Ideal) c i arg1 harg1 arg4 harg4 arg5 harg5 arg6 harg6 arg8 harg8 arg14 x0 x3 x4 x5 x7)
      (kernelRun0_A.sl.r_125 (F := Ideal) c i arg1 harg1 arg4 harg4 arg5 harg5 arg6 harg6 x0 x3 x4 x5)
      (kernelRun0_A.sl.r_126 (F := Ideal) c i arg2 harg2 arg4 harg4 arg5 harg5 arg6 harg6 x1 x3 x4 x5)
      (kernelRun0_A.sl.r_127 (F := Ideal) c i arg2 harg2 arg4 harg4 arg5 harg5 arg6 harg6 x1 x3 x4 x5)
      (kernelRun0_A.sl.r_129 (F := Ideal) c arg8 harg8 x7)⟩,
  ⟨Rect.unit (s := S192x2048) ![64, 512] S64x512.size inb_S192x2048_S64x512_64_512,
    k0_pay154 (F := Ideal) (kernelRun0_A.sl.r_64 (F := Ideal) c i arg4 harg4 arg5 harg5 arg6 harg6 x3 x4 x5)
      (kernelRun0_A.sl.r_65 (F := Ideal) c i arg4 harg4 arg5 harg5 arg6 harg6 x3 x4 x5)
      (kernelRun0_A.sl.r_111 (F := Ideal) c i arg1 harg1 arg3 harg3 arg4 harg4 arg5 harg5 arg6 harg6 arg8 harg8 x0 x2 x3 x4 x5 x7)
      (kernelRun0_A.sl.r_112 (F := Ideal) c i arg1 harg1 arg3 harg3 arg4 harg4 arg5 harg5 arg6 harg6 arg8 harg8 arg14 x0 x2 x3 x4 x5
        x7)⟩,
  ⟨Rect.unit (s := S192x2048) ![64, 0] S64x512.size inb_S192x2048_S64x512_64_0,
    k0_pay153 (F := Ideal) k0_pay9 (kernelRun0_A.sl.r_63 (F := Ideal) c i arg4 harg4 arg5 harg5 arg6 harg6 x3 x4 x5)
      (kernelRun0_A.sl.r_71 (F := Ideal) c i arg2 harg2 arg4 harg4 arg5 harg5 arg6 harg6 x1 x3 x4 x5)
      (kernelRun0_A.sl.r_79 (F := Ideal) c i arg2 harg2 arg3 harg3 arg4 harg4 arg5 harg5 arg6 harg6 arg7 harg7 arg8 harg8 x1 x2 x3 x4
        x5 x6 x7)
      (kernelRun0_A.sl.r_89 (F := Ideal) c i arg2 harg2 arg3 harg3 arg4 harg4 arg5 harg5 arg6 harg6 arg7 harg7 arg8 harg8 x1 x2 x3 x4
        x5 x6 x7)
      (kernelRun0_A.sl.r_99 (F := Ideal) c i arg2 harg2 arg3 harg3 arg4 harg4 arg5 harg5 arg6 harg6 arg7 harg7 arg8 harg8 x1 x2 x3 x4
        x5 x6 x7)
      (kernelRun0_A.sl.r_104 (F := Ideal) c arg3 harg3 x2) (kernelRun0_A.sl.r_105 (F := Ideal) c arg8 harg8 x7)
      (kernelRun0_A.sl.r_106 (F := Ideal) c arg7 harg7 x6)⟩,
  ⟨Rect.unit (s := S192x2048) ![64, 1792] S64x256.size inb_S192x2048_S64x256_64_1792,
    k0_pay147 (F := Ideal) k0_pay9 (kernelRun0_A.sl.r_71 (F := Ideal) c i arg2 harg2 arg4 harg4 arg5 harg5 arg6 harg6 x1 x3 x4 x5)
      (kernelRun0_A.sl.r_72 (F := Ideal) c i arg2 harg2 arg4 harg4 arg5 harg5 arg6 harg6 x1 x3 x4 x5)
      (kernelRun0_A.sl.r_105 (F := Ideal) c arg8 harg8 x7)
      (kernelRun0_A.sl.r_107 (F := Ideal) c i arg1 harg1 arg4 harg4 arg5 harg5 arg6 harg6 arg8 harg8 arg14 x0 x3 x4 x5 x7)
      (kernelRun0_A.sl.r_108 (F := Ideal) c i arg1 harg1 arg4 harg4 arg5 harg5 arg6 harg6 x0 x3 x4 x5)⟩,
  ⟨Rect.unit (s := S192x2048) ![64, 1536] S64x256.size inb_S192x2048_S64x256_64_1536,
    k0_pay135 (F := Ideal) k0_pay9 (kernelRun0_A.sl.r_72 (F := Ideal) c i arg2 harg2 arg4 harg4 arg5 harg5 arg6 harg6 x1 x3 x4 x5)
      (kernelRun0_A.sl.r_95 (F := Ideal) c arg8 harg8 x7)
      (kernelRun0_A.sl.r_97 (F := Ideal) c i arg1 harg1 arg4 harg4 arg5 harg5 arg6 harg6 arg8 harg8 arg14 x0 x3 x4 x5 x7)
      (kernelRun0_A.sl.r_98 (F := Ideal) c i arg1 harg1 arg2 harg2 arg4 harg4 arg5 harg5 arg6 harg6 x0 x1 x3 x4 x5)
      (kernelRun0_A.sl.cst_187 (F := Ideal))⟩,
  ⟨Rect.unit (s := S192x2048) ![64, 1280] S64x256.size inb_S192x2048_S64x256_64_1280,
    k0_pay123 (F := Ideal) (kernelRun0_A.sl.r_72 (F := Ideal) c i arg2 harg2 arg4 harg4 arg5 harg5 arg6 harg6 x1 x3 x4 x5)
      (kernelRun0_A.sl.r_85 (F := Ideal) c arg8 harg8 x7)
      (kernelRun0_A.sl.r_87 (F := Ideal) c i arg1 harg1 arg4 harg4 arg5 harg5 arg6 harg6 arg8 harg8 arg14 x0 x3 x4 x5 x7)
      (kernelRun0_A.sl.r_88 (F := Ideal) c i arg1 harg1 arg2 harg2 arg4 harg4 arg5 harg5 arg6 harg6 x0 x1 x3 x4 x5)⟩,
  ⟨Rect.unit (s := S192x2048) ![64, 1024] S64x256.size inb_S192x2048_S64x256_64_1024,
    k0_pay111 (F := Ideal) (kernelRun0_A.sl.r_72 (F := Ideal) c i arg2 harg2 arg4 harg4 arg5 harg5 arg6 harg6 x1 x3 x4 x5)
      (kernelRun0_A.sl.r_74 (F := Ideal) c arg8 harg8 x7)
      (kernelRun0_A.sl.r_76 (F := Ideal) c i arg1 harg1 arg4 harg4 arg5 harg5 arg6 harg6 arg8 harg8 arg14 x0 x3 x4 x5 x7)
      (kernelRun0_A.sl.r_77 (F := Ideal) c i arg1 harg1 arg2 harg2 arg4 harg4 arg5 harg5 arg6 harg6 x0 x1 x3 x4 x5)⟩,
  ⟨Rect.unit (s := S192x2048) ![128, 512] S64x512.size inb_S192x2048_S64x512_128_512,
    k0_pay77 (F := Ideal) (kernelRun0_A.sl.r_7 (F := Ideal) c i arg4 harg4 arg5 harg5 arg6 harg6 x3 x4 x5)
      (kernelRun0_A.sl.r_8 (F := Ideal) c i arg4 harg4 arg5 harg5 arg6 harg6 x3 x4 x5)
      (kernelRun0_A.sl.r_14 (F := Ideal) c i arg1 harg1 arg4 harg4 arg5 harg5 arg6 harg6 x0 x3 x4 x5)
      (kernelRun0_A.sl.r_22 (F := Ideal) c i arg1 harg1 arg3 harg3 arg4 harg4 arg5 harg5 arg6 harg6 arg8 harg8 x0 x2 x3 x4 x5 x7)
      (kernelRun0_A.sl.r_23 (F := Ideal) c arg3 harg3 arg14 x2)
      (kernelRun0_A.sl.r_34 (F := Ideal) c i arg1 harg1 arg3 harg3 arg4 harg4 arg5 harg5 arg6 harg6 arg8 harg8 x0 x2 x3 x4 x5 x7)
      (kernelRun0_A.sl.r_35 (F := Ideal) c arg3 harg3 arg14 x2)
      (kernelRun0_A.sl.r_45 (F := Ideal) c i arg1 harg1 arg3 harg3 arg4 harg4 arg5 harg5 arg6 harg6 arg8 harg8 x0 x2 x3 x4 x5 x7)
      (kernelRun0_A.sl.r_46 (F := Ideal) c arg3 harg3 arg14 x2) (kernelRun0_A.sl.r_49 (F := Ideal) c arg3 harg3 x2) (kernelRun0_A.sl.r_52 (F := Ideal) c arg14)
      (kernelRun0_A.sl.r_53 (F := Ideal) c arg3 harg3 arg8 harg8 x2 x7)⟩,
  ⟨Rect.unit (s := S192x2048) ![128, 0] S64x512.size inb_S192x2048_S64x512_128_0,
    k0_pay76 (F := Ideal) (kernelRun0_A.sl.r_6 (F := Ideal) c i arg4 harg4 arg5 harg5 arg6 harg6 x3 x4 x5)
      (kernelRun0_A.sl.r_15 (F := Ideal) c i arg2 harg2 arg4 harg4 arg5 harg5 arg6 harg6 x1 x3 x4 x5)
      (kernelRun0_A.sl.r_21 (F := Ideal) c i arg2 harg2 arg3 harg3 arg4 harg4 arg5 harg5 arg6 harg6 arg7 harg7 arg8 harg8 x1 x2 x3 x4
        x5 x6 x7)
      (kernelRun0_A.sl.r_33 (F := Ideal) c i arg2 harg2 arg3 harg3 arg4 harg4 arg5 harg5 arg6 harg6 arg7 harg7 arg8 harg8 x1 x2 x3 x4
        x5 x6 x7)
      (kernelRun0_A.sl.r_44 (F := Ideal) c i arg2 harg2 arg3 harg3 arg4 harg4 arg5 harg5 arg6 harg6 arg7 harg7 arg8 harg8 x1 x2 x3 x4
        x5 x6 x7)
      (kernelRun0_A.sl.r_50 (F := Ideal) c arg8 harg8 x7) (kernelRun0_A.sl.r_51 (F := Ideal) c arg7 harg7 x6)
      (kernelRun0_A.sl.r_53 (F := Ideal) c arg3 harg3 arg8 harg8 x2 x7)⟩,
  ⟨Rect.unit (s := S192x2048) ![128, 1792] S64x256.size inb_S192x2048_S64x256_128_1792,
    kernelRun0_A.sl.r_54 (F := Ideal) c i arg1 harg1 arg2 harg2 arg4 harg4 arg5 harg5 arg6 harg6 arg8 harg8 arg14 x0 x1 x3 x4 x5 x7⟩,
  ⟨Rect.unit (s := S192x2048) ![128, 1536] S64x256.size inb_S192x2048_S64x256_128_1536,
    k0_pay59 (F := Ideal) k0_pay9 (kernelRun0_A.sl.r_4 (F := Ideal) c arg14)
      (kernelRun0_A.sl.r_14 (F := Ideal) c i arg1 harg1 arg4 harg4 arg5 harg5 arg6 harg6 x0 x3 x4 x5)
      (kernelRun0_A.sl.r_15 (F := Ideal) c i arg2 harg2 arg4 harg4 arg5 harg5 arg6 harg6 x1 x3 x4 x5)
      (kernelRun0_A.sl.r_16 (F := Ideal) c i arg2 harg2 arg4 harg4 arg5 harg5 arg6 harg6 x1 x3 x4 x5)
      (View.readAt (Elt Ideal) arg8.view (Rect.unit (s := S192x1024) ![128, 512] S64x256.size inb_S192x1024_S64x256_128_512).toLoadRect
        (harg8.unread x7))⟩,
  ⟨Rect.unit (s := S192x2048) ![128, 1280] S64x256.size inb_S192x2048_S64x256_128_1280,
    k0_pay46 (F := Ideal) k0_pay9 (kernelRun0_A.sl.r_3 (F := Ideal) c arg14)
      (kernelRun0_A.sl.r_14 (F := Ideal) c i arg1 harg1 arg4 harg4 arg5 harg5 arg6 harg6 x0 x3 x4 x5)
      (kernelRun0_A.sl.r_15 (F := Ideal) c i arg2 harg2 arg4 harg4 arg5 harg5 arg6 harg6 x1 x3 x4 x5)
      (kernelRun0_A.sl.r_16 (F := Ideal) c i arg2 harg2 arg4 harg4 arg5 harg5 arg6 harg6 x1 x3 x4 x5)
      (View.readAt (Elt Ideal) arg8.view (Rect.unit (s := S192x1024) ![128, 256] S64x256.size inb_S192x1024_S64x256_128_256).toLoadRect
        (harg8.unread x7))⟩,
  ⟨Rect.unit (s := S192x2048) ![128, 1024] S64x256.size inb_S192x2048_S64x256_128_1024,
    k0_pay35 (F := Ideal) k0_pay9 (kernelRun0_A.sl.r_2 (F := Ideal) c arg14) (kernelRun0_A.sl.r_6 (F := Ideal) c i arg4 harg4 arg5 harg5 arg6 harg6 x3 x4 x5)
      (kernelRun0_A.sl.r_7 (F := Ideal) c i arg4 harg4 arg5 harg5 arg6 harg6 x3 x4 x5)
      (kernelRun0_A.sl.r_8 (F := Ideal) c i arg4 harg4 arg5 harg5 arg6 harg6 x3 x4 x5) (kernelRun0_A.sl.r_10 (F := Ideal) c arg1 harg1 x0)
      (View.readAt (Elt Ideal) arg2.view (Rect.unit (s := S192x512) ![128, 0] S64x512.size inb_S192x512_S64x512_128_0).toLoadRect
        (harg2.unread x1))
      (View.readAt (Elt Ideal) arg8.view (Rect.unit (s := S192x1024) ![128, 0] S64x256.size inb_S192x1024_S64x256_128_0).toLoadRect
        (harg8.unread x7))⟩] : List (View.Piece (Elt Ideal) S192x2048 .bf16)) := by
    unfold out0_A_8
    rw [View.read_writes_junk_eq_canon]
    rfl
  rw [e]
  simp (disch := decide) only [(r_119A (x0 := x0) (x1 := x1) (x2 := x2) (x6 := x6) (x7 := x7)), (r_120A (x0 := x0) (x1 := x1) (x2 := x2) (x6 := x6) (x7 := x7)), (r_131A (x1 := x1) (x6 := x6)), (r_132A (x1 := x1) (x6 := x6)), (r_137A (x1 := x1) (x6 := x6)), (r_138A (x1 := x1) (x6 := x6)), (r_145A (x1 := x1) (x6 := x6)), (r_146A (x1 := x1) (x6 := x6)), (r_152A (x1 := x1) (x6 := x6)), (r_153A (x1 := x1) (x6 := x6)), (r_118A (x0 := x0) (x1 := x1) (x2 := x2) (x6 := x6) (x7 := x7)), (r_130A (x0 := x0)), (r_136A (x0 := x0)), (r_144A (x0 := x0)), (r_151A (x0 := x0)), (r_109A (x1 := x1) (x2 := x2) (x6 := x6)), (r_125A (x1 := x1) (x2 := x2) (x6 := x6) (x7 := x7)), (r_126A (x0 := x0) (x2 := x2) (x6 := x6) (x7 := x7)), (r_127A (x0 := x0) (x2 := x2) (x6 := x6) (x7 := x7)), (r_103A (x1 := x1) (x2 := x2) (x6 := x6)), (r_93A (x1 := x1) (x2 := x2) (x6 := x6)), (r_83A (x1 := x1) (x2 := x2) (x6 := x6)), (r_129A (i := i) (x0 := x0) (x1 := x1) (x2 := x2) (x3 := x3) (x4 := x4) (x5 := x5) (x6 := x6)), (r_64A (x0 := x0) (x1 := x1) (x2 := x2) (x6 := x6) (x7 := x7)), (r_65A (x0 := x0) (x1 := x1) (x2 := x2) (x6 := x6) (x7 := x7)), (r_111A (x1 := x1) (x6 := x6)), (r_112A (x1 := x1) (x6 := x6)), (r_63A (x0 := x0) (x1 := x1) (x2 := x2) (x6 := x6) (x7 := x7)), (r_71A (x0 := x0) (x2 := x2) (x6 := x6) (x7 := x7)), (r_79A (x0 := x0)), (r_89A (x0 := x0)), (r_99A (x0 := x0)), (r_104A (i := i) (x0 := x0) (x1 := x1) (x3 := x3) (x4 := x4) (x5 := x5) (x6 := x6) (x7 := x7)), (r_105A (i := i) (x0 := x0) (x1 := x1) (x2 := x2) (x3 := x3) (x4 := x4) (x5 := x5) (x6 := x6)), (r_106A (i := i) (x0 := x0) (x1 := x1) (x2 := x2) (x3 := x3) (x4 := x4) (x5 := x5) (x7 := x7)), (r_72A (x0 := x0) (x2 := x2) (x6 := x6) (x7 := x7)), (r_107A (x1 := x1) (x2 := x2) (x6 := x6)), (r_108A (x1 := x1) (x2 := x2) (x6 := x6) (x7 := x7)), (r_95A (i := i) (x0 := x0) (x1 := x1) (x2 := x2) (x3 := x3) (x4 := x4) (x5 := x5) (x6 := x6)), (r_97A (x1 := x1) (x2 := x2) (x6 := x6)), (r_98A (x2 := x2) (x6 := x6) (x7 := x7)), (r_85A (i := i) (x0 := x0) (x1 := x1) (x2 := x2) (x3 := x3) (x4 := x4) (x5 := x5) (x6 := x6)), (r_87A (x1 := x1) (x2 := x2) (x6 := x6)), (r_88A (x2 := x2) (x6 := x6) (x7 := x7)), (r_74A (i := i) (x0 := x0) (x1 := x1) (x2 := x2) (x3 := x3) (x4 := x4) (x5 := x5) (x6 := x6)), (r_76A (x1 := x1) (x2 := x2) (x6 := x6)), (r_77A (x2 := x2) (x6 := x6) (x7 := x7)), (r_7A (x0 := x0) (x1 := x1) (x2 := x2) (x6 := x6) (x7 := x7)), (r_8A (x0 := x0) (x1 := x1) (x2 := x2) (x6 := x6) (x7 := x7)), (r_14A (x1 := x1) (x2 := x2) (x6 := x6) (x7 := x7)), (r_22A (x1 := x1) (x6 := x6)), (r_23A (i := i) (x0 := x0) (x1 := x1) (x3 := x3) (x4 := x4) (x5 := x5) (x6 := x6) (x7 := x7)), (r_34A (x1 := x1) (x6 := x6)), (r_35A (i := i) (x0 := x0) (x1 := x1) (x3 := x3) (x4 := x4) (x5 := x5) (x6 := x6) (x7 := x7)), (r_45A (x1 := x1) (x6 := x6)), (r_46A (i := i) (x0 := x0) (x1 := x1) (x3 := x3) (x4 := x4) (x5 := x5) (x6 := x6) (x7 := x7)), (r_49A (i := i) (x0 := x0) (x1 := x1) (x3 := x3) (x4 := x4) (x5 := x5) (x6 := x6) (x7 := x7)), (r_52A (i := i) (x0 := x0) (x1 := x1) (x2 := x2) (x3 := x3) (x4 := x4) (x5 := x5) (x6 := x6) (x7 := x7)), (r_53A (i := i) (x0 := x0) (x1 := x1) (x3 := x3) (x4 := x4) (x5 := x5) (x6 := x6)), (r_6A (x0 := x0) (x1 := x1) (x2 := x2) (x6 := x6) (x7 := x7)), (r_15A (x0 := x0) (x2 := x2) (x6 := x6) (x7 := x7)), (r_21A (x0 := x0)), (r_33A (x0 := x0)), (r_44A (x0 := x0)), (r_50A (i := i) (x0 := x0) (x1 := x1) (x2 := x2) (x3 := x3) (x4 := x4) (x5 := x5) (x6 := x6)), (r_51A (i := i) (x0 := x0) (x1 := x1) (x2 := x2) (x3 := x3) (x4 := x4) (x5 := x5) (x7 := x7)), (r_54A (x2 := x2) (x6 := x6)), r_4A, (r_16A (x0 := x0) (x2 := x2) (x6 := x6) (x7 := x7)), r_3A, r_2A, (r_10A (i := i) (x1 := x1) (x2 := x2) (x3 := x3) (x4 := x4) (x5 := x5) (x6 := x6) (x7 := x7)), kernelRun0_A.sl.cst_187, kernelRun0_A.sl.H10_1, kernelRun0_A.sl.H11_1, View.readCov, View.readAt_eq_ld, Memref.IsWhole.read_unread, View.ld_unit_lit', View.read_writes_junk_eq_canon, View.canon_cons_unit_lit']
  try rfl

set_option maxHeartbeats 600000 in
theorem out0_A_9_eq :
    out0_A_9 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7
      = k0_pay2 (dzb i x0 x1 x2 x3 x4 x5 x6 x7 z4) x4 := by
  have e : out0_A_9 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 = View.canon (Val := Elt Ideal) (
    [⟨Rect.unit (s := S192x128) ![0, 0] ![192, 128] inb_S192x128_S192x128_0_0,
    k0_pay2 (F := Ideal)
      (kernelRun0_A.sl.r_158 (F := Ideal) c i arg1 harg1 arg2 harg2 arg3 harg3 arg4 harg4 arg5 harg5 arg6 harg6 arg7 harg7 arg8 harg8
        arg14 x0 x1 x2 x3 x4 x5 x6 x7)
      (View.readAt (Elt Ideal) arg5.view (Rect.unit (s := S128x512) ![0, 0] ![128, 512] inb_S128x512_S128x512_0_0).toLoadRect
        (harg5.unread x4))⟩] : List (View.Piece (Elt Ideal) S192x128 .bf16)) := by
    unfold out0_A_9
    rw [View.read_writes_junk_eq_canon]
    rfl
  rw [e]
  simp (disch := decide) only [r_158A, kernelRun0_A.sl.H10_1, kernelRun0_A.sl.H11_1, View.readCov, View.readAt_eq_ld, Memref.IsWhole.read_unread, View.ld_unit_lit', View.read_writes_junk_eq_canon, View.canon_cons_unit_lit']
  try rfl

set_option maxHeartbeats 600000 in
theorem out0_A_10_eq :
    out0_A_10 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7
      = k0_pay3 (dzb i x0 x1 x2 x3 x4 x5 x6 x7 z4) (k0_pay5 (F := Ideal)) x3 := by
  have e : out0_A_10 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 = View.canon (Val := Elt Ideal) (
    ⟨Rect.unit (s := S128x512) ![0, 0] ![128, 512] inb_S128x512_S128x512_0_0,
    k0_pay3 (F := Ideal)
      (kernelRun0_A.sl.r_158 (F := Ideal) c i arg1 harg1 arg2 harg2 arg3 harg3 arg4 harg4 arg5 harg5 arg6 harg6 arg7 harg7 arg8 harg8
        arg14 x0 x1 x2 x3 x4 x5 x6 x7)
      (kernelRun0_A.sl.v861 (F := Ideal) c arg12)
      (View.readAt (Elt Ideal) arg4.view (Rect.unit (s := S192x128) ![0, 0] ![192, 128] inb_S192x128_S192x128_0_0).toLoadRect
        (harg4.unread x3))⟩ ::
  kernelRun0_A.sl.H10_1 (F := Ideal) : List (View.Piece (Elt Ideal) S128x512 .f32)) := by
    unfold out0_A_10
    rw [View.read_writes_junk_eq_canon]
    rfl
  rw [e]
  simp (disch := decide) only [r_158A, kernelRun0_A.sl.v861, kernelRun0_A.sl.H10_1, kernelRun0_A.sl.H10_1, kernelRun0_A.sl.H11_1, View.readCov, View.readAt_eq_ld, Memref.IsWhole.read_unread, View.ld_unit_lit', View.read_writes_junk_eq_canon, View.canon_cons_unit_lit']
  try rfl

set_option maxHeartbeats 600000 in
theorem out0_A_11_eq :
    out0_A_11 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7
      = k0_pay1 (dzs i x0 x1 x2 x3 x4 x5 x6 x7 z4) (k0_pay6 (F := Ideal)) := by
  have e : out0_A_11 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 = View.canon (Val := Elt Ideal) (
    ⟨Rect.unit (s := S1x512) ![0, 0] ![1, 512] inb_S1x512_S1x512_0_0,
    k0_pay1 (F := Ideal)
      (kernelRun0_A.sl.r_157 (F := Ideal) c i arg1 harg1 arg2 harg2 arg3 harg3 arg4 harg4 arg5 harg5 arg6 harg6 arg7 harg7 arg8 harg8
        arg14 x0 x1 x2 x3 x4 x5 x6 x7)
      (kernelRun0_A.sl.v850 (F := Ideal) c arg13)⟩ ::
  kernelRun0_A.sl.H11_1 (F := Ideal) : List (View.Piece (Elt Ideal) S1x512 .f32)) := by
    unfold out0_A_11
    rw [View.read_writes_junk_eq_canon]
    rfl
  rw [e]
  simp (disch := decide) only [r_157A, kernelRun0_A.sl.H11_1, kernelRun0_A.sl.v850, kernelRun0_A.sl.H10_1, kernelRun0_A.sl.H11_1, View.readCov, View.readAt_eq_ld, Memref.IsWhole.read_unread, View.ld_unit_lit', View.read_writes_junk_eq_canon, View.canon_cons_unit_lit']
  try rfl

set_option maxHeartbeats 600000 in
theorem sout0_A_0_eq :
    sout0_A_0 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7
      = View.canon (PS i x0 x1 x2 x3 x4 x5 x6 x7 z4 ++ HZ) := by
  have e : sout0_A_0 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 = View.canon (Val := Elt Ideal) (
    ⟨Rect.unit (s := S4x256x128) ![3, 0, 0] S1x256x128.size inb_S4x256x128_S1x256x128_3_0_0,
    k0_pay228 (F := Ideal)
      (kernelRun0_A.sl.r_155 (F := Ideal) c i arg1 harg1 arg4 harg4 arg5 harg5 arg6 harg6 arg8 harg8 arg14 x0 x3 x4 x5 x7)⟩ ::
  ⟨Rect.unit (s := S4x256x128) ![2, 0, 0] S1x256x128.size inb_S4x256x128_S1x256x128_2_0_0,
      k0_pay227 (F := Ideal)
        (kernelRun0_A.sl.r_149 (F := Ideal) c i arg1 harg1 arg4 harg4 arg5 harg5 arg6 harg6 arg8 harg8 arg14 x0 x3 x4 x5 x7)⟩ ::
    ⟨Rect.unit (s := S4x256x128) ![1, 0, 0] S1x256x128.size inb_S4x256x128_S1x256x128_1_0_0,
        k0_pay226 (F := Ideal)
          (kernelRun0_A.sl.r_142 (F := Ideal) c i arg1 harg1 arg4 harg4 arg5 harg5 arg6 harg6 arg8 harg8 arg14 x0 x3 x4 x5 x7)⟩ ::
      ⟨Rect.unit (s := S4x256x128) ![0, 0, 0] S1x256x128.size inb_S4x256x128_S1x256x128_0_0_0,
          k0_pay225 (F := Ideal)
            (kernelRun0_A.sl.r_134 (F := Ideal) c i arg1 harg1 arg4 harg4 arg5 harg5 arg6 harg6 arg8 harg8 arg14 x0 x3 x4 x5 x7)⟩ ::
        kernelRun0_A.sl.HS0_1 (F := Ideal) : List (View.Piece (Elt Ideal) S4x256x128 .f32)) := by
    unfold sout0_A_0
    rw [View.read_writes_junk_eq_canon]
    rfl
  rw [e]
  simp (disch := decide) only [(r_155A (x1 := x1) (x2 := x2) (x6 := x6)), (r_149A (x1 := x1) (x2 := x2) (x6 := x6)), (r_142A (x1 := x1) (x2 := x2) (x6 := x6)), (r_134A (x1 := x1) (x2 := x2) (x6 := x6)), kernelRun0_A.sl.HS0_1, kernelRun0_A.sl.H10_1, kernelRun0_A.sl.H11_1, View.readCov, View.readAt_eq_ld, Memref.IsWhole.read_unread, View.ld_unit_lit', View.read_writes_junk_eq_canon, View.canon_cons_unit_lit']
  try rfl

end Cert.Gla
-- ==== Proof.BridgeB.lean ====
module

public import proofs.«01_k».proof.Proof.Gen.KernelIdeal.Frame
public import proofs.«01_k».proof.Proof.Pieces

@[expose] public section

/-! The values that the body computes at a later point, by the names of `Vocab`. -/

noncomputable section

namespace Cert.Gla

open Idealize.ShloMosaic Cert.KernelIdeal Cert.KernelIdeal.Gen

set_option maxRecDepth 16384

variable {c : Dev nD} {i : grid0.Coords} {arg1 : Memref sig .tc .vmem S192x512 .bf16} {harg1 : arg1.IsWhole} {arg2 : Memref sig .tc .vmem S192x512 .bf16} {harg2 : arg2.IsWhole} {arg3 : Memref sig .tc .vmem S192x1024 .bf16} {harg3 : arg3.IsWhole} {arg4 : Memref sig .tc .vmem S192x128 .bf16} {harg4 : arg4.IsWhole} {arg5 : Memref sig .tc .vmem S128x512 .bf16} {harg5 : arg5.IsWhole} {arg6 : Memref sig .tc .vmem S1x512 .f32} {harg6 : arg6.IsWhole} {arg7 : Memref sig .tc .vmem S3x4x256x128 .f32} {harg7 : arg7.IsWhole} {arg8 : Memref sig .tc .vmem S192x1024 .f32} {harg8 : arg8.IsWhole} {arg10 : Memref sig .tc .vmem S192x2048 .bf16} {harg10 : arg10.IsWhole} {arg11 : Memref sig .tc .vmem S192x128 .bf16} {harg11 : arg11.IsWhole} {arg12 : Memref sig .tc .vmem S128x512 .f32} {harg12 : arg12.IsWhole} {arg13 : Memref sig .tc .vmem S1x512 .f32} {harg13 : arg13.IsWhole} {arg14 : Memref sig .tc .vmem S4x256x128 .f32} {harg14 : arg14.IsWhole}
variable {x0 x1 : Vec Ideal S192x512 .bf16} {x2 : Vec Ideal S192x1024 .bf16} {x3 : Vec Ideal S192x128 .bf16}
  {x4 : Vec Ideal S128x512 .bf16} {x5 : Vec Ideal S1x512 .f32} {x6 : Vec Ideal S3x4x256x128 .f32} {x7 : Vec Ideal S192x1024 .f32}
  {s : Vec Ideal S4x256x128 .f32}

theorem rB :
    kernelRun0_B.sl.r (F := Ideal) c arg4 harg4 arg5 harg5 arg6 harg6 x3 x4 x5
      = k0_pay7 x3 x4 x5 := by
  simp (disch := decide) only [kernelRun0_B.sl.r, View.readAt_eq_ld, Memref.IsWhole.read_unread, View.ld_unit_lit']

theorem r_1B :
    kernelRun0_B.sl.r_1 (F := Ideal) c i arg4 harg4 arg5 harg5 arg6 harg6 x3 x4 x5
      = k0_pay8 i x3 x4 x5 := by
  simp (disch := decide) only [kernelRun0_B.sl.r_1, View.readAt_eq_ld, Memref.IsWhole.read_unread, View.ld_unit_lit']

theorem r_2B :
    kernelRun0_B.sl.r_2 (F := Ideal) c arg14 harg14 s
      = ds0 s 0 := by
  simp (disch := decide) only [kernelRun0_B.sl.r_2, View.readAt_eq_ld, Memref.IsWhole.read_unread, View.ld_unit_lit']
  rfl

theorem r_3B :
    kernelRun0_B.sl.r_3 (F := Ideal) c arg14 harg14 s
      = ds0 s 1 := by
  simp (disch := decide) only [kernelRun0_B.sl.r_3, View.readAt_eq_ld, Memref.IsWhole.read_unread, View.ld_unit_lit']
  rfl

theorem r_4B :
    kernelRun0_B.sl.r_4 (F := Ideal) c arg14 harg14 s
      = ds0 s 2 := by
  simp (disch := decide) only [kernelRun0_B.sl.r_4, View.readAt_eq_ld, Memref.IsWhole.read_unread, View.ld_unit_lit']
  rfl

theorem r_5B :
    kernelRun0_B.sl.r_5 (F := Ideal) c arg14 harg14 s
      = ds0 s 3 := by
  simp (disch := decide) only [kernelRun0_B.sl.r_5, View.readAt_eq_ld, Memref.IsWhole.read_unread, View.ld_unit_lit']
  rfl

theorem r_6B :
    kernelRun0_B.sl.r_6 (F := Ideal) c i arg4 harg4 arg5 harg5 arg6 harg6 x3 x4 x5
      = (in2 i x0 x1 x2 x3 x4 x5 x6 x7 s).eb := by
  simp (disch := decide) only [kernelRun0_B.sl.r_6, r_1B, View.readAt_eq_ld, Memref.IsWhole.read_unread, View.ld_unit_lit']
  rfl

theorem r_7B :
    kernelRun0_B.sl.r_7 (F := Ideal) c i arg4 harg4 arg5 harg5 arg6 harg6 x3 x4 x5
      = (in2 i x0 x1 x2 x3 x4 x5 x6 x7 s).enb := by
  simp (disch := decide) only [kernelRun0_B.sl.r_7, r_1B, View.readAt_eq_ld, Memref.IsWhole.read_unread, View.ld_unit_lit']
  rfl

theorem r_8B :
    kernelRun0_B.sl.r_8 (F := Ideal) c i arg4 harg4 arg5 harg5 arg6 harg6 x3 x4 x5
      = (in2 i x0 x1 x2 x3 x4 x5 x6 x7 s).ebl := by
  simp (disch := decide) only [kernelRun0_B.sl.r_8, r_1B, View.readAt_eq_ld, Memref.IsWhole.read_unread, View.ld_unit_lit']
  rfl

theorem r_9B :
    kernelRun0_B.sl.r_9 (F := Ideal) c i arg4 harg4 arg5 harg5 arg6 harg6 x3 x4 x5
      = (in2 i x0 x1 x2 x3 x4 x5 x6 x7 s).dec := by
  simp (disch := decide) only [kernelRun0_B.sl.r_9, r_1B, View.readAt_eq_ld, Memref.IsWhole.read_unread, View.ld_unit_lit']
  rfl

theorem r_10B :
    kernelRun0_B.sl.r_10 (F := Ideal) c arg1 harg1 x0
      = (in2 i x0 x1 x2 x3 x4 x5 x6 x7 s).q32 := by
  simp (disch := decide) only [kernelRun0_B.sl.r_10, View.readAt_eq_ld, Memref.IsWhole.read_unread, View.ld_unit_lit']
  rfl

theorem r_11B :
    kernelRun0_B.sl.r_11 (F := Ideal) c i arg1 harg1 arg4 harg4 arg5 harg5 arg6 harg6 x0 x3 x4 x5
      = (in2 i x0 x1 x2 x3 x4 x5 x6 x7 s).qd32 := by
  simp (disch := decide) only [kernelRun0_B.sl.r_11, (r_6B (x0 := x0) (x1 := x1) (x2 := x2) (x6 := x6) (x7 := x7) (s := s)), (r_10B (i := i) (x1 := x1) (x2 := x2) (x3 := x3) (x4 := x4) (x5 := x5) (x6 := x6) (x7 := x7) (s := s)), View.readAt_eq_ld, Memref.IsWhole.read_unread, View.ld_unit_lit']
  rfl

theorem r_12B :
    kernelRun0_B.sl.r_12 (F := Ideal) c i arg2 harg2 arg4 harg4 arg5 harg5 arg6 harg6 x1 x3 x4 x5
      = (in2 i x0 x1 x2 x3 x4 x5 x6 x7 s).ki32 := by
  simp (disch := decide) only [kernelRun0_B.sl.r_12, (r_7B (x0 := x0) (x1 := x1) (x2 := x2) (x6 := x6) (x7 := x7) (s := s)), View.readAt_eq_ld, Memref.IsWhole.read_unread, View.ld_unit_lit']
  rfl

theorem r_13B :
    kernelRun0_B.sl.r_13 (F := Ideal) c i arg2 harg2 arg4 harg4 arg5 harg5 arg6 harg6 x1 x3 x4 x5
      = (in2 i x0 x1 x2 x3 x4 x5 x6 x7 s).ke32 := by
  simp (disch := decide) only [kernelRun0_B.sl.r_13, (r_8B (x0 := x0) (x1 := x1) (x2 := x2) (x6 := x6) (x7 := x7) (s := s)), View.readAt_eq_ld, Memref.IsWhole.read_unread, View.ld_unit_lit']
  rfl

theorem r_14B :
    kernelRun0_B.sl.r_14 (F := Ideal) c i arg1 harg1 arg4 harg4 arg5 harg5 arg6 harg6 x0 x3 x4 x5
      = (in2 i x0 x1 x2 x3 x4 x5 x6 x7 s).qd := by
  simp (disch := decide) only [kernelRun0_B.sl.r_14, (r_6B (x0 := x0) (x1 := x1) (x2 := x2) (x6 := x6) (x7 := x7) (s := s)), (r_10B (i := i) (x1 := x1) (x2 := x2) (x3 := x3) (x4 := x4) (x5 := x5) (x6 := x6) (x7 := x7) (s := s)), View.readAt_eq_ld, Memref.IsWhole.read_unread, View.ld_unit_lit']
  rfl

theorem r_15B :
    kernelRun0_B.sl.r_15 (F := Ideal) c i arg2 harg2 arg4 harg4 arg5 harg5 arg6 harg6 x1 x3 x4 x5
      = (in2 i x0 x1 x2 x3 x4 x5 x6 x7 s).ki := by
  simp (disch := decide) only [kernelRun0_B.sl.r_15, (r_7B (x0 := x0) (x1 := x1) (x2 := x2) (x6 := x6) (x7 := x7) (s := s)), View.readAt_eq_ld, Memref.IsWhole.read_unread, View.ld_unit_lit']
  rfl

theorem r_16B :
    kernelRun0_B.sl.r_16 (F := Ideal) c i arg2 harg2 arg4 harg4 arg5 harg5 arg6 harg6 x1 x3 x4 x5
      = (in2 i x0 x1 x2 x3 x4 x5 x6 x7 s).ke := by
  simp (disch := decide) only [kernelRun0_B.sl.r_16, (r_8B (x0 := x0) (x1 := x1) (x2 := x2) (x6 := x6) (x7 := x7) (s := s)), View.readAt_eq_ld, Memref.IsWhole.read_unread, View.ld_unit_lit']
  rfl

theorem r_17B :
    kernelRun0_B.sl.r_17 (F := Ideal) c arg3 harg3 x2
      = (in2 i x0 x1 x2 x3 x4 x5 x6 x7 s).v 0 := by
  simp (disch := decide) only [kernelRun0_B.sl.r_17, View.readAt_eq_ld, Memref.IsWhole.read_unread, View.ld_unit_lit']
  rfl

theorem r_18B :
    kernelRun0_B.sl.r_18 (F := Ideal) c arg8 harg8 x7
      = (in2 i x0 x1 x2 x3 x4 x5 x6 x7 s).g 0 := by
  simp (disch := decide) only [kernelRun0_B.sl.r_18, View.readAt_eq_ld, Memref.IsWhole.read_unread, View.ld_unit_lit']
  rfl

theorem r_19B :
    kernelRun0_B.sl.r_19 (F := Ideal) c arg7 harg7 x6
      = (in2 i x0 x1 x2 x3 x4 x5 x6 x7 s).st 0 := by
  simp (disch := decide) only [kernelRun0_B.sl.r_19, View.readAt_eq_ld, Memref.IsWhole.read_unread, View.ld_unit_lit']
  rfl

theorem r_20B :
    kernelRun0_B.sl.r_20 (F := Ideal) c arg14 harg14 s
      = (in2 i x0 x1 x2 x3 x4 x5 x6 x7 s).dsb 0 := by
  simp (disch := decide) only [kernelRun0_B.sl.r_20, r_2B, View.readAt_eq_ld, Memref.IsWhole.read_unread, View.ld_unit_lit']
  rfl

theorem r_21B :
    kernelRun0_B.sl.r_21 (F := Ideal) c i arg2 harg2 arg3 harg3 arg4 harg4 arg5 harg5 arg6 harg6 arg7 harg7 arg8 harg8 x1 x2 x3 x4 x5 x6 x7
      = (in2 i x0 x1 x2 x3 x4 x5 x6 x7 s).dqdH 0 := by
  simp (disch := decide) only [kernelRun0_B.sl.r_21, (r_7B (x0 := x0) (x1 := x1) (x2 := x2) (x6 := x6) (x7 := x7) (s := s)), View.readAt_eq_ld, Memref.IsWhole.read_unread, View.ld_unit_lit']
  rfl

theorem r_22B :
    kernelRun0_B.sl.r_22 (F := Ideal) c i arg1 harg1 arg3 harg3 arg4 harg4 arg5 harg5 arg6 harg6 arg8 harg8 x0 x2 x3 x4 x5 x7
      = (in2 i x0 x1 x2 x3 x4 x5 x6 x7 s).dkiH 0 := by
  simp (disch := decide) only [kernelRun0_B.sl.r_22, (r_6B (x0 := x0) (x1 := x1) (x2 := x2) (x6 := x6) (x7 := x7) (s := s)), (r_10B (i := i) (x1 := x1) (x2 := x2) (x3 := x3) (x4 := x4) (x5 := x5) (x6 := x6) (x7 := x7) (s := s)), View.readAt_eq_ld, Memref.IsWhole.read_unread, View.ld_unit_lit']
  rfl

theorem r_23B :
    kernelRun0_B.sl.r_23 (F := Ideal) c arg3 harg3 arg14 harg14 x2 s
      = (in2 i x0 x1 x2 x3 x4 x5 x6 x7 s).dkeH 0 := by
  simp (disch := decide) only [kernelRun0_B.sl.r_23, (r_17B (i := i) (x0 := x0) (x1 := x1) (x3 := x3) (x4 := x4) (x5 := x5) (x6 := x6) (x7 := x7) (s := s)), (r_20B (i := i) (x0 := x0) (x1 := x1) (x2 := x2) (x3 := x3) (x4 := x4) (x5 := x5) (x6 := x6) (x7 := x7)), View.readAt_eq_ld, Memref.IsWhole.read_unread, View.ld_unit_lit']
  rfl

theorem r_24B :
    kernelRun0_B.sl.r_24 (F := Ideal) c arg7 harg7 arg14 harg14 x6 s
      = (in2 i x0 x1 x2 x3 x4 x5 x6 x7 s).ddecH 0 := by
  simp (disch := decide) only [kernelRun0_B.sl.r_24, r_2B, (r_19B (i := i) (x0 := x0) (x1 := x1) (x2 := x2) (x3 := x3) (x4 := x4) (x5 := x5) (x7 := x7) (s := s)), View.readAt_eq_ld, Memref.IsWhole.read_unread, View.ld_unit_lit']
  rfl

theorem r_25B :
    kernelRun0_B.sl.r_25 (F := Ideal) c i arg1 harg1 arg4 harg4 arg5 harg5 arg6 harg6 arg8 harg8 arg14 harg14 x0 x3 x4 x5 x7 s
      = (in2 i x0 x1 x2 x3 x4 x5 x6 x7 s).ds' 0 := by
  simp (disch := decide) only [kernelRun0_B.sl.r_25, r_2B, (r_9B (x0 := x0) (x1 := x1) (x2 := x2) (x6 := x6) (x7 := x7) (s := s)), (r_14B (x1 := x1) (x2 := x2) (x6 := x6) (x7 := x7) (s := s)), (r_18B (i := i) (x0 := x0) (x1 := x1) (x2 := x2) (x3 := x3) (x4 := x4) (x5 := x5) (x6 := x6) (s := s)), View.readAt_eq_ld, Memref.IsWhole.read_unread, View.ld_unit_lit']
  rfl

theorem r_26B :
    kernelRun0_B.sl.r_26 (F := Ideal) c arg3 harg3 x2
      = (in2 i x0 x1 x2 x3 x4 x5 x6 x7 s).v 1 := by
  simp (disch := decide) only [kernelRun0_B.sl.r_26, View.readAt_eq_ld, Memref.IsWhole.read_unread, View.ld_unit_lit']
  rfl

theorem r_27B :
    kernelRun0_B.sl.r_27 (F := Ideal) c arg8 harg8 x7
      = (in2 i x0 x1 x2 x3 x4 x5 x6 x7 s).g 1 := by
  simp (disch := decide) only [kernelRun0_B.sl.r_27, View.readAt_eq_ld, Memref.IsWhole.read_unread, View.ld_unit_lit']
  rfl

theorem r_28B :
    kernelRun0_B.sl.r_28 (F := Ideal) c arg7 harg7 x6
      = (in2 i x0 x1 x2 x3 x4 x5 x6 x7 s).st 1 := by
  simp (disch := decide) only [kernelRun0_B.sl.r_28, View.readAt_eq_ld, Memref.IsWhole.read_unread, View.ld_unit_lit']
  rfl

theorem r_29B :
    kernelRun0_B.sl.r_29 (F := Ideal) c arg14 harg14 s
      = (in2 i x0 x1 x2 x3 x4 x5 x6 x7 s).dsb 1 := by
  simp (disch := decide) only [kernelRun0_B.sl.r_29, r_3B, View.readAt_eq_ld, Memref.IsWhole.read_unread, View.ld_unit_lit']
  rfl

theorem r_30B :
    kernelRun0_B.sl.r_30 (F := Ideal) c arg3 harg3 arg8 harg8 x2 x7
      = (in2 i x0 x1 x2 x3 x4 x5 x6 x7 s).datt 1 := by
  simp (disch := decide) only [kernelRun0_B.sl.r_30, View.readAt_eq_ld, Memref.IsWhole.read_unread, View.ld_unit_lit']
  rfl

theorem r_31B :
    kernelRun0_B.sl.r_31 (F := Ideal) c i arg2 harg2 arg3 harg3 arg4 harg4 arg5 harg5 arg6 harg6 arg8 harg8 x1 x2 x3 x4 x5 x7
      = (in2 i x0 x1 x2 x3 x4 x5 x6 x7 s).dqd1 1 := by
  simp (disch := decide) only [kernelRun0_B.sl.r_31, (r_15B (x0 := x0) (x2 := x2) (x6 := x6) (x7 := x7) (s := s)), View.readAt_eq_ld, Memref.IsWhole.read_unread, View.ld_unit_lit']
  rfl

theorem r_32B :
    kernelRun0_B.sl.r_32 (F := Ideal) c arg7 harg7 arg8 harg8 x6 x7
      = (in2 i x0 x1 x2 x3 x4 x5 x6 x7 s).dqd2 1 := by
  simp (disch := decide) only [kernelRun0_B.sl.r_32, View.readAt_eq_ld, Memref.IsWhole.read_unread, View.ld_unit_lit']
  rfl

theorem r_33B :
    kernelRun0_B.sl.r_33 (F := Ideal) c i arg2 harg2 arg3 harg3 arg4 harg4 arg5 harg5 arg6 harg6 arg7 harg7 arg8 harg8 x1 x2 x3 x4 x5 x6 x7
      = (in2 i x0 x1 x2 x3 x4 x5 x6 x7 s).dqdH 1 := by
  simp (disch := decide) only [kernelRun0_B.sl.r_33, (r_31B (x0 := x0) (x6 := x6) (s := s)), (r_32B (i := i) (x0 := x0) (x1 := x1) (x2 := x2) (x3 := x3) (x4 := x4) (x5 := x5) (s := s)), View.readAt_eq_ld, Memref.IsWhole.read_unread, View.ld_unit_lit']
  rfl

theorem r_34B :
    kernelRun0_B.sl.r_34 (F := Ideal) c i arg1 harg1 arg3 harg3 arg4 harg4 arg5 harg5 arg6 harg6 arg8 harg8 x0 x2 x3 x4 x5 x7
      = (in2 i x0 x1 x2 x3 x4 x5 x6 x7 s).dkiH 1 := by
  simp (disch := decide) only [kernelRun0_B.sl.r_34, (r_14B (x1 := x1) (x2 := x2) (x6 := x6) (x7 := x7) (s := s)), (r_30B (i := i) (x0 := x0) (x1 := x1) (x3 := x3) (x4 := x4) (x5 := x5) (x6 := x6) (s := s)), View.readAt_eq_ld, Memref.IsWhole.read_unread, View.ld_unit_lit']
  rfl

theorem r_35B :
    kernelRun0_B.sl.r_35 (F := Ideal) c arg3 harg3 arg14 harg14 x2 s
      = (in2 i x0 x1 x2 x3 x4 x5 x6 x7 s).dkeH 1 := by
  simp (disch := decide) only [kernelRun0_B.sl.r_35, (r_26B (i := i) (x0 := x0) (x1 := x1) (x3 := x3) (x4 := x4) (x5 := x5) (x6 := x6) (x7 := x7) (s := s)), (r_29B (i := i) (x0 := x0) (x1 := x1) (x2 := x2) (x3 := x3) (x4 := x4) (x5 := x5) (x6 := x6) (x7 := x7)), View.readAt_eq_ld, Memref.IsWhole.read_unread, View.ld_unit_lit']
  rfl

theorem r_36B :
    kernelRun0_B.sl.r_36 (F := Ideal) c arg7 harg7 arg14 harg14 x6 s
      = (in2 i x0 x1 x2 x3 x4 x5 x6 x7 s).ddecH 1 := by
  simp (disch := decide) only [kernelRun0_B.sl.r_36, r_3B, (r_28B (i := i) (x0 := x0) (x1 := x1) (x2 := x2) (x3 := x3) (x4 := x4) (x5 := x5) (x7 := x7) (s := s)), View.readAt_eq_ld, Memref.IsWhole.read_unread, View.ld_unit_lit']
  rfl

theorem r_37B :
    kernelRun0_B.sl.r_37 (F := Ideal) c i arg1 harg1 arg4 harg4 arg5 harg5 arg6 harg6 arg8 harg8 arg14 harg14 x0 x3 x4 x5 x7 s
      = (in2 i x0 x1 x2 x3 x4 x5 x6 x7 s).ds' 1 := by
  simp (disch := decide) only [kernelRun0_B.sl.r_37, r_3B, (r_9B (x0 := x0) (x1 := x1) (x2 := x2) (x6 := x6) (x7 := x7) (s := s)), (r_14B (x1 := x1) (x2 := x2) (x6 := x6) (x7 := x7) (s := s)), (r_27B (i := i) (x0 := x0) (x1 := x1) (x2 := x2) (x3 := x3) (x4 := x4) (x5 := x5) (x6 := x6) (s := s)), View.readAt_eq_ld, Memref.IsWhole.read_unread, View.ld_unit_lit']
  rfl

theorem r_38B :
    kernelRun0_B.sl.r_38 (F := Ideal) c arg3 harg3 x2
      = (in2 i x0 x1 x2 x3 x4 x5 x6 x7 s).v 2 := by
  simp (disch := decide) only [kernelRun0_B.sl.r_38, View.readAt_eq_ld, Memref.IsWhole.read_unread, View.ld_unit_lit']
  rfl

theorem r_39B :
    kernelRun0_B.sl.r_39 (F := Ideal) c arg8 harg8 x7
      = (in2 i x0 x1 x2 x3 x4 x5 x6 x7 s).g 2 := by
  simp (disch := decide) only [kernelRun0_B.sl.r_39, View.readAt_eq_ld, Memref.IsWhole.read_unread, View.ld_unit_lit']
  rfl

theorem r_40B :
    kernelRun0_B.sl.r_40 (F := Ideal) c arg7 harg7 x6
      = (in2 i x0 x1 x2 x3 x4 x5 x6 x7 s).st 2 := by
  simp (disch := decide) only [kernelRun0_B.sl.r_40, View.readAt_eq_ld, Memref.IsWhole.read_unread, View.ld_unit_lit']
  rfl

theorem r_41B :
    kernelRun0_B.sl.r_41 (F := Ideal) c arg14 harg14 s
      = (in2 i x0 x1 x2 x3 x4 x5 x6 x7 s).dsb 2 := by
  simp (disch := decide) only [kernelRun0_B.sl.r_41, r_4B, View.readAt_eq_ld, Memref.IsWhole.read_unread, View.ld_unit_lit']
  rfl

theorem r_42B :
    kernelRun0_B.sl.r_42 (F := Ideal) c arg3 harg3 arg8 harg8 x2 x7
      = (in2 i x0 x1 x2 x3 x4 x5 x6 x7 s).datt 2 := by
  simp (disch := decide) only [kernelRun0_B.sl.r_42, View.readAt_eq_ld, Memref.IsWhole.read_unread, View.ld_unit_lit']
  rfl

theorem r_43B :
    kernelRun0_B.sl.r_43 (F := Ideal) c i arg2 harg2 arg4 harg4 arg5 harg5 arg6 harg6 x1 x3 x4 x5
      = In.hs (in2 i x0 x1 x2 x3 x4 x5 x6 x7 s).ki 2 := by
  simp (disch := decide) only [kernelRun0_B.sl.r_43, (r_15B (x0 := x0) (x2 := x2) (x6 := x6) (x7 := x7) (s := s)), View.readAt_eq_ld, Memref.IsWhole.read_unread, View.ld_unit_lit']
  rfl

theorem r_44B :
    kernelRun0_B.sl.r_44 (F := Ideal) c i arg2 harg2 arg3 harg3 arg4 harg4 arg5 harg5 arg6 harg6 arg7 harg7 arg8 harg8 x1 x2 x3 x4 x5 x6 x7
      = (in2 i x0 x1 x2 x3 x4 x5 x6 x7 s).dqdH 2 := by
  simp (disch := decide) only [kernelRun0_B.sl.r_44, kernelRun0_B.sl.cst_83, (r_39B (i := i) (x0 := x0) (x1 := x1) (x2 := x2) (x3 := x3) (x4 := x4) (x5 := x5) (x6 := x6) (s := s)), (r_40B (i := i) (x0 := x0) (x1 := x1) (x2 := x2) (x3 := x3) (x4 := x4) (x5 := x5) (x7 := x7) (s := s)), (r_42B (i := i) (x0 := x0) (x1 := x1) (x3 := x3) (x4 := x4) (x5 := x5) (x6 := x6) (s := s)), (r_43B (x0 := x0) (x2 := x2) (x6 := x6) (x7 := x7) (s := s)), View.readAt_eq_ld, Memref.IsWhole.read_unread, View.ld_unit_lit']
  rfl

theorem r_45B :
    kernelRun0_B.sl.r_45 (F := Ideal) c i arg1 harg1 arg3 harg3 arg4 harg4 arg5 harg5 arg6 harg6 arg8 harg8 x0 x2 x3 x4 x5 x7
      = (in2 i x0 x1 x2 x3 x4 x5 x6 x7 s).dkiH 2 := by
  simp (disch := decide) only [kernelRun0_B.sl.r_45, (r_14B (x1 := x1) (x2 := x2) (x6 := x6) (x7 := x7) (s := s)), (r_42B (i := i) (x0 := x0) (x1 := x1) (x3 := x3) (x4 := x4) (x5 := x5) (x6 := x6) (s := s)), View.readAt_eq_ld, Memref.IsWhole.read_unread, View.ld_unit_lit']
  rfl

theorem r_46B :
    kernelRun0_B.sl.r_46 (F := Ideal) c arg3 harg3 arg14 harg14 x2 s
      = (in2 i x0 x1 x2 x3 x4 x5 x6 x7 s).dkeH 2 := by
  simp (disch := decide) only [kernelRun0_B.sl.r_46, (r_38B (i := i) (x0 := x0) (x1 := x1) (x3 := x3) (x4 := x4) (x5 := x5) (x6 := x6) (x7 := x7) (s := s)), (r_41B (i := i) (x0 := x0) (x1 := x1) (x2 := x2) (x3 := x3) (x4 := x4) (x5 := x5) (x6 := x6) (x7 := x7)), View.readAt_eq_ld, Memref.IsWhole.read_unread, View.ld_unit_lit']
  rfl

theorem r_47B :
    kernelRun0_B.sl.r_47 (F := Ideal) c arg7 harg7 arg14 harg14 x6 s
      = (in2 i x0 x1 x2 x3 x4 x5 x6 x7 s).ddecH 2 := by
  simp (disch := decide) only [kernelRun0_B.sl.r_47, r_4B, (r_40B (i := i) (x0 := x0) (x1 := x1) (x2 := x2) (x3 := x3) (x4 := x4) (x5 := x5) (x7 := x7) (s := s)), View.readAt_eq_ld, Memref.IsWhole.read_unread, View.ld_unit_lit']
  rfl

theorem r_48B :
    kernelRun0_B.sl.r_48 (F := Ideal) c i arg1 harg1 arg4 harg4 arg5 harg5 arg6 harg6 arg8 harg8 arg14 harg14 x0 x3 x4 x5 x7 s
      = (in2 i x0 x1 x2 x3 x4 x5 x6 x7 s).ds' 2 := by
  simp (disch := decide) only [kernelRun0_B.sl.r_48, r_4B, (r_9B (x0 := x0) (x1 := x1) (x2 := x2) (x6 := x6) (x7 := x7) (s := s)), (r_14B (x1 := x1) (x2 := x2) (x6 := x6) (x7 := x7) (s := s)), (r_39B (i := i) (x0 := x0) (x1 := x1) (x2 := x2) (x3 := x3) (x4 := x4) (x5 := x5) (x6 := x6) (s := s)), View.readAt_eq_ld, Memref.IsWhole.read_unread, View.ld_unit_lit']
  rfl

theorem r_49B :
    kernelRun0_B.sl.r_49 (F := Ideal) c arg3 harg3 x2
      = (in2 i x0 x1 x2 x3 x4 x5 x6 x7 s).v 3 := by
  simp (disch := decide) only [kernelRun0_B.sl.r_49, View.readAt_eq_ld, Memref.IsWhole.read_unread, View.ld_unit_lit']
  rfl

theorem r_50B :
    kernelRun0_B.sl.r_50 (F := Ideal) c arg8 harg8 x7
      = (in2 i x0 x1 x2 x3 x4 x5 x6 x7 s).g 3 := by
  simp (disch := decide) only [kernelRun0_B.sl.r_50, View.readAt_eq_ld, Memref.IsWhole.read_unread, View.ld_unit_lit']
  rfl

theorem r_51B :
    kernelRun0_B.sl.r_51 (F := Ideal) c arg7 harg7 x6
      = (in2 i x0 x1 x2 x3 x4 x5 x6 x7 s).st 3 := by
  simp (disch := decide) only [kernelRun0_B.sl.r_51, View.readAt_eq_ld, Memref.IsWhole.read_unread, View.ld_unit_lit']
  rfl

theorem r_52B :
    kernelRun0_B.sl.r_52 (F := Ideal) c arg14 harg14 s
      = (in2 i x0 x1 x2 x3 x4 x5 x6 x7 s).dsb 3 := by
  simp (disch := decide) only [kernelRun0_B.sl.r_52, r_5B, View.readAt_eq_ld, Memref.IsWhole.read_unread, View.ld_unit_lit']
  rfl

theorem r_53B :
    kernelRun0_B.sl.r_53 (F := Ideal) c arg3 harg3 arg8 harg8 x2 x7
      = (in2 i x0 x1 x2 x3 x4 x5 x6 x7 s).datt 3 := by
  simp (disch := decide) only [kernelRun0_B.sl.r_53, View.readAt_eq_ld, Memref.IsWhole.read_unread, View.ld_unit_lit']
  rfl

theorem r_54B :
    kernelRun0_B.sl.r_54 (F := Ideal) c i arg1 harg1 arg2 harg2 arg4 harg4 arg5 harg5 arg6 harg6 arg8 harg8 arg14 harg14 x0 x1 x3 x4 x5 x7 s
      = (in2 i x0 x1 x2 x3 x4 x5 x6 x7 s).dv 3 := by
  simp (disch := decide) only [kernelRun0_B.sl.r_54, r_5B, (r_14B (x1 := x1) (x2 := x2) (x6 := x6) (x7 := x7) (s := s)), (r_15B (x0 := x0) (x2 := x2) (x6 := x6) (x7 := x7) (s := s)), (r_16B (x0 := x0) (x2 := x2) (x6 := x6) (x7 := x7) (s := s)), View.readAt_eq_ld, Memref.IsWhole.read_unread, View.ld_unit_lit']
  rfl

theorem r_55B :
    kernelRun0_B.sl.r_55 (F := Ideal) c i arg1 harg1 arg4 harg4 arg5 harg5 arg6 harg6 arg8 harg8 arg14 harg14 x0 x3 x4 x5 x7 s
      = (in2 i x0 x1 x2 x3 x4 x5 x6 x7 s).ds' 3 := by
  simp (disch := decide) only [kernelRun0_B.sl.r_55, r_5B, (r_9B (x0 := x0) (x1 := x1) (x2 := x2) (x6 := x6) (x7 := x7) (s := s)), (r_14B (x1 := x1) (x2 := x2) (x6 := x6) (x7 := x7) (s := s)), (r_50B (i := i) (x0 := x0) (x1 := x1) (x2 := x2) (x3 := x3) (x4 := x4) (x5 := x5) (x6 := x6) (s := s)), View.readAt_eq_ld, Memref.IsWhole.read_unread, View.ld_unit_lit']
  rfl

theorem r_56B :
    kernelRun0_B.sl.r_56 (F := Ideal) c i arg2 harg2 arg3 harg3 arg4 harg4 arg5 harg5 arg6 harg6 arg7 harg7 arg14 harg14 x1 x2 x3 x4 x5 x6 s
      = (in2 i x0 x1 x2 x3 x4 x5 x6 x7 s).dbl := by
  simp (disch := decide) only [kernelRun0_B.sl.r_56, r_5B, (r_9B (x0 := x0) (x1 := x1) (x2 := x2) (x6 := x6) (x7 := x7) (s := s)), (r_13B (x0 := x0) (x2 := x2) (x6 := x6) (x7 := x7) (s := s)), (r_23B (i := i) (x0 := x0) (x1 := x1) (x3 := x3) (x4 := x4) (x5 := x5) (x6 := x6) (x7 := x7)), (r_24B (i := i) (x0 := x0) (x1 := x1) (x2 := x2) (x3 := x3) (x4 := x4) (x5 := x5) (x7 := x7)), (r_35B (i := i) (x0 := x0) (x1 := x1) (x3 := x3) (x4 := x4) (x5 := x5) (x6 := x6) (x7 := x7)), (r_36B (i := i) (x0 := x0) (x1 := x1) (x2 := x2) (x3 := x3) (x4 := x4) (x5 := x5) (x7 := x7)), (r_46B (i := i) (x0 := x0) (x1 := x1) (x3 := x3) (x4 := x4) (x5 := x5) (x6 := x6) (x7 := x7)), (r_47B (i := i) (x0 := x0) (x1 := x1) (x2 := x2) (x3 := x3) (x4 := x4) (x5 := x5) (x7 := x7)), (r_49B (i := i) (x0 := x0) (x1 := x1) (x3 := x3) (x4 := x4) (x5 := x5) (x6 := x6) (x7 := x7) (s := s)), (r_51B (i := i) (x0 := x0) (x1 := x1) (x2 := x2) (x3 := x3) (x4 := x4) (x5 := x5) (x7 := x7) (s := s)), (r_52B (i := i) (x0 := x0) (x1 := x1) (x2 := x2) (x3 := x3) (x4 := x4) (x5 := x5) (x6 := x6) (x7 := x7)), View.readAt_eq_ld, Memref.IsWhole.read_unread, View.ld_unit_lit']
  rfl

theorem r_57B :
    kernelRun0_B.sl.r_57 (F := Ideal) c i arg1 harg1 arg2 harg2 arg3 harg3 arg4 harg4 arg5 harg5 arg6 harg6 arg7 harg7 arg8 harg8 arg14 harg14 x0 x1 x2 x3 x4 x5 x6 x7 s
      = t1 (in2 i x0 x1 x2 x3 x4 x5 x6 x7 s).db := by
  simp (disch := decide) only [kernelRun0_B.sl.r_57, (r_11B (x1 := x1) (x2 := x2) (x6 := x6) (x7 := x7) (s := s)), (r_12B (x0 := x0) (x2 := x2) (x6 := x6) (x7 := x7) (s := s)), (r_13B (x0 := x0) (x2 := x2) (x6 := x6) (x7 := x7) (s := s)), (r_14B (x1 := x1) (x2 := x2) (x6 := x6) (x7 := x7) (s := s)), (r_15B (x0 := x0) (x2 := x2) (x6 := x6) (x7 := x7) (s := s)), (r_21B (x0 := x0) (s := s)), (r_22B (x1 := x1) (x6 := x6) (s := s)), (r_23B (i := i) (x0 := x0) (x1 := x1) (x3 := x3) (x4 := x4) (x5 := x5) (x6 := x6) (x7 := x7)), (r_33B (x0 := x0) (s := s)), (r_34B (x1 := x1) (x6 := x6) (s := s)), (r_35B (i := i) (x0 := x0) (x1 := x1) (x3 := x3) (x4 := x4) (x5 := x5) (x6 := x6) (x7 := x7)), (r_44B (x0 := x0) (s := s)), (r_45B (x1 := x1) (x6 := x6) (s := s)), (r_46B (i := i) (x0 := x0) (x1 := x1) (x3 := x3) (x4 := x4) (x5 := x5) (x6 := x6) (x7 := x7)), (r_49B (i := i) (x0 := x0) (x1 := x1) (x3 := x3) (x4 := x4) (x5 := x5) (x6 := x6) (x7 := x7) (s := s)), (r_50B (i := i) (x0 := x0) (x1 := x1) (x2 := x2) (x3 := x3) (x4 := x4) (x5 := x5) (x6 := x6) (s := s)), (r_51B (i := i) (x0 := x0) (x1 := x1) (x2 := x2) (x3 := x3) (x4 := x4) (x5 := x5) (x7 := x7) (s := s)), (r_52B (i := i) (x0 := x0) (x1 := x1) (x2 := x2) (x3 := x3) (x4 := x4) (x5 := x5) (x6 := x6) (x7 := x7)), (r_53B (i := i) (x0 := x0) (x1 := x1) (x3 := x3) (x4 := x4) (x5 := x5) (x6 := x6) (s := s)), View.readAt_eq_ld, Memref.IsWhole.read_unread, View.ld_unit_lit']
  rfl

theorem r_58B :
    kernelRun0_B.sl.r_58 (F := Ideal) c i arg1 harg1 arg2 harg2 arg3 harg3 arg4 harg4 arg5 harg5 arg6 harg6 arg7 harg7 arg8 harg8 arg14 harg14 x0 x1 x2 x3 x4 x5 x6 x7 s
      = t2 (in2 i x0 x1 x2 x3 x4 x5 x6 x7 s).db := by
  simp (disch := decide) only [kernelRun0_B.sl.r_58, (r_11B (x1 := x1) (x2 := x2) (x6 := x6) (x7 := x7) (s := s)), (r_12B (x0 := x0) (x2 := x2) (x6 := x6) (x7 := x7) (s := s)), (r_13B (x0 := x0) (x2 := x2) (x6 := x6) (x7 := x7) (s := s)), (r_14B (x1 := x1) (x2 := x2) (x6 := x6) (x7 := x7) (s := s)), (r_15B (x0 := x0) (x2 := x2) (x6 := x6) (x7 := x7) (s := s)), (r_21B (x0 := x0) (s := s)), (r_22B (x1 := x1) (x6 := x6) (s := s)), (r_23B (i := i) (x0 := x0) (x1 := x1) (x3 := x3) (x4 := x4) (x5 := x5) (x6 := x6) (x7 := x7)), (r_33B (x0 := x0) (s := s)), (r_34B (x1 := x1) (x6 := x6) (s := s)), (r_35B (i := i) (x0 := x0) (x1 := x1) (x3 := x3) (x4 := x4) (x5 := x5) (x6 := x6) (x7 := x7)), (r_44B (x0 := x0) (s := s)), (r_45B (x1 := x1) (x6 := x6) (s := s)), (r_46B (i := i) (x0 := x0) (x1 := x1) (x3 := x3) (x4 := x4) (x5 := x5) (x6 := x6) (x7 := x7)), (r_49B (i := i) (x0 := x0) (x1 := x1) (x3 := x3) (x4 := x4) (x5 := x5) (x6 := x6) (x7 := x7) (s := s)), (r_50B (i := i) (x0 := x0) (x1 := x1) (x2 := x2) (x3 := x3) (x4 := x4) (x5 := x5) (x6 := x6) (s := s)), (r_51B (i := i) (x0 := x0) (x1 := x1) (x2 := x2) (x3 := x3) (x4 := x4) (x5 := x5) (x7 := x7) (s := s)), (r_52B (i := i) (x0 := x0) (x1 := x1) (x2 := x2) (x3 := x3) (x4 := x4) (x5 := x5) (x6 := x6) (x7 := x7)), (r_53B (i := i) (x0 := x0) (x1 := x1) (x3 := x3) (x4 := x4) (x5 := x5) (x6 := x6) (s := s)), View.readAt_eq_ld, Memref.IsWhole.read_unread, View.ld_unit_lit']
  rfl

theorem r_59B :
    kernelRun0_B.sl.r_59 (F := Ideal) c i arg1 harg1 arg2 harg2 arg3 harg3 arg4 harg4 arg5 harg5 arg6 harg6 arg7 harg7 arg8 harg8 arg14 harg14 x0 x1 x2 x3 x4 x5 x6 x7 s
      = t1 (t2 (in2 i x0 x1 x2 x3 x4 x5 x6 x7 s).db) := by
  simp (disch := decide) only [kernelRun0_B.sl.r_59, (r_11B (x1 := x1) (x2 := x2) (x6 := x6) (x7 := x7) (s := s)), (r_12B (x0 := x0) (x2 := x2) (x6 := x6) (x7 := x7) (s := s)), (r_13B (x0 := x0) (x2 := x2) (x6 := x6) (x7 := x7) (s := s)), (r_14B (x1 := x1) (x2 := x2) (x6 := x6) (x7 := x7) (s := s)), (r_15B (x0 := x0) (x2 := x2) (x6 := x6) (x7 := x7) (s := s)), (r_21B (x0 := x0) (s := s)), (r_22B (x1 := x1) (x6 := x6) (s := s)), (r_23B (i := i) (x0 := x0) (x1 := x1) (x3 := x3) (x4 := x4) (x5 := x5) (x6 := x6) (x7 := x7)), (r_33B (x0 := x0) (s := s)), (r_34B (x1 := x1) (x6 := x6) (s := s)), (r_35B (i := i) (x0 := x0) (x1 := x1) (x3 := x3) (x4 := x4) (x5 := x5) (x6 := x6) (x7 := x7)), (r_44B (x0 := x0) (s := s)), (r_45B (x1 := x1) (x6 := x6) (s := s)), (r_46B (i := i) (x0 := x0) (x1 := x1) (x3 := x3) (x4 := x4) (x5 := x5) (x6 := x6) (x7 := x7)), (r_49B (i := i) (x0 := x0) (x1 := x1) (x3 := x3) (x4 := x4) (x5 := x5) (x6 := x6) (x7 := x7) (s := s)), (r_50B (i := i) (x0 := x0) (x1 := x1) (x2 := x2) (x3 := x3) (x4 := x4) (x5 := x5) (x6 := x6) (s := s)), (r_51B (i := i) (x0 := x0) (x1 := x1) (x2 := x2) (x3 := x3) (x4 := x4) (x5 := x5) (x7 := x7) (s := s)), (r_52B (i := i) (x0 := x0) (x1 := x1) (x2 := x2) (x3 := x3) (x4 := x4) (x5 := x5) (x6 := x6) (x7 := x7)), (r_53B (i := i) (x0 := x0) (x1 := x1) (x3 := x3) (x4 := x4) (x5 := x5) (x6 := x6) (s := s)), View.readAt_eq_ld, Memref.IsWhole.read_unread, View.ld_unit_lit']
  rfl

theorem r_60B :
    kernelRun0_B.sl.r_60 (F := Ideal) c i arg1 harg1 arg2 harg2 arg3 harg3 arg4 harg4 arg5 harg5 arg6 harg6 arg7 harg7 arg8 harg8 arg14 harg14 x0 x1 x2 x3 x4 x5 x6 x7 s
      = (in2 i x0 x1 x2 x3 x4 x5 x6 x7 s).dz := by
  simp (disch := decide) only [kernelRun0_B.sl.r_60, kernelRun0_B.sl.v0, kernelRun0_B.sl.v35, kernelRun0_B.sl.v36, rB, (r_56B (x0 := x0) (x7 := x7)), r_57B, r_58B, r_59B, View.readAt_eq_ld, Memref.IsWhole.read_unread, View.ld_unit_lit']
  rfl

theorem r_61B :
    kernelRun0_B.sl.r_61 (F := Ideal) c i arg4 harg4 arg5 harg5 arg6 harg6 x3 x4 x5
      = t3 (in1 i x0 x1 x2 x3 x4 x5 x6 x7 s).la := by
  simp (disch := decide) only [kernelRun0_B.sl.r_61, r_1B, View.readAt_eq_ld, Memref.IsWhole.read_unread, View.ld_unit_lit']
  rfl

theorem r_62B :
    kernelRun0_B.sl.r_62 (F := Ideal) c i arg4 harg4 arg5 harg5 arg6 harg6 x3 x4 x5
      = tm12 tri (in1 i x0 x1 x2 x3 x4 x5 x6 x7 s).la := by
  simp (disch := decide) only [kernelRun0_B.sl.r_62, r_1B, View.readAt_eq_ld, Memref.IsWhole.read_unread, View.ld_unit_lit']
  rfl

theorem r_63B :
    kernelRun0_B.sl.r_63 (F := Ideal) c i arg4 harg4 arg5 harg5 arg6 harg6 x3 x4 x5
      = (in1 i x0 x1 x2 x3 x4 x5 x6 x7 s).eb := by
  simp (disch := decide) only [kernelRun0_B.sl.r_63, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_64B :
    kernelRun0_B.sl.r_64 (F := Ideal) c i arg4 harg4 arg5 harg5 arg6 harg6 x3 x4 x5
      = (in1 i x0 x1 x2 x3 x4 x5 x6 x7 s).enb := by
  simp (disch := decide) only [kernelRun0_B.sl.r_64, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_65B :
    kernelRun0_B.sl.r_65 (F := Ideal) c i arg4 harg4 arg5 harg5 arg6 harg6 x3 x4 x5
      = (in1 i x0 x1 x2 x3 x4 x5 x6 x7 s).ebl := by
  simp (disch := decide) only [kernelRun0_B.sl.r_65, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_66B :
    kernelRun0_B.sl.r_66 (F := Ideal) c i arg4 harg4 arg5 harg5 arg6 harg6 x3 x4 x5
      = (in1 i x0 x1 x2 x3 x4 x5 x6 x7 s).dec := by
  simp (disch := decide) only [kernelRun0_B.sl.r_66, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_67B :
    kernelRun0_B.sl.r_67 (F := Ideal) c i arg1 harg1 arg4 harg4 arg5 harg5 arg6 harg6 x0 x3 x4 x5
      = (in1 i x0 x1 x2 x3 x4 x5 x6 x7 s).qd32 := by
  simp (disch := decide) only [kernelRun0_B.sl.r_67, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_68B :
    kernelRun0_B.sl.r_68 (F := Ideal) c i arg2 harg2 arg4 harg4 arg5 harg5 arg6 harg6 x1 x3 x4 x5
      = (in1 i x0 x1 x2 x3 x4 x5 x6 x7 s).ki32 := by
  simp (disch := decide) only [kernelRun0_B.sl.r_68, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_69B :
    kernelRun0_B.sl.r_69 (F := Ideal) c i arg2 harg2 arg4 harg4 arg5 harg5 arg6 harg6 x1 x3 x4 x5
      = (in1 i x0 x1 x2 x3 x4 x5 x6 x7 s).ke32 := by
  simp (disch := decide) only [kernelRun0_B.sl.r_69, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_70B :
    kernelRun0_B.sl.r_70 (F := Ideal) c i arg1 harg1 arg4 harg4 arg5 harg5 arg6 harg6 x0 x3 x4 x5
      = (in1 i x0 x1 x2 x3 x4 x5 x6 x7 s).qd := by
  simp (disch := decide) only [kernelRun0_B.sl.r_70, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_71B :
    kernelRun0_B.sl.r_71 (F := Ideal) c i arg2 harg2 arg4 harg4 arg5 harg5 arg6 harg6 x1 x3 x4 x5
      = (in1 i x0 x1 x2 x3 x4 x5 x6 x7 s).ki := by
  simp (disch := decide) only [kernelRun0_B.sl.r_71, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_72B :
    kernelRun0_B.sl.r_72 (F := Ideal) c i arg2 harg2 arg4 harg4 arg5 harg5 arg6 harg6 x1 x3 x4 x5
      = (in1 i x0 x1 x2 x3 x4 x5 x6 x7 s).ke := by
  simp (disch := decide) only [kernelRun0_B.sl.r_72, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_73B :
    kernelRun0_B.sl.r_73 (F := Ideal) c arg3 harg3 x2
      = (in1 i x0 x1 x2 x3 x4 x5 x6 x7 s).v 0 := by
  simp (disch := decide) only [kernelRun0_B.sl.r_73, View.readAt_eq_ld, Memref.IsWhole.read_unread, View.ld_unit_lit']
  rfl

theorem r_74B :
    kernelRun0_B.sl.r_74 (F := Ideal) c arg8 harg8 x7
      = (in1 i x0 x1 x2 x3 x4 x5 x6 x7 s).g 0 := by
  simp (disch := decide) only [kernelRun0_B.sl.r_74, View.readAt_eq_ld, Memref.IsWhole.read_unread, View.ld_unit_lit']
  rfl

theorem r_75B :
    kernelRun0_B.sl.r_75 (F := Ideal) c arg7 harg7 x6
      = (in1 i x0 x1 x2 x3 x4 x5 x6 x7 s).st 0 := by
  simp (disch := decide) only [kernelRun0_B.sl.r_75, View.readAt_eq_ld, Memref.IsWhole.read_unread, View.ld_unit_lit']
  rfl

theorem r_76B :
    kernelRun0_B.sl.r_76 (F := Ideal) c i arg1 harg1 arg4 harg4 arg5 harg5 arg6 harg6 arg8 harg8 arg14 harg14 x0 x3 x4 x5 x7 s
      = (in1 i x0 x1 x2 x3 x4 x5 x6 x7 s).dsb 0 := by
  simp (disch := decide) only [kernelRun0_B.sl.r_76, (r_25B (x1 := x1) (x2 := x2) (x6 := x6)), View.readAt_eq_ld, Memref.IsWhole.read_unread, View.ld_unit_lit']
  rfl

theorem r_77B :
    kernelRun0_B.sl.r_77 (F := Ideal) c i arg1 harg1 arg2 harg2 arg4 harg4 arg5 harg5 arg6 harg6 x0 x1 x3 x4 x5
      = (in1 i x0 x1 x2 x3 x4 x5 x6 x7 s).att 0 := by
  simp (disch := decide) only [kernelRun0_B.sl.r_77, kernelRun0_B.sl.cst_128, (r_61B (x0 := x0) (x1 := x1) (x2 := x2) (x6 := x6) (x7 := x7) (s := s)), (r_62B (x0 := x0) (x1 := x1) (x2 := x2) (x6 := x6) (x7 := x7) (s := s)), View.readAt_eq_ld, Memref.IsWhole.read_unread, View.ld_unit_lit']
  rfl

theorem r_78B :
    kernelRun0_B.sl.r_78 (F := Ideal) c arg3 harg3 arg8 harg8 x2 x7
      = (in1 i x0 x1 x2 x3 x4 x5 x6 x7 s).datt1 0 := by
  simp (disch := decide) only [kernelRun0_B.sl.r_78, View.readAt_eq_ld, Memref.IsWhole.read_unread, View.ld_unit_lit']
  rfl

theorem r_79B :
    kernelRun0_B.sl.r_79 (F := Ideal) c i arg2 harg2 arg3 harg3 arg4 harg4 arg5 harg5 arg6 harg6 arg7 harg7 arg8 harg8 x1 x2 x3 x4 x5 x6 x7
      = (in1 i x0 x1 x2 x3 x4 x5 x6 x7 s).dqdH 0 := by
  simp (disch := decide) only [kernelRun0_B.sl.r_79, (r_71B (x0 := x0) (x2 := x2) (x6 := x6) (x7 := x7) (s := s)), (r_74B (i := i) (x0 := x0) (x1 := x1) (x2 := x2) (x3 := x3) (x4 := x4) (x5 := x5) (x6 := x6) (s := s)), (r_75B (i := i) (x0 := x0) (x1 := x1) (x2 := x2) (x3 := x3) (x4 := x4) (x5 := x5) (x7 := x7) (s := s)), (r_78B (i := i) (x0 := x0) (x1 := x1) (x3 := x3) (x4 := x4) (x5 := x5) (x6 := x6) (s := s)), View.readAt_eq_ld, Memref.IsWhole.read_unread, View.ld_unit_lit']
  rfl

theorem r_80B :
    kernelRun0_B.sl.r_80 (F := Ideal) c i arg1 harg1 arg3 harg3 arg4 harg4 arg5 harg5 arg6 harg6 arg8 harg8 x0 x2 x3 x4 x5 x7
      = (in1 i x0 x1 x2 x3 x4 x5 x6 x7 s).dkiH 0 := by
  simp (disch := decide) only [kernelRun0_B.sl.r_80, (r_70B (x1 := x1) (x2 := x2) (x6 := x6) (x7 := x7) (s := s)), (r_78B (i := i) (x0 := x0) (x1 := x1) (x3 := x3) (x4 := x4) (x5 := x5) (x6 := x6) (s := s)), View.readAt_eq_ld, Memref.IsWhole.read_unread, View.ld_unit_lit']
  rfl

theorem r_81B :
    kernelRun0_B.sl.r_81 (F := Ideal) c i arg1 harg1 arg3 harg3 arg4 harg4 arg5 harg5 arg6 harg6 arg8 harg8 arg14 harg14 x0 x2 x3 x4 x5 x7 s
      = (in1 i x0 x1 x2 x3 x4 x5 x6 x7 s).dkeH 0 := by
  simp (disch := decide) only [kernelRun0_B.sl.r_81, (r_73B (i := i) (x0 := x0) (x1 := x1) (x3 := x3) (x4 := x4) (x5 := x5) (x6 := x6) (x7 := x7) (s := s)), (r_76B (x1 := x1) (x2 := x2) (x6 := x6)), View.readAt_eq_ld, Memref.IsWhole.read_unread, View.ld_unit_lit']
  rfl

theorem r_82B :
    kernelRun0_B.sl.r_82 (F := Ideal) c i arg1 harg1 arg4 harg4 arg5 harg5 arg6 harg6 arg7 harg7 arg8 harg8 arg14 harg14 x0 x3 x4 x5 x6 x7 s
      = (in1 i x0 x1 x2 x3 x4 x5 x6 x7 s).ddecH 0 := by
  simp (disch := decide) only [kernelRun0_B.sl.r_82, (r_25B (x1 := x1) (x2 := x2) (x6 := x6)), (r_75B (i := i) (x0 := x0) (x1 := x1) (x2 := x2) (x3 := x3) (x4 := x4) (x5 := x5) (x7 := x7) (s := s)), View.readAt_eq_ld, Memref.IsWhole.read_unread, View.ld_unit_lit']
  rfl

theorem r_83B :
    kernelRun0_B.sl.r_83 (F := Ideal) c i arg1 harg1 arg4 harg4 arg5 harg5 arg6 harg6 arg8 harg8 arg14 harg14 x0 x3 x4 x5 x7 s
      = (in1 i x0 x1 x2 x3 x4 x5 x6 x7 s).ds' 0 := by
  simp (disch := decide) only [kernelRun0_B.sl.r_83, (r_25B (x1 := x1) (x2 := x2) (x6 := x6)), (r_66B (x0 := x0) (x1 := x1) (x2 := x2) (x6 := x6) (x7 := x7) (s := s)), (r_70B (x1 := x1) (x2 := x2) (x6 := x6) (x7 := x7) (s := s)), (r_74B (i := i) (x0 := x0) (x1 := x1) (x2 := x2) (x3 := x3) (x4 := x4) (x5 := x5) (x6 := x6) (s := s)), View.readAt_eq_ld, Memref.IsWhole.read_unread, View.ld_unit_lit']
  rfl

theorem r_84B :
    kernelRun0_B.sl.r_84 (F := Ideal) c arg3 harg3 x2
      = (in1 i x0 x1 x2 x3 x4 x5 x6 x7 s).v 1 := by
  simp (disch := decide) only [kernelRun0_B.sl.r_84, View.readAt_eq_ld, Memref.IsWhole.read_unread, View.ld_unit_lit']
  rfl

theorem r_85B :
    kernelRun0_B.sl.r_85 (F := Ideal) c arg8 harg8 x7
      = (in1 i x0 x1 x2 x3 x4 x5 x6 x7 s).g 1 := by
  simp (disch := decide) only [kernelRun0_B.sl.r_85, View.readAt_eq_ld, Memref.IsWhole.read_unread, View.ld_unit_lit']
  rfl

theorem r_86B :
    kernelRun0_B.sl.r_86 (F := Ideal) c arg7 harg7 x6
      = (in1 i x0 x1 x2 x3 x4 x5 x6 x7 s).st 1 := by
  simp (disch := decide) only [kernelRun0_B.sl.r_86, View.readAt_eq_ld, Memref.IsWhole.read_unread, View.ld_unit_lit']
  rfl

theorem r_87B :
    kernelRun0_B.sl.r_87 (F := Ideal) c i arg1 harg1 arg4 harg4 arg5 harg5 arg6 harg6 arg8 harg8 arg14 harg14 x0 x3 x4 x5 x7 s
      = (in1 i x0 x1 x2 x3 x4 x5 x6 x7 s).dsb 1 := by
  simp (disch := decide) only [kernelRun0_B.sl.r_87, (r_37B (x1 := x1) (x2 := x2) (x6 := x6)), View.readAt_eq_ld, Memref.IsWhole.read_unread, View.ld_unit_lit']
  rfl

theorem r_88B :
    kernelRun0_B.sl.r_88 (F := Ideal) c i arg1 harg1 arg2 harg2 arg4 harg4 arg5 harg5 arg6 harg6 x0 x1 x3 x4 x5
      = (in1 i x0 x1 x2 x3 x4 x5 x6 x7 s).att 1 := by
  simp (disch := decide) only [kernelRun0_B.sl.r_88, (r_70B (x1 := x1) (x2 := x2) (x6 := x6) (x7 := x7) (s := s)), (r_71B (x0 := x0) (x2 := x2) (x6 := x6) (x7 := x7) (s := s)), View.readAt_eq_ld, Memref.IsWhole.read_unread, View.ld_unit_lit']
  rfl

theorem r_89B :
    kernelRun0_B.sl.r_89 (F := Ideal) c i arg2 harg2 arg3 harg3 arg4 harg4 arg5 harg5 arg6 harg6 arg7 harg7 arg8 harg8 x1 x2 x3 x4 x5 x6 x7
      = (in1 i x0 x1 x2 x3 x4 x5 x6 x7 s).dqdH 1 := by
  simp (disch := decide) only [kernelRun0_B.sl.r_89, kernelRun0_B.sl.cst_166, (r_71B (x0 := x0) (x2 := x2) (x6 := x6) (x7 := x7) (s := s)), (r_84B (i := i) (x0 := x0) (x1 := x1) (x3 := x3) (x4 := x4) (x5 := x5) (x6 := x6) (x7 := x7) (s := s)), (r_85B (i := i) (x0 := x0) (x1 := x1) (x2 := x2) (x3 := x3) (x4 := x4) (x5 := x5) (x6 := x6) (s := s)), (r_86B (i := i) (x0 := x0) (x1 := x1) (x2 := x2) (x3 := x3) (x4 := x4) (x5 := x5) (x7 := x7) (s := s)), View.readAt_eq_ld, Memref.IsWhole.read_unread, View.ld_unit_lit']
  rfl

theorem r_90B :
    kernelRun0_B.sl.r_90 (F := Ideal) c i arg1 harg1 arg3 harg3 arg4 harg4 arg5 harg5 arg6 harg6 arg8 harg8 x0 x2 x3 x4 x5 x7
      = (in1 i x0 x1 x2 x3 x4 x5 x6 x7 s).dkiH 1 := by
  simp (disch := decide) only [kernelRun0_B.sl.r_90, kernelRun0_B.sl.cst_166, (r_70B (x1 := x1) (x2 := x2) (x6 := x6) (x7 := x7) (s := s)), (r_84B (i := i) (x0 := x0) (x1 := x1) (x3 := x3) (x4 := x4) (x5 := x5) (x6 := x6) (x7 := x7) (s := s)), (r_85B (i := i) (x0 := x0) (x1 := x1) (x2 := x2) (x3 := x3) (x4 := x4) (x5 := x5) (x6 := x6) (s := s)), View.readAt_eq_ld, Memref.IsWhole.read_unread, View.ld_unit_lit']
  rfl

theorem r_91B :
    kernelRun0_B.sl.r_91 (F := Ideal) c i arg1 harg1 arg3 harg3 arg4 harg4 arg5 harg5 arg6 harg6 arg8 harg8 arg14 harg14 x0 x2 x3 x4 x5 x7 s
      = (in1 i x0 x1 x2 x3 x4 x5 x6 x7 s).dkeH 1 := by
  simp (disch := decide) only [kernelRun0_B.sl.r_91, (r_84B (i := i) (x0 := x0) (x1 := x1) (x3 := x3) (x4 := x4) (x5 := x5) (x6 := x6) (x7 := x7) (s := s)), (r_87B (x1 := x1) (x2 := x2) (x6 := x6)), View.readAt_eq_ld, Memref.IsWhole.read_unread, View.ld_unit_lit']
  rfl

theorem r_92B :
    kernelRun0_B.sl.r_92 (F := Ideal) c i arg1 harg1 arg4 harg4 arg5 harg5 arg6 harg6 arg7 harg7 arg8 harg8 arg14 harg14 x0 x3 x4 x5 x6 x7 s
      = (in1 i x0 x1 x2 x3 x4 x5 x6 x7 s).ddecH 1 := by
  simp (disch := decide) only [kernelRun0_B.sl.r_92, (r_37B (x1 := x1) (x2 := x2) (x6 := x6)), (r_86B (i := i) (x0 := x0) (x1 := x1) (x2 := x2) (x3 := x3) (x4 := x4) (x5 := x5) (x7 := x7) (s := s)), View.readAt_eq_ld, Memref.IsWhole.read_unread, View.ld_unit_lit']
  rfl

theorem r_93B :
    kernelRun0_B.sl.r_93 (F := Ideal) c i arg1 harg1 arg4 harg4 arg5 harg5 arg6 harg6 arg8 harg8 arg14 harg14 x0 x3 x4 x5 x7 s
      = (in1 i x0 x1 x2 x3 x4 x5 x6 x7 s).ds' 1 := by
  simp (disch := decide) only [kernelRun0_B.sl.r_93, (r_37B (x1 := x1) (x2 := x2) (x6 := x6)), (r_66B (x0 := x0) (x1 := x1) (x2 := x2) (x6 := x6) (x7 := x7) (s := s)), (r_70B (x1 := x1) (x2 := x2) (x6 := x6) (x7 := x7) (s := s)), (r_85B (i := i) (x0 := x0) (x1 := x1) (x2 := x2) (x3 := x3) (x4 := x4) (x5 := x5) (x6 := x6) (s := s)), View.readAt_eq_ld, Memref.IsWhole.read_unread, View.ld_unit_lit']
  rfl

theorem r_94B :
    kernelRun0_B.sl.r_94 (F := Ideal) c arg3 harg3 x2
      = (in1 i x0 x1 x2 x3 x4 x5 x6 x7 s).v 2 := by
  simp (disch := decide) only [kernelRun0_B.sl.r_94, View.readAt_eq_ld, Memref.IsWhole.read_unread, View.ld_unit_lit']
  rfl

theorem r_95B :
    kernelRun0_B.sl.r_95 (F := Ideal) c arg8 harg8 x7
      = (in1 i x0 x1 x2 x3 x4 x5 x6 x7 s).g 2 := by
  simp (disch := decide) only [kernelRun0_B.sl.r_95, View.readAt_eq_ld, Memref.IsWhole.read_unread, View.ld_unit_lit']
  rfl

theorem r_96B :
    kernelRun0_B.sl.r_96 (F := Ideal) c arg7 harg7 x6
      = (in1 i x0 x1 x2 x3 x4 x5 x6 x7 s).st 2 := by
  simp (disch := decide) only [kernelRun0_B.sl.r_96, View.readAt_eq_ld, Memref.IsWhole.read_unread, View.ld_unit_lit']
  rfl

theorem r_97B :
    kernelRun0_B.sl.r_97 (F := Ideal) c i arg1 harg1 arg4 harg4 arg5 harg5 arg6 harg6 arg8 harg8 arg14 harg14 x0 x3 x4 x5 x7 s
      = (in1 i x0 x1 x2 x3 x4 x5 x6 x7 s).dsb 2 := by
  simp (disch := decide) only [kernelRun0_B.sl.r_97, (r_48B (x1 := x1) (x2 := x2) (x6 := x6)), View.readAt_eq_ld, Memref.IsWhole.read_unread, View.ld_unit_lit']
  rfl

theorem r_98B :
    kernelRun0_B.sl.r_98 (F := Ideal) c i arg1 harg1 arg2 harg2 arg4 harg4 arg5 harg5 arg6 harg6 x0 x1 x3 x4 x5
      = (in1 i x0 x1 x2 x3 x4 x5 x6 x7 s).att0 2 := by
  simp (disch := decide) only [kernelRun0_B.sl.r_98, (r_70B (x1 := x1) (x2 := x2) (x6 := x6) (x7 := x7) (s := s)), (r_71B (x0 := x0) (x2 := x2) (x6 := x6) (x7 := x7) (s := s)), View.readAt_eq_ld, Memref.IsWhole.read_unread, View.ld_unit_lit']
  rfl

theorem r_99B :
    kernelRun0_B.sl.r_99 (F := Ideal) c i arg2 harg2 arg3 harg3 arg4 harg4 arg5 harg5 arg6 harg6 arg7 harg7 arg8 harg8 x1 x2 x3 x4 x5 x6 x7
      = (in1 i x0 x1 x2 x3 x4 x5 x6 x7 s).dqdH 2 := by
  simp (disch := decide) only [kernelRun0_B.sl.r_99, (r_71B (x0 := x0) (x2 := x2) (x6 := x6) (x7 := x7) (s := s)), (r_94B (i := i) (x0 := x0) (x1 := x1) (x3 := x3) (x4 := x4) (x5 := x5) (x6 := x6) (x7 := x7) (s := s)), (r_95B (i := i) (x0 := x0) (x1 := x1) (x2 := x2) (x3 := x3) (x4 := x4) (x5 := x5) (x6 := x6) (s := s)), (r_96B (i := i) (x0 := x0) (x1 := x1) (x2 := x2) (x3 := x3) (x4 := x4) (x5 := x5) (x7 := x7) (s := s)), View.readAt_eq_ld, Memref.IsWhole.read_unread, View.ld_unit_lit']
  rfl

theorem r_100B :
    kernelRun0_B.sl.r_100 (F := Ideal) c i arg1 harg1 arg3 harg3 arg4 harg4 arg5 harg5 arg6 harg6 arg8 harg8 x0 x2 x3 x4 x5 x7
      = (in1 i x0 x1 x2 x3 x4 x5 x6 x7 s).dkiH 2 := by
  simp (disch := decide) only [kernelRun0_B.sl.r_100, (r_70B (x1 := x1) (x2 := x2) (x6 := x6) (x7 := x7) (s := s)), (r_94B (i := i) (x0 := x0) (x1 := x1) (x3 := x3) (x4 := x4) (x5 := x5) (x6 := x6) (x7 := x7) (s := s)), (r_95B (i := i) (x0 := x0) (x1 := x1) (x2 := x2) (x3 := x3) (x4 := x4) (x5 := x5) (x6 := x6) (s := s)), View.readAt_eq_ld, Memref.IsWhole.read_unread, View.ld_unit_lit']
  rfl

theorem r_101B :
    kernelRun0_B.sl.r_101 (F := Ideal) c i arg1 harg1 arg3 harg3 arg4 harg4 arg5 harg5 arg6 harg6 arg8 harg8 arg14 harg14 x0 x2 x3 x4 x5 x7 s
      = (in1 i x0 x1 x2 x3 x4 x5 x6 x7 s).dkeH 2 := by
  simp (disch := decide) only [kernelRun0_B.sl.r_101, (r_94B (i := i) (x0 := x0) (x1 := x1) (x3 := x3) (x4 := x4) (x5 := x5) (x6 := x6) (x7 := x7) (s := s)), (r_97B (x1 := x1) (x2 := x2) (x6 := x6)), View.readAt_eq_ld, Memref.IsWhole.read_unread, View.ld_unit_lit']
  rfl

theorem r_102B :
    kernelRun0_B.sl.r_102 (F := Ideal) c i arg1 harg1 arg4 harg4 arg5 harg5 arg6 harg6 arg7 harg7 arg8 harg8 arg14 harg14 x0 x3 x4 x5 x6 x7 s
      = (in1 i x0 x1 x2 x3 x4 x5 x6 x7 s).ddecH 2 := by
  simp (disch := decide) only [kernelRun0_B.sl.r_102, (r_48B (x1 := x1) (x2 := x2) (x6 := x6)), (r_96B (i := i) (x0 := x0) (x1 := x1) (x2 := x2) (x3 := x3) (x4 := x4) (x5 := x5) (x7 := x7) (s := s)), View.readAt_eq_ld, Memref.IsWhole.read_unread, View.ld_unit_lit']
  rfl

theorem r_103B :
    kernelRun0_B.sl.r_103 (F := Ideal) c i arg1 harg1 arg4 harg4 arg5 harg5 arg6 harg6 arg8 harg8 arg14 harg14 x0 x3 x4 x5 x7 s
      = (in1 i x0 x1 x2 x3 x4 x5 x6 x7 s).ds' 2 := by
  simp (disch := decide) only [kernelRun0_B.sl.r_103, (r_48B (x1 := x1) (x2 := x2) (x6 := x6)), (r_66B (x0 := x0) (x1 := x1) (x2 := x2) (x6 := x6) (x7 := x7) (s := s)), (r_70B (x1 := x1) (x2 := x2) (x6 := x6) (x7 := x7) (s := s)), (r_95B (i := i) (x0 := x0) (x1 := x1) (x2 := x2) (x3 := x3) (x4 := x4) (x5 := x5) (x6 := x6) (s := s)), View.readAt_eq_ld, Memref.IsWhole.read_unread, View.ld_unit_lit']
  rfl

theorem r_104B :
    kernelRun0_B.sl.r_104 (F := Ideal) c arg3 harg3 x2
      = (in1 i x0 x1 x2 x3 x4 x5 x6 x7 s).v 3 := by
  simp (disch := decide) only [kernelRun0_B.sl.r_104, View.readAt_eq_ld, Memref.IsWhole.read_unread, View.ld_unit_lit']
  rfl

theorem r_105B :
    kernelRun0_B.sl.r_105 (F := Ideal) c arg8 harg8 x7
      = (in1 i x0 x1 x2 x3 x4 x5 x6 x7 s).g 3 := by
  simp (disch := decide) only [kernelRun0_B.sl.r_105, View.readAt_eq_ld, Memref.IsWhole.read_unread, View.ld_unit_lit']
  rfl

theorem r_106B :
    kernelRun0_B.sl.r_106 (F := Ideal) c arg7 harg7 x6
      = (in1 i x0 x1 x2 x3 x4 x5 x6 x7 s).st 3 := by
  simp (disch := decide) only [kernelRun0_B.sl.r_106, View.readAt_eq_ld, Memref.IsWhole.read_unread, View.ld_unit_lit']
  rfl

theorem r_107B :
    kernelRun0_B.sl.r_107 (F := Ideal) c i arg1 harg1 arg4 harg4 arg5 harg5 arg6 harg6 arg8 harg8 arg14 harg14 x0 x3 x4 x5 x7 s
      = (in1 i x0 x1 x2 x3 x4 x5 x6 x7 s).dsb 3 := by
  simp (disch := decide) only [kernelRun0_B.sl.r_107, (r_55B (x1 := x1) (x2 := x2) (x6 := x6)), View.readAt_eq_ld, Memref.IsWhole.read_unread, View.ld_unit_lit']
  rfl

theorem r_108B :
    kernelRun0_B.sl.r_108 (F := Ideal) c i arg1 harg1 arg4 harg4 arg5 harg5 arg6 harg6 x0 x3 x4 x5
      = In.hs (in1 i x0 x1 x2 x3 x4 x5 x6 x7 s).qd 3 := by
  simp (disch := decide) only [kernelRun0_B.sl.r_108, (r_70B (x1 := x1) (x2 := x2) (x6 := x6) (x7 := x7) (s := s)), View.readAt_eq_ld, Memref.IsWhole.read_unread, View.ld_unit_lit']
  rfl

theorem r_109B :
    kernelRun0_B.sl.r_109 (F := Ideal) c i arg1 harg1 arg4 harg4 arg5 harg5 arg6 harg6 arg8 harg8 arg14 harg14 x0 x3 x4 x5 x7 s
      = (in1 i x0 x1 x2 x3 x4 x5 x6 x7 s).ds' 3 := by
  simp (disch := decide) only [kernelRun0_B.sl.r_109, (r_55B (x1 := x1) (x2 := x2) (x6 := x6)), (r_66B (x0 := x0) (x1 := x1) (x2 := x2) (x6 := x6) (x7 := x7) (s := s)), (r_70B (x1 := x1) (x2 := x2) (x6 := x6) (x7 := x7) (s := s)), (r_105B (i := i) (x0 := x0) (x1 := x1) (x2 := x2) (x3 := x3) (x4 := x4) (x5 := x5) (x6 := x6) (s := s)), View.readAt_eq_ld, Memref.IsWhole.read_unread, View.ld_unit_lit']
  rfl

theorem r_110B :
    kernelRun0_B.sl.r_110 (F := Ideal) c i arg2 harg2 arg3 harg3 arg4 harg4 arg5 harg5 arg6 harg6 arg7 harg7 arg8 harg8 x1 x2 x3 x4 x5 x6 x7
      = (in1 i x0 x1 x2 x3 x4 x5 x6 x7 s).dqd := by
  simp (disch := decide) only [kernelRun0_B.sl.r_110, (r_71B (x0 := x0) (x2 := x2) (x6 := x6) (x7 := x7) (s := s)), (r_79B (x0 := x0) (s := s)), (r_89B (x0 := x0) (s := s)), (r_99B (x0 := x0) (s := s)), (r_104B (i := i) (x0 := x0) (x1 := x1) (x3 := x3) (x4 := x4) (x5 := x5) (x6 := x6) (x7 := x7) (s := s)), (r_105B (i := i) (x0 := x0) (x1 := x1) (x2 := x2) (x3 := x3) (x4 := x4) (x5 := x5) (x6 := x6) (s := s)), (r_106B (i := i) (x0 := x0) (x1 := x1) (x2 := x2) (x3 := x3) (x4 := x4) (x5 := x5) (x7 := x7) (s := s)), View.readAt_eq_ld, Memref.IsWhole.read_unread, View.ld_unit_lit']
  rfl

theorem r_111B :
    kernelRun0_B.sl.r_111 (F := Ideal) c i arg1 harg1 arg3 harg3 arg4 harg4 arg5 harg5 arg6 harg6 arg8 harg8 x0 x2 x3 x4 x5 x7
      = (in1 i x0 x1 x2 x3 x4 x5 x6 x7 s).dki := by
  simp (disch := decide) only [kernelRun0_B.sl.r_111, (r_70B (x1 := x1) (x2 := x2) (x6 := x6) (x7 := x7) (s := s)), (r_80B (x1 := x1) (x6 := x6) (s := s)), (r_90B (x1 := x1) (x6 := x6) (s := s)), (r_100B (x1 := x1) (x6 := x6) (s := s)), (r_104B (i := i) (x0 := x0) (x1 := x1) (x3 := x3) (x4 := x4) (x5 := x5) (x6 := x6) (x7 := x7) (s := s)), (r_105B (i := i) (x0 := x0) (x1 := x1) (x2 := x2) (x3 := x3) (x4 := x4) (x5 := x5) (x6 := x6) (s := s)), View.readAt_eq_ld, Memref.IsWhole.read_unread, View.ld_unit_lit']
  rfl

theorem r_112B :
    kernelRun0_B.sl.r_112 (F := Ideal) c i arg1 harg1 arg3 harg3 arg4 harg4 arg5 harg5 arg6 harg6 arg8 harg8 arg14 harg14 x0 x2 x3 x4 x5 x7 s
      = (in1 i x0 x1 x2 x3 x4 x5 x6 x7 s).dke := by
  simp (disch := decide) only [kernelRun0_B.sl.r_112, (r_81B (x1 := x1) (x6 := x6)), (r_91B (x1 := x1) (x6 := x6)), (r_101B (x1 := x1) (x6 := x6)), (r_104B (i := i) (x0 := x0) (x1 := x1) (x3 := x3) (x4 := x4) (x5 := x5) (x6 := x6) (x7 := x7) (s := s)), (r_107B (x1 := x1) (x2 := x2) (x6 := x6)), View.readAt_eq_ld, Memref.IsWhole.read_unread, View.ld_unit_lit']
  rfl

theorem r_113B :
    kernelRun0_B.sl.r_113 (F := Ideal) c i arg1 harg1 arg4 harg4 arg5 harg5 arg6 harg6 arg7 harg7 arg8 harg8 arg14 harg14 x0 x3 x4 x5 x6 x7 s
      = (in1 i x0 x1 x2 x3 x4 x5 x6 x7 s).ddec := by
  simp (disch := decide) only [kernelRun0_B.sl.r_113, (r_55B (x1 := x1) (x2 := x2) (x6 := x6)), (r_82B (x1 := x1) (x2 := x2)), (r_92B (x1 := x1) (x2 := x2)), (r_102B (x1 := x1) (x2 := x2)), (r_106B (i := i) (x0 := x0) (x1 := x1) (x2 := x2) (x3 := x3) (x4 := x4) (x5 := x5) (x7 := x7) (s := s)), View.readAt_eq_ld, Memref.IsWhole.read_unread, View.ld_unit_lit']
  rfl

theorem r_114B :
    kernelRun0_B.sl.r_114 i
      = (in1 i x0 x1 x2 x3 x4 x5 x6 x7 s).real := by
  simp (disch := decide) only [kernelRun0_B.sl.r_114, kernelRun0_B.sl.v0, View.readAt_eq_ld, Memref.IsWhole.read_unread, View.ld_unit_lit']
  rfl

theorem r_115B :
    kernelRun0_B.sl.r_115 (F := Ideal) c i arg1 harg1 arg2 harg2 arg3 harg3 arg4 harg4 arg5 harg5 arg6 harg6 arg7 harg7 arg8 harg8 arg14 harg14 x0 x1 x2 x3 x4 x5 x6 x7 s
      = (in1 i x0 x1 x2 x3 x4 x5 x6 x7 s).dgs := by
  simp (disch := decide) only [kernelRun0_B.sl.r_115, kernelRun0_B.sl.v35, kernelRun0_B.sl.v36, (r_66B (x0 := x0) (x1 := x1) (x2 := x2) (x6 := x6) (x7 := x7) (s := s)), (r_67B (x1 := x1) (x2 := x2) (x6 := x6) (x7 := x7) (s := s)), (r_68B (x0 := x0) (x2 := x2) (x6 := x6) (x7 := x7) (s := s)), (r_69B (x0 := x0) (x2 := x2) (x6 := x6) (x7 := x7) (s := s)), (r_110B (x0 := x0) (s := s)), (r_111B (x1 := x1) (x6 := x6) (s := s)), (r_112B (x1 := x1) (x6 := x6)), (r_113B (x1 := x1) (x2 := x2)), View.readAt_eq_ld, Memref.IsWhole.read_unread, View.ld_unit_lit']
  rfl

theorem r_116B :
    kernelRun0_B.sl.r_116 (F := Ideal) c arg4 harg4 arg5 harg5 arg6 harg6 x3 x4 x5
      = (in1 i x0 x1 x2 x3 x4 x5 x6 x7 s).sigd := by
  simp (disch := decide) only [kernelRun0_B.sl.r_116, rB, View.readAt_eq_ld, Memref.IsWhole.read_unread, View.ld_unit_lit']
  rfl

theorem r_117B :
    kernelRun0_B.sl.r_117 (F := Ideal) c i arg1 harg1 arg2 harg2 arg3 harg3 arg4 harg4 arg5 harg5 arg6 harg6 arg7 harg7 arg8 harg8 arg14 harg14 x0 x1 x2 x3 x4 x5 x6 x7 s
      = (in1 i x0 x1 x2 x3 x4 x5 x6 x7 s).dz := by
  simp (disch := decide) only [kernelRun0_B.sl.r_117, kernelRun0_B.sl.cst_237, (r_114B (x0 := x0) (x1 := x1) (x2 := x2) (x3 := x3) (x4 := x4) (x5 := x5) (x6 := x6) (x7 := x7) (s := s)), r_115B, (r_116B (i := i) (x0 := x0) (x1 := x1) (x2 := x2) (x6 := x6) (x7 := x7) (s := s)), View.readAt_eq_ld, Memref.IsWhole.read_unread, View.ld_unit_lit']
  rfl

theorem r_118B :
    kernelRun0_B.sl.r_118 (F := Ideal) c i arg4 harg4 arg5 harg5 arg6 harg6 x3 x4 x5
      = (in0 i x0 x1 x2 x3 x4 x5 x6 x7 s).eb := by
  simp (disch := decide) only [kernelRun0_B.sl.r_118, r_1B, View.readAt_eq_ld, Memref.IsWhole.read_unread, View.ld_unit_lit']
  rfl

theorem r_119B :
    kernelRun0_B.sl.r_119 (F := Ideal) c i arg4 harg4 arg5 harg5 arg6 harg6 x3 x4 x5
      = (in0 i x0 x1 x2 x3 x4 x5 x6 x7 s).enb := by
  simp (disch := decide) only [kernelRun0_B.sl.r_119, r_1B, View.readAt_eq_ld, Memref.IsWhole.read_unread, View.ld_unit_lit']
  rfl

theorem r_120B :
    kernelRun0_B.sl.r_120 (F := Ideal) c i arg4 harg4 arg5 harg5 arg6 harg6 x3 x4 x5
      = (in0 i x0 x1 x2 x3 x4 x5 x6 x7 s).ebl := by
  simp (disch := decide) only [kernelRun0_B.sl.r_120, r_1B, View.readAt_eq_ld, Memref.IsWhole.read_unread, View.ld_unit_lit']
  rfl

theorem r_121B :
    kernelRun0_B.sl.r_121 (F := Ideal) c i arg4 harg4 arg5 harg5 arg6 harg6 x3 x4 x5
      = (in0 i x0 x1 x2 x3 x4 x5 x6 x7 s).dec := by
  simp (disch := decide) only [kernelRun0_B.sl.r_121, r_1B, View.readAt_eq_ld, Memref.IsWhole.read_unread, View.ld_unit_lit']
  rfl

theorem r_122B :
    kernelRun0_B.sl.r_122 (F := Ideal) c i arg1 harg1 arg4 harg4 arg5 harg5 arg6 harg6 x0 x3 x4 x5
      = (in0 i x0 x1 x2 x3 x4 x5 x6 x7 s).qd32 := by
  simp (disch := decide) only [kernelRun0_B.sl.r_122, r_1B, View.readAt_eq_ld, Memref.IsWhole.read_unread, View.ld_unit_lit']
  rfl

theorem r_123B :
    kernelRun0_B.sl.r_123 (F := Ideal) c i arg2 harg2 arg4 harg4 arg5 harg5 arg6 harg6 x1 x3 x4 x5
      = (in0 i x0 x1 x2 x3 x4 x5 x6 x7 s).ki32 := by
  simp (disch := decide) only [kernelRun0_B.sl.r_123, r_1B, View.readAt_eq_ld, Memref.IsWhole.read_unread, View.ld_unit_lit']
  rfl

theorem r_124B :
    kernelRun0_B.sl.r_124 (F := Ideal) c i arg2 harg2 arg4 harg4 arg5 harg5 arg6 harg6 x1 x3 x4 x5
      = (in0 i x0 x1 x2 x3 x4 x5 x6 x7 s).ke32 := by
  simp (disch := decide) only [kernelRun0_B.sl.r_124, r_1B, View.readAt_eq_ld, Memref.IsWhole.read_unread, View.ld_unit_lit']
  rfl

theorem r_125B :
    kernelRun0_B.sl.r_125 (F := Ideal) c i arg1 harg1 arg4 harg4 arg5 harg5 arg6 harg6 x0 x3 x4 x5
      = (in0 i x0 x1 x2 x3 x4 x5 x6 x7 s).qd := by
  simp (disch := decide) only [kernelRun0_B.sl.r_125, r_1B, View.readAt_eq_ld, Memref.IsWhole.read_unread, View.ld_unit_lit']
  rfl

theorem r_126B :
    kernelRun0_B.sl.r_126 (F := Ideal) c i arg2 harg2 arg4 harg4 arg5 harg5 arg6 harg6 x1 x3 x4 x5
      = (in0 i x0 x1 x2 x3 x4 x5 x6 x7 s).ki := by
  simp (disch := decide) only [kernelRun0_B.sl.r_126, r_1B, View.readAt_eq_ld, Memref.IsWhole.read_unread, View.ld_unit_lit']
  rfl

theorem r_127B :
    kernelRun0_B.sl.r_127 (F := Ideal) c i arg2 harg2 arg4 harg4 arg5 harg5 arg6 harg6 x1 x3 x4 x5
      = (in0 i x0 x1 x2 x3 x4 x5 x6 x7 s).ke := by
  simp (disch := decide) only [kernelRun0_B.sl.r_127, r_1B, View.readAt_eq_ld, Memref.IsWhole.read_unread, View.ld_unit_lit']
  rfl

theorem r_128B :
    kernelRun0_B.sl.r_128 (F := Ideal) c arg3 harg3 x2
      = (in0 i x0 x1 x2 x3 x4 x5 x6 x7 s).v 0 := by
  simp (disch := decide) only [kernelRun0_B.sl.r_128, View.readAt_eq_ld, Memref.IsWhole.read_unread, View.ld_unit_lit']
  rfl

theorem r_129B :
    kernelRun0_B.sl.r_129 (F := Ideal) c arg8 harg8 x7
      = (in0 i x0 x1 x2 x3 x4 x5 x6 x7 s).g0 0 := by
  simp (disch := decide) only [kernelRun0_B.sl.r_129, View.readAt_eq_ld, Memref.IsWhole.read_unread, View.ld_unit_lit']
  rfl

theorem r_130B :
    kernelRun0_B.sl.r_130 (F := Ideal) c i arg2 harg2 arg3 harg3 arg4 harg4 arg5 harg5 arg6 harg6 arg7 harg7 arg8 harg8 x1 x2 x3 x4 x5 x6 x7
      = (in0 i x0 x1 x2 x3 x4 x5 x6 x7 s).dqdH 0 := by
  simp (disch := decide) only [kernelRun0_B.sl.r_130, (r_126B (x0 := x0) (x2 := x2) (x6 := x6) (x7 := x7) (s := s)), (r_128B (i := i) (x0 := x0) (x1 := x1) (x3 := x3) (x4 := x4) (x5 := x5) (x6 := x6) (x7 := x7) (s := s)), (r_129B (i := i) (x0 := x0) (x1 := x1) (x2 := x2) (x3 := x3) (x4 := x4) (x5 := x5) (x6 := x6) (s := s)), View.readAt_eq_ld, Memref.IsWhole.read_unread, View.ld_unit_lit']
  rfl

theorem r_131B :
    kernelRun0_B.sl.r_131 (F := Ideal) c i arg1 harg1 arg3 harg3 arg4 harg4 arg5 harg5 arg6 harg6 arg8 harg8 x0 x2 x3 x4 x5 x7
      = (in0 i x0 x1 x2 x3 x4 x5 x6 x7 s).dkiH 0 := by
  simp (disch := decide) only [kernelRun0_B.sl.r_131, (r_125B (x1 := x1) (x2 := x2) (x6 := x6) (x7 := x7) (s := s)), (r_128B (i := i) (x0 := x0) (x1 := x1) (x3 := x3) (x4 := x4) (x5 := x5) (x6 := x6) (x7 := x7) (s := s)), (r_129B (i := i) (x0 := x0) (x1 := x1) (x2 := x2) (x3 := x3) (x4 := x4) (x5 := x5) (x6 := x6) (s := s)), View.readAt_eq_ld, Memref.IsWhole.read_unread, View.ld_unit_lit']
  rfl

theorem r_132B :
    kernelRun0_B.sl.r_132 (F := Ideal) c i arg1 harg1 arg3 harg3 arg4 harg4 arg5 harg5 arg6 harg6 arg8 harg8 arg14 harg14 x0 x2 x3 x4 x5 x7 s
      = (in0 i x0 x1 x2 x3 x4 x5 x6 x7 s).dkeH 0 := by
  simp (disch := decide) only [kernelRun0_B.sl.r_132, (r_83B (x1 := x1) (x2 := x2) (x6 := x6)), (r_128B (i := i) (x0 := x0) (x1 := x1) (x3 := x3) (x4 := x4) (x5 := x5) (x6 := x6) (x7 := x7) (s := s)), View.readAt_eq_ld, Memref.IsWhole.read_unread, View.ld_unit_lit']
  rfl

theorem r_133B :
    kernelRun0_B.sl.r_133 (F := Ideal) c i arg1 harg1 arg4 harg4 arg5 harg5 arg6 harg6 arg7 harg7 arg8 harg8 arg14 harg14 x0 x3 x4 x5 x6 x7 s
      = (in0 i x0 x1 x2 x3 x4 x5 x6 x7 s).ddecH 0 := by
  simp (disch := decide) only [kernelRun0_B.sl.r_133, (r_83B (x1 := x1) (x2 := x2) (x6 := x6)), View.readAt_eq_ld, Memref.IsWhole.read_unread, View.ld_unit_lit']
  rfl

theorem r_134B :
    kernelRun0_B.sl.r_134 (F := Ideal) c i arg1 harg1 arg4 harg4 arg5 harg5 arg6 harg6 arg8 harg8 arg14 harg14 x0 x3 x4 x5 x7 s
      = (in0 i x0 x1 x2 x3 x4 x5 x6 x7 s).ds' 0 := by
  simp (disch := decide) only [kernelRun0_B.sl.r_134, (r_83B (x1 := x1) (x2 := x2) (x6 := x6)), (r_121B (x0 := x0) (x1 := x1) (x2 := x2) (x6 := x6) (x7 := x7) (s := s)), (r_125B (x1 := x1) (x2 := x2) (x6 := x6) (x7 := x7) (s := s)), (r_129B (i := i) (x0 := x0) (x1 := x1) (x2 := x2) (x3 := x3) (x4 := x4) (x5 := x5) (x6 := x6) (s := s)), View.readAt_eq_ld, Memref.IsWhole.read_unread, View.ld_unit_lit']
  rfl

theorem r_135B :
    kernelRun0_B.sl.r_135 (F := Ideal) c arg3 harg3 x2
      = (in0 i x0 x1 x2 x3 x4 x5 x6 x7 s).v0 1 := by
  simp (disch := decide) only [kernelRun0_B.sl.r_135, View.readAt_eq_ld, Memref.IsWhole.read_unread, View.ld_unit_lit']
  rfl

theorem r_136B :
    kernelRun0_B.sl.r_136 (F := Ideal) c i arg2 harg2 arg3 harg3 arg4 harg4 arg5 harg5 arg6 harg6 arg7 harg7 arg8 harg8 x1 x2 x3 x4 x5 x6 x7
      = (in0 i x0 x1 x2 x3 x4 x5 x6 x7 s).dqdH 1 := by
  simp (disch := decide) only [kernelRun0_B.sl.r_136, (r_126B (x0 := x0) (x2 := x2) (x6 := x6) (x7 := x7) (s := s)), (r_135B (i := i) (x0 := x0) (x1 := x1) (x3 := x3) (x4 := x4) (x5 := x5) (x6 := x6) (x7 := x7) (s := s)), View.readAt_eq_ld, Memref.IsWhole.read_unread, View.ld_unit_lit']
  rfl

theorem r_137B :
    kernelRun0_B.sl.r_137 (F := Ideal) c i arg1 harg1 arg3 harg3 arg4 harg4 arg5 harg5 arg6 harg6 arg8 harg8 x0 x2 x3 x4 x5 x7
      = (in0 i x0 x1 x2 x3 x4 x5 x6 x7 s).dkiH 1 := by
  simp (disch := decide) only [kernelRun0_B.sl.r_137, (r_125B (x1 := x1) (x2 := x2) (x6 := x6) (x7 := x7) (s := s)), (r_135B (i := i) (x0 := x0) (x1 := x1) (x3 := x3) (x4 := x4) (x5 := x5) (x6 := x6) (x7 := x7) (s := s)), View.readAt_eq_ld, Memref.IsWhole.read_unread, View.ld_unit_lit']
  rfl

theorem r_138B :
    kernelRun0_B.sl.r_138 (F := Ideal) c i arg1 harg1 arg3 harg3 arg4 harg4 arg5 harg5 arg6 harg6 arg8 harg8 arg14 harg14 x0 x2 x3 x4 x5 x7 s
      = (in0 i x0 x1 x2 x3 x4 x5 x6 x7 s).dkeH 1 := by
  simp (disch := decide) only [kernelRun0_B.sl.r_138, (r_93B (x1 := x1) (x2 := x2) (x6 := x6)), (r_135B (i := i) (x0 := x0) (x1 := x1) (x3 := x3) (x4 := x4) (x5 := x5) (x6 := x6) (x7 := x7) (s := s)), View.readAt_eq_ld, Memref.IsWhole.read_unread, View.ld_unit_lit']
  rfl

theorem r_139B :
    kernelRun0_B.sl.r_139 (F := Ideal) c i arg1 harg1 arg4 harg4 arg5 harg5 arg6 harg6 arg7 harg7 arg8 harg8 arg14 harg14 x0 x3 x4 x5 x6 x7 s
      = (in0 i x0 x1 x2 x3 x4 x5 x6 x7 s).ddecH 1 := by
  simp (disch := decide) only [kernelRun0_B.sl.r_139, (r_93B (x1 := x1) (x2 := x2) (x6 := x6)), View.readAt_eq_ld, Memref.IsWhole.read_unread, View.ld_unit_lit']
  rfl

theorem r_140B :
    kernelRun0_B.sl.r_140 (F := Ideal) c i arg1 harg1 arg4 harg4 arg5 harg5 arg6 harg6 arg8 harg8 x0 x3 x4 x5 x7
      = (in0 i x0 x1 x2 x3 x4 x5 x6 x7 s).dsA 1 := by
  simp (disch := decide) only [kernelRun0_B.sl.r_140, (r_125B (x1 := x1) (x2 := x2) (x6 := x6) (x7 := x7) (s := s)), View.readAt_eq_ld, Memref.IsWhole.read_unread, View.ld_unit_lit']
  rfl

theorem r_141B :
    kernelRun0_B.sl.r_141 (F := Ideal) c i arg1 harg1 arg4 harg4 arg5 harg5 arg6 harg6 arg8 harg8 arg14 harg14 x0 x3 x4 x5 x7 s
      = (in0 i x0 x1 x2 x3 x4 x5 x6 x7 s).dsB 1 := by
  simp (disch := decide) only [kernelRun0_B.sl.r_141, (r_93B (x1 := x1) (x2 := x2) (x6 := x6)), (r_121B (x0 := x0) (x1 := x1) (x2 := x2) (x6 := x6) (x7 := x7) (s := s)), View.readAt_eq_ld, Memref.IsWhole.read_unread, View.ld_unit_lit']
  rfl

theorem r_142B :
    kernelRun0_B.sl.r_142 (F := Ideal) c i arg1 harg1 arg4 harg4 arg5 harg5 arg6 harg6 arg8 harg8 arg14 harg14 x0 x3 x4 x5 x7 s
      = (in0 i x0 x1 x2 x3 x4 x5 x6 x7 s).ds' 1 := by
  simp (disch := decide) only [kernelRun0_B.sl.r_142, (r_140B (x1 := x1) (x2 := x2) (x6 := x6) (s := s)), (r_141B (x1 := x1) (x2 := x2) (x6 := x6)), View.readAt_eq_ld, Memref.IsWhole.read_unread, View.ld_unit_lit']
  rfl

theorem r_143B :
    kernelRun0_B.sl.r_143 (F := Ideal) c arg8 harg8 x7
      = (in0 i x0 x1 x2 x3 x4 x5 x6 x7 s).g 2 := by
  simp (disch := decide) only [kernelRun0_B.sl.r_143, View.readAt_eq_ld, Memref.IsWhole.read_unread, View.ld_unit_lit']
  rfl

theorem r_144B :
    kernelRun0_B.sl.r_144 (F := Ideal) c i arg2 harg2 arg3 harg3 arg4 harg4 arg5 harg5 arg6 harg6 arg7 harg7 arg8 harg8 x1 x2 x3 x4 x5 x6 x7
      = (in0 i x0 x1 x2 x3 x4 x5 x6 x7 s).dqdH 2 := by
  simp (disch := decide) only [kernelRun0_B.sl.r_144, (r_126B (x0 := x0) (x2 := x2) (x6 := x6) (x7 := x7) (s := s)), View.readAt_eq_ld, Memref.IsWhole.read_unread, View.ld_unit_lit']
  rfl

theorem r_145B :
    kernelRun0_B.sl.r_145 (F := Ideal) c i arg1 harg1 arg3 harg3 arg4 harg4 arg5 harg5 arg6 harg6 arg8 harg8 x0 x2 x3 x4 x5 x7
      = (in0 i x0 x1 x2 x3 x4 x5 x6 x7 s).dkiH 2 := by
  simp (disch := decide) only [kernelRun0_B.sl.r_145, (r_125B (x1 := x1) (x2 := x2) (x6 := x6) (x7 := x7) (s := s)), View.readAt_eq_ld, Memref.IsWhole.read_unread, View.ld_unit_lit']
  rfl

theorem r_146B :
    kernelRun0_B.sl.r_146 (F := Ideal) c i arg1 harg1 arg3 harg3 arg4 harg4 arg5 harg5 arg6 harg6 arg8 harg8 arg14 harg14 x0 x2 x3 x4 x5 x7 s
      = (in0 i x0 x1 x2 x3 x4 x5 x6 x7 s).dkeH 2 := by
  simp (disch := decide) only [kernelRun0_B.sl.r_146, (r_103B (x1 := x1) (x2 := x2) (x6 := x6)), View.readAt_eq_ld, Memref.IsWhole.read_unread, View.ld_unit_lit']
  rfl

theorem r_147B :
    kernelRun0_B.sl.r_147 (F := Ideal) c i arg1 harg1 arg4 harg4 arg5 harg5 arg6 harg6 arg7 harg7 arg8 harg8 arg14 harg14 x0 x3 x4 x5 x6 x7 s
      = (in0 i x0 x1 x2 x3 x4 x5 x6 x7 s).ddecH 2 := by
  simp (disch := decide) only [kernelRun0_B.sl.r_147, (r_103B (x1 := x1) (x2 := x2) (x6 := x6)), View.readAt_eq_ld, Memref.IsWhole.read_unread, View.ld_unit_lit']
  rfl

theorem r_148B :
    kernelRun0_B.sl.r_148 (F := Ideal) c i arg1 harg1 arg4 harg4 arg5 harg5 arg6 harg6 x0 x3 x4 x5
      = In.hs (in0 i x0 x1 x2 x3 x4 x5 x6 x7 s).qd 2 := by
  simp (disch := decide) only [kernelRun0_B.sl.r_148, (r_125B (x1 := x1) (x2 := x2) (x6 := x6) (x7 := x7) (s := s)), View.readAt_eq_ld, Memref.IsWhole.read_unread, View.ld_unit_lit']
  rfl

theorem r_149B :
    kernelRun0_B.sl.r_149 (F := Ideal) c i arg1 harg1 arg4 harg4 arg5 harg5 arg6 harg6 arg8 harg8 arg14 harg14 x0 x3 x4 x5 x7 s
      = (in0 i x0 x1 x2 x3 x4 x5 x6 x7 s).ds' 2 := by
  simp (disch := decide) only [kernelRun0_B.sl.r_149, kernelRun0_B.sl.cst_313, (r_103B (x1 := x1) (x2 := x2) (x6 := x6)), (r_121B (x0 := x0) (x1 := x1) (x2 := x2) (x6 := x6) (x7 := x7) (s := s)), (r_143B (i := i) (x0 := x0) (x1 := x1) (x2 := x2) (x3 := x3) (x4 := x4) (x5 := x5) (x6 := x6) (s := s)), (r_148B (x1 := x1) (x2 := x2) (x6 := x6) (x7 := x7) (s := s)), View.readAt_eq_ld, Memref.IsWhole.read_unread, View.ld_unit_lit']
  rfl

theorem r_150B :
    kernelRun0_B.sl.r_150 (F := Ideal) c arg8 harg8 x7
      = (in0 i x0 x1 x2 x3 x4 x5 x6 x7 s).g 3 := by
  simp (disch := decide) only [kernelRun0_B.sl.r_150, View.readAt_eq_ld, Memref.IsWhole.read_unread, View.ld_unit_lit']
  rfl

theorem r_151B :
    kernelRun0_B.sl.r_151 (F := Ideal) c i arg2 harg2 arg3 harg3 arg4 harg4 arg5 harg5 arg6 harg6 arg7 harg7 arg8 harg8 x1 x2 x3 x4 x5 x6 x7
      = (in0 i x0 x1 x2 x3 x4 x5 x6 x7 s).dqdH 3 := by
  simp (disch := decide) only [kernelRun0_B.sl.r_151, (r_126B (x0 := x0) (x2 := x2) (x6 := x6) (x7 := x7) (s := s)), View.readAt_eq_ld, Memref.IsWhole.read_unread, View.ld_unit_lit']
  rfl

theorem r_152B :
    kernelRun0_B.sl.r_152 (F := Ideal) c i arg1 harg1 arg3 harg3 arg4 harg4 arg5 harg5 arg6 harg6 arg8 harg8 x0 x2 x3 x4 x5 x7
      = (in0 i x0 x1 x2 x3 x4 x5 x6 x7 s).dkiH 3 := by
  simp (disch := decide) only [kernelRun0_B.sl.r_152, (r_125B (x1 := x1) (x2 := x2) (x6 := x6) (x7 := x7) (s := s)), View.readAt_eq_ld, Memref.IsWhole.read_unread, View.ld_unit_lit']
  rfl

theorem r_153B :
    kernelRun0_B.sl.r_153 (F := Ideal) c i arg1 harg1 arg3 harg3 arg4 harg4 arg5 harg5 arg6 harg6 arg8 harg8 arg14 harg14 x0 x2 x3 x4 x5 x7 s
      = (in0 i x0 x1 x2 x3 x4 x5 x6 x7 s).dkeH 3 := by
  simp (disch := decide) only [kernelRun0_B.sl.r_153, (r_109B (x1 := x1) (x2 := x2) (x6 := x6)), View.readAt_eq_ld, Memref.IsWhole.read_unread, View.ld_unit_lit']
  rfl

theorem r_154B :
    kernelRun0_B.sl.r_154 (F := Ideal) c i arg1 harg1 arg4 harg4 arg5 harg5 arg6 harg6 arg7 harg7 arg8 harg8 arg14 harg14 x0 x3 x4 x5 x6 x7 s
      = mulf ((in0 i x0 x1 x2 x3 x4 x5 x6 x7 s).st 3) ((in0 i x0 x1 x2 x3 x4 x5 x6 x7 s).ds 3) := by
  simp (disch := decide) only [kernelRun0_B.sl.r_154, (r_109B (x1 := x1) (x2 := x2) (x6 := x6)), View.readAt_eq_ld, Memref.IsWhole.read_unread, View.ld_unit_lit']
  rfl

theorem r_155B :
    kernelRun0_B.sl.r_155 (F := Ideal) c i arg1 harg1 arg4 harg4 arg5 harg5 arg6 harg6 arg8 harg8 arg14 harg14 x0 x3 x4 x5 x7 s
      = (in0 i x0 x1 x2 x3 x4 x5 x6 x7 s).ds' 3 := by
  simp (disch := decide) only [kernelRun0_B.sl.r_155, (r_109B (x1 := x1) (x2 := x2) (x6 := x6)), (r_121B (x0 := x0) (x1 := x1) (x2 := x2) (x6 := x6) (x7 := x7) (s := s)), (r_125B (x1 := x1) (x2 := x2) (x6 := x6) (x7 := x7) (s := s)), (r_150B (i := i) (x0 := x0) (x1 := x1) (x2 := x2) (x3 := x3) (x4 := x4) (x5 := x5) (x6 := x6) (s := s)), View.readAt_eq_ld, Memref.IsWhole.read_unread, View.ld_unit_lit']
  rfl

theorem r_156B :
    kernelRun0_B.sl.r_156 (F := Ideal) c i arg1 harg1 arg2 harg2 arg3 harg3 arg4 harg4 arg5 harg5 arg6 harg6 arg7 harg7 arg8 harg8 arg14 harg14 x0 x1 x2 x3 x4 x5 x6 x7 s
      = (in0 i x0 x1 x2 x3 x4 x5 x6 x7 s).dg := by
  simp (disch := decide) only [kernelRun0_B.sl.r_156, kernelRun0_B.sl.v35, kernelRun0_B.sl.v36, (r_121B (x0 := x0) (x1 := x1) (x2 := x2) (x6 := x6) (x7 := x7) (s := s)), (r_122B (x1 := x1) (x2 := x2) (x6 := x6) (x7 := x7) (s := s)), (r_123B (x0 := x0) (x2 := x2) (x6 := x6) (x7 := x7) (s := s)), (r_124B (x0 := x0) (x2 := x2) (x6 := x6) (x7 := x7) (s := s)), (r_130B (x0 := x0) (s := s)), (r_131B (x1 := x1) (x6 := x6) (s := s)), (r_132B (x1 := x1) (x6 := x6)), (r_133B (x1 := x1) (x2 := x2)), (r_136B (x0 := x0) (s := s)), (r_137B (x1 := x1) (x6 := x6) (s := s)), (r_138B (x1 := x1) (x6 := x6)), (r_139B (x1 := x1) (x2 := x2)), (r_144B (x0 := x0) (s := s)), (r_145B (x1 := x1) (x6 := x6) (s := s)), (r_146B (x1 := x1) (x6 := x6)), (r_147B (x1 := x1) (x2 := x2)), (r_151B (x0 := x0) (s := s)), (r_152B (x1 := x1) (x6 := x6) (s := s)), (r_153B (x1 := x1) (x6 := x6)), (r_154B (x1 := x1) (x2 := x2)), View.readAt_eq_ld, Memref.IsWhole.read_unread, View.ld_unit_lit']
  rfl

theorem r_157B :
    kernelRun0_B.sl.r_157 (F := Ideal) c i arg1 harg1 arg2 harg2 arg3 harg3 arg4 harg4 arg5 harg5 arg6 harg6 arg7 harg7 arg8 harg8 arg14 harg14 x0 x1 x2 x3 x4 x5 x6 x7 s
      = dzs i x0 x1 x2 x3 x4 x5 x6 x7 s := by
  simp (disch := decide) only [kernelRun0_B.sl.r_157, kernelRun0_B.sl.v812, rB, r_60B, r_117B, r_156B, View.readAt_eq_ld, Memref.IsWhole.read_unread, View.ld_unit_lit']
  rfl

theorem r_158B :
    kernelRun0_B.sl.r_158 (F := Ideal) c i arg1 harg1 arg2 harg2 arg3 harg3 arg4 harg4 arg5 harg5 arg6 harg6 arg7 harg7 arg8 harg8 arg14 harg14 x0 x1 x2 x3 x4 x5 x6 x7 s
      = dzb i x0 x1 x2 x3 x4 x5 x6 x7 s := by
  simp (disch := decide) only [kernelRun0_B.sl.r_158, kernelRun0_B.sl.v812, rB, r_60B, r_117B, r_156B, View.readAt_eq_ld, Memref.IsWhole.read_unread, View.ld_unit_lit']
  rfl

end Cert.Gla
-- ==== Proof.OutB.lean ====
module

public import proofs.«01_k».proof.Proof.BridgeB
public import proofs.«01_k».proof.Proof.Pieces

@[expose] public section

/-! The values that the body computes at a later point, by the names of `Vocab`. -/

noncomputable section

namespace Cert.Gla

open Idealize.ShloMosaic Cert.KernelIdeal Cert.KernelIdeal.Gen

set_option maxRecDepth 16384

variable {c : Dev nD} {i : grid0.Coords} {arg1 : Memref sig .tc .vmem S192x512 .bf16} {harg1 : arg1.IsWhole} {arg2 : Memref sig .tc .vmem S192x512 .bf16} {harg2 : arg2.IsWhole} {arg3 : Memref sig .tc .vmem S192x1024 .bf16} {harg3 : arg3.IsWhole} {arg4 : Memref sig .tc .vmem S192x128 .bf16} {harg4 : arg4.IsWhole} {arg5 : Memref sig .tc .vmem S128x512 .bf16} {harg5 : arg5.IsWhole} {arg6 : Memref sig .tc .vmem S1x512 .f32} {harg6 : arg6.IsWhole} {arg7 : Memref sig .tc .vmem S3x4x256x128 .f32} {harg7 : arg7.IsWhole} {arg8 : Memref sig .tc .vmem S192x1024 .f32} {harg8 : arg8.IsWhole} {arg10 : Memref sig .tc .vmem S192x2048 .bf16} {harg10 : arg10.IsWhole} {arg11 : Memref sig .tc .vmem S192x128 .bf16} {harg11 : arg11.IsWhole} {arg12 : Memref sig .tc .vmem S128x512 .f32} {harg12 : arg12.IsWhole} {arg13 : Memref sig .tc .vmem S1x512 .f32} {harg13 : arg13.IsWhole} {arg14 : Memref sig .tc .vmem S4x256x128 .f32} {harg14 : arg14.IsWhole}
variable {x0 x1 : Vec Ideal S192x512 .bf16} {x2 : Vec Ideal S192x1024 .bf16} {x3 : Vec Ideal S192x128 .bf16}
  {x4 : Vec Ideal S128x512 .bf16} {x5 : Vec Ideal S1x512 .f32} {x6 : Vec Ideal S3x4x256x128 .f32} {x7 : Vec Ideal S192x1024 .f32}
  {s : Vec Ideal S4x256x128 .f32}

variable {hc0 : ¬cond0_0 i} {xo10 : Vec Ideal S128x512 .f32} {xo11 : Vec Ideal S1x512 .f32}

set_option maxHeartbeats 600000 in
theorem out0_B_8_eq :
    out0_B_8 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s
      = View.canon (P8 i x0 x1 x2 x3 x4 x5 x6 x7 s) := by
  have e : out0_B_8 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s = View.canon (Val := Elt Ideal) (
    [⟨Rect.unit (s := S192x2048) ![0, 512] S64x512.size inb_S192x2048_S64x512_0_512,
    k0_pay223 (F := Ideal) (kernelRun0_B.sl.r_119 (F := Ideal) c i arg4 harg4 arg5 harg5 arg6 harg6 x3 x4 x5)
      (kernelRun0_B.sl.r_120 (F := Ideal) c i arg4 harg4 arg5 harg5 arg6 harg6 x3 x4 x5)
      (kernelRun0_B.sl.r_131 (F := Ideal) c i arg1 harg1 arg3 harg3 arg4 harg4 arg5 harg5 arg6 harg6 arg8 harg8 x0 x2 x3 x4 x5 x7)
      (kernelRun0_B.sl.r_132 (F := Ideal) c i arg1 harg1 arg3 harg3 arg4 harg4 arg5 harg5 arg6 harg6 arg8 harg8 arg14 harg14 x0 x2 x3 x4 x5 x7
        s)
      (kernelRun0_B.sl.r_137 (F := Ideal) c i arg1 harg1 arg3 harg3 arg4 harg4 arg5 harg5 arg6 harg6 arg8 harg8 x0 x2 x3 x4 x5 x7)
      (kernelRun0_B.sl.r_138 (F := Ideal) c i arg1 harg1 arg3 harg3 arg4 harg4 arg5 harg5 arg6 harg6 arg8 harg8 arg14 harg14 x0 x2 x3 x4 x5 x7
        s)
      (kernelRun0_B.sl.r_145 (F := Ideal) c i arg1 harg1 arg3 harg3 arg4 harg4 arg5 harg5 arg6 harg6 arg8 harg8 x0 x2 x3 x4 x5 x7)
      (kernelRun0_B.sl.r_146 (F := Ideal) c i arg1 harg1 arg3 harg3 arg4 harg4 arg5 harg5 arg6 harg6 arg8 harg8 arg14 harg14 x0 x2 x3 x4 x5 x7
        s)
      (kernelRun0_B.sl.r_152 (F := Ideal) c i arg1 harg1 arg3 harg3 arg4 harg4 arg5 harg5 arg6 harg6 arg8 harg8 x0 x2 x3 x4 x5 x7)
      (kernelRun0_B.sl.r_153 (F := Ideal) c i arg1 harg1 arg3 harg3 arg4 harg4 arg5 harg5 arg6 harg6 arg8 harg8 arg14 harg14 x0 x2 x3 x4 x5 x7
        s)⟩,
  ⟨Rect.unit (s := S192x2048) ![0, 0] S64x512.size inb_S192x2048_S64x512_0_0,
    k0_pay222 (F := Ideal) (kernelRun0_B.sl.r_118 (F := Ideal) c i arg4 harg4 arg5 harg5 arg6 harg6 x3 x4 x5)
      (kernelRun0_B.sl.r_130 (F := Ideal) c i arg2 harg2 arg3 harg3 arg4 harg4 arg5 harg5 arg6 harg6 arg7 harg7 arg8 harg8 x1 x2 x3 x4 x5 x6 x7)
      (kernelRun0_B.sl.r_136 (F := Ideal) c i arg2 harg2 arg3 harg3 arg4 harg4 arg5 harg5 arg6 harg6 arg7 harg7 arg8 harg8 x1 x2 x3 x4 x5 x6 x7)
      (kernelRun0_B.sl.r_144 (F := Ideal) c i arg2 harg2 arg3 harg3 arg4 harg4 arg5 harg5 arg6 harg6 arg7 harg7 arg8 harg8 x1 x2 x3 x4 x5 x6 x7)
      (kernelRun0_B.sl.r_151 (F := Ideal) c i arg2 harg2 arg3 harg3 arg4 harg4 arg5 harg5 arg6 harg6 arg7 harg7 arg8 harg8 x1 x2 x3 x4 x5 x6 x7)⟩,
  ⟨Rect.unit (s := S192x2048) ![0, 1792] S64x256.size inb_S192x2048_S64x256_0_1792,
    k0_pay213 (F := Ideal) k0_pay9
      (kernelRun0_B.sl.r_109 (F := Ideal) c i arg1 harg1 arg4 harg4 arg5 harg5 arg6 harg6 arg8 harg8 arg14 harg14 x0 x3 x4 x5 x7 s)
      (kernelRun0_B.sl.r_125 (F := Ideal) c i arg1 harg1 arg4 harg4 arg5 harg5 arg6 harg6 x0 x3 x4 x5)
      (kernelRun0_B.sl.r_126 (F := Ideal) c i arg2 harg2 arg4 harg4 arg5 harg5 arg6 harg6 x1 x3 x4 x5)
      (kernelRun0_B.sl.r_127 (F := Ideal) c i arg2 harg2 arg4 harg4 arg5 harg5 arg6 harg6 x1 x3 x4 x5)
      (View.readAt (Elt Ideal) arg8.view (Rect.unit (s := S192x1024) ![0, 768] S64x256.size inb_S192x1024_S64x256_0_768).toLoadRect
        (harg8.unread x7))⟩,
  ⟨Rect.unit (s := S192x2048) ![0, 1536] S64x256.size inb_S192x2048_S64x256_0_1536,
    k0_pay201 (F := Ideal) k0_pay9
      (kernelRun0_B.sl.r_103 (F := Ideal) c i arg1 harg1 arg4 harg4 arg5 harg5 arg6 harg6 arg8 harg8 arg14 harg14 x0 x3 x4 x5 x7 s)
      (kernelRun0_B.sl.r_125 (F := Ideal) c i arg1 harg1 arg4 harg4 arg5 harg5 arg6 harg6 x0 x3 x4 x5)
      (kernelRun0_B.sl.r_126 (F := Ideal) c i arg2 harg2 arg4 harg4 arg5 harg5 arg6 harg6 x1 x3 x4 x5)
      (kernelRun0_B.sl.r_127 (F := Ideal) c i arg2 harg2 arg4 harg4 arg5 harg5 arg6 harg6 x1 x3 x4 x5)
      (View.readAt (Elt Ideal) arg8.view (Rect.unit (s := S192x1024) ![0, 512] S64x256.size inb_S192x1024_S64x256_0_512).toLoadRect
        (harg8.unread x7))⟩,
  ⟨Rect.unit (s := S192x2048) ![0, 1280] S64x256.size inb_S192x2048_S64x256_0_1280,
    k0_pay188 (F := Ideal) k0_pay9
      (kernelRun0_B.sl.r_93 (F := Ideal) c i arg1 harg1 arg4 harg4 arg5 harg5 arg6 harg6 arg8 harg8 arg14 harg14 x0 x3 x4 x5 x7 s)
      (kernelRun0_B.sl.r_125 (F := Ideal) c i arg1 harg1 arg4 harg4 arg5 harg5 arg6 harg6 x0 x3 x4 x5)
      (kernelRun0_B.sl.r_126 (F := Ideal) c i arg2 harg2 arg4 harg4 arg5 harg5 arg6 harg6 x1 x3 x4 x5)
      (kernelRun0_B.sl.r_127 (F := Ideal) c i arg2 harg2 arg4 harg4 arg5 harg5 arg6 harg6 x1 x3 x4 x5)
      (View.readAt (Elt Ideal) arg8.view (Rect.unit (s := S192x1024) ![0, 256] S64x256.size inb_S192x1024_S64x256_0_256).toLoadRect
        (harg8.unread x7))⟩,
  ⟨Rect.unit (s := S192x2048) ![0, 1024] S64x256.size inb_S192x2048_S64x256_0_1024,
    k0_pay177 (F := Ideal) k0_pay9
      (kernelRun0_B.sl.r_83 (F := Ideal) c i arg1 harg1 arg4 harg4 arg5 harg5 arg6 harg6 arg8 harg8 arg14 harg14 x0 x3 x4 x5 x7 s)
      (kernelRun0_B.sl.r_125 (F := Ideal) c i arg1 harg1 arg4 harg4 arg5 harg5 arg6 harg6 x0 x3 x4 x5)
      (kernelRun0_B.sl.r_126 (F := Ideal) c i arg2 harg2 arg4 harg4 arg5 harg5 arg6 harg6 x1 x3 x4 x5)
      (kernelRun0_B.sl.r_127 (F := Ideal) c i arg2 harg2 arg4 harg4 arg5 harg5 arg6 harg6 x1 x3 x4 x5) (kernelRun0_B.sl.r_129 (F := Ideal) c arg8 harg8 x7)⟩,
  ⟨Rect.unit (s := S192x2048) ![64, 512] S64x512.size inb_S192x2048_S64x512_64_512,
    k0_pay154 (F := Ideal) (kernelRun0_B.sl.r_64 (F := Ideal) c i arg4 harg4 arg5 harg5 arg6 harg6 x3 x4 x5)
      (kernelRun0_B.sl.r_65 (F := Ideal) c i arg4 harg4 arg5 harg5 arg6 harg6 x3 x4 x5)
      (kernelRun0_B.sl.r_111 (F := Ideal) c i arg1 harg1 arg3 harg3 arg4 harg4 arg5 harg5 arg6 harg6 arg8 harg8 x0 x2 x3 x4 x5 x7)
      (kernelRun0_B.sl.r_112 (F := Ideal) c i arg1 harg1 arg3 harg3 arg4 harg4 arg5 harg5 arg6 harg6 arg8 harg8 arg14 harg14 x0 x2 x3 x4 x5 x7
        s)⟩,
  ⟨Rect.unit (s := S192x2048) ![64, 0] S64x512.size inb_S192x2048_S64x512_64_0,
    k0_pay153 (F := Ideal) k0_pay9 (kernelRun0_B.sl.r_63 (F := Ideal) c i arg4 harg4 arg5 harg5 arg6 harg6 x3 x4 x5)
      (kernelRun0_B.sl.r_71 (F := Ideal) c i arg2 harg2 arg4 harg4 arg5 harg5 arg6 harg6 x1 x3 x4 x5)
      (kernelRun0_B.sl.r_79 (F := Ideal) c i arg2 harg2 arg3 harg3 arg4 harg4 arg5 harg5 arg6 harg6 arg7 harg7 arg8 harg8 x1 x2 x3 x4 x5 x6 x7)
      (kernelRun0_B.sl.r_89 (F := Ideal) c i arg2 harg2 arg3 harg3 arg4 harg4 arg5 harg5 arg6 harg6 arg7 harg7 arg8 harg8 x1 x2 x3 x4 x5 x6 x7)
      (kernelRun0_B.sl.r_99 (F := Ideal) c i arg2 harg2 arg3 harg3 arg4 harg4 arg5 harg5 arg6 harg6 arg7 harg7 arg8 harg8 x1 x2 x3 x4 x5 x6 x7)
      (kernelRun0_B.sl.r_104 (F := Ideal) c arg3 harg3 x2) (kernelRun0_B.sl.r_105 (F := Ideal) c arg8 harg8 x7) (kernelRun0_B.sl.r_106 (F := Ideal) c arg7 harg7 x6)⟩,
  ⟨Rect.unit (s := S192x2048) ![64, 1792] S64x256.size inb_S192x2048_S64x256_64_1792,
    k0_pay147 (F := Ideal) k0_pay9 (kernelRun0_B.sl.r_71 (F := Ideal) c i arg2 harg2 arg4 harg4 arg5 harg5 arg6 harg6 x1 x3 x4 x5)
      (kernelRun0_B.sl.r_72 (F := Ideal) c i arg2 harg2 arg4 harg4 arg5 harg5 arg6 harg6 x1 x3 x4 x5) (kernelRun0_B.sl.r_105 (F := Ideal) c arg8 harg8 x7)
      (kernelRun0_B.sl.r_107 (F := Ideal) c i arg1 harg1 arg4 harg4 arg5 harg5 arg6 harg6 arg8 harg8 arg14 harg14 x0 x3 x4 x5 x7 s)
      (kernelRun0_B.sl.r_108 (F := Ideal) c i arg1 harg1 arg4 harg4 arg5 harg5 arg6 harg6 x0 x3 x4 x5)⟩,
  ⟨Rect.unit (s := S192x2048) ![64, 1536] S64x256.size inb_S192x2048_S64x256_64_1536,
    k0_pay135 (F := Ideal) k0_pay9 (kernelRun0_B.sl.r_72 (F := Ideal) c i arg2 harg2 arg4 harg4 arg5 harg5 arg6 harg6 x1 x3 x4 x5) (kernelRun0_B.sl.r_95 (F := Ideal) c arg8 harg8 x7)
      (kernelRun0_B.sl.r_97 (F := Ideal) c i arg1 harg1 arg4 harg4 arg5 harg5 arg6 harg6 arg8 harg8 arg14 harg14 x0 x3 x4 x5 x7 s)
      (kernelRun0_B.sl.r_98 (F := Ideal) c i arg1 harg1 arg2 harg2 arg4 harg4 arg5 harg5 arg6 harg6 x0 x1 x3 x4 x5) (kernelRun0_B.sl.cst_187 (F := Ideal))⟩,
  ⟨Rect.unit (s := S192x2048) ![64, 1280] S64x256.size inb_S192x2048_S64x256_64_1280,
    k0_pay123 (F := Ideal) (kernelRun0_B.sl.r_72 (F := Ideal) c i arg2 harg2 arg4 harg4 arg5 harg5 arg6 harg6 x1 x3 x4 x5) (kernelRun0_B.sl.r_85 (F := Ideal) c arg8 harg8 x7)
      (kernelRun0_B.sl.r_87 (F := Ideal) c i arg1 harg1 arg4 harg4 arg5 harg5 arg6 harg6 arg8 harg8 arg14 harg14 x0 x3 x4 x5 x7 s)
      (kernelRun0_B.sl.r_88 (F := Ideal) c i arg1 harg1 arg2 harg2 arg4 harg4 arg5 harg5 arg6 harg6 x0 x1 x3 x4 x5)⟩,
  ⟨Rect.unit (s := S192x2048) ![64, 1024] S64x256.size inb_S192x2048_S64x256_64_1024,
    k0_pay111 (F := Ideal) (kernelRun0_B.sl.r_72 (F := Ideal) c i arg2 harg2 arg4 harg4 arg5 harg5 arg6 harg6 x1 x3 x4 x5) (kernelRun0_B.sl.r_74 (F := Ideal) c arg8 harg8 x7)
      (kernelRun0_B.sl.r_76 (F := Ideal) c i arg1 harg1 arg4 harg4 arg5 harg5 arg6 harg6 arg8 harg8 arg14 harg14 x0 x3 x4 x5 x7 s)
      (kernelRun0_B.sl.r_77 (F := Ideal) c i arg1 harg1 arg2 harg2 arg4 harg4 arg5 harg5 arg6 harg6 x0 x1 x3 x4 x5)⟩,
  ⟨Rect.unit (s := S192x2048) ![128, 512] S64x512.size inb_S192x2048_S64x512_128_512,
    k0_pay77 (F := Ideal) (kernelRun0_B.sl.r_7 (F := Ideal) c i arg4 harg4 arg5 harg5 arg6 harg6 x3 x4 x5)
      (kernelRun0_B.sl.r_8 (F := Ideal) c i arg4 harg4 arg5 harg5 arg6 harg6 x3 x4 x5)
      (kernelRun0_B.sl.r_14 (F := Ideal) c i arg1 harg1 arg4 harg4 arg5 harg5 arg6 harg6 x0 x3 x4 x5)
      (kernelRun0_B.sl.r_22 (F := Ideal) c i arg1 harg1 arg3 harg3 arg4 harg4 arg5 harg5 arg6 harg6 arg8 harg8 x0 x2 x3 x4 x5 x7)
      (kernelRun0_B.sl.r_23 (F := Ideal) c arg3 harg3 arg14 harg14 x2 s)
      (kernelRun0_B.sl.r_34 (F := Ideal) c i arg1 harg1 arg3 harg3 arg4 harg4 arg5 harg5 arg6 harg6 arg8 harg8 x0 x2 x3 x4 x5 x7)
      (kernelRun0_B.sl.r_35 (F := Ideal) c arg3 harg3 arg14 harg14 x2 s)
      (kernelRun0_B.sl.r_45 (F := Ideal) c i arg1 harg1 arg3 harg3 arg4 harg4 arg5 harg5 arg6 harg6 arg8 harg8 x0 x2 x3 x4 x5 x7)
      (kernelRun0_B.sl.r_46 (F := Ideal) c arg3 harg3 arg14 harg14 x2 s) (kernelRun0_B.sl.r_49 (F := Ideal) c arg3 harg3 x2) (kernelRun0_B.sl.r_52 (F := Ideal) c arg14 harg14 s)
      (kernelRun0_B.sl.r_53 (F := Ideal) c arg3 harg3 arg8 harg8 x2 x7)⟩,
  ⟨Rect.unit (s := S192x2048) ![128, 0] S64x512.size inb_S192x2048_S64x512_128_0,
    k0_pay76 (F := Ideal) (kernelRun0_B.sl.r_6 (F := Ideal) c i arg4 harg4 arg5 harg5 arg6 harg6 x3 x4 x5)
      (kernelRun0_B.sl.r_15 (F := Ideal) c i arg2 harg2 arg4 harg4 arg5 harg5 arg6 harg6 x1 x3 x4 x5)
      (kernelRun0_B.sl.r_21 (F := Ideal) c i arg2 harg2 arg3 harg3 arg4 harg4 arg5 harg5 arg6 harg6 arg7 harg7 arg8 harg8 x1 x2 x3 x4 x5 x6 x7)
      (kernelRun0_B.sl.r_33 (F := Ideal) c i arg2 harg2 arg3 harg3 arg4 harg4 arg5 harg5 arg6 harg6 arg7 harg7 arg8 harg8 x1 x2 x3 x4 x5 x6 x7)
      (kernelRun0_B.sl.r_44 (F := Ideal) c i arg2 harg2 arg3 harg3 arg4 harg4 arg5 harg5 arg6 harg6 arg7 harg7 arg8 harg8 x1 x2 x3 x4 x5 x6 x7)
      (kernelRun0_B.sl.r_50 (F := Ideal) c arg8 harg8 x7) (kernelRun0_B.sl.r_51 (F := Ideal) c arg7 harg7 x6) (kernelRun0_B.sl.r_53 (F := Ideal) c arg3 harg3 arg8 harg8 x2 x7)⟩,
  ⟨Rect.unit (s := S192x2048) ![128, 1792] S64x256.size inb_S192x2048_S64x256_128_1792,
    kernelRun0_B.sl.r_54 (F := Ideal) c i arg1 harg1 arg2 harg2 arg4 harg4 arg5 harg5 arg6 harg6 arg8 harg8 arg14 harg14 x0 x1 x3 x4 x5 x7 s⟩,
  ⟨Rect.unit (s := S192x2048) ![128, 1536] S64x256.size inb_S192x2048_S64x256_128_1536,
    k0_pay59 (F := Ideal) k0_pay9 (kernelRun0_B.sl.r_4 (F := Ideal) c arg14 harg14 s) (kernelRun0_B.sl.r_14 (F := Ideal) c i arg1 harg1 arg4 harg4 arg5 harg5 arg6 harg6 x0 x3 x4 x5)
      (kernelRun0_B.sl.r_15 (F := Ideal) c i arg2 harg2 arg4 harg4 arg5 harg5 arg6 harg6 x1 x3 x4 x5)
      (kernelRun0_B.sl.r_16 (F := Ideal) c i arg2 harg2 arg4 harg4 arg5 harg5 arg6 harg6 x1 x3 x4 x5)
      (View.readAt (Elt Ideal) arg8.view (Rect.unit (s := S192x1024) ![128, 512] S64x256.size inb_S192x1024_S64x256_128_512).toLoadRect
        (harg8.unread x7))⟩,
  ⟨Rect.unit (s := S192x2048) ![128, 1280] S64x256.size inb_S192x2048_S64x256_128_1280,
    k0_pay46 (F := Ideal) k0_pay9 (kernelRun0_B.sl.r_3 (F := Ideal) c arg14 harg14 s) (kernelRun0_B.sl.r_14 (F := Ideal) c i arg1 harg1 arg4 harg4 arg5 harg5 arg6 harg6 x0 x3 x4 x5)
      (kernelRun0_B.sl.r_15 (F := Ideal) c i arg2 harg2 arg4 harg4 arg5 harg5 arg6 harg6 x1 x3 x4 x5)
      (kernelRun0_B.sl.r_16 (F := Ideal) c i arg2 harg2 arg4 harg4 arg5 harg5 arg6 harg6 x1 x3 x4 x5)
      (View.readAt (Elt Ideal) arg8.view (Rect.unit (s := S192x1024) ![128, 256] S64x256.size inb_S192x1024_S64x256_128_256).toLoadRect
        (harg8.unread x7))⟩,
  ⟨Rect.unit (s := S192x2048) ![128, 1024] S64x256.size inb_S192x2048_S64x256_128_1024,
    k0_pay35 (F := Ideal) k0_pay9 (kernelRun0_B.sl.r_2 (F := Ideal) c arg14 harg14 s) (kernelRun0_B.sl.r_6 (F := Ideal) c i arg4 harg4 arg5 harg5 arg6 harg6 x3 x4 x5)
      (kernelRun0_B.sl.r_7 (F := Ideal) c i arg4 harg4 arg5 harg5 arg6 harg6 x3 x4 x5) (kernelRun0_B.sl.r_8 (F := Ideal) c i arg4 harg4 arg5 harg5 arg6 harg6 x3 x4 x5)
      (kernelRun0_B.sl.r_10 (F := Ideal) c arg1 harg1 x0)
      (View.readAt (Elt Ideal) arg2.view (Rect.unit (s := S192x512) ![128, 0] S64x512.size inb_S192x512_S64x512_128_0).toLoadRect
        (harg2.unread x1))
      (View.readAt (Elt Ideal) arg8.view (Rect.unit (s := S192x1024) ![128, 0] S64x256.size inb_S192x1024_S64x256_128_0).toLoadRect
        (harg8.unread x7))⟩] : List (View.Piece (Elt Ideal) S192x2048 .bf16)) := by
    unfold out0_B_8
    rw [View.read_writes_junk_eq_canon]
    rfl
  rw [e]
  simp (disch := decide) only [(r_119B (x0 := x0) (x1 := x1) (x2 := x2) (x6 := x6) (x7 := x7) (s := s)), (r_120B (x0 := x0) (x1 := x1) (x2 := x2) (x6 := x6) (x7 := x7) (s := s)), (r_131B (x1 := x1) (x6 := x6) (s := s)), (r_132B (x1 := x1) (x6 := x6)), (r_137B (x1 := x1) (x6 := x6) (s := s)), (r_138B (x1 := x1) (x6 := x6)), (r_145B (x1 := x1) (x6 := x6) (s := s)), (r_146B (x1 := x1) (x6 := x6)), (r_152B (x1 := x1) (x6 := x6) (s := s)), (r_153B (x1 := x1) (x6 := x6)), (r_118B (x0 := x0) (x1 := x1) (x2 := x2) (x6 := x6) (x7 := x7) (s := s)), (r_130B (x0 := x0) (s := s)), (r_136B (x0 := x0) (s := s)), (r_144B (x0 := x0) (s := s)), (r_151B (x0 := x0) (s := s)), (r_109B (x1 := x1) (x2 := x2) (x6 := x6)), (r_125B (x1 := x1) (x2 := x2) (x6 := x6) (x7 := x7) (s := s)), (r_126B (x0 := x0) (x2 := x2) (x6 := x6) (x7 := x7) (s := s)), (r_127B (x0 := x0) (x2 := x2) (x6 := x6) (x7 := x7) (s := s)), (r_103B (x1 := x1) (x2 := x2) (x6 := x6)), (r_93B (x1 := x1) (x2 := x2) (x6 := x6)), (r_83B (x1 := x1) (x2 := x2) (x6 := x6)), (r_129B (i := i) (x0 := x0) (x1 := x1) (x2 := x2) (x3 := x3) (x4 := x4) (x5 := x5) (x6 := x6) (s := s)), (r_64B (x0 := x0) (x1 := x1) (x2 := x2) (x6 := x6) (x7 := x7) (s := s)), (r_65B (x0 := x0) (x1 := x1) (x2 := x2) (x6 := x6) (x7 := x7) (s := s)), (r_111B (x1 := x1) (x6 := x6) (s := s)), (r_112B (x1 := x1) (x6 := x6)), (r_63B (x0 := x0) (x1 := x1) (x2 := x2) (x6 := x6) (x7 := x7) (s := s)), (r_71B (x0 := x0) (x2 := x2) (x6 := x6) (x7 := x7) (s := s)), (r_79B (x0 := x0) (s := s)), (r_89B (x0 := x0) (s := s)), (r_99B (x0 := x0) (s := s)), (r_104B (i := i) (x0 := x0) (x1 := x1) (x3 := x3) (x4 := x4) (x5 := x5) (x6 := x6) (x7 := x7) (s := s)), (r_105B (i := i) (x0 := x0) (x1 := x1) (x2 := x2) (x3 := x3) (x4 := x4) (x5 := x5) (x6 := x6) (s := s)), (r_106B (i := i) (x0 := x0) (x1 := x1) (x2 := x2) (x3 := x3) (x4 := x4) (x5 := x5) (x7 := x7) (s := s)), (r_72B (x0 := x0) (x2 := x2) (x6 := x6) (x7 := x7) (s := s)), (r_107B (x1 := x1) (x2 := x2) (x6 := x6)), (r_108B (x1 := x1) (x2 := x2) (x6 := x6) (x7 := x7) (s := s)), (r_95B (i := i) (x0 := x0) (x1 := x1) (x2 := x2) (x3 := x3) (x4 := x4) (x5 := x5) (x6 := x6) (s := s)), (r_97B (x1 := x1) (x2 := x2) (x6 := x6)), (r_98B (x2 := x2) (x6 := x6) (x7 := x7) (s := s)), (r_85B (i := i) (x0 := x0) (x1 := x1) (x2 := x2) (x3 := x3) (x4 := x4) (x5 := x5) (x6 := x6) (s := s)), (r_87B (x1 := x1) (x2 := x2) (x6 := x6)), (r_88B (x2 := x2) (x6 := x6) (x7 := x7) (s := s)), (r_74B (i := i) (x0 := x0) (x1 := x1) (x2 := x2) (x3 := x3) (x4 := x4) (x5 := x5) (x6 := x6) (s := s)), (r_76B (x1 := x1) (x2 := x2) (x6 := x6)), (r_77B (x2 := x2) (x6 := x6) (x7 := x7) (s := s)), (r_7B (x0 := x0) (x1 := x1) (x2 := x2) (x6 := x6) (x7 := x7) (s := s)), (r_8B (x0 := x0) (x1 := x1) (x2 := x2) (x6 := x6) (x7 := x7) (s := s)), (r_14B (x1 := x1) (x2 := x2) (x6 := x6) (x7 := x7) (s := s)), (r_22B (x1 := x1) (x6 := x6) (s := s)), (r_23B (i := i) (x0 := x0) (x1 := x1) (x3 := x3) (x4 := x4) (x5 := x5) (x6 := x6) (x7 := x7)), (r_34B (x1 := x1) (x6 := x6) (s := s)), (r_35B (i := i) (x0 := x0) (x1 := x1) (x3 := x3) (x4 := x4) (x5 := x5) (x6 := x6) (x7 := x7)), (r_45B (x1 := x1) (x6 := x6) (s := s)), (r_46B (i := i) (x0 := x0) (x1 := x1) (x3 := x3) (x4 := x4) (x5 := x5) (x6 := x6) (x7 := x7)), (r_49B (i := i) (x0 := x0) (x1 := x1) (x3 := x3) (x4 := x4) (x5 := x5) (x6 := x6) (x7 := x7) (s := s)), (r_52B (i := i) (x0 := x0) (x1 := x1) (x2 := x2) (x3 := x3) (x4 := x4) (x5 := x5) (x6 := x6) (x7 := x7)), (r_53B (i := i) (x0 := x0) (x1 := x1) (x3 := x3) (x4 := x4) (x5 := x5) (x6 := x6) (s := s)), (r_6B (x0 := x0) (x1 := x1) (x2 := x2) (x6 := x6) (x7 := x7) (s := s)), (r_15B (x0 := x0) (x2 := x2) (x6 := x6) (x7 := x7) (s := s)), (r_21B (x0 := x0) (s := s)), (r_33B (x0 := x0) (s := s)), (r_44B (x0 := x0) (s := s)), (r_50B (i := i) (x0 := x0) (x1 := x1) (x2 := x2) (x3 := x3) (x4 := x4) (x5 := x5) (x6 := x6) (s := s)), (r_51B (i := i) (x0 := x0) (x1 := x1) (x2 := x2) (x3 := x3) (x4 := x4) (x5 := x5) (x7 := x7) (s := s)), (r_54B (x2 := x2) (x6 := x6)), r_4B, (r_16B (x0 := x0) (x2 := x2) (x6 := x6) (x7 := x7) (s := s)), r_3B, r_2B, (r_10B (i := i) (x1 := x1) (x2 := x2) (x3 := x3) (x4 := x4) (x5 := x5) (x6 := x6) (x7 := x7) (s := s)), kernelRun0_B.sl.cst_187, View.readAt_eq_ld, Memref.IsWhole.read_unread, View.ld_unit_lit', View.read_writes_junk_eq_canon, View.canon_cons_unit_lit']
  try rfl

set_option maxHeartbeats 600000 in
theorem out0_B_9_eq :
    out0_B_9 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s
      = k0_pay2 (dzb i x0 x1 x2 x3 x4 x5 x6 x7 s) x4 := by
  have e : out0_B_9 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s = View.canon (Val := Elt Ideal) (
    [⟨Rect.unit (s := S192x128) ![0, 0] ![192, 128] inb_S192x128_S192x128_0_0,
    k0_pay2 (F := Ideal)
      (kernelRun0_B.sl.r_158 (F := Ideal) c i arg1 harg1 arg2 harg2 arg3 harg3 arg4 harg4 arg5 harg5 arg6 harg6 arg7 harg7 arg8 harg8 arg14 harg14
        x0 x1 x2 x3 x4 x5 x6 x7 s)
      (View.readAt (Elt Ideal) arg5.view (Rect.unit (s := S128x512) ![0, 0] ![128, 512] inb_S128x512_S128x512_0_0).toLoadRect
        (harg5.unread x4))⟩] : List (View.Piece (Elt Ideal) S192x128 .bf16)) := by
    unfold out0_B_9
    rw [View.read_writes_junk_eq_canon]
    rfl
  rw [e]
  simp (disch := decide) only [r_158B, View.readAt_eq_ld, Memref.IsWhole.read_unread, View.ld_unit_lit', View.read_writes_junk_eq_canon, View.canon_cons_unit_lit']
  try rfl

set_option maxHeartbeats 600000 in
theorem out0_B_10_eq :
    out0_B_10 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s
      = k0_pay3 (dzb i x0 x1 x2 x3 x4 x5 x6 x7 s) xo10 x3 := by
  have e : out0_B_10 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s = View.canon (Val := Elt Ideal) (
    [⟨Rect.unit (s := S128x512) ![0, 0] ![128, 512] inb_S128x512_S128x512_0_0,
    k0_pay3 (F := Ideal)
      (kernelRun0_B.sl.r_158 (F := Ideal) c i arg1 harg1 arg2 harg2 arg3 harg3 arg4 harg4 arg5 harg5 arg6 harg6 arg7 harg7 arg8 harg8 arg14 harg14
        x0 x1 x2 x3 x4 x5 x6 x7 s)
      (View.readAt (Elt Ideal) arg12.view (Rect.unit (s := S128x512) ![0, 0] ![128, 512] inb_S128x512_S128x512_0_0).toLoadRect
        (harg12.unread xo10))
      (View.readAt (Elt Ideal) arg4.view (Rect.unit (s := S192x128) ![0, 0] ![192, 128] inb_S192x128_S192x128_0_0).toLoadRect
        (harg4.unread x3))⟩] : List (View.Piece (Elt Ideal) S128x512 .f32)) := by
    unfold out0_B_10
    rw [View.read_writes_junk_eq_canon]
    rfl
  rw [e]
  simp (disch := decide) only [r_158B, View.readAt_eq_ld, Memref.IsWhole.read_unread, View.ld_unit_lit', View.read_writes_junk_eq_canon, View.canon_cons_unit_lit']
  try rfl

set_option maxHeartbeats 600000 in
theorem out0_B_11_eq :
    out0_B_11 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s
      = k0_pay1 (dzs i x0 x1 x2 x3 x4 x5 x6 x7 s) xo11 := by
  have e : out0_B_11 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s = View.canon (Val := Elt Ideal) (
    [⟨Rect.unit (s := S1x512) ![0, 0] ![1, 512] inb_S1x512_S1x512_0_0,
    k0_pay1 (F := Ideal)
      (kernelRun0_B.sl.r_157 (F := Ideal) c i arg1 harg1 arg2 harg2 arg3 harg3 arg4 harg4 arg5 harg5 arg6 harg6 arg7 harg7 arg8 harg8 arg14 harg14
        x0 x1 x2 x3 x4 x5 x6 x7 s)
      (View.readAt (Elt Ideal) arg13.view (Rect.unit (s := S1x512) ![0, 0] ![1, 512] inb_S1x512_S1x512_0_0).toLoadRect
        (harg13.unread xo11))⟩] : List (View.Piece (Elt Ideal) S1x512 .f32)) := by
    unfold out0_B_11
    rw [View.read_writes_junk_eq_canon]
    rfl
  rw [e]
  simp (disch := decide) only [r_157B, View.readAt_eq_ld, Memref.IsWhole.read_unread, View.ld_unit_lit', View.read_writes_junk_eq_canon, View.canon_cons_unit_lit']
  try rfl

set_option maxHeartbeats 600000 in
theorem sout0_B_0_eq :
    sout0_B_0 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s
      = View.canon (PS i x0 x1 x2 x3 x4 x5 x6 x7 s) := by
  have e : sout0_B_0 (F := Ideal) c i arg1 harg1 arg2 harg2 arg3 harg3 arg4 harg4 arg5 harg5 arg6 harg6 arg7 harg7 arg8 harg8 arg10 harg10 arg11 harg11 arg12 harg12 arg13 harg13 arg14 harg14 hc0 x0 x1 x2 x3 x4 x5 x6 x7 xo10 xo11 s = View.canon (Val := Elt Ideal) (
    [⟨Rect.unit (s := S4x256x128) ![3, 0, 0] S1x256x128.size inb_S4x256x128_S1x256x128_3_0_0,
    k0_pay228 (F := Ideal) (kernelRun0_B.sl.r_155 (F := Ideal) c i arg1 harg1 arg4 harg4 arg5 harg5 arg6 harg6 arg8 harg8 arg14 harg14 x0 x3 x4 x5 x7 s)⟩,
  ⟨Rect.unit (s := S4x256x128) ![2, 0, 0] S1x256x128.size inb_S4x256x128_S1x256x128_2_0_0,
    k0_pay227 (F := Ideal) (kernelRun0_B.sl.r_149 (F := Ideal) c i arg1 harg1 arg4 harg4 arg5 harg5 arg6 harg6 arg8 harg8 arg14 harg14 x0 x3 x4 x5 x7 s)⟩,
  ⟨Rect.unit (s := S4x256x128) ![1, 0, 0] S1x256x128.size inb_S4x256x128_S1x256x128_1_0_0,
    k0_pay226 (F := Ideal) (kernelRun0_B.sl.r_142 (F := Ideal) c i arg1 harg1 arg4 harg4 arg5 harg5 arg6 harg6 arg8 harg8 arg14 harg14 x0 x3 x4 x5 x7 s)⟩,
  ⟨Rect.unit (s := S4x256x128) ![0, 0, 0] S1x256x128.size inb_S4x256x128_S1x256x128_0_0_0,
    k0_pay225 (F := Ideal) (kernelRun0_B.sl.r_134 (F := Ideal) c i arg1 harg1 arg4 harg4 arg5 harg5 arg6 harg6 arg8 harg8 arg14 harg14 x0 x3 x4 x5 x7 s)⟩] : List (View.Piece (Elt Ideal) S4x256x128 .f32)) := by
    unfold sout0_B_0
    rw [View.read_writes_junk_eq_canon]
    rfl
  rw [e]
  simp (disch := decide) only [(r_155B (x1 := x1) (x2 := x2) (x6 := x6)), (r_149B (x1 := x1) (x2 := x2) (x6 := x6)), (r_142B (x1 := x1) (x2 := x2) (x6 := x6)), (r_134B (x1 := x1) (x2 := x2) (x6 := x6)), View.readAt_eq_ld, Memref.IsWhole.read_unread, View.ld_unit_lit', View.read_writes_junk_eq_canon, View.canon_cons_unit_lit']
  try rfl

end Cert.Gla
-- ==== Proof.Points.lean ====
module

public import proofs.«01_k».proof.Proof.Block
public import proofs.«01_k».proof.Proof.OutA
public import proofs.«01_k».proof.Proof.OutB
public import proofs.«01_k».proof.Proof.Gen.KernelIdeal.Value
public import Idealize.ShloMosaic.Lib.Pipeline.ValueKit
public import Idealize.ShloMosaic.Lib.Claim

@[expose] public section

/-! The run over the grid, last block of rows first, over the reals. -/

noncomputable section

namespace Cert.Gla

open Idealize.ShloMosaic Idealize.ShloMosaic.TcCoe Cert.KernelIdeal Cert.KernelIdeal.Gen Cert.GlaMath Finset

set_option maxRecDepth 16384

variable (m : (ℓ : Loc nD τ sig) → Buf (Elt Ideal) ℓ) (D : Data) (c : Dev nD)

/-- What the region finds in its operands, over the reals. -/
structure Ent : Prop where
  q : ∀ (t : Fin 8256) (j : Fin 512), V m c main_v4 (ix2 t (⟨j, by omega⟩ : Fin 6272)) = (D.q t j : EReal)
  k : ∀ (t : Fin 8256) (j : Fin 512), V m c main_v4 (ix2 t (⟨512 + j, by omega⟩ : Fin 6272)) = (D.k t j : EReal)
  v : ∀ (t : Fin 8256) (j : Fin 1024), V m c main_v4 (ix2 t (⟨1024 + j, by omega⟩ : Fin 6272)) = (D.v t j : EReal)
  w : ∀ (t : Fin 8256) (j : Fin 128), V m c main_v4 (ix2 t (⟨6144 + j, by omega⟩ : Fin 6272)) = (D.w t j : EReal)
  wg : ∀ (r : Fin 128) (j : Fin 512), V m c main_v6 (ix2 r j) = (D.wg r j : EReal)
  bg : ∀ (j : Fin 512), V m c main_v44 (ix2 (0 : Fin 1) j) = (D.bg j : EReal)
  st : ∀ (n : Fin 129) (h : Fin 4) (e : Fin 256) (d : Fin 128), V m c main_v42 (ix4 n h e d) = (D.S h e d (64 * n) : EReal)
  g : ∀ (t : Fin 8256) (j : Fin 1024), V m c main_v45 (ix2 t j) = (D.g t j : EReal)

theorem idx : ∀ t : Fin cfg0.N, win0_0.index t = ![42 - t.val, 0] ∧ win0_1.index t = ![42 - t.val, 1] ∧ win0_2.index t = ![42 - t.val, 1]
    ∧ win0_3.index t = ![42 - t.val, 48] ∧ win0_4.index t = ![0, 0] ∧ win0_5.index t = ![0, 0] ∧ win0_6.index t = ![42 - t.val, 0, 0, 0]
    ∧ win0_7.index t = ![42 - t.val, 0] ∧ win0_8.index t = ![42 - t.val, 0] ∧ win0_9.index t = ![42 - t.val, 0] ∧ win0_10.index t = ![0, 0]
    ∧ win0_11.index t = ![0, 0] ∧ t.val < 43 ∧ (grid0.coords t 0).val = t.val :=
  (by decide +kernel : ∀ t : Fin grid0.N, _)

variable {m D c} (H : Ent m D c)
include H

theorem blk (t : Fin cfg0.N) (s : Vec Ideal S4x256x128 .f32)
    (hs : ∀ (h : Fin 4) (e : Fin 256) (d : Fin 128), s (ix3 h e d) = (D.G h e d (192 * (42 - t.val) + 192) : EReal)) :
    Blk D (42 - t.val) (grid0.coords t) (X0_0 m c t) (X0_1 m c t) (X0_2 m c t) (iblk m c 3 t) (iblk m c 4 t) (iblk m c 5 t) (iblk m c 6 t) (iblk m c 7 t) s := by
  have hN := (idx t).2.2.2.2.2.2.2.2.2.2.2.2.1
  have hg := (idx t).2.2.2.2.2.2.2.2.2.2.2.2.2
  refine ⟨by rw [hg]; omega, fun r j => ?_, fun r j => ?_, fun r j => ?_, fun r j => ?_, fun r j => ?_, fun j => ?_, fun n h e d => ?_, fun r j => ?_, hs⟩
  · refine Eq.trans ?_ (H.q ⟨192 * (42 - t.val) + r, by omega⟩ j)
    unfold X0_0 Pipeline.Window.fill
    rw [dif_pos (moved0_0 t _)]
    blk_point [iblk, idx t]
  · refine Eq.trans ?_ (H.k ⟨192 * (42 - t.val) + r, by omega⟩ j)
    unfold X0_1 Pipeline.Window.fill
    rw [dif_pos (moved0_1 t _)]
    blk_point [iblk, idx t]
  · refine Eq.trans ?_ (H.v ⟨192 * (42 - t.val) + r, by omega⟩ j)
    unfold X0_2 Pipeline.Window.fill
    rw [dif_pos (moved0_2 t _)]
    blk_point [iblk, idx t]
  · refine Eq.trans ?_ (H.w ⟨192 * (42 - t.val) + r, by omega⟩ j)
    blk_point [iblk, idx t]
  · refine Eq.trans ?_ (H.wg r j)
    blk_point [iblk, idx t]
  · refine Eq.trans ?_ (H.bg j)
    blk_point [iblk, idx t]
  · refine Eq.trans ?_ ((H.st ⟨3 * (42 - t.val) + n, by omega⟩ h e d).trans (by simp only; congr 3; omega))
    blk_point [iblk, idx t]
  · refine Eq.trans ?_ (H.g ⟨192 * (42 - t.val) + r, by omega⟩ j)
    blk_point [iblk, idx t]

end Cert.Gla
-- ==== Proof.Run.lean ====
module

public import proofs.«01_k».proof.Proof.Points

@[expose] public section

/-! What each point leaves, and the four results after the last. -/

noncomputable section

namespace Cert.Gla

open Idealize.ShloMosaic Idealize.ShloMosaic.TcCoe Cert.KernelIdeal Cert.KernelIdeal.Gen Cert.GlaMath Finset

set_option maxRecDepth 16384

/-- What point `n` leaves in the four result buffers and the scratch. -/
structure Inv (D : Data) (n : ℕ) (o : Vec Ideal S192x2048 .bf16 × Vec Ideal S192x128 .bf16 × Vec Ideal S128x512 .f32 × Vec Ideal S1x512 .f32 × Vec Ideal S4x256x128 .f32) : Prop where
  o8 : ∀ y : S192x2048.Idx, o.1 y = (D.out8 (192 * (42 - n) + (y 0).val) (y 1).val : EReal)
  o9 : ∀ (r : Fin 192) (j : Fin 128), o.2.1 (ix2 r j) = ((∑ c : Fin 512, D.dzc (192 * (42 - n) + r) c * D.wg j c : ℝ) : EReal)
  o10 : ∀ (j : Fin 128) (c : Fin 512), o.2.2.1 (ix2 j c) = ((∑ t ∈ Ico (192 * (42 - n)) 8256, D.w t j * D.dzc t c : ℝ) : EReal)
  o11 : ∀ (c : Fin 512), o.2.2.2.1 (ix2 (0 : Fin 1) c) = ((∑ t ∈ Ico (192 * (42 - n)) 8256, D.dzc t c : ℝ) : EReal)
  s : ∀ (h : Fin 4) (e : Fin 256) (d : Fin 128), o.2.2.2.2 (ix3 h e d) = (D.G h e d (192 * (42 - n)) : EReal)

/-- The rows of a block and the rows after it. -/
theorem add_block (f : ℕ → ℝ) (lo : ℕ) (h : lo + 192 ≤ 8256) :
    ∑ t ∈ Ico (lo + 192) 8256, f t + ∑ r : Fin 192, f (lo + r) = ∑ t ∈ Ico lo 8256, f t := by
  rw [Fin.sum_univ_eq_sum_range (fun r => f (lo + r)) 192, ← sum_Ico_consecutive f (show lo ≤ lo + 192 by omega) h, add_comm,
    sum_Ico_eq_sum_range f lo (lo + 192), Nat.add_sub_cancel_left]

theorem G_end (D : Data) (h : Fin 4) (e : Fin 256) (d : Fin 128) : D.G h e d 8256 = 0 := by
  simp [Data.G, Ds]

theorem pay4_at (i) : k0_pay4 (F := Ideal) i = ((0 : ℝ) : EReal) := by
  obtain ⟨a, b, d, rfl⟩ : ∃ (a : Fin 4) (b : Fin 256) (d : Fin 128), i = ix3 a b d := ⟨i 0, i 1, i 2, eq_ix3 i⟩
  pointwise [k0_pay4]
  rfl

theorem pay5_at (j : Fin 128) (c : Fin 512) : k0_pay5 (F := Ideal) (ix2 j c) = ((0 : ℝ) : EReal) := by
  pointwise [k0_pay5]
  rfl

theorem pay6_at (c : Fin 512) : k0_pay6 (F := Ideal) (ix2 (0 : Fin 1) c) = ((0 : ℝ) : EReal) := by
  pointwise [k0_pay6]
  rfl

variable {m : (ℓ : Loc nD τ sig) → Buf (Elt Ideal) ℓ} {D : Data} {c : Dev nD} (H : Ent m D c)
include H

theorem inv : ∀ (n : ℕ) (hn : n < cfg0.N), Inv D n (outsAt0 m c n hn)
  | 0, hn => by
    have B := blk H ⟨0, hn⟩ z4 fun h e d => by rw [z4, pay4_at]; exact congrArg _ (G_end D h e d).symm
    rw [show outsAt0 m c 0 hn = _ from outsAt0_A m c ⟨0, hn⟩ (Nat.zero_mod _)]
    refine ⟨fun y => ?_, fun r j => ?_, fun j k => ?_, fun k => ?_, fun h e d => ?_⟩
    · dsimp only
      rw [out0_A_8_eq]
      exact B.out8 y
    · dsimp only
      rw [out0_A_9_eq]
      exact B.pay2 r j
    · dsimp only
      rw [out0_A_10_eq, B.pay3 _ 0 j k (pay5_at j k)]
      congr 1
      exact (congrArg (· + _) (by simp)).trans (add_block (fun t => D.w t j * D.dzc t k) (192 * 42) (by omega))
    · dsimp only
      rw [out0_A_11_eq, B.pay1 _ 0 k (pay6_at k)]
      congr 1
      exact (congrArg (· + _) (by simp)).trans (add_block (fun t => D.dzc t k) (192 * 42) (by omega))
    · dsimp only
      rw [sout0_A_0_eq]
      exact B.scr _ h e d
  | n + 1, hn => by
    have I := inv n (by omega)
    have hN : n + 1 < 43 := lt_of_lt_of_eq hn N_0
    have hl : 192 * (42 - n) = 192 * (42 - (n + 1)) + 192 := by omega
    have B := blk H ⟨n + 1, hn⟩ (outsAt0 m c n (by omega)).2.2.2.2 fun h e d => (I.s h e d).trans (by rw [hl])
    rw [show outsAt0 m c (n + 1) hn = _ from outsAt0_B m c ⟨n + 1, hn⟩ (by simp only; omega)]
    refine ⟨fun y => ?_, fun r j => ?_, fun j k => ?_, fun k => ?_, fun h e d => ?_⟩
    · dsimp only
      rw [out0_B_8_eq]
      exact B.out8 y
    · dsimp only
      rw [out0_B_9_eq]
      exact B.pay2 r j
    · dsimp only
      rw [out0_B_10_eq]
      refine (B.pay3 _ _ j k (I.o10 j k)).trans ?_
      congr 1
      rw [hl]
      exact add_block (fun t => D.w t j * D.dzc t k) _ (by omega)
    · dsimp only
      rw [out0_B_11_eq]
      refine (B.pay1 _ _ k (I.o11 k)).trans ?_
      congr 1
      rw [hl]
      exact add_block (fun t => D.dzc t k) _ (by omega)
    · dsimp only
      rw [sout0_B_0_eq]
      exact (congrArg (fun L => View.canon L (ix3 h e d)) (List.append_nil _).symm).trans (B.scr [] h e d)

/-- The packed result: `dq`, `dk`, `dv` in the first 2048 columns, the operand's contents in the others. -/
theorem final8 : (dats m 0 c).arrAt 8 cfg0.N = fun i : S8256x6272.Idx => if (i 1).val < 2048 then (D.out8 (i 0).val (i 1).val : EReal) else V m c main_v46_0 i := by
  refine (dats m 0 c).arrAt_eq_of_coversWhere 8 _ (fun β => β 1 = 0) (by decide +kernel) (fun t hf y => ?_)
    (fun j => by blk_simp [Pipeline.Window.cell_apply]; omega)
  have hN := (idx t).2.2.2.2.2.2.2.2.2.2.2.2.1
  rw [after0_8]
  blk_simp [idx t]
  refine ((inv H t.val t.isLt).o8 _).trans ?_
  rw [Nat.mul_comm]

theorem final9 : (dats m 0 c).arrAt 9 cfg0.N = fun i : S8256x128.Idx => ((∑ k : Fin 512, D.dzc (i 0).val k * D.wg (i 1).val k : ℝ) : EReal) := by
  refine (dats m 0 c).arrAt_eq_of_covers 9 _ (by decide +kernel) (fun t hf y => ?_)
  rw [after0_9]
  blk_simp [idx t]
  refine (congrArg (outsAt0 m c t.val t.isLt).2.1 (eq_ix2 (n0 := 192) (n1 := 128) y)).trans (((inv H t.val t.isLt).o9 _ _).trans ?_)
  rw [Nat.mul_comm]

theorem final10 : (dats m 0 c).arrAt 10 cfg0.N = fun i : S128x512.Idx => ((∑ t ∈ range 8256, D.w t (i 0).val * D.dzc t (i 1).val : ℝ) : EReal) := by
  refine (dats m 0 c).arrAt_eq_of_after_last 10 ⟨42, by decide⟩ (by decide +kernel) _ fun j => ?_
  rw [after0_10]
  blk_simp
  refine (congrArg (outsAt0 m c 42 _).2.2.1 (eq_ix2 (n0 := 128) (n1 := 512) j)).trans (((inv H 42 _).o10 _ _).trans ?_)
  rw [range_eq_Ico]

theorem final11 : (dats m 0 c).arrAt 11 cfg0.N = fun i : S1x512.Idx => ((∑ t ∈ range 8256, D.dzc t (i 1).val : ℝ) : EReal) := by
  refine (dats m 0 c).arrAt_eq_of_after_last 11 ⟨42, by decide⟩ (by decide +kernel) _ fun j => ?_
  rw [after0_11]
  blk_simp
  refine (congrArg (outsAt0 m c 42 _).2.2.2.1 (eq_ix2 (n0 := 1) (n1 := 512) j)).trans ?_
  have h0 : j 0 = (0 : Fin 1) := Subsingleton.elim (α := Fin 1) _ _
  rw [h0]
  refine ((inv H 42 _).o11 _).trans ?_
  rw [range_eq_Ico]

end Cert.Gla
-- ==== Proof.Cumsum.lean ====
module

public import proofs.«01_k».proof.Proof.Lift1

@[expose] public section

/-! The running sum along the first axis, forwards and backwards, over the reals. -/

noncomputable section

namespace Cert.Gla

open Idealize.ShloMosaic Finset

set_option maxRecDepth 16384

theorem foldl_sum {ι : Type*} (l : List ι) (f : ι → EReal) (v : EReal) : l.foldl (fun r n => r + f n) v = v + (l.map f).sum := by
  induction l generalizing v with
  | nil => simp
  | cons a l ih => simp [ih, add_assoc]

/-- A column of `R` places. -/
abbrev colShape (R : ℕ) : Shape := ⟨3, ![R, 1, 1]⟩

def colEquiv (R : ℕ) : Fin R ≃ (colShape R).Idx where
  toFun n := ix3 n (0 : Fin 1) (0 : Fin 1)
  invFun w := w 0
  left_inv _ := rfl
  right_inv w := by
    funext a
    match a with
    | ⟨0, _⟩ => rfl
    | ⟨1, _⟩ => exact Subsingleton.elim (α := Fin 1) _ _
    | ⟨2, _⟩ => exact Subsingleton.elim (α := Fin 1) _ _

/-- A sum over a window of the whole height and one place across, with `L` places of padding before it. -/
theorem window_sum {R A B L H : ℕ} (x : (⟨3, ![R, A, B]⟩ : Shape).Idx → EReal)
    (h : (⟨3, ![R, A, B]⟩ : Shape).ReduceWindows (![R, 1, 1] : Fin 3 → ℕ) ![1, 1, 1] ![L, 0, 0] ![H, 0, 0] ⟨3, ![R, A, B]⟩)
    (j : Fin R) (a : Fin A) (b : Fin B) :
    Ideal.hostReduceWindowAdd (![R, 1, 1] : Fin 3 → ℕ) ![1, 1, 1] ![L, 0, 0] ![H, 0, 0] h x 0 (ix3 j a b)
      = ∑ n : Fin R, if hn : L ≤ j.val + n.val ∧ j.val + n.val - L < R then x (ix3 (⟨j.val + n.val - L, hn.2⟩ : Fin R) a b) else 0 := by
  unfold Ideal.hostReduceWindowAdd Host.reduceWindow
  refine (foldl_sum _ _ _).trans ?_
  rw [zero_add, ← Fin.sum_univ_def]
  refine (Equiv.sum_comp (colShape R).rowMajor.symm (fun w : (colShape R).Idx =>
    @dite EReal (∀ c : Fin 3, (![L, 0, 0] : Fin 3 → ℕ) c ≤ ((ix3 j a b : (⟨3, ![R, A, B]⟩ : Shape).Idx) c).val * (![1, 1, 1] : Fin 3 → ℕ) c + (w c).val
        ∧ ((ix3 j a b : (⟨3, ![R, A, B]⟩ : Shape).Idx) c).val * (![1, 1, 1] : Fin 3 → ℕ) c + (w c).val - (![L, 0, 0] : Fin 3 → ℕ) c < (![R, A, B] : Fin 3 → ℕ) c)
      (Nat.decidableForallFin _) (fun hin => x (fun c => ⟨_, (hin c).2⟩)) (fun _ => 0))).trans ?_
  rw [← Equiv.sum_comp (colEquiv R)]
  refine sum_congr rfl fun n _ => ?_
  by_cases hn : L ≤ j.val + n.val ∧ j.val + n.val - L < R
  · rw [dif_pos hn, dif_pos]
    · refine congrArg x (funext fun c => Fin.ext ?_)
      match c with
      | ⟨0, _⟩ => exact congrArg (· + n.val - L) (Nat.mul_one j.val)
      | ⟨1, _⟩ => exact Nat.mul_one a.val
      | ⟨2, _⟩ => exact Nat.mul_one b.val
    · intro c
      match c with
      | ⟨0, _⟩ =>
        show L ≤ j.val * 1 + n.val ∧ j.val * 1 + n.val - L < R
        rwa [Nat.mul_one]
      | ⟨1, _⟩ =>
        show 0 ≤ a.val * 1 + 0 ∧ a.val * 1 + 0 - 0 < A
        have := a.isLt; omega
      | ⟨2, _⟩ =>
        show 0 ≤ b.val * 1 + 0 ∧ b.val * 1 + 0 - 0 < B
        have := b.isLt; omega
  · rw [dif_neg hn, dif_neg]
    intro hin
    have h0 : L ≤ j.val * 1 + n.val ∧ j.val * 1 + n.val - L < R := hin 0
    rw [Nat.mul_one] at h0
    exact hn h0

/-- The running sum from the first row on. -/
theorem cumsum_at {R L A B : ℕ} (hL : L + 1 = R) (x : (⟨3, ![R, A, B]⟩ : Shape).Idx → EReal)
    (h : (⟨3, ![R, A, B]⟩ : Shape).ReduceWindows (![R, 1, 1] : Fin 3 → ℕ) ![1, 1, 1] ![L, 0, 0] ![0, 0, 0] ⟨3, ![R, A, B]⟩)
    (a : Fin A) (b : Fin B) (f : ℕ → ℝ) (hx : ∀ i : Fin R, x (ix3 i a b) = (f i.val : EReal)) (j : Fin R) :
    Ideal.hostReduceWindowAdd (![R, 1, 1] : Fin 3 → ℕ) ![1, 1, 1] ![L, 0, 0] ![0, 0, 0] h x 0 (ix3 j a b)
      = ((∑ i ∈ range (j.val + 1), f i : ℝ) : EReal) := by
  rw [window_sum x h j a b]
  have e : ∀ n : Fin R, (if hn : L ≤ j.val + n.val ∧ j.val + n.val - L < R then x (ix3 (⟨j.val + n.val - L, hn.2⟩ : Fin R) a b) else 0)
      = (fun n : ℕ => ((if L ≤ j.val + n then f (j.val + n - L) else 0 : ℝ) : EReal)) n.val := fun n => by
    have hj := j.isLt
    have hn := n.isLt
    by_cases hc : L ≤ j.val + n.val
    · rw [dif_pos ⟨hc, by omega⟩, hx]; simp [hc]
    · rw [dif_neg (fun q => hc q.1)]; simp [hc]
  rw [sum_congr rfl fun n _ => e n, Fin.sum_univ_eq_sum_range (fun n : ℕ => ((if L ≤ j.val + n then f (j.val + n - L) else 0 : ℝ) : EReal)) R, coe_sum]
  congr 1
  have hj := j.isLt
  rw [← sum_filter]
  refine sum_nbij' (fun n => j.val + n - L) (fun i => i + L - j.val) ?_ ?_ ?_ ?_ ?_
  · intro n hn; simp only [mem_filter, mem_range] at hn ⊢; omega
  · intro n hn; simp only [mem_filter, mem_range] at hn ⊢; omega
  · intro n hn; simp only [mem_filter, mem_range] at hn ⊢; omega
  · intro n hn; simp only [mem_filter, mem_range] at hn ⊢; omega
  · intro n hn; rfl

/-- The running sum from the last row back. -/
theorem cumsum_rev_at {R H A B : ℕ} (x : (⟨3, ![R, A, B]⟩ : Shape).Idx → EReal)
    (h : (⟨3, ![R, A, B]⟩ : Shape).ReduceWindows (![R, 1, 1] : Fin 3 → ℕ) ![1, 1, 1] ![0, 0, 0] ![H, 0, 0] ⟨3, ![R, A, B]⟩)
    (a : Fin A) (b : Fin B) (f : ℕ → ℝ) (hx : ∀ i : Fin R, x (ix3 i a b) = (f i.val : EReal)) (j : Fin R) :
    Ideal.hostReduceWindowAdd (![R, 1, 1] : Fin 3 → ℕ) ![1, 1, 1] ![0, 0, 0] ![H, 0, 0] h x 0 (ix3 j a b)
      = ((∑ i ∈ Ico j.val R, f i : ℝ) : EReal) := by
  rw [window_sum x h j a b]
  have e : ∀ n : Fin R, (if hn : 0 ≤ j.val + n.val ∧ j.val + n.val - 0 < R then x (ix3 (⟨j.val + n.val - 0, hn.2⟩ : Fin R) a b) else 0)
      = (fun n : ℕ => ((if j.val + n < R then f (j.val + n) else 0 : ℝ) : EReal)) n.val := fun n => by
    by_cases hc : j.val + n.val < R
    · rw [dif_pos ⟨by omega, by omega⟩, hx]; simp [hc]
    · rw [dif_neg (fun q => hc (by omega))]; simp [hc]
  rw [sum_congr rfl fun n _ => e n, Fin.sum_univ_eq_sum_range (fun n : ℕ => ((if j.val + n < R then f (j.val + n) else 0 : ℝ) : EReal)) R, coe_sum]
  congr 1
  have hj := j.isLt
  rw [← sum_filter]
  refine sum_nbij' (fun n => j.val + n) (fun i => i - j.val) ?_ ?_ ?_ ?_ ?_
  · intro n hn; simp only [mem_filter, mem_range, mem_Ico] at hn ⊢; omega
  · intro n hn; simp only [mem_filter, mem_range, mem_Ico] at hn ⊢; omega
  · intro n hn; simp only [mem_filter, mem_range] at hn ⊢; omega
  · intro n hn; simp only [mem_Ico] at hn ⊢; omega
  · intro n hn; rfl

end Cert.Gla
-- ==== Proof.HostV.lean ====
module

public import proofs.«01_k».proof.Proof.Run
public import proofs.«01_k».proof.Proof.Cumsum
public import Idealize.ShloMosaic.Lib.StableHlo.RunRead

@[expose] public section

/-! What the host's lines leave in each operand of the call, as expressions over the arguments. -/

noncomputable section

namespace Cert.Gla

open Idealize.ShloMosaic Cert.KernelIdeal Cert.KernelIdeal.Gen Idealize.ShloMosaic.TcCoe Idealize.SL.Sem  Idealize.ShloMosaic.StableHlo  Finset

set_option maxRecDepth 16384

variable (m : (ℓ : Loc nD τ sig) → Buf (Elt Ideal) ℓ) (c : Dev nD)

variable (a0 a1 : FVec Ideal S8208x512 .f32) (a2 a6 : FVec Ideal S8208x1024 .f32) (a3 : FVec Ideal S8208x16 .f32) (a4 : FVec Ideal S16x512 .f32) (a5 : FVec Ideal S512 .f32)

/-- The operand `p`: zero rows before, and zero columns between and after. -/
def kp : FVec Ideal S8256x6272 .bf16 :=
  truncf .bf16 (pad S8256x6272 ![48, 0] ![0, 0] ![0, 0] (concatenate S8208x6272 1 [⟨S8208x512, a0⟩, ⟨S8208x512, a1⟩, ⟨S8208x1024, a2⟩,
    ⟨S8208x4096, broadcastInDim S8208x4096 ![] bcast_S_S8208x4096 (constant (F := Ideal) S_ .f32 0x00000000#32)⟩, ⟨S8208x16, a3⟩,
    ⟨S8208x112, broadcastInDim S8208x112 ![] bcast_S_S8208x112 (constant (F := Ideal) S_ .f32 0x00000000#32)⟩]
    concatenates_S8208x512_S8208x512_S8208x1024_S8208x4096_S8208x16_S8208x112_S8208x6272_d1)
    (sitofp (F := Ideal) .f32 (constantI S_ 32 0#32)) pads_S8208x6272_S8256x6272_4800_000 h_S_) bitsLt_bf16_f32

def kw : FVec Ideal S128x512 .bf16 :=
  truncf .bf16 (pad S128x512 ![0, 0] ![112, 0] ![0, 0] a4 (sitofp (F := Ideal) .f32 (constantI S_ 32 0#32)) pads_S16x512_S128x512_01120_000 h_S_) bitsLt_bf16_f32

def kdo : FVec Ideal S8256x1024 .f32 :=
  pad S8256x1024 ![48, 0] ![0, 0] ![0, 0] a6 (sitofp (F := Ideal) .f32 (constantI S_ 32 0#32)) pads_S8208x1024_S8256x1024_4800_000 h_S_

/-- The gate's argument. -/
def kz : FVec Ideal S8208x512 .f32 :=
  addf (Host.dotGeneral dot_S8208x16_S16x512_S8208x512_1_0_0_1_n_n none a3 a4)
    (broadcastInDim S8208x512 ![0, 1] bcast_S1x512_S8208x512_0_1 (broadcastInDim S1x512 ![1] bcast_S512_S1x512_1 a5))

def kzero : FVec Ideal S8208x512 .f32 := broadcastInDim S8208x512 ![] bcast_S_S8208x512 (constant (F := Ideal) S_ .f32 0x00000000#32)

/-- The log of the logistic function of `z`, by sixteen. -/
def kla (z : FVec Ideal S8208x512 .f32) : FVec Ideal S8208x512 .f32 :=
  Host.divf (Host.negf (select (cmpf .une (subf (Host.negf z) kzero) (subf (Host.negf z) kzero)) (addf (Host.negf z) kzero)
    (addf (maximumf (Host.negf z) kzero) (Host.log1p (Host.exp (Host.negf (Host.absf (subf (Host.negf z) kzero))))))))
    (broadcastInDim S8208x512 ![] bcast_S_S8208x512 (constant (F := Ideal) S_ .f32 0x41800000#32))

def kz3 : FVec Ideal S48x4x128 .f32 := broadcastInDim S48x4x128 ![] bcast_S_S48x4x128 (constant (F := Ideal) S_ .f32 0x00000000#32)

def kcat (x : FVec Ideal S8208x512 .f32) : FVec Ideal S8256x4x128 .f32 :=
  concatenate S8256x4x128 0 [⟨S48x4x128, kz3⟩, ⟨S8208x4x128, shapeCast S8208x4x128 x shapeCasts_S8208x512_S8208x4x128⟩] concatenates_S48x4x128_S8208x4x128_S8256x4x128_d0

def kcum (x : FVec Ideal S8256x4x128 .f32) : FVec Ideal S8256x4x128 .f32 :=
  Host.reduceWindowAdd ![8256, 1, 1] ![1, 1, 1] ![8255, 0, 0] ![0, 0, 0] x (broadcastInDim S_ ![] bcast_S_S_ (constant (F := Ideal) S_ .f32 0x00000000#32))
    reduceWindows_S8256x4x128_S8256x4x128_w8256s1p8255_0_w1s1p0_0_w1s1p0_0 h_S_

/-- The running decay at each chunk's start. -/
def kat (C : FVec Ideal S8256x4x128 .f32) : FVec Ideal S129x4x128 .f32 :=
  concatenate S129x4x128 0 [⟨S1x4x128, broadcastInDim S1x4x128 ![] bcast_S_S1x4x128 (constant (F := Ideal) S_ .f32 0x00000000#32)⟩,
    ⟨S128x4x128, Host.slice S128x4x128 ![63, 0, 0] ![64, 1, 1] C slicesBy_S8256x4x128_S128x4x128_63s64_0s1_0s1⟩] concatenates_S1x4x128_S128x4x128_S129x4x128_d0

/-- The decay from each row to each chunk's start. -/
def kdec (C : FVec Ideal S8256x4x128 .f32) : FVec Ideal S129x8256x4x128 .f32 :=
  Host.exp (select (broadcastInDim S129x8256x4x128 ![0, 1, 2, 3] bcast_S129x8256x1x1_S129x8256x4x128_0_1_2_3
      (cmpi CmpIPredicate.slt (iotaInDim S129x8256x1x1 32 1) (muli (broadcastInDim S129x8256x1x1 ![] bcast_S_S129x8256x1x1 (constantI S_ 32 64#32)) (iotaInDim S129x8256x1x1 32 0))))
    (subf (broadcastInDim S129x8256x4x128 ![0, 1, 2, 3] bcast_S129x1x4x128_S129x8256x4x128_0_1_2_3 (broadcastInDim S129x1x4x128 ![0, 2, 3] bcast_S129x4x128_S129x1x4x128_0_2_3 (kat C)))
      (broadcastInDim S129x8256x4x128 ![0, 1, 2, 3] bcast_S1x8256x4x128_S129x8256x4x128_0_1_2_3 (broadcastInDim S1x8256x4x128 ![1, 2, 3] bcast_S8256x4x128_S1x8256x4x128_1_2_3 C)))
    (broadcastInDim S129x8256x4x128 ![] bcast_S_S129x8256x4x128 (constant (F := Ideal) S_ .f32 0xFF800000#32)))

/-- The values, zero rows before. -/
def kv3 : FVec Ideal S8256x4x256 .f32 :=
  concatenate S8256x4x256 0 [⟨S48x4x256, broadcastInDim S48x4x256 ![] bcast_S_S48x4x256 (constant (F := Ideal) S_ .f32 0x00000000#32)⟩,
    ⟨S8208x4x256, shapeCast S8208x4x256 a2 shapeCasts_S8208x1024_S8208x4x256⟩] concatenates_S48x4x256_S8208x4x256_S8256x4x256_d0

/-- The states at the chunks' starts. -/
def kst (C : FVec Ideal S8256x4x128 .f32) (k : FVec Ideal S8256x4x128 .f32) (v : FVec Ideal S8256x4x256 .f32) : FVec Ideal S129x4x256x128 .f32 :=
  transpose S129x4x256x128 [1, 0, 3, 2] (Host.dotGeneral dot_S129x8256x4x128_S8256x4x256_S4x129x128x256_1_0_03_2_2_1 none
    (mulf (broadcastInDim S129x8256x4x128 ![0, 1, 2, 3] bcast_S1x8256x4x128_S129x8256x4x128_0_1_2_3 (broadcastInDim S1x8256x4x128 ![1, 2, 3] bcast_S8256x4x128_S1x8256x4x128_1_2_3 k)) (kdec C)) v)
    transposes_S4x129x128x256_S129x4x256x128_1_0_3_2

/-! What the host line leaves in each operand. -/

abbrev at0 := m ((c.tc : Thread nD τ).loc main_arg0)
abbrev at1 := m ((c.tc : Thread nD τ).loc main_arg1)
abbrev at2 := m ((c.tc : Thread nD τ).loc main_arg2)
abbrev at3 := m ((c.tc : Thread nD τ).loc main_arg3)
abbrev at4 := m ((c.tc : Thread nD τ).loc main_arg4)
abbrev at5 := m ((c.tc : Thread nD τ).loc main_arg5)
abbrev at6 := m ((c.tc : Thread nD τ).loc main_arg6)

abbrev ops0 : List (HloOp τ sig (Elt Ideal)) := [hostOps0, hostOps0_1, hostOps0_2, hostOps0_3, hostOps0_4, hostOps0_5, hostOps0_6, hostOps0_7, hostOps0_8,
          hostOps0_9, hostOps0_10, hostOps0_11, hostOps0_12].flatten

theorem V_v4 : V m c main_v4 = kp (at0 m c) (at1 m c) (at2 m c) (at3 m c) := by
  show StableHlo.after _ _ (Proc.devRef .tc main_v4) = _
  after_reads_simp
  rfl
theorem V_v6 : V m c main_v6 = kw (at4 m c) := by
  show StableHlo.after _ _ (Proc.devRef .tc main_v6) = _
  after_reads_simp
  rfl
theorem V_v44 : V m c main_v44 = broadcastInDim S1x512 ![1] bcast_S512_S1x512_1 (at5 m c) := by
  show StableHlo.after _ _ (Proc.devRef .tc main_v44) = _
  after_reads_simp
theorem V_v45 : V m c main_v45 = kdo (at6 m c) := by
  show StableHlo.after _ _ (Proc.devRef .tc main_v45) = _
  after_reads_simp
  rfl
theorem V_v46 : V m c main_v46_0 = broadcastInDim S8256x6272 ![] bcast_S_S8256x6272 (constant (F := Ideal) S_ .bf16 0x0000#16) := by
  show StableHlo.after _ _ (Proc.devRef .tc main_v46_0) = _
  after_reads_simp
  rfl
theorem up15 : upto ops0 (fun b => m (c, b)) 39 (Proc.devRef .tc main_v15) = shapeCast S8208x4x128 (kla (kz (at3 m c) (at4 m c) (at5 m c))) shapeCasts_S8208x512_S8208x4x128 := by
  after_reads_simp
  rfl
theorem up7 (n : ℕ) (hn : n = 39 ∨ n = 65) : upto ops0 (fun b => m (c, b)) n (Proc.devRef .tc main_v7) = kz3 := by
  rcases hn with rfl | rfl
  · after_reads_simp
    rfl
  · after_reads_simp
    rfl
theorem up18 : upto ops0 (fun b => m (c, b)) 46 (Proc.devRef .tc main_v18) = broadcastInDim S1x4x128 ![] bcast_S_S1x4x128 (constant (F := Ideal) S_ .f32 0x00000000#32) := by
  after_reads_simp
theorem up19 : upto ops0 (fun b => m (c, b)) 46 (Proc.devRef .tc main_v19) = Host.slice S128x4x128 ![63, 0, 0] ![64, 1, 1] (kcum (kcat (kla (kz (at3 m c) (at4 m c) (at5 m c))))) slicesBy_S8256x4x128_S128x4x128_63s64_0s1_0s1 := by
  after_reads_simp
  have e1 := up7 m c 39 (Or.inl rfl)
  have e2 := up15 m c
  unfold ops0 at e1 e2
  rw [e1, e2]
  rfl
theorem up33 : upto ops0 (fun b => m (c, b)) 65 (Proc.devRef .tc main_v33) = shapeCast S8208x4x128 (at1 m c) shapeCasts_S8208x512_S8208x4x128 := by
  after_reads_simp
  rfl
theorem up35 : upto ops0 (fun b => m (c, b)) 69 (Proc.devRef .tc main_v35) = broadcastInDim S48x4x256 ![] bcast_S_S48x4x256 (constant (F := Ideal) S_ .f32 0x00000000#32) := by
  after_reads_simp
theorem up36 : upto ops0 (fun b => m (c, b)) 69 (Proc.devRef .tc main_v36) = shapeCast S8208x4x256 (at2 m c) shapeCasts_S8208x1024_S8208x4x256 := by
  after_reads_simp
  rfl
theorem V_v42 : V m c main_v42 = kst (kcum (kcat (kla (kz (at3 m c) (at4 m c) (at5 m c))))) (kcat (at1 m c)) (kv3 (at2 m c)) := by
  show StableHlo.after _ _ (Proc.devRef .tc main_v42) = _
  after_reads_simp
  have e1 := up7 m c 39 (Or.inl rfl)
  have e2 := up15 m c
  have e3 := up18 m c
  have e4 := up19 m c
  have e5 := up7 m c 65 (Or.inr rfl)
  have e6 := up33 m c
  have e7 := up35 m c
  have e8 := up36 m c
  unfold ops0 at e1 e2 e3 e4 e5 e6 e7 e8
  rw [e1, e2, e3, e4, e5, e6, e7, e8]
  rfl

end Cert.Gla
-- ==== Proof.Host.lean ====
module

public import proofs.«01_k».proof.Proof.HostV
public import Idealize.ShloMosaic.Lib.WordCmp

@[expose] public section

/-! What the call finds in its operands, over the reals, where every argument is finite. -/

noncomputable section

namespace Cert.Gla

open Idealize.ShloMosaic Idealize.ShloMosaic.TcCoe Idealize.SL.Sem Cert.KernelIdeal Cert.KernelIdeal.Gen Cert.GlaMath Finset

set_option maxRecDepth 16384

/-- The arguments, over the reals. -/
structure Arr where
  q : ℕ → ℕ → ℝ
  k : ℕ → ℕ → ℝ
  v : ℕ → ℕ → ℝ
  w : ℕ → ℕ → ℝ
  wg : ℕ → ℕ → ℝ
  bg : ℕ → ℝ
  g : ℕ → ℕ → ℝ

namespace Arr

variable (X : Arr)

/-- The gate's argument at a row. -/
def z (r c : ℕ) : ℝ := ∑ j : Fin 16, X.w r j * X.wg j c + X.bg c
/-- The log decay of a row. -/
def la (r c : ℕ) : ℝ := (min (X.z r c) 0 - Real.log (1 + Real.exp (-|X.z r c|))) * (1 / 16)

/-- `f` with zero rows before. -/
def pad (f : ℕ → ℕ → ℝ) (t c : ℕ) : ℝ := if 48 ≤ t then f (t - 48) c else 0

theorem pad_ge (f : ℕ → ℕ → ℝ) (t c : ℕ) (h : 48 ≤ t) : pad f t c = f (t - 48) c := if_pos h
theorem pad_lt (f : ℕ → ℕ → ℝ) (t c : ℕ) (h : t < 48) : pad f t c = 0 := if_neg (by omega)

/-- The arrays padded to whole chunks. -/
def data : Data where
  q := pad X.q
  k := pad X.k
  v := pad X.v
  g := pad X.g
  w t j := if j < 16 then pad X.w t j else 0
  wg j c := if j < 16 then X.wg j c else 0
  bg := X.bg

end Arr

/-- The arguments' contents are these reals. -/
structure Fin7 (X : Arr) (a0 a1 : FVec Ideal S8208x512 .f32) (a2 : FVec Ideal S8208x1024 .f32) (a3 : FVec Ideal S8208x16 .f32) (a4 : FVec Ideal S16x512 .f32)
    (a5 : FVec Ideal S512 .f32) (a6 : FVec Ideal S8208x1024 .f32) : Prop where
  q : ∀ (t : Fin 8208) (c : Fin 512), a0 (ix2 t c) = (X.q t c : EReal)
  k : ∀ (t : Fin 8208) (c : Fin 512), a1 (ix2 t c) = (X.k t c : EReal)
  v : ∀ (t : Fin 8208) (c : Fin 1024), a2 (ix2 t c) = (X.v t c : EReal)
  w : ∀ (t : Fin 8208) (c : Fin 16), a3 (ix2 t c) = (X.w t c : EReal)
  wg : ∀ (t : Fin 16) (c : Fin 512), a4 (ix2 t c) = (X.wg t c : EReal)
  bg : ∀ (c : Fin 512), a5 (ix1 c) = (X.bg c : EReal)
  g : ∀ (t : Fin 8208) (c : Fin 1024), a6 (ix2 t c) = (X.g t c : EReal)

theorem sum16 (f : ℕ → ℝ) : ∑ j : Fin 128, (if j.val < 16 then f j else 0) = ∑ j : Fin 16, f j := by
  rw [Fin.sum_univ_eq_sum_range (fun j => if j < 16 then f j else 0) 128, Fin.sum_univ_eq_sum_range f 16, ← sum_filter]
  refine sum_congr ?_ fun _ _ => rfl
  ext r; simp only [mem_filter, mem_range]; omega

theorem data_v (X : Arr) (t c : ℕ) : X.data.v t c = Arr.pad X.v t c := rfl

/-- A padded operand's entry, as the reading of its vector gives it. -/
theorem pad_read {P : Prop} [Decidable P] {x : P → EReal} (f : ℕ → ℕ → ℝ) (t c : ℕ) {y : EReal} (hp : P ↔ 48 ≤ t) (hx : ∀ h, x h = (f (t - 48) c : EReal))
    (hy : y = 0) : (if h : P then x h else y) = (Arr.pad f t c : EReal) := by
  by_cases h : 48 ≤ t
  · rw [dif_pos (hp.2 h), Arr.pad, if_pos h, hx]
  · rw [dif_neg (fun e => h (hp.1 e)), Arr.pad, if_neg h, hy]; rfl

theorem zero_of : (FloatOps.sitofp .f32 (0#32 : BitVec 32) : Ideal .f32) = (0 : EReal) := by
  show (((0#32 : BitVec 32).toInt : ℝ) : EReal) = 0
  simp

theorem data_z (X : Arr) (t c : ℕ) (ht : 48 ≤ t) : X.data.z t c = X.z (t - 48) c := by
  have e : ∀ j : Fin 128, X.data.w t j * X.data.wg j c = if j.val < 16 then X.w (t - 48) j * X.wg j c else 0 := fun j => by
    simp only [Arr.data, Arr.pad, if_pos ht]; split <;> simp
  rw [Data.z, zf, sum_congr rfl fun j _ => e j, sum16 fun j => X.w (t - 48) j * X.wg j c]; rfl

theorem data_la (X : Arr) (t c : ℕ) : X.data.la t c = if 48 ≤ t then X.la (t - 48) c else 0 := by
  rw [Data.la, laf]
  split
  · next h => rw [data_z X t c h]; rfl
  · rfl

theorem sixteen_eq : Ideal.ofBits .f32 0x41800000#32 = ((16 : ℝ) : EReal) := by
  simp [Ideal.ofBits, Ideal.ieee, -EReal.coe_mul]; norm_num
theorem bot_eq : Ideal.ofBits .f32 0xFF800000#32 = ⊥ := by
  simp [Ideal.ofBits, Ideal.ieee]
theorem log1p_coe (x : ℝ) (hx : 0 < 1 + x) : Ideal.log1p (x : EReal) = ((Real.log (1 + x) : ℝ) : EReal) := by
  rw [← log_coe _ hx, EReal.coe_add, EReal.coe_one]; rfl

theorem max_coe (x y : ℝ) : max (x : EReal) (y : EReal) = ((max x y : ℝ) : EReal) :=
  (EReal.coe_strictMono.monotone.map_max (a := x) (b := y)).symm

theorem kla_at (z : FVec Ideal S8208x512 .f32) (t : Fin 8208) (j : Fin 512) (x : ℝ) (h : z (ix2 t j) = (x : EReal)) :
    kla z (ix2 t j) = (((min x 0 - Real.log (1 + Real.exp (-|x|))) * (1 / 16) : ℝ) : EReal) := by
  pointwise [kla, kzero]
  rw [if_neg (by simp), h, ← EReal.coe_neg, absf_coe, ← EReal.coe_neg, exp_coe, log1p_coe _ (by positivity), ← EReal.coe_zero, max_coe,
    ← EReal.coe_add, ← EReal.coe_neg, sixteen_eq, div_coe _ _ (by norm_num), abs_neg]
  congr 1
  rw [show max (-x) 0 = -min x 0 by rw [← neg_zero, max_neg_neg, neg_zero]]
  ring

variable {X : Arr} {a0 a1 : FVec Ideal S8208x512 .f32} {a2 : FVec Ideal S8208x1024 .f32} {a3 : FVec Ideal S8208x16 .f32} {a4 : FVec Ideal S16x512 .f32}
  {a5 : FVec Ideal S512 .f32} {a6 : FVec Ideal S8208x1024 .f32} (A : Fin7 X a0 a1 a2 a3 a4 a5 a6)
include A

theorem kz_at (t : Fin 8208) (j : Fin 512) : kz a3 a4 a5 (ix2 t j) = (X.z t j : EReal) := by
  pointwise [kz]
  simp only [A.w, A.wg, A.bg, ← EReal.coe_mul, coe_sum, ← EReal.coe_add]
  rfl

omit A in
theorem kcat_at (x : FVec Ideal S8208x512 .f32) (f : ℕ → ℕ → ℝ) (hx : ∀ (t : Fin 8208) (c : Fin 512), x (ix2 t c) = (f t c : EReal))
    (t : Fin 8256) (h : Fin 4) (d : Fin 128) : kcat x (ix3 t h d) = (Arr.pad f t (128 * h + d) : EReal) := by
  pointwise [kcat, kz3]
  by_cases ht : t.val < 48
  · rw [dif_pos ht, Arr.pad_lt f _ _ ht]; rfl
  · rw [dif_neg ht, Arr.pad_ge f _ _ (by omega)]
    exact (hx _ _).trans (congrArg (fun n => ((f (t - 48) n : ℝ) : EReal)) (Nat.add_right_cancel_iff.2 (Nat.mul_comm h.val 128)))

theorem kcum_at (t : Fin 8256) (h : Fin 4) (d : Fin 128) :
    kcum (kcat (kla (kz a3 a4 a5))) (ix3 t h d) = (cum (fun r => X.data.la r (128 * h + d)) (t + 1) : EReal) := by
  have e : ∀ i : Fin 8256, kcat (kla (kz a3 a4 a5)) (ix3 i h d) = ((fun r => X.data.la r (128 * h + d)) i.val : EReal) := fun i =>
    (kcat_at _ X.la (fun t c => kla_at _ t c _ (kz_at A t c)) i h d).trans (congrArg _ (data_la X i (128 * h + d)).symm)
  refine Eq.trans ?_ (cumsum_at (L := 8255) rfl (kcat (kla (kz a3 a4 a5))) reduceWindows_S8256x4x128_S8256x4x128_w8256s1p8255_0_w1s1p0_0_w1s1p0_0 h d _ e t)
  unfold kcum Host.reduceWindowAdd
  rw [Ideal.hostReduceWindowAdd_def]
  congr 1
  pointwise []

omit A in
theorem kat_at (C : FVec Ideal S8256x4x128 .f32) (la : ℕ → ℝ) (h : Fin 4) (d : Fin 128) (hC : ∀ t : Fin 8256, C (ix3 t h d) = (cum la (t + 1) : EReal))
    (n : Fin 129) : kat C (ix3 n h d) = (cum la (64 * n) : EReal) := by
  pointwise [kat]
  by_cases hn : n.val < 1
  · rw [dif_pos hn, show n.val = 0 by omega]; simp [cum]
  · rw [dif_neg hn, hC]; congr 2; simp only; omega

omit A in
theorem kdec_at (C : FVec Ideal S8256x4x128 .f32) (la : ℕ → ℝ) (h : Fin 4) (d : Fin 128) (hC : ∀ t : Fin 8256, C (ix3 t h d) = (cum la (t + 1) : EReal))
    (n : Fin 129) (s : Fin 8256) :
    kdec C (ix4 n s h d) = ((if s.val < 64 * n then Real.exp (cum la (64 * n) - cum la (s + 1)) else 0 : ℝ) : EReal) := by
  have hn := n.isLt
  have hs := s.isLt
  pointwise [kdec]
  rw [show IntOp.muli (64#32) (BitVec.ofNat 32 n) = BitVec.ofNat 32 (64 * n) from by
    rw [IntOp.muli, BitVec.ofNat_mul], WordCmp.cmpi_slt_ofNat (by norm_num; omega) (by norm_num; omega), kat_at C la h d hC n, hC s, bot_eq]
  by_cases hc : s.val < 64 * n
  · rw [if_pos hc]
    simp only [hc, decide_true, BitVec.ofBool_true, Scalar.select, ← EReal.coe_sub]
    rfl
  · rw [if_neg hc]
    simp only [hc, decide_false, BitVec.ofBool_false, Scalar.select]
    rfl

theorem kst_at (n : Fin 129) (h : Fin 4) (e : Fin 256) (d : Fin 128) :
    kst (kcum (kcat (kla (kz a3 a4 a5)))) (kcat a1) (kv3 a2) (ix4 n h e d) = (X.data.S h e d (64 * n) : EReal) := by
  have hn := n.isLt
  have ev : ∀ t : Fin 8256, kv3 a2 (ix3 t h e) = (X.data.v t (256 * h + e) : EReal) := fun t => by
    pointwise [kv3]
    by_cases ht : t.val < 48
    · rw [dif_pos ht, data_v, Arr.pad_lt X.v _ _ ht]; rfl
    · rw [dif_neg ht, data_v, Arr.pad_ge X.v _ _ (by omega)]
      exact (A.v _ _).trans (congrArg (fun n => ((X.v (t - 48) n : ℝ) : EReal)) (Nat.add_right_cancel_iff.2 (Nat.mul_comm h.val 256)))
  have ek : ∀ t : Fin 8256, kcat a1 (ix3 t h d) = (X.data.k t (128 * h + d) : EReal) := fun t => kcat_at a1 X.k A.k t h d
  have ed := kdec_at _ _ h d (fun t => kcum_at A t h d) n
  pointwise [kst]
  simp only [ev, ek, ed, ← EReal.coe_mul, coe_sum]
  congr 1
  rw [Data.S, St, Fin.sum_univ_eq_sum_range (fun s => X.data.k s (128 * h + d)
    * (if s < 64 * n.val then Real.exp (cum (fun r => X.data.la r (128 * h + d)) (64 * n) - cum (fun r => X.data.la r (128 * h + d)) (s + 1)) else 0)
    * X.data.v s (256 * h + e)) 8256]
  rw [← sum_range_add_sum_Ico _ (show 64 * n.val ≤ 8256 by omega)]
  rw [sum_eq_zero (s := Ico _ _) fun s hs => by rw [mem_Ico] at hs; rw [if_neg (by omega)]; ring, add_zero]
  refine sum_congr rfl fun s hs => ?_
  rw [mem_range] at hs
  rw [if_pos hs]; ring

theorem kp_q (t : Fin 8256) (j : Fin 512) : kp a0 a1 a2 a3 (ix2 t (⟨j, by omega⟩ : Fin 6272)) = (X.data.q t j : EReal) := by
  pointwise [kp]
  exact pad_read X.q t j (by omega) (fun _ => A.q _ _) zero_of
theorem kp_k (t : Fin 8256) (j : Fin 512) : kp a0 a1 a2 a3 (ix2 t (⟨512 + j, by omega⟩ : Fin 6272)) = (X.data.k t j : EReal) := by
  pointwise [kp]
  exact pad_read X.k t j (by omega) (fun _ => A.k _ _) zero_of
theorem kp_v (t : Fin 8256) (j : Fin 1024) : kp a0 a1 a2 a3 (ix2 t (⟨1024 + j, by omega⟩ : Fin 6272)) = (X.data.v t j : EReal) := by
  pointwise [kp]
  refine pad_read X.v t j (by omega) (fun _ => ?_) zero_of
  rw [dif_neg (by omega), dif_neg (by omega), dif_pos (by omega)]
  exact (A.v _ _).trans (congrArg (fun n => ((X.v (t - 48) n : ℝ) : EReal)) (by omega : 1024 + j.val - 512 - 512 = j.val))
theorem kp_w (t : Fin 8256) (j : Fin 128) : kp a0 a1 a2 a3 (ix2 t (⟨6144 + j, by omega⟩ : Fin 6272)) = (X.data.w t j : EReal) := by
  pointwise [kp]
  refine (pad_read (fun t j => if j < 16 then X.w t j else 0) t j (by omega) (fun _ => ?_) zero_of).trans (congrArg _ ?_)
  · rw [dif_neg (by omega), dif_neg (by omega), dif_neg (by omega), dif_neg (by omega)]
    by_cases hj : j.val < 16
    · rw [dif_pos (by omega), if_pos hj]
      exact (A.w _ _).trans (congrArg (fun n => ((X.w (t - 48) n : ℝ) : EReal)) (by omega : 6144 + j.val - 512 - 512 - 1024 - 4096 = j.val))
    · rw [dif_neg (by omega), if_neg hj]; rfl
  · simp only [Arr.data, Arr.pad]; split <;> simp
theorem kw_at (r : Fin 128) (j : Fin 512) : kw a4 (ix2 r j) = (X.data.wg r j : EReal) := by
  pointwise [kw]
  simp only [Arr.data]
  split
  · exact A.wg _ _
  · exact zero_of
theorem kdo_at (t : Fin 8256) (j : Fin 1024) : kdo a6 (ix2 t j) = (X.data.g t j : EReal) := by
  pointwise [kdo]
  exact pad_read X.g t j (by omega) (fun _ => A.g _ _) zero_of

omit A in
/-- The operands of the call are the padded arrays of the arguments. -/
theorem ent {m : (ℓ : Loc nD τ sig) → Buf (Elt Ideal) ℓ} {c : Dev nD} (A : Fin7 X (at0 m c) (at1 m c) (at2 m c) (at3 m c) (at4 m c) (at5 m c) (at6 m c)) : Ent m X.data c where
  q t j := by rw [V_v4]; exact kp_q A t j
  k t j := by rw [V_v4]; exact kp_k A t j
  v t j := by rw [V_v4]; exact kp_v A t j
  w t j := by rw [V_v4]; exact kp_w A t j
  wg r j := by rw [V_v6]; exact kw_at A r j
  bg j := by
    rw [V_v44]
    pointwise []
    exact A.bg j
  st n h e d := by rw [V_v42]; exact kst_at A n h e d
  g t j := by rw [V_v45]; exact kdo_at A t j

end Cert.Gla
-- ==== Proof.Shift.lean ====
module

public import proofs.«01_k».proof.Proof.Host

@[expose] public section

/-! The gradients over the unpadded rows, and that the padding's zero rows leave them alone. -/

noncomputable section

namespace Cert.Gla

open Idealize.ShloMosaic Cert.GlaMath Finset

set_option maxRecDepth 16384

namespace Arr

variable (X : Arr)

def sp (x : ℝ) : ℝ := max (-x) 0 + Real.log (1 + Real.exp (-|x|))
def lc (h : Fin 4) (d : Fin 128) (r : ℕ) : ℝ := X.la r (128 * h + d)
def dq (h : Fin 4) (d : Fin 128) (t : ℕ) : ℝ := (∑ s : Fin 8208, AA X.g X.v h t s * E (X.lc h d) t s * X.k s (128 * h + d)) * sc
def dk (h : Fin 4) (d : Fin 128) (s : ℕ) : ℝ := ∑ t : Fin 8208, AA X.g X.v h t s * E (X.lc h d) t s * (X.q t (128 * h + d) * sc)
def dv (h : Fin 4) (e : Fin 256) (s : ℕ) : ℝ :=
  ∑ t : Fin 8208, X.g t (256 * h + e) * ∑ d : Fin 128, X.q t (128 * h + d) * sc * X.k s (128 * h + d) * E (X.lc h d) t s
def pr (h : Fin 4) (d : Fin 128) (t s : ℕ) : ℝ :=
  P (X.lc h d) (fun t => X.q t (128 * h + d) * sc) (fun s => X.k s (128 * h + d)) (AA X.g X.v h) t s
def dC (h : Fin 4) (d : Fin 128) (p : ℕ) : ℝ := ∑ s : Fin 8208, X.pr h d p s - ∑ t : Fin 8208, X.pr h d t p
def dz (t c : ℕ) : ℝ := (∑ p ∈ Ico t 8208, X.dC (hd c) (ln c) p) * (1 / 16) * (1 / (1 + Real.exp (X.z t c)))

theorem sum_shift (F : ℕ → ℝ) (h : ∀ s < 48, F s = 0) : ∑ s ∈ range 8256, F s = ∑ s : Fin 8208, F (48 + s) := by
  rw [show 8256 = 48 + 8208 from rfl, sum_range_add, sum_eq_zero fun s hs => h s (mem_range.1 hs), zero_add,
    Fin.sum_univ_eq_sum_range (fun s => F (48 + s)) 8208]

theorem pad_add (f : ℕ → ℕ → ℝ) (t c : ℕ) : pad f (48 + t) c = f t c := by
  rw [pad_ge f _ _ (by omega), show 48 + t - 48 = t by omega]

theorem cum_shift (h : Fin 4) (d : Fin 128) (n : ℕ) : cum (fun r => X.data.la r (128 * h + d)) (48 + n) = cum (X.lc h d) n := by
  rw [cum, cum, sum_range_add, sum_eq_zero fun r hr => by rw [data_la, if_neg (by have := mem_range.1 hr; omega)], zero_add]
  refine sum_congr rfl fun r _ => ?_
  rw [data_la, if_pos (by omega), show 48 + r - 48 = r by omega]; rfl

theorem E_shift (h : Fin 4) (d : Fin 128) (t s : ℕ) : E (fun r => X.data.la r (128 * h + d)) (48 + t) (48 + s) = E (X.lc h d) t s := by
  rw [E, E, add_assoc, add_assoc, cum_shift, cum_shift]
  by_cases hs : s ≤ t
  · rw [if_pos hs, if_pos (by omega)]
  · rw [if_neg hs, if_neg (by omega)]

theorem AA_shift (h : Fin 4) (t s : ℕ) : AA X.data.g X.data.v h (48 + t) (48 + s) = AA X.g X.v h t s :=
  sum_congr rfl fun e _ => congrArg₂ _ (pad_add X.g _ _) (pad_add X.v _ _)
theorem AA_lt_t (h : Fin 4) (t s : ℕ) (ht : t < 48) : AA X.data.g X.data.v h t s = 0 :=
  sum_eq_zero fun e _ => by rw [show X.data.g t _ = 0 from pad_lt X.g _ _ ht, zero_mul]
theorem AA_lt_s (h : Fin 4) (t s : ℕ) (hs : s < 48) : AA X.data.g X.data.v h t s = 0 :=
  sum_eq_zero fun e _ => by rw [show X.data.v s _ = 0 from pad_lt X.v _ _ hs, mul_zero]

theorem q_add (t c : ℕ) : X.data.q (48 + t) c = X.q t c := pad_add X.q t c
theorem k_add (t c : ℕ) : X.data.k (48 + t) c = X.k t c := pad_add X.k t c
theorem g_add (t c : ℕ) : X.data.g (48 + t) c = X.g t c := pad_add X.g t c

theorem dq_shift (h : Fin 4) (d : Fin 128) (t : ℕ) : X.data.dq h d (48 + t) = X.dq h d t := by
  rw [Data.dq, sum_shift _ fun s hs => by rw [AA_lt_s X h _ s hs]; ring]
  simp only [Data.Ed, AA_shift, E_shift, k_add]; rfl
theorem dq_lt (h : Fin 4) (d : Fin 128) (t : ℕ) (ht : t < 48) : X.data.dq h d t = 0 := by
  rw [Data.dq, sum_eq_zero fun s _ => by rw [AA_lt_t X h t s ht]; ring, zero_mul]

theorem dk_shift (h : Fin 4) (d : Fin 128) (s : ℕ) : X.data.dk h d (48 + s) = X.dk h d s := by
  rw [Data.dk, sum_shift _ fun t ht => by rw [AA_lt_t X h t _ ht]; ring]
  simp only [Data.Ed, AA_shift, E_shift, q_add]; rfl
theorem dk_lt (h : Fin 4) (d : Fin 128) (s : ℕ) (hs : s < 48) : X.data.dk h d s = 0 :=
  sum_eq_zero fun t _ => by rw [AA_lt_s X h t s hs]; ring

theorem dv_shift (h : Fin 4) (e : Fin 256) (s : ℕ) : X.data.dv h e (48 + s) = X.dv h e s := by
  rw [Data.dv, sum_shift _ fun t ht => by rw [show X.data.g t _ = 0 from pad_lt X.g _ _ ht, zero_mul]]
  simp only [Data.Ed, E_shift, q_add, k_add, g_add]; rfl
theorem dv_lt (h : Fin 4) (e : Fin 256) (s : ℕ) (hs : s < 48) : X.data.dv h e s = 0 :=
  sum_eq_zero fun t _ => by
    rw [sum_eq_zero fun d _ => by rw [show X.data.k s _ = 0 from pad_lt X.k _ _ hs]; ring, mul_zero]

theorem pr_shift (h : Fin 4) (d : Fin 128) (t s : ℕ) :
    P (fun r => X.data.la r (128 * h + d)) (fun t => X.data.q t (128 * h + d) * sc) (fun s => X.data.k s (128 * h + d)) (AA X.data.g X.data.v h) (48 + t) (48 + s)
      = X.pr h d t s := by
  simp only [pr, P, AA_shift, E_shift, q_add, k_add]

theorem dC_shift (h : Fin 4) (d : Fin 128) (p : ℕ) :
    Rep.DC 8256 X.data.q X.data.k X.data.v X.data.g X.data.la h d (48 + p) = X.dC h d p := by
  have e1 := sum_shift (fun s => P (fun r => X.data.la r (128 * h + d)) (fun t => X.data.q t (128 * h + d) * sc) (fun s => X.data.k s (128 * h + d))
    (AA X.data.g X.data.v h) (48 + p) s) fun s hs => by simp only [P, AA_lt_s X h _ s hs]; ring
  have e2 := sum_shift (fun t => P (fun r => X.data.la r (128 * h + d)) (fun t => X.data.q t (128 * h + d) * sc) (fun s => X.data.k s (128 * h + d))
    (AA X.data.g X.data.v h) t (48 + p)) fun t ht => by simp only [P, AA_lt_t X h t _ ht]; ring
  simp only [pr_shift] at e1 e2
  exact congrArg₂ (· - ·) e1 e2

theorem sum_ico (F : ℕ → ℝ) (t M : ℕ) : ∑ p ∈ Ico (48 + t) (48 + M), F p = ∑ p ∈ Ico t M, F (48 + p) := by
  rw [Nat.add_comm 48 t, Nat.add_comm 48 M]; exact (sum_Ico_add F t M 48).symm

theorem dzc_shift (t c : ℕ) (hc : c < 512) : X.data.dzc (48 + t) c = X.dz t c := by
  have e : 128 * (hd c).val + (ln c).val = c := by simp only [hd, ln]; omega
  have e1 := sum_ico (Rep.DC 8256 X.data.q X.data.k X.data.v X.data.g X.data.la (hd c) (ln c)) t 8208
  have e2 : X.data.z (48 + t) c = X.z t c := by rw [data_z X _ _ (by omega), Nat.add_sub_cancel_left]
  unfold Data.dzc Data.dz dz
  rw [if_pos (Nat.le_add_right 48 t), e, e2]
  refine congrArg (fun s => s * (1 / 16) * (1 / (1 + Real.exp (X.z t c)))) (e1.trans ?_)
  exact sum_congr rfl fun p _ => dC_shift X _ _ p
theorem dzc_lt (t c : ℕ) (ht : t < 48) : X.data.dzc t c = 0 := if_neg (by omega)

end Arr

end Cert.Gla
-- ==== Proof.Ref.lean ====
module

public import proofs.«01_k».proof.Proof.Shift
public import proofs.«01_k».proof.Proof.Gen.ReferenceIdeal.Read

@[expose] public section

/-! What the plain program computes, line by line, over the reals. -/

noncomputable section

namespace Cert.Gla

open Idealize.ShloMosaic Cert.ReferenceIdeal Cert.ReferenceIdeal.Gen Cert.ReferenceIdeal.Read Cert.GlaMath Finset

set_option maxRecDepth 16384

theorem top_eq : Ideal.ofBits .f32 0x7F800000#32 = ⊤ := by
  simp [Ideal.ofBits, Ideal.ieee]

/-- The derivative of the log sigmoid, as the plain program writes it. -/
theorem sig_eq (x : ℝ) : Real.exp (-x - Arr.sp x) = 1 / (1 + Real.exp x) := by
  have key : Real.exp (Arr.sp x) = 1 + Real.exp (-x) := by
    have hp : (0 : ℝ) < 1 + Real.exp (-|x|) := by positivity
    rw [Arr.sp, Real.exp_add, Real.exp_log hp]
    rcases le_total 0 x with h | h
    · rw [max_eq_right (by linarith), abs_of_nonneg h, Real.exp_zero, one_mul]
    · rw [max_eq_left (by linarith), abs_of_nonpos h, neg_neg, mul_add, mul_one, ← Real.exp_add, neg_add_cancel, Real.exp_zero, add_comm]
  have hx := (Real.exp_pos x).ne'
  have h1 : (1 : ℝ) + Real.exp x ≠ 0 := by positivity
  rw [Real.exp_sub, key, Real.exp_neg]
  field_simp
  ring

variable {X : Arr} {a0 a1 : FVec Ideal S8208x512 .f32} {a2 : FVec Ideal S8208x1024 .f32} {a3 : FVec Ideal S8208x16 .f32} {a4 : FVec Ideal S16x512 .f32}
  {a5 : FVec Ideal S512 .f32} {a6 : FVec Ideal S8208x1024 .f32} (A : Fin7 X a0 a1 a2 a3 a4 a5 a6)
include A

theorem r3 (t : Fin 8208) (j : Fin 512) : val_main_v3 (F := Ideal) a3 a4 a5 (ix2 t j) = (X.z t j : EReal) := by
  pointwise [val_main_v3, val_main_v0, val_main_v1, val_main_v2]
  simp only [A.w, A.wg, A.bg, ← EReal.coe_mul, coe_sum, ← EReal.coe_add]
  rfl

theorem rsp (t : Fin 8208) (j : Fin 512) : val_main_call0_v1_0 (F := Ideal) a3 a4 a5 (ix2 t j) = (Arr.sp (X.z t j) : EReal) := by
  pointwise [val_main_call0_v1_0, val_main_call0_call0_v4, val_main_call0_call0_v6, val_main_call0_call0_v11, val_main_call0_call0_v1,
    val_main_call0_call0_v10, val_main_call0_call0_v9, val_main_call0_call0_v8, val_main_call0_call0_v7, val_main_call0_call0_v3, val_main_call0_call0_v2,
    val_main_call0_call0_v5, val_main_call0_call0_v0, val_main_call0_call0_cst, val_main_call0_v0]
  rw [if_neg (by simp), r3 A, ← EReal.coe_neg, absf_coe, ← EReal.coe_neg, exp_coe, log1p_coe _ (by positivity), ← EReal.coe_zero, max_coe,
    ← EReal.coe_add, abs_neg]
  rfl

theorem r41 (t : Fin 8208) (j : Fin 512) : val_main_v4_1 (F := Ideal) a3 a4 a5 (ix2 t j) = ((1 / (1 + Real.exp (X.z t j)) : ℝ) : EReal) := by
  pointwise [val_main_v4_1, val_main_call0_call0_v21, val_main_call0_call0_v20, val_main_call0_call0_v16, val_main_call0_call0_v14,
    val_main_call0_call0_v18, val_main_call0_call0_v13, val_main_call0_call0_v15, val_main_call0_call0_v17, val_main_call0_call0_v19,
    val_main_call0_call0_cst_0, val_main_call0_call0_cst_1, val_main_call0_call0_cst_2, val_main_call0_call0_cst_3, val_main_call0_v0]
  rw [top_eq, r3 A, rsp A, ← EReal.coe_neg, if_neg (EReal.coe_ne_top _), if_neg (EReal.coe_ne_top _), ← EReal.coe_sub, exp_coe, sig_eq]

theorem r7 (t : Fin 8208) (h : Fin 4) (d : Fin 128) : val_main_v7 (F := Ideal) a3 a4 a5 (ix3 t h d) = (X.lc h d t : EReal) := by
  pointwise [val_main_v7, val_main_v6, val_main_v5, val_main_cst, val_main_v4_0]
  rw [rsp A, ← EReal.coe_neg, sixteen_eq, div_coe _ _ (by norm_num)]
  congr 1
  simp only [Arr.lc, Arr.la, Arr.sp, Nat.mul_comm h.val 128]
  rw [show max (-X.z t (128 * h + d)) 0 = -min (X.z t (128 * h + d)) 0 by rw [← neg_zero, max_neg_neg, neg_zero]]
  ring

theorem r8 (t : Fin 8208) (h : Fin 4) (d : Fin 128) : val_main_v8 (F := Ideal) a3 a4 a5 (ix3 t h d) = (cum (X.lc h d) (t + 1) : EReal) := by
  refine Eq.trans ?_ (cumsum_at (L := 8207) rfl (val_main_v7 (F := Ideal) a3 a4 a5) reduceWindows_S8208x4x128_S8208x4x128_w8208s1p8207_0_w1s1p0_0_w1s1p0_0
    h d _ (fun i => r7 A i h d) t)
  unfold val_main_v8 Host.reduceWindowAdd
  rw [Ideal.hostReduceWindowAdd_def]
  congr 1
  pointwise [val_main_call1_call0_v0, val_main_call1_call0_cst]

omit A in
theorem sge_of (t s : Fin 8208) : IntOp.cmpi CmpIPredicate.sge (BitVec.ofNat 32 t) (BitVec.ofNat 32 s) = if s.val ≤ t.val then 1#1 else 0#1 := by
  rw [WordCmp.cmpi_sge_ofNat (by have := t.isLt; norm_num; omega) (by have := s.isLt; norm_num; omega)]
  by_cases h : s.val ≤ t.val <;> simp [h]

theorem r23 (t s : Fin 8208) (h : Fin 4) (d : Fin 128) : val_main_v23 (F := Ideal) a3 a4 a5 (ix4 t s h d) = (E (X.lc h d) t s : EReal) := by
  pointwise [val_main_v23, val_main_v22_0, val_main_v22_1, val_main_call2_v2, val_main_call2_v0, val_main_cst_1, val_main_v21, val_main_v20, val_main_v19,
    val_main_v18, val_main_v17, val_main_v16, val_main_v15, val_main_v14]
  rw [sge_of, r8 A, r8 A, E, ← EReal.coe_sub]
  by_cases hs : s.val ≤ t.val
  · rw [if_pos hs, if_pos hs]; rfl
  · rw [if_neg hs, if_neg hs]
    show Ideal.exp (Ideal.ofBits .f32 0xFF800000#32) = _
    rw [bot_eq]; rfl

theorem r11 (t : Fin 8208) (h : Fin 4) (d : Fin 128) : val_main_v11 (F := Ideal) a0 (ix3 t h d) = ((X.q t (128 * h + d) * sc : ℝ) : EReal) := by
  pointwise [val_main_v11, val_main_v10, val_main_v9, val_main_cst_0]
  rw [sc_eq, A.q, ← EReal.coe_mul]
  simp only [Nat.mul_comm h.val 128]
theorem r12 (t : Fin 8208) (h : Fin 4) (d : Fin 128) : val_main_v12 (F := Ideal) a1 (ix3 t h d) = (X.k t (128 * h + d) : EReal) := by
  pointwise [val_main_v12]
  rw [A.k]
  simp only [Nat.mul_comm h.val 128]
theorem r13 (t : Fin 8208) (h : Fin 4) (e : Fin 256) : val_main_v13 (F := Ideal) a2 (ix3 t h e) = (X.v t (256 * h + e) : EReal) := by
  pointwise [val_main_v13]
  rw [A.v]
  simp only [Nat.mul_comm h.val 256]
theorem r34 (t : Fin 8208) (h : Fin 4) (e : Fin 256) : val_main_v34 (F := Ideal) a6 (ix3 t h e) = (X.g t (256 * h + e) : EReal) := by
  pointwise [val_main_v34]
  rw [A.g]
  simp only [Nat.mul_comm h.val 256]

theorem r28 (t s : Fin 8208) (h : Fin 4) (d : Fin 128) :
    val_main_v28 (F := Ideal) a0 a1 (ix4 t s h d) = ((X.q t (128 * h + d) * sc * X.k s (128 * h + d) : ℝ) : EReal) := by
  pointwise [val_main_v28, val_main_v27, val_main_v26, val_main_v25, val_main_v24]
  rw [r11 A, r12 A, ← EReal.coe_mul]

theorem r30 (t s : Fin 8208) (h : Fin 4) : val_main_v30 (F := Ideal) a0 a1 a3 a4 a5 (ix3 t s h)
    = ((∑ d : Fin 128, X.q t (128 * h + d) * sc * X.k s (128 * h + d) * E (X.lc h d) t s : ℝ) : EReal) := by
  pointwise [val_main_v30, val_main_v29, val_main_cst_2]
  simp only [r28 A, r23 A, ← EReal.coe_mul, coe_sum, zero_add]

theorem r37 (t s : Fin 8208) (h : Fin 4) : val_main_v37 (F := Ideal) a2 a6 (ix3 t s h) = (AA X.g X.v h t s : EReal) := by
  pointwise [val_main_v37, val_main_v36, val_main_v35]
  simp only [r34 A, r13 A, ← EReal.coe_mul, coe_sum]

theorem r39 (s : Fin 8208) (h : Fin 4) (e : Fin 256) : val_main_v39 (F := Ideal) a0 a1 a3 a4 a5 a6 (ix3 s h e) = (X.dv h e s : EReal) := by
  pointwise [val_main_v39, val_main_v38, val_main_v35]
  simp only [r34 A, r30 A, ← EReal.coe_mul, coe_sum]
  rfl

theorem r51 (s : Fin 8208) (h : Fin 4) (d : Fin 128) : val_main_v51 (F := Ideal) a0 a2 a3 a4 a5 a6 (ix3 s h d) = (X.dk h d s : EReal) := by
  pointwise [val_main_v51, val_main_v46, val_main_v45, val_main_v44, val_main_v43, val_main_v42, val_main_v40, val_main_v24, val_main_cst_5, val_main_cst_3]
  simp only [r11 A, r37 A, r23 A, ← EReal.coe_mul, coe_sum, zero_add, sum_const, card_univ, Fintype.card_fin, one_smul]
  exact congrArg _ (sum_congr rfl fun t _ => by ring)

theorem r52 (t : Fin 8208) (h : Fin 4) (d : Fin 128) : val_main_v52 (F := Ideal) a1 a2 a3 a4 a5 a6 (ix3 t h d)
    = ((∑ s : Fin 8208, AA X.g X.v h t s * E (X.lc h d) t s * X.k s (128 * h + d) : ℝ) : EReal) := by
  pointwise [val_main_v52, val_main_v50, val_main_v49, val_main_v48, val_main_v47, val_main_v42, val_main_v40, val_main_v25, val_main_cst_6, val_main_cst_4]
  simp only [r12 A, r37 A, r23 A, ← EReal.coe_mul, coe_sum, zero_add, sum_const, card_univ, Fintype.card_fin, one_smul]

theorem r54 (t s : Fin 8208) (h : Fin 4) (d : Fin 128) : val_main_v54 (F := Ideal) a0 a1 a2 a3 a4 a5 a6 (ix4 t s h d) = (X.pr h d t s : EReal) := by
  pointwise [val_main_v54, val_main_v53, val_main_v41, val_main_v40, val_main_call3_v0, val_main_call3_cst, val_main_v22_1, val_main_v16, val_main_v15, val_main_v14]
  rw [sge_of, r28 A, r37 A, r23 A, ← EReal.coe_mul, ← EReal.coe_mul]
  by_cases hs : s.val ≤ t.val
  · rw [if_pos hs]
    refine Eq.trans (b := ((X.q t (128 * h + d) * sc * X.k s (128 * h + d) * AA X.g X.v h t s * E (X.lc h d) t s : ℝ) : EReal)) rfl (congrArg _ ?_)
    rw [Arr.pr, P]; ring
  · rw [if_neg hs]
    refine Eq.trans (b := ((0 : ℝ) : EReal)) rfl (congrArg _ ?_)
    rw [Arr.pr, P, E, if_neg hs]; ring

theorem r62 (p : Fin 8208) (h : Fin 4) (d : Fin 128) : val_main_v62 (F := Ideal) a0 a1 a2 a3 a4 a5 a6 (ix3 p h d) = (X.dC h d p : EReal) := by
  pointwise [val_main_v62, val_main_v61, val_main_v60, val_main_v59, val_main_v58, val_main_v57, val_main_v56, val_main_v55, val_main_cst_9, val_main_cst_8,
    val_main_cst_10, val_main_cst_7]
  simp only [r54 A, ← EReal.coe_neg, coe_sum, zero_add, sum_const, card_univ, Fintype.card_fin, one_smul, ← EReal.coe_add]
  congr 1
  rw [Arr.dC, sum_neg_distrib]; ring

theorem r68 (t : Fin 8208) (h : Fin 4) (d : Fin 128) : val_main_v68 (F := Ideal) a0 a1 a2 a3 a4 a5 a6 (ix3 t h d)
    = ((∑ p ∈ Ico t.val 8208, X.dC h d p : ℝ) : EReal) := by
  refine Eq.trans ?_ (cumsum_rev_at (H := 8207) (val_main_v62 (F := Ideal) a0 a1 a2 a3 a4 a5 a6)
    reduceWindows_S8208x4x128_S8208x4x128_w8208s1p0_8207_w1s1p0_0_w1s1p0_0 h d _ (fun i => r62 A i h d) t)
  unfold val_main_v68 Host.reduceWindowAdd
  rw [Ideal.hostReduceWindowAdd_def]
  congr 1
  pointwise [val_main_call4_call0_v0, val_main_call4_call0_cst]

theorem r72 (t : Fin 8208) (j : Fin 512) : val_main_v72 (F := Ideal) a0 a1 a2 a3 a4 a5 a6 (ix2 t j) = (X.dz t j : EReal) := by
  have hj := j.isLt
  pointwise [val_main_v72, val_main_call5_v1, val_main_call5_v0, val_main_v71, val_main_v70, val_main_cst_12, val_main_v69]
  rw [show (⟨j.val / 128, by omega⟩ : Fin 4) = hd j from Fin.ext (by simp only [hd]; omega), r68 A, r41 A, sixteen_eq, div_coe _ _ (by norm_num),
    ← EReal.coe_neg, ← EReal.coe_mul, ← EReal.coe_neg]
  congr 1
  rw [Arr.dz]
  simp only [ln]
  ring

end Cert.Gla
-- ==== Proof.Final.lean ====
module

public import proofs.«01_k».proof.Proof.Ref

@[expose] public section

/-! The four results of the call are the plain program's. -/

noncomputable section

namespace Cert.Gla

open Idealize.ShloMosaic Cert.ReferenceIdeal Cert.ReferenceIdeal.Gen Cert.ReferenceIdeal.Read Cert.GlaMath Finset

set_option maxRecDepth 16384

section

variable (X : Arr) (t j : ℕ)

theorem outq (h : Fin 4) (d : Fin 128) (ht : 48 ≤ t) (hj : j < 512) (hh : h.val = j / 128) (hd' : d.val = j % 128) :
    X.dq h d (t - 48) = if j < 2048 then X.data.out8 t j else 0 := by
  obtain ⟨u, rfl⟩ : ∃ u, t = 48 + u := ⟨t - 48, by omega⟩
  rw [if_pos (by omega), Data.out8, if_pos hj, Arr.dq_shift, Nat.add_sub_cancel_left, show hd j = h from Fin.ext (by simp only [hd]; omega),
    show ln j = d from Fin.ext (by simp only [ln]; omega)]
theorem outk (h : Fin 4) (d : Fin 128) (ht : 48 ≤ t) (h1 : 512 ≤ j) (hj : j < 1024) (hh : h.val = (j - 512) / 128) (hd' : d.val = (j - 512) % 128) :
    X.dk h d (t - 48) = if j < 2048 then X.data.out8 t j else 0 := by
  obtain ⟨u, rfl⟩ : ∃ u, t = 48 + u := ⟨t - 48, by omega⟩
  rw [if_pos (by omega), Data.out8, if_neg (by omega), if_pos hj, Arr.dk_shift, Nat.add_sub_cancel_left,
    show hd (j - 512) = h from Fin.ext (by simp only [hd]; omega), show ln (j - 512) = d from Fin.ext (by simp only [ln]; omega)]
theorem outv (h : Fin 4) (e : Fin 256) (ht : 48 ≤ t) (h1 : 1024 ≤ j) (hj : j < 2048) (hh : h.val = (j - 1024) / 256) (he : e.val = (j - 1024) % 256) :
    X.dv h e (t - 48) = if j < 2048 then X.data.out8 t j else 0 := by
  obtain ⟨u, rfl⟩ : ∃ u, t = 48 + u := ⟨t - 48, by omega⟩
  rw [if_pos hj, Data.out8, if_neg (by omega), if_neg (by omega), Arr.dv_shift, Nat.add_sub_cancel_left,
    show hv (j - 1024) = h from Fin.ext (by simp only [hv]; omega), show lv (j - 1024) = e from Fin.ext (by simp only [lv]; omega)]

end

section

variable {X : Arr} {a0 a1 : FVec Ideal S8208x512 .f32} {a2 : FVec Ideal S8208x1024 .f32} {a3 : FVec Ideal S8208x16 .f32} {a4 : FVec Ideal S16x512 .f32}
  {a5 : FVec Ideal S512 .f32} {a6 : FVec Ideal S8208x1024 .f32} (A : Fin7 X a0 a1 a2 a3 a4 a5 a6)
include A

theorem r82 (t : Fin 8256) (j : Fin 6272) : val_main_v82 (F := Ideal) a0 a1 a2 a3 a4 a5 a6 (ix2 t j)
    = ((if j.val < 2048 then X.data.out8 t j else 0 : ℝ) : EReal) := by
  pointwise [val_main_v82, val_main_v81, val_main_v80, val_main_v79, val_main_cst_15, val_main_v67, val_main_v66, val_main_v65, val_main_cst_11, val_main_v64,
    val_main_v63, val_main_call6_v0, val_main_c]
  by_cases ht : 48 ≤ t.val
  · rw [dif_pos ⟨ht, by omega⟩]
    by_cases h1 : j.val < 512
    · rw [dif_pos h1, sc_eq]
      refine (congrArg (· * (sc : EReal)) (r52 A _ _ _)).trans ((EReal.coe_mul _ _).symm.trans (congrArg _ ?_))
      exact outq X t j _ _ ht h1 rfl rfl
    · rw [dif_neg h1]
      by_cases h2 : j.val < 1024
      · rw [dif_pos (by omega)]
        exact (r51 A _ _ _).trans (congrArg _ (outk X t j _ _ ht (by omega) h2 rfl rfl))
      · rw [dif_neg (by omega)]
        by_cases h3 : j.val < 2048
        · rw [dif_pos (by omega)]
          exact (r39 A _ _ _).trans (congrArg _ (outv X t j _ _ ht (by omega) h3 (by simp only; omega) (by simp only; omega)))
        · rw [dif_neg (by omega), if_neg h3]; rfl
  · rw [dif_neg (fun h => ht h.1), zero_of]
    split
    · rw [Data.out8, Arr.dq_lt X _ _ _ (by omega), Arr.dk_lt X _ _ _ (by omega), Arr.dv_lt X _ _ _ (by omega), ite_self, ite_self]; rfl
    · rfl

theorem r84 (t : Fin 8256) (j : Fin 128) : val_main_v84 (F := Ideal) a0 a1 a2 a3 a4 a5 a6 (ix2 t j)
    = ((∑ k : Fin 512, X.data.dzc t k * X.data.wg j k : ℝ) : EReal) := by
  pointwise [val_main_v84, val_main_v83, val_main_v78, val_main_call7_v0, val_main_c_16]
  by_cases ht : 48 ≤ t.val
  · by_cases hj : j.val < 16
    · rw [dif_pos ⟨⟨ht, by omega⟩, hj⟩]
      simp only [r72 A, A.wg, ← EReal.coe_mul, coe_sum]
      refine congrArg _ (sum_congr rfl fun k _ => ?_)
      obtain ⟨u, hu⟩ : ∃ u, t.val = 48 + u := ⟨t.val - 48, by omega⟩
      rw [hu, Arr.dzc_shift X u k k.isLt, Nat.add_sub_cancel_left]
      exact congrArg (X.dz u k * ·) (if_pos hj).symm
    · rw [dif_neg (fun h => hj h.2), zero_of, sum_eq_zero fun k _ => by rw [show X.data.wg j k = 0 from if_neg hj, mul_zero]]; rfl
  · rw [dif_neg (fun h => ht h.1.1), zero_of, sum_eq_zero fun k _ => by rw [Arr.dzc_lt X t k (by omega), zero_mul]]; rfl

theorem r85 (r : Fin 128) (j : Fin 512) : val_main_v85 (F := Ideal) a0 a1 a2 a3 a4 a5 a6 (ix2 r j)
    = ((∑ t ∈ range 8256, X.data.w t r * X.data.dzc t j : ℝ) : EReal) := by
  pointwise [val_main_v85, val_main_v77, val_main_v76, val_main_call8_v0, val_main_c_17]
  by_cases hr : r.val < 16
  · rw [dif_pos hr]
    simp only [r72 A, A.w, ← EReal.coe_mul, coe_sum]
    rw [Arr.sum_shift (fun t => X.data.w t r * X.data.dzc t j) fun t ht => by simp only [Arr.dzc_lt X t j ht, mul_zero]]
    refine congrArg _ (sum_congr rfl fun t _ => ?_)
    rw [Arr.dzc_shift X t j j.isLt, show X.data.w (48 + t) r = X.w t r from (if_pos hr).trans (Arr.pad_add X.w t r), mul_comm]
  · rw [dif_neg hr, zero_of, sum_eq_zero fun t _ => by rw [show X.data.w t r = 0 from if_neg hr, zero_mul]]; rfl

theorem r86 (r : Fin 1) (j : Fin 512) : val_main_v86 (F := Ideal) a0 a1 a2 a3 a4 a5 a6 (ix2 r j) = ((∑ t ∈ range 8256, X.data.dzc t j : ℝ) : EReal) := by
  pointwise [val_main_v86, val_main_v75, val_main_v74, val_main_v73, val_main_cst_14, val_main_cst_13]
  simp only [r72 A, coe_sum, zero_add, sum_const, card_univ, Fintype.card_fin, one_smul]
  rw [Arr.sum_shift (fun t => X.data.dzc t j) fun t ht => Arr.dzc_lt X t j ht]
  exact congrArg _ (sum_congr rfl fun t _ => (Arr.dzc_shift X t j j.isLt).symm)

end

section

variable {m : (ℓ : Loc Cert.KernelIdeal.nD Cert.KernelIdeal.τ Cert.KernelIdeal.sig) → Buf (Elt Ideal) ℓ} {c : Dev Cert.KernelIdeal.nD} {X : Arr}
  (A : Fin7 X (at0 m c) (at1 m c) (at2 m c) (at3 m c) (at4 m c) (at5 m c) (at6 m c))
include A

theorem eq82 : (Cert.KernelIdeal.Gen.dats m 0 c).arrAt 8 Cert.KernelIdeal.cfg0.N
    = val_main_v82 (F := Ideal) (at0 m c) (at1 m c) (at2 m c) (at3 m c) (at4 m c) (at5 m c) (at6 m c) := by
  rw [final8 (ent A)]
  funext i
  refine Eq.trans ?_ ((congrArg _ (eq_ix2 (n0 := 8256) (n1 := 6272) i)).trans (r82 A (i 0) (i 1))).symm
  split
  · rfl
  · rw [V_v46, eq_ix2 (n0 := 8256) (n1 := 6272) i]
    pointwise []
    rfl

theorem eq84 : (Cert.KernelIdeal.Gen.dats m 0 c).arrAt 9 Cert.KernelIdeal.cfg0.N
    = val_main_v84 (F := Ideal) (at0 m c) (at1 m c) (at2 m c) (at3 m c) (at4 m c) (at5 m c) (at6 m c) := by
  rw [final9 (ent A)]
  funext i
  exact ((congrArg _ (eq_ix2 (n0 := 8256) (n1 := 128) i)).trans (r84 A (i 0) (i 1))).symm

theorem eq85 : (Cert.KernelIdeal.Gen.dats m 0 c).arrAt 10 Cert.KernelIdeal.cfg0.N
    = val_main_v85 (F := Ideal) (at0 m c) (at1 m c) (at2 m c) (at3 m c) (at4 m c) (at5 m c) (at6 m c) := by
  rw [final10 (ent A)]
  funext i
  exact ((congrArg _ (eq_ix2 (n0 := 128) (n1 := 512) i)).trans (r85 A (i 0) (i 1))).symm

theorem eq86 : (Cert.KernelIdeal.Gen.dats m 0 c).arrAt 11 Cert.KernelIdeal.cfg0.N
    = val_main_v86 (F := Ideal) (at0 m c) (at1 m c) (at2 m c) (at3 m c) (at4 m c) (at5 m c) (at6 m c) := by
  rw [final11 (ent A)]
  funext i
  exact ((congrArg _ (eq_ix2 (n0 := 1) (n1 := 512) i)).trans (r86 A (i 0) (i 1))).symm

end

end Cert.Gla
-- ==== Proof.Pre.lean ====
module

public import proofs.«01_k».proof.Proof.Ref
public import proofs.«01_k».proof.Defs

@[expose] public section

/-! Arguments that satisfy the precondition are real numbers. -/

noncomputable section

namespace Cert.Gla

open Idealize.ShloMosaic Cert.ReferenceIdeal Cert.ReferenceIdeal.Gen Cert.GlaMath

set_option maxRecDepth 16384

/-- A magnitude below the infinity is a real number's. -/
theorem real_of {S : Shape} (x : FVec Ideal S .f32) (b : S_.BroadcastsInDim S (![] : Fin 0 → Fin S.rank)) (i : S.Idx)
    (h : cmpf .olt (Host.absf x) (broadcastInDim S ![] b (constant (F := Ideal) S_ .f32 0x7F800000#32)) = fun _ => 1#1) : x i = ((x i).toReal : EReal) := by
  have h' := congrFun h i
  have e : BitVec.ofBool (decide (max (x i) (-(x i)) < Ideal.ofBits .f32 0x7F800000#32)) = 1#1 := h'
  rw [top_eq] at e
  have hx : max (x i) (-(x i)) < ⊤ := by
    by_contra hc
    rw [decide_eq_false hc] at e
    exact absurd e (by decide)
  rw [max_lt_iff] at hx
  refine (EReal.coe_toReal hx.1.ne fun hb => ?_).symm
  rw [hb] at hx
  exact absurd hx.2 (by simp)

def real2 {r c : ℕ} (x : (⟨2, ![r, c]⟩ : Shape).Idx → EReal) (i j : ℕ) : ℝ := if h : i < r ∧ j < c then (x (ix2 ⟨i, h.1⟩ ⟨j, h.2⟩)).toReal else 0
theorem real2_at {r c : ℕ} (x : (⟨2, ![r, c]⟩ : Shape).Idx → EReal) (i : Fin r) (j : Fin c) : real2 x i j = (x (ix2 i j)).toReal :=
  dif_pos ⟨i.isLt, j.isLt⟩
def real1 {r : ℕ} (x : (⟨1, ![r]⟩ : Shape).Idx → EReal) (i : ℕ) : ℝ := if h : i < r then (x (ix1 ⟨i, h⟩)).toReal else 0
theorem real1_at {r : ℕ} (x : (⟨1, ![r]⟩ : Shape).Idx → EReal) (i : Fin r) : real1 x i = (x (ix1 i)).toReal :=
  dif_pos i.isLt

theorem fin7 [hf : Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    Fin7 ⟨real2 (at0 m c), real2 (at1 m c), real2 (at2 m c), real2 (at3 m c), real2 (at4 m c), real1 (at5 m c), real2 (at6 m c)⟩
      (at0 m c) (at1 m c) (at2 m c) (at3 m c) (at4 m c) (at5 m c) (at6 m c) := by
  obtain ⟨h0, h1, h2, h3, h4, h5, h6⟩ := h c
  constructor
  · intro t j; exact (real_of _ _ _ h0).trans (congrArg _ (real2_at _ _ _).symm)
  · intro t j; exact (real_of _ _ _ h1).trans (congrArg _ (real2_at _ _ _).symm)
  · intro t j; exact (real_of _ _ _ h2).trans (congrArg _ (real2_at _ _ _).symm)
  · intro t j; exact (real_of _ _ _ h3).trans (congrArg _ (real2_at _ _ _).symm)
  · intro t j; exact (real_of _ _ _ h4).trans (congrArg _ (real2_at _ _ _).symm)
  · intro j; exact (real_of _ _ _ h5).trans (congrArg _ (real1_at _ _).symm)
  · intro t j; exact (real_of _ _ _ h6).trans (congrArg _ (real2_at _ _ _).symm)

end Cert.Gla
-- ==== Proof.Prod2.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Claim

@[expose] public section

/-! The gradient of the first normalised stream: blocks of rows by blocks of columns. -/

noncomputable section

namespace Cert.Prod2

open Idealize.ShloMosaic Idealize.ShloMosaic.TcCoe Cert.Kernel2Ideal Cert.Kernel2Ideal.Gen Finset

set_option maxRecDepth 16384

variable (m : (ℓ : Loc nD τ sig) → Buf (Elt Ideal) ℓ) (c : Dev nD)

theorem idx : ∀ t : Fin cfg0.N, win0_0.index t = ![t.val % 12, 0] ∧ win0_1.index t = ![0, t.val / 12] ∧ win0_2.index t = ![t.val % 12, t.val / 12] :=
  (by decide +kernel : ∀ t : Fin grid0.N, _)

theorem out_at (x : Vec Ideal S688x6272 .bf16) (w : Vec Ideal S6272x512 .bf16) (r : Fin 688) (j : Fin 512) :
    out0_2 (F := Ideal) x w (ix2 r j) = ∑ k : Fin 6272, x (ix2 r k) * w (ix2 k j) := by
  unfold out0_2
  simp (disch := decide) only [View.ld_unit_lit', View.canon_cons_unit_lit']
  pointwise [k0_pay1]

/-- The product, entry by entry. -/
def G (x : Vec Ideal S8256x6272 .bf16) (w : Vec Ideal S6272x1024 .bf16) : Vec Ideal S8256x1024 .f32 :=
  fun i => ∑ k : Fin 6272, x (ix2 (i 0) k) * w (ix2 k (i 1))

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (out0_2 (iblk m c 0 t) (iblk m c 1 t)) (eq_ix2 (n0 := 688) (n1 := 512) y)).trans ((out_at _ _ _ _).trans ?_)
  refine sum_congr rfl fun k _ => ?_
  refine congrArg₂ (· * ·) ?_ ?_
  · blk_point [iblk, idx t]
  · blk_point [iblk, idx t]

open Cert.Reference2Ideal.Read in
theorem ref (x0 x1) (i) : val_main_v5 (F := Ideal) x0 x1 i = G x0 x1 i := by
  obtain ⟨a, b, rfl⟩ : ∃ (a : Fin 8256) (b : Fin 1024), i = ix2 a b := ⟨i 0, i 1, eq_ix2 i⟩
  pointwise [val_main_v5, val_main_v4, val_main_v2, val_main_v1]
  rfl

end Cert.Prod2
-- ==== Proof.Tiles.lean ====
module

public import Idealize.ShloMosaic.Lib.Pipeline.ValueKit
public import Idealize.ShloMosaic.Lib.Claim

@[expose] public section

/-! Sums over the 8256 rows, tile by tile. -/

namespace Cert.Tiles

open Finset

theorem split {A : Type*} [AddCommMonoid A] (a b n : ℕ) (h : n = a + b) (f : Fin n → A) :
    ∑ r : Fin n, f r = (∑ r : Fin a, f ⟨r.val, by omega⟩) + ∑ r : Fin b, f ⟨a + r.val, by omega⟩ := by
  subst h
  exact Fin.sum_univ_add f

/-- Three tiles of `b` rows, added one after the other. -/
theorem three {A : Type*} [AddCommMonoid A] {b n : ℕ} (hn : n = b + b + b) (f : Fin n → A) (g : Fin 3 → Fin b → A)
    (h : ∀ i r, g i r = f ⟨i.val * b + r.val, by have := Nat.mul_le_mul_right b (Nat.le_of_lt_succ i.isLt); omega⟩) :
    ((∑ r, g 0 r) + ∑ r, g 1 r) + ∑ r, g 2 r = ∑ k, f k := by
  rw [split (b + b) b n hn f, split b b (b + b) rfl]
  simp only [h]
  congr 1
  · congr 1
    · exact sum_congr rfl fun r _ => congrArg f (Fin.ext (by simp))
    · exact sum_congr rfl fun r _ => congrArg f (Fin.ext (by simp))
  · exact sum_congr rfl fun r _ => congrArg f (Fin.ext (by simp [Nat.two_mul]))

end Cert.Tiles
-- ==== Proof.Prod3.lean ====
module

public import proofs.«01_k».proof.Proof.Tiles
public import proofs.«01_k».proof.Proof.Gen.Kernel3Ideal.Value
public import proofs.«01_k».proof.Proof.Gen.Reference3Ideal.Read

@[expose] public section

/-! The gradient of the packed input projections: seven blocks of columns, each summed over three tiles of rows. -/

noncomputable section

namespace Cert.Prod3

open Idealize.ShloMosaic Idealize.ShloMosaic.TcCoe Cert.Kernel3Ideal Cert.Kernel3Ideal.Gen Finset

set_option maxRecDepth 16384

variable (m : (ℓ : Loc nD τ sig) → Buf (Elt Ideal) ℓ) (c : Dev nD)

theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- One tile's part of the product. -/
def part (x : Vec Ideal S2752x896 .bf16) (y : Vec Ideal S2752x1024 .bf16) : Vec Ideal S896x1024 .f32 :=
  fun i => ∑ r : Fin 2752, x (ix2 r (i 0)) * y (ix2 r (i 1))

theorem first (x y) : k0_pay2 (F := Ideal) x y = part x y := by
  funext i
  obtain ⟨a, b, rfl⟩ : ∃ (a : Fin 896) (b : Fin 1024), i = ix2 a b := ⟨i 0, i 1, eq_ix2 i⟩
  pointwise [k0_pay2, k0_pay1]
  rfl

theorem next (x y s) (i) : k0_pay3 (F := Ideal) x y s i = s i + part x y i := by
  obtain ⟨a, b, rfl⟩ : ∃ (a : Fin 896) (b : Fin 1024), i = ix2 a b := ⟨i 0, i 1, eq_ix2 i⟩
  pointwise [k0_pay3, k0_pay1]
  rfl

section

variable {i : grid0.Coords} {arg3 : Memref sig .tc .vmem S2752x896 .bf16} {harg3 : arg3.IsWhole} {arg4 : Memref sig .tc .vmem S2752x1024 .bf16} {harg4 : arg4.IsWhole}
  {arg5 : Memref sig .tc .vmem S896x1024 .bf16} {harg5 : arg5.IsWhole} {arg6 : Memref sig .tc .vmem S896x1024 .f32} {harg6 : arg6.IsWhole} {x : Vec Ideal S2752x896 .bf16} {y : Vec Ideal S2752x1024 .bf16} {s : Vec Ideal S896x1024 .f32}

theorem scr_A {h0 h1 h2} : sout0_A_0 (F := Ideal) c i arg3 harg3 arg4 harg4 arg5 harg5 arg6 harg6 h0 h1 h2 x y = k0_pay2 x y := by
  unfold sout0_A_0
  rw [View.read_writes_junk_eq_canon]
  unfold kernelRun0_A
  dsimp only
  simp (disch := decide) only [View.readCov, View.readAt_eq_ld, Memref.IsWhole.read_unread, View.ld_unit_lit', View.canon_cons_unit_lit']

theorem scr_B {h0 h1 h2} : sout0_B_0 (F := Ideal) c i arg3 harg3 arg4 harg4 arg5 harg5 arg6 harg6 h0 h1 h2 x y s = k0_pay3 x y s := by
  unfold sout0_B_0
  rw [View.read_writes_junk_eq_canon]
  unfold kernelRun0_B
  dsimp only
  simp (disch := decide) only [View.readCov, View.readAt_eq_ld, Memref.IsWhole.read_unread, View.ld_unit_lit', View.canon_cons_unit_lit']

theorem out_C {h0 h1 h2} : out0_C_2 (F := Ideal) c i arg3 harg3 arg4 harg4 arg5 harg5 arg6 harg6 h0 h1 h2 x y s = k0_pay4 (k0_pay3 x y s) := by
  unfold out0_C_2
  rw [View.read_writes_junk_eq_canon]
  unfold kernelRun0_C
  dsimp only
  sl_unfold_words
  simp (disch := decide) only [View.readCov, View.read_writes_junk_eq_canon, View.readAt_eq_ld, Memref.IsWhole.read_unread, View.ld_unit_lit', View.canon_cons_unit_lit']

end

/-- One row's share of an entry of the product. -/
def prod (x : Vec Ideal S8256x6272 .bf16) (y : Vec Ideal S8256x1024 .bf16) (p : Fin 6272) (q : Fin 1024) (k : Fin 8256) : EReal := x (ix2 k p) * y (ix2 k q)

/-- The product, entry by entry. -/
def G (x : Vec Ideal S8256x6272 .bf16) (y : Vec Ideal S8256x1024 .bf16) : Vec Ideal S6272x1024 .bf16 :=
  fun i => ∑ k : Fin 8256, prod x y (i 0) (i 1) k

theorem out_at (t : Fin cfg0.N) (h : t.val % 3 = 2) (i) : (outsAt0 m c t.val t.isLt).1 i =
    (part (iblk m c 0 ⟨t.val - 2, by omega⟩) (iblk m c 1 ⟨t.val - 2, by omega⟩) i + part (iblk m c 0 ⟨t.val - 1, by omega⟩) (iblk m c 1 ⟨t.val - 1, by omega⟩) i)
      + part (iblk m c 0 t) (iblk m c 1 t) i := by
  rw [outsAt0_C m c t (by omega) (by omega) h]
  dsimp only
  rw [out_C, show outsAt0 m c (t.val - 1) _ = _ from outsAt0_B m c ⟨t.val - 1, by omega⟩ (by simp only; omega) (by simp only; omega) (by simp only; omega)]
  dsimp only
  rw [scr_B, show outsAt0 m c (t.val - 1 - 1) _ = _ from outsAt0_A m c ⟨t.val - 2, by omega⟩ (by simp only; omega) (by simp only; omega) (by simp only; omega)]
  dsimp only
  rw [scr_A, first]
  exact (next _ _ _ _).trans (congrArg (· + _) (next _ _ _ _))

theorem part_at (t : Fin cfg0.N) (i : Fin 3) (hi : t.val % 3 = i.val) (a : Fin 896) (b : Fin 1024) (p : Fin 6272) (hp : p.val = t.val / 3 * 896 + a.val) :
    part (iblk m c 0 t) (iblk m c 1 t) (ix2 a b) = ∑ r : Fin 2752, (fun k : Fin 8256 => prod (V m c main_arg0) (V m c main_arg1) p b k) ⟨i.val * 2752 + r.val, by omega⟩ := by
  refine sum_congr rfl fun r _ => congrArg₂ (· * ·) ?_ ?_
  · blk_point [iblk, idx t, hi, hp]
  · blk_point [iblk, idx t, hi]

theorem block_at (t : Fin cfg0.N) (ht : t.val % 3 = 2) (a : Fin 896) (b : Fin 1024) (p : Fin 6272) (hp : p.val = t.val / 3 * 896 + a.val) :
    (outsAt0 m c t.val t.isLt).1 (ix2 a b) = ∑ k : Fin 8256, prod (V m c main_arg0) (V m c main_arg1) p b k := by
  rw [out_at m c t ht, part_at m c ⟨t.val - 2, by omega⟩ 0 (by simp only [Fin.val_zero]; omega) a b p (by simp only; omega),
    part_at m c ⟨t.val - 1, by omega⟩ 1 (by simp only [Fin.val_one]; omega) a b p (by simp only; omega),
    part_at m c t 2 (by simp only [Fin.val_two]; omega) a b p hp]
  exact Tiles.three (b := 2752) rfl _ _ fun _ _ => rfl

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (outsAt0 m c t.val t.isLt).1 (eq_ix2 (n0 := 896) (n1 := 1024) y)).trans
    ((block_at m c t ((flush0_2 t).mp hf) _ _ (((win0_2.blk t).view.emb y) 0) ?_).trans ?_)
  · blk_simp [idx t]
  · refine sum_congr rfl fun k _ => congrArg (fun q => prod (V m c main_arg0) (V m c main_arg1) _ q k) (Fin.ext ?_)
    blk_simp [idx t]

open Cert.Reference3Ideal.Read in
theorem ref (x0 x1) (i) : val_main_v8 (F := Ideal) x0 x1 i = G x0 x1 i := by
  obtain ⟨a, b, rfl⟩ : ∃ (a : Fin 6272) (b : Fin 1024), i = ix2 a b := ⟨i 0, i 1, eq_ix2 i⟩
  pointwise [val_main_v8, val_main_v7, val_main_v6, val_main_v5, val_main_v4, val_main_v1]
  rfl

end Cert.Prod3
-- ==== Proof.Prod4.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

/-! The gradient of the second normalised stream: the up projection's two halves, added. -/

noncomputable section

namespace Cert.Prod4

open Idealize.ShloMosaic Idealize.ShloMosaic.TcCoe Cert.Kernel4Ideal Cert.Kernel4Ideal.Gen Finset

set_option maxRecDepth 16384

variable (m : (ℓ : Loc nD τ sig) → Buf (Elt Ideal) ℓ) (c : Dev nD)

theorem idx : ∀ t : Fin cfg0.N, win0_0.index t = ![0, t.val % 12, 0] ∧ win0_1.index t = ![0, t.val / 12] ∧ win0_2.index t = ![t.val % 12, t.val / 12] :=
  (by decide +kernel : ∀ t : Fin grid0.N, _)

theorem out_at (x : Vec Ideal S2x688x2816 .bf16) (w : Vec Ideal S5632x512 .bf16) (r : Fin 688) (j : Fin 512) :
    out0_2 (F := Ideal) x w (ix2 r j) = (∑ k : Fin 2816, x (ix3 0 r k) * w (ix2 ⟨k.val, by omega⟩ j))
      + ∑ k : Fin 2816, x (ix3 1 r k) * w (ix2 ⟨2816 + k.val, by omega⟩ j) := by
  unfold out0_2
  simp (disch := decide) only [View.canon_cons_unit_lit']
  pointwise [k0_pay1]

/-- The product, entry by entry. -/
def G (x : Vec Ideal S2x8256x2816 .bf16) (w : Vec Ideal S5632x1024 .bf16) : Vec Ideal S8256x1024 .f32 :=
  fun i => (∑ k : Fin 2816, x (ix3 0 (i 0) k) * w (ix2 ⟨k.val, by omega⟩ (i 1))) + ∑ k : Fin 2816, x (ix3 1 (i 0) k) * w (ix2 ⟨2816 + k.val, by omega⟩ (i 1))

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (out0_2 (iblk m c 0 t) (iblk m c 1 t)) (eq_ix2 (n0 := 688) (n1 := 512) y)).trans ((out_at _ _ _ _).trans ?_)
  refine congrArg₂ (· + ·) (sum_congr rfl fun k _ => congrArg₂ (· * ·) ?_ ?_) (sum_congr rfl fun k _ => congrArg₂ (· * ·) ?_ ?_)
  · blk_point [iblk, idx t]
  · blk_point [iblk, idx t]
  · blk_point [iblk, idx t]
  · blk_point [iblk, idx t]

open Cert.Reference4Ideal.Read in
theorem ref (x0 x1) (i) : val_main_v10 (F := Ideal) x0 x1 i = G x0 x1 i := by
  obtain ⟨a, b, rfl⟩ : ∃ (a : Fin 8256) (b : Fin 1024), i = ix2 a b := ⟨i 0, i 1, eq_ix2 i⟩
  pointwise [val_main_v10, val_main_v9, val_main_v8, val_main_v7, val_main_v6, val_main_v5, val_main_v4, val_main_v2, val_main_v1]
  rfl

end Cert.Prod4
-- ==== Proof.Prod5.lean ====
module

public import proofs.«01_k».proof.Proof.Tiles
public import proofs.«01_k».proof.Proof.Gen.Kernel5Ideal.Value
public import proofs.«01_k».proof.Proof.Gen.Reference5Ideal.Read

@[expose] public section

/-! The gradient of the up projection: two halves of two blocks of columns, each summed over three tiles of rows. -/

noncomputable section

namespace Cert.Prod5

open Idealize.ShloMosaic Idealize.ShloMosaic.TcCoe Cert.Kernel5Ideal Cert.Kernel5Ideal.Gen Finset

set_option maxRecDepth 16384

variable (m : (ℓ : Loc nD τ sig) → Buf (Elt Ideal) ℓ) (c : Dev nD)

theorem idx : ∀ t : Fin cfg0.N, win0_0.index t = ![t.val / 6, t.val % 3, t.val / 3 % 2] ∧ win0_1.index t = ![t.val % 3, 0] ∧ win0_2.index t = ![t.val / 3, 0] :=
  (by decide +kernel : ∀ t : Fin grid0.N, _)

/-- One tile's part of the product. -/
def part (x : Vec Ideal S1x2752x1408 .bf16) (y : Vec Ideal S2752x1024 .bf16) : Vec Ideal S1408x1024 .f32 :=
  fun i => ∑ r : Fin 2752, x (ix3 0 r (i 0)) * y (ix2 r (i 1))

theorem first (x y) : k0_pay2 (F := Ideal) x y = part x y := by
  funext i
  obtain ⟨a, b, rfl⟩ : ∃ (a : Fin 1408) (b : Fin 1024), i = ix2 a b := ⟨i 0, i 1, eq_ix2 i⟩
  pointwise [k0_pay2, k0_pay1]
  rfl

theorem next (x y s) (i) : k0_pay3 (F := Ideal) x y s i = s i + part x y i := by
  obtain ⟨a, b, rfl⟩ : ∃ (a : Fin 1408) (b : Fin 1024), i = ix2 a b := ⟨i 0, i 1, eq_ix2 i⟩
  pointwise [k0_pay3, k0_pay1]
  rfl

section

variable {i : grid0.Coords} {arg3 : Memref sig .tc .vmem S1x2752x1408 .bf16} {harg3 : arg3.IsWhole} {arg4 : Memref sig .tc .vmem S2752x1024 .bf16} {harg4 : arg4.IsWhole}
  {arg5 : Memref sig .tc .vmem S1408x1024 .bf16} {harg5 : arg5.IsWhole} {arg6 : Memref sig .tc .vmem S1408x1024 .f32} {harg6 : arg6.IsWhole} {x : Vec Ideal S1x2752x1408 .bf16} {y : Vec Ideal S2752x1024 .bf16} {s : Vec Ideal S1408x1024 .f32}

theorem scr_A {h0 h1 h2} : sout0_A_0 (F := Ideal) c i arg3 harg3 arg4 harg4 arg5 harg5 arg6 harg6 h0 h1 h2 x y = k0_pay2 x y := by
  unfold sout0_A_0
  rw [View.read_writes_junk_eq_canon]
  unfold kernelRun0_A
  dsimp only
  simp (disch := decide) only [View.readCov, View.readAt_eq_ld, Memref.IsWhole.read_unread, View.ld_unit_lit', View.canon_cons_unit_lit']

theorem scr_B {h0 h1 h2} : sout0_B_0 (F := Ideal) c i arg3 harg3 arg4 harg4 arg5 harg5 arg6 harg6 h0 h1 h2 x y s = k0_pay3 x y s := by
  unfold sout0_B_0
  rw [View.read_writes_junk_eq_canon]
  unfold kernelRun0_B
  dsimp only
  simp (disch := decide) only [View.readCov, View.readAt_eq_ld, Memref.IsWhole.read_unread, View.ld_unit_lit', View.canon_cons_unit_lit']

theorem out_C {h0 h1 h2} : out0_C_2 (F := Ideal) c i arg3 harg3 arg4 harg4 arg5 harg5 arg6 harg6 h0 h1 h2 x y s = k0_pay4 (k0_pay3 x y s) := by
  unfold out0_C_2
  rw [View.read_writes_junk_eq_canon]
  unfold kernelRun0_C
  dsimp only
  sl_unfold_words
  simp (disch := decide) only [View.readCov, View.read_writes_junk_eq_canon, View.readAt_eq_ld, Memref.IsWhole.read_unread, View.ld_unit_lit', View.canon_cons_unit_lit']

end

/-- One row's share of an entry of the product. -/
def prod (x : Vec Ideal S2x8256x2816 .bf16) (y : Vec Ideal S8256x1024 .bf16) (p : Fin 5632) (q : Fin 1024) (k : Fin 8256) : EReal := x (ix3 ⟨p.val / 2816, by omega⟩ k ⟨p.val % 2816, by omega⟩) * y (ix2 k q)

/-- The product, entry by entry. -/
def G (x : Vec Ideal S2x8256x2816 .bf16) (y : Vec Ideal S8256x1024 .bf16) : Vec Ideal S5632x1024 .bf16 :=
  fun i => ∑ k : Fin 8256, prod x y (i 0) (i 1) k

theorem out_at (t : Fin cfg0.N) (h : t.val % 3 = 2) (i) : (outsAt0 m c t.val t.isLt).1 i =
    (part (iblk m c 0 ⟨t.val - 2, by omega⟩) (iblk m c 1 ⟨t.val - 2, by omega⟩) i + part (iblk m c 0 ⟨t.val - 1, by omega⟩) (iblk m c 1 ⟨t.val - 1, by omega⟩) i)
      + part (iblk m c 0 t) (iblk m c 1 t) i := by
  rw [outsAt0_C m c t (by omega) (by omega) h]
  dsimp only
  rw [out_C, show outsAt0 m c (t.val - 1) _ = _ from outsAt0_B m c ⟨t.val - 1, by omega⟩ (by simp only; omega) (by simp only; omega) (by simp only; omega)]
  dsimp only
  rw [scr_B, show outsAt0 m c (t.val - 1 - 1) _ = _ from outsAt0_A m c ⟨t.val - 2, by omega⟩ (by simp only; omega) (by simp only; omega) (by simp only; omega)]
  dsimp only
  rw [scr_A, first]
  exact (next _ _ _ _).trans (congrArg (· + _) (next _ _ _ _))

theorem part_at (t : Fin cfg0.N) (i : Fin 3) (hi : t.val % 3 = i.val) (a : Fin 1408) (b : Fin 1024) (p : Fin 5632) (hp : p.val = t.val / 3 * 1408 + a.val) :
    part (iblk m c 0 t) (iblk m c 1 t) (ix2 a b) = ∑ r : Fin 2752, (fun k : Fin 8256 => prod (V m c main_arg0) (V m c main_arg1) p b k) ⟨i.val * 2752 + r.val, by omega⟩ := by
  refine sum_congr rfl fun r _ => congrArg₂ (· * ·) ?_ ?_
  · blk_point [iblk, idx t, hi, hp]
  · blk_point [iblk, idx t, hi]

theorem block_at (t : Fin cfg0.N) (ht : t.val % 3 = 2) (a : Fin 1408) (b : Fin 1024) (p : Fin 5632) (hp : p.val = t.val / 3 * 1408 + a.val) :
    (outsAt0 m c t.val t.isLt).1 (ix2 a b) = ∑ k : Fin 8256, prod (V m c main_arg0) (V m c main_arg1) p b k := by
  rw [out_at m c t ht, part_at m c ⟨t.val - 2, by omega⟩ 0 (by simp only [Fin.val_zero]; omega) a b p (by simp only; omega),
    part_at m c ⟨t.val - 1, by omega⟩ 1 (by simp only [Fin.val_one]; omega) a b p (by simp only; omega),
    part_at m c t 2 (by simp only [Fin.val_two]; omega) a b p hp]
  exact Tiles.three (b := 2752) rfl _ _ fun _ _ => rfl

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (outsAt0 m c t.val t.isLt).1 (eq_ix2 (n0 := 1408) (n1 := 1024) y)).trans
    ((block_at m c t ((flush0_2 t).mp hf) _ _ (((win0_2.blk t).view.emb y) 0) ?_).trans ?_)
  · blk_simp [idx t]
  · refine sum_congr rfl fun k _ => congrArg (fun q => prod (V m c main_arg0) (V m c main_arg1) _ q k) (Fin.ext ?_)
    blk_simp [idx t]

open Cert.Reference5Ideal.Read in
theorem ref (x0 x1) (i) : val_main_v13 (F := Ideal) x0 x1 i = G x0 x1 i := by
  obtain ⟨a, b, rfl⟩ : ∃ (a : Fin 5632) (b : Fin 1024), i = ix2 a b := ⟨i 0, i 1, eq_ix2 i⟩
  pointwise [val_main_v13, val_main_v12, val_main_v11, val_main_v10, val_main_v9, val_main_v8, val_main_v7, val_main_v6, val_main_v5, val_main_v4, val_main_v1]
  refine sum_congr rfl fun k _ => congrArg (· * _) ?_
  show _ = x0 (ix3 ⟨a.val / 2816, by omega⟩ k ⟨a.val % 2816, by omega⟩)
  by_cases h : a.val < 2816
  · rw [dif_pos h]
    exact congrArg₂ (fun u v => x0 (ix3 u k v)) (Fin.ext (show 0 = a.val / 2816 by omega)) (Fin.ext (show a.val = a.val % 2816 by omega))
  · rw [dif_neg h]
    exact congrArg₂ (fun u v => x0 (ix3 u k v)) (Fin.ext (show 1 = a.val / 2816 by omega)) (Fin.ext (show a.val - 2816 = a.val % 2816 by omega))

end Cert.Prod5
-- ==== Proof.Prod6.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section

/-! The gradient of the down projection's operand: six blocks of rows. -/

noncomputable section

namespace Cert.Prod6

open Idealize.ShloMosaic Idealize.ShloMosaic.TcCoe Cert.Kernel6Ideal Cert.Kernel6Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem out_eq (t : Fin cfg0.N) : outsAt0 m c t = k0_pay1 (iblk m c 0 t) (iblk m c 1 t) := by
  unfold outsAt0 out0_A_2
  rw [View.read_writes_junk_eq_canon]
  unfold kernelRun0_A
  dsimp only
  simp (disch := decide) only [View.readCov, View.readAt_eq_ld, Memref.IsWhole.read_unread, View.ld_unit_lit', View.canon_cons_unit_lit']

theorem pay_at (x : Vec Ideal S1376x1024 .bf16) (w : Vec Ideal S2816x1024 .bf16) (r : Fin 1376) (j : Fin 2816) :
    k0_pay1 (F := Ideal) x w (ix2 r j) = ∑ k : Fin 1024, x (ix2 r k) * w (ix2 j k) := by
  pointwise [k0_pay1]

/-- The product, entry by entry. -/
def G (x : Vec Ideal S8256x1024 .bf16) (w : Vec Ideal S2816x1024 .bf16) : Vec Ideal S8256x2816 .bf16 :=
  fun i => ∑ k : Fin 1024, x (ix2 (i 0) k) * w (ix2 (i 1) k)

theorem final : (dats m 0 c).arrAt 2 cfg0.N = G (V m c main_arg0) (V m c main_arg1) := by
  refine (dats m 0 c).arrAt_eq_of_covers 2 _ (by decide +kernel) (fun t hf y => ?_)
  rw [after0_2, out_eq]
  blk_simp [idx t]
  refine (congrArg (k0_pay1 (iblk m c 0 t) (iblk m c 1 t)) (eq_ix2 (n0 := 1376) (n1 := 2816) y)).trans ((pay_at _ _ _ _).trans ?_)
  refine sum_congr rfl fun k _ => congrArg₂ (· * ·) ?_ ?_
  · blk_point [iblk, idx t]
  · blk_point [iblk, idx t]

open Cert.Reference6Ideal.Read in
theorem ref (x0 x1) (i) : val_main_v5 (F := Ideal) x0 x1 i = G x0 x1 i := by
  obtain ⟨a, b, rfl⟩ : ∃ (a : Fin 8256) (b : Fin 2816), i = ix2 a b := ⟨i 0, i 1, eq_ix2 i⟩
  pointwise [val_main_v5, val_main_v4, val_main_v3, val_main_v1]
  rfl

end Cert.Prod6
-- ==== Proof.Prod7.lean ====
module

public import proofs.«01_k».proof.Proof.Tiles
public import proofs.«01_k».proof.Proof.Gen.Kernel7Ideal.Value
public import proofs.«01_k».proof.Proof.Gen.Reference7Ideal.Read

@[expose] public section

/-! The gradient of the down projection: two blocks of columns, each summed over three tiles of rows. -/

noncomputable section

namespace Cert.Prod7

open Idealize.ShloMosaic Idealize.ShloMosaic.TcCoe Cert.Kernel7Ideal Cert.Kernel7Ideal.Gen Finset

set_option maxRecDepth 16384

variable (m : (ℓ : Loc nD τ sig) → Buf (Elt Ideal) ℓ) (c : Dev nD)

theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- One tile's part of the product. -/
def part (x : Vec Ideal S2752x1408 .bf16) (y : Vec Ideal S2752x1024 .bf16) : Vec Ideal S1408x1024 .f32 :=
  fun i => ∑ r : Fin 2752, x (ix2 r (i 0)) * y (ix2 r (i 1))

theorem first (x y) : k0_pay2 (F := Ideal) x y = part x y := by
  funext i
  obtain ⟨a, b, rfl⟩ : ∃ (a : Fin 1408) (b : Fin 1024), i = ix2 a b := ⟨i 0, i 1, eq_ix2 i⟩
  pointwise [k0_pay2, k0_pay1]
  rfl

theorem next (x y s) (i) : k0_pay3 (F := Ideal) x y s i = s i + part x y i := by
  obtain ⟨a, b, rfl⟩ : ∃ (a : Fin 1408) (b : Fin 1024), i = ix2 a b := ⟨i 0, i 1, eq_ix2 i⟩
  pointwise [k0_pay3, k0_pay1]
  rfl

section

variable {i : grid0.Coords} {arg3 : Memref sig .tc .vmem S2752x1408 .bf16} {harg3 : arg3.IsWhole} {arg4 : Memref sig .tc .vmem S2752x1024 .bf16} {harg4 : arg4.IsWhole}
  {arg5 : Memref sig .tc .vmem S1408x1024 .bf16} {harg5 : arg5.IsWhole} {arg6 : Memref sig .tc .vmem S1408x1024 .f32} {harg6 : arg6.IsWhole} {x : Vec Ideal S2752x1408 .bf16} {y : Vec Ideal S2752x1024 .bf16} {s : Vec Ideal S1408x1024 .f32}

theorem scr_A {h0 h1 h2} : sout0_A_0 (F := Ideal) c i arg3 harg3 arg4 harg4 arg5 harg5 arg6 harg6 h0 h1 h2 x y = k0_pay2 x y := by
  unfold sout0_A_0
  rw [View.read_writes_junk_eq_canon]
  unfold kernelRun0_A
  dsimp only
  simp (disch := decide) only [View.readCov, View.readAt_eq_ld, Memref.IsWhole.read_unread, View.ld_unit_lit', View.canon_cons_unit_lit']

theorem scr_B {h0 h1 h2} : sout0_B_0 (F := Ideal) c i arg3 harg3 arg4 harg4 arg5 harg5 arg6 harg6 h0 h1 h2 x y s = k0_pay3 x y s := by
  unfold sout0_B_0
  rw [View.read_writes_junk_eq_canon]
  unfold kernelRun0_B
  dsimp only
  simp (disch := decide) only [View.readCov, View.readAt_eq_ld, Memref.IsWhole.read_unread, View.ld_unit_lit', View.canon_cons_unit_lit']

theorem out_C {h0 h1 h2} : out0_C_2 (F := Ideal) c i arg3 harg3 arg4 harg4 arg5 harg5 arg6 harg6 h0 h1 h2 x y s = k0_pay4 (k0_pay3 x y s) := by
  unfold out0_C_2
  rw [View.read_writes_junk_eq_canon]
  unfold kernelRun0_C
  dsimp only
  sl_unfold_words
  simp (disch := decide) only [View.readCov, View.read_writes_junk_eq_canon, View.readAt_eq_ld, Memref.IsWhole.read_unread, View.ld_unit_lit', View.canon_cons_unit_lit']

end

/-- One row's share of an entry of the product. -/
def prod (x : Vec Ideal S8256x2816 .bf16) (y : Vec Ideal S8256x1024 .bf16) (p : Fin 2816) (q : Fin 1024) (k : Fin 8256) : EReal := x (ix2 k p) * y (ix2 k q)

/-- The product, entry by entry. -/
def G (x : Vec Ideal S8256x2816 .bf16) (y : Vec Ideal S8256x1024 .bf16) : Vec Ideal S2816x1024 .bf16 :=
  fun i => ∑ k : Fin 8256, prod x y (i 0) (i 1) k

theorem out_at (t : Fin cfg0.N) (h : t.val % 3 = 2) (i) : (outsAt0 m c t.val t.isLt).1 i =
    (part (iblk m c 0 ⟨t.val - 2, by omega⟩) (iblk m c 1 ⟨t.val - 2, by omega⟩) i + part (iblk m c 0 ⟨t.val - 1, by omega⟩) (iblk m c 1 ⟨t.val - 1, by omega⟩) i)
      + part (iblk m c 0 t) (iblk m c 1 t) i := by
  rw [outsAt0_C m c t (by omega) (by omega) h]
  dsimp only
  rw [out_C, show outsAt0 m c (t.val - 1) _ = _ from outsAt0_B m c ⟨t.val - 1, by omega⟩ (by simp only; omega) (by simp only; omega) (by simp only; omega)]
  dsimp only
  rw [scr_B, show outsAt0 m c (t.val - 1 - 1) _ = _ from outsAt0_A m c ⟨t.val - 2, by omega⟩ (by simp only; omega) (by simp only; omega) (by simp only; omega)]
  dsimp only
  rw [scr_A, first]
  exact (next _ _ _ _).trans (congrArg (· + _) (next _ _ _ _))

theorem part_at (t : Fin cfg0.N) (i : Fin 3) (hi : t.val % 3 = i.val) (a : Fin 1408) (b : Fin 1024) (p : Fin 2816) (hp : p.val = t.val / 3 * 1408 + a.val) :
    part (iblk m c 0 t) (iblk m c 1 t) (ix2 a b) = ∑ r : Fin 2752, (fun k : Fin 8256 => prod (V m c main_arg0) (V m c main_arg1) p b k) ⟨i.val * 2752 + r.val, by omega⟩ := by
  refine sum_congr rfl fun r _ => congrArg₂ (· * ·) ?_ ?_
  · blk_point [iblk, idx t, hi, hp]
  · blk_point [iblk, idx t, hi]

theorem block_at (t : Fin cfg0.N) (ht : t.val % 3 = 2) (a : Fin 1408) (b : Fin 1024) (p : Fin 2816) (hp : p.val = t.val / 3 * 1408 + a.val) :
    (outsAt0 m c t.val t.isLt).1 (ix2 a b) = ∑ k : Fin 8256, prod (V m c main_arg0) (V m c main_arg1) p b k := by
  rw [out_at m c t ht, part_at m c ⟨t.val - 2, by omega⟩ 0 (by simp only [Fin.val_zero]; omega) a b p (by simp only; omega),
    part_at m c ⟨t.val - 1, by omega⟩ 1 (by simp only [Fin.val_one]; omega) a b p (by simp only; omega),
    part_at m c t 2 (by simp only [Fin.val_two]; omega) a b p hp]
  exact Tiles.three (b := 2752) rfl _ _ fun _ _ => rfl

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (outsAt0 m c t.val t.isLt).1 (eq_ix2 (n0 := 1408) (n1 := 1024) y)).trans
    ((block_at m c t ((flush0_2 t).mp hf) _ _ (((win0_2.blk t).view.emb y) 0) ?_).trans ?_)
  · blk_simp [idx t]
  · refine sum_congr rfl fun k _ => congrArg (fun q => prod (V m c main_arg0) (V m c main_arg1) _ q k) (Fin.ext ?_)
    blk_simp [idx t]

open Cert.Reference7Ideal.Read in
theorem ref (x0 x1) (i) : val_main_v6 (F := Ideal) x0 x1 i = G x0 x1 i := by
  obtain ⟨a, b, rfl⟩ : ∃ (a : Fin 2816) (b : Fin 1024), i = ix2 a b := ⟨i 0, i 1, eq_ix2 i⟩
  pointwise [val_main_v6, val_main_v5, val_main_v4, val_main_v3, val_main_v1]
  exact sum_congr rfl fun k _ => mul_comm _ _

end Cert.Prod7
-- ==== Proof.Prod8.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Claim

@[expose] public section

/-! The gradient of the operand of a square weight: three blocks of rows. -/

noncomputable section

namespace Cert.Prod8

open Idealize.ShloMosaic Idealize.ShloMosaic.TcCoe Cert.Kernel8Ideal Cert.Kernel8Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem out_eq (t : Fin cfg0.N) : outsAt0 m c t = k0_pay1 (iblk m c 0 t) (iblk m c 1 t) := by
  unfold outsAt0 out0_A_2
  rw [View.read_writes_junk_eq_canon]
  unfold kernelRun0_A
  dsimp only
  simp (disch := decide) only [View.readCov, View.readAt_eq_ld, Memref.IsWhole.read_unread, View.ld_unit_lit', View.canon_cons_unit_lit']

theorem pay_at (x : Vec Ideal S2752x1024 .bf16) (w : Vec Ideal S1024x1024 .bf16) (r : Fin 2752) (j : Fin 1024) :
    k0_pay1 (F := Ideal) x w (ix2 r j) = ∑ k : Fin 1024, x (ix2 r k) * w (ix2 j k) := by
  pointwise [k0_pay1]

/-- The product, entry by entry. -/
def G (x : Vec Ideal S8256x1024 .bf16) (w : Vec Ideal S1024x1024 .bf16) : Vec Ideal S8256x1024 .bf16 :=
  fun i => ∑ k : Fin 1024, x (ix2 (i 0) k) * w (ix2 (i 1) k)

theorem final : (dats m 0 c).arrAt 2 cfg0.N = G (V m c main_arg0) (V m c main_arg1) := by
  refine (dats m 0 c).arrAt_eq_of_covers 2 _ (by decide +kernel) (fun t hf y => ?_)
  rw [after0_2, out_eq]
  blk_simp [idx t]
  refine (congrArg (k0_pay1 (iblk m c 0 t) (iblk m c 1 t)) (eq_ix2 (n0 := 2752) (n1 := 1024) y)).trans ((pay_at _ _ _ _).trans ?_)
  refine sum_congr rfl fun k _ => congrArg₂ (· * ·) ?_ ?_
  · blk_point [iblk, idx t]
  · blk_point [iblk, idx t]

open Cert.Reference8Ideal.Read in
theorem ref (x0 x1) (i) : val_main_v5 (F := Ideal) x0 x1 i = G x0 x1 i := by
  obtain ⟨a, b, rfl⟩ : ∃ (a : Fin 8256) (b : Fin 1024), i = ix2 a b := ⟨i 0, i 1, eq_ix2 i⟩
  pointwise [val_main_v5, val_main_v4, val_main_v3, val_main_v1]
  rfl

end Cert.Prod8
-- ==== Proof.Prod9.lean ====
module

public import proofs.«01_k».proof.Proof.Tiles
public import proofs.«01_k».proof.Proof.Gen.Kernel9Ideal.Value
public import proofs.«01_k».proof.Proof.Gen.Reference9Ideal.Read

@[expose] public section

/-! The gradient of a square weight (the two gates and the merged projection): summed over three tiles of rows. -/

noncomputable section

namespace Cert.Prod9

open Idealize.ShloMosaic Idealize.ShloMosaic.TcCoe Cert.Kernel9Ideal Cert.Kernel9Ideal.Gen Finset

set_option maxRecDepth 16384

variable (m : (ℓ : Loc nD τ sig) → Buf (Elt Ideal) ℓ) (c : Dev nD)

theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- One tile's part of the product. -/
def part (x : Vec Ideal S2752x1024 .bf16) (y : Vec Ideal S2752x1024 .bf16) : Vec Ideal S1024x1024 .f32 :=
  fun i => ∑ r : Fin 2752, x (ix2 r (i 0)) * y (ix2 r (i 1))

theorem first (x y) : k0_pay2 (F := Ideal) x y = part x y := by
  funext i
  obtain ⟨a, b, rfl⟩ : ∃ (a : Fin 1024) (b : Fin 1024), i = ix2 a b := ⟨i 0, i 1, eq_ix2 i⟩
  pointwise [k0_pay2, k0_pay1]
  rfl

theorem next (x y s) (i) : k0_pay3 (F := Ideal) x y s i = s i + part x y i := by
  obtain ⟨a, b, rfl⟩ : ∃ (a : Fin 1024) (b : Fin 1024), i = ix2 a b := ⟨i 0, i 1, eq_ix2 i⟩
  pointwise [k0_pay3, k0_pay1]
  rfl

section

variable {i : grid0.Coords} {arg3 : Memref sig .tc .vmem S2752x1024 .bf16} {harg3 : arg3.IsWhole} {arg4 : Memref sig .tc .vmem S2752x1024 .bf16} {harg4 : arg4.IsWhole}
  {arg5 : Memref sig .tc .vmem S1024x1024 .bf16} {harg5 : arg5.IsWhole} {arg6 : Memref sig .tc .vmem S1024x1024 .f32} {harg6 : arg6.IsWhole} {x : Vec Ideal S2752x1024 .bf16} {y : Vec Ideal S2752x1024 .bf16} {s : Vec Ideal S1024x1024 .f32}

theorem scr_A {h0 h1 h2} : sout0_A_0 (F := Ideal) c i arg3 harg3 arg4 harg4 arg5 harg5 arg6 harg6 h0 h1 h2 x y = k0_pay2 x y := by
  unfold sout0_A_0
  rw [View.read_writes_junk_eq_canon]
  unfold kernelRun0_A
  dsimp only
  simp (disch := decide) only [View.readCov, View.readAt_eq_ld, Memref.IsWhole.read_unread, View.ld_unit_lit', View.canon_cons_unit_lit']

theorem scr_B {h0 h1 h2} : sout0_B_0 (F := Ideal) c i arg3 harg3 arg4 harg4 arg5 harg5 arg6 harg6 h0 h1 h2 x y s = k0_pay3 x y s := by
  unfold sout0_B_0
  rw [View.read_writes_junk_eq_canon]
  unfold kernelRun0_B
  dsimp only
  simp (disch := decide) only [View.readCov, View.readAt_eq_ld, Memref.IsWhole.read_unread, View.ld_unit_lit', View.canon_cons_unit_lit']

theorem out_C {h0 h1 h2} : out0_C_2 (F := Ideal) c i arg3 harg3 arg4 harg4 arg5 harg5 arg6 harg6 h0 h1 h2 x y s = k0_pay4 (k0_pay3 x y s) := by
  unfold out0_C_2
  rw [View.read_writes_junk_eq_canon]
  unfold kernelRun0_C
  dsimp only
  sl_unfold_words
  simp (disch := decide) only [View.readCov, View.read_writes_junk_eq_canon, View.readAt_eq_ld, Memref.IsWhole.read_unread, View.ld_unit_lit', View.canon_cons_unit_lit']

end

/-- One row's share of an entry of the product. -/
def prod (x : Vec Ideal S8256x1024 .bf16) (y : Vec Ideal S8256x1024 .bf16) (p : Fin 1024) (q : Fin 1024) (k : Fin 8256) : EReal := x (ix2 k p) * y (ix2 k q)

/-- The product, entry by entry. -/
def G (x : Vec Ideal S8256x1024 .bf16) (y : Vec Ideal S8256x1024 .bf16) : Vec Ideal S1024x1024 .bf16 :=
  fun i => ∑ k : Fin 8256, prod x y (i 0) (i 1) k

theorem out_at (t : Fin cfg0.N) (h : t.val % 3 = 2) (i) : (outsAt0 m c t.val t.isLt).1 i =
    (part (iblk m c 0 ⟨t.val - 2, by omega⟩) (iblk m c 1 ⟨t.val - 2, by omega⟩) i + part (iblk m c 0 ⟨t.val - 1, by omega⟩) (iblk m c 1 ⟨t.val - 1, by omega⟩) i)
      + part (iblk m c 0 t) (iblk m c 1 t) i := by
  have hN : t.val < 3 := lt_of_lt_of_eq t.isLt N_0
  rw [outsAt0_C m c t (by omega) (by omega) h]
  dsimp only
  rw [out_C, show outsAt0 m c (t.val - 1) _ = _ from outsAt0_B m c ⟨t.val - 1, by omega⟩ (by simp only; omega) (by simp only; omega) (by simp only; omega)]
  dsimp only
  rw [scr_B, show outsAt0 m c (t.val - 1 - 1) _ = _ from outsAt0_A m c ⟨t.val - 2, by omega⟩ (by simp only; omega) (by simp only; omega) (by simp only; omega)]
  dsimp only
  rw [scr_A, first]
  exact (next _ _ _ _).trans (congrArg (· + _) (next _ _ _ _))

theorem part_at (t : Fin cfg0.N) (i : Fin 3) (hi : t.val % 3 = i.val) (a : Fin 1024) (b : Fin 1024) (p : Fin 1024) (hp : p.val = t.val / 3 * 1024 + a.val) :
    part (iblk m c 0 t) (iblk m c 1 t) (ix2 a b) = ∑ r : Fin 2752, (fun k : Fin 8256 => prod (V m c main_arg0) (V m c main_arg1) p b k) ⟨i.val * 2752 + r.val, by omega⟩ := by
  refine sum_congr rfl fun r _ => congrArg₂ (· * ·) ?_ ?_
  · blk_point [iblk, idx t, hi, hp]
  · blk_point [iblk, idx t, hi]

theorem block_at (t : Fin cfg0.N) (ht : t.val % 3 = 2) (a : Fin 1024) (b : Fin 1024) (p : Fin 1024) (hp : p.val = t.val / 3 * 1024 + a.val) :
    (outsAt0 m c t.val t.isLt).1 (ix2 a b) = ∑ k : Fin 8256, prod (V m c main_arg0) (V m c main_arg1) p b k := by
  rw [out_at m c t ht, part_at m c ⟨t.val - 2, by omega⟩ 0 (by simp only [Fin.val_zero]; omega) a b p (by simp only; omega),
    part_at m c ⟨t.val - 1, by omega⟩ 1 (by simp only [Fin.val_one]; omega) a b p (by simp only; omega),
    part_at m c t 2 (by simp only [Fin.val_two]; omega) a b p hp]
  exact Tiles.three (b := 2752) rfl _ _ fun _ _ => rfl

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (outsAt0 m c t.val t.isLt).1 (eq_ix2 (n0 := 1024) (n1 := 1024) y)).trans
    ((block_at m c t ((flush0_2 t).mp hf) _ _ (((win0_2.blk t).view.emb y) 0) ?_).trans ?_)
  · blk_simp [idx t]
  · refine sum_congr rfl fun k _ => congrArg (fun q => prod (V m c main_arg0) (V m c main_arg1) _ q k) (Fin.ext ?_)
    blk_simp [idx t]

open Cert.Reference9Ideal.Read in
theorem ref (x0 x1) (i) : val_main_v6 (F := Ideal) x0 x1 i = G x0 x1 i := by
  obtain ⟨a, b, rfl⟩ : ∃ (a : Fin 1024) (b : Fin 1024), i = ix2 a b := ⟨i 0, i 1, eq_ix2 i⟩
  pointwise [val_main_v6, val_main_v5, val_main_v4, val_main_v3, val_main_v1]
  exact sum_congr rfl fun k _ => mul_comm _ _

end Cert.Prod9
-- ==== Proof.Agree.lean ====
module

public import Mathlib.Logic.Basic

@[expose] public section

/-! A function of several arguments at arguments that agree. -/

namespace Cert.Agree

variable {α β γ δ ε ζ η : Sort*}

theorem two (f : α → β → η) {a a' b b'} (h : a = a') (h' : b = b') : f a b = f a' b' := by rw [h, h']

theorem three (f : α → β → γ → η) {a a' b b' c c'} (h : a = a') (h' : b = b') (h'' : c = c') : f a b c = f a' b' c' := by rw [h, h', h'']

theorem four (f : α → β → γ → δ → η) {a a' b b' c c' d d'} (h : a = a') (h' : b = b') (i : c = c') (i' : d = d') : f a b c d = f a' b' c' d' := by
  rw [h, h', i, i']

theorem five (f : α → β → γ → δ → ε → η) {a a' b b' c c' d d' e e'} (h : a = a') (h' : b = b') (i : c = c') (i' : d = d') (j : e = e') :
    f a b c d e = f a' b' c' d' e' := by rw [h, h', i, i', j]

theorem six (f : α → β → γ → δ → ε → ζ → η) {a a' b b' c c' d d' e e' k k'} (h : a = a') (h' : b = b') (i : c = c') (i' : d = d') (j : e = e')
    (j' : k = k') : f a b c d e k = f a' b' c' d' e' k' := by rw [h, h', i, i', j, j']

end Cert.Agree
-- ==== Proof.Prod10.lean ====
module

public import proofs.«01_k».proof.Defs
public import proofs.«01_k».proof.Proof.Agree
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Claim

@[expose] public section

/-! The input projections, packed: twelve blocks of rows. -/

noncomputable section

namespace Cert.Prod10

open Idealize.ShloMosaic Idealize.ShloMosaic.TcCoe Cert.Kernel10Ideal Cert.Kernel10Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem out_eq (t : Fin cfg0.N) : outsAt0 m c t = k0_pay1 (iblk m c 0 t) (iblk m c 1 t) := by
  unfold outsAt0 out0_A_2
  rw [View.read_writes_junk_eq_canon]
  unfold kernelRun0_A
  dsimp only
  simp (disch := decide) only [View.readCov, View.readAt_eq_ld, Memref.IsWhole.read_unread, View.ld_unit_lit', View.canon_cons_unit_lit']

theorem pay_at (x : Vec Ideal S688x1024 .bf16) (w : Vec Ideal S6272x1024 .bf16) (r : Fin 688) (j : Fin 6272) :
    k0_pay1 (F := Ideal) x w (ix2 r j) = ∑ k : Fin 1024, x (ix2 r k) * w (ix2 j k) := by
  pointwise [k0_pay1]

/-- The product, entry by entry. -/
def G (x : Vec Ideal S8256x1024 .bf16) (w : Vec Ideal S6272x1024 .bf16) : Vec Ideal S8256x6272 .bf16 :=
  fun i => ∑ k : Fin 1024, x (ix2 (i 0) k) * w (ix2 (i 1) k)

theorem final : (dats m 0 c).arrAt 2 cfg0.N = G (V m c main_arg0) (V m c main_arg1) := by
  refine (dats m 0 c).arrAt_eq_of_covers 2 _ (by decide +kernel) (fun t hf y => ?_)
  rw [after0_2, out_eq]
  blk_simp [idx t]
  refine (congrArg (k0_pay1 (iblk m c 0 t) (iblk m c 1 t)) (eq_ix2 (n0 := 688) (n1 := 6272) y)).trans ((pay_at _ _ _ _).trans ?_)
  refine sum_congr rfl fun k _ => congrArg₂ (· * ·) ?_ ?_
  · blk_point [iblk, idx t]
  · blk_point [iblk, idx t]

open Cert.Reference10Ideal.Read in
theorem ref (x0 x1) (i) : val_main_v4 (F := Ideal) x0 x1 i = G x0 x1 i := by
  obtain ⟨a, b, rfl⟩ : ∃ (a : Fin 8256) (b : Fin 6272), i = ix2 a b := ⟨i 0, i 1, eq_ix2 i⟩
  pointwise [val_main_v4, val_main_v3, val_main_v2, val_main_v1, val_main_v0]
  rfl

theorem frame : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- Over the extended reals, on any arguments: the packed input projections. -/
theorem same : Cert.algebraic_Kernel10Ideal_Reference10Ideal := fun m g m' g' _ hagree =>
  ⟨fun c => (dats m 0 c).arrAt 2 cfg0.N, Cert.Kernel10Ideal.Value.run_blocks (F := Ideal) m g,
    (θ_run Cert.Reference10Ideal.defs _ _).mono (fun r h c => ⟨(h c).1.trans ((Cert.Reference10Ideal.Read.val_main_v4_eq (F := Ideal) _ _).trans
      ((Agree.two (Cert.Reference10Ideal.Read.val_main_v4 (F := Ideal)) (hagree c).1 (hagree c).2).trans ((funext (ref _ _)).trans (final m c).symm))), (h c).2⟩)
      (Cert.Reference10Ideal.Value.run (F := Ideal) m' g')⟩

end Cert.Prod10
-- ==== Proof.Prod11.lean ====
module

public import proofs.«01_k».proof.Defs
public import proofs.«01_k».proof.Proof.Agree
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Claim

@[expose] public section

/-! The up projection: six blocks of rows by two of columns. -/

noncomputable section

namespace Cert.Prod11

open Idealize.ShloMosaic Idealize.ShloMosaic.TcCoe Cert.Kernel11Ideal Cert.Kernel11Ideal.Gen Finset

set_option maxRecDepth 16384

variable (m : (ℓ : Loc nD τ sig) → Buf (Elt Ideal) ℓ) (c : Dev nD)

theorem idx : ∀ t : Fin cfg0.N, win0_0.index t = ![t.val % 6, 0] ∧ win0_1.index t = ![t.val / 6, 0] ∧ win0_2.index t = ![t.val % 6, t.val / 6] :=
  (by decide +kernel : ∀ t : Fin grid0.N, _)

theorem out_eq (t : Fin cfg0.N) : outsAt0 m c t = k0_pay1 (iblk m c 0 t) (iblk m c 1 t) := by
  unfold outsAt0 out0_A_2
  rw [View.read_writes_junk_eq_canon]
  unfold kernelRun0_A
  dsimp only
  simp (disch := decide) only [View.readCov, View.readAt_eq_ld, Memref.IsWhole.read_unread, View.ld_unit_lit', View.canon_cons_unit_lit']

theorem pay_at (x : Vec Ideal S1376x1024 .bf16) (w : Vec Ideal S2816x1024 .bf16) (r : Fin 1376) (j : Fin 2816) :
    k0_pay1 (F := Ideal) x w (ix2 r j) = ∑ k : Fin 1024, x (ix2 r k) * w (ix2 j k) := by
  pointwise [k0_pay1]

/-- The product, entry by entry. -/
def G (x : Vec Ideal S8256x1024 .bf16) (w : Vec Ideal S5632x1024 .bf16) : Vec Ideal S8256x5632 .bf16 :=
  fun i => ∑ k : Fin 1024, x (ix2 (i 0) k) * w (ix2 (i 1) k)

theorem final : (dats m 0 c).arrAt 2 cfg0.N = G (V m c main_arg0) (V m c main_arg1) := by
  refine (dats m 0 c).arrAt_eq_of_covers 2 _ (by decide +kernel) (fun t hf y => ?_)
  rw [after0_2, out_eq]
  blk_simp [idx t]
  refine (congrArg (k0_pay1 (iblk m c 0 t) (iblk m c 1 t)) (eq_ix2 (n0 := 1376) (n1 := 2816) y)).trans ((pay_at _ _ _ _).trans ?_)
  refine sum_congr rfl fun k _ => congrArg₂ (· * ·) ?_ ?_
  · blk_point [iblk, idx t]
  · blk_point [iblk, idx t]

open Cert.Reference11Ideal.Read in
theorem ref (x0 x1) (i) : val_main_v4 (F := Ideal) x0 x1 i = G x0 x1 i := by
  obtain ⟨a, b, rfl⟩ : ∃ (a : Fin 8256) (b : Fin 5632), i = ix2 a b := ⟨i 0, i 1, eq_ix2 i⟩
  pointwise [val_main_v4, val_main_v3, val_main_v2, val_main_v1, val_main_v0]
  rfl

theorem frame : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- Over the extended reals, on any arguments: the up projection. -/
theorem same : Cert.algebraic_Kernel11Ideal_Reference11Ideal := fun m g m' g' _ hagree =>
  ⟨fun c => (dats m 0 c).arrAt 2 cfg0.N, Cert.Kernel11Ideal.Value.run_blocks (F := Ideal) m g,
    (θ_run Cert.Reference11Ideal.defs _ _).mono (fun r h c => ⟨(h c).1.trans ((Cert.Reference11Ideal.Read.val_main_v4_eq (F := Ideal) _ _).trans
      ((Agree.two (Cert.Reference11Ideal.Read.val_main_v4 (F := Ideal)) (hagree c).1 (hagree c).2).trans ((funext (ref _ _)).trans (final m c).symm))), (h c).2⟩)
      (Cert.Reference11Ideal.Value.run (F := Ideal) m' g')⟩

end Cert.Prod11
-- ==== Proof.Mask.lean ====
module

public import Idealize.ShloMosaic.Lib.Claim
public import Idealize.ShloMosaic.Lib.WordCmp
public import Idealize.ShloMosaic.Lib.Pipeline.ValueKit

@[expose] public section

/-! The padding's rows, left out by a comparison in the kernels and by a slice and a pad in the references. -/

noncomputable section

namespace Cert.Mask

open Idealize.ShloMosaic

theorem row (t r : ℕ) : IntOp.addi (Scalar.muli (BitVec.ofNat 32 t) 688#32) (BitVec.ofNat 32 r) = BitVec.ofNat 32 (t * 688 + r) := by
  show BitVec.ofNat 32 t * BitVec.ofNat 32 688 + BitVec.ofNat 32 r = _
  rw [← BitVec.ofNat_mul, ← BitVec.ofNat_add]

/-- The kernels' choice by the row. -/
theorem select_row {t r : ℕ} (ht : t < 12) (hr : r < 688) (x y : EReal) :
    Scalar.select (IntOp.cmpi .sge (IntOp.addi (Scalar.muli (BitVec.ofNat 32 t) 688#32) (BitVec.ofNat 32 r)) 48#32) x y
      = if 48 ≤ t * 688 + r then x else y := by
  rw [row, show (48#32 : BitVec 32) = BitVec.ofNat 32 48 from rfl, WordCmp.cmpi_sge_ofNat (by omega) (by omega)]
  by_cases h : 48 ≤ t * 688 + r
  · simp [h, Scalar.select]
  · simp [h, Scalar.select]

/-- What the references pad with. -/
theorem zero_word : FloatOps.sitofp (F := Ideal) .f32 (0#32) = (0 : EReal) := by
  show (((0#32 : BitVec 32).toInt : ℝ) : EReal) = 0
  simp

/-- The references' rows, sliced off and padded again with `z`. -/
theorem pad_row (a : Fin 8256) (f : Fin 8256 → EReal) (z : EReal) (hz : z = 0) :
    (if h : 48 ≤ a.val ∧ a.val - 48 < 8208 then f ⟨48 + (a.val - 48), by omega⟩ else z) = if 48 ≤ a.val then f a else 0 := by
  by_cases h : 48 ≤ a.val
  · rw [dif_pos ⟨h, by omega⟩, if_pos h]
    exact congrArg f (Fin.ext (by simp only; omega))
  · rw [dif_neg (fun g => h g.1), if_neg h, hz]

end Cert.Mask
-- ==== Proof.Prod12.lean ====
module

public import proofs.«01_k».proof.Defs
public import proofs.«01_k».proof.Proof.Agree
public import proofs.«01_k».proof.Proof.Mask
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Claim

@[expose] public section

/-! The down projection added to the stream, zero in the padding rows: twelve blocks of rows. -/

noncomputable section

namespace Cert.Prod12

open Idealize.ShloMosaic Idealize.ShloMosaic.TcCoe Cert.Kernel12Ideal Cert.Kernel12Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem coord : ∀ t : Fin cfg0.N, ((grid0.coords t) 1).val = t.val :=
  (by decide +kernel : ∀ t : Fin grid0.N, _)

theorem out_at (i : grid0.Coords) (t : ℕ) (hi : (i 1).val = t) (ht : t < 12) (x : Vec Ideal S688x2816 .bf16) (w : Vec Ideal S2816x1024 .bf16) (h : Vec Ideal S688x1024 .f32) (r : Fin 688) (j : Fin 1024) :
    out0_3 (F := Ideal) i x w h (ix2 r j) = if 48 ≤ t * 688 + r.val then (∑ k : Fin 2816, x (ix2 r k) * w (ix2 k j)) + h (ix2 r j) else 0 := by
  unfold out0_3
  simp (disch := decide) only [View.ld_unit_lit', View.canon_cons_unit_lit']
  pointwise [k0_pay1]
  rw [hi]
  exact Mask.select_row ht r.isLt _ _

/-- The result, entry by entry. -/
def G (x : Vec Ideal S8256x2816 .bf16) (w : Vec Ideal S2816x1024 .bf16) (h : Vec Ideal S8256x1024 .f32) : Vec Ideal S8256x1024 .f32 :=
  fun i => if 48 ≤ (i 0).val then (∑ k : Fin 2816, x (ix2 (i 0) k) * w (ix2 k (i 1))) + h i else 0

theorem final : (dats m 0 c).arrAt 3 cfg0.N = G (V m c main_arg0) (V m c main_arg1) (V m c main_arg2) := by
  refine (dats m 0 c).arrAt_eq_of_covers 3 _ (by decide +kernel) (fun t hf y => ?_)
  rw [after0_3]
  blk_simp [idx t]
  refine (congrArg (out0_3 (grid0.coords t) (iblk m c 0 t) (iblk m c 1 t) (iblk m c 2 t)) (eq_ix2 (n0 := 688) (n1 := 1024) y)).trans
    ((out_at _ t.val (coord t) (lt_of_lt_of_eq t.isLt N_0) _ _ _ _ _).trans ?_)
  refine ite_congr ?_ (fun _ => congrArg₂ (· + ·) (sum_congr rfl fun k _ => congrArg₂ (· * ·) ?_ ?_) ?_) fun _ => rfl
  · blk_simp [idx t]
  · blk_point [iblk, idx t]
  · blk_point [iblk, idx t]
  · blk_point [iblk, idx t]

open Cert.Reference12Ideal.Read in
theorem ref (x0 x1 x2) (i) : val_main_v5 (F := Ideal) x0 x1 x2 i = G x0 x1 x2 i := by
  obtain ⟨a, b, rfl⟩ : ∃ (a : Fin 8256) (b : Fin 1024), i = ix2 a b := ⟨i 0, i 1, eq_ix2 i⟩
  pointwise [val_main_v5, val_main_v4, val_main_v3, val_main_v2, val_main_v1, val_main_v0]
  refine (Mask.pad_row a (fun p => x2 (ix2 p b) + ∑ k : Fin 2816, x0 (ix2 p k) * x1 (ix2 k b)) _ Mask.zero_word).trans ?_
  exact ite_congr rfl (fun _ => add_comm _ _) fun _ => rfl

theorem frame : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

/-- Over the extended reals, on any arguments: the down-projection added to the residual. -/
theorem same : Cert.algebraic_Kernel12Ideal_Reference12Ideal := fun m g m' g' _ hagree =>
  ⟨fun c => (dats m 0 c).arrAt 3 cfg0.N, Cert.Kernel12Ideal.Value.run_blocks (F := Ideal) m g,
    (θ_run Cert.Reference12Ideal.defs _ _).mono (fun r h c => ⟨(h c).1.trans ((Cert.Reference12Ideal.Read.val_main_v5_eq (F := Ideal) _ _ _).trans
      ((Agree.three (Cert.Reference12Ideal.Read.val_main_v5 (F := Ideal)) (hagree c).1 (hagree c).2.1 (hagree c).2.2).trans
        ((funext (ref _ _ _)).trans (final m c).symm))), (h c).2⟩)
      (Cert.Reference12Ideal.Value.run (F := Ideal) m' g')⟩

end Cert.Prod12
-- ==== Proof.Prod13.lean ====
module

public import proofs.«01_k».proof.Defs
public import proofs.«01_k».proof.Proof.Agree
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Claim

@[expose] public section

/-! A square forward product (of w_a, w_b): three blocks of rows. -/

noncomputable section

namespace Cert.Prod13

open Idealize.ShloMosaic Idealize.ShloMosaic.TcCoe Cert.Kernel13Ideal Cert.Kernel13Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem out_at (x : Vec Ideal S2752x1024 .bf16) (w : Vec Ideal S1024x1024 .bf16) (r : Fin 2752) (j : Fin 1024) :
    out0_2 (F := Ideal) x w (ix2 r j) = ∑ k : Fin 1024, x (ix2 r k) * w (ix2 k j) := by
  unfold out0_2
  simp (disch := decide) only [View.ld_unit_lit', View.canon_cons_unit_lit']
  pointwise [k0_pay1]

/-- The product, entry by entry. -/
def G (x : Vec Ideal S8256x1024 .bf16) (w : Vec Ideal S1024x1024 .bf16) : Vec Ideal S8256x1024 .bf16 :=
  fun i => ∑ k : Fin 1024, x (ix2 (i 0) k) * w (ix2 k (i 1))

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (out0_2 (iblk m c 0 t) (iblk m c 1 t)) (eq_ix2 (n0 := 2752) (n1 := 1024) y)).trans ((out_at _ _ _ _).trans ?_)
  refine sum_congr rfl fun k _ => congrArg₂ (· * ·) ?_ ?_
  · blk_point [iblk, idx t]
  · blk_point [iblk, idx t]

open Cert.Reference13Ideal.Read in
theorem ref (x0 x1) (i) : val_main_v3 (F := Ideal) x0 x1 i = G x0 x1 i := by
  obtain ⟨a, b, rfl⟩ : ∃ (a : Fin 8256) (b : Fin 1024), i = ix2 a b := ⟨i 0, i 1, eq_ix2 i⟩
  pointwise [val_main_v3, val_main_v2, val_main_v1, val_main_v0]
  rfl

theorem frame : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

/-- Over the extended reals, on any arguments: a square forward product. -/
theorem same : Cert.algebraic_Kernel13Ideal_Reference13Ideal := fun m g m' g' _ hagree =>
  ⟨fun c => (dats m 0 c).arrAt 2 cfg0.N, Cert.Kernel13Ideal.Value.run_blocks (F := Ideal) m g,
    (θ_run Cert.Reference13Ideal.defs _ _).mono (fun r h c => ⟨(h c).1.trans ((Cert.Reference13Ideal.Read.val_main_v3_eq (F := Ideal) _ _).trans
      ((Agree.two (Cert.Reference13Ideal.Read.val_main_v3 (F := Ideal)) (hagree c).1 (hagree c).2).trans ((funext (ref _ _)).trans (final m c).symm))), (h c).2⟩)
      (Cert.Reference13Ideal.Value.run (F := Ideal) m' g')⟩

end Cert.Prod13
-- ==== Proof.Groups.lean ====
module

public import Mathlib.Data.Fin.Basic
public import Mathlib.Tactic.NormNum

@[expose] public section

/-! 1024 columns as four groups of 256. -/

namespace Cert.Groups

/-- The group of a column. -/
def grp (q : Fin 1024) : Fin 4 := ⟨q.val / 256, by omega⟩

/-- The place of a column in its group. -/
def lane (q : Fin 1024) : Fin 256 := ⟨q.val % 256, by omega⟩

/-- The column at a place of a group. -/
def col (g : Fin 4) (k : Fin 256) : Fin 1024 := ⟨g.val * 256 + k.val, by omega⟩

end Cert.Groups
-- ==== Proof.Prod14.lean ====
module

public import proofs.«01_k».proof.Defs
public import proofs.«01_k».proof.Proof.Agree
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Claim
public import proofs.«01_k».proof.Proof.Groups
@[expose] public section

/-! The pooled branch's product: each group of columns by its own weight, and the same scaled. -/

noncomputable section

namespace Cert.Prod14

open Idealize.ShloMosaic Idealize.ShloMosaic.TcCoe Cert.Kernel14Ideal Cert.Kernel14Ideal.Gen Finset

set_option maxRecDepth 16384

variable (m : (ℓ : Loc nD τ sig) → Buf (Elt Ideal) ℓ) (c : Dev nD)

open Cert.Groups

theorem idx : ∀ t : Fin cfg0.N, win0_0.index t = ![t.val % 3, t.val / 3] ∧ win0_1.index t = ![t.val / 3, 0, 0] ∧ win0_2.index t = ![0, t.val / 3]
    ∧ win0_3.index t = ![t.val % 3, t.val / 3] ∧ win0_4.index t = ![t.val % 3, t.val / 3] :=
  (by decide +kernel : ∀ t : Fin grid0.N, _)

theorem out3_at (x : Vec Ideal S2752x256 .bf16) (w : Vec Ideal S1x256x256 .bf16) (s : Vec Ideal S1x256 .f32) (r : Fin 2752) (j : Fin 256) :
    out0_3 (F := Ideal) x w s (ix2 r j) = ∑ k : Fin 256, x (ix2 r k) * w (ix3 0 k j) := by
  unfold out0_3
  simp (disch := decide) only [View.ld_unit_lit', View.canon_cons_unit_lit']
  pointwise [k0_pay2, k0_pay1]

theorem out4_at (x : Vec Ideal S2752x256 .bf16) (w : Vec Ideal S1x256x256 .bf16) (s : Vec Ideal S1x256 .f32) (r : Fin 2752) (j : Fin 256) :
    out0_4 (F := Ideal) x w s (ix2 r j) = (∑ k : Fin 256, x (ix2 r k) * w (ix3 0 k j)) * s (ix2 0 j) := by
  unfold out0_4
  simp (disch := decide) only [View.ld_unit_lit', View.canon_cons_unit_lit']
  pointwise [k0_pay3, k0_pay1]

/-- The product, entry by entry. -/
def G (x : Vec Ideal S8256x1024 .bf16) (w : Vec Ideal S4x256x256 .bf16) : Vec Ideal S8256x1024 .bf16 :=
  fun i => ∑ k : Fin 256, x (ix2 (i 0) (col (grp (i 1)) k)) * w (ix3 (grp (i 1)) k (lane (i 1)))

/-- The product scaled. -/
def H (x : Vec Ideal S8256x1024 .bf16) (w : Vec Ideal S4x256x256 .bf16) (s : Vec Ideal S1x1024 .f32) : Vec Ideal S8256x1024 .bf16 :=
  fun i => G x w i * s (ix2 0 (i 1))

/-- An entry of a block's product. -/
def prod (x : Vec Ideal S2752x256 .bf16) (w : Vec Ideal S1x256x256 .bf16) (a : Fin 2752) (b : Fin 256) : EReal :=
  ∑ k : Fin 256, x (ix2 a k) * w (ix3 0 k b)

theorem block_at (t : Fin cfg0.N) (a : Fin 2752) (b : Fin 256) (p : Fin 8256) (q : Fin 1024) (hp : p.val = t.val % 3 * 2752 + a.val)
    (hq : q.val = t.val / 3 * 256 + b.val) :
    prod (iblk m c 0 t) (iblk m c 1 t) a b = G (V m c main_arg0) (V m c main_arg1) (ix2 p q) := by
  have hN : t.val < 12 := lt_of_lt_of_eq t.isLt N_0
  have hg : grp q = ⟨t.val / 3, by omega⟩ := Fin.ext (by simp only [grp]; omega)
  have hl : lane q = b := Fin.ext (by simp only [lane]; omega)
  refine sum_congr rfl fun k _ => congrArg₂ (· * ·) ?_ ?_
  · simp only [hg, ix2]
    blk_point [iblk, idx t, col, hp]
  · show _ = (V m c main_arg1) (ix3 (grp q) k (lane q))
    rw [hg, hl]
    blk_point [iblk, idx t]

theorem final3 : (dats m 0 c).arrAt 3 cfg0.N = G (V m c main_arg0) (V m c main_arg1) := by
  refine (dats m 0 c).arrAt_eq_of_covers 3 _ (by decide +kernel) (fun t hf y => ?_)
  rw [after0_3]
  blk_simp [idx t]
  refine (congrArg (out0_3 (iblk m c 0 t) (iblk m c 1 t) (iblk m c 2 t)) (eq_ix2 (n0 := 2752) (n1 := 256) y)).trans ((out3_at _ _ _ _ _).trans
    ((block_at m c t _ _ (((win0_3.blk t).view.emb y) 0) (((win0_3.blk t).view.emb y) 1) ?_ ?_).trans (congrArg _ (eq_ix2 _).symm)))
  · blk_simp [idx t]
  · blk_simp [idx t]

theorem final4 : (dats m 0 c).arrAt 4 cfg0.N = H (V m c main_arg0) (V m c main_arg1) (V m c main_arg2) := by
  refine (dats m 0 c).arrAt_eq_of_covers 4 _ (by decide +kernel) (fun t hf y => ?_)
  rw [after0_4]
  blk_simp [idx t]
  refine (congrArg (out0_4 (iblk m c 0 t) (iblk m c 1 t) (iblk m c 2 t)) (eq_ix2 (n0 := 2752) (n1 := 256) y)).trans ((out4_at _ _ _ _ _).trans
    (congrArg₂ (· * ·) ((block_at m c t _ _ (((win0_4.blk t).view.emb y) 0) (((win0_4.blk t).view.emb y) 1) ?_ ?_).trans (congrArg _ (eq_ix2 _).symm)) ?_))
  · blk_simp [idx t]
  · blk_simp [idx t]
  · blk_point [iblk, idx t]

open Cert.Reference14Ideal.Read in
theorem ref (x0 x1) (i) : val_main_v6 (F := Ideal) x0 x1 i = G x0 x1 i := by
  obtain ⟨a, b, rfl⟩ : ∃ (a : Fin 8256) (b : Fin 1024), i = ix2 a b := ⟨i 0, i 1, eq_ix2 i⟩
  pointwise [val_main_v6, val_main_v5, val_main_v4, val_main_v3, val_main_v2, val_main_v1, val_main_v0]
  exact sum_congr rfl fun k _ => mul_comm _ _

open Cert.Reference14Ideal.Read in
theorem ref' (x0 x1 x2) (i) : val_main_v9 (F := Ideal) x0 x1 x2 i = H x0 x1 x2 i := by
  have h := ref x0 x1 i
  obtain ⟨a, b, rfl⟩ : ∃ (a : Fin 8256) (b : Fin 1024), i = ix2 a b := ⟨i 0, i 1, eq_ix2 i⟩
  pointwise [val_main_v6] at h
  pointwise [val_main_v9, val_main_v8, val_main_v7]
  rw [h]
  rfl

theorem frame : Cert.quiescent_Reference14Ideal := fun m g _ =>
  (θ_run Cert.Reference14Ideal.defs _ _).mono (fun r h => ⟨fun c => (h c).2.2, sem_eq_zero_of_no_sems (by decide) r.2⟩)
    (Cert.Reference14Ideal.Value.run (F := Ideal) m g)

/-- Over the extended reals, on any arguments: the pooled branch's product and the same scaled. -/
theorem same : Cert.algebraic_Kernel14Ideal_Reference14Ideal := fun m g m' g' _ hagree =>
  ⟨fun c => (dats m 0 c).arrAt 3 cfg0.N, fun c => (dats m 0 c).arrAt 4 cfg0.N, Cert.Kernel14Ideal.Value.run_blocks (F := Ideal) m g,
    (θ_run Cert.Reference14Ideal.defs _ _).mono (fun r h c => ⟨(h c).1.trans ((Cert.Reference14Ideal.Read.val_main_v6_eq (F := Ideal) _ _).trans
      ((Agree.two (Cert.Reference14Ideal.Read.val_main_v6 (F := Ideal)) (hagree c).1 (hagree c).2.1).trans ((funext (ref _ _)).trans (final3 m c).symm))),
      (h c).2.1.trans ((Cert.Reference14Ideal.Read.val_main_v9_eq (F := Ideal) _ _ _).trans
      ((Agree.three (Cert.Reference14Ideal.Read.val_main_v9 (F := Ideal)) (hagree c).1 (hagree c).2.1 (hagree c).2.2).trans ((funext (ref' _ _ _)).trans (final4 m c).symm))), (h c).2.2⟩)
      (Cert.Reference14Ideal.Value.run (F := Ideal) m' g')⟩

end Cert.Prod14
-- ==== Proof.Prod15.lean ====
module

public import proofs.«01_k».proof.Defs
public import proofs.«01_k».proof.Proof.Agree
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Claim
public import proofs.«01_k».proof.Proof.Groups
@[expose] public section

/-! The gradient of the pooled branch's product with respect to its operand. -/

noncomputable section

namespace Cert.Prod15

open Idealize.ShloMosaic Idealize.ShloMosaic.TcCoe Cert.Kernel15Ideal Cert.Kernel15Ideal.Gen Finset

set_option maxRecDepth 16384

variable (m : (ℓ : Loc nD τ sig) → Buf (Elt Ideal) ℓ) (c : Dev nD)

open Cert.Groups

theorem idx : ∀ t : Fin cfg0.N, win0_0.index t = ![t.val % 3, t.val / 3] ∧ win0_1.index t = ![t.val / 3, 0, 0] ∧ win0_2.index t = ![t.val % 3, t.val / 3] :=
  (by decide +kernel : ∀ t : Fin grid0.N, _)

theorem out_at (x : Vec Ideal S2752x256 .bf16) (w : Vec Ideal S1x256x256 .bf16) (r : Fin 2752) (j : Fin 256) :
    out0_2 (F := Ideal) x w (ix2 r j) = ∑ k : Fin 256, x (ix2 r k) * w (ix3 0 j k) := by
  unfold out0_2
  simp (disch := decide) only [View.ld_unit_lit', View.canon_cons_unit_lit']
  pointwise [k0_pay1]

/-- The gradient, entry by entry. -/
def G (x : Vec Ideal S8256x1024 .bf16) (w : Vec Ideal S4x256x256 .bf16) : Vec Ideal S8256x1024 .bf16 :=
  fun i => ∑ k : Fin 256, x (ix2 (i 0) (col (grp (i 1)) k)) * w (ix3 (grp (i 1)) (lane (i 1)) k)

/-- An entry of a block's product. -/
def prod (x : Vec Ideal S2752x256 .bf16) (w : Vec Ideal S1x256x256 .bf16) (a : Fin 2752) (b : Fin 256) : EReal :=
  ∑ k : Fin 256, x (ix2 a k) * w (ix3 0 b k)

theorem block_at (t : Fin cfg0.N) (a : Fin 2752) (b : Fin 256) (p : Fin 8256) (q : Fin 1024) (hp : p.val = t.val % 3 * 2752 + a.val)
    (hq : q.val = t.val / 3 * 256 + b.val) :
    prod (iblk m c 0 t) (iblk m c 1 t) a b = G (V m c main_arg0) (V m c main_arg1) (ix2 p q) := by
  have hN : t.val < 12 := lt_of_lt_of_eq t.isLt N_0
  have hg : grp q = ⟨t.val / 3, by omega⟩ := Fin.ext (by simp only [grp]; omega)
  have hl : lane q = b := Fin.ext (by simp only [lane]; omega)
  refine sum_congr rfl fun k _ => congrArg₂ (· * ·) ?_ ?_
  · show _ = (V m c main_arg0) (ix2 p (col (grp q) k))
    rw [hg]
    blk_point [iblk, idx t, col, hp]
  · show _ = (V m c main_arg1) (ix3 (grp q) (lane q) k)
    rw [hg, hl]
    blk_point [iblk, idx t]

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (out0_2 (iblk m c 0 t) (iblk m c 1 t)) (eq_ix2 (n0 := 2752) (n1 := 256) y)).trans ((out_at _ _ _ _).trans
    ((block_at m c t _ _ (((win0_2.blk t).view.emb y) 0) (((win0_2.blk t).view.emb y) 1) ?_ ?_).trans (congrArg _ (eq_ix2 _).symm)))
  · blk_simp [idx t]
  · blk_simp [idx t]

open Cert.Reference15Ideal.Read in
theorem ref (x0 x1) (i) : val_main_v12 (F := Ideal) x0 x1 i = G x0 x1 i := by
  obtain ⟨a, b, rfl⟩ : ∃ (a : Fin 8256) (b : Fin 1024), i = ix2 a b := ⟨i 0, i 1, eq_ix2 i⟩
  pointwise [val_main_v12, val_main_v11, val_main_v10, val_main_v9, val_main_v8, val_main_v7, val_main_v6, val_main_v2]
  rfl

theorem frame : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

/-- Over the extended reals, on any arguments: the gradient of the pooled branch's operand. -/
theorem same : Cert.algebraic_Kernel15Ideal_Reference15Ideal := fun m g m' g' _ hagree =>
  ⟨fun c => (dats m 0 c).arrAt 2 cfg0.N, Cert.Kernel15Ideal.Value.run_blocks (F := Ideal) m g,
    (θ_run Cert.Reference15Ideal.defs _ _).mono (fun r h c => ⟨(h c).1.trans ((Cert.Reference15Ideal.Read.val_main_v12_eq (F := Ideal) _ _).trans
      ((Agree.two (Cert.Reference15Ideal.Read.val_main_v12 (F := Ideal)) (hagree c).1 (hagree c).2).trans ((funext (ref _ _)).trans (final m c).symm))), (h c).2⟩)
      (Cert.Reference15Ideal.Value.run (F := Ideal) m' g')⟩

end Cert.Prod15
-- ==== Proof.Prod16.lean ====
module

public import proofs.«01_k».proof.Defs
public import proofs.«01_k».proof.Proof.Agree
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Claim
public import proofs.«01_k».proof.Proof.Groups
public import proofs.«01_k».proof.Proof.Tiles
@[expose] public section

/-! The gradient of the pooled branch's weights: each group's summed over three tiles of rows. -/

noncomputable section

namespace Cert.Prod16

open Idealize.ShloMosaic Idealize.ShloMosaic.TcCoe Cert.Kernel16Ideal Cert.Kernel16Ideal.Gen Finset

set_option maxRecDepth 16384

variable (m : (ℓ : Loc nD τ sig) → Buf (Elt Ideal) ℓ) (c : Dev nD)

open Cert.Groups

theorem idx : ∀ t : Fin cfg0.N, win0_0.index t = ![t.val % 3, t.val / 3] ∧ win0_1.index t = ![t.val % 3, t.val / 3] ∧ win0_2.index t = ![t.val / 3, 0, 0] :=
  (by decide +kernel : ∀ t : Fin grid0.N, _)

/-- One tile's part of the product. -/
def part (x y : Vec Ideal S2752x256 .bf16) : Vec Ideal S1x256x256 .f32 :=
  fun i => ∑ r : Fin 2752, x (ix2 r (i 1)) * y (ix2 r (i 2))

theorem first (x y) : k0_pay2 (F := Ideal) x y = part x y := by
  funext i
  obtain ⟨z, a, b, rfl⟩ : ∃ (z : Fin 1) (a : Fin 256) (b : Fin 256), i = ix3 z a b := ⟨i 0, i 1, i 2, eq_ix3 i⟩
  pointwise [k0_pay2, k0_pay1]
  rfl

theorem next (x y s) (i) : k0_pay3 (F := Ideal) x y s i = s i + part x y i := by
  obtain ⟨z, a, b, rfl⟩ : ∃ (z : Fin 1) (a : Fin 256) (b : Fin 256), i = ix3 z a b := ⟨i 0, i 1, i 2, eq_ix3 i⟩
  obtain rfl : z = 0 := Subsingleton.elim _ _
  pointwise [k0_pay3, k0_pay1]
  rfl

section

variable {i : grid0.Coords} {arg2 : Memref sig .tc .vmem S2752x256 .bf16} {harg2 : arg2.IsWhole} {arg3 : Memref sig .tc .vmem S2752x256 .bf16} {harg3 : arg3.IsWhole}
  {arg4 : Memref sig .tc .vmem S1x256x256 .f32} {harg4 : arg4.IsWhole} {x y : Vec Ideal S2752x256 .bf16} {s : Vec Ideal S1x256x256 .f32}

theorem out_A {h0 h1} : out0_A_2 (F := Ideal) c i arg2 harg2 arg3 harg3 arg4 harg4 h0 h1 x y = k0_pay2 x y := by
  unfold out0_A_2
  rw [View.read_writes_junk_eq_canon]
  unfold kernelRun0_A
  dsimp only
  simp (disch := decide) only [View.readCov, View.readAt_eq_ld, Memref.IsWhole.read_unread, View.ld_unit_lit', View.canon_cons_unit_lit']

theorem out_B {h0 h1} : out0_B_2 (F := Ideal) c i arg2 harg2 arg3 harg3 arg4 harg4 h0 h1 x y s = k0_pay3 x y s := by
  unfold out0_B_2
  rw [View.read_writes_junk_eq_canon]
  unfold kernelRun0_B
  dsimp only
  simp (disch := decide) only [View.readCov, View.readAt_eq_ld, Memref.IsWhole.read_unread, View.ld_unit_lit', View.canon_cons_unit_lit']

end

/-- One row's share of an entry of the product. -/
def prod (x y : Vec Ideal S8256x1024 .bf16) (p q : Fin 1024) (k : Fin 8256) : EReal := x (ix2 k p) * y (ix2 k q)

/-- The gradient, entry by entry. -/
def G (x y : Vec Ideal S8256x1024 .bf16) : Vec Ideal S4x256x256 .f32 :=
  fun i => ∑ k : Fin 8256, prod x y (col (i 0) (i 1)) (col (i 0) (i 2)) k

theorem out_at (t : Fin cfg0.N) (h : t.val % 3 = 2) (i) : outsAt0 m c t.val t.isLt i =
    (part (iblk m c 0 ⟨t.val - 2, by omega⟩) (iblk m c 1 ⟨t.val - 2, by omega⟩) i + part (iblk m c 0 ⟨t.val - 1, by omega⟩) (iblk m c 1 ⟨t.val - 1, by omega⟩) i)
      + part (iblk m c 0 t) (iblk m c 1 t) i := by
  rw [outsAt0_B m c t (by omega) (by omega)]
  rw [out_B, show outsAt0 m c (t.val - 1) _ = _ from outsAt0_B m c ⟨t.val - 1, by omega⟩ (by simp only; omega) (by simp only; omega)]
  dsimp only
  rw [out_B, show outsAt0 m c (t.val - 1 - 1) _ = _ from outsAt0_A m c ⟨t.val - 2, by omega⟩ (by simp only; omega) (by simp only; omega)]
  rw [out_A, first]
  exact (next _ _ _ _).trans (congrArg (· + _) (next _ _ _ _))

theorem part_at (t : Fin cfg0.N) (i : Fin 3) (hi : t.val % 3 = i.val) (g : Fin 4) (hg : g.val = t.val / 3) (z : Fin 1) (a b : Fin 256) :
    part (iblk m c 0 t) (iblk m c 1 t) (ix3 z a b)
      = ∑ r : Fin 2752, (fun k : Fin 8256 => prod (V m c main_arg0) (V m c main_arg1) (col g a) (col g b) k) ⟨i.val * 2752 + r.val, by omega⟩ := by
  refine sum_congr rfl fun r _ => congrArg₂ (· * ·) ?_ ?_
  · blk_point [iblk, idx t, hi, hg, col]
  · blk_point [iblk, idx t, hi, hg, col]

theorem block_at (t : Fin cfg0.N) (ht : t.val % 3 = 2) (g : Fin 4) (hg : g.val = t.val / 3) (z : Fin 1) (a b : Fin 256) :
    outsAt0 m c t.val t.isLt (ix3 z a b) = G (V m c main_arg0) (V m c main_arg1) (ix3 g a b) := by
  rw [out_at m c t ht, part_at m c ⟨t.val - 2, by omega⟩ 0 (by simp only [Fin.val_zero]; omega) g (by simp only; omega) z a b,
    part_at m c ⟨t.val - 1, by omega⟩ 1 (by simp only [Fin.val_one]; omega) g (by simp only; omega) z a b,
    part_at m c t 2 (by simp only [Fin.val_two]; omega) g hg z a b]
  exact Tiles.three (b := 2752) rfl _ _ fun _ _ => rfl

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (outsAt0 m c t.val t.isLt) (eq_ix3 (n0 := 1) (n1 := 256) (n2 := 256) y)).trans
    ((block_at m c t ((flush0_2 t).mp hf) (((win0_2.blk t).view.emb y) 0) ?_ _ _ _).trans (congrArg _ ?_))
  · blk_simp [idx t]
  · refine Eq.trans (congrArg₂ (ix3 _) (Fin.ext ?_) (Fin.ext ?_)) (eq_ix3 (n0 := 4) (n1 := 256) (n2 := 256) _).symm
    · blk_simp [idx t]
    · blk_simp [idx t]

open Cert.Reference16Ideal.Read in
theorem ref (x0 x1) (i) : val_main_v10 (F := Ideal) x0 x1 i = G x0 x1 i := by
  obtain ⟨g, a, b, rfl⟩ : ∃ (g : Fin 4) (a : Fin 256) (b : Fin 256), i = ix3 g a b := ⟨i 0, i 1, i 2, eq_ix3 i⟩
  pointwise [val_main_v10, val_main_v9, val_main_v8, val_main_v7, val_main_v6, val_main_v2, val_main_v1]
  exact sum_congr rfl fun k _ => mul_comm _ _

theorem frame : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

/-- Over the extended reals, on any arguments: the gradient of the pooled branch's weights. -/
theorem same : Cert.algebraic_Kernel16Ideal_Reference16Ideal := fun m g m' g' _ hagree =>
  ⟨fun c => (dats m 0 c).arrAt 2 cfg0.N, Cert.Kernel16Ideal.Value.run_blocks (F := Ideal) m g,
    (θ_run Cert.Reference16Ideal.defs _ _).mono (fun r h c => ⟨(h c).1.trans ((Cert.Reference16Ideal.Read.val_main_v10_eq (F := Ideal) _ _).trans
      ((Agree.two (Cert.Reference16Ideal.Read.val_main_v10 (F := Ideal)) (hagree c).1 (hagree c).2).trans ((funext (ref _ _)).trans (final m c).symm))), (h c).2⟩)
      (Cert.Reference16Ideal.Value.run (F := Ideal) m' g')⟩

end Cert.Prod16
-- ==== Proof.Gates.lean ====
module

public import Idealize.ShloMosaic.Lib.Claim
public import Idealize.ShloMosaic.Lib.Pipeline.ValueKit

@[expose] public section

/-! The two gates of the merge, and where they stand among the packed projections. -/

noncomputable section

namespace Cert.Gates

open Idealize.ShloMosaic

/-- A gate: the logistic function of a projection and its bias. -/
def gate (x b : EReal) : EReal := Ideal.div 1 (1 + Ideal.exp (-(x + b)))

/-- The columns of the first gate among the packed projections. -/
def first (j : Fin 1024) : Fin 6272 := ⟨4096 + j.val, by omega⟩

/-- The columns of the second gate among the packed projections. -/
def second (j : Fin 1024) : Fin 6272 := ⟨4096 + (1024 + j.val), by omega⟩

/-- The first gate's columns of the bias. -/
def low (j : Fin 1024) : Fin 2048 := ⟨j.val, by omega⟩

/-- The second gate's columns of the bias. -/
def high (j : Fin 1024) : Fin 2048 := ⟨1024 + j.val, by omega⟩

/-- A column of the bias belongs to one of the two gates. -/
theorem halves (j : Fin 2048) : (∃ a, j = low a) ∨ ∃ a, j = high a := by
  by_cases h : j.val < 1024
  · exact Or.inl ⟨⟨j.val, h⟩, rfl⟩
  · exact Or.inr ⟨⟨j.val - 1024, by omega⟩, Fin.ext (by simp only [high]; omega)⟩

/-- A row's share of a bias's gradient: the incoming gradient `d` of the branch `y` through its gate. -/
def share (d y x b : EReal) : EReal := d * y * gate x b * (1 - gate x b)

/-- A function on the columns of the bias, given on each gate's. -/
def both {α : Type} (f g : Fin 1024 → α) (j : Fin 2048) : α := if h : j.val < 1024 then f ⟨j.val, h⟩ else g ⟨j.val - 1024, by omega⟩

theorem both_low {α : Type} (f g : Fin 1024 → α) (a : Fin 1024) : both f g (low a) = f a := dif_pos a.isLt

theorem both_high {α : Type} (f g : Fin 1024 → α) (a : Fin 1024) : both f g (high a) = g a :=
  (dif_neg (by simp only [high]; omega)).trans (congrArg g (Fin.ext (by simp only [high]; omega)))

end Cert.Gates
-- ==== Proof.Prod17.lean ====
module

public import proofs.«01_k».proof.Defs
public import proofs.«01_k».proof.Proof.Agree
public import proofs.«01_k».proof.Proof.Mask
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Claim
public import proofs.«01_k».proof.Proof.Gates
@[expose] public section

/-! The gated merge and the output projection: twelve blocks of rows, the padding's rows put to zero. -/

noncomputable section

namespace Cert.Prod17

open Idealize.ShloMosaic Idealize.ShloMosaic.TcCoe Cert.Kernel17Ideal Cert.Kernel17Ideal.Gen Finset

set_option maxRecDepth 16384

variable (m : (ℓ : Loc nD τ sig) → Buf (Elt Ideal) ℓ) (c : Dev nD)

theorem idx : ∀ t : Fin cfg0.N, win0_0.index t = ![t.val, 4] ∧ win0_1.index t = ![t.val, 5] ∧ win0_2.index t = ![t.val, 0] ∧ win0_3.index t = ![t.val, 0]
    ∧ win0_4.index t = ![0, 0] ∧ win0_5.index t = ![0, 1] ∧ win0_6.index t = ![0, 0] ∧ win0_7.index t = ![t.val, 0] ∧ win0_8.index t = ![t.val, 0]
    ∧ win0_9.index t = ![t.val, 0] ∧ t.val < 12 ∧ (grid0.coords t 0).val = t.val :=
  (by decide +kernel : ∀ t : Fin grid0.N, _)

theorem out_eq (t : Fin cfg0.N) : outsAt0 m c t =
    (k0_pay2 (X0_0 m c t) (iblk m c 4 t) (X0_1 m c t) (iblk m c 5 t) (iblk m c 2 t) (iblk m c 3 t),
      k0_pay1 (k0_pay2 (X0_0 m c t) (iblk m c 4 t) (X0_1 m c t) (iblk m c 5 t) (iblk m c 2 t) (iblk m c 3 t)) (k0_pay3 (grid0.coords t)) (iblk m c 6 t) (iblk m c 7 t)) := by
  unfold outsAt0 out0_A_8 out0_A_9
  rw [View.read_writes_junk_eq_canon, View.read_writes_junk_eq_canon]
  unfold kernelRun0_A
  dsimp only
  sl_unfold_words
  simp (disch := decide) only [View.readCov, View.readAt_eq_ld, Memref.IsWhole.read_unread, View.ld_unit_lit', View.canon_cons_unit_lit']

theorem mix_at (u : Vec Ideal S688x1024 .bf16) (a : Vec Ideal S1x1024 .f32) (v : Vec Ideal S688x1024 .bf16) (b : Vec Ideal S1x1024 .f32) (x y : Vec Ideal S688x1024 .bf16)
    (r : Fin 688) (j : Fin 1024) : k0_pay2 (F := Ideal) u a v b x y (ix2 r j) =
      Gates.gate (u (ix2 r j)) (a (ix2 0 j)) * x (ix2 r j) + Gates.gate (v (ix2 r j)) (b (ix2 0 j)) * y (ix2 r j) := by
  pointwise [k0_pay2]
  rw [zero_sub, zero_sub]
  rfl

theorem pay_at (i : grid0.Coords) (t : ℕ) (hi : (i 0).val = t) (ht : t < 12) (g : Vec Ideal S688x1024 .bf16) (w : Vec Ideal S1024x1024 .bf16) (h : Vec Ideal S688x1024 .f32)
    (r : Fin 688) (j : Fin 1024) : k0_pay1 (F := Ideal) g (k0_pay3 i) w h (ix2 r j)
      = if 48 ≤ t * 688 + r.val then (∑ k : Fin 1024, g (ix2 r k) * w (ix2 k j)) + h (ix2 r j) else 0 := by
  pointwise [k0_pay1, k0_pay3]
  rw [hi]
  exact Mask.select_row ht r.isLt _ _

/-- The merged branches, entry by entry. -/
def G (p : Vec Ideal S8256x6272 .bf16) (x y : Vec Ideal S8256x1024 .bf16) (b : Vec Ideal S1x2048 .f32) : Vec Ideal S8256x1024 .bf16 :=
  fun i => Gates.gate (p (ix2 (i 0) (Gates.first (i 1)))) (b (ix2 0 (Gates.low (i 1)))) * x i
    + Gates.gate (p (ix2 (i 0) (Gates.second (i 1)))) (b (ix2 0 (Gates.high (i 1)))) * y i

/-- The projection added to the residual, entry by entry. -/
def H (p : Vec Ideal S8256x6272 .bf16) (x y : Vec Ideal S8256x1024 .bf16) (b : Vec Ideal S1x2048 .f32) (w : Vec Ideal S1024x1024 .bf16)
    (h : Vec Ideal S8256x1024 .f32) : Vec Ideal S8256x1024 .f32 :=
  fun i => if 48 ≤ (i 0).val then (∑ k : Fin 1024, G p x y b (ix2 (i 0) k) * w (ix2 k (i 1))) + h i else 0

theorem mix_block (t : Fin cfg0.N) (r : Fin 688) (j : Fin 1024) (p : Fin 8256) (hp : p.val = t.val * 688 + r.val) :
    k0_pay2 (X0_0 m c t) (iblk m c 4 t) (X0_1 m c t) (iblk m c 5 t) (iblk m c 2 t) (iblk m c 3 t) (ix2 r j)
      = G (V m c main_arg0) (V m c main_arg1) (V m c main_arg2) (V m c main_arg3) (ix2 p j) := by
  refine (mix_at _ _ _ _ _ _ _ _).trans (congrArg₂ (· + ·) (congrArg₂ (· * ·) (congrArg₂ Gates.gate ?_ ?_) ?_) (congrArg₂ (· * ·) (congrArg₂ Gates.gate ?_ ?_) ?_))
  · unfold X0_0 Pipeline.Window.fill
    rw [dif_pos (moved0_0 t _)]
    blk_point [iblk, idx t, hp, Gates.first]
  · blk_point [iblk, idx t, Gates.low]
  · blk_point [iblk, idx t, hp]
  · unfold X0_1 Pipeline.Window.fill
    rw [dif_pos (moved0_1 t _)]
    blk_point [iblk, idx t, hp, Gates.second]
  · blk_point [iblk, idx t, Gates.high]
  · blk_point [iblk, idx t, hp]

theorem final8 : (dats m 0 c).arrAt 8 cfg0.N = G (V m c main_arg0) (V m c main_arg1) (V m c main_arg2) (V m c main_arg3) := by
  refine (dats m 0 c).arrAt_eq_of_covers 8 _ (by decide +kernel) (fun t hf y => ?_)
  rw [after0_8, out_eq]
  blk_simp [idx t]
  refine (congrArg (k0_pay2 (X0_0 m c t) (iblk m c 4 t) (X0_1 m c t) (iblk m c 5 t) (iblk m c 2 t) (iblk m c 3 t)) (eq_ix2 (n0 := 688) (n1 := 1024) y)).trans
    ((mix_block m c t _ _ (((win0_8.blk t).view.emb y) 0) ?_).trans (congrArg _ (Eq.trans (congrArg (ix2 _) (Fin.ext ?_)) (eq_ix2 (n0 := 8256) (n1 := 1024) _).symm)))
  · blk_simp [idx t]
  · blk_simp [idx t]

theorem final9 : (dats m 0 c).arrAt 9 cfg0.N
    = H (V m c main_arg0) (V m c main_arg1) (V m c main_arg2) (V m c main_arg3) (V m c main_arg4) (V m c main_arg5) := by
  refine (dats m 0 c).arrAt_eq_of_covers 9 _ (by decide +kernel) (fun t hf y => ?_)
  rw [after0_9, out_eq]
  blk_simp [idx t]
  refine (congrArg (k0_pay1 (k0_pay2 (X0_0 m c t) (iblk m c 4 t) (X0_1 m c t) (iblk m c 5 t) (iblk m c 2 t) (iblk m c 3 t)) (k0_pay3 (grid0.coords t)) (iblk m c 6 t) (iblk m c 7 t))
    (eq_ix2 (n0 := 688) (n1 := 1024) y)).trans ((pay_at _ t.val (by simp only [idx t]) (by simp only [idx t]) _ _ _ _ _).trans ?_)
  refine ite_congr ?_ (fun _ => congrArg₂ (· + ·) (sum_congr rfl fun k _ => congrArg₂ (· * ·) (mix_block m c t _ _ (((win0_9.blk t).view.emb y) 0) ?_) ?_) ?_) fun _ => rfl
  · blk_simp [idx t]
  · blk_simp [idx t]
  · blk_point [iblk, idx t]
  · blk_point [iblk, idx t]

open Cert.Reference17Ideal.Read in
theorem ref (x0 x1 x2 x3) (i) : val_main_v27 (F := Ideal) x0 x1 x2 x3 i = G x0 x1 x2 x3 i := by
  obtain ⟨a, b, rfl⟩ : ∃ (a : Fin 8256) (b : Fin 1024), i = ix2 a b := ⟨i 0, i 1, eq_ix2 i⟩
  pointwise [val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

open Cert.Reference17Ideal.Read in
theorem ref' (x0 x1 x2 x3 x4 x5) (i) : val_main_v33 (F := Ideal) x0 x1 x2 x3 x4 x5 i = H x0 x1 x2 x3 x4 x5 i := by
  have e : val_main_v27 (F := Ideal) x0 x1 x2 x3 = G x0 x1 x2 x3 := funext (ref _ _ _ _)
  obtain ⟨a, b, rfl⟩ : ∃ (a : Fin 8256) (b : Fin 1024), i = ix2 a b := ⟨i 0, i 1, eq_ix2 i⟩
  unfold val_main_v33 val_main_v32 val_main_v31 val_main_v30 val_main_v28
  rw [e]
  pointwise [val_main_v29, val_main_call0_v0, val_main_c]
  refine (Mask.pad_row a (fun p => x5 (ix2 p b) + ∑ k : Fin 1024, G x0 x1 x2 x3 (ix2 p k) * x4 (ix2 k b)) _ Mask.zero_word).trans ?_
  exact ite_congr rfl (fun _ => add_comm _ _) fun _ => rfl

theorem frame : Cert.quiescent_Reference17Ideal := fun m g _ =>
  (θ_run Cert.Reference17Ideal.defs _ _).mono (fun r h => ⟨fun c => (h c).2.2, sem_eq_zero_of_no_sems (by decide) r.2⟩)
    (Cert.Reference17Ideal.Value.run (F := Ideal) m g)

/-- Over the extended reals, on any arguments: the gated merge and the projection of it. -/
theorem same : Cert.algebraic_Kernel17Ideal_Reference17Ideal := fun m g m' g' _ hagree =>
  ⟨fun c => (dats m 0 c).arrAt 8 cfg0.N, fun c => (dats m 0 c).arrAt 9 cfg0.N, Cert.Kernel17Ideal.Value.run_blocks (F := Ideal) m g,
    (θ_run Cert.Reference17Ideal.defs _ _).mono (fun r h c => by
      obtain ⟨a0, a1, a2, a3, a4, a5⟩ := hagree c
      exact ⟨(h c).1.trans ((Cert.Reference17Ideal.Read.val_main_v27_eq (F := Ideal) _ _ _ _).trans
      ((Agree.four (Cert.Reference17Ideal.Read.val_main_v27 (F := Ideal)) a0 a1 a2 a3).trans ((funext (ref _ _ _ _)).trans (final8 m c).symm))),
      (h c).2.1.trans ((Cert.Reference17Ideal.Read.val_main_v33_eq (F := Ideal) _ _ _ _ _ _).trans
      ((Agree.six (Cert.Reference17Ideal.Read.val_main_v33 (F := Ideal)) a0 a1 a2 a3 a4 a5).trans ((funext (ref' _ _ _ _ _ _)).trans (final9 m c).symm))), (h c).2.2⟩)
      (Cert.Reference17Ideal.Value.run (F := Ideal) m' g')⟩

end Cert.Prod17
-- ==== Proof.Rows.lean ====
module

public import Mathlib.Algebra.BigOperators.Fin
public import Mathlib.Logic.Equiv.Fin.Basic

@[expose] public section

/-! A sum over rows, taken block by block and added up as the blocks come. -/

namespace Cert.Rows

open Finset

variable {A : Type*} [AddCommMonoid A]

theorem lt_rows {N b : ℕ} (t : Fin N) (r : Fin b) : t.val * b + r.val < N * b :=
  lt_of_lt_of_le (by rw [Nat.succ_mul]; exact Nat.add_lt_add_left r.isLt _) (Nat.mul_le_mul_right b t.isLt)

/-- A sum over the rows of `N` blocks of `b` rows each. -/
theorem blocks {N b n : ℕ} (h : N * b = n) (f : Fin n → A) :
    ∑ t : Fin N, ∑ r : Fin b, f ⟨t.val * b + r.val, h ▸ lt_rows t r⟩ = ∑ k, f k := by
  subst h
  rw [← Fintype.sum_prod_type']
  refine Fintype.sum_equiv finProdFinEquiv _ _ fun p => congrArg f (Fin.ext ?_)
  simp [finProdFinEquiv, mul_comm, add_comm]

/-- What is kept after a block is what was kept before it and the block's own part. -/
theorem kept {N : ℕ} (p : Fin N → A) (s : (n : ℕ) → n < N → A) (h0 : ∀ h, s 0 h = p ⟨0, h⟩)
    (hs : ∀ n h, s (n + 1) h = s n (Nat.lt_of_succ_lt h) + p ⟨n + 1, h⟩) :
    ∀ n h, s n h = ∑ t : Fin (n + 1), p ⟨t.val, lt_of_lt_of_le t.isLt h⟩
  | 0, h => by rw [h0 h]; simp
  | n + 1, h => by rw [hs n h, kept p s h0 hs n, Fin.sum_univ_castSucc (n := n + 1)]; rfl

/-- After the last of the blocks the sum over all rows is kept. -/
theorem all {L N b n : ℕ} (hL : L = N + 1) (h : L * b = n) (f : Fin n → A) (s : (t : ℕ) → t < L → A) (p : Fin L → A)
    (hp : ∀ t, p t = ∑ r : Fin b, f ⟨t.val * b + r.val, h ▸ lt_rows t r⟩) (h0 : ∀ h, s 0 h = p ⟨0, h⟩)
    (hs : ∀ n h, s (n + 1) h = s n (Nat.lt_of_succ_lt h) + p ⟨n + 1, h⟩) (hN : N < L) : s N hN = ∑ k, f k := by
  subst hL
  rw [kept p s h0 hs, ← blocks h f]
  exact sum_congr rfl fun t _ => hp t

end Cert.Rows
-- ==== Proof.Prod18.lean ====
module

public import proofs.«01_k».proof.Defs
public import proofs.«01_k».proof.Proof.Agree
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Claim
public import proofs.«01_k».proof.Proof.Rows
public import proofs.«01_k».proof.Proof.Gates
@[expose] public section

/-! The gradients through the gated merge: the branches' block by block, the bias's summed over the twelve blocks of rows. -/

noncomputable section

namespace Cert.Prod18

open Idealize.ShloMosaic Idealize.ShloMosaic.TcCoe Cert.Kernel18Ideal Cert.Kernel18Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![t.val, 4] ∧ win0_2.index t = ![t.val, 5] ∧ win0_3.index t = ![t.val, 0]
    ∧ win0_4.index t = ![t.val, 0] ∧ win0_5.index t = ![0, 0] ∧ win0_6.index t = ![0, 1] ∧ win0_7.index t = ![t.val, 0] ∧ win0_8.index t = ![t.val, 0]
    ∧ win0_10.index t = ![0, 0] ∧ t.val < 12 :=
  (by decide +kernel : ∀ t : Fin grid0.N, _)

theorem high_hit (inb) (v : FVec Ideal S1x1024 .f32) (L : List (View.Piece (Elt Ideal) S1x2048 .f32)) (j : Fin 1024) :
    View.canon (⟨Rect.unit (s := S1x2048) ![0, 1024] S1x1024.size inb, v⟩ :: L) (ix2 0 (Gates.high j)) = v (ix2 0 j) := by
  have : ix2 0 (Gates.high j) = (Rect.unit (s := S1x2048) ![0, 1024] S1x1024.size inb).emb (ix2 (0 : Fin 1) j) := by
    funext b
    apply Fin.ext
    rw [ValueKit.rect_emb_unit_val]
    fin_cases b <;> simp [Gates.high]
  rw [this, View.canon_cons_emb]

theorem high_miss (inb) (v : FVec Ideal S1x1024 .f32) (L : List (View.Piece (Elt Ideal) S1x2048 .f32)) (j : Fin 1024) :
    View.canon (⟨Rect.unit (s := S1x2048) ![0, 1024] S1x1024.size inb, v⟩ :: L) (ix2 0 (Gates.low j)) = View.canon L (ix2 0 (Gates.low j)) := by
  refine View.canon_cons_of_not_mem _ _ ?_
  rw [Rect.mem_set_unit]
  intro hm
  have h1 : 1024 ≤ j.val ∧ j.val < 1024 + 1024 := hm 1
  omega

theorem low_hit (inb) (v : FVec Ideal S1x1024 .f32) (L : List (View.Piece (Elt Ideal) S1x2048 .f32)) (j : Fin 1024) :
    View.canon (⟨Rect.unit (s := S1x2048) ![0, 0] S1x1024.size inb, v⟩ :: L) (ix2 0 (Gates.low j)) = v (ix2 0 j) := by
  have : ix2 0 (Gates.low j) = (Rect.unit (s := S1x2048) ![0, 0] S1x1024.size inb).emb (ix2 (0 : Fin 1) j) := by
    funext b
    apply Fin.ext
    rw [ValueKit.rect_emb_unit_val]
    fin_cases b <;> simp [Gates.low]
  rw [this, View.canon_cons_emb]

theorem low_miss (inb) (v : FVec Ideal S1x1024 .f32) (L : List (View.Piece (Elt Ideal) S1x2048 .f32)) (j : Fin 1024) :
    View.canon (⟨Rect.unit (s := S1x2048) ![0, 0] S1x1024.size inb, v⟩ :: L) (ix2 0 (Gates.high j)) = View.canon L (ix2 0 (Gates.high j)) := by
  refine View.canon_cons_of_not_mem _ _ ?_
  rw [Rect.mem_set_unit]
  intro hm
  have h1 : 0 ≤ 1024 + j.val ∧ 1024 + j.val < 0 + 1024 := hm 1
  omega

theorem ld_low (X : Vec Ideal S1x2048 .f32) (inb) (j : Fin 1024) :
    View.ld (Val := Elt Ideal) (e' := .f32) X (Rect.unit (s := S1x2048) ![0, 0] S1x1024.size inb) (ix2 0 j) = X (ix2 0 (Gates.low j)) :=
  View.ld_unit_apply_of _ _ _ _ _ _ fun a => by fin_cases a <;> simp [Gates.low]

theorem ld_high (X : Vec Ideal S1x2048 .f32) (inb) (j : Fin 1024) :
    View.ld (Val := Elt Ideal) (e' := .f32) X (Rect.unit (s := S1x2048) ![0, 1024] S1x1024.size inb) (ix2 0 j) = X (ix2 0 (Gates.high j)) :=
  View.ld_unit_apply_of _ _ _ _ _ _ fun a => by fin_cases a <;> simp [Gates.high]

theorem zero_at (j : Fin 2048) : k0_pay7 (F := Ideal) (ix2 0 j) = 0 := by
  pointwise [k0_pay7]

/-- One block's part of a bias's gradient. -/
def part (d y u : Vec Ideal S688x1024 .bf16) (b : Vec Ideal S1x1024 .f32) (j : Fin 1024) : EReal :=
  ∑ r : Fin 688, Gates.share (d (ix2 r j)) (y (ix2 r j)) (u (ix2 r j)) (b (ix2 0 j))

theorem gate_at (u : Vec Ideal S688x1024 .bf16) (b : Vec Ideal S1x1024 .f32) (r : Fin 688) (j : Fin 1024) :
    k0_pay9 (F := Ideal) u b (ix2 r j) = Gates.gate (u (ix2 r j)) (b (ix2 0 j)) := by
  pointwise [k0_pay9]
  rw [zero_sub]
  rfl

theorem sum_at (d y u : Vec Ideal S688x1024 .bf16) (b s : Vec Ideal S1x1024 .f32) (j : Fin 1024) :
    k0_pay5 (F := Ideal) (k0_pay8 d) (k0_pay9 u b) y s (ix2 0 j) = s (ix2 0 j) + part d y u b j := by
  pointwise [k0_pay5, k0_pay1, k0_pay8]
  simp only [gate_at]
  rfl

theorem sum_at' (d y u : Vec Ideal S688x1024 .bf16) (b s : Vec Ideal S1x1024 .f32) (j : Fin 1024) :
    k0_pay6 (F := Ideal) (k0_pay8 d) (k0_pay10 u b) y s (ix2 0 j) = s (ix2 0 j) + part d y u b j := sum_at d y u b s j

theorem branch_at (d u : Vec Ideal S688x1024 .bf16) (b : Vec Ideal S1x1024 .f32) (r : Fin 688) (j : Fin 1024) :
    k0_pay11 (F := Ideal) d u b (ix2 r j) = d (ix2 r j) * Gates.gate (u (ix2 r j)) (b (ix2 0 j)) := by
  pointwise [k0_pay11, k0_pay8]
  rw [gate_at]

theorem branch_at' (d u : Vec Ideal S688x1024 .bf16) (b : Vec Ideal S1x1024 .f32) (r : Fin 688) (j : Fin 1024) :
    k0_pay12 (F := Ideal) d u b (ix2 r j) = d (ix2 r j) * Gates.gate (u (ix2 r j)) (b (ix2 0 j)) := branch_at d u b r j

section

variable {i : grid0.Coords} {arg1 : Memref sig .tc .vmem S688x1024 .bf16} {harg1 : arg1.IsWhole} {arg2 : Memref sig .tc .vmem S688x1024 .bf16} {harg2 : arg2.IsWhole}
  {arg3 : Memref sig .tc .vmem S688x1024 .bf16} {harg3 : arg3.IsWhole} {arg4 : Memref sig .tc .vmem S688x1024 .bf16} {harg4 : arg4.IsWhole}
  {arg5 : Memref sig .tc .vmem S688x1024 .bf16} {harg5 : arg5.IsWhole} {arg6 : Memref sig .tc .vmem S1x1024 .f32} {harg6 : arg6.IsWhole}
  {arg7 : Memref sig .tc .vmem S1x1024 .f32} {harg7 : arg7.IsWhole} {arg8 : Memref sig .tc .vmem S688x1024 .bf16} {harg8 : arg8.IsWhole}
  {arg9 : Memref sig .tc .vmem S688x1024 .bf16} {harg9 : arg9.IsWhole} {arg10 : Memref sig .tc .vmem S688x2048 .bf16} {harg10 : arg10.IsWhole}
  {arg11 : Memref sig .tc .vmem S1x2048 .f32} {harg11 : arg11.IsWhole}
  {d u v x y : Vec Ideal S688x1024 .bf16} {a b : Vec Ideal S1x1024 .f32} {s : Vec Ideal S1x2048 .f32}

theorem out_A {h0} : (out0_A_7 (F := Ideal) c i arg1 harg1 arg2 harg2 arg3 harg3 arg4 harg4 arg5 harg5 arg6 harg6 arg7 harg7 arg8 harg8 arg9 harg9 arg10 harg10 arg11 harg11 h0 d u v x y a b,
    out0_A_8 (F := Ideal) c i arg1 harg1 arg2 harg2 arg3 harg3 arg4 harg4 arg5 harg5 arg6 harg6 arg7 harg7 arg8 harg8 arg9 harg9 arg10 harg10 arg11 harg11 h0 d u v x y a b) =
    (k0_pay11 d u a, k0_pay12 d v b) := by
  unfold out0_A_7 out0_A_8
  rw [View.read_writes_junk_eq_canon, View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem out_B7 {h0} : out0_B_7 (F := Ideal) c i arg1 harg1 arg2 harg2 arg3 harg3 arg4 harg4 arg5 harg5 arg6 harg6 arg7 harg7 arg8 harg8 arg9 harg9 arg10 harg10 arg11 harg11 h0 d u v x y a b s = k0_pay11 d u a := by
  unfold out0_B_7
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

theorem out_B8 {h0} : out0_B_8 (F := Ideal) c i arg1 harg1 arg2 harg2 arg3 harg3 arg4 harg4 arg5 harg5 arg6 harg6 arg7 harg7 arg8 harg8 arg9 harg9 arg10 harg10 arg11 harg11 h0 d u v x y a b s = k0_pay12 d v b := by
  unfold out0_B_8
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

theorem bias_A {h0} (j : Fin 2048) : out0_A_10 (F := Ideal) c i arg1 harg1 arg2 harg2 arg3 harg3 arg4 harg4 arg5 harg5 arg6 harg6 arg7 harg7 arg8 harg8 arg9 harg9 arg10 harg10 arg11 harg11 h0 d u v x y a b (ix2 0 j)
    = Gates.both (part d x u a) (part d y v b) j := by
  unfold out0_A_10
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rcases Gates.halves j with ⟨j, rfl⟩ | ⟨j, rfl⟩
  · rw [high_miss, low_hit, sum_at, ld_low, zero_at, zero_add, Gates.both_low]
  · rw [high_hit, sum_at', ld_high, low_miss, View.canon_cons_unit_lit' _ _ _ (by decide), zero_at, zero_add, Gates.both_high]

theorem bias_B {h0} (j : Fin 2048) : out0_B_10 (F := Ideal) c i arg1 harg1 arg2 harg2 arg3 harg3 arg4 harg4 arg5 harg5 arg6 harg6 arg7 harg7 arg8 harg8 arg9 harg9 arg10 harg10 arg11 harg11 h0 d u v x y a b s (ix2 0 j)
    = s (ix2 0 j) + Gates.both (part d x u a) (part d y v b) j := by
  unfold out0_B_10
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  rcases Gates.halves j with ⟨j, rfl⟩ | ⟨j, rfl⟩
  · rw [high_miss, low_hit, sum_at, ld_low, Gates.both_low]
  · rw [high_hit, sum_at', ld_high, Gates.both_high]

end

theorem branches (t : Fin cfg0.N) : (outsAt0 m c t.val t.isLt).1 = k0_pay11 (iblk m c 0 t) (X0_1 m c t) (iblk m c 5 t)
    ∧ (outsAt0 m c t.val t.isLt).2.1 = k0_pay12 (iblk m c 0 t) (X0_2 m c t) (iblk m c 6 t) := by
  by_cases h : t.val % 12 = 0
  · rw [outsAt0_A m c t h]
    exact ⟨congrArg Prod.fst (out_A c), congrArg Prod.snd (out_A c)⟩
  · rw [outsAt0_B m c t h]
    dsimp only
    exact ⟨out_B7 c, out_B8 c⟩

/-- A block's part of the bias's gradient, at a column of the bias. -/
def step (t : Fin cfg0.N) : Fin 2048 → EReal :=
  Gates.both (part (iblk m c 0 t) (iblk m c 3 t) (X0_1 m c t) (iblk m c 5 t)) (part (iblk m c 0 t) (iblk m c 4 t) (X0_2 m c t) (iblk m c 6 t))

theorem bias_first (h : 0 < cfg0.N) (j : Fin 2048) : (outsAt0 m c 0 h).2.2.2 (ix2 0 j) = step m c ⟨0, h⟩ j := by
  rw [outsAt0_A m c ⟨0, h⟩ rfl]
  dsimp only
  exact (bias_A c j).trans rfl

theorem bias_next (n : ℕ) (h : n + 1 < cfg0.N) (j : Fin 2048) :
    (outsAt0 m c (n + 1) h).2.2.2 (ix2 0 j) = (outsAt0 m c n (Nat.lt_of_succ_lt h)).2.2.2 (ix2 0 j) + step m c ⟨n + 1, h⟩ j := by
  rw [outsAt0_B m c ⟨n + 1, h⟩ (by have := (idx ⟨n + 1, h⟩).2.2.2.2.2.2.2.2.2.2; simp only at this ⊢; omega)]
  dsimp only
  exact (bias_B c j).trans rfl

/-- A branch's gradient, entry by entry; `f` are its gate's columns, `g` the bias's. -/
def G (f : Fin 1024 → Fin 6272) (g : Fin 1024 → Fin 2048) (d : Vec Ideal S8256x1024 .bf16) (p : Vec Ideal S8256x6272 .bf16) (b : Vec Ideal S1x2048 .f32) :
    Vec Ideal S8256x1024 .bf16 :=
  fun i => d i * Gates.gate (p (ix2 (i 0) (f (i 1)))) (b (ix2 0 (g (i 1))))

/-- One row's share of a bias's gradient. -/
def prod (f : Fin 1024 → Fin 6272) (g : Fin 1024 → Fin 2048) (d : Vec Ideal S8256x1024 .bf16) (p : Vec Ideal S8256x6272 .bf16) (y : Vec Ideal S8256x1024 .bf16)
    (b : Vec Ideal S1x2048 .f32) (j : Fin 1024) (k : Fin 8256) : EReal :=
  Gates.share (d (ix2 k j)) (y (ix2 k j)) (p (ix2 k (f j))) (b (ix2 0 (g j)))

/-- The bias's gradient, entry by entry. -/
def H (d : Vec Ideal S8256x1024 .bf16) (p : Vec Ideal S8256x6272 .bf16) (y z : Vec Ideal S8256x1024 .bf16) (b : Vec Ideal S1x2048 .f32) : Vec Ideal S1x2048 .f32 :=
  fun i => Gates.both (fun j => ∑ k : Fin 8256, prod Gates.first Gates.low d p y b j k) (fun j => ∑ k : Fin 8256, prod Gates.second Gates.high d p z b j k) (i 1)

theorem gate_first (t : Fin cfg0.N) (r : Fin 688) (j : Fin 1024) (p : Fin 8256) (hp : p.val = t.val * 688 + r.val) :
    X0_1 m c t (ix2 r j) = V m c main_arg1 (ix2 p (Gates.first j)) := by
  unfold X0_1 Pipeline.Window.fill
  rw [dif_pos (moved0_1 t _)]
  blk_point [iblk, idx t, hp, Gates.first]

theorem gate_second (t : Fin cfg0.N) (r : Fin 688) (j : Fin 1024) (p : Fin 8256) (hp : p.val = t.val * 688 + r.val) :
    X0_2 m c t (ix2 r j) = V m c main_arg1 (ix2 p (Gates.second j)) := by
  unfold X0_2 Pipeline.Window.fill
  rw [dif_pos (moved0_2 t _)]
  blk_point [iblk, idx t, hp, Gates.second]

theorem bias_low (t : Fin cfg0.N) (j : Fin 1024) : iblk m c 5 t (ix2 0 j) = V m c main_arg4 (ix2 0 (Gates.low j)) := by
  blk_point [iblk, idx t, Gates.low]

theorem bias_high (t : Fin cfg0.N) (j : Fin 1024) : iblk m c 6 t (ix2 0 j) = V m c main_arg4 (ix2 0 (Gates.high j)) := by
  blk_point [iblk, idx t, Gates.high]

theorem final7 : (dats m 0 c).arrAt 7 cfg0.N = G Gates.first Gates.low (V m c main_arg0) (V m c main_arg1) (V m c main_arg4) := by
  refine (dats m 0 c).arrAt_eq_of_covers 7 _ (by decide +kernel) (fun t hf y => ?_)
  have hy : (y 1 : Fin 1024) = ((win0_7.blk t).view.emb y) 1 := Fin.ext (by blk_simp [idx t])
  rw [after0_7, (branches m c t).1]
  blk_simp [idx t]
  refine (congrArg (k0_pay11 (iblk m c 0 t) (X0_1 m c t) (iblk m c 5 t)) (eq_ix2 (n0 := 688) (n1 := 1024) y)).trans ((branch_at _ _ _ _ _).trans
    (congrArg₂ (· * ·) ?_ (congrArg₂ Gates.gate ((gate_first m c t _ _ (((win0_7.blk t).view.emb y) 0) ?_).trans ?_) ((bias_low m c t _).trans ?_))))
  · blk_point [iblk, idx t]
  · blk_simp [idx t]
  · exact congrArg (fun j : Fin 1024 => V m c main_arg1 (ix2 _ (Gates.first j))) hy
  · exact congrArg (fun j : Fin 1024 => V m c main_arg4 (ix2 0 (Gates.low j))) hy

theorem final8 : (dats m 0 c).arrAt 8 cfg0.N = G Gates.second Gates.high (V m c main_arg0) (V m c main_arg1) (V m c main_arg4) := by
  refine (dats m 0 c).arrAt_eq_of_covers 8 _ (by decide +kernel) (fun t hf y => ?_)
  have hy : (y 1 : Fin 1024) = ((win0_8.blk t).view.emb y) 1 := Fin.ext (by blk_simp [idx t])
  rw [after0_8, (branches m c t).2]
  blk_simp [idx t]
  refine (congrArg (k0_pay12 (iblk m c 0 t) (X0_2 m c t) (iblk m c 6 t)) (eq_ix2 (n0 := 688) (n1 := 1024) y)).trans ((branch_at' _ _ _ _ _).trans
    (congrArg₂ (· * ·) ?_ (congrArg₂ Gates.gate ((gate_second m c t _ _ (((win0_8.blk t).view.emb y) 0) ?_).trans ?_) ((bias_high m c t _).trans ?_))))
  · blk_point [iblk, idx t]
  · blk_simp [idx t]
  · exact congrArg (fun j : Fin 1024 => V m c main_arg1 (ix2 _ (Gates.second j))) hy
  · exact congrArg (fun j : Fin 1024 => V m c main_arg4 (ix2 0 (Gates.high j))) hy

theorem kept (j : Fin 2048) (h : 11 < cfg0.N) : (outsAt0 m c 11 h).2.2.2 (ix2 0 j)
    = H (V m c main_arg0) (V m c main_arg1) (V m c main_arg2) (V m c main_arg3) (V m c main_arg4) (ix2 0 j) := by
  rcases Gates.halves j with ⟨j, rfl⟩ | ⟨j, rfl⟩
  · refine (Rows.all (L := cfg0.N) (N := 11) (b := 688) N_0 (by rw [show cfg0.N = 12 from N_0])
      (prod Gates.first Gates.low (V m c main_arg0) (V m c main_arg1) (V m c main_arg2) (V m c main_arg4) j) (fun n hn => (outsAt0 m c n hn).2.2.2 (ix2 0 (Gates.low j)))
      (fun t => step m c t (Gates.low j)) (fun t => ?_) (fun hn => bias_first m c hn _) (fun n hn => bias_next m c n hn _) h).trans (Gates.both_low (fun j => ∑ k : Fin 8256, prod Gates.first Gates.low (V m c main_arg0) (V m c main_arg1) (V m c main_arg2) (V m c main_arg4) j k) _ j).symm
    refine (Gates.both_low _ _ _).trans (sum_congr rfl fun r _ => ?_)
    refine (congrArg₂ (fun x y => Gates.share _ _ x y) (gate_first m c t _ _ _ rfl) (bias_low m c t _)).trans
      (congrArg₂ (fun x y => Gates.share x y _ _) ?_ ?_)
    · blk_point [iblk, idx t]
    · blk_point [iblk, idx t]
  · refine (Rows.all (L := cfg0.N) (N := 11) (b := 688) N_0 (by rw [show cfg0.N = 12 from N_0])
      (prod Gates.second Gates.high (V m c main_arg0) (V m c main_arg1) (V m c main_arg3) (V m c main_arg4) j) (fun n hn => (outsAt0 m c n hn).2.2.2 (ix2 0 (Gates.high j)))
      (fun t => step m c t (Gates.high j)) (fun t => ?_) (fun hn => bias_first m c hn _) (fun n hn => bias_next m c n hn _) h).trans (Gates.both_high _ (fun j => ∑ k : Fin 8256, prod Gates.second Gates.high (V m c main_arg0) (V m c main_arg1) (V m c main_arg3) (V m c main_arg4) j k) j).symm
    refine (Gates.both_high _ _ _).trans (sum_congr rfl fun r _ => ?_)
    refine (congrArg₂ (fun x y => Gates.share _ _ x y) (gate_second m c t _ _ _ rfl) (bias_high m c t _)).trans
      (congrArg₂ (fun x y => Gates.share x y _ _) ?_ ?_)
    · blk_point [iblk, idx t]
    · blk_point [iblk, idx t]

theorem kept_at (t : Fin cfg0.N) (ht : t.val = 11) (z : Fin 1) (j : Fin 2048) : (outsAt0 m c t.val t.isLt).2.2.2 (ix2 z j)
    = H (V m c main_arg0) (V m c main_arg1) (V m c main_arg2) (V m c main_arg3) (V m c main_arg4) (ix2 z j) := by
  obtain ⟨n, hn⟩ := t
  obtain rfl : n = 11 := ht
  obtain rfl : z = 0 := Subsingleton.elim _ _
  exact kept m c j hn

theorem final10 : (dats m 0 c).arrAt 10 cfg0.N = H (V m c main_arg0) (V m c main_arg1) (V m c main_arg2) (V m c main_arg3) (V m c main_arg4) := by
  refine (dats m 0 c).arrAt_eq_of_covers 10 _ (by decide +kernel) (fun t hf y => ?_)
  have ht : t.val = 11 := by have h1 := (flush0_10 t).mp hf; have h2 := (idx t).2.2.2.2.2.2.2.2.2.2; omega
  rw [after0_10]
  blk_simp [idx t]
  refine (congrArg (outsAt0 m c t.val t.isLt).2.2.2 (eq_ix2 (n0 := 1) (n1 := 2048) y)).trans
    ((kept_at m c t ht _ _).trans (congrArg (H (V m c main_arg0) (V m c main_arg1) (V m c main_arg2) (V m c main_arg3) (V m c main_arg4)) ?_))
  refine Eq.trans (congrArg₂ ix2 (Subsingleton.elim (α := Fin 1) _ _) (Fin.ext ?_)) (eq_ix2 (n0 := 1) (n1 := 2048) _).symm
  blk_simp [idx t]

open Cert.Reference18Ideal.Read in
theorem ref7 (x0 x1 x4) (i) : val_main_v47 (F := Ideal) x0 x1 x4 i = G Gates.first Gates.low x0 x1 x4 i := by
  obtain ⟨a, b, rfl⟩ : ∃ (a : Fin 8256) (b : Fin 1024), i = ix2 a b := ⟨i 0, i 1, eq_ix2 i⟩
  pointwise [val_main_v47, val_main_v40, val_main_v33, val_main_v14, val_main_v13, val_main_v12, val_main_v11, val_main_v10, val_main_v9, val_main_v8, val_main_v7,
    val_main_v6, val_main_v4, val_main_v1, val_main_v0, val_main_cst, val_main_cst_0]
  exact mul_comm _ _

open Cert.Reference18Ideal.Read in
theorem ref8 (x0 x1 x4) (i) : val_main_v48 (F := Ideal) x0 x1 x4 i = G Gates.second Gates.high x0 x1 x4 i := by
  obtain ⟨a, b, rfl⟩ : ∃ (a : Fin 8256) (b : Fin 1024), i = ix2 a b := ⟨i 0, i 1, eq_ix2 i⟩
  pointwise [val_main_v48, val_main_v34, val_main_v33, val_main_v27, val_main_v26, val_main_v25, val_main_v24, val_main_v23, val_main_v22, val_main_v21, val_main_v20,
    val_main_v19, val_main_v5, val_main_v1, val_main_v0, val_main_cst_2, val_main_cst_3]
  exact mul_comm _ _

open Cert.Reference18Ideal.Read in
theorem ref10 (x0 x1 x2 x3 x4) (i) : val_main_v46 (F := Ideal) x0 x1 x2 x3 x4 i = H x0 x1 x2 x3 x4 i := by
  obtain ⟨z, j, rfl⟩ : ∃ (z : Fin 1) (j : Fin 2048), i = ix2 z j := ⟨i 0, i 1, eq_ix2 i⟩
  pointwise [val_main_v46, val_main_v45, val_main_v44, val_main_v43, val_main_v42, val_main_v41, val_main_v39, val_main_v38, val_main_v37, val_main_v36, val_main_v35,
    val_main_v33, val_main_v30, val_main_v29, val_main_v28, val_main_v27, val_main_v26, val_main_v25, val_main_v24, val_main_v23, val_main_v22, val_main_v21, val_main_v20,
    val_main_v19, val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_2,
    val_main_cst_3, val_main_cst_4, val_main_cst_5, val_main_cst_6, val_main_cst_7, val_main_cst_8]
  rcases Gates.halves j with ⟨j, rfl⟩ | ⟨j, rfl⟩
  · refine Eq.trans ?_ (Gates.both_low _ _ j).symm
    rw [dif_neg (by simp only [Gates.low]; omega), dif_pos (show (Gates.low j).val < 1024 from j.isLt), zero_add]
    exact sum_congr rfl fun k _ => (mul_assoc _ _ _).symm
  · refine Eq.trans ?_ (Gates.both_high _ _ j).symm
    rw [dif_pos (by simp only [Gates.high]; omega), dif_neg (by simp only [Gates.high]; omega), add_zero]
    refine sum_congr rfl fun k _ => (mul_assoc _ _ _).symm.trans ?_
    have hj : 1024 + j.val - 1024 = j.val := by omega
    simp only [Gates.high, hj]
    rfl

theorem frame : Cert.quiescent_Reference18Ideal := fun m g _ =>
  (θ_run Cert.Reference18Ideal.defs _ _).mono (fun r h => ⟨fun c => (h c).2.2.2, sem_eq_zero_of_no_sems (by decide) r.2⟩)
    (Cert.Reference18Ideal.Value.run (F := Ideal) m g)

/-- Over the extended reals, on any arguments: the gradients of the two branches and of the gates' bias. -/
theorem same : Cert.algebraic_Kernel18Ideal_Reference18Ideal := fun m g m' g' _ hagree =>
  ⟨fun c => (dats m 0 c).arrAt 7 cfg0.N, fun c => (dats m 0 c).arrAt 8 cfg0.N, fun c => (dats m 0 c).arrAt 10 cfg0.N,
    (θ_run Cert.Kernel18Ideal.defs _ _).mono (fun r h c => ⟨(h c).1, (h c).2.1, (h c).2.2.2.1, (h c).2.2.2.2⟩) (Cert.Kernel18Ideal.Value.run_blocks (F := Ideal) m g),
    (θ_run Cert.Reference18Ideal.defs _ _).mono (fun r h c => by
      obtain ⟨a0, a1, a2, a3, a4⟩ := hagree c
      exact ⟨(h c).1.trans ((Cert.Reference18Ideal.Read.val_main_v47_eq (F := Ideal) _ _ _).trans
      ((Agree.three (Cert.Reference18Ideal.Read.val_main_v47 (F := Ideal)) a0 a1 a4).trans ((funext (ref7 _ _ _)).trans (final7 m c).symm))),
      (h c).2.1.trans ((Cert.Reference18Ideal.Read.val_main_v48_eq (F := Ideal) _ _ _).trans
      ((Agree.three (Cert.Reference18Ideal.Read.val_main_v48 (F := Ideal)) a0 a1 a4).trans ((funext (ref8 _ _ _)).trans (final8 m c).symm))),
      (h c).2.2.1.trans ((Cert.Reference18Ideal.Read.val_main_v46_eq (F := Ideal) _ _ _ _ _).trans
      ((Agree.five (Cert.Reference18Ideal.Read.val_main_v46 (F := Ideal)) a0 a1 a2 a3 a4).trans ((funext (ref10 _ _ _ _ _)).trans (final10 m c).symm))), (h c).2.2.2⟩)
      (Cert.Reference18Ideal.Value.run (F := Ideal) m' g')⟩

end Cert.Prod18
-- ==== Proof.Prod19.lean ====
module

public import proofs.«01_k».proof.Defs
public import proofs.«01_k».proof.Proof.Agree
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Claim
public import proofs.«01_k».proof.Proof.Rows
@[expose] public section

/-! The gradients through the merge's scale: the operand's block by block, the scale's summed over the twelve blocks of rows. -/

noncomputable section

namespace Cert.Prod19

open Idealize.ShloMosaic Idealize.ShloMosaic.TcCoe Cert.Kernel19Ideal Cert.Kernel19Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ t.val < 12 :=
  (by decide +kernel : ∀ t : Fin grid0.N, _)

section

variable {i : grid0.Coords} {arg1 : Memref sig .tc .vmem S688x1024 .bf16} {harg1 : arg1.IsWhole} {arg2 : Memref sig .tc .vmem S688x1024 .bf16} {harg2 : arg2.IsWhole}
  {arg3 : Memref sig .tc .vmem S1x1024 .f32} {harg3 : arg3.IsWhole} {arg4 : Memref sig .tc .vmem S688x1024 .bf16} {harg4 : arg4.IsWhole}
  {arg5 : Memref sig .tc .vmem S1x1024 .f32} {harg5 : arg5.IsWhole} {x y : Vec Ideal S688x1024 .bf16} {g s : Vec Ideal S1x1024 .f32}

theorem out_A {h0} : (out0_A_3 (F := Ideal) c i arg1 harg1 arg2 harg2 arg3 harg3 arg4 harg4 arg5 harg5 h0 x y g,
    out0_A_4 (F := Ideal) c i arg1 harg1 arg2 harg2 arg3 harg3 arg4 harg4 arg5 harg5 h0 x y g) = (k0_pay3 x g, k0_pay4 x (k0_pay1 (F := Ideal)) y) := by
  unfold out0_A_3 out0_A_4
  rw [View.read_writes_junk_eq_canon, View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem out_B {h0} : (out0_B_3 (F := Ideal) c i arg1 harg1 arg2 harg2 arg3 harg3 arg4 harg4 arg5 harg5 h0 x y g s,
    out0_B_4 (F := Ideal) c i arg1 harg1 arg2 harg2 arg3 harg3 arg4 harg4 arg5 harg5 h0 x y g s) = (k0_pay3 x g, k0_pay4 x s y) := by
  unfold out0_B_3 out0_B_4
  rw [View.read_writes_junk_eq_canon, View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

end

theorem out_first (h : 0 < cfg0.N) : outsAt0 m c 0 h = (k0_pay3 (iblk m c 0 ⟨0, h⟩) (iblk m c 2 ⟨0, h⟩), k0_pay4 (iblk m c 0 ⟨0, h⟩) (k0_pay1 (F := Ideal)) (iblk m c 1 ⟨0, h⟩)) :=
  (outsAt0_A m c ⟨0, h⟩ rfl).trans (out_A c)

theorem out_next (n : ℕ) (h : n + 1 < cfg0.N) : outsAt0 m c (n + 1) h = (k0_pay3 (iblk m c 0 ⟨n + 1, h⟩) (iblk m c 2 ⟨n + 1, h⟩),
    k0_pay4 (iblk m c 0 ⟨n + 1, h⟩) (outsAt0 m c n (Nat.lt_of_succ_lt h)).2 (iblk m c 1 ⟨n + 1, h⟩)) :=
  (outsAt0_B m c ⟨n + 1, h⟩ (by have := (idx ⟨n + 1, h⟩).2.2.2.2.2; simp only at this ⊢; omega)).trans (out_B c)

/-- One block's part of the scale's gradient. -/
def part (x y : Vec Ideal S688x1024 .bf16) (j : Fin 1024) : EReal := ∑ r : Fin 688, x (ix2 r j) * y (ix2 r j)

theorem sum_at (x y : Vec Ideal S688x1024 .bf16) (s : Vec Ideal S1x1024 .f32) (j : Fin 1024) :
    k0_pay4 (F := Ideal) x s y (ix2 0 j) = s (ix2 0 j) + part x y j := by
  pointwise [k0_pay4, k0_pay2]
  rfl

theorem zero_at (j : Fin 1024) : k0_pay1 (F := Ideal) (ix2 0 j) = 0 := by
  pointwise [k0_pay1]

theorem scale_at (x : Vec Ideal S688x1024 .bf16) (g : Vec Ideal S1x1024 .f32) (r : Fin 688) (j : Fin 1024) :
    k0_pay3 (F := Ideal) x g (ix2 r j) = x (ix2 r j) * g (ix2 0 j) := by
  pointwise [k0_pay3, k0_pay2]

/-- The operand's gradient, entry by entry. -/
def G (x : Vec Ideal S8256x1024 .bf16) (g : Vec Ideal S1x1024 .f32) : Vec Ideal S8256x1024 .bf16 := fun i => x i * g (ix2 0 (i 1))

/-- One row's share of the scale's gradient. -/
def prod (x y : Vec Ideal S8256x1024 .bf16) (j : Fin 1024) (k : Fin 8256) : EReal := x (ix2 k j) * y (ix2 k j)

/-- The scale's gradient, entry by entry. -/
def H (x y : Vec Ideal S8256x1024 .bf16) : Vec Ideal S1x1024 .f32 := fun i => ∑ k : Fin 8256, prod x y (i 1) k

theorem out_fst (t : Fin cfg0.N) : (outsAt0 m c t.val t.isLt).1 = k0_pay3 (iblk m c 0 t) (iblk m c 2 t) := by
  obtain ⟨n, hn⟩ := t
  cases n with
  | zero => exact congrArg Prod.fst (out_first m c hn)
  | succ n => exact congrArg Prod.fst (out_next m c n hn)

theorem final3 : (dats m 0 c).arrAt 3 cfg0.N = G (V m c main_arg0) (V m c main_arg2) := by
  refine (dats m 0 c).arrAt_eq_of_covers 3 _ (by decide +kernel) (fun t hf y => ?_)
  rw [after0_3, out_fst]
  blk_simp [idx t]
  refine (congrArg (k0_pay3 (iblk m c 0 t) (iblk m c 2 t)) (eq_ix2 (n0 := 688) (n1 := 1024) y)).trans ((scale_at _ _ _ _).trans (congrArg₂ (· * ·) ?_ ?_))
  · blk_point [iblk, idx t]
  · blk_point [iblk, idx t]

theorem kept (j : Fin 1024) (h : 11 < cfg0.N) : (outsAt0 m c 11 h).2 (ix2 0 j) = H (V m c main_arg0) (V m c main_arg1) (ix2 0 j) := by
  refine Rows.all (L := cfg0.N) (N := 11) (b := 688) N_0 (by rw [show cfg0.N = 12 from N_0]) (prod (V m c main_arg0) (V m c main_arg1) j) (fun n hn => (outsAt0 m c n hn).2 (ix2 0 j))
    (fun t => part (iblk m c 0 t) (iblk m c 1 t) j) (fun t => ?_) (fun hn => ?_) (fun n hn => ?_) h
  · refine sum_congr rfl fun r _ => congrArg₂ (· * ·) ?_ ?_
    · blk_point [iblk, idx t]
    · blk_point [iblk, idx t]
  · simp only [out_first]
    rw [sum_at, zero_at, zero_add]
  · simp only [out_next]
    rw [sum_at]

theorem kept_at (t : Fin cfg0.N) (ht : t.val = 11) (z : Fin 1) (j : Fin 1024) :
    (outsAt0 m c t.val t.isLt).2 (ix2 z j) = H (V m c main_arg0) (V m c main_arg1) (ix2 z j) := by
  obtain ⟨n, hn⟩ := t
  obtain rfl : n = 11 := ht
  obtain rfl : z = 0 := Subsingleton.elim _ _
  exact kept m c j hn

theorem final4 : (dats m 0 c).arrAt 4 cfg0.N = H (V m c main_arg0) (V m c main_arg1) := by
  refine (dats m 0 c).arrAt_eq_of_covers 4 _ (by decide +kernel) (fun t hf y => ?_)
  have ht : t.val = 11 := by have h1 := (flush0_4 t).mp hf; have h2 := (idx t).2.2.2.2.2; omega
  rw [after0_4]
  blk_simp [idx t]
  refine (congrArg (outsAt0 m c t.val t.isLt).2 (eq_ix2 (n0 := 1) (n1 := 1024) y)).trans
    ((kept_at m c t ht _ _).trans (congrArg (H (V m c main_arg0) (V m c main_arg1)) ?_))
  refine Eq.trans (congrArg₂ ix2 (Subsingleton.elim (α := Fin 1) _ _) (Fin.ext ?_)) (eq_ix2 (n0 := 1) (n1 := 1024) _).symm
  blk_simp [idx t]

open Cert.Reference19Ideal.Read in
theorem ref (x0 x2) (i) : val_main_v9 (F := Ideal) x0 x2 i = G x0 x2 i := by
  obtain ⟨a, b, rfl⟩ : ∃ (a : Fin 8256) (b : Fin 1024), i = ix2 a b := ⟨i 0, i 1, eq_ix2 i⟩
  pointwise [val_main_v9, val_main_v8, val_main_v7, val_main_v3]
  rfl

open Cert.Reference19Ideal.Read in
theorem ref' (x0 x1) (i) : val_main_v6 (F := Ideal) x0 x1 i = H x0 x1 i := by
  obtain ⟨a, b, rfl⟩ : ∃ (a : Fin 1) (b : Fin 1024), i = ix2 a b := ⟨i 0, i 1, eq_ix2 i⟩
  pointwise [val_main_v6, val_main_v5, val_main_v4, val_main_v3, val_main_v0, val_main_cst]
  exact sum_congr rfl fun k _ => mul_comm _ _

theorem frame : Cert.quiescent_Reference19Ideal := fun m g _ =>
  (θ_run Cert.Reference19Ideal.defs _ _).mono (fun r h => ⟨fun c => (h c).2.2, sem_eq_zero_of_no_sems (by decide) r.2⟩)
    (Cert.Reference19Ideal.Value.run (F := Ideal) m g)

/-- Over the extended reals, on any arguments: the operand's gradient and the scale's. -/
theorem same : Cert.algebraic_Kernel19Ideal_Reference19Ideal := fun m g m' g' _ hagree =>
  ⟨fun c => (dats m 0 c).arrAt 3 cfg0.N, fun c => (dats m 0 c).arrAt 4 cfg0.N, Cert.Kernel19Ideal.Value.run_blocks (F := Ideal) m g,
    (θ_run Cert.Reference19Ideal.defs _ _).mono (fun r h c => by
      obtain ⟨a0, a1, a2⟩ := hagree c
      exact ⟨(h c).1.trans ((Cert.Reference19Ideal.Read.val_main_v9_eq (F := Ideal) _ _).trans
      ((Agree.two (Cert.Reference19Ideal.Read.val_main_v9 (F := Ideal)) a0 a2).trans ((funext (ref _ _)).trans (final3 m c).symm))),
      (h c).2.1.trans ((Cert.Reference19Ideal.Read.val_main_v6_eq (F := Ideal) _ _).trans
      ((Agree.two (Cert.Reference19Ideal.Read.val_main_v6 (F := Ideal)) a0 a1).trans ((funext (ref' _ _)).trans (final4 m c).symm))), (h c).2.2⟩)
      (Cert.Reference19Ideal.Value.run (F := Ideal) m' g')⟩

end Cert.Prod19
-- ==== Proof.Prod20.lean ====
module

public import proofs.«01_k».proof.Defs
public import proofs.«01_k».proof.Proof.Agree
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Claim

@[expose] public section

/-! The norm of rows: twelve blocks of rows. -/

noncomputable section

namespace Cert.Prod20

open Idealize.ShloMosaic Idealize.ShloMosaic.TcCoe Cert.Kernel20Ideal Cert.Kernel20Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- A row's entry `x` of a row whose squares sum to `s`, scaled by `g`. -/
def scaled (x s g : EReal) : EReal :=
  x * Ideal.rsqrt (Ideal.div s (Ideal.ofBits .f32 0x44800000#32) + Ideal.ofBits .f32 0x358637BD#32) * g

theorem out_at (x : Vec Ideal S688x1024 .f32) (g : Vec Ideal S1x1024 .f32) (r : Fin 688) (j : Fin 1024) :
    out0_2 (F := Ideal) x g (ix2 r j) = scaled (x (ix2 r j)) (∑ k : Fin 1024, x (ix2 r k) * x (ix2 r k)) (g (ix2 0 j)) := by
  unfold out0_2
  simp (disch := decide) only [View.ld_unit_lit', View.canon_cons_unit_lit']
  pointwise [k0_pay1]
  rfl

/-- The normed rows, entry by entry. -/
def G (x : Vec Ideal S8256x1024 .f32) (g : Vec Ideal S1x1024 .f32) : Vec Ideal S8256x1024 .bf16 :=
  fun i => scaled (x i) (∑ k : Fin 1024, x (ix2 (i 0) k) * x (ix2 (i 0) k)) (g (ix2 0 (i 1)))

theorem final : (dats m 0 c).arrAt 2 cfg0.N = G (V m c main_arg0) (V m c main_arg1) := by
  refine (dats m 0 c).arrAt_eq_of_covers 2 _ (by decide +kernel) (fun t hf y => ?_)
  rw [after0_2]
  blk_simp [idx t]
  refine (congrArg (out0_2 (iblk m c 0 t) (iblk m c 1 t)) (eq_ix2 (n0 := 688) (n1 := 1024) y)).trans ((out_at _ _ _ _).trans
    (Agree.three scaled ?_ (sum_congr rfl fun k _ => congrArg (fun z : EReal => z * z) ?_) ?_))
  · blk_point [iblk, idx t]
  · blk_point [iblk, idx t]
  · blk_point [iblk, idx t]

open Cert.Reference20Ideal.Read in
theorem ref (x0 x1) (i) : val_main_v12 (F := Ideal) x0 x1 i = G x0 x1 i := by
  obtain ⟨a, b, rfl⟩ : ∃ (a : Fin 8256) (b : Fin 1024), i = ix2 a b := ⟨i 0, i 1, eq_ix2 i⟩
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  rfl

theorem frame : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

/-- Over the extended reals, on any arguments: the norm of the rows. -/
theorem same : Cert.algebraic_Kernel20Ideal_Reference20Ideal := fun m g m' g' _ hagree =>
  ⟨fun c => (dats m 0 c).arrAt 2 cfg0.N, Cert.Kernel20Ideal.Value.run_blocks (F := Ideal) m g,
    (θ_run Cert.Reference20Ideal.defs _ _).mono (fun r h c => ⟨(h c).1.trans ((Cert.Reference20Ideal.Read.val_main_v12_eq (F := Ideal) _ _).trans
      ((Agree.two (Cert.Reference20Ideal.Read.val_main_v12 (F := Ideal)) (hagree c).1 (hagree c).2).trans ((funext (ref _ _)).trans (final m c).symm))), (h c).2⟩)
      (Cert.Reference20Ideal.Value.run (F := Ideal) m' g')⟩

end Cert.Prod20
-- ==== Proof.Norm.lean ====
module

public import proofs.«01_k».proof.Proof.Lift1

@[expose] public section

/-! The gradient of a norm's row: the factored form, and the one that the derivative gives. -/

noncomputable section

namespace Cert.Norm

open Idealize.ShloMosaic Finset

/-- The mean square of a row whose squares sum to `s`, kept from zero. -/
def mean (s : EReal) : EReal := Ideal.div s (Ideal.ofBits .f32 0x44800000#32) + Ideal.ofBits .f32 0x358637BD#32

/-- What a row is scaled by. -/
def inv (s : EReal) : EReal := Ideal.rsqrt (mean s)

/-- The gradient at column `j` of the row `x`, where the scaled row's gradient is `u`: the factored form. -/
def factored (x u : Fin 1024 → EReal) (j : Fin 1024) : EReal :=
  inv (∑ k, x k * x k) * (u j - x j * inv (∑ k, x k * x k) * Ideal.div (∑ k, u k * (x k * inv (∑ k, x k * x k))) (Ideal.ofBits .f32 0x44800000#32))

/-- What the row's mean square contributes to each entry, but for the entry. -/
def common (x u : Fin 1024 → EReal) : EReal :=
  Ideal.div ((∑ k, x k * u k) * (Ideal.ofBits .f32 0xBF000000#32 * Ideal.div (inv (∑ k, x k * x k)) (mean (∑ k, x k * x k)))) (Ideal.ofBits .f32 0x44800000#32)

/-- The same gradient as the derivative gives it. -/
def derived (x u : Fin 1024 → EReal) (j : Fin 1024) : EReal := u j * inv (∑ k, x k * x k) + x j * common x u + common x u * x j

/-- What keeps the mean square from zero. -/
def eps : ℝ := (8796093 : ℝ) * (2 : ℝ) ^ (-43 : ℤ)

theorem eps_eq : Ideal.ofBits .f32 0x358637BD#32 = (eps : EReal) := by
  simp [Ideal.ofBits, Ideal.ieee, eps]

theorem width_eq : Ideal.ofBits .f32 0x44800000#32 = ((1024 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem mean_coe (s : ℝ) : mean (s : EReal) = ((s * (1 / 1024) + eps : ℝ) : EReal) := by
  rw [mean, width_eq, eps_eq, Ideal.div_coe (by norm_num), ← EReal.coe_mul, ← EReal.coe_add]

theorem mean_pos {s : ℝ} (h : 0 ≤ s) : 0 < s * (1 / 1024) + eps := by
  have : (0 : ℝ) < eps := by unfold eps; positivity
  positivity

theorem inv_coe {s : ℝ} (h : 0 ≤ s) : inv (s : EReal) = (((Real.sqrt (s * (1 / 1024) + eps))⁻¹ : ℝ) : EReal) := by
  have hp := mean_pos h
  rw [inv, mean_coe, Ideal.rsqrt_coe, if_neg hp.le.not_gt, if_neg hp.ne']

/-- A positive number's half, twice, is the number: also of an infinite multiple. -/
theorem halves {k : ℝ} (hk : 0 < k) (w : EReal) : -((k : EReal) * w) = ((-(k / 2) : ℝ) : EReal) * w + ((-(k / 2) : ℝ) : EReal) * w := by
  induction w using EReal.rec with
  | bot => rw [EReal.coe_mul_bot_of_pos hk, EReal.coe_mul_bot_of_neg (by linarith)]; rfl
  | top => rw [EReal.coe_mul_top_of_pos hk, EReal.coe_mul_top_of_neg (by linarith)]; rfl
  | coe w =>
    rw [← EReal.coe_mul, ← EReal.coe_neg, ← EReal.coe_mul, ← EReal.coe_add]
    exact congrArg _ (by ring)

theorem real_sum (r : ℝ) (hr : 0 ≤ r) {ι : Type*} (s : Finset ι) (f : ι → EReal) : ∑ k ∈ s, (r : EReal) * f k = (r : EReal) * ∑ k ∈ s, f k := by
  classical
  induction s using Finset.induction_on with
  | empty => simp
  | insert a s ha ih => rw [sum_insert ha, sum_insert ha, ih, EReal.left_distrib_of_nonneg_of_ne_top (EReal.coe_nonneg.mpr hr) (EReal.coe_ne_top r)]

/-- A row of real numbers, whatever its gradient. -/
theorem factored_coe (x : Fin 1024 → ℝ) (u : Fin 1024 → EReal) (j : Fin 1024) : factored (fun k => (x k : EReal)) u j = derived (fun k => (x k : EReal)) u j := by
  have hs : 0 ≤ ∑ k, x k * x k := sum_nonneg fun k _ => mul_self_nonneg _
  have hp := mean_pos hs
  unfold factored derived common
  simp only [← EReal.coe_mul, Gla.coe_sum, inv_coe hs, mean_coe, width_eq, half_eq, Ideal.div_coe hp.ne', Ideal.div_coe (show (1024 : ℝ) ≠ 0 by norm_num)]
  have hM : 1 / ((∑ k, x k * x k) * (1 / 1024) + eps) = (Real.sqrt ((∑ k, x k * x k) * (1 / 1024) + eps))⁻¹ * (Real.sqrt ((∑ k, x k * x k) * (1 / 1024) + eps))⁻¹ := by
    rw [← mul_inv, Real.mul_self_sqrt hp.le, one_div]
  have hr0 : 0 < (Real.sqrt ((∑ k, x k * x k) * (1 / 1024) + eps))⁻¹ := inv_pos.mpr (Real.sqrt_pos.mpr hp)
  rw [hM]
  generalize (Real.sqrt ((∑ k, x k * x k) * (1 / 1024) + eps))⁻¹ = r at hr0
  have hT : ∑ k, u k * ((x k * r : ℝ) : EReal) = (r : EReal) * ∑ k, (x k : EReal) * u k := by
    rw [← real_sum r hr0.le]
    exact sum_congr rfl fun k _ => by rw [EReal.coe_mul, mul_comm, mul_comm (x k : EReal), mul_assoc]
  rw [hT, sub_eq_add_neg, EReal.left_distrib_of_nonneg_of_ne_top (EReal.coe_nonneg.mpr hr0.le) (EReal.coe_ne_top r), mul_neg]
  generalize ∑ k, (x k : EReal) * u k = T
  have e1 : (r : EReal) * (((x j * r : ℝ) : EReal) * (((r : EReal) * T) * ((1 / 1024 : ℝ) : EReal))) = ((r * r * r * (1 / 1024) : ℝ) : EReal) * ((x j : EReal) * T) := by
    simp only [EReal.coe_mul]
    ac_rfl
  have e2 : T * ((-(1 / 2) * (r * (r * r)) : ℝ) : EReal) * ((1 / 1024 : ℝ) : EReal) = ((-(r * r * r * (1 / 1024) / 2) : ℝ) : EReal) * T := by
    rw [mul_assoc, ← EReal.coe_mul, mul_comm]
    exact congrArg (fun a : ℝ => (a : EReal) * T) (by ring)
  rw [e1, e2, halves (by positivity), mul_comm (r : EReal), ← add_assoc]
  exact congrArg₂ (fun a b => u j * (r : EReal) + a + b) (mul_left_comm _ _ _) ((mul_left_comm _ _ _).trans (mul_comm _ _))

theorem square_nonneg (a : EReal) : 0 ≤ a * a := by
  induction a using EReal.rec with
  | bot => rw [EReal.bot_mul_bot]; exact le_top
  | top => rw [EReal.top_mul_top]; exact le_top
  | coe a => rw [← EReal.coe_mul]; exact EReal.coe_nonneg.mpr (mul_self_nonneg a)

/-- The two forms agree, also where the row or its gradient is infinite. -/
theorem factored_eq (x u : Fin 1024 → EReal) (j : Fin 1024) : factored x u j = derived x u j := by
  by_cases hx : ∀ k, x k = ((x k).toReal : EReal)
  · rw [show x = fun k => ((x k).toReal : EReal) from funext hx]
    exact factored_coe _ _ _
  · obtain ⟨k, hk⟩ := not_forall.mp hx
    have ht : x k * x k = ⊤ := by
      revert hk
      generalize x k = a
      intro hk
      induction a using EReal.rec with
      | bot => exact EReal.bot_mul_bot
      | top => exact EReal.top_mul_top
      | coe a => exact absurd rfl hk
    have hs : ∑ k, x k * x k = ⊤ := top_le_iff.mp (ht ▸ single_le_sum (f := fun k => x k * x k) (fun i _ => square_nonneg _) (mem_univ k))
    have hm : mean ⊤ = ⊤ := by
      rw [mean, width_eq, eps_eq, Ideal.div_coe (by norm_num), EReal.top_mul_coe_of_pos (by norm_num), EReal.top_add_coe]
    have hi : inv ⊤ = 0 := by rw [inv, hm, Ideal.rsqrt_top]
    have hd : Ideal.div 0 ⊤ = 0 := by rw [Ideal.div, if_neg (by simp), zero_mul]
    unfold factored derived common
    rw [hs, hm, hi, hd, zero_mul, mul_zero, mul_zero, mul_zero, width_eq, Ideal.div_coe (by norm_num), zero_mul, mul_zero, zero_mul, add_zero, add_zero]

end Cert.Norm
-- ==== Proof.Prod21.lean ====
module

public import proofs.«01_k».proof.Defs
public import proofs.«01_k».proof.Proof.Agree
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Claim
public import proofs.«01_k».proof.Proof.Mask
public import proofs.«01_k».proof.Proof.Rows
public import proofs.«01_k».proof.Proof.Norm

@[expose] public section

/-! The gradients through a norm: twelve blocks of rows, the gain's summed over them. -/

noncomputable section

namespace Cert.Prod21

open Idealize.ShloMosaic Idealize.ShloMosaic.TcCoe Cert.Kernel21Ideal Cert.Kernel21Ideal.Gen Finset

set_option maxRecDepth 16384

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ t.val < 12 :=
  (by decide +kernel : ∀ t : Fin grid0.N, _)

theorem coord : ∀ t : Fin cfg0.N, ((grid0.coords t) 0).val = t.val :=
  (by decide +kernel : ∀ t : Fin grid0.N, _)

section

variable {i : grid0.Coords}
  {arg1 : Memref sig .tc .vmem S688x1024 .f32} {harg1 : arg1.IsWhole} {arg2 : Memref sig .tc .vmem S688x1024 .f32} {harg2 : arg2.IsWhole}
  {arg3 : Memref sig .tc .vmem S1x1024 .f32} {harg3 : arg3.IsWhole} {arg4 : Memref sig .tc .vmem S688x1024 .f32} {harg4 : arg4.IsWhole}
  {arg5 : Memref sig .tc .vmem S688x1024 .f32} {harg5 : arg5.IsWhole} {arg6 : Memref sig .tc .vmem S688x1024 .bf16} {harg6 : arg6.IsWhole}
  {arg7 : Memref sig .tc .vmem S1x1024 .f32} {harg7 : arg7.IsWhole}
  {y x h : Vec Ideal S688x1024 .f32} {g s : Vec Ideal S1x1024 .f32}

theorem out_A4 {h0} : out0_A_4 (F := Ideal) c i arg1 harg1 arg2 harg2 arg3 harg3 arg4 harg4 arg5 harg5 arg6 harg6 arg7 harg7 h0 y x g h = k0_pay5 i x y g h := by
  unfold out0_A_4
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem out_A5 {h0} : out0_A_5 (F := Ideal) c i arg1 harg1 arg2 harg2 arg3 harg3 arg4 harg4 arg5 harg5 arg6 harg6 arg7 harg7 h0 y x g h = k0_pay6 i x y g h := by
  unfold out0_A_5
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem out_A6 {h0} : out0_A_6 (F := Ideal) c i arg1 harg1 arg2 harg2 arg3 harg3 arg4 harg4 arg5 harg5 arg6 harg6 arg7 harg7 h0 y x g h = k0_pay2 y (k0_pay4 x) (k0_pay1 (F := Ideal)) := by
  unfold out0_A_6
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem out_B4 {h0} : out0_B_4 (F := Ideal) c i arg1 harg1 arg2 harg2 arg3 harg3 arg4 harg4 arg5 harg5 arg6 harg6 arg7 harg7 h0 y x g h s = k0_pay5 i x y g h := by
  unfold out0_B_4
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

theorem out_B5 {h0} : out0_B_5 (F := Ideal) c i arg1 harg1 arg2 harg2 arg3 harg3 arg4 harg4 arg5 harg5 arg6 harg6 arg7 harg7 h0 y x g h s = k0_pay6 i x y g h := by
  unfold out0_B_5
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

theorem out_B6 {h0} : out0_B_6 (F := Ideal) c i arg1 harg1 arg2 harg2 arg3 harg3 arg4 harg4 arg5 harg5 arg6 harg6 arg7 harg7 h0 y x g h s = k0_pay2 y (k0_pay4 x) s := by
  unfold out0_B_6
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

end

theorem rows_out (t : Fin cfg0.N) : (outsAt0 m c t.val t.isLt).1 = k0_pay5 (grid0.coords t) (iblk m c 1 t) (iblk m c 0 t) (iblk m c 2 t) (iblk m c 3 t)
    ∧ (outsAt0 m c t.val t.isLt).2.1 = k0_pay6 (grid0.coords t) (iblk m c 1 t) (iblk m c 0 t) (iblk m c 2 t) (iblk m c 3 t) := by
  by_cases h : t.val % 12 = 0
  · rw [outsAt0_A m c t h]
    dsimp only
    exact ⟨out_A4 c, out_A5 c⟩
  · rw [outsAt0_B m c t h]
    dsimp only
    exact ⟨out_B4 c, out_B5 c⟩

theorem gain_first (h : 0 < cfg0.N) : (outsAt0 m c 0 h).2.2 = k0_pay2 (iblk m c 0 ⟨0, h⟩) (k0_pay4 (iblk m c 1 ⟨0, h⟩)) (k0_pay1 (F := Ideal)) := by
  rw [outsAt0_A m c ⟨0, h⟩ rfl]
  dsimp only
  exact out_A6 c

theorem gain_next (n : ℕ) (h : n + 1 < cfg0.N) : (outsAt0 m c (n + 1) h).2.2
    = k0_pay2 (iblk m c 0 ⟨n + 1, h⟩) (k0_pay4 (iblk m c 1 ⟨n + 1, h⟩)) (outsAt0 m c n (Nat.lt_of_succ_lt h)).2.2 := by
  rw [outsAt0_B m c ⟨n + 1, h⟩ (by have := (idx ⟨n + 1, h⟩).2.2.2.2.2.2.2; simp only at this ⊢; omega)]
  dsimp only
  exact out_B6 c

/-- One row's share of the gain's gradient, of the row `x` at column `j`, whose gradient is `d`. -/
def share (x : Fin 1024 → EReal) (d : EReal) (j : Fin 1024) : EReal := d * (x j * Norm.inv (∑ k, x k * x k))

theorem inv_at (x : Vec Ideal S688x1024 .f32) (r : Fin 688) (z : Fin 1) :
    k0_pay3 (F := Ideal) x (ix2 r z) = Norm.inv (∑ k : Fin 1024, x (ix2 r k) * x (ix2 r k)) := by
  pointwise [k0_pay3]
  rfl

theorem scaled_at (x : Vec Ideal S688x1024 .f32) (r : Fin 688) (j : Fin 1024) :
    k0_pay4 (F := Ideal) x (ix2 r j) = x (ix2 r j) * Norm.inv (∑ k : Fin 1024, x (ix2 r k) * x (ix2 r k)) := by
  pointwise [k0_pay4]
  rw [inv_at]

theorem zero_at (j : Fin 1024) : k0_pay1 (F := Ideal) (ix2 0 j) = 0 := by
  pointwise [k0_pay1]

/-- One block's part of the gain's gradient. -/
def part (y x : Vec Ideal S688x1024 .f32) (j : Fin 1024) : EReal := ∑ r : Fin 688, share (fun k => x (ix2 r k)) (y (ix2 r j)) j

theorem sum_at (y x : Vec Ideal S688x1024 .f32) (s : Vec Ideal S1x1024 .f32) (j : Fin 1024) :
    k0_pay2 (F := Ideal) y (k0_pay4 x) s (ix2 0 j) = s (ix2 0 j) + part y x j := by
  pointwise [k0_pay2]
  simp only [scaled_at]
  rfl

theorem rows_at (i : grid0.Coords) (t : ℕ) (hi : (i 0).val = t) (ht : t < 12) (x y h : Vec Ideal S688x1024 .f32) (g : Vec Ideal S1x1024 .f32) (r : Fin 688) (j : Fin 1024) :
    k0_pay5 (F := Ideal) i x y g h (ix2 r j)
      = if 48 ≤ t * 688 + r.val then Norm.factored (fun k => x (ix2 r k)) (fun k => y (ix2 r k) * g (ix2 0 k)) j + h (ix2 r j) else 0 := by
  pointwise [k0_pay5]
  simp only [scaled_at, inv_at]
  rw [hi]
  exact Mask.select_row ht r.isLt _ _

/-- The rows' gradient, entry by entry, in the factored form. -/
def K (y x : Vec Ideal S8256x1024 .f32) (g : Vec Ideal S1x1024 .f32) (h : Vec Ideal S8256x1024 .f32) (p : Fin 8256) (j : Fin 1024) : EReal :=
  if 48 ≤ p.val then Norm.factored (fun k => x (ix2 p k)) (fun k => y (ix2 p k) * g (ix2 0 k)) j + h (ix2 p j) else 0

/-- The rows' gradient, entry by entry, as the derivative gives it. -/
def D (y x : Vec Ideal S8256x1024 .f32) (g : Vec Ideal S1x1024 .f32) (h : Vec Ideal S8256x1024 .f32) (p : Fin 8256) (j : Fin 1024) : EReal :=
  if 48 ≤ p.val then Norm.derived (fun k => x (ix2 p k)) (fun k => y (ix2 p k) * g (ix2 0 k)) j + h (ix2 p j) else 0

def G (y x : Vec Ideal S8256x1024 .f32) (g : Vec Ideal S1x1024 .f32) (h : Vec Ideal S8256x1024 .f32) : Vec Ideal S8256x1024 .f32 := fun i => K y x g h (i 0) (i 1)

def G' (y x : Vec Ideal S8256x1024 .f32) (g : Vec Ideal S1x1024 .f32) (h : Vec Ideal S8256x1024 .f32) : Vec Ideal S8256x1024 .bf16 := fun i => K y x g h (i 0) (i 1)

/-- One row's share of the gain's gradient. -/
def prod (y x : Vec Ideal S8256x1024 .f32) (j : Fin 1024) (k : Fin 8256) : EReal := share (fun l => x (ix2 k l)) (y (ix2 k j)) j

/-- The gain's gradient, entry by entry. -/
def H (y x : Vec Ideal S8256x1024 .f32) : Vec Ideal S1x1024 .f32 := fun i => ∑ k : Fin 8256, prod y x (i 1) k

theorem block (t : Fin cfg0.N) (r : Fin 688) (j : Fin 1024) (p : Fin 8256) (hp : p.val = t.val * 688 + r.val) :
    k0_pay5 (F := Ideal) (grid0.coords t) (iblk m c 1 t) (iblk m c 0 t) (iblk m c 2 t) (iblk m c 3 t) (ix2 r j)
      = K (V m c main_arg0) (V m c main_arg1) (V m c main_arg2) (V m c main_arg3) p j := by
  refine (rows_at _ t.val (coord t) (lt_of_lt_of_eq t.isLt N_0) _ _ _ _ _ _).trans (ite_congr (by rw [hp]) (fun _ => congrArg₂ (· + ·)
    (congrFun (congrArg₂ Norm.factored (funext fun k => ?_) (funext fun k => congrArg₂ (fun a b : EReal => a * b) ?_ ?_)) j) ?_) fun _ => rfl)
  · blk_point [iblk, idx t, hp]
  · blk_point [iblk, idx t, hp]
  · blk_point [iblk, idx t, hp]
  · blk_point [iblk, idx t, hp]

theorem final4 : (dats m 0 c).arrAt 4 cfg0.N = G (V m c main_arg0) (V m c main_arg1) (V m c main_arg2) (V m c main_arg3) := by
  refine (dats m 0 c).arrAt_eq_of_covers 4 _ (by decide +kernel) (fun t hf y => ?_)
  have hy : (y 1 : Fin 1024) = ((win0_4.blk t).view.emb y) 1 := Fin.ext (by blk_simp [idx t])
  rw [after0_4, (rows_out m c t).1]
  blk_simp [idx t]
  refine (congrArg (k0_pay5 (grid0.coords t) (iblk m c 1 t) (iblk m c 0 t) (iblk m c 2 t) (iblk m c 3 t)) (eq_ix2 (n0 := 688) (n1 := 1024) y)).trans
    ((block m c t _ _ (((win0_4.blk t).view.emb y) 0) ?_).trans (congrArg (K (V m c main_arg0) (V m c main_arg1) (V m c main_arg2) (V m c main_arg3) _) hy))
  blk_simp [idx t]

theorem final5 : (dats m 0 c).arrAt 5 cfg0.N = G' (V m c main_arg0) (V m c main_arg1) (V m c main_arg2) (V m c main_arg3) := by
  refine (dats m 0 c).arrAt_eq_of_covers 5 _ (by decide +kernel) (fun t hf y => ?_)
  have hy : (y 1 : Fin 1024) = ((win0_5.blk t).view.emb y) 1 := Fin.ext (by blk_simp [idx t])
  rw [after0_5, (rows_out m c t).2]
  blk_simp [idx t]
  refine (congrArg (k0_pay6 (grid0.coords t) (iblk m c 1 t) (iblk m c 0 t) (iblk m c 2 t) (iblk m c 3 t)) (eq_ix2 (n0 := 688) (n1 := 1024) y)).trans
    ((block m c t _ _ (((win0_5.blk t).view.emb y) 0) ?_).trans (congrArg (K (V m c main_arg0) (V m c main_arg1) (V m c main_arg2) (V m c main_arg3) _) hy))
  blk_simp [idx t]

theorem kept (j : Fin 1024) (h : 11 < cfg0.N) : (outsAt0 m c 11 h).2.2 (ix2 0 j) = H (V m c main_arg0) (V m c main_arg1) (ix2 0 j) := by
  refine Rows.all (L := cfg0.N) (N := 11) (b := 688) N_0 (by rw [show cfg0.N = 12 from N_0]) (prod (V m c main_arg0) (V m c main_arg1) j) (fun n hn => (outsAt0 m c n hn).2.2 (ix2 0 j))
    (fun t => part (iblk m c 0 t) (iblk m c 1 t) j) (fun t => ?_) (fun hn => ?_) (fun n hn => ?_) h
  · refine sum_congr rfl fun r _ => congrFun (congrArg₂ share (funext fun k => ?_) ?_) j
    · blk_point [iblk, idx t]
    · blk_point [iblk, idx t]
  · simp only [gain_first]
    rw [sum_at, zero_at, zero_add]
  · simp only [gain_next]
    rw [sum_at]

theorem kept_at (t : Fin cfg0.N) (ht : t.val = 11) (z : Fin 1) (j : Fin 1024) :
    (outsAt0 m c t.val t.isLt).2.2 (ix2 z j) = H (V m c main_arg0) (V m c main_arg1) (ix2 z j) := by
  obtain ⟨n, hn⟩ := t
  obtain rfl : n = 11 := ht
  obtain rfl : z = 0 := Subsingleton.elim _ _
  exact kept m c j hn

theorem final6 : (dats m 0 c).arrAt 6 cfg0.N = H (V m c main_arg0) (V m c main_arg1) := by
  refine (dats m 0 c).arrAt_eq_of_covers 6 _ (by decide +kernel) (fun t hf y => ?_)
  have ht : t.val = 11 := by have h1 := (flush0_6 t).mp hf; have h2 := (idx t).2.2.2.2.2.2.2; omega
  rw [after0_6]
  blk_simp [idx t]
  refine (congrArg (outsAt0 m c t.val t.isLt).2.2 (eq_ix2 (n0 := 1) (n1 := 1024) y)).trans
    ((kept_at m c t ht _ _).trans (congrArg (H (V m c main_arg0) (V m c main_arg1)) ?_))
  refine Eq.trans (congrArg₂ ix2 (Subsingleton.elim (α := Fin 1) _ _) (Fin.ext ?_)) (eq_ix2 (n0 := 1) (n1 := 1024) _).symm
  blk_simp [idx t]

/-- The two forms of the rows' gradient agree. -/
theorem forms (y x : Vec Ideal S8256x1024 .f32) (g : Vec Ideal S1x1024 .f32) (h : Vec Ideal S8256x1024 .f32) (p : Fin 8256) (j : Fin 1024) :
    D y x g h p j = K y x g h p j :=
  ite_congr rfl (fun _ => congrArg (· + _) (Norm.factored_eq _ _ j).symm) fun _ => rfl

open Cert.Reference21Ideal.Read in
theorem ref4 (x0 x1 x2 x3) (a : Fin 8256) (b : Fin 1024) : val_main_v36 (F := Ideal) x0 x1 x2 x3 (ix2 a b) = D x0 x1 x2 x3 a b := by
  pointwise [val_main_v36, val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v10, val_main_v9, val_main_v8, val_main_v7,
    val_main_v6, val_main_v5, val_main_v4, val_main_v3, val_main_v2, val_main_v1, val_main_v0, val_main_cst, val_main_cst_0, val_main_cst_1, val_main_cst_2, val_main_cst_3,
    val_main_cst_4, val_main_cst_5, val_main_cst_6, val_main_c, val_main_call0_v0]
  simp only [Finset.univ_unique, Finset.sum_singleton]
  exact Mask.pad_row a (fun p => Norm.derived (fun k => x1 (ix2 p k)) (fun k => x0 (ix2 p k) * x2 (ix2 0 k)) b + x3 (ix2 p b)) _ Mask.zero_word

open Cert.Reference21Ideal.Read in
theorem ref5 (x0 x1 x2 x3) (a : Fin 8256) (b : Fin 1024) : val_main_v37 (F := Ideal) x0 x1 x2 x3 (ix2 a b) = D x0 x1 x2 x3 a b := ref4 x0 x1 x2 x3 a b

open Cert.Reference21Ideal.Read in
theorem ref6 (x0 x1) (i) : val_main_v17 (F := Ideal) x0 x1 i = H x0 x1 i := by
  obtain ⟨a, b, rfl⟩ : ∃ (a : Fin 1) (b : Fin 1024), i = ix2 a b := ⟨i 0, i 1, eq_ix2 i⟩
  pointwise [val_main_v17, val_main_v16, val_main_v15, val_main_v12, val_main_v11, val_main_v7, val_main_v6, val_main_v5, val_main_v4, val_main_v3, val_main_v2,
    val_main_v1, val_main_v0, val_main_cst, val_main_cst_0, val_main_cst_1, val_main_cst_3]
  exact sum_congr rfl fun k _ => mul_comm _ _

theorem frame : Cert.quiescent_Reference21Ideal := fun m g _ =>
  (θ_run Cert.Reference21Ideal.defs _ _).mono (fun r h => ⟨fun c => (h c).2.2.2, sem_eq_zero_of_no_sems (by decide) r.2⟩)
    (Cert.Reference21Ideal.Value.run (F := Ideal) m g)

/-- Over the extended reals, on any arguments: the gradients of the rows and of the gain. -/
theorem same : Cert.algebraic_Kernel21Ideal_Reference21Ideal := fun m g m' g' _ hagree =>
  ⟨fun c => (dats m 0 c).arrAt 4 cfg0.N, fun c => (dats m 0 c).arrAt 5 cfg0.N, fun c => (dats m 0 c).arrAt 6 cfg0.N,
    Cert.Kernel21Ideal.Value.run_blocks (F := Ideal) m g,
    (θ_run Cert.Reference21Ideal.defs _ _).mono (fun r h c => by
      obtain ⟨a0, a1, a2, a3⟩ := hagree c
      exact ⟨(h c).1.trans ((Cert.Reference21Ideal.Read.val_main_v36_eq (F := Ideal) _ _ _ _).trans
      ((Agree.four (Cert.Reference21Ideal.Read.val_main_v36 (F := Ideal)) a0 a1 a2 a3).trans ((funext fun i =>
        (congrArg _ (eq_ix2 (n0 := 8256) (n1 := 1024) i)).trans ((ref4 _ _ _ _ _ _).trans (forms _ _ _ _ _ _))).trans (final4 m c).symm))),
      (h c).2.1.trans ((Cert.Reference21Ideal.Read.val_main_v37_eq (F := Ideal) _ _ _ _).trans
      ((Agree.four (Cert.Reference21Ideal.Read.val_main_v37 (F := Ideal)) a0 a1 a2 a3).trans ((funext fun i =>
        (congrArg _ (eq_ix2 (n0 := 8256) (n1 := 1024) i)).trans ((ref5 _ _ _ _ _ _).trans (forms _ _ _ _ _ _))).trans (final5 m c).symm))),
      (h c).2.2.1.trans ((Cert.Reference21Ideal.Read.val_main_v17_eq (F := Ideal) _ _).trans
      ((Agree.two (Cert.Reference21Ideal.Read.val_main_v17 (F := Ideal)) a0 a1).trans ((funext (ref6 _ _)).trans (final6 m c).symm))), (h c).2.2.2⟩)
      (Cert.Reference21Ideal.Value.run (F := Ideal) m' g')⟩

end Cert.Prod21
-- ==== Proof.Conv.lean ====
module

public import Idealize.ShloMosaic.Lib.Claim
public import Idealize.ShloMosaic.Lib.Pipeline.ValueKit

@[expose] public section

/-! A convolution over the last three rows of a column, whole and in twelve blocks of 688 rows that keep sixteen rows of a neighbour. -/

noncomputable section

namespace Cert.Conv

open Idealize.ShloMosaic

/-- The entry `k` rows before `p`; zero before the first row. -/
def ago (k : ℕ) (f : Fin 8256 → EReal) (p : Fin 8256) : EReal := if k ≤ p.val then f ⟨p.val - k, by omega⟩ else 0

/-- The entry `k` rows after `p`; zero after the last row. -/
def later (k : ℕ) (f : Fin 8256 → EReal) (p : Fin 8256) : EReal := if h : p.val + k < 8256 then f ⟨p.val + k, h⟩ else 0

/-- The entry `k` rows before `r` in a block; before its first row, in the sixteen rows kept of the block before. -/
def back (k : ℕ) (f : Fin 688 → EReal) (h : Fin 16 → EReal) (r : Fin 688) : EReal :=
  if hk : k ≤ r.val then f ⟨r.val - k, by omega⟩ else h ⟨16 + r.val - k, by omega⟩

/-- The convolution's sum of three. -/
def taps (w0 w1 w2 b x0 x1 x2 : EReal) : EReal := w2 * x0 + w1 * x1 + w0 * x2 + b

/-- A column's convolution. -/
def conv (w0 w1 w2 b : EReal) (f : Fin 8256 → EReal) (p : Fin 8256) : EReal := taps w0 w1 w2 b (f p) (ago 1 f p) (ago 2 f p)

/-- The logistic function. -/
def sigmoid (a : EReal) : EReal := Ideal.div 1 (1 + Ideal.exp (-a))

theorem ago_of_le {k : ℕ} {f : Fin 8256 → EReal} {p q : Fin 8256} (h : q.val + k = p.val) : ago k f p = f q :=
  (if_pos (by omega)).trans (congrArg f (Fin.ext (by simp only; omega)))

theorem ago_of_lt {k : ℕ} {f : Fin 8256 → EReal} {p : Fin 8256} (h : p.val < k) : ago k f p = 0 := if_neg (by omega)

theorem back_zero {f : Fin 688 → EReal} {h : Fin 16 → EReal} {r : Fin 688} : back 0 f h r = f r := dif_pos (Nat.zero_le _)

/-- Over the blocks. -/
theorem back_eq (k : ℕ) (hk : k ≤ 16) (f : Fin 8256 → EReal) (t : ℕ) (ht : t < 12) (u : Fin 688 → EReal) (h : Fin 16 → EReal) (r : Fin 688) (p : Fin 8256)
    (hp : p.val = t * 688 + r.val) (hu : ∀ (s : Fin 688) (q : Fin 8256), q.val = t * 688 + s.val → u s = f q) (h0 : t = 0 → ∀ s, h s = 0)
    (hs : t ≠ 0 → ∀ (s : Fin 16) (q : Fin 8256), q.val + 16 = t * 688 + s.val → h s = f q) : back k u h r = ago k f p := by
  by_cases hr : k ≤ r.val
  · exact (dif_pos hr).trans ((hu _ ⟨p.val - k, by omega⟩ (by simp only; omega)).trans (ago_of_le (by simp only; omega)).symm)
  · refine (dif_neg hr).trans ?_
    by_cases h1 : t = 0
    · exact (h0 h1 _).trans (ago_of_lt (by omega)).symm
    · exact (hs h1 _ ⟨p.val - k, by omega⟩ (by simp only; omega)).trans (ago_of_le (by simp only; omega)).symm

/-- The columns of the first half. -/
def left (j : Fin 2816) : Fin 5632 := ⟨j.val, by omega⟩

/-- The columns of the second half. -/
def right (j : Fin 2816) : Fin 5632 := ⟨2816 + j.val, by omega⟩

end Cert.Conv
-- ==== Proof.Prod22.lean ====
module

public import proofs.«01_k».proof.Defs
public import proofs.«01_k».proof.Proof.Agree
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Claim
public import proofs.«01_k».proof.Proof.Conv

@[expose] public section

/-! The convolution and the gated activation, block by block; each block keeps its last sixteen rows for the next. -/

noncomputable section

namespace Cert.Prod22

open Idealize.ShloMosaic Idealize.ShloMosaic.TcCoe Cert.Kernel22Ideal Cert.Kernel22Ideal.Gen Finset

set_option maxRecDepth 16384

variable (m : (ℓ : Loc nD τ sig) → Buf (Elt Ideal) ℓ) (c : Dev nD)

theorem idx : ∀ t : Fin cfg0.N, win0_0.index t = ![t.val % 12, t.val / 12] ∧ win0_1.index t = ![t.val % 12, t.val / 12 + 2] ∧ win0_2.index t = ![0, t.val / 12]
    ∧ win0_3.index t = ![0, t.val / 12 + 2] ∧ win0_4.index t = ![0, t.val / 12] ∧ win0_5.index t = ![0, t.val / 12 + 2] ∧ win0_6.index t = ![t.val % 12, t.val / 12]
    ∧ win0_7.index t = ![t.val % 12, t.val / 12] ∧ win0_8.index t = ![t.val % 12, t.val / 12] ∧ t.val < 24 :=
  (by decide +kernel : ∀ t : Fin grid0.N, _)

/-- One row of the weights. -/
def row (k : Fin 3) (w : Vec Ideal S3x1408 .f32) : Vec Ideal S1x1408 .f32 := fun i => w (ix2 k (i 1))

theorem ld_row (k : Fin 3) (w : Vec Ideal S3x1408 .f32) (o : Fin 2 → ℕ) (inb) (ho : o = ![k.val, 0]) :
    View.ld (Val := Elt Ideal) (e' := .f32) w (Rect.unit (s := S3x1408) o S1x1408.size inb) = row k w := by
  subst ho
  funext i
  obtain ⟨z, j, rfl⟩ : ∃ (z : Fin 1) (j : Fin 1408), i = ix2 z j := ⟨i 0, i 1, eq_ix2 i⟩
  exact View.ld_unit_apply_of _ _ _ _ _ _ fun a => by fin_cases a <;> simp

theorem ld0 (w : Vec Ideal S3x1408 .f32) (inb) : View.ld (Val := Elt Ideal) (e' := .f32) w (Rect.unit (s := S3x1408) ![0, 0] ![1, 1408] inb) = row 0 w := ld_row 0 w _ inb rfl

theorem ld1 (w : Vec Ideal S3x1408 .f32) (inb) : View.ld (Val := Elt Ideal) (e' := .f32) w (Rect.unit (s := S3x1408) ![1, 0] ![1, 1408] inb) = row 1 w := ld_row 1 w _ inb rfl

theorem ld2 (w : Vec Ideal S3x1408 .f32) (inb) : View.ld (Val := Elt Ideal) (e' := .f32) w (Rect.unit (s := S3x1408) ![2, 0] ![1, 1408] inb) = row 2 w := ld_row 2 w _ inb rfl

section

variable {i : grid0.Coords}
  {arg2 : Memref sig .tc .vmem S688x1408 .bf16} {harg2 : arg2.IsWhole} {arg3 : Memref sig .tc .vmem S688x1408 .bf16} {harg3 : arg3.IsWhole}
  {arg4 : Memref sig .tc .vmem S3x1408 .f32} {harg4 : arg4.IsWhole} {arg5 : Memref sig .tc .vmem S3x1408 .f32} {harg5 : arg5.IsWhole}
  {arg6 : Memref sig .tc .vmem S1x1408 .f32} {harg6 : arg6.IsWhole} {arg7 : Memref sig .tc .vmem S1x1408 .f32} {harg7 : arg7.IsWhole}
  {arg8 : Memref sig .tc .vmem S688x1408 .bf16} {harg8 : arg8.IsWhole} {arg9 : Memref sig .tc .vmem S688x1408 .bf16} {harg9 : arg9.IsWhole}
  {arg10 : Memref sig .tc .vmem S688x1408 .bf16} {harg10 : arg10.IsWhole}
  {arg11 : Memref sig .tc .vmem S16x1408 .f32} {harg11 : arg11.IsWhole} {arg12 : Memref sig .tc .vmem S16x1408 .f32} {harg12 : arg12.IsWhole}
  {x y : Vec Ideal S688x1408 .bf16} {v w : Vec Ideal S3x1408 .f32} {a b : Vec Ideal S1x1408 .f32} {g h : Vec Ideal S16x1408 .f32}

/-- The first half's convolution of a block. -/
def first (x : Vec Ideal S688x1408 .bf16) (g : Vec Ideal S16x1408 .f32) (v : Vec Ideal S3x1408 .f32) (a : Vec Ideal S1x1408 .f32) : FVec Ideal S688x1408 .f32 :=
  k0_pay4 x g (row 2 v) (row 1 v) (row 0 v) a

theorem out_A6 {h0} : out0_A_6 (F := Ideal) c i arg2 harg2 arg3 harg3 arg4 harg4 arg5 harg5 arg6 harg6 arg7 harg7 arg8 harg8 arg9 harg9 arg10 harg10 arg11 harg11 arg12 harg12 h0 x y v w a b
    = k0_pay10 (first x (k0_pay1 (F := Ideal)) v a) := by
  unfold out0_A_6
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rw [ld0, ld1, ld2]
  rfl

theorem out_B6 {h0} : out0_B_6 (F := Ideal) c i arg2 harg2 arg3 harg3 arg4 harg4 arg5 harg5 arg6 harg6 arg7 harg7 arg8 harg8 arg9 harg9 arg10 harg10 arg11 harg11 arg12 harg12 h0 x y v w a b g h
    = k0_pay10 (first x g v a) := by
  unfold out0_B_6
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  rw [ld0, ld1, ld2]
  rfl

theorem out_A7 {h0} : out0_A_7 (F := Ideal) c i arg2 harg2 arg3 harg3 arg4 harg4 arg5 harg5 arg6 harg6 arg7 harg7 arg8 harg8 arg9 harg9 arg10 harg10 arg11 harg11 arg12 harg12 h0 x y v w a b
    = k0_pay11 (k0_pay7 y (k0_pay2 (F := Ideal))) (row 2 w) (row 1 w) (row 0 w) b := by
  unfold out0_A_7
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rw [ld0, ld1, ld2]

theorem out_B7 {h0} : out0_B_7 (F := Ideal) c i arg2 harg2 arg3 harg3 arg4 harg4 arg5 harg5 arg6 harg6 arg7 harg7 arg8 harg8 arg9 harg9 arg10 harg10 arg11 harg11 arg12 harg12 h0 x y v w a b g h
    = k0_pay11 (k0_pay7 y h) (row 2 w) (row 1 w) (row 0 w) b := by
  unfold out0_B_7
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  rw [ld0, ld1, ld2]

theorem out_A8 {h0} : out0_A_8 (F := Ideal) c i arg2 harg2 arg3 harg3 arg4 harg4 arg5 harg5 arg6 harg6 arg7 harg7 arg8 harg8 arg9 harg9 arg10 harg10 arg11 harg11 arg12 harg12 h0 x y v w a b
    = k0_pay12 (first x (k0_pay1 (F := Ideal)) v a) (k0_pay7 y (k0_pay2 (F := Ideal))) (row 2 w) (row 1 w) (row 0 w) b := by
  unfold out0_A_8
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rw [ld0 v, ld1 v, ld2 v, ld0 w, ld1 w, ld2 w]
  rfl

theorem out_B8 {h0} : out0_B_8 (F := Ideal) c i arg2 harg2 arg3 harg3 arg4 harg4 arg5 harg5 arg6 harg6 arg7 harg7 arg8 harg8 arg9 harg9 arg10 harg10 arg11 harg11 arg12 harg12 h0 x y v w a b g h
    = k0_pay12 (first x g v a) (k0_pay7 y h) (row 2 w) (row 1 w) (row 0 w) b := by
  unfold out0_B_8
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  rw [ld0 v, ld1 v, ld2 v, ld0 w, ld1 w, ld2 w]
  rfl

theorem kept_A0 {h0} : sout0_A_0 (F := Ideal) c i arg2 harg2 arg3 harg3 arg4 harg4 arg5 harg5 arg6 harg6 arg7 harg7 arg8 harg8 arg9 harg9 arg10 harg10 arg11 harg11 arg12 harg12 h0 x y v w a b
    = k0_pay5 x := by
  unfold sout0_A_0
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem kept_B0 {h0} : sout0_B_0 (F := Ideal) c i arg2 harg2 arg3 harg3 arg4 harg4 arg5 harg5 arg6 harg6 arg7 harg7 arg8 harg8 arg9 harg9 arg10 harg10 arg11 harg11 arg12 harg12 h0 x y v w a b g h
    = k0_pay5 x := by
  unfold sout0_B_0
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

theorem kept_A1 {h0} : sout0_A_1 (F := Ideal) c i arg2 harg2 arg3 harg3 arg4 harg4 arg5 harg5 arg6 harg6 arg7 harg7 arg8 harg8 arg9 harg9 arg10 harg10 arg11 harg11 arg12 harg12 h0 x y v w a b
    = k0_pay9 (k0_pay6 y) := by
  unfold sout0_A_1
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem kept_B1 {h0} : sout0_B_1 (F := Ideal) c i arg2 harg2 arg3 harg3 arg4 harg4 arg5 harg5 arg6 harg6 arg7 harg7 arg8 harg8 arg9 harg9 arg10 harg10 arg11 harg11 arg12 harg12 h0 x y v w a b g h
    = k0_pay9 (k0_pay6 y) := by
  unfold sout0_B_1
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

end

/-- The rows kept after a block. -/
theorem kept (t : Fin cfg0.N) : (outsAt0 m c t.val t.isLt).2.2.2.1 = k0_pay5 (iblk m c 0 t) ∧ (outsAt0 m c t.val t.isLt).2.2.2.2 = k0_pay9 (k0_pay6 (iblk m c 1 t)) := by
  by_cases h : t.val % 12 = 0
  · rw [outsAt0_A m c t h]
    dsimp only
    exact ⟨kept_A0 c, kept_A1 c⟩
  · rw [outsAt0_B m c t h]
    dsimp only
    exact ⟨kept_B0 c, kept_B1 c⟩

/-- The block before. -/
def prev (t : Fin cfg0.N) : Fin cfg0.N := ⟨t.val - 1, Nat.lt_of_le_of_lt (Nat.sub_le _ _) t.isLt⟩

/-- The rows kept before a block, of the first half. -/
def held (t : Fin cfg0.N) : Vec Ideal S16x1408 .f32 := if t.val % 12 = 0 then k0_pay1 (F := Ideal) else k0_pay5 (iblk m c 0 (prev t))

/-- The rows kept before a block, of the second half. -/
def held' (t : Fin cfg0.N) : Vec Ideal S16x1408 .f32 := if t.val % 12 = 0 then k0_pay2 (F := Ideal) else k0_pay9 (k0_pay6 (iblk m c 1 (prev t)))

theorem outs (t : Fin cfg0.N) :
    (outsAt0 m c t.val t.isLt).1 = k0_pay10 (first (iblk m c 0 t) (held m c t) (iblk m c 2 t) (iblk m c 4 t))
    ∧ (outsAt0 m c t.val t.isLt).2.1 = k0_pay11 (k0_pay7 (iblk m c 1 t) (held' m c t)) (row 2 (iblk m c 3 t)) (row 1 (iblk m c 3 t)) (row 0 (iblk m c 3 t)) (iblk m c 5 t)
    ∧ (outsAt0 m c t.val t.isLt).2.2.1 = k0_pay12 (first (iblk m c 0 t) (held m c t) (iblk m c 2 t) (iblk m c 4 t))
      (k0_pay7 (iblk m c 1 t) (held' m c t)) (row 2 (iblk m c 3 t)) (row 1 (iblk m c 3 t)) (row 0 (iblk m c 3 t)) (iblk m c 5 t) := by
  by_cases h : t.val % 12 = 0
  · rw [held, held', if_pos h, if_pos h, outsAt0_A m c t h]
    dsimp only
    exact ⟨out_A6 c, out_A7 c, out_A8 c⟩
  · rw [held, held', if_neg h, if_neg h, ← (kept m c (prev t)).1, ← (kept m c (prev t)).2, outsAt0_B m c t h]
    dsimp only
    exact ⟨out_B6 c, out_B7 c, out_B8 c⟩

theorem joined_at (y : Vec Ideal S688x1408 .bf16) (h : Vec Ideal S16x1408 .f32) (q : Fin 704) (j : Fin 1408) :
    k0_pay7 (F := Ideal) y h (ix2 q j) = if hq : q.val < 16 then h (ix2 ⟨q.val, hq⟩ j) else y (ix2 ⟨q.val - 16, by omega⟩ j) := by
  pointwise [k0_pay7, k0_pay6]

theorem taps_at (z : FVec Ideal S704x1408 .f32) (u v w b' : Vec Ideal S1x1408 .f32) (r : Fin 688) (j : Fin 1408) :
    k0_pay8 (F := Ideal) z u v w b' (ix2 r j) = Conv.taps (w (ix2 0 j)) (v (ix2 0 j)) (u (ix2 0 j)) (b' (ix2 0 j))
      (z (ix2 ⟨16 + r.val, by omega⟩ j)) (z (ix2 ⟨15 + r.val, by omega⟩ j)) (z (ix2 ⟨14 + r.val, by omega⟩ j)) := by
  pointwise [k0_pay8]
  unfold Conv.taps
  exact congrArg₂ (fun a b : EReal => u (ix2 0 j) * z (ix2 ⟨16 + r.val, by omega⟩ j) + a + b + b' (ix2 0 j))
    (congrArg (fun q => v (ix2 0 j) * z (ix2 q j)) (Fin.ext (by simp only; omega))) (congrArg (fun q => w (ix2 0 j) * z (ix2 q j)) (Fin.ext (by simp only; omega)))

theorem joined_back (y : Vec Ideal S688x1408 .bf16) (h : Vec Ideal S16x1408 .f32) (k : ℕ) (r : Fin 688) (q : Fin 704) (hq : q.val + k = 16 + r.val) (j : Fin 1408) :
    k0_pay7 (F := Ideal) y h (ix2 q j) = Conv.back k (fun s => y (ix2 s j)) (fun s => h (ix2 s j)) r := by
  rw [joined_at, Conv.back]
  by_cases hr : k ≤ r.val
  · rw [dif_neg (by omega), dif_pos hr]
    exact congrArg (fun s => y (ix2 s j)) (Fin.ext (by simp only; omega))
  · rw [dif_pos (by omega), dif_neg hr]
    exact congrArg (fun s => h (ix2 s j)) (Fin.ext (by simp only; omega))

theorem conv_at (y : Vec Ideal S688x1408 .bf16) (h : Vec Ideal S16x1408 .f32) (w : Vec Ideal S3x1408 .f32) (b : Vec Ideal S1x1408 .f32) (r : Fin 688) (j : Fin 1408) :
    k0_pay8 (F := Ideal) (k0_pay7 y h) (row 2 w) (row 1 w) (row 0 w) b (ix2 r j)
      = Conv.taps (w (ix2 0 j)) (w (ix2 1 j)) (w (ix2 2 j)) (b (ix2 0 j)) (y (ix2 r j))
        (Conv.back 1 (fun s => y (ix2 s j)) (fun s => h (ix2 s j)) r) (Conv.back 2 (fun s => y (ix2 s j)) (fun s => h (ix2 s j)) r) := by
  rw [taps_at, joined_back y h 1 r ⟨15 + r.val, by omega⟩ (by simp only; omega), joined_back y h 2 r ⟨14 + r.val, by omega⟩ (by simp only; omega),
    joined_back y h 0 r ⟨16 + r.val, by omega⟩ (by simp only; omega), Conv.back_zero]
  rfl

theorem first_eq (x : Vec Ideal S688x1408 .bf16) (g : Vec Ideal S16x1408 .f32) (v : Vec Ideal S3x1408 .f32) (a : Vec Ideal S1x1408 .f32) :
    first x g v a = k0_pay8 (F := Ideal) (k0_pay7 x g) (row 2 v) (row 1 v) (row 0 v) a := rfl

theorem act_at (f : FVec Ideal S688x1408 .f32) (z : FVec Ideal S704x1408 .f32) (u v w b : Vec Ideal S1x1408 .f32) (r : Fin 688) (j : Fin 1408) :
    k0_pay12 (F := Ideal) f z u v w b (ix2 r j) = f (ix2 r j) * Conv.sigmoid (f (ix2 r j)) * k0_pay8 (F := Ideal) z u v w b (ix2 r j) := by
  pointwise [k0_pay12]
  rw [zero_sub]
  rfl

/-- One half's convolution, entry by entry; `e` are its columns. -/
def C (e : Fin 2816 → Fin 5632) (x : Vec Ideal S8256x5632 .bf16) (w : Vec Ideal S3x5632 .f32) (b : Vec Ideal S1x5632 .f32) (p : Fin 8256) (j : Fin 2816) : EReal :=
  Conv.conv (w (ix2 0 (e j))) (w (ix2 1 (e j))) (w (ix2 2 (e j))) (b (ix2 0 (e j))) (fun q => x (ix2 q (e j))) p

def G (e : Fin 2816 → Fin 5632) (x : Vec Ideal S8256x5632 .bf16) (w : Vec Ideal S3x5632 .f32) (b : Vec Ideal S1x5632 .f32) : Vec Ideal S8256x2816 .bf16 := fun i => C e x w b (i 0) (i 1)

/-- The gated activation, entry by entry. -/
def H (x : Vec Ideal S8256x5632 .bf16) (w : Vec Ideal S3x5632 .f32) (b : Vec Ideal S1x5632 .f32) : Vec Ideal S8256x2816 .bf16 := fun i =>
  C Conv.left x w b (i 0) (i 1) * Conv.sigmoid (C Conv.left x w b (i 0) (i 1)) * C Conv.right x w b (i 0) (i 1)

theorem zero_at (s : Fin 16) (j : Fin 1408) : k0_pay1 (F := Ideal) (ix2 s j) = 0 := by
  pointwise [k0_pay1]

theorem last_at (x : Vec Ideal S688x1408 .bf16) (s : Fin 16) (j : Fin 1408) : k0_pay5 (F := Ideal) x (ix2 s j) = x (ix2 ⟨672 + s.val, by omega⟩ j) := by
  pointwise [k0_pay5, k0_pay3]

theorem in_first (t : Fin cfg0.N) (r : Fin 688) (j : Fin 1408) (p : Fin 8256) (hp : p.val = t.val % 12 * 688 + r.val) (J : Fin 2816) (hJ : J.val = t.val / 12 * 1408 + j.val) :
    iblk m c 0 t (ix2 r j) = V m c main_arg0 (ix2 p (Conv.left J)) := by
  blk_point [iblk, idx t, hp, hJ, Conv.left]

theorem in_second (t : Fin cfg0.N) (r : Fin 688) (j : Fin 1408) (p : Fin 8256) (hp : p.val = t.val % 12 * 688 + r.val) (J : Fin 2816) (hJ : J.val = t.val / 12 * 1408 + j.val) :
    iblk m c 1 t (ix2 r j) = V m c main_arg0 (ix2 p (Conv.right J)) := by
  blk_point [iblk, idx t, hp, hJ, Conv.right]

theorem back_first (k : ℕ) (hk : k ≤ 16) (t : Fin cfg0.N) (r : Fin 688) (j : Fin 1408) (p : Fin 8256) (hp : p.val = t.val % 12 * 688 + r.val) (J : Fin 2816)
    (hJ : J.val = t.val / 12 * 1408 + j.val) : Conv.back k (fun s => iblk m c 0 t (ix2 s j)) (fun s => held m c t (ix2 s j)) r
      = Conv.ago k (fun q => V m c main_arg0 (ix2 q (Conv.left J))) p := by
  refine Conv.back_eq k hk _ (t.val % 12) (Nat.mod_lt _ (by decide)) _ _ r p hp (fun s q hq => in_first m c t s j q hq J hJ) (fun h s => ?_) fun h s q hq => ?_
  · rw [held, if_pos h, zero_at]
  · rw [held, if_neg h, last_at]
    have ht := (idx t).2.2.2.2.2.2.2.2.2
    exact in_first m c (prev t) _ j q (by simp only [prev]; omega) J (by simp only [prev]; omega)

theorem back_second (k : ℕ) (hk : k ≤ 16) (t : Fin cfg0.N) (r : Fin 688) (j : Fin 1408) (p : Fin 8256) (hp : p.val = t.val % 12 * 688 + r.val) (J : Fin 2816)
    (hJ : J.val = t.val / 12 * 1408 + j.val) : Conv.back k (fun s => iblk m c 1 t (ix2 s j)) (fun s => held' m c t (ix2 s j)) r
      = Conv.ago k (fun q => V m c main_arg0 (ix2 q (Conv.right J))) p := by
  refine Conv.back_eq k hk _ (t.val % 12) (Nat.mod_lt _ (by decide)) _ _ r p hp (fun s q hq => in_second m c t s j q hq J hJ) (fun h s => ?_) fun h s q hq => ?_
  · rw [held', if_pos h]
    exact zero_at s j
  · rw [held', if_neg h]
    have ht := (idx t).2.2.2.2.2.2.2.2.2
    exact (last_at _ s j).trans (in_second m c (prev t) _ j q (by simp only [prev]; omega) J (by simp only [prev]; omega))

theorem block_first (t : Fin cfg0.N) (r : Fin 688) (j : Fin 1408) (p : Fin 8256) (hp : p.val = t.val % 12 * 688 + r.val) (J : Fin 2816) (hJ : J.val = t.val / 12 * 1408 + j.val) :
    first (iblk m c 0 t) (held m c t) (iblk m c 2 t) (iblk m c 4 t) (ix2 r j) = C Conv.left (V m c main_arg0) (V m c main_arg1) (V m c main_arg2) p J := by
  rw [first_eq, conv_at, back_first m c 1 (by decide) t r j p hp J hJ, back_first m c 2 (by decide) t r j p hp J hJ, in_first m c t r j p hp J hJ]
  refine congr (congr (congr (congr (congr (congr (congrArg Conv.taps ?_) ?_) ?_) ?_) rfl) rfl) rfl
  · blk_point [iblk, idx t, hJ, Conv.left]
  · blk_point [iblk, idx t, hJ, Conv.left]
  · blk_point [iblk, idx t, hJ, Conv.left]
  · blk_point [iblk, idx t, hJ, Conv.left]

theorem block_second (t : Fin cfg0.N) (r : Fin 688) (j : Fin 1408) (p : Fin 8256) (hp : p.val = t.val % 12 * 688 + r.val) (J : Fin 2816) (hJ : J.val = t.val / 12 * 1408 + j.val) :
    k0_pay8 (F := Ideal) (k0_pay7 (iblk m c 1 t) (held' m c t)) (row 2 (iblk m c 3 t)) (row 1 (iblk m c 3 t)) (row 0 (iblk m c 3 t)) (iblk m c 5 t) (ix2 r j)
      = C Conv.right (V m c main_arg0) (V m c main_arg1) (V m c main_arg2) p J := by
  rw [conv_at, back_second m c 1 (by decide) t r j p hp J hJ, back_second m c 2 (by decide) t r j p hp J hJ, in_second m c t r j p hp J hJ]
  refine congr (congr (congr (congr (congr (congr (congrArg Conv.taps ?_) ?_) ?_) ?_) rfl) rfl) rfl
  · blk_point [iblk, idx t, hJ, Conv.right]
  · blk_point [iblk, idx t, hJ, Conv.right]
  · blk_point [iblk, idx t, hJ, Conv.right]
  · blk_point [iblk, idx t, hJ, Conv.right]

theorem final6 : (dats m 0 c).arrAt 6 cfg0.N = G Conv.left (V m c main_arg0) (V m c main_arg1) (V m c main_arg2) := by
  refine (dats m 0 c).arrAt_eq_of_covers 6 _ (by decide +kernel) (fun t hf y => ?_)
  rw [after0_6, (outs m c t).1]
  blk_simp [idx t]
  refine (congrArg (k0_pay10 (first (iblk m c 0 t) (held m c t) (iblk m c 2 t) (iblk m c 4 t))) (eq_ix2 (n0 := 688) (n1 := 1408) y)).trans
    (block_first m c t _ _ (((win0_6.blk t).view.emb y) 0) ?_ (((win0_6.blk t).view.emb y) 1) ?_)
  · blk_simp [idx t]
  · blk_simp [idx t]

theorem final7 : (dats m 0 c).arrAt 7 cfg0.N = G Conv.right (V m c main_arg0) (V m c main_arg1) (V m c main_arg2) := by
  refine (dats m 0 c).arrAt_eq_of_covers 7 _ (by decide +kernel) (fun t hf y => ?_)
  rw [after0_7, (outs m c t).2.1]
  blk_simp [idx t]
  refine (congrArg (k0_pay11 (k0_pay7 (iblk m c 1 t) (held' m c t)) (row 2 (iblk m c 3 t)) (row 1 (iblk m c 3 t)) (row 0 (iblk m c 3 t)) (iblk m c 5 t)) (eq_ix2 (n0 := 688) (n1 := 1408) y)).trans
    (block_second m c t _ _ (((win0_7.blk t).view.emb y) 0) ?_ (((win0_7.blk t).view.emb y) 1) ?_)
  · blk_simp [idx t]
  · blk_simp [idx t]

theorem final8 : (dats m 0 c).arrAt 8 cfg0.N = H (V m c main_arg0) (V m c main_arg1) (V m c main_arg2) := by
  refine (dats m 0 c).arrAt_eq_of_covers 8 _ (by decide +kernel) (fun t hf y => ?_)
  rw [after0_8, (outs m c t).2.2]
  blk_simp [idx t]
  refine (congrArg (k0_pay12 (first (iblk m c 0 t) (held m c t) (iblk m c 2 t) (iblk m c 4 t)) (k0_pay7 (iblk m c 1 t) (held' m c t)) (row 2 (iblk m c 3 t)) (row 1 (iblk m c 3 t))
    (row 0 (iblk m c 3 t)) (iblk m c 5 t)) (eq_ix2 (n0 := 688) (n1 := 1408) y)).trans ((act_at _ _ _ _ _ _ _ _).trans
    (congrArg₂ (fun a b => a * Conv.sigmoid a * b) (block_first m c t _ _ (((win0_8.blk t).view.emb y) 0) ?_ (((win0_8.blk t).view.emb y) 1) ?_)
      (block_second m c t _ _ (((win0_8.blk t).view.emb y) 0) ?_ (((win0_8.blk t).view.emb y) 1) ?_)))
  · blk_simp [idx t]
  · blk_simp [idx t]
  · blk_simp [idx t]
  · blk_simp [idx t]

open Cert.Reference22Ideal.Read in
theorem pad_first (x0) (q : Fin 8258) (j : Fin 2816) : val_main_v5 (F := Ideal) x0 (ix2 q j) = if h : q.val < 2 then 0 else x0 (ix2 ⟨q.val - 2, by omega⟩ (Conv.left j)) := by
  pointwise [val_main_v5, val_main_v4, val_main_cst, val_main_v1, val_main_v0]
  rfl

open Cert.Reference22Ideal.Read in
theorem pad_second (x0) (q : Fin 8258) (j : Fin 2816) : val_main_v32 (F := Ideal) x0 (ix2 q j) = if h : q.val < 2 then 0 else x0 (ix2 ⟨q.val - 2, by omega⟩ (Conv.right j)) := by
  pointwise [val_main_v32, val_main_v31, val_main_cst_0, val_main_v28, val_main_v0]
  rfl

theorem pad_ago (f : Fin 8256 → EReal) (k : ℕ) (hk : k ≤ 2) (q : Fin 8258) (p : Fin 8256) (hq : q.val + k = p.val + 2) :
    (if h : q.val < 2 then 0 else f ⟨q.val - 2, by omega⟩) = Conv.ago k f p := by
  by_cases h : q.val < 2
  · rw [dif_pos h, Conv.ago_of_lt (by omega)]
  · rw [dif_neg h]
    exact (Conv.ago_of_le (by simp only; omega)).symm

theorem pad_mul (f : Fin 8256 → EReal) (w : EReal) (k : ℕ) (hk : k ≤ 2) (q : Fin 8258) (p : Fin 8256) (hq : q.val + k = p.val + 2) :
    (if h : q.val < 2 then 0 else f ⟨q.val - 2, by omega⟩) * w = w * Conv.ago k f p := by
  rw [pad_ago f k hk q p hq, mul_comm]

/-- Three products of padded entries. -/
theorem pad_taps (f : Fin 8256 → EReal) (w0 w1 w2 b : EReal) (p : Fin 8256) :
    (if h : 2 + p.val < 2 then 0 else f ⟨2 + p.val - 2, by omega⟩) * w2 + (if h : 1 + p.val < 2 then 0 else f ⟨1 + p.val - 2, by omega⟩) * w1
      + (if h : p.val < 2 then 0 else f ⟨p.val - 2, by omega⟩) * w0 + b = Conv.conv w0 w1 w2 b f p := by
  unfold Conv.conv Conv.taps
  refine congrArg₂ (fun a c : EReal => a + c) (congrArg₂ (fun a c : EReal => a + c) (congrArg₂ (fun a c : EReal => a + c) ?_ ?_) ?_) rfl
  · exact (pad_mul f w2 0 (by decide) ⟨2 + p.val, by omega⟩ p (by simp only; omega)).trans (congrArg (fun a : EReal => w2 * a) (Conv.ago_of_le rfl))
  · exact pad_mul f w1 1 (by decide) ⟨1 + p.val, by omega⟩ p (by simp only; omega)
  · exact pad_mul f w0 2 (by decide) ⟨p.val, by omega⟩ p (by simp only)

open Cert.Reference22Ideal.Read in
theorem conv_first (x0 x1 x2) (p : Fin 8256) (j : Fin 2816) : val_main_v27 (F := Ideal) x0 x1 x2 (ix2 p j) = C Conv.left x0 x1 x2 p j := by
  pointwise [val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6, val_main_v3, val_main_v2]
  simp only [pad_first]
  exact pad_taps (fun q => x0 (ix2 q (Conv.left j))) _ _ _ _ p

open Cert.Reference22Ideal.Read in
theorem conv_second (x0 x1 x2) (p : Fin 8256) (j : Fin 2816) : val_main_v54 (F := Ideal) x0 x1 x2 (ix2 p j) = C Conv.right x0 x1 x2 p j := by
  pointwise [val_main_v54, val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34, val_main_v33, val_main_v30, val_main_v29]
  simp only [pad_second]
  exact pad_taps (fun q => x0 (ix2 q (Conv.right j))) _ _ _ _ p

open Cert.Reference22Ideal.Read in
theorem ref8 (x0 x1 x2) (i) : val_main_v59 (F := Ideal) x0 x1 x2 i = H x0 x1 x2 i := by
  obtain ⟨a, b, rfl⟩ : ∃ (a : Fin 8256) (b : Fin 2816), i = ix2 a b := ⟨i 0, i 1, eq_ix2 i⟩
  pointwise [val_main_v59, val_main_v58, val_main_v57, val_main_call0_v5, val_main_call0_v4, val_main_call0_v3, val_main_call0_v2, val_main_call0_v1, val_main_call0_v0,
    val_main_call0_cst, val_main_call0_cst_0]
  rw [conv_first, conv_second]
  rfl

theorem frame : Cert.quiescent_Reference22Ideal := fun m g _ =>
  (θ_run Cert.Reference22Ideal.defs _ _).mono (fun r h => ⟨fun c => (h c).2.2.2, sem_eq_zero_of_no_sems (by decide) r.2⟩)
    (Cert.Reference22Ideal.Value.run (F := Ideal) m g)

/-- Over the extended reals, on any arguments: the two convolutions and the activation. -/
theorem same : Cert.algebraic_Kernel22Ideal_Reference22Ideal := fun m g m' g' _ hagree =>
  ⟨fun c => (dats m 0 c).arrAt 6 cfg0.N, fun c => (dats m 0 c).arrAt 7 cfg0.N, fun c => (dats m 0 c).arrAt 8 cfg0.N,
    Cert.Kernel22Ideal.Value.run_blocks (F := Ideal) m g,
    (θ_run Cert.Reference22Ideal.defs _ _).mono (fun r h c => by
      obtain ⟨a0, a1, a2⟩ := hagree c
      exact ⟨(h c).1.trans ((Cert.Reference22Ideal.Read.val_main_v55_eq (F := Ideal) _ _ _).trans
      ((Agree.three (Cert.Reference22Ideal.Read.val_main_v55 (F := Ideal)) a0 a1 a2).trans ((funext fun i =>
        (congrArg _ (eq_ix2 (n0 := 8256) (n1 := 2816) i)).trans (conv_first _ _ _ _ _)).trans (final6 m c).symm))),
      (h c).2.1.trans ((Cert.Reference22Ideal.Read.val_main_v56_eq (F := Ideal) _ _ _).trans
      ((Agree.three (Cert.Reference22Ideal.Read.val_main_v56 (F := Ideal)) a0 a1 a2).trans ((funext fun i =>
        (congrArg _ (eq_ix2 (n0 := 8256) (n1 := 2816) i)).trans (conv_second _ _ _ _ _)).trans (final7 m c).symm))),
      (h c).2.2.1.trans ((Cert.Reference22Ideal.Read.val_main_v59_eq (F := Ideal) _ _).trans
      ((Agree.three (Cert.Reference22Ideal.Read.val_main_v59 (F := Ideal)) a0 a1 a2).trans ((funext (ref8 _ _ _)).trans (final8 m c).symm))), (h c).2.2.2⟩)
      (Cert.Reference22Ideal.Value.run (F := Ideal) m' g')⟩

end Cert.Prod22
-- ==== Proof.Ahead.lean ====
module

public import proofs.«01_k».proof.Proof.Conv
public import proofs.«01_k».proof.Proof.Rows
public import Mathlib.Tactic.Ring

@[expose] public section

/-! A column read some rows ahead, over twelve blocks taken from the last to the first, and the sums kept over them. -/

noncomputable section

namespace Cert.Conv

open Idealize.ShloMosaic Finset

/-- The entry `k` rows after `r` in a block; after its last row, in the sixteen rows kept of the block behind. -/
def ahead (k : ℕ) (f : Fin 688 → EReal) (h : Fin 16 → EReal) (r : Fin 688) : EReal :=
  if hk : r.val + k < 688 then f ⟨r.val + k, hk⟩ else if hs : r.val + k - 688 < 16 then h ⟨r.val + k - 688, hs⟩ else 0

theorem ahead_zero {f : Fin 688 → EReal} {h : Fin 16 → EReal} {r : Fin 688} : ahead 0 f h r = f r := dif_pos r.isLt

theorem later_of_lt {k : ℕ} {f : Fin 8256 → EReal} {p q : Fin 8256} (h : q.val = p.val + k) : later k f p = f q :=
  (dif_pos (by omega)).trans (congrArg f (Fin.ext h.symm))

theorem later_of_le {k : ℕ} {f : Fin 8256 → EReal} {p : Fin 8256} (h : 8256 ≤ p.val + k) : later k f p = 0 := dif_neg (by omega)

theorem later_zero {f : Fin 8256 → EReal} {p : Fin 8256} : later 0 f p = f p := later_of_lt rfl

/-- Over the blocks. -/
theorem ahead_eq (k : ℕ) (hk : k ≤ 16) (f : Fin 8256 → EReal) (t : ℕ) (ht : t < 12) (u : Fin 688 → EReal) (h : Fin 16 → EReal) (r : Fin 688) (p : Fin 8256)
    (hp : p.val = t * 688 + r.val) (hu : ∀ (s : Fin 688) (q : Fin 8256), q.val = t * 688 + s.val → u s = f q) (h0 : t = 11 → ∀ s, h s = 0)
    (hs : t ≠ 11 → ∀ (s : Fin 16) (q : Fin 8256), q.val = (t + 1) * 688 + s.val → h s = f q) : ahead k u h r = later k f p := by
  by_cases hr : r.val + k < 688
  · exact (dif_pos hr).trans ((hu _ ⟨p.val + k, by omega⟩ (by simp only; omega)).trans (later_of_lt rfl).symm)
  · refine (dif_neg hr).trans ((dif_pos (by omega)).trans ?_)
    by_cases h1 : t = 11
    · exact (h0 h1 _).trans (later_of_le (by omega)).symm
    · exact (hs h1 _ ⟨p.val + k, by omega⟩ (by simp only; omega)).trans (later_of_lt rfl).symm

/-- A sum against entries some rows before is one against entries as many rows after. -/
theorem shift_sum (k : ℕ) (x d : Fin 8256 → EReal) : ∑ p, ago k x p * d p = ∑ p, x p * later k d p := by
  have e1 : ∑ p ∈ univ.filter (fun p : Fin 8256 => k ≤ p.val), ago k x p * d p = ∑ p, ago k x p * d p :=
    sum_filter_of_ne fun p _ h => by
      by_contra hk
      exact h (by rw [ago_of_lt (by omega), zero_mul])
  have e2 : ∑ p ∈ univ.filter (fun p : Fin 8256 => p.val + k < 8256), x p * later k d p = ∑ p, x p * later k d p :=
    sum_filter_of_ne fun p _ h => by
      by_contra hk
      exact h (by rw [later_of_le (by omega), mul_zero])
  rw [← e1, ← e2]
  refine sum_bij' (fun p _ => ⟨p.val - k, by omega⟩) (fun q hq => ⟨q.val + k, (mem_filter.mp hq).2⟩) ?_ ?_ ?_ ?_ ?_
  · intro p hp
    have h1 := (mem_filter.mp hp).2
    exact mem_filter.mpr ⟨mem_univ _, by simp only; omega⟩
  · intro q hq
    exact mem_filter.mpr ⟨mem_univ _, by simp only; omega⟩
  · intro p hp
    have h1 := (mem_filter.mp hp).2
    exact Fin.ext (by simp only; omega)
  · intro q hq
    exact Fin.ext (by simp only; omega)
  · intro p hp
    have h1 := (mem_filter.mp hp).2
    exact congrArg₂ (fun a b : EReal => a * b) (ago_of_le (by simp only; omega)) (later_of_lt (by simp only; omega)).symm

/-- What is kept over the twelve blocks, the last of them first, is the sum over all rows. -/
theorem reversed (f : Fin 8256 → EReal) (p : Fin 12 → EReal) (s : (n : ℕ) → n < 12 → EReal)
    (hp : ∀ t : Fin 12, p t = ∑ r : Fin 688, f ⟨(11 - t.val) * 688 + r.val, by omega⟩) (h0 : ∀ h, s 0 h = p ⟨0, h⟩)
    (hs : ∀ n h, s (n + 1) h = s n (Nat.lt_of_succ_lt h) + p ⟨n + 1, h⟩) : s 11 (by decide) = ∑ k, f k := by
  rw [Rows.kept p s h0 hs, ← Rows.blocks (N := 12) (b := 688) rfl f]
  refine (Equiv.sum_comp Fin.revPerm p).symm.trans ?_
  refine sum_congr rfl fun t _ => (hp _).trans (sum_congr rfl fun r _ => congrArg f (Fin.ext ?_))
  simp only [Fin.revPerm_apply, Fin.val_rev]
  omega

/-- The gradient of the gated activation in its gate. -/
def gateGrad (d a b : EReal) : EReal := d * b * sigmoid a * (1 + a * (1 - sigmoid a))

/-- The gradient of the gated activation in its other factor. -/
def otherGrad (d a : EReal) : EReal := d * a * sigmoid a

theorem sigmoid_top : sigmoid ⊤ = 1 := by
  have h : Ideal.exp (-⊤) = 0 := by
    rw [EReal.neg_top]
    rfl
  rw [sigmoid, h, add_zero, ← EReal.coe_one, Ideal.div_coe one_ne_zero, ← EReal.coe_mul]
  norm_num

theorem sigmoid_bot : sigmoid ⊥ = 0 := by
  have h : Ideal.exp (-⊥) = ⊤ := by
    rw [EReal.neg_bot]
    rfl
  have h1 : (1 : EReal) + ⊤ = ⊤ := EReal.coe_add_top 1
  rw [sigmoid, h, h1, Ideal.div, if_neg (by simp)]
  simp

theorem sigmoid_real (a : ℝ) : ∃ s : ℝ, sigmoid (a : EReal) = (s : EReal) := by
  have h : (1 : EReal) + Ideal.exp (-(a : EReal)) = ((1 + Real.exp (-a) : ℝ) : EReal) := by
    rw [← EReal.coe_neg, Ideal.exp_coe, EReal.coe_add, EReal.coe_one]
  refine ⟨1 * (1 / (1 + Real.exp (-a))), ?_⟩
  rw [sigmoid, h, Ideal.div_coe (by positivity), EReal.coe_mul, EReal.coe_one]

/-- The gradient in the gate as a product rule gives it, where the incoming gradient and the other factor are real. -/
theorem gate_rule (d b : ℝ) (a : EReal) :
    (d : EReal) * b * sigmoid a + a * ((d : EReal) * b) * (sigmoid a * (1 - sigmoid a)) = gateGrad d a b := by
  unfold gateGrad
  rw [← EReal.coe_mul]
  induction a with
  | bot => rw [sigmoid_bot]; simp
  | top =>
    rw [sigmoid_top]
    have h1 : (1 : EReal) - 1 = 0 := by rw [← EReal.coe_one, ← EReal.coe_sub, sub_self, EReal.coe_zero]
    rw [h1]
    simp
  | coe a =>
    obtain ⟨s, hs⟩ := sigmoid_real a
    rw [hs]
    rw [← EReal.coe_one]
    norm_cast
    ring

end Cert.Conv
-- ==== Proof.Grads.lean ====
module

public import proofs.«01_k».proof.Kernel23Ideal
public import proofs.«01_k».proof.Proof.Ahead

@[expose] public section

/-! What the gradients of the convolution and the gated activation are, entry by entry. -/

noncomputable section

namespace Cert.Grads

open Idealize.ShloMosaic Cert.Kernel23Ideal Finset

/-- The gradient in the gate's convolution, a column at a time. -/
def colA (d a b : Vec Ideal S8256x2816 .bf16) (J : Fin 2816) (p : Fin 8256) : EReal := Conv.gateGrad (d (ix2 p J)) (a (ix2 p J)) (b (ix2 p J))

/-- The gradient in the other convolution, a column at a time. -/
def colB (d a : Vec Ideal S8256x2816 .bf16) (J : Fin 2816) (p : Fin 8256) : EReal := Conv.otherGrad (d (ix2 p J)) (a (ix2 p J))

/-- The gradient in the convolution's operand. -/
def back (e : Fin 2816 → Fin 5632) (f : Fin 2816 → Fin 8256 → EReal) (w : Vec Ideal S3x5632 .f32) (p : Fin 8256) (J : Fin 2816) : EReal :=
  w (ix2 2 (e J)) * f J p + w (ix2 1 (e J)) * Conv.later 1 (f J) p + w (ix2 0 (e J)) * Conv.later 2 (f J) p

/-- The gradient in the weights. -/
def weight (e : Fin 2816 → Fin 5632) (f : Fin 2816 → Fin 8256 → EReal) (x : Vec Ideal S8256x5632 .bf16) (k : Fin 3) (J : Fin 2816) : EReal :=
  ∑ p : Fin 8256, x (ix2 p (e J)) * Conv.later (2 - k.val) (f J) p

/-- Both operands' gradients, one over the other. -/
def W7 (d a b : Vec Ideal S8256x2816 .bf16) (w : Vec Ideal S3x5632 .f32) : Vec Ideal S2x8256x2816 .bf16 := fun i =>
  if (i 0).val = 0 then back Conv.left (colA d a b) w (i 1) (i 2) else back Conv.right (colB d a) w (i 1) (i 2)

def W8 (d a b : Vec Ideal S8256x2816 .bf16) (x : Vec Ideal S8256x5632 .bf16) : Vec Ideal S3x2816 .f32 := fun i => weight Conv.left (colA d a b) x (i 0) (i 1)

def W9 (d a : Vec Ideal S8256x2816 .bf16) (x : Vec Ideal S8256x5632 .bf16) : Vec Ideal S3x2816 .f32 := fun i => weight Conv.right (colB d a) x (i 0) (i 1)

def W10 (d a b : Vec Ideal S8256x2816 .bf16) : Vec Ideal S1x2816 .f32 := fun i => ∑ p : Fin 8256, colA d a b (i 1) p

def W11 (d a : Vec Ideal S8256x2816 .bf16) : Vec Ideal S1x2816 .f32 := fun i => ∑ p : Fin 8256, colB d a (i 1) p

end Cert.Grads
-- ==== Proof.Blocks23.lean ====
module

public import proofs.«01_k».proof.Proof.Gen.Kernel23Ideal.Value
public import Idealize.ShloMosaic.Lib.Pipeline.ValueKit
public import Idealize.ShloMosaic.Lib.Claim
public import proofs.«01_k».proof.Proof.Grads

@[expose] public section

/-! The gradients of the convolution and the gated activation: twelve blocks of rows, the last first, each keeping its first sixteen rows for the next. -/

noncomputable section

namespace Cert.Blocks23

open Idealize.ShloMosaic Idealize.ShloMosaic.TcCoe Cert.Kernel23Ideal Cert.Kernel23Ideal.Gen Cert.Grads Finset

set_option maxRecDepth 16384

variable (m : (ℓ : Loc nD τ sig) → Buf (Elt Ideal) ℓ) (c : Dev nD)

theorem idx : ∀ t : Fin cfg0.N, win0_0.index t = ![11 - t.val % 12, t.val / 12] ∧ win0_1.index t = ![11 - t.val % 12, t.val / 12] ∧ win0_2.index t = ![11 - t.val % 12, t.val / 12]
    ∧ win0_3.index t = ![11 - t.val % 12, t.val / 12] ∧ win0_4.index t = ![11 - t.val % 12, t.val / 12 + 2] ∧ win0_5.index t = ![0, t.val / 12]
    ∧ win0_6.index t = ![0, t.val / 12 + 2] ∧ win0_7.index t = ![0, 11 - t.val % 12, t.val / 12] ∧ win0_8.index t = ![0, t.val / 12] ∧ win0_9.index t = ![0, t.val / 12]
    ∧ win0_10.index t = ![0, t.val / 12] ∧ win0_11.index t = ![0, t.val / 12] ∧ t.val < 24 :=
  (by decide +kernel : ∀ t : Fin grid0.N, _)

theorem lt24 (t : Fin cfg0.N) : t.val < 24 := (idx t).2.2.2.2.2.2.2.2.2.2.2.2

/-! Rows of three, stored and read one by one, and the two slabs of a stack. -/

/-- One row of the weights. -/
def row (k : Fin 3) (w : Vec Ideal S3x1408 .f32) : Vec Ideal S1x1408 .f32 := fun i => w (ix2 k (i 1))

theorem ld_at (k : Fin 3) (w : Vec Ideal S3x1408 .f32) (o : Fin 2 → ℕ) (ho : o = ![k.val, 0]) (inb) (j : Fin 1408) :
    View.ld (Val := Elt Ideal) (e' := .f32) w (Rect.unit (s := S3x1408) o ![1, 1408] inb) (ix2 0 j) = w (ix2 k j) := by
  subst ho
  exact View.ld_unit_apply_of _ _ _ _ _ _ fun a => by fin_cases a <;> simp

theorem ld_row (k : Fin 3) (w : Vec Ideal S3x1408 .f32) (o : Fin 2 → ℕ) (ho : o = ![k.val, 0]) (inb) :
    View.ld (Val := Elt Ideal) (e' := .f32) w (Rect.unit (s := S3x1408) o ![1, 1408] inb) = row k w := by
  funext i
  obtain ⟨z, j, rfl⟩ : ∃ (z : Fin 1) (j : Fin 1408), i = ix2 z j := ⟨i 0, i 1, eq_ix2 i⟩
  obtain rfl : z = 0 := Subsingleton.elim _ _
  exact ld_at k w o ho inb j

theorem ld0 (w : Vec Ideal S3x1408 .f32) (inb) : View.ld (Val := Elt Ideal) (e' := .f32) w (Rect.unit (s := S3x1408) ![0, 0] ![1, 1408] inb) = row 0 w := ld_row 0 w _ rfl inb

theorem ld1 (w : Vec Ideal S3x1408 .f32) (inb) : View.ld (Val := Elt Ideal) (e' := .f32) w (Rect.unit (s := S3x1408) ![1, 0] ![1, 1408] inb) = row 1 w := ld_row 1 w _ rfl inb

theorem ld2 (w : Vec Ideal S3x1408 .f32) (inb) : View.ld (Val := Elt Ideal) (e' := .f32) w (Rect.unit (s := S3x1408) ![2, 0] ![1, 1408] inb) = row 2 w := ld_row 2 w _ rfl inb

theorem hit (k : Fin 3) (o : Fin 2 → ℕ) (ho : o = ![k.val, 0]) (inb) (v : FVec Ideal S1x1408 .f32) (L : List (View.Piece (Elt Ideal) S3x1408 .f32)) (j : Fin 1408) :
    View.canon (⟨Rect.unit (s := S3x1408) o S1x1408.size inb, v⟩ :: L) (ix2 k j) = v (ix2 0 j) := by
  subst ho
  have : ix2 k j = (Rect.unit (s := S3x1408) ![k.val, 0] S1x1408.size inb).emb (ix2 (0 : Fin 1) j) := by
    funext b
    apply Fin.ext
    rw [ValueKit.rect_emb_unit_val]
    fin_cases b <;> simp
  rw [this, View.canon_cons_emb]

theorem miss (l k : Fin 3) (hk : k ≠ l) (o : Fin 2 → ℕ) (ho : o = ![l.val, 0]) (inb) (v : FVec Ideal S1x1408 .f32) (L : List (View.Piece (Elt Ideal) S3x1408 .f32)) (j : Fin 1408) :
    View.canon (⟨Rect.unit (s := S3x1408) o S1x1408.size inb, v⟩ :: L) (ix2 k j) = View.canon L (ix2 k j) := by
  subst ho
  refine View.canon_cons_of_not_mem _ _ ?_
  rw [Rect.mem_set_unit]
  intro hm
  have h1 : l.val ≤ k.val ∧ k.val < l.val + 1 := hm 0
  exact hk (Fin.ext (by omega))

theorem slab_hit (k : Fin 2) (o : Fin 3 → ℕ) (ho : o = ![k.val, 0, 0]) (inb) (v : FVec Ideal S1x688x1408 .bf16) (L : List (View.Piece (Elt Ideal) S2x688x1408 .bf16)) (r : Fin 688) (j : Fin 1408) :
    View.canon (⟨Rect.unit (s := S2x688x1408) o S1x688x1408.size inb, v⟩ :: L) (ix3 k r j) = v (ix3 0 r j) := by
  subst ho
  have : ix3 k r j = (Rect.unit (s := S2x688x1408) ![k.val, 0, 0] S1x688x1408.size inb).emb (ix3 (0 : Fin 1) r j) := by
    funext b
    apply Fin.ext
    rw [ValueKit.rect_emb_unit_val]
    fin_cases b <;> simp
  rw [this, View.canon_cons_emb]

theorem slab_miss (l k : Fin 2) (hk : k ≠ l) (o : Fin 3 → ℕ) (ho : o = ![l.val, 0, 0]) (inb) (v : FVec Ideal S1x688x1408 .bf16) (L : List (View.Piece (Elt Ideal) S2x688x1408 .bf16))
    (r : Fin 688) (j : Fin 1408) :
    View.canon (⟨Rect.unit (s := S2x688x1408) o S1x688x1408.size inb, v⟩ :: L) (ix3 k r j) = View.canon L (ix3 k r j) := by
  subst ho
  refine View.canon_cons_of_not_mem _ _ ?_
  rw [Rect.mem_set_unit]
  intro hm
  have h1 : l.val ≤ k.val ∧ k.val < l.val + 1 := hm 0
  exact hk (Fin.ext (by omega))

/-! What one block computes. -/

theorem zero16 (s : Fin 16) (j : Fin 1408) : k0_pay6 (F := Ideal) (ix2 s j) = 0 := by
  pointwise [k0_pay6]

theorem zero3 (k : Fin 3) (j : Fin 1408) : k0_pay8 (F := Ideal) (ix2 k j) = 0 := by
  pointwise [k0_pay8]

theorem zero1 (j : Fin 1408) : k0_pay10 (F := Ideal) (ix2 0 j) = 0 := by
  pointwise [k0_pay10]

theorem sig_at (a : Vec Ideal S688x1408 .bf16) (r : Fin 688) (j : Fin 1408) : k0_pay14 (F := Ideal) a (ix2 r j) = Conv.sigmoid (a (ix2 r j)) := by
  pointwise [k0_pay14, k0_pay13]
  rw [zero_sub]
  rfl

theorem gate_at (d a b : Vec Ideal S688x1408 .bf16) (r : Fin 688) (j : Fin 1408) :
    k0_pay15 (F := Ideal) d a b (ix2 r j) = Conv.gateGrad (d (ix2 r j)) (a (ix2 r j)) (b (ix2 r j)) := by
  pointwise [k0_pay15, k0_pay12, k0_pay13]
  rw [sig_at]
  rfl

theorem other_at (d a : Vec Ideal S688x1408 .bf16) (r : Fin 688) (j : Fin 1408) :
    k0_pay16 (F := Ideal) d a (ix2 r j) = Conv.otherGrad (d (ix2 r j)) (a (ix2 r j)) := by
  pointwise [k0_pay16, k0_pay12, k0_pay13]
  rw [sig_at]
  rfl

theorem front_at (d : FVec Ideal S688x1408 .f32) (s : Fin 16) (j : Fin 1408) : k0_pay5 (F := Ideal) d (ix2 s j) = d (ix2 ⟨s.val, by omega⟩ j) := by
  pointwise [k0_pay5]

theorem joined_at (d : FVec Ideal S688x1408 .f32) (h : Vec Ideal S16x1408 .f32) (q : Fin 704) (j : Fin 1408) :
    k0_pay28 (F := Ideal) d h (ix2 q j) = if hq : q.val < 688 then d (ix2 ⟨q.val, hq⟩ j) else h (ix2 ⟨q.val - 688, by omega⟩ j) := by
  pointwise [k0_pay28]

theorem joined_ahead (d : FVec Ideal S688x1408 .f32) (h : Vec Ideal S16x1408 .f32) (k : ℕ) (r : Fin 688) (q : Fin 704) (hq : q.val = r.val + k) (j : Fin 1408) :
    k0_pay28 (F := Ideal) d h (ix2 q j) = Conv.ahead k (fun s => d (ix2 s j)) (fun s => h (ix2 s j)) r := by
  rw [joined_at, Conv.ahead]
  by_cases hr : r.val + k < 688
  · rw [dif_pos (by omega), dif_pos hr]
    exact congrArg (fun s => d (ix2 s j)) (Fin.ext hq)
  · rw [dif_neg (by omega), dif_neg hr, dif_pos (by omega)]
    exact congrArg (fun s => h (ix2 s j)) (Fin.ext (by simp only; omega))

theorem one_at (d : FVec Ideal S688x1408 .f32) (h : Vec Ideal S16x1408 .f32) (r : Fin 688) (j : Fin 1408) :
    k0_pay29 (F := Ideal) d h (ix2 r j) = Conv.ahead 1 (fun s => d (ix2 s j)) (fun s => h (ix2 s j)) r := by
  rw [← joined_ahead d h 1 r ⟨r.val + 1, by omega⟩ rfl j]
  pointwise [k0_pay29]
  refine congrArg (fun q => k0_pay28 (F := Ideal) d h (ix2 q j)) (Fin.ext ?_)
  simp only
  omega

theorem two_at (d : FVec Ideal S688x1408 .f32) (h : Vec Ideal S16x1408 .f32) (r : Fin 688) (j : Fin 1408) :
    k0_pay30 (F := Ideal) d h (ix2 r j) = Conv.ahead 2 (fun s => d (ix2 s j)) (fun s => h (ix2 s j)) r := by
  rw [← joined_ahead d h 2 r ⟨r.val + 2, by omega⟩ rfl j]
  pointwise [k0_pay30]
  refine congrArg (fun q => k0_pay28 (F := Ideal) d h (ix2 q j)) (Fin.ext ?_)
  simp only
  omega

/-- The convolution's sum of three, in its gradient. -/
theorem slab_at (d : FVec Ideal S688x1408 .f32) (h : Vec Ideal S16x1408 .f32) (u v w : Vec Ideal S1x1408 .f32) (r : Fin 688) (j : Fin 1408) :
    k0_pay31 (F := Ideal) d h u v w (ix3 0 r j) = u (ix2 0 j) * d (ix2 r j) + v (ix2 0 j) * Conv.ahead 1 (fun s => d (ix2 s j)) (fun s => h (ix2 s j)) r
      + w (ix2 0 j) * Conv.ahead 2 (fun s => d (ix2 s j)) (fun s => h (ix2 s j)) r := by
  rw [← one_at, ← two_at]
  pointwise [k0_pay31]

/-- What a row of the weights is multiplied with. -/
def shifted (k : Fin 3) (d : FVec Ideal S688x1408 .f32) (h : Vec Ideal S16x1408 .f32) : FVec Ideal S688x1408 .f32 :=
  if k.val = 0 then k0_pay30 d h else if k.val = 1 then k0_pay29 d h else d

theorem shifted_at (k : Fin 3) (d : FVec Ideal S688x1408 .f32) (h : Vec Ideal S16x1408 .f32) (r : Fin 688) (j : Fin 1408) :
    shifted k d h (ix2 r j) = Conv.ahead (2 - k.val) (fun s => d (ix2 s j)) (fun s => h (ix2 s j)) r := by
  fin_cases k
  · exact two_at d h r j
  · exact one_at d h r j
  · exact (Conv.ahead_zero (f := fun s => d (ix2 s j)) (h := fun s => h (ix2 s j)) (r := r)).symm

/-- One block's part of a weight's gradient. -/
def part (k : Fin 3) (d : FVec Ideal S688x1408 .f32) (h : Vec Ideal S16x1408 .f32) (x : Vec Ideal S688x1408 .bf16) (j : Fin 1408) : EReal :=
  ∑ r : Fin 688, x (ix2 r j) * shifted k d h (ix2 r j)

theorem sum_at (d : FVec Ideal S688x1408 .f32) (x : Vec Ideal S688x1408 .bf16) (s : Vec Ideal S1x1408 .f32) (j : Fin 1408) :
    k0_pay23 (F := Ideal) d x s (ix2 0 j) = s (ix2 0 j) + ∑ r : Fin 688, x (ix2 r j) * d (ix2 r j) := by
  pointwise [k0_pay23, k0_pay22]

theorem bias_at (d : FVec Ideal S688x1408 .f32) (s : Vec Ideal S1x1408 .f32) (j : Fin 1408) :
    k0_pay4 (F := Ideal) d s (ix2 0 j) = s (ix2 0 j) + ∑ r : Fin 688, d (ix2 r j) := by
  pointwise [k0_pay4]

section

variable {i : grid0.Coords}
  {arg2 : Memref sig .tc .vmem S688x1408 .bf16} {harg2 : arg2.IsWhole} {arg3 : Memref sig .tc .vmem S688x1408 .bf16} {harg3 : arg3.IsWhole}
  {arg4 : Memref sig .tc .vmem S688x1408 .bf16} {harg4 : arg4.IsWhole} {arg5 : Memref sig .tc .vmem S688x1408 .bf16} {harg5 : arg5.IsWhole}
  {arg6 : Memref sig .tc .vmem S688x1408 .bf16} {harg6 : arg6.IsWhole} {arg7 : Memref sig .tc .vmem S3x1408 .f32} {harg7 : arg7.IsWhole}
  {arg8 : Memref sig .tc .vmem S3x1408 .f32} {harg8 : arg8.IsWhole} {arg9 : Memref sig .tc .vmem S2x688x1408 .bf16} {harg9 : arg9.IsWhole}
  {arg10 : Memref sig .tc .vmem S3x1408 .f32} {harg10 : arg10.IsWhole} {arg11 : Memref sig .tc .vmem S3x1408 .f32} {harg11 : arg11.IsWhole}
  {arg12 : Memref sig .tc .vmem S1x1408 .f32} {harg12 : arg12.IsWhole} {arg13 : Memref sig .tc .vmem S1x1408 .f32} {harg13 : arg13.IsWhole}
  {arg14 : Memref sig .tc .vmem S16x1408 .f32} {harg14 : arg14.IsWhole} {arg15 : Memref sig .tc .vmem S16x1408 .f32} {harg15 : arg15.IsWhole}
  {d a b x y : Vec Ideal S688x1408 .bf16} {v w s s' : Vec Ideal S3x1408 .f32} {u u' : Vec Ideal S1x1408 .f32} {g h : Vec Ideal S16x1408 .f32}

theorem slab_A {h0} (k : Fin 2) (r : Fin 688) (j : Fin 1408) : out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w (ix3 k r j)
    = if k.val = 0 then k0_pay31 (F := Ideal) (k0_pay15 d a b) (k0_pay6 (F := Ideal)) (row 2 v) (row 1 v) (row 0 v) (ix3 0 r j)
      else k0_pay31 (F := Ideal) (k0_pay16 d a) (k0_pay6 (F := Ideal)) (row 2 w) (row 1 w) (row 0 w) (ix3 0 r j) := by
  unfold out0_A_7
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rw [ld0 v, ld1 v, ld2 v, ld0 w, ld1 w, ld2 w]
  fin_cases k
  · exact (slab_miss 1 0 (by decide) _ rfl _ _ _ _ _).trans (slab_hit 0 _ rfl _ _ _ _ _)
  · exact slab_hit 1 _ rfl _ _ _ _ _

theorem slab_B {h0} (k : Fin 2) (r : Fin 688) (j : Fin 1408) : out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w s s' u u' g h (ix3 k r j)
    = if k.val = 0 then k0_pay31 (F := Ideal) (k0_pay15 d a b) g (row 2 v) (row 1 v) (row 0 v) (ix3 0 r j)
      else k0_pay31 (F := Ideal) (k0_pay16 d a) h (row 2 w) (row 1 w) (row 0 w) (ix3 0 r j) := by
  unfold out0_B_7
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  rw [ld0 v, ld1 v, ld2 v, ld0 w, ld1 w, ld2 w]
  fin_cases k
  · exact (slab_miss 1 0 (by decide) _ rfl _ _ _ _ _).trans (slab_hit 0 _ rfl _ _ _ _ _)
  · exact slab_hit 1 _ rfl _ _ _ _ _

/-- Three rows added to one after the other, to what was there. -/
theorem rows_of (k : Fin 3) (S : Vec Ideal S3x1408 .f32) (d : FVec Ideal S688x1408 .f32) (h : Vec Ideal S16x1408 .f32) (x : Vec Ideal S688x1408 .bf16) (i0 i1 i2)
    (X0 X1 X2 : Vec Ideal S1x1408 .f32) (L : List (View.Piece (Elt Ideal) S3x1408 .f32)) (j : Fin 1408) (h0 : X0 (ix2 0 j) = S (ix2 0 j)) (h1 : X1 (ix2 0 j) = S (ix2 1 j)) (h2 : X2 (ix2 0 j) = S (ix2 2 j)) :
    View.canon (⟨Rect.unit (s := S3x1408) ![0, 0] S1x1408.size i0, k0_pay23 (F := Ideal) (k0_pay30 d h) x X0⟩ :: ⟨Rect.unit (s := S3x1408) ![1, 0] S1x1408.size i1, k0_pay23 (F := Ideal) (k0_pay29 d h) x X1⟩
      :: ⟨Rect.unit (s := S3x1408) ![2, 0] S1x1408.size i2, k0_pay23 (F := Ideal) d x X2⟩ :: L) (ix2 k j) = S (ix2 k j) + part k d h x j := by
  fin_cases k
  · exact (hit 0 _ rfl _ _ _ _).trans ((sum_at _ _ _ j).trans (congrArg (fun e : EReal => e + _) h0))
  · exact (miss 0 1 (by decide) _ rfl _ _ _ _).trans ((hit 1 _ rfl _ _ _ _).trans ((sum_at _ _ _ j).trans (congrArg (fun e : EReal => e + _) h1)))
  · exact (miss 0 2 (by decide) _ rfl _ _ _ _).trans ((miss 1 2 (by decide) _ rfl _ _ _ _).trans ((hit 2 _ rfl _ _ _ _).trans ((sum_at _ _ _ j).trans (congrArg (fun e : EReal => e + _) h2))))

theorem taps_A {h0} (k : Fin 3) (j : Fin 1408) : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w (ix2 k j)
    = part k (k0_pay15 d a b) (k0_pay6 (F := Ideal)) x j := by
  unfold out0_A_8
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  refine (rows_of k (k0_pay8 (F := Ideal)) (k0_pay15 d a b) (k0_pay6 (F := Ideal)) x _ _ _ _ _ _ _ j ?_ ?_ ?_).trans ((congrArg (fun e : EReal => e + _) (zero3 k j)).trans (zero_add _))
  · exact (ld_at 0 _ _ rfl _ j).trans ((miss 1 0 (by decide) _ rfl _ _ _ _).trans ((miss 2 0 (by decide) _ rfl _ _ _ _).trans (by rw [View.canon_cons_unit_lit' _ _ _ (by decide)])))
  · exact (ld_at 1 _ _ rfl _ j).trans ((miss 2 1 (by decide) _ rfl _ _ _ _).trans (by rw [View.canon_cons_unit_lit' _ _ _ (by decide)]))
  · exact ld_at 2 _ _ rfl _ j

theorem taps_B {h0} (k : Fin 3) (j : Fin 1408) : out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w s s' u u' g h (ix2 k j)
    = s (ix2 k j) + part k (k0_pay15 d a b) g x j := by
  unfold out0_B_8
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  exact rows_of k s (k0_pay15 d a b) g x _ _ _ _ _ _ _ j (ld_at 0 _ _ rfl _ j) (ld_at 1 _ _ rfl _ j) (ld_at 2 _ _ rfl _ j)

theorem taps_A' {h0} (k : Fin 3) (j : Fin 1408) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w (ix2 k j)
    = part k (k0_pay16 d a) (k0_pay6 (F := Ideal)) y j := by
  unfold out0_A_9
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  refine (rows_of k (k0_pay8 (F := Ideal)) (k0_pay16 d a) (k0_pay6 (F := Ideal)) y _ _ _ _ _ _ _ j ?_ ?_ ?_).trans ((congrArg (fun e : EReal => e + _) (zero3 k j)).trans (zero_add _))
  · exact (ld_at 0 _ _ rfl _ j).trans ((miss 1 0 (by decide) _ rfl _ _ _ _).trans ((miss 2 0 (by decide) _ rfl _ _ _ _).trans (by rw [View.canon_cons_unit_lit' _ _ _ (by decide)]; rfl)))
  · exact (ld_at 1 _ _ rfl _ j).trans ((miss 2 1 (by decide) _ rfl _ _ _ _).trans (by rw [View.canon_cons_unit_lit' _ _ _ (by decide)]; rfl))
  · exact ld_at 2 _ _ rfl _ j

theorem taps_B' {h0} (k : Fin 3) (j : Fin 1408) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w s s' u u' g h (ix2 k j)
    = s' (ix2 k j) + part k (k0_pay16 d a) h y j := by
  unfold out0_B_9
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  exact rows_of k s' (k0_pay16 d a) h y _ _ _ _ _ _ _ j (ld_at 0 _ _ rfl _ j) (ld_at 1 _ _ rfl _ j) (ld_at 2 _ _ rfl _ j)

theorem bias_A {h0} : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w
    = k0_pay4 (k0_pay15 d a b) (k0_pay10 (F := Ideal)) := by
  unfold out0_A_10
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rfl

theorem bias_B {h0} : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w s s' u u' g h
    = k0_pay4 (k0_pay15 d a b) u := by
  unfold out0_B_10
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  rfl

theorem bias_A' {h0} : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w
    = k0_pay4 (k0_pay16 d a) (k0_pay10 (F := Ideal)) := by
  unfold out0_A_11
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rfl

theorem bias_B' {h0} : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w s s' u u' g h
    = k0_pay4 (k0_pay16 d a) u' := by
  unfold out0_B_11
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

theorem kept_A0 {h0} : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w
    = k0_pay5 (k0_pay15 d a b) := by
  unfold sout0_A_0
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']
  rfl

theorem kept_B0 {h0} : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w s s' u u' g h
    = k0_pay5 (k0_pay15 d a b) := by
  unfold sout0_B_0
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']
  rfl

theorem kept_A1 {h0} : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w
    = k0_pay5 (k0_pay16 d a) := by
  unfold sout0_A_1
  rw [View.read_writes_junk_eq_canon]
  unfold kernelRun0_A
  dsimp only
  sl_unfold_words
  simp (disch := decide) only [View.readCov, View.read_writes_junk_eq_canon, View.readAt_eq_ld, Memref.IsWhole.read_unread, View.ld_unit_lit', View.canon_cons_unit_lit']

theorem kept_B1 {h0} : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 h0 d a b x y v w s s' u u' g h
    = k0_pay5 (k0_pay16 d a) := by
  unfold sout0_B_1
  rw [View.read_writes_junk_eq_canon]
  unfold kernelRun0_B
  dsimp only
  sl_unfold_words
  simp (disch := decide) only [View.readCov, View.read_writes_junk_eq_canon, View.readAt_eq_ld, Memref.IsWhole.read_unread, View.ld_unit_lit', View.canon_cons_unit_lit']

end

/-! The blocks one after the other. -/

/-- The gradient in the gate's convolution, of a block. -/
def DA (t : Fin cfg0.N) : FVec Ideal S688x1408 .f32 := k0_pay15 (iblk m c 0 t) (iblk m c 1 t) (iblk m c 2 t)

/-- The gradient in the other convolution, of a block. -/
def DB (t : Fin cfg0.N) : FVec Ideal S688x1408 .f32 := k0_pay16 (iblk m c 0 t) (iblk m c 1 t)

/-- The rows kept after a block. -/
theorem kept (t : Fin cfg0.N) : (outsAt0 m c t.val t.isLt).2.2.2.2.2.1 = k0_pay5 (DA m c t) ∧ (outsAt0 m c t.val t.isLt).2.2.2.2.2.2 = k0_pay5 (DB m c t) := by
  by_cases h : t.val % 12 = 0
  · rw [outsAt0_A m c t h]
    dsimp only
    exact ⟨kept_A0 c, kept_A1 c⟩
  · rw [outsAt0_B m c t h]
    dsimp only
    exact ⟨kept_B0 c, kept_B1 c⟩

/-- The block before. -/
def prev (t : Fin cfg0.N) : Fin cfg0.N := ⟨t.val - 1, Nat.lt_of_le_of_lt (Nat.sub_le _ _) t.isLt⟩

/-- The rows kept before a block. -/
def held (D : Fin cfg0.N → FVec Ideal S688x1408 .f32) (t : Fin cfg0.N) : Vec Ideal S16x1408 .f32 := if t.val % 12 = 0 then k0_pay6 (F := Ideal) else k0_pay5 (D (prev t))

theorem slabs (t : Fin cfg0.N) (k : Fin 2) (r : Fin 688) (j : Fin 1408) : (outsAt0 m c t.val t.isLt).1 (ix3 k r j)
    = if k.val = 0 then k0_pay31 (F := Ideal) (DA m c t) (held (DA m c) t) (row 2 (iblk m c 5 t)) (row 1 (iblk m c 5 t)) (row 0 (iblk m c 5 t)) (ix3 0 r j)
      else k0_pay31 (F := Ideal) (DB m c t) (held (DB m c) t) (row 2 (iblk m c 6 t)) (row 1 (iblk m c 6 t)) (row 0 (iblk m c 6 t)) (ix3 0 r j) := by
  by_cases h : t.val % 12 = 0
  · rw [held, held, if_pos h, if_pos h, outsAt0_A m c t h]
    dsimp only
    exact slab_A c k r j
  · rw [held, held, if_neg h, if_neg h, ← (kept m c (prev t)).1, ← (kept m c (prev t)).2, outsAt0_B m c t h]
    dsimp only
    exact slab_B c k r j

theorem first8 (t : Fin cfg0.N) (h : t.val % 12 = 0) (k : Fin 3) (j : Fin 1408) : (outsAt0 m c t.val t.isLt).2.1 (ix2 k j) = part k (DA m c t) (held (DA m c) t) (iblk m c 3 t) j := by
  rw [held, if_pos h, outsAt0_A m c t h]
  dsimp only
  exact taps_A c k j

theorem next8 (t : Fin cfg0.N) (h : ¬ t.val % 12 = 0) (k : Fin 3) (j : Fin 1408) : (outsAt0 m c t.val t.isLt).2.1 (ix2 k j)
    = (outsAt0 m c (prev t).val (prev t).isLt).2.1 (ix2 k j) + part k (DA m c t) (held (DA m c) t) (iblk m c 3 t) j := by
  rw [held, if_neg h, ← (kept m c (prev t)).1, outsAt0_B m c t h]
  dsimp only
  exact taps_B c k j

theorem first9 (t : Fin cfg0.N) (h : t.val % 12 = 0) (k : Fin 3) (j : Fin 1408) : (outsAt0 m c t.val t.isLt).2.2.1 (ix2 k j) = part k (DB m c t) (held (DB m c) t) (iblk m c 4 t) j := by
  rw [held, if_pos h, outsAt0_A m c t h]
  dsimp only
  exact taps_A' c k j

theorem next9 (t : Fin cfg0.N) (h : ¬ t.val % 12 = 0) (k : Fin 3) (j : Fin 1408) : (outsAt0 m c t.val t.isLt).2.2.1 (ix2 k j)
    = (outsAt0 m c (prev t).val (prev t).isLt).2.2.1 (ix2 k j) + part k (DB m c t) (held (DB m c) t) (iblk m c 4 t) j := by
  rw [held, if_neg h, ← (kept m c (prev t)).2, outsAt0_B m c t h]
  dsimp only
  exact taps_B' c k j

theorem first10 (t : Fin cfg0.N) (h : t.val % 12 = 0) (j : Fin 1408) : (outsAt0 m c t.val t.isLt).2.2.2.1 (ix2 0 j) = ∑ r : Fin 688, DA m c t (ix2 r j) := by
  rw [outsAt0_A m c t h]
  dsimp only
  rw [bias_A c, bias_at, zero1, zero_add]
  rfl

theorem next10 (t : Fin cfg0.N) (h : ¬ t.val % 12 = 0) (j : Fin 1408) : (outsAt0 m c t.val t.isLt).2.2.2.1 (ix2 0 j)
    = (outsAt0 m c (prev t).val (prev t).isLt).2.2.2.1 (ix2 0 j) + ∑ r : Fin 688, DA m c t (ix2 r j) := by
  rw [outsAt0_B m c t h]
  dsimp only
  rw [bias_B c, bias_at]
  rfl

theorem first11 (t : Fin cfg0.N) (h : t.val % 12 = 0) (j : Fin 1408) : (outsAt0 m c t.val t.isLt).2.2.2.2.1 (ix2 0 j) = ∑ r : Fin 688, DB m c t (ix2 r j) := by
  rw [outsAt0_A m c t h]
  dsimp only
  rw [bias_A' c, bias_at, zero1, zero_add]
  rfl

theorem next11 (t : Fin cfg0.N) (h : ¬ t.val % 12 = 0) (j : Fin 1408) : (outsAt0 m c t.val t.isLt).2.2.2.2.1 (ix2 0 j)
    = (outsAt0 m c (prev t).val (prev t).isLt).2.2.2.2.1 (ix2 0 j) + ∑ r : Fin 688, DB m c t (ix2 r j) := by
  rw [outsAt0_B m c t h]
  dsimp only
  rw [bias_B' c, bias_at]
  rfl

/-- A quantity started at a half's first block and added to by each of its blocks holds, after its last, the sum over all rows. -/
theorem summed (s q : Fin cfg0.N → EReal) (f : Fin 8256 → EReal) (h0 : ∀ t, t.val % 12 = 0 → s t = q t) (hs : ∀ t, ¬ t.val % 12 = 0 → s t = s (prev t) + q t) (t : Fin cfg0.N)
    (ht : t.val % 12 = 11) (hq : ∀ t' : Fin cfg0.N, t'.val / 12 = t.val / 12 → q t' = ∑ r : Fin 688, f ⟨(11 - t'.val % 12) * 688 + r.val, by omega⟩) : s t = ∑ k, f k := by
  have hN : cfg0.N = 24 := N_0
  have hl := lt24 t
  have hlt : ∀ n, n < 12 → t.val / 12 * 12 + n < cfg0.N := fun n hn => by omega
  have e := Conv.reversed f (fun n => q ⟨t.val / 12 * 12 + n.val, hlt n.val n.isLt⟩) (fun n hn => s ⟨t.val / 12 * 12 + n, hlt n hn⟩)
    (fun n => (hq _ (by simp only; omega)).trans (sum_congr rfl fun r _ => congrArg f (Fin.ext (by simp only; omega)))) (fun h => h0 _ (by simp only; omega))
    (fun n h => (hs _ (by simp only; omega)).trans (congrArg (fun a => s a + _) (Fin.ext (by simp only [prev]; omega))))
  rw [← e]
  exact congrArg s (Fin.ext (by simp only; omega))

/-- A family of blocks holds a column's entries. -/
def Reads (D : Fin cfg0.N → FVec Ideal S688x1408 .f32) (f : Fin 2816 → Fin 8256 → EReal) : Prop :=
  ∀ (t : Fin cfg0.N) (r : Fin 688) (j : Fin 1408) (p : Fin 8256) (J : Fin 2816), p.val = (11 - t.val % 12) * 688 + r.val → J.val = t.val / 12 * 1408 + j.val → D t (ix2 r j) = f J p

variable {m c}

theorem ahead_later {D : Fin cfg0.N → FVec Ideal S688x1408 .f32} {f : Fin 2816 → Fin 8256 → EReal} (hD : Reads D f) (k : ℕ) (hk : k ≤ 16) (t : Fin cfg0.N) (r : Fin 688) (j : Fin 1408) (p : Fin 8256)
    (J : Fin 2816) (hp : p.val = (11 - t.val % 12) * 688 + r.val) (hJ : J.val = t.val / 12 * 1408 + j.val) :
    Conv.ahead k (fun s => D t (ix2 s j)) (fun s => held D t (ix2 s j)) r = Conv.later k (f J) p := by
  have ht := lt24 t
  refine Conv.ahead_eq k hk _ (11 - t.val % 12) (by omega) _ _ r p hp (fun s q hq => hD t s j q J hq hJ) (fun h s => ?_) fun h s q hq => ?_
  · rw [held, if_pos (by omega), zero16]
  · rw [held, if_neg (by omega), front_at]
    exact hD (prev t) _ j q J (by simp only [prev]; omega) (by simp only [prev]; omega)

/-- A block's part of a weight's gradient, over a column's rows. -/
theorem part_eq {D : Fin cfg0.N → FVec Ideal S688x1408 .f32} {f : Fin 2816 → Fin 8256 → EReal} (hD : Reads D f) (x : Fin 8256 → EReal) (X : Vec Ideal S688x1408 .bf16) (k : Fin 3) (t : Fin cfg0.N) (j : Fin 1408)
    (J : Fin 2816) (hJ : J.val = t.val / 12 * 1408 + j.val) (hX : ∀ (r : Fin 688) (p : Fin 8256), p.val = (11 - t.val % 12) * 688 + r.val → X (ix2 r j) = x p) :
    part k (D t) (held D t) X j = ∑ r : Fin 688, (fun p => x p * Conv.later (2 - k.val) (f J) p) ⟨(11 - t.val % 12) * 688 + r.val, by omega⟩ :=
  sum_congr rfl fun r _ => congrArg₂ (fun a b : EReal => a * b) (hX r _ rfl) ((shifted_at k _ _ r j).trans (ahead_later hD _ (by omega) t r j _ J rfl hJ))

variable (m c)

theorem in_rows0 (t : Fin cfg0.N) (r : Fin 688) (j : Fin 1408) (p : Fin 8256) (J : Fin 2816) (hp : p.val = (11 - t.val % 12) * 688 + r.val) (hJ : J.val = t.val / 12 * 1408 + j.val) :
    iblk m c 0 t (ix2 r j) = V m c main_arg0 (ix2 p J) := by
  blk_point [iblk, idx t, hp, hJ]

theorem in_rows1 (t : Fin cfg0.N) (r : Fin 688) (j : Fin 1408) (p : Fin 8256) (J : Fin 2816) (hp : p.val = (11 - t.val % 12) * 688 + r.val) (hJ : J.val = t.val / 12 * 1408 + j.val) :
    iblk m c 1 t (ix2 r j) = V m c main_arg1 (ix2 p J) := by
  blk_point [iblk, idx t, hp, hJ]

theorem in_rows2 (t : Fin cfg0.N) (r : Fin 688) (j : Fin 1408) (p : Fin 8256) (J : Fin 2816) (hp : p.val = (11 - t.val % 12) * 688 + r.val) (hJ : J.val = t.val / 12 * 1408 + j.val) :
    iblk m c 2 t (ix2 r j) = V m c main_arg2 (ix2 p J) := by
  blk_point [iblk, idx t, hp, hJ]

theorem in_rows3 (t : Fin cfg0.N) (r : Fin 688) (j : Fin 1408) (p : Fin 8256) (J : Fin 2816) (hp : p.val = (11 - t.val % 12) * 688 + r.val) (hJ : J.val = t.val / 12 * 1408 + j.val) :
    iblk m c 3 t (ix2 r j) = V m c main_arg3 (ix2 p (Conv.left J)) := by
  blk_point [iblk, idx t, hp, hJ, Conv.left]

theorem in_rows4 (t : Fin cfg0.N) (r : Fin 688) (j : Fin 1408) (p : Fin 8256) (J : Fin 2816) (hp : p.val = (11 - t.val % 12) * 688 + r.val) (hJ : J.val = t.val / 12 * 1408 + j.val) :
    iblk m c 4 t (ix2 r j) = V m c main_arg3 (ix2 p (Conv.right J)) := by
  blk_point [iblk, idx t, hp, hJ, Conv.right]

theorem in_left (k : Fin 3) (t : Fin cfg0.N) (j : Fin 1408) (J : Fin 2816) (hJ : J.val = t.val / 12 * 1408 + j.val) : iblk m c 5 t (ix2 k j) = V m c main_arg4 (ix2 k (Conv.left J)) := by
  blk_point [iblk, idx t, hJ, Conv.left]

theorem in_right (k : Fin 3) (t : Fin cfg0.N) (j : Fin 1408) (J : Fin 2816) (hJ : J.val = t.val / 12 * 1408 + j.val) : iblk m c 6 t (ix2 k j) = V m c main_arg4 (ix2 k (Conv.right J)) := by
  blk_point [iblk, idx t, hJ, Conv.right]

theorem readsA : Reads (DA m c) (colA (V m c main_arg0) (V m c main_arg1) (V m c main_arg2)) := fun t r j p J hp hJ => by
  rw [DA, gate_at, in_rows0 m c t r j p J hp hJ, in_rows1 m c t r j p J hp hJ, in_rows2 m c t r j p J hp hJ]
  rfl

theorem readsB : Reads (DB m c) (colB (V m c main_arg0) (V m c main_arg1)) := fun t r j p J hp hJ => by
  rw [DB, other_at, in_rows0 m c t r j p J hp hJ, in_rows1 m c t r j p J hp hJ]
  rfl

theorem slab_first (t : Fin cfg0.N) (r : Fin 688) (j : Fin 1408) (p : Fin 8256) (J : Fin 2816) (hp : p.val = (11 - t.val % 12) * 688 + r.val) (hJ : J.val = t.val / 12 * 1408 + j.val) :
    k0_pay31 (F := Ideal) (DA m c t) (held (DA m c) t) (row 2 (iblk m c 5 t)) (row 1 (iblk m c 5 t)) (row 0 (iblk m c 5 t)) (ix3 0 r j)
      = back Conv.left (colA (V m c main_arg0) (V m c main_arg1) (V m c main_arg2)) (V m c main_arg4) p J := by
  rw [slab_at, ahead_later (readsA m c) 1 (by decide) t r j p J hp hJ, ahead_later (readsA m c) 2 (by decide) t r j p J hp hJ, readsA m c t r j p J hp hJ]
  exact congrArg₂ (fun a b : EReal => a + b) (congrArg₂ (fun a b : EReal => a + b) (congrArg (fun a : EReal => a * _) (in_left m c 2 t j J hJ)) (congrArg (fun a : EReal => a * _) (in_left m c 1 t j J hJ)))
    (congrArg (fun a : EReal => a * _) (in_left m c 0 t j J hJ))

theorem slab_second (t : Fin cfg0.N) (r : Fin 688) (j : Fin 1408) (p : Fin 8256) (J : Fin 2816) (hp : p.val = (11 - t.val % 12) * 688 + r.val) (hJ : J.val = t.val / 12 * 1408 + j.val) :
    k0_pay31 (F := Ideal) (DB m c t) (held (DB m c) t) (row 2 (iblk m c 6 t)) (row 1 (iblk m c 6 t)) (row 0 (iblk m c 6 t)) (ix3 0 r j)
      = back Conv.right (colB (V m c main_arg0) (V m c main_arg1)) (V m c main_arg4) p J := by
  rw [slab_at, ahead_later (readsB m c) 1 (by decide) t r j p J hp hJ, ahead_later (readsB m c) 2 (by decide) t r j p J hp hJ, readsB m c t r j p J hp hJ]
  exact congrArg₂ (fun a b : EReal => a + b) (congrArg₂ (fun a b : EReal => a + b) (congrArg (fun a : EReal => a * _) (in_right m c 2 t j J hJ)) (congrArg (fun a : EReal => a * _) (in_right m c 1 t j J hJ)))
    (congrArg (fun a : EReal => a * _) (in_right m c 0 t j J hJ))

/-- What is held in the block of a half is of that half's columns. -/
theorem same_half {t t' : Fin cfg0.N} (h : t'.val / 12 = t.val / 12) {j : Fin 1408} {J : Fin 2816} (hJ : J.val = t.val / 12 * 1408 + j.val) : J.val = t'.val / 12 * 1408 + j.val := h ▸ hJ

theorem whole8 (t : Fin cfg0.N) (ht : t.val % 12 = 11) (k : Fin 3) (j : Fin 1408) (J : Fin 2816) (hJ : J.val = t.val / 12 * 1408 + j.val) :
    (outsAt0 m c t.val t.isLt).2.1 (ix2 k j) = weight Conv.left (colA (V m c main_arg0) (V m c main_arg1) (V m c main_arg2)) (V m c main_arg3) k J :=
  summed (fun t => (outsAt0 m c t.val t.isLt).2.1 (ix2 k j)) (fun t => part k (DA m c t) (held (DA m c) t) (iblk m c 3 t) j) _ (fun t h => first8 m c t h k j) (fun t h => next8 m c t h k j) t ht
    fun t' h => part_eq (readsA m c) (fun p => V m c main_arg3 (ix2 p (Conv.left J))) _ k t' j J (same_half h hJ) fun r p hp => in_rows3 m c t' r j p J hp (same_half h hJ)

theorem whole9 (t : Fin cfg0.N) (ht : t.val % 12 = 11) (k : Fin 3) (j : Fin 1408) (J : Fin 2816) (hJ : J.val = t.val / 12 * 1408 + j.val) :
    (outsAt0 m c t.val t.isLt).2.2.1 (ix2 k j) = weight Conv.right (colB (V m c main_arg0) (V m c main_arg1)) (V m c main_arg3) k J :=
  summed (fun t => (outsAt0 m c t.val t.isLt).2.2.1 (ix2 k j)) (fun t => part k (DB m c t) (held (DB m c) t) (iblk m c 4 t) j) _ (fun t h => first9 m c t h k j) (fun t h => next9 m c t h k j) t ht
    fun t' h => part_eq (readsB m c) (fun p => V m c main_arg3 (ix2 p (Conv.right J))) _ k t' j J (same_half h hJ) fun r p hp => in_rows4 m c t' r j p J hp (same_half h hJ)

theorem whole10 (t : Fin cfg0.N) (ht : t.val % 12 = 11) (z : Fin 1) (j : Fin 1408) (J : Fin 2816) (hJ : J.val = t.val / 12 * 1408 + j.val) :
    (outsAt0 m c t.val t.isLt).2.2.2.1 (ix2 z j) = ∑ p : Fin 8256, colA (V m c main_arg0) (V m c main_arg1) (V m c main_arg2) J p := by
  obtain rfl : z = 0 := Subsingleton.elim _ _
  exact summed (fun t => (outsAt0 m c t.val t.isLt).2.2.2.1 (ix2 0 j)) (fun t => ∑ r : Fin 688, DA m c t (ix2 r j)) _ (fun t h => first10 m c t h j) (fun t h => next10 m c t h j) t ht
    fun t' h => sum_congr rfl fun r _ => readsA m c t' r j _ J rfl (same_half h hJ)

theorem whole11 (t : Fin cfg0.N) (ht : t.val % 12 = 11) (z : Fin 1) (j : Fin 1408) (J : Fin 2816) (hJ : J.val = t.val / 12 * 1408 + j.val) :
    (outsAt0 m c t.val t.isLt).2.2.2.2.1 (ix2 z j) = ∑ p : Fin 8256, colB (V m c main_arg0) (V m c main_arg1) J p := by
  obtain rfl : z = 0 := Subsingleton.elim _ _
  exact summed (fun t => (outsAt0 m c t.val t.isLt).2.2.2.2.1 (ix2 0 j)) (fun t => ∑ r : Fin 688, DB m c t (ix2 r j)) _ (fun t h => first11 m c t h j) (fun t h => next11 m c t h j) t ht
    fun t' h => sum_congr rfl fun r _ => readsB m c t' r j _ J rfl (same_half h hJ)

theorem final7 : (dats m 0 c).arrAt 7 cfg0.N = W7 (V m c main_arg0) (V m c main_arg1) (V m c main_arg2) (V m c main_arg4) := by
  refine (dats m 0 c).arrAt_eq_of_covers 7 _ (by decide +kernel) (fun t hf y => ?_)
  have h0 : (((win0_7.blk t).view.emb y) 0).val = (y 0).val := by blk_simp [idx t]
  have h1 : (((win0_7.blk t).view.emb y) 1).val = (11 - t.val % 12) * 688 + (y 1).val := by blk_simp [idx t]
  have h2 : (((win0_7.blk t).view.emb y) 2).val = t.val / 12 * 1408 + (y 2).val := by blk_simp [idx t]
  rw [after0_7]
  blk_simp [idx t]
  refine (congrArg (outsAt0 m c t.val t.isLt).1 (eq_ix3 (n0 := 2) (n1 := 688) (n2 := 1408) y)).trans ((slabs m c t _ _ _).trans ?_)
  refine Eq.trans ?_ (if_congr (by rw [h0]) rfl rfl)
  exact if_congr Iff.rfl (slab_first m c t _ _ _ _ h1 h2) (slab_second m c t _ _ _ _ h1 h2)

theorem final8 : (dats m 0 c).arrAt 8 cfg0.N = W8 (V m c main_arg0) (V m c main_arg1) (V m c main_arg2) (V m c main_arg3) := by
  refine (dats m 0 c).arrAt_eq_of_covers 8 _ (by decide +kernel) (fun t hf y => ?_)
  have h0 : (y 0 : Fin 3) = ((win0_8.blk t).view.emb y) 0 := Fin.ext (by blk_simp [idx t])
  have h1 : (((win0_8.blk t).view.emb y) 1).val = t.val / 12 * 1408 + (y 1).val := by blk_simp [idx t]
  rw [after0_8]
  blk_simp [idx t]
  exact (congrArg (outsAt0 m c t.val t.isLt).2.1 (eq_ix2 (n0 := 3) (n1 := 1408) y)).trans ((whole8 m c t ((flush0_8 t).mp hf) _ _ _ h1).trans
    (congrArg (fun k : Fin 3 => weight Conv.left (colA (V m c main_arg0) (V m c main_arg1) (V m c main_arg2)) (V m c main_arg3) k _) h0))

theorem final9 : (dats m 0 c).arrAt 9 cfg0.N = W9 (V m c main_arg0) (V m c main_arg1) (V m c main_arg3) := by
  refine (dats m 0 c).arrAt_eq_of_covers 9 _ (by decide +kernel) (fun t hf y => ?_)
  have h0 : (y 0 : Fin 3) = ((win0_9.blk t).view.emb y) 0 := Fin.ext (by blk_simp [idx t])
  have h1 : (((win0_9.blk t).view.emb y) 1).val = t.val / 12 * 1408 + (y 1).val := by blk_simp [idx t]
  rw [after0_9]
  blk_simp [idx t]
  exact (congrArg (outsAt0 m c t.val t.isLt).2.2.1 (eq_ix2 (n0 := 3) (n1 := 1408) y)).trans ((whole9 m c t ((flush0_9 t).mp hf) _ _ _ h1).trans
    (congrArg (fun k : Fin 3 => weight Conv.right (colB (V m c main_arg0) (V m c main_arg1)) (V m c main_arg3) k _) h0))

theorem final10 : (dats m 0 c).arrAt 10 cfg0.N = W10 (V m c main_arg0) (V m c main_arg1) (V m c main_arg2) := by
  refine (dats m 0 c).arrAt_eq_of_covers 10 _ (by decide +kernel) (fun t hf y => ?_)
  have h1 : (((win0_10.blk t).view.emb y) 1).val = t.val / 12 * 1408 + (y 1).val := by blk_simp [idx t]
  rw [after0_10]
  blk_simp [idx t]
  exact (congrArg (outsAt0 m c t.val t.isLt).2.2.2.1 (eq_ix2 (n0 := 1) (n1 := 1408) y)).trans (whole10 m c t ((flush0_10 t).mp hf) _ _ _ h1)

theorem final11 : (dats m 0 c).arrAt 11 cfg0.N = W11 (V m c main_arg0) (V m c main_arg1) := by
  refine (dats m 0 c).arrAt_eq_of_covers 11 _ (by decide +kernel) (fun t hf y => ?_)
  have h1 : (((win0_11.blk t).view.emb y) 1).val = t.val / 12 * 1408 + (y 1).val := by blk_simp [idx t]
  rw [after0_11]
  blk_simp [idx t]
  exact (congrArg (outsAt0 m c t.val t.isLt).2.2.2.2.1 (eq_ix2 (n0 := 1) (n1 := 1408) y)).trans (whole11 m c t ((flush0_11 t).mp hf) _ _ _ h1)

end Cert.Blocks23
-- ==== Proof.Plain23.lean ====
module

public import proofs.«01_k».proof.Proof.Gen.Reference23Ideal.Run
public import proofs.«01_k».proof.Proof.Gen.Reference23Ideal.Read
public import Idealize.ShloMosaic.Lib.Pipeline.ValueKit
public import proofs.«01_k».proof.Proof.Grads

@[expose] public section

/-! What the plain program computes, on real incoming gradients and factors. -/

noncomputable section

namespace Cert.Plain23

open Idealize.ShloMosaic Cert.Reference23Ideal Cert.Reference23Ideal.Gen Cert.Reference23Ideal.Read Cert.Grads Finset

set_option maxRecDepth 16384

/-- An array of real numbers. -/
def Real (x : Vec Ideal S8256x2816 .bf16) : Prop := ∀ i, x i = ((x i).toReal : EReal)

theorem gate_at {x0 x1 x2} (h0 : Real x0) (h2 : Real x2) (p : Fin 8256) (j : Fin 2816) : val_main_v8 (F := Ideal) x0 x1 x2 (ix2 p j) = colA x0 x1 x2 j p := by
  pointwise [val_main_v8, val_main_call1_v0, val_main_call1_v1, val_main_call1_v2, val_main_v7, val_main_v5, val_main_v2, val_main_v3_1, val_main_v3_2, val_main_call0_v7,
    val_main_call0_v6, val_main_call0_v4, val_main_call0_v3, val_main_call0_v2, val_main_call0_v1, val_main_call0_v0, val_main_v1, val_main_call0_cst, val_main_call0_cst_0, val_main_call0_cst_1]
  unfold colA
  rw [h0 (ix2 p j), h2 (ix2 p j)]
  exact Conv.gate_rule _ _ _

theorem other_at (x0 x1) (p : Fin 8256) (j : Fin 2816) : val_main_v6 (F := Ideal) x0 x1 (ix2 p j) = colB x0 x1 j p := by
  pointwise [val_main_v6, val_main_v5, val_main_v3_0, val_main_v3_2, val_main_call0_v4, val_main_call0_v3, val_main_call0_v2, val_main_call0_v1, val_main_call0_v0, val_main_v1,
    val_main_call0_cst, val_main_call0_cst_0]
  exact (mul_comm _ _).trans (mul_assoc _ _ _).symm

theorem pad_first (x3) (q : Fin 8258) (j : Fin 2816) : val_main_v13 (F := Ideal) x3 (ix2 q j) = if h : q.val < 2 then 0 else x3 (ix2 ⟨q.val - 2, by omega⟩ (Conv.left j)) := by
  pointwise [val_main_v13, val_main_v12, val_main_cst_0, val_main_v10, val_main_v0]
  rfl

theorem pad_second (x3) (q : Fin 8258) (j : Fin 2816) : val_main_v75 (F := Ideal) x3 (ix2 q j) = if h : q.val < 2 then 0 else x3 (ix2 ⟨q.val - 2, by omega⟩ (Conv.right j)) := by
  pointwise [val_main_v75, val_main_v74, val_main_cst_15, val_main_v72, val_main_v0]
  rfl

theorem pad_ago (f : Fin 8256 → EReal) (k n : ℕ) (hn : n < 8258) (p : Fin 8256) (hk : k ≤ 2) (hq : n + k = p.val + 2) :
    (if h : n < 2 then 0 else f ⟨n - 2, by omega⟩) = Conv.ago k f p := by
  by_cases h : n < 2
  · rw [dif_pos h, Conv.ago_of_lt (by omega)]
  · rw [dif_neg h]
    exact (Conv.ago_of_le (by simp only; omega)).symm

/-- A sum over all rows against a padded column, read some rows in. -/
theorem pad_sum (f d : Fin 8256 → EReal) (k : ℕ) (hk : k ≤ 2) (n : Fin 8256 → ℕ) (hn : ∀ p, n p + k = p.val + 2) (hl : ∀ p, n p < 8258) :
    ∑ p, (if h : n p < 2 then 0 else f ⟨n p - 2, by have := hl p; omega⟩) * d p = ∑ p, f p * Conv.later k d p :=
  (sum_congr rfl fun p _ => congrArg (· * d p) (pad_ago f k (n p) (hl p) p hk (hn p))).trans (Conv.shift_sum k f d)

/-- Three rows, each padded to all three and added. -/
theorem three (k : Fin 3) (A B C : EReal) (f : ℕ → EReal) (ha : A = f 2) (hb : B = f 1) (hc : C = f 0) :
    ((if h : k.val < 1 then A else 0) + if h : 1 ≤ k.val ∧ k.val - 1 < 1 then B else 0) + (if h : 2 ≤ k.val ∧ k.val - 2 < 1 then C else 0) = f (2 - k.val) := by
  subst ha hb hc
  fin_cases k <;> simp

/-- Three columns padded to a common length and added, past its first two rows. -/
theorem slab (f : Fin 8256 → EReal) (w0 w1 w2 : EReal) (p : Fin 8256) :
    ((if h : 2 + p.val < 8256 then f ⟨2 + p.val, h⟩ * w0 else 0) + if h : 1 ≤ 2 + p.val ∧ 2 + p.val - 1 < 8256 then f ⟨2 + p.val - 1, h.2⟩ * w1 else 0) + f p * w2
      = w2 * f p + w1 * Conv.later 1 f p + w0 * Conv.later 2 f p := by
  have e2 : (if h : 2 + p.val < 8256 then f ⟨2 + p.val, h⟩ * w0 else 0) = w0 * Conv.later 2 f p := by
    by_cases h : 2 + p.val < 8256
    · rw [dif_pos h, Conv.later_of_lt (q := ⟨2 + p.val, h⟩) (by simp only; omega), mul_comm]
    · rw [dif_neg h, Conv.later_of_le (by omega), mul_zero]
  have e1 : (if h : 1 ≤ 2 + p.val ∧ 2 + p.val - 1 < 8256 then f ⟨2 + p.val - 1, h.2⟩ * w1 else 0) = w1 * Conv.later 1 f p := by
    by_cases h : 1 ≤ 2 + p.val ∧ 2 + p.val - 1 < 8256
    · rw [dif_pos h, Conv.later_of_lt (q := ⟨2 + p.val - 1, h.2⟩) (by simp only; omega), mul_comm]
    · rw [dif_neg h, Conv.later_of_le (by omega), mul_zero]
  rw [e2, e1, mul_comm (f p) w2, add_comm, add_comm (w0 * _), ← add_assoc]

theorem slab_first {x0 x1 x2} (h0 : Real x0) (h2 : Real x2) (x4) (p : Fin 8256) (j : Fin 2816) :
    val_main_v71 (F := Ideal) x0 x1 x2 x4 (ix2 p j) = back Conv.left (colA x0 x1 x2) x4 p j := by
  pointwise [val_main_v71, val_main_v69, val_main_v68, val_main_v63, val_main_v62, val_main_v58, val_main_v57, val_main_v52, val_main_v51, val_main_v47, val_main_v43, val_main_v42, val_main_v31,
    val_main_v30, val_main_v29, val_main_v24, val_main_v23, val_main_v22, val_main_v18, val_main_v17, val_main_v16, val_main_v11, val_main_cst_14, val_main_cst_10, val_main_cst_6]
  simp only [gate_at h0 h2]
  exact slab (colA x0 x1 x2 j) _ _ _ p

theorem slab_second (x0 x1 x4) (p : Fin 8256) (j : Fin 2816) :
    val_main_v133 (F := Ideal) x0 x1 x4 (ix2 p j) = back Conv.right (colB x0 x1) x4 p j := by
  pointwise [val_main_v133, val_main_v131, val_main_v120, val_main_v109, val_main_v105, val_main_v104, val_main_v93, val_main_v92, val_main_v91, val_main_v73, val_main_cst_21, val_main_v119, val_main_v114, val_main_v113, val_main_v86, val_main_v85, val_main_v84, val_main_cst_25, val_main_v130, val_main_v125, val_main_v124, val_main_v80, val_main_v79, val_main_v78, val_main_cst_29]
  simp only [other_at]
  exact slab (colB x0 x1 j) _ _ _ p

theorem bias_first {x0 x1 x2} (h0 : Real x0) (h2 : Real x2) (z : Fin 1) (j : Fin 2816) : val_main_v38 (F := Ideal) x0 x1 x2 (ix2 z j) = ∑ p : Fin 8256, colA x0 x1 x2 j p := by
  pointwise [val_main_v38, val_main_v37, val_main_cst_2]
  simp only [gate_at h0 h2]

theorem bias_second (x0 x1) (z : Fin 1) (j : Fin 2816) : val_main_v100 (F := Ideal) x0 x1 (ix2 z j) = ∑ p : Fin 8256, colB x0 x1 j p := by
  pointwise [val_main_v100, val_main_v99, val_main_cst_17]
  simp only [other_at]

theorem weight_first {x0 x1 x2} (h0 : Real x0) (h2 : Real x2) (x3) (k : Fin 3) (j : Fin 2816) :
    val_main_v67 (F := Ideal) x0 x1 x2 x3 (ix2 k j) = weight Conv.left (colA x0 x1 x2) x3 k j := by
  pointwise [val_main_v67, val_main_v66, val_main_v65, val_main_v64, val_main_v61, val_main_v60, val_main_v59, val_main_v56, val_main_v55, val_main_v54, val_main_v53, val_main_v50, val_main_v49,
    val_main_v48, val_main_v46, val_main_v45, val_main_v44, val_main_v41, val_main_v40, val_main_v39, val_main_v28, val_main_v21, val_main_v15, val_main_cst_13, val_main_cst_12, val_main_cst_11,
    val_main_cst_9, val_main_cst_8, val_main_cst_7, val_main_cst_5, val_main_cst_4, val_main_cst_3]
  simp only [gate_at h0 h2, pad_first, univ_unique, sum_singleton]
  exact three k _ _ _ (fun n => ∑ p : Fin 8256, x3 (ix2 p (Conv.left j)) * Conv.later n (colA x0 x1 x2 j) p)
    (pad_sum (fun p => x3 (ix2 p (Conv.left j))) (colA x0 x1 x2 j) 2 (by omega) (fun p => p.val) (fun _ => rfl) (fun p => by omega))
    (pad_sum (fun p => x3 (ix2 p (Conv.left j))) (colA x0 x1 x2 j) 1 (by omega) (fun p => 1 + p.val) (fun _ => by omega) (fun p => by omega))
    (pad_sum (fun p => x3 (ix2 p (Conv.left j))) (colA x0 x1 x2 j) 0 (by omega) (fun p => 2 + p.val) (fun _ => by omega) (fun p => by omega))

theorem weight_second (x0 x1 x3) (k : Fin 3) (j : Fin 2816) :
    val_main_v129 (F := Ideal) x0 x1 x3 (ix2 k j) = weight Conv.right (colB x0 x1) x3 k j := by
  pointwise [val_main_v129, val_main_v118, val_main_v108, val_main_v107, val_main_v106, val_main_v103, val_main_v102, val_main_v101, val_main_v90, val_main_cst_18, val_main_cst_19, val_main_cst_20, val_main_v117, val_main_v116, val_main_v115, val_main_v112, val_main_v111, val_main_v110, val_main_v83, val_main_cst_22, val_main_cst_23, val_main_cst_24, val_main_v128, val_main_v127, val_main_v126, val_main_v123, val_main_v122, val_main_v121, val_main_v77, val_main_cst_26, val_main_cst_27, val_main_cst_28]
  simp only [other_at, pad_second, univ_unique, sum_singleton]
  exact three k _ _ _ (fun n => ∑ p : Fin 8256, x3 (ix2 p (Conv.right j)) * Conv.later n (colB x0 x1 j) p)
    (pad_sum (fun p => x3 (ix2 p (Conv.right j))) (colB x0 x1 j) 2 (by omega) (fun p => p.val) (fun _ => rfl) (fun p => by omega))
    (pad_sum (fun p => x3 (ix2 p (Conv.right j))) (colB x0 x1 j) 1 (by omega) (fun p => 1 + p.val) (fun _ => by omega) (fun p => by omega))
    (pad_sum (fun p => x3 (ix2 p (Conv.right j))) (colB x0 x1 j) 0 (by omega) (fun p => 2 + p.val) (fun _ => by omega) (fun p => by omega))

theorem stack {x0 x1 x2} (h0 : Real x0) (h2 : Real x2) (x4) (h : Fin 2) (p : Fin 8256) (j : Fin 2816) :
    val_main_v137 (F := Ideal) x0 x1 x2 x4 (ix3 h p j) = W7 x0 x1 x2 x4 (ix3 h p j) := by
  pointwise [val_main_v137, val_main_v136, val_main_v135, val_main_v134]
  by_cases hh : h.val = 0
  · rw [dif_pos (by omega), slab_first h0 h2]
    exact (if_pos hh).symm
  · rw [dif_neg (by omega), slab_second]
    exact (if_neg hh).symm

end Cert.Plain23
-- ==== Proof.Prod23.lean ====
module

public import proofs.«01_k».proof.Defs
public import proofs.«01_k».proof.Proof.Agree
public import proofs.«01_k».proof.Proof.Pre
public import proofs.«01_k».proof.Proof.Blocks23
public import proofs.«01_k».proof.Proof.Plain23
public import Idealize.ShloMosaic.Lib.Claim

@[expose] public section

/-! The gradients of the convolution and the gated activation: the call against the plain program. -/

noncomputable section

namespace Cert.Prod23

open Idealize.ShloMosaic Idealize.ShloMosaic.TcCoe Cert.Kernel23Ideal Cert.Kernel23Ideal.Gen Cert.Blocks23 Cert.Grads Finset

set_option maxRecDepth 16384

/-- The side conditions of the precondition: a cast to a wider type and a number broadcast. -/
theorem facts : Cert.Pre_finite_conv.Facts where
  bitsLt_bf16_f32 := by decide
  bcast_S_S8256x2816 := by decide

theorem frame : Cert.quiescent_Reference23Ideal := fun m g _ =>
  (θ_run Cert.Reference23Ideal.defs _ _).mono (fun r h => ⟨fun c => (h c).2.2.2.2.2, sem_eq_zero_of_no_sems (by decide) r.2⟩)
    (Cert.Reference23Ideal.Value.run (F := Ideal) m g)

/-- Over the extended reals, where the incoming gradient and the other factor are finite: the gradients of both halves' operands, weights and biases. -/
theorem same [hf : Cert.Pre_finite_conv.Facts] : Cert.algebraic_Kernel23Ideal_Reference23Ideal_pre_finite_conv := by
  intro m g m' g' hpre hagree
  refine ⟨fun c => (dats m 0 c).arrAt 7 cfg0.N, fun c => (dats m 0 c).arrAt 8 cfg0.N, fun c => (dats m 0 c).arrAt 9 cfg0.N, fun c => (dats m 0 c).arrAt 10 cfg0.N,
    fun c => (dats m 0 c).arrAt 11 cfg0.N, Cert.Kernel23Ideal.Value.run_blocks (F := Ideal) m g,
    (θ_run Cert.Reference23Ideal.defs _ _).mono (fun r h c => ?_) (Cert.Reference23Ideal.Value.run (F := Ideal) m' g')⟩
  obtain ⟨h7, h8, h9, h10, h11, hargs⟩ := h c
  obtain ⟨a0, a1, a2, a3, a4⟩ := hagree c
  obtain ⟨p0, p2⟩ := hpre c
  have r0 : Plain23.Real (V m c main_arg0) := fun i => Gla.real_of _ _ i p0
  have r2 : Plain23.Real (V m c main_arg2) := fun i => Gla.real_of _ _ i p2
  refine ⟨h7.trans ?_, h8.trans ?_, h9.trans ?_, h10.trans ?_, h11.trans ?_, hargs⟩
  · refine (Cert.Reference23Ideal.Read.val_main_v137_eq (F := Ideal) _).trans
      ((Agree.four (Cert.Reference23Ideal.Read.val_main_v137 (F := Ideal)) a0 a1 a2 a4).trans (Eq.trans (funext fun i => ?_) (final7 m c).symm))
    exact (congrArg _ (eq_ix3 (n0 := 2) (n1 := 8256) (n2 := 2816) i)).trans (Plain23.stack r0 r2 _ _ _ _)
  · refine (Cert.Reference23Ideal.Read.val_main_v67_eq (F := Ideal) _).trans
      ((Agree.four (Cert.Reference23Ideal.Read.val_main_v67 (F := Ideal)) a0 a1 a2 a3).trans (Eq.trans (funext fun i => ?_) (final8 m c).symm))
    exact (congrArg _ (eq_ix2 (n0 := 3) (n1 := 2816) i)).trans (Plain23.weight_first r0 r2 _ _ _)
  · refine (Cert.Reference23Ideal.Read.val_main_v129_eq (F := Ideal) _).trans
      ((Agree.three (Cert.Reference23Ideal.Read.val_main_v129 (F := Ideal)) a0 a1 a3).trans (Eq.trans (funext fun i => ?_) (final9 m c).symm))
    exact (congrArg _ (eq_ix2 (n0 := 3) (n1 := 2816) i)).trans (Plain23.weight_second _ _ _ _ _)
  · refine (Cert.Reference23Ideal.Read.val_main_v38_eq (F := Ideal) _).trans
      ((Agree.three (Cert.Reference23Ideal.Read.val_main_v38 (F := Ideal)) a0 a1 a2).trans (Eq.trans (funext fun i => ?_) (final10 m c).symm))
    exact (congrArg _ (eq_ix2 (n0 := 1) (n1 := 2816) i)).trans (Plain23.bias_first r0 r2 _ _)
  · refine (Cert.Reference23Ideal.Read.val_main_v100_eq (F := Ideal) _).trans
      ((Agree.two (Cert.Reference23Ideal.Read.val_main_v100 (F := Ideal)) a0 a1).trans (Eq.trans (funext fun i => ?_) (final11 m c).symm))
    exact (congrArg _ (eq_ix2 (n0 := 1) (n1 := 2816) i)).trans (Plain23.bias_second _ _ _ _)

end Cert.Prod23
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Final
public import proofs.«01_k».proof.Proof.Pre
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Prod20
public import proofs.«01_k».proof.Proof.Prod21
public import proofs.«01_k».proof.Proof.Prod22
public import proofs.«01_k».proof.Proof.Prod23

@[expose] public section

namespace Cert.Proof

open Idealize.ShloMosaic Idealize.SL.Sem

/-- The side conditions of the precondition: a number broadcast to each argument's shape. -/
theorem facts_finite : Cert.Pre_finite.Facts where
  bcast_S_S8208x512 := by decide
  bcast_S_S8208x1024 := by decide
  bcast_S_S8208x16 := by decide
  bcast_S_S16x512 := by decide
  bcast_S_S512 := by decide

/-- The plain program terminates with its arguments unchanged and every counter at zero: it has no semaphore. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

/-- A function of seven arguments at equal arguments. -/
theorem congr7 {A0 A1 A2 A3 A4 A5 A6 B : Type _} (f : A0 → A1 → A2 → A3 → A4 → A5 → A6 → B) {a0 b0 : A0} {a1 b1 : A1}
    {a2 b2 : A2} {a3 b3 : A3} {a4 b4 : A4} {a5 b5 : A5} {a6 b6 : A6} (h0 : a0 = b0) (h1 : a1 = b1) (h2 : a2 = b2)
    (h3 : a3 = b3) (h4 : a4 = b4) (h5 : a5 = b5) (h6 : a6 = b6) : f a0 a1 a2 a3 a4 a5 a6 = f b0 b1 b2 b3 b4 b5 b6 := by
  subst h0 h1 h2 h3 h4 h5 h6; rfl

set_option maxHeartbeats 2000000 in
/-- Over the extended reals, on finite arguments, the backward call leaves what the gradient of the plain program is:
    the packed gradients of q, k and v, and the gradients of the gate's input, weight and bias. -/
theorem same_gradients [hf : Cert.Pre_finite.Facts] : Cert.algebraic_KernelIdeal_ReferenceIdeal_pre_finite := by
  intro m g m' g' hpre hagree
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks (F := Ideal) m g,
    (θ_run Cert.ReferenceIdeal.defs _ _).mono (fun r h c => ?_) (Cert.ReferenceIdeal.Value.run (F := Ideal) m' g')⟩
  obtain ⟨h0, h1, h2, h3, hargs⟩ := h c
  obtain ⟨e0, e1, e2, e3, e4, e5, e6⟩ := hagree c
  have A := Cert.Gla.fin7 m hpre c
  refine ⟨h0.trans ?_, h1.trans ?_, h2.trans ?_, h3.trans ?_, hargs⟩
  · exact (Cert.ReferenceIdeal.Read.val_main_v82_eq (F := Ideal) m' c).trans ((congr7 (Cert.ReferenceIdeal.Read.val_main_v82 (F := Ideal)) e0 e1 e2 e3 e4 e5 e6).trans (Cert.Gla.eq82 A).symm)
  · exact (Cert.ReferenceIdeal.Read.val_main_v84_eq (F := Ideal) m' c).trans ((congr7 (Cert.ReferenceIdeal.Read.val_main_v84 (F := Ideal)) e0 e1 e2 e3 e4 e5 e6).trans (Cert.Gla.eq84 A).symm)
  · exact (Cert.ReferenceIdeal.Read.val_main_v85_eq (F := Ideal) m' c).trans ((congr7 (Cert.ReferenceIdeal.Read.val_main_v85 (F := Ideal)) e0 e1 e2 e3 e4 e5 e6).trans (Cert.Gla.eq85 A).symm)
  · exact (Cert.ReferenceIdeal.Read.val_main_v86_eq (F := Ideal) m' c).trans ((congr7 (Cert.ReferenceIdeal.Read.val_main_v86 (F := Ideal)) e0 e1 e2 e3 e4 e5 e6).trans (Cert.Gla.eq86 A).symm)

/-- A function of two arguments at equal arguments. -/
theorem congr2 {A0 A1 B : Type _} (f : A0 → A1 → B) {a0 b0 : A0} {a1 b1 : A1} (h0 : a0 = b0) (h1 : a1 = b1) : f a0 a1 = f b0 b1 := by
  subst h0 h1; rfl

set_option maxRecDepth 16384 in
theorem frame2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

set_option maxRecDepth 16384 in
/-- Over the extended reals, on any arguments: the gradient of the input projections' operand. -/
theorem same2 : Cert.algebraic_Kernel2Ideal_Reference2Ideal := fun m g m' g' _ hagree =>
  ⟨fun c => (Cert.Kernel2Ideal.Gen.dats m 0 c).arrAt 2 Cert.Kernel2Ideal.cfg0.N, Cert.Kernel2Ideal.Value.run_blocks (F := Ideal) m g,
    (θ_run Cert.Reference2Ideal.defs _ _).mono (fun r h c => ⟨(h c).1.trans ((Cert.Reference2Ideal.Read.val_main_v5_eq (F := Ideal) _ _).trans
      ((congr2 (Cert.Reference2Ideal.Read.val_main_v5 (F := Ideal)) (hagree c).1 (hagree c).2).trans ((funext (Cert.Prod2.ref _ _)).trans (Cert.Prod2.final m c).symm))), (h c).2⟩)
      (Cert.Reference2Ideal.Value.run (F := Ideal) m' g')⟩

set_option maxRecDepth 16384 in
theorem frame3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

set_option maxRecDepth 16384 in
/-- Over the extended reals, on any arguments: the gradient of the input projections' weight. -/
theorem same3 : Cert.algebraic_Kernel3Ideal_Reference3Ideal := fun m g m' g' _ hagree =>
  ⟨fun c => (Cert.Kernel3Ideal.Gen.dats m 0 c).arrAt 2 Cert.Kernel3Ideal.cfg0.N, Cert.Kernel3Ideal.Value.run_blocks (F := Ideal) m g,
    (θ_run Cert.Reference3Ideal.defs _ _).mono (fun r h c => ⟨(h c).1.trans ((Cert.Reference3Ideal.Read.val_main_v8_eq (F := Ideal) _ _).trans
      ((congr2 (Cert.Reference3Ideal.Read.val_main_v8 (F := Ideal)) (hagree c).1 (hagree c).2).trans ((funext (Cert.Prod3.ref _ _)).trans (Cert.Prod3.final m c).symm))), (h c).2⟩)
      (Cert.Reference3Ideal.Value.run (F := Ideal) m' g')⟩

set_option maxRecDepth 16384 in
theorem frame4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

set_option maxRecDepth 16384 in
/-- Over the extended reals, on any arguments: the gradient of the up projection's operand. -/
theorem same4 : Cert.algebraic_Kernel4Ideal_Reference4Ideal := fun m g m' g' _ hagree =>
  ⟨fun c => (Cert.Kernel4Ideal.Gen.dats m 0 c).arrAt 2 Cert.Kernel4Ideal.cfg0.N, Cert.Kernel4Ideal.Value.run_blocks (F := Ideal) m g,
    (θ_run Cert.Reference4Ideal.defs _ _).mono (fun r h c => ⟨(h c).1.trans ((Cert.Reference4Ideal.Read.val_main_v10_eq (F := Ideal) _ _).trans
      ((congr2 (Cert.Reference4Ideal.Read.val_main_v10 (F := Ideal)) (hagree c).1 (hagree c).2).trans ((funext (Cert.Prod4.ref _ _)).trans (Cert.Prod4.final m c).symm))), (h c).2⟩)
      (Cert.Reference4Ideal.Value.run (F := Ideal) m' g')⟩

set_option maxRecDepth 16384 in
theorem frame5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

set_option maxRecDepth 16384 in
/-- Over the extended reals, on any arguments: the gradient of the up projection's weight. -/
theorem same5 : Cert.algebraic_Kernel5Ideal_Reference5Ideal := fun m g m' g' _ hagree =>
  ⟨fun c => (Cert.Kernel5Ideal.Gen.dats m 0 c).arrAt 2 Cert.Kernel5Ideal.cfg0.N, Cert.Kernel5Ideal.Value.run_blocks (F := Ideal) m g,
    (θ_run Cert.Reference5Ideal.defs _ _).mono (fun r h c => ⟨(h c).1.trans ((Cert.Reference5Ideal.Read.val_main_v13_eq (F := Ideal) _ _).trans
      ((congr2 (Cert.Reference5Ideal.Read.val_main_v13 (F := Ideal)) (hagree c).1 (hagree c).2).trans ((funext (Cert.Prod5.ref _ _)).trans (Cert.Prod5.final m c).symm))), (h c).2⟩)
      (Cert.Reference5Ideal.Value.run (F := Ideal) m' g')⟩

set_option maxRecDepth 16384 in
theorem frame6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

set_option maxRecDepth 16384 in
/-- Over the extended reals, on any arguments: the gradient of the down projection's operand. -/
theorem same6 : Cert.algebraic_Kernel6Ideal_Reference6Ideal := fun m g m' g' _ hagree =>
  ⟨fun c => (Cert.Kernel6Ideal.Gen.dats m 0 c).arrAt 2 Cert.Kernel6Ideal.cfg0.N, Cert.Kernel6Ideal.Value.run_blocks (F := Ideal) m g,
    (θ_run Cert.Reference6Ideal.defs _ _).mono (fun r h c => ⟨(h c).1.trans ((Cert.Reference6Ideal.Read.val_main_v5_eq (F := Ideal) _ _).trans
      ((congr2 (Cert.Reference6Ideal.Read.val_main_v5 (F := Ideal)) (hagree c).1 (hagree c).2).trans ((funext (Cert.Prod6.ref _ _)).trans (Cert.Prod6.final m c).symm))), (h c).2⟩)
      (Cert.Reference6Ideal.Value.run (F := Ideal) m' g')⟩

set_option maxRecDepth 16384 in
theorem frame7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

set_option maxRecDepth 16384 in
/-- Over the extended reals, on any arguments: the gradient of the down projection's weight. -/
theorem same7 : Cert.algebraic_Kernel7Ideal_Reference7Ideal := fun m g m' g' _ hagree =>
  ⟨fun c => (Cert.Kernel7Ideal.Gen.dats m 0 c).arrAt 2 Cert.Kernel7Ideal.cfg0.N, Cert.Kernel7Ideal.Value.run_blocks (F := Ideal) m g,
    (θ_run Cert.Reference7Ideal.defs _ _).mono (fun r h c => ⟨(h c).1.trans ((Cert.Reference7Ideal.Read.val_main_v6_eq (F := Ideal) _ _).trans
      ((congr2 (Cert.Reference7Ideal.Read.val_main_v6 (F := Ideal)) (hagree c).1 (hagree c).2).trans ((funext (Cert.Prod7.ref _ _)).trans (Cert.Prod7.final m c).symm))), (h c).2⟩)
      (Cert.Reference7Ideal.Value.run (F := Ideal) m' g')⟩

set_option maxRecDepth 16384 in
theorem frame8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

set_option maxRecDepth 16384 in
/-- Over the extended reals, on any arguments: the gradient of a square product's operand. -/
theorem same8 : Cert.algebraic_Kernel8Ideal_Reference8Ideal := fun m g m' g' _ hagree =>
  ⟨fun c => (Cert.Kernel8Ideal.Gen.dats m 0 c).arrAt 2 Cert.Kernel8Ideal.cfg0.N, Cert.Kernel8Ideal.Value.run_blocks (F := Ideal) m g,
    (θ_run Cert.Reference8Ideal.defs _ _).mono (fun r h c => ⟨(h c).1.trans ((Cert.Reference8Ideal.Read.val_main_v5_eq (F := Ideal) _ _).trans
      ((congr2 (Cert.Reference8Ideal.Read.val_main_v5 (F := Ideal)) (hagree c).1 (hagree c).2).trans ((funext (Cert.Prod8.ref _ _)).trans (Cert.Prod8.final m c).symm))), (h c).2⟩)
      (Cert.Reference8Ideal.Value.run (F := Ideal) m' g')⟩

set_option maxRecDepth 16384 in
theorem frame9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

set_option maxRecDepth 16384 in
/-- Over the extended reals, on any arguments: the gradient of a square product's weight. -/
theorem same9 : Cert.algebraic_Kernel9Ideal_Reference9Ideal := fun m g m' g' _ hagree =>
  ⟨fun c => (Cert.Kernel9Ideal.Gen.dats m 0 c).arrAt 2 Cert.Kernel9Ideal.cfg0.N, Cert.Kernel9Ideal.Value.run_blocks (F := Ideal) m g,
    (θ_run Cert.Reference9Ideal.defs _ _).mono (fun r h c => ⟨(h c).1.trans ((Cert.Reference9Ideal.Read.val_main_v6_eq (F := Ideal) _ _).trans
      ((congr2 (Cert.Reference9Ideal.Read.val_main_v6 (F := Ideal)) (hagree c).1 (hagree c).2).trans ((funext (Cert.Prod9.ref _ _)).trans (Cert.Prod9.final m c).symm))), (h c).2⟩)
      (Cert.Reference9Ideal.Value.run (F := Ideal) m' g')⟩

/-- All claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    facts_finite, Cert.Prod23.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame2,
    fun m ρ _ => Cert.Kernel3.Gen.frame m ρ, fun m ρ _ => Cert.Kernel3Ideal.Gen.frame m ρ, frame3,
    fun m ρ _ => Cert.Kernel4.Gen.frame m ρ, fun m ρ _ => Cert.Kernel4Ideal.Gen.frame m ρ, frame4,
    fun m ρ _ => Cert.Kernel5.Gen.frame m ρ, fun m ρ _ => Cert.Kernel5Ideal.Gen.frame m ρ, frame5,
    fun m ρ _ => Cert.Kernel6.Gen.frame m ρ, fun m ρ _ => Cert.Kernel6Ideal.Gen.frame m ρ, frame6,
    fun m ρ _ => Cert.Kernel7.Gen.frame m ρ, fun m ρ _ => Cert.Kernel7Ideal.Gen.frame m ρ, frame7,
    fun m ρ _ => Cert.Kernel8.Gen.frame m ρ, fun m ρ _ => Cert.Kernel8Ideal.Gen.frame m ρ, frame8,
    fun m ρ _ => Cert.Kernel9.Gen.frame m ρ, fun m ρ _ => Cert.Kernel9Ideal.Gen.frame m ρ, frame9,
    fun m ρ _ => Cert.Kernel10.Gen.frame m ρ, fun m ρ _ => Cert.Kernel10Ideal.Gen.frame m ρ, Cert.Prod10.frame,
    fun m ρ _ => Cert.Kernel11.Gen.frame m ρ, fun m ρ _ => Cert.Kernel11Ideal.Gen.frame m ρ, Cert.Prod11.frame,
    fun m ρ _ => Cert.Kernel12.Gen.frame m ρ, fun m ρ _ => Cert.Kernel12Ideal.Gen.frame m ρ, Cert.Prod12.frame,
    fun m ρ _ => Cert.Kernel13.Gen.frame m ρ, fun m ρ _ => Cert.Kernel13Ideal.Gen.frame m ρ, Cert.Prod13.frame,
    fun m ρ _ => Cert.Kernel14.Gen.frame m ρ, fun m ρ _ => Cert.Kernel14Ideal.Gen.frame m ρ, Cert.Prod14.frame,
    fun m ρ _ => Cert.Kernel15.Gen.frame m ρ, fun m ρ _ => Cert.Kernel15Ideal.Gen.frame m ρ, Cert.Prod15.frame,
    fun m ρ _ => Cert.Kernel16.Gen.frame m ρ, fun m ρ _ => Cert.Kernel16Ideal.Gen.frame m ρ, Cert.Prod16.frame,
    fun m ρ _ => Cert.Kernel17.Gen.frame m ρ, fun m ρ _ => Cert.Kernel17Ideal.Gen.frame m ρ, Cert.Prod17.frame,
    fun m ρ _ => Cert.Kernel18.Gen.frame m ρ, fun m ρ _ => Cert.Kernel18Ideal.Gen.frame m ρ, Cert.Prod18.frame,
    fun m ρ _ => Cert.Kernel19.Gen.frame m ρ, fun m ρ _ => Cert.Kernel19Ideal.Gen.frame m ρ, Cert.Prod19.frame,
    fun m ρ _ => Cert.Kernel20.Gen.frame m ρ, fun m ρ _ => Cert.Kernel20Ideal.Gen.frame m ρ, Cert.Prod20.frame,
    fun m ρ _ => Cert.Kernel21.Gen.frame m ρ, fun m ρ _ => Cert.Kernel21Ideal.Gen.frame m ρ, Cert.Prod21.frame,
    fun m ρ _ => Cert.Kernel22.Gen.frame m ρ, fun m ρ _ => Cert.Kernel22Ideal.Gen.frame m ρ, Cert.Prod22.frame,
    fun m ρ _ => Cert.Kernel23.Gen.frame m ρ, fun m ρ _ => Cert.Kernel23Ideal.Gen.frame m ρ, fun m ρ _ => Cert.Kernel23Ideal.Gen.frame m ρ, Cert.Prod23.frame, fun m ρ _ => Cert.Prod23.frame m ρ trivial,
    trivial, same_gradients (hf := facts_finite), trivial, same2, trivial, same3, trivial, same4, trivial, same5, trivial, same6, trivial, same7, trivial, same8, trivial, same9,
    trivial, Cert.Prod10.same, trivial, Cert.Prod11.same, trivial, Cert.Prod12.same, trivial, Cert.Prod13.same, trivial, Cert.Prod14.same, trivial, Cert.Prod15.same, trivial, Cert.Prod16.same, trivial, Cert.Prod17.same, trivial, Cert.Prod18.same, trivial, Cert.Prod19.same, trivial, Cert.Prod20.same, trivial, Cert.Prod21.same, trivial, Cert.Prod22.same, trivial, Cert.Prod23.same (hf := Cert.Prod23.facts)⟩

end Cert.Proof

end
